-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Dwgu (m : (ℓ : Loc Cert.Dwgu.nD Cert.Dwgu.τ Cert.Dwgu.sig) → Buf (Elt Bits) ℓ) : Prop :=
  True

def Pre_DwguIdeal (m : (ℓ : Loc Cert.DwguIdeal.nD Cert.DwguIdeal.τ Cert.DwguIdeal.sig) → Buf (Elt Ideal) ℓ) : Prop :=
  True

def Pre_DwguRefIdeal (m : (ℓ : Loc Cert.DwguRefIdeal.nD Cert.DwguRefIdeal.τ Cert.DwguRefIdeal.sig) → Buf (Elt Ideal) ℓ) : Prop :=
  True

def Pre_Dwd (m : (ℓ : Loc Cert.Dwd.nD Cert.Dwd.τ Cert.Dwd.sig) → Buf (Elt Bits) ℓ) : Prop :=
  True

def Pre_DwdIdeal (m : (ℓ : Loc Cert.DwdIdeal.nD Cert.DwdIdeal.τ Cert.DwdIdeal.sig) → Buf (Elt Ideal) ℓ) : Prop :=
  True

def Pre_DwdRefIdeal (m : (ℓ : Loc Cert.DwdRefIdeal.nD Cert.DwdRefIdeal.τ Cert.DwdRefIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhRefIdeal (m : (ℓ : Loc Cert.DhRefIdeal.nD Cert.DhRefIdeal.τ Cert.DhRefIdeal.sig) → Buf (Elt Ideal) ℓ) : Prop :=
  True

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactRefIdeal (m : (ℓ : Loc Cert.DactRefIdeal.nD Cert.DactRefIdeal.τ Cert.DactRefIdeal.sig) → Buf (Elt Ideal) ℓ) : Prop :=
  True

def Pre_Dwin (m : (ℓ : Loc Cert.Dwin.nD Cert.Dwin.τ Cert.Dwin.sig) → Buf (Elt Bits) ℓ) : Prop :=
  True

def Pre_DwinIdeal (m : (ℓ : Loc Cert.DwinIdeal.nD Cert.DwinIdeal.τ Cert.DwinIdeal.sig) → Buf (Elt Ideal) ℓ) : Prop :=
  True

def Pre_DwinRefIdeal (m : (ℓ : Loc Cert.DwinRefIdeal.nD Cert.DwinRefIdeal.τ Cert.DwinRefIdeal.sig) → Buf (Elt Ideal) ℓ) : Prop :=
  True

def Pre_Dh2 (m : (ℓ : Loc Cert.Dh2.nD Cert.Dh2.τ Cert.Dh2.sig) → Buf (Elt Bits) ℓ) : Prop :=
  True

def Pre_Dh2Ideal (m : (ℓ : Loc Cert.Dh2Ideal.nD Cert.Dh2Ideal.τ Cert.Dh2Ideal.sig) → Buf (Elt Ideal) ℓ) : Prop :=
  True

def Pre_Dh2RefIdeal (m : (ℓ : Loc Cert.Dh2RefIdeal.nD Cert.Dh2RefIdeal.τ Cert.Dh2RefIdeal.sig) → Buf (Elt Ideal) ℓ) : Prop :=
  True

def Pre_Dwout (m : (ℓ : Loc Cert.Dwout.nD Cert.Dwout.τ Cert.Dwout.sig) → Buf (Elt Bits) ℓ) : Prop :=
  True

def Pre_DwoutIdeal (m : (ℓ : Loc Cert.DwoutIdeal.nD Cert.DwoutIdeal.τ Cert.DwoutIdeal.sig) → Buf (Elt Ideal) ℓ) : Prop :=
  True

def Pre_DwoutRefIdeal (m : (ℓ : Loc Cert.DwoutRefIdeal.nD Cert.DwoutRefIdeal.τ Cert.DwoutRefIdeal.sig) → Buf (Elt Ideal) ℓ) : Prop :=
  True

def Pre_Dmix (m : (ℓ : Loc Cert.Dmix.nD Cert.Dmix.τ Cert.Dmix.sig) → Buf (Elt Bits) ℓ) : Prop :=
  True

def Pre_DmixIdeal (m : (ℓ : Loc Cert.DmixIdeal.nD Cert.DmixIdeal.τ Cert.DmixIdeal.sig) → Buf (Elt Ideal) ℓ) : Prop :=
  True

def Pre_DmixRefIdeal (m : (ℓ : Loc Cert.DmixRefIdeal.nD Cert.DmixRefIdeal.τ Cert.DmixRefIdeal.sig) → Buf (Elt Ideal) ℓ) : Prop :=
  True

def Pre_Dwo (m : (ℓ : Loc Cert.Dwo.nD Cert.Dwo.τ Cert.Dwo.sig) → Buf (Elt Bits) ℓ) : Prop :=
  True

def Pre_DwoIdeal (m : (ℓ : Loc Cert.DwoIdeal.nD Cert.DwoIdeal.τ Cert.DwoIdeal.sig) → Buf (Elt Ideal) ℓ) : Prop :=
  True

def Pre_DwoRefIdeal (m : (ℓ : Loc Cert.DwoRefIdeal.nD Cert.DwoRefIdeal.τ Cert.DwoRefIdeal.sig) → Buf (Elt Ideal) ℓ) : Prop :=
  True

def Pre_Do (m : (ℓ : Loc Cert.Do.nD Cert.Do.τ Cert.Do.sig) → Buf (Elt Bits) ℓ) : Prop :=
  True

def Pre_DoIdeal (m : (ℓ : Loc Cert.DoIdeal.nD Cert.DoIdeal.τ Cert.DoIdeal.sig) → Buf (Elt Ideal) ℓ) : Prop :=
  True

def Pre_DoRefIdeal (m : (ℓ : Loc Cert.DoRefIdeal.nD Cert.DoRefIdeal.τ Cert.DoRefIdeal.sig) → Buf (Elt Ideal) ℓ) : Prop :=
  True

def Pre_Dwqkv (m : (ℓ : Loc Cert.Dwqkv.nD Cert.Dwqkv.τ Cert.Dwqkv.sig) → Buf (Elt Bits) ℓ) : Prop :=
  True

def Pre_DwqkvIdeal (m : (ℓ : Loc Cert.DwqkvIdeal.nD Cert.DwqkvIdeal.τ Cert.DwqkvIdeal.sig) → Buf (Elt Ideal) ℓ) : Prop :=
  True

def Pre_DwqkvRefIdeal (m : (ℓ : Loc Cert.DwqkvRefIdeal.nD Cert.DwqkvRefIdeal.τ Cert.DwqkvRefIdeal.sig) → Buf (Elt Ideal) ℓ) : Prop :=
  True

def Pre_Dha (m : (ℓ : Loc Cert.Dha.nD Cert.Dha.τ Cert.Dha.sig) → Buf (Elt Bits) ℓ) : Prop :=
  True

def Pre_DhaIdeal (m : (ℓ : Loc Cert.DhaIdeal.nD Cert.DhaIdeal.τ Cert.DhaIdeal.sig) → Buf (Elt Ideal) ℓ) : Prop :=
  True

def Pre_DhaRefIdeal (m : (ℓ : Loc Cert.DhaRefIdeal.nD Cert.DhaRefIdeal.τ Cert.DhaRefIdeal.sig) → Buf (Elt Ideal) ℓ) : Prop :=
  True

def Pre_Dwxo (m : (ℓ : Loc Cert.Dwxo.nD Cert.Dwxo.τ Cert.Dwxo.sig) → Buf (Elt Bits) ℓ) : Prop :=
  True

def Pre_DwxoIdeal (m : (ℓ : Loc Cert.DwxoIdeal.nD Cert.DwxoIdeal.τ Cert.DwxoIdeal.sig) → Buf (Elt Ideal) ℓ) : Prop :=
  True

def Pre_DwxoRefIdeal (m : (ℓ : Loc Cert.DwxoRefIdeal.nD Cert.DwxoRefIdeal.τ Cert.DwxoRefIdeal.sig) → Buf (Elt Ideal) ℓ) : Prop :=
  True

def Pre_Dxo (m : (ℓ : Loc Cert.Dxo.nD Cert.Dxo.τ Cert.Dxo.sig) → Buf (Elt Bits) ℓ) : Prop :=
  True

def Pre_DxoIdeal (m : (ℓ : Loc Cert.DxoIdeal.nD Cert.DxoIdeal.τ Cert.DxoIdeal.sig) → Buf (Elt Ideal) ℓ) : Prop :=
  True

def Pre_DxoRefIdeal (m : (ℓ : Loc Cert.DxoRefIdeal.nD Cert.DxoRefIdeal.τ Cert.DxoRefIdeal.sig) → Buf (Elt Ideal) ℓ) : Prop :=
  True

def Pre_Dwxq (m : (ℓ : Loc Cert.Dwxq.nD Cert.Dwxq.τ Cert.Dwxq.sig) → Buf (Elt Bits) ℓ) : Prop :=
  True

def Pre_DwxqIdeal (m : (ℓ : Loc Cert.DwxqIdeal.nD Cert.DwxqIdeal.τ Cert.DwxqIdeal.sig) → Buf (Elt Ideal) ℓ) : Prop :=
  True

def Pre_DwxqRefIdeal (m : (ℓ : Loc Cert.DwxqRefIdeal.nD Cert.DwxqRefIdeal.τ Cert.DwxqRefIdeal.sig) → Buf (Elt Ideal) ℓ) : Prop :=
  True

def Pre_Dhxq (m : (ℓ : Loc Cert.Dhxq.nD Cert.Dhxq.τ Cert.Dhxq.sig) → Buf (Elt Bits) ℓ) : Prop :=
  True

def Pre_DhxqIdeal (m : (ℓ : Loc Cert.DhxqIdeal.nD Cert.DhxqIdeal.τ Cert.DhxqIdeal.sig) → Buf (Elt Ideal) ℓ) : Prop :=
  True

def Pre_DhxqRefIdeal (m : (ℓ : Loc Cert.DhxqRefIdeal.nD Cert.DhxqRefIdeal.τ Cert.DhxqRefIdeal.sig) → Buf (Elt Ideal) ℓ) : Prop :=
  True

def Pre_Datt (m : (ℓ : Loc Cert.Datt.nD Cert.Datt.τ Cert.Datt.sig) → Buf (Elt Bits) ℓ) : Prop :=
  True

def Pre_DattIdeal (m : (ℓ : Loc Cert.DattIdeal.nD Cert.DattIdeal.τ Cert.DattIdeal.sig) → Buf (Elt Ideal) ℓ) : Prop :=
  True

def Pre_DattRefIdeal (m : (ℓ : Loc Cert.DattRefIdeal.nD Cert.DattRefIdeal.τ Cert.DattRefIdeal.sig) → Buf (Elt Ideal) ℓ) : Prop :=
  True

def Pre_Drope (m : (ℓ : Loc Cert.Drope.nD Cert.Drope.τ Cert.Drope.sig) → Buf (Elt Bits) ℓ) : Prop :=
  True

def Pre_DropeIdeal (m : (ℓ : Loc Cert.DropeIdeal.nD Cert.DropeIdeal.τ Cert.DropeIdeal.sig) → Buf (Elt Ideal) ℓ) : Prop :=
  True

def Pre_DropeRefIdeal (m : (ℓ : Loc Cert.DropeRefIdeal.nD Cert.DropeRefIdeal.τ Cert.DropeRefIdeal.sig) → Buf (Elt Ideal) ℓ) : Prop :=
  True

def Pre_Dconv (m : (ℓ : Loc Cert.Dconv.nD Cert.Dconv.τ Cert.Dconv.sig) → Buf (Elt Bits) ℓ) : Prop :=
  True

def Pre_DconvIdeal (m : (ℓ : Loc Cert.DconvIdeal.nD Cert.DconvIdeal.τ Cert.DconvIdeal.sig) → Buf (Elt Ideal) ℓ) : Prop :=
  True

def Pre_DconvRefIdeal (m : (ℓ : Loc Cert.DconvRefIdeal.nD Cert.DconvRefIdeal.τ Cert.DconvRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Xat (m : (ℓ : Loc Cert.Xat.nD Cert.Xat.τ Cert.Xat.sig) → Buf (Elt Bits) ℓ) : Prop :=
  True

def Pre_XatIdeal (m : (ℓ : Loc Cert.XatIdeal.nD Cert.XatIdeal.τ Cert.XatIdeal.sig) → Buf (Elt Ideal) ℓ) : Prop :=
  True

def Pre_XatRefIdeal (m : (ℓ : Loc Cert.XatRefIdeal.nD Cert.XatRefIdeal.τ Cert.XatRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Xq (m : (ℓ : Loc Cert.Xq.nD Cert.Xq.τ Cert.Xq.sig) → Buf (Elt Bits) ℓ) : Prop :=
  True

def Pre_XqIdeal (m : (ℓ : Loc Cert.XqIdeal.nD Cert.XqIdeal.τ Cert.XqIdeal.sig) → Buf (Elt Ideal) ℓ) : Prop :=
  True

def Pre_XqRefIdeal (m : (ℓ : Loc Cert.XqRefIdeal.nD Cert.XqRefIdeal.τ Cert.XqRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Oo (m : (ℓ : Loc Cert.Oo.nD Cert.Oo.τ Cert.Oo.sig) → Buf (Elt Bits) ℓ) : Prop :=
  True

def Pre_OoIdeal (m : (ℓ : Loc Cert.OoIdeal.nD Cert.OoIdeal.τ Cert.OoIdeal.sig) → Buf (Elt Ideal) ℓ) : Prop :=
  True

def Pre_OoRefIdeal (m : (ℓ : Loc Cert.OoRefIdeal.nD Cert.OoRefIdeal.τ Cert.OoRefIdeal.sig) → Buf (Elt Ideal) ℓ) : Prop :=
  True

def Pre_Xo (m : (ℓ : Loc Cert.Xo.nD Cert.Xo.τ Cert.Xo.sig) → Buf (Elt Bits) ℓ) : Prop :=
  True

def Pre_XoIdeal (m : (ℓ : Loc Cert.XoIdeal.nD Cert.XoIdeal.τ Cert.XoIdeal.sig) → Buf (Elt Ideal) ℓ) : Prop :=
  True

def Pre_XoRefIdeal (m : (ℓ : Loc Cert.XoRefIdeal.nD Cert.XoRefIdeal.τ Cert.XoRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Dwgu [hDwgu : Cert.Dwgu.Facts] : Prop :=
  ∀ (m : (ℓ : Loc Cert.Dwgu.nD Cert.Dwgu.τ Cert.Dwgu.sig) → Buf (Elt Bits) ℓ) (g : Dev Cert.Dwgu.nD → PrngReg), Pre_Dwgu m →
    θ_run (Cert.Dwgu.defs (F := Bits)) (onTc (τ := Cert.Dwgu.τ) (Cert.Dwgu.main (F := Bits))) ⟨m, fun _ => 0, g⟩ (fun r => (∀ c : Dev Cert.Dwgu.nD,
      r.2.mem ((c.tc : Thread Cert.Dwgu.nD Cert.Dwgu.τ).loc Cert.Dwgu.main_arg0) = m ((c.tc : Thread Cert.Dwgu.nD Cert.Dwgu.τ).loc Cert.Dwgu.main_arg0)
      ∧ r.2.mem ((c.tc : Thread Cert.Dwgu.nD Cert.Dwgu.τ).loc Cert.Dwgu.main_arg1) = m ((c.tc : Thread Cert.Dwgu.nD Cert.Dwgu.τ).loc Cert.Dwgu.main_arg1))
      ∧ r.2.sem = fun _ => 0)

def quiescent_DwguIdeal [hDwguIdeal : Cert.DwguIdeal.Facts] : Prop :=
  ∀ (m : (ℓ : Loc Cert.DwguIdeal.nD Cert.DwguIdeal.τ Cert.DwguIdeal.sig) → Buf (Elt Ideal) ℓ) (g : Dev Cert.DwguIdeal.nD → PrngReg), Pre_DwguIdeal m →
    θ_run (Cert.DwguIdeal.defs (F := Ideal)) (onTc (τ := Cert.DwguIdeal.τ) (Cert.DwguIdeal.main (F := Ideal))) ⟨m, fun _ => 0, g⟩ (fun r => (∀ c : Dev Cert.DwguIdeal.nD,
      r.2.mem ((c.tc : Thread Cert.DwguIdeal.nD Cert.DwguIdeal.τ).loc Cert.DwguIdeal.main_arg0) = m ((c.tc : Thread Cert.DwguIdeal.nD Cert.DwguIdeal.τ).loc Cert.DwguIdeal.main_arg0)
      ∧ r.2.mem ((c.tc : Thread Cert.DwguIdeal.nD Cert.DwguIdeal.τ).loc Cert.DwguIdeal.main_arg1) = m ((c.tc : Thread Cert.DwguIdeal.nD Cert.DwguIdeal.τ).loc Cert.DwguIdeal.main_arg1))
      ∧ r.2.sem = fun _ => 0)

def quiescent_DwguRefIdeal [hDwguRefIdeal : Cert.DwguRefIdeal.Facts] : Prop :=
  ∀ (m : (ℓ : Loc Cert.DwguRefIdeal.nD Cert.DwguRefIdeal.τ Cert.DwguRefIdeal.sig) → Buf (Elt Ideal) ℓ) (g : Dev Cert.DwguRefIdeal.nD → PrngReg), Pre_DwguRefIdeal m →
    θ_run (Cert.DwguRefIdeal.defs (F := Ideal)) (onTc (τ := Cert.DwguRefIdeal.τ) (Cert.DwguRefIdeal.main (F := Ideal))) ⟨m, fun _ => 0, g⟩ (fun r => (∀ c : Dev Cert.DwguRefIdeal.nD,
      r.2.mem ((c.tc : Thread Cert.DwguRefIdeal.nD Cert.DwguRefIdeal.τ).loc Cert.DwguRefIdeal.main_arg0) = m ((c.tc : Thread Cert.DwguRefIdeal.nD Cert.DwguRefIdeal.τ).loc Cert.DwguRefIdeal.main_arg0)
      ∧ r.2.mem ((c.tc : Thread Cert.DwguRefIdeal.nD Cert.DwguRefIdeal.τ).loc Cert.DwguRefIdeal.main_arg1) = m ((c.tc : Thread Cert.DwguRefIdeal.nD Cert.DwguRefIdeal.τ).loc Cert.DwguRefIdeal.main_arg1))
      ∧ r.2.sem = fun _ => 0)

def quiescent_Dwd [hDwd : Cert.Dwd.Facts] : Prop :=
  ∀ (m : (ℓ : Loc Cert.Dwd.nD Cert.Dwd.τ Cert.Dwd.sig) → Buf (Elt Bits) ℓ) (g : Dev Cert.Dwd.nD → PrngReg), Pre_Dwd m →
    θ_run (Cert.Dwd.defs (F := Bits)) (onTc (τ := Cert.Dwd.τ) (Cert.Dwd.main (F := Bits))) ⟨m, fun _ => 0, g⟩ (fun r => (∀ c : Dev Cert.Dwd.nD,
      r.2.mem ((c.tc : Thread Cert.Dwd.nD Cert.Dwd.τ).loc Cert.Dwd.main_arg0) = m ((c.tc : Thread Cert.Dwd.nD Cert.Dwd.τ).loc Cert.Dwd.main_arg0)
      ∧ r.2.mem ((c.tc : Thread Cert.Dwd.nD Cert.Dwd.τ).loc Cert.Dwd.main_arg1) = m ((c.tc : Thread Cert.Dwd.nD Cert.Dwd.τ).loc Cert.Dwd.main_arg1))
      ∧ r.2.sem = fun _ => 0)

def quiescent_DwdIdeal [hDwdIdeal : Cert.DwdIdeal.Facts] : Prop :=
  ∀ (m : (ℓ : Loc Cert.DwdIdeal.nD Cert.DwdIdeal.τ Cert.DwdIdeal.sig) → Buf (Elt Ideal) ℓ) (g : Dev Cert.DwdIdeal.nD → PrngReg), Pre_DwdIdeal m →
    θ_run (Cert.DwdIdeal.defs (F := Ideal)) (onTc (τ := Cert.DwdIdeal.τ) (Cert.DwdIdeal.main (F := Ideal))) ⟨m, fun _ => 0, g⟩ (fun r => (∀ c : Dev Cert.DwdIdeal.nD,
      r.2.mem ((c.tc : Thread Cert.DwdIdeal.nD Cert.DwdIdeal.τ).loc Cert.DwdIdeal.main_arg0) = m ((c.tc : Thread Cert.DwdIdeal.nD Cert.DwdIdeal.τ).loc Cert.DwdIdeal.main_arg0)
      ∧ r.2.mem ((c.tc : Thread Cert.DwdIdeal.nD Cert.DwdIdeal.τ).loc Cert.DwdIdeal.main_arg1) = m ((c.tc : Thread Cert.DwdIdeal.nD Cert.DwdIdeal.τ).loc Cert.DwdIdeal.main_arg1))
      ∧ r.2.sem = fun _ => 0)

def quiescent_DwdRefIdeal [hDwdRefIdeal : Cert.DwdRefIdeal.Facts] : Prop :=
  ∀ (m : (ℓ : Loc Cert.DwdRefIdeal.nD Cert.DwdRefIdeal.τ Cert.DwdRefIdeal.sig) → Buf (Elt Ideal) ℓ) (g : Dev Cert.DwdRefIdeal.nD → PrngReg), Pre_DwdRefIdeal m →
    θ_run (Cert.DwdRefIdeal.defs (F := Ideal)) (onTc (τ := Cert.DwdRefIdeal.τ) (Cert.DwdRefIdeal.main (F := Ideal))) ⟨m, fun _ => 0, g⟩ (fun r => (∀ c : Dev Cert.DwdRefIdeal.nD,
      r.2.mem ((c.tc : Thread Cert.DwdRefIdeal.nD Cert.DwdRefIdeal.τ).loc Cert.DwdRefIdeal.main_arg0) = m ((c.tc : Thread Cert.DwdRefIdeal.nD Cert.DwdRefIdeal.τ).loc Cert.DwdRefIdeal.main_arg0)
      ∧ r.2.mem ((c.tc : Thread Cert.DwdRefIdeal.nD Cert.DwdRefIdeal.τ).loc Cert.DwdRefIdeal.main_arg1) = m ((c.tc : Thread Cert.DwdRefIdeal.nD Cert.DwdRefIdeal.τ).loc Cert.DwdRefIdeal.main_arg1))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1)
      ∧ r.2.mem ((c.tc : Thread Cert.Dact.nD Cert.Dact.τ).loc Cert.Dact.main_arg2) = m ((c.tc : Thread Cert.Dact.nD Cert.Dact.τ).loc Cert.Dact.main_arg2)
      ∧ r.2.mem ((c.tc : Thread Cert.Dact.nD Cert.Dact.τ).loc Cert.Dact.main_arg3) = m ((c.tc : Thread Cert.Dact.nD Cert.Dact.τ).loc Cert.Dact.main_arg3))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
      ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ r.2.sem = fun _ => 0)

def quiescent_DactRefIdeal [hDactRefIdeal : Cert.DactRefIdeal.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1)
      ∧ r.2.mem ((c.tc : Thread Cert.DactRefIdeal.nD Cert.DactRefIdeal.τ).loc Cert.DactRefIdeal.main_arg2) = m ((c.tc : Thread Cert.DactRefIdeal.nD Cert.DactRefIdeal.τ).loc Cert.DactRefIdeal.main_arg2)
      ∧ r.2.mem ((c.tc : Thread Cert.DactRefIdeal.nD Cert.DactRefIdeal.τ).loc Cert.DactRefIdeal.main_arg3) = m ((c.tc : Thread Cert.DactRefIdeal.nD Cert.DactRefIdeal.τ).loc Cert.DactRefIdeal.main_arg3))
      ∧ r.2.sem = fun _ => 0)

def quiescent_Dwin [hDwin : Cert.Dwin.Facts] : Prop :=
  ∀ (m : (ℓ : Loc Cert.Dwin.nD Cert.Dwin.τ Cert.Dwin.sig) → Buf (Elt Bits) ℓ) (g : Dev Cert.Dwin.nD → PrngReg), Pre_Dwin m →
    θ_run (Cert.Dwin.defs (F := Bits)) (onTc (τ := Cert.Dwin.τ) (Cert.Dwin.main (F := Bits))) ⟨m, fun _ => 0, g⟩ (fun r => (∀ c : Dev Cert.Dwin.nD,
      r.2.mem ((c.tc : Thread Cert.Dwin.nD Cert.Dwin.τ).loc Cert.Dwin.main_arg0) = m ((c.tc : Thread Cert.Dwin.nD Cert.Dwin.τ).loc Cert.Dwin.main_arg0)
      ∧ r.2.mem ((c.tc : Thread Cert.Dwin.nD Cert.Dwin.τ).loc Cert.Dwin.main_arg1) = m ((c.tc : Thread Cert.Dwin.nD Cert.Dwin.τ).loc Cert.Dwin.main_arg1))
      ∧ r.2.sem = fun _ => 0)

def quiescent_DwinIdeal [hDwinIdeal : Cert.DwinIdeal.Facts] : Prop :=
  ∀ (m : (ℓ : Loc Cert.DwinIdeal.nD Cert.DwinIdeal.τ Cert.DwinIdeal.sig) → Buf (Elt Ideal) ℓ) (g : Dev Cert.DwinIdeal.nD → PrngReg), Pre_DwinIdeal m →
    θ_run (Cert.DwinIdeal.defs (F := Ideal)) (onTc (τ := Cert.DwinIdeal.τ) (Cert.DwinIdeal.main (F := Ideal))) ⟨m, fun _ => 0, g⟩ (fun r => (∀ c : Dev Cert.DwinIdeal.nD,
      r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
      ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1))
      ∧ r.2.sem = fun _ => 0)

def quiescent_DwinRefIdeal [hDwinRefIdeal : Cert.DwinRefIdeal.Facts] : Prop :=
  ∀ (m : (ℓ : Loc Cert.DwinRefIdeal.nD Cert.DwinRefIdeal.τ Cert.DwinRefIdeal.sig) → Buf (Elt Ideal) ℓ) (g : Dev Cert.DwinRefIdeal.nD → PrngReg), Pre_DwinRefIdeal m →
    θ_run (Cert.DwinRefIdeal.defs (F := Ideal)) (onTc (τ := Cert.DwinRefIdeal.τ) (Cert.DwinRefIdeal.main (F := Ideal))) ⟨m, fun _ => 0, g⟩ (fun r => (∀ c : Dev Cert.DwinRefIdeal.nD,
      r.2.mem ((c.tc : Thread Cert.DwinRefIdeal.nD Cert.DwinRefIdeal.τ).loc Cert.DwinRefIdeal.main_arg0) = m ((c.tc : Thread Cert.DwinRefIdeal.nD Cert.DwinRefIdeal.τ).loc Cert.DwinRefIdeal.main_arg0)
      ∧ r.2.mem ((c.tc : Thread Cert.DwinRefIdeal.nD Cert.DwinRefIdeal.τ).loc Cert.DwinRefIdeal.main_arg1) = m ((c.tc : Thread Cert.DwinRefIdeal.nD Cert.DwinRefIdeal.τ).loc Cert.DwinRefIdeal.main_arg1))
      ∧ r.2.sem = fun _ => 0)

def quiescent_Dh2 [hDh2 : Cert.Dh2.Facts] : Prop :=
  ∀ (m : (ℓ : Loc Cert.Dh2.nD Cert.Dh2.τ Cert.Dh2.sig) → Buf (Elt Bits) ℓ) (g : Dev Cert.Dh2.nD → PrngReg), Pre_Dh2 m →
    θ_run (Cert.Dh2.defs (F := Bits)) (onTc (τ := Cert.Dh2.τ) (Cert.Dh2.main (F := Bits))) ⟨m, fun _ => 0, g⟩ (fun r => (∀ c : Dev Cert.Dh2.nD,
      r.2.mem ((c.tc : Thread Cert.Dh2.nD Cert.Dh2.τ).loc Cert.Dh2.main_arg0) = m ((c.tc : Thread Cert.Dh2.nD Cert.Dh2.τ).loc Cert.Dh2.main_arg0)
      ∧ r.2.mem ((c.tc : Thread Cert.Dh2.nD Cert.Dh2.τ).loc Cert.Dh2.main_arg1) = m ((c.tc : Thread Cert.Dh2.nD Cert.Dh2.τ).loc Cert.Dh2.main_arg1)
      ∧ r.2.mem ((c.tc : Thread Cert.Dh2.nD Cert.Dh2.τ).loc Cert.Dh2.main_arg2) = m ((c.tc : Thread Cert.Dh2.nD Cert.Dh2.τ).loc Cert.Dh2.main_arg2))
      ∧ r.2.sem = fun _ => 0)

def quiescent_Dh2Ideal [hDh2Ideal : Cert.Dh2Ideal.Facts] : Prop :=
  ∀ (m : (ℓ : Loc Cert.Dh2Ideal.nD Cert.Dh2Ideal.τ Cert.Dh2Ideal.sig) → Buf (Elt Ideal) ℓ) (g : Dev Cert.Dh2Ideal.nD → PrngReg), Pre_Dh2Ideal m →
    θ_run (Cert.Dh2Ideal.defs (F := Ideal)) (onTc (τ := Cert.Dh2Ideal.τ) (Cert.Dh2Ideal.main (F := Ideal))) ⟨m, fun _ => 0, g⟩ (fun r => (∀ c : Dev Cert.Dh2Ideal.nD,
      r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
      ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1)
      ∧ r.2.mem ((c.tc : Thread Cert.Dh2Ideal.nD Cert.Dh2Ideal.τ).loc Cert.Dh2Ideal.main_arg2) = m ((c.tc : Thread Cert.Dh2Ideal.nD Cert.Dh2Ideal.τ).loc Cert.Dh2Ideal.main_arg2))
      ∧ r.2.sem = fun _ => 0)

def quiescent_Dh2RefIdeal [hDh2RefIdeal : Cert.Dh2RefIdeal.Facts] : Prop :=
  ∀ (m : (ℓ : Loc Cert.Dh2RefIdeal.nD Cert.Dh2RefIdeal.τ Cert.Dh2RefIdeal.sig) → Buf (Elt Ideal) ℓ) (g : Dev Cert.Dh2RefIdeal.nD → PrngReg), Pre_Dh2RefIdeal m →
    θ_run (Cert.Dh2RefIdeal.defs (F := Ideal)) (onTc (τ := Cert.Dh2RefIdeal.τ) (Cert.Dh2RefIdeal.main (F := Ideal))) ⟨m, fun _ => 0, g⟩ (fun r => (∀ c : Dev Cert.Dh2RefIdeal.nD,
      r.2.mem ((c.tc : Thread Cert.Dh2RefIdeal.nD Cert.Dh2RefIdeal.τ).loc Cert.Dh2RefIdeal.main_arg0) = m ((c.tc : Thread Cert.Dh2RefIdeal.nD Cert.Dh2RefIdeal.τ).loc Cert.Dh2RefIdeal.main_arg0)
      ∧ r.2.mem ((c.tc : Thread Cert.Dh2RefIdeal.nD Cert.Dh2RefIdeal.τ).loc Cert.Dh2RefIdeal.main_arg1) = m ((c.tc : Thread Cert.Dh2RefIdeal.nD Cert.Dh2RefIdeal.τ).loc Cert.Dh2RefIdeal.main_arg1)
      ∧ r.2.mem ((c.tc : Thread Cert.Dh2RefIdeal.nD Cert.Dh2RefIdeal.τ).loc Cert.Dh2RefIdeal.main_arg2) = m ((c.tc : Thread Cert.Dh2RefIdeal.nD Cert.Dh2RefIdeal.τ).loc Cert.Dh2RefIdeal.main_arg2))
      ∧ r.2.sem = fun _ => 0)

def quiescent_Dwout [hDwout : Cert.Dwout.Facts] : Prop :=
  ∀ (m : (ℓ : Loc Cert.Dwout.nD Cert.Dwout.τ Cert.Dwout.sig) → Buf (Elt Bits) ℓ) (g : Dev Cert.Dwout.nD → PrngReg), Pre_Dwout m →
    θ_run (Cert.Dwout.defs (F := Bits)) (onTc (τ := Cert.Dwout.τ) (Cert.Dwout.main (F := Bits))) ⟨m, fun _ => 0, g⟩ (fun r => (∀ c : Dev Cert.Dwout.nD,
      r.2.mem ((c.tc : Thread Cert.Dwout.nD Cert.Dwout.τ).loc Cert.Dwout.main_arg0) = m ((c.tc : Thread Cert.Dwout.nD Cert.Dwout.τ).loc Cert.Dwout.main_arg0)
      ∧ r.2.mem ((c.tc : Thread Cert.Dwout.nD Cert.Dwout.τ).loc Cert.Dwout.main_arg1) = m ((c.tc : Thread Cert.Dwout.nD Cert.Dwout.τ).loc Cert.Dwout.main_arg1))
      ∧ r.2.sem = fun _ => 0)

def quiescent_DwoutIdeal [hDwoutIdeal : Cert.DwoutIdeal.Facts] : Prop :=
  ∀ (m : (ℓ : Loc Cert.DwoutIdeal.nD Cert.DwoutIdeal.τ Cert.DwoutIdeal.sig) → Buf (Elt Ideal) ℓ) (g : Dev Cert.DwoutIdeal.nD → PrngReg), Pre_DwoutIdeal m →
    θ_run (Cert.DwoutIdeal.defs (F := Ideal)) (onTc (τ := Cert.DwoutIdeal.τ) (Cert.DwoutIdeal.main (F := Ideal))) ⟨m, fun _ => 0, g⟩ (fun r => (∀ c : Dev Cert.DwoutIdeal.nD,
      r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
      ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1))
      ∧ r.2.sem = fun _ => 0)

def quiescent_DwoutRefIdeal [hDwoutRefIdeal : Cert.DwoutRefIdeal.Facts] : Prop :=
  ∀ (m : (ℓ : Loc Cert.DwoutRefIdeal.nD Cert.DwoutRefIdeal.τ Cert.DwoutRefIdeal.sig) → Buf (Elt Ideal) ℓ) (g : Dev Cert.DwoutRefIdeal.nD → PrngReg), Pre_DwoutRefIdeal m →
    θ_run (Cert.DwoutRefIdeal.defs (F := Ideal)) (onTc (τ := Cert.DwoutRefIdeal.τ) (Cert.DwoutRefIdeal.main (F := Ideal))) ⟨m, fun _ => 0, g⟩ (fun r => (∀ c : Dev Cert.DwoutRefIdeal.nD,
      r.2.mem ((c.tc : Thread Cert.DwoutRefIdeal.nD Cert.DwoutRefIdeal.τ).loc Cert.DwoutRefIdeal.main_arg0) = m ((c.tc : Thread Cert.DwoutRefIdeal.nD Cert.DwoutRefIdeal.τ).loc Cert.DwoutRefIdeal.main_arg0)
      ∧ r.2.mem ((c.tc : Thread Cert.DwoutRefIdeal.nD Cert.DwoutRefIdeal.τ).loc Cert.DwoutRefIdeal.main_arg1) = m ((c.tc : Thread Cert.DwoutRefIdeal.nD Cert.DwoutRefIdeal.τ).loc Cert.DwoutRefIdeal.main_arg1))
      ∧ r.2.sem = fun _ => 0)

def quiescent_Dmix [hDmix : Cert.Dmix.Facts] : Prop :=
  ∀ (m : (ℓ : Loc Cert.Dmix.nD Cert.Dmix.τ Cert.Dmix.sig) → Buf (Elt Bits) ℓ) (g : Dev Cert.Dmix.nD → PrngReg), Pre_Dmix m →
    θ_run (Cert.Dmix.defs (F := Bits)) (onTc (τ := Cert.Dmix.τ) (Cert.Dmix.main (F := Bits))) ⟨m, fun _ => 0, g⟩ (fun r => (∀ c : Dev Cert.Dmix.nD,
      r.2.mem ((c.tc : Thread Cert.Dmix.nD Cert.Dmix.τ).loc Cert.Dmix.main_arg0) = m ((c.tc : Thread Cert.Dmix.nD Cert.Dmix.τ).loc Cert.Dmix.main_arg0)
      ∧ r.2.mem ((c.tc : Thread Cert.Dmix.nD Cert.Dmix.τ).loc Cert.Dmix.main_arg1) = m ((c.tc : Thread Cert.Dmix.nD Cert.Dmix.τ).loc Cert.Dmix.main_arg1))
      ∧ r.2.sem = fun _ => 0)

def quiescent_DmixIdeal [hDmixIdeal : Cert.DmixIdeal.Facts] : Prop :=
  ∀ (m : (ℓ : Loc Cert.DmixIdeal.nD Cert.DmixIdeal.τ Cert.DmixIdeal.sig) → Buf (Elt Ideal) ℓ) (g : Dev Cert.DmixIdeal.nD → PrngReg), Pre_DmixIdeal m →
    θ_run (Cert.DmixIdeal.defs (F := Ideal)) (onTc (τ := Cert.DmixIdeal.τ) (Cert.DmixIdeal.main (F := Ideal))) ⟨m, fun _ => 0, g⟩ (fun r => (∀ c : Dev Cert.DmixIdeal.nD,
      r.2.mem ((c.tc : Thread Cert.DmixIdeal.nD Cert.DmixIdeal.τ).loc Cert.DmixIdeal.main_arg0) = m ((c.tc : Thread Cert.DmixIdeal.nD Cert.DmixIdeal.τ).loc Cert.DmixIdeal.main_arg0)
      ∧ r.2.mem ((c.tc : Thread Cert.DmixIdeal.nD Cert.DmixIdeal.τ).loc Cert.DmixIdeal.main_arg1) = m ((c.tc : Thread Cert.DmixIdeal.nD Cert.DmixIdeal.τ).loc Cert.DmixIdeal.main_arg1))
      ∧ r.2.sem = fun _ => 0)

def quiescent_DmixRefIdeal [hDmixRefIdeal : Cert.DmixRefIdeal.Facts] : Prop :=
  ∀ (m : (ℓ : Loc Cert.DmixRefIdeal.nD Cert.DmixRefIdeal.τ Cert.DmixRefIdeal.sig) → Buf (Elt Ideal) ℓ) (g : Dev Cert.DmixRefIdeal.nD → PrngReg), Pre_DmixRefIdeal m →
    θ_run (Cert.DmixRefIdeal.defs (F := Ideal)) (onTc (τ := Cert.DmixRefIdeal.τ) (Cert.DmixRefIdeal.main (F := Ideal))) ⟨m, fun _ => 0, g⟩ (fun r => (∀ c : Dev Cert.DmixRefIdeal.nD,
      r.2.mem ((c.tc : Thread Cert.DmixRefIdeal.nD Cert.DmixRefIdeal.τ).loc Cert.DmixRefIdeal.main_arg0) = m ((c.tc : Thread Cert.DmixRefIdeal.nD Cert.DmixRefIdeal.τ).loc Cert.DmixRefIdeal.main_arg0)
      ∧ r.2.mem ((c.tc : Thread Cert.DmixRefIdeal.nD Cert.DmixRefIdeal.τ).loc Cert.DmixRefIdeal.main_arg1) = m ((c.tc : Thread Cert.DmixRefIdeal.nD Cert.DmixRefIdeal.τ).loc Cert.DmixRefIdeal.main_arg1))
      ∧ r.2.sem = fun _ => 0)

def quiescent_Dwo [hDwo : Cert.Dwo.Facts] : Prop :=
  ∀ (m : (ℓ : Loc Cert.Dwo.nD Cert.Dwo.τ Cert.Dwo.sig) → Buf (Elt Bits) ℓ) (g : Dev Cert.Dwo.nD → PrngReg), Pre_Dwo m →
    θ_run (Cert.Dwo.defs (F := Bits)) (onTc (τ := Cert.Dwo.τ) (Cert.Dwo.main (F := Bits))) ⟨m, fun _ => 0, g⟩ (fun r => (∀ c : Dev Cert.Dwo.nD,
      r.2.mem ((c.tc : Thread Cert.Dwo.nD Cert.Dwo.τ).loc Cert.Dwo.main_arg0) = m ((c.tc : Thread Cert.Dwo.nD Cert.Dwo.τ).loc Cert.Dwo.main_arg0)
      ∧ r.2.mem ((c.tc : Thread Cert.Dwo.nD Cert.Dwo.τ).loc Cert.Dwo.main_arg1) = m ((c.tc : Thread Cert.Dwo.nD Cert.Dwo.τ).loc Cert.Dwo.main_arg1))
      ∧ r.2.sem = fun _ => 0)

def quiescent_DwoIdeal [hDwoIdeal : Cert.DwoIdeal.Facts] : Prop :=
  ∀ (m : (ℓ : Loc Cert.DwoIdeal.nD Cert.DwoIdeal.τ Cert.DwoIdeal.sig) → Buf (Elt Ideal) ℓ) (g : Dev Cert.DwoIdeal.nD → PrngReg), Pre_DwoIdeal m →
    θ_run (Cert.DwoIdeal.defs (F := Ideal)) (onTc (τ := Cert.DwoIdeal.τ) (Cert.DwoIdeal.main (F := Ideal))) ⟨m, fun _ => 0, g⟩ (fun r => (∀ c : Dev Cert.DwoIdeal.nD,
      r.2.mem ((c.tc : Thread Cert.DwoIdeal.nD Cert.DwoIdeal.τ).loc Cert.DwoIdeal.main_arg0) = m ((c.tc : Thread Cert.DwoIdeal.nD Cert.DwoIdeal.τ).loc Cert.DwoIdeal.main_arg0)
      ∧ r.2.mem ((c.tc : Thread Cert.DwoIdeal.nD Cert.DwoIdeal.τ).loc Cert.DwoIdeal.main_arg1) = m ((c.tc : Thread Cert.DwoIdeal.nD Cert.DwoIdeal.τ).loc Cert.DwoIdeal.main_arg1))
      ∧ r.2.sem = fun _ => 0)

def quiescent_DwoRefIdeal [hDwoRefIdeal : Cert.DwoRefIdeal.Facts] : Prop :=
  ∀ (m : (ℓ : Loc Cert.DwoRefIdeal.nD Cert.DwoRefIdeal.τ Cert.DwoRefIdeal.sig) → Buf (Elt Ideal) ℓ) (g : Dev Cert.DwoRefIdeal.nD → PrngReg), Pre_DwoRefIdeal m →
    θ_run (Cert.DwoRefIdeal.defs (F := Ideal)) (onTc (τ := Cert.DwoRefIdeal.τ) (Cert.DwoRefIdeal.main (F := Ideal))) ⟨m, fun _ => 0, g⟩ (fun r => (∀ c : Dev Cert.DwoRefIdeal.nD,
      r.2.mem ((c.tc : Thread Cert.DwoRefIdeal.nD Cert.DwoRefIdeal.τ).loc Cert.DwoRefIdeal.main_arg0) = m ((c.tc : Thread Cert.DwoRefIdeal.nD Cert.DwoRefIdeal.τ).loc Cert.DwoRefIdeal.main_arg0)
      ∧ r.2.mem ((c.tc : Thread Cert.DwoRefIdeal.nD Cert.DwoRefIdeal.τ).loc Cert.DwoRefIdeal.main_arg1) = m ((c.tc : Thread Cert.DwoRefIdeal.nD Cert.DwoRefIdeal.τ).loc Cert.DwoRefIdeal.main_arg1))
      ∧ r.2.sem = fun _ => 0)

def quiescent_Do [hDo : Cert.Do.Facts] : Prop :=
  ∀ (m : (ℓ : Loc Cert.Do.nD Cert.Do.τ Cert.Do.sig) → Buf (Elt Bits) ℓ) (g : Dev Cert.Do.nD → PrngReg), Pre_Do m →
    θ_run (Cert.Do.defs (F := Bits)) (onTc (τ := Cert.Do.τ) (Cert.Do.main (F := Bits))) ⟨m, fun _ => 0, g⟩ (fun r => (∀ c : Dev Cert.Do.nD,
      r.2.mem ((c.tc : Thread Cert.Do.nD Cert.Do.τ).loc Cert.Do.main_arg0) = m ((c.tc : Thread Cert.Do.nD Cert.Do.τ).loc Cert.Do.main_arg0)
      ∧ r.2.mem ((c.tc : Thread Cert.Do.nD Cert.Do.τ).loc Cert.Do.main_arg1) = m ((c.tc : Thread Cert.Do.nD Cert.Do.τ).loc Cert.Do.main_arg1))
      ∧ r.2.sem = fun _ => 0)

def quiescent_DoIdeal [hDoIdeal : Cert.DoIdeal.Facts] : Prop :=
  ∀ (m : (ℓ : Loc Cert.DoIdeal.nD Cert.DoIdeal.τ Cert.DoIdeal.sig) → Buf (Elt Ideal) ℓ) (g : Dev Cert.DoIdeal.nD → PrngReg), Pre_DoIdeal m →
    θ_run (Cert.DoIdeal.defs (F := Ideal)) (onTc (τ := Cert.DoIdeal.τ) (Cert.DoIdeal.main (F := Ideal))) ⟨m, fun _ => 0, g⟩ (fun r => (∀ c : Dev Cert.DoIdeal.nD,
      r.2.mem ((c.tc : Thread Cert.DoIdeal.nD Cert.DoIdeal.τ).loc Cert.DoIdeal.main_arg0) = m ((c.tc : Thread Cert.DoIdeal.nD Cert.DoIdeal.τ).loc Cert.DoIdeal.main_arg0)
      ∧ r.2.mem ((c.tc : Thread Cert.DoIdeal.nD Cert.DoIdeal.τ).loc Cert.DoIdeal.main_arg1) = m ((c.tc : Thread Cert.DoIdeal.nD Cert.DoIdeal.τ).loc Cert.DoIdeal.main_arg1))
      ∧ r.2.sem = fun _ => 0)

def quiescent_DoRefIdeal [hDoRefIdeal : Cert.DoRefIdeal.Facts] : Prop :=
  ∀ (m : (ℓ : Loc Cert.DoRefIdeal.nD Cert.DoRefIdeal.τ Cert.DoRefIdeal.sig) → Buf (Elt Ideal) ℓ) (g : Dev Cert.DoRefIdeal.nD → PrngReg), Pre_DoRefIdeal m →
    θ_run (Cert.DoRefIdeal.defs (F := Ideal)) (onTc (τ := Cert.DoRefIdeal.τ) (Cert.DoRefIdeal.main (F := Ideal))) ⟨m, fun _ => 0, g⟩ (fun r => (∀ c : Dev Cert.DoRefIdeal.nD,
      r.2.mem ((c.tc : Thread Cert.DoRefIdeal.nD Cert.DoRefIdeal.τ).loc Cert.DoRefIdeal.main_arg0) = m ((c.tc : Thread Cert.DoRefIdeal.nD Cert.DoRefIdeal.τ).loc Cert.DoRefIdeal.main_arg0)
      ∧ r.2.mem ((c.tc : Thread Cert.DoRefIdeal.nD Cert.DoRefIdeal.τ).loc Cert.DoRefIdeal.main_arg1) = m ((c.tc : Thread Cert.DoRefIdeal.nD Cert.DoRefIdeal.τ).loc Cert.DoRefIdeal.main_arg1))
      ∧ r.2.sem = fun _ => 0)

def quiescent_Dwqkv [hDwqkv : Cert.Dwqkv.Facts] : Prop :=
  ∀ (m : (ℓ : Loc Cert.Dwqkv.nD Cert.Dwqkv.τ Cert.Dwqkv.sig) → Buf (Elt Bits) ℓ) (g : Dev Cert.Dwqkv.nD → PrngReg), Pre_Dwqkv m →
    θ_run (Cert.Dwqkv.defs (F := Bits)) (onTc (τ := Cert.Dwqkv.τ) (Cert.Dwqkv.main (F := Bits))) ⟨m, fun _ => 0, g⟩ (fun r => (∀ c : Dev Cert.Dwqkv.nD,
      r.2.mem ((c.tc : Thread Cert.Dwqkv.nD Cert.Dwqkv.τ).loc Cert.Dwqkv.main_arg0) = m ((c.tc : Thread Cert.Dwqkv.nD Cert.Dwqkv.τ).loc Cert.Dwqkv.main_arg0)
      ∧ r.2.mem ((c.tc : Thread Cert.Dwqkv.nD Cert.Dwqkv.τ).loc Cert.Dwqkv.main_arg1) = m ((c.tc : Thread Cert.Dwqkv.nD Cert.Dwqkv.τ).loc Cert.Dwqkv.main_arg1))
      ∧ r.2.sem = fun _ => 0)

def quiescent_DwqkvIdeal [hDwqkvIdeal : Cert.DwqkvIdeal.Facts] : Prop :=
  ∀ (m : (ℓ : Loc Cert.DwqkvIdeal.nD Cert.DwqkvIdeal.τ Cert.DwqkvIdeal.sig) → Buf (Elt Ideal) ℓ) (g : Dev Cert.DwqkvIdeal.nD → PrngReg), Pre_DwqkvIdeal m →
    θ_run (Cert.DwqkvIdeal.defs (F := Ideal)) (onTc (τ := Cert.DwqkvIdeal.τ) (Cert.DwqkvIdeal.main (F := Ideal))) ⟨m, fun _ => 0, g⟩ (fun r => (∀ c : Dev Cert.DwqkvIdeal.nD,
      r.2.mem ((c.tc : Thread Cert.DwqkvIdeal.nD Cert.DwqkvIdeal.τ).loc Cert.DwqkvIdeal.main_arg0) = m ((c.tc : Thread Cert.DwqkvIdeal.nD Cert.DwqkvIdeal.τ).loc Cert.DwqkvIdeal.main_arg0)
      ∧ r.2.mem ((c.tc : Thread Cert.DwqkvIdeal.nD Cert.DwqkvIdeal.τ).loc Cert.DwqkvIdeal.main_arg1) = m ((c.tc : Thread Cert.DwqkvIdeal.nD Cert.DwqkvIdeal.τ).loc Cert.DwqkvIdeal.main_arg1))
      ∧ r.2.sem = fun _ => 0)

def quiescent_DwqkvRefIdeal [hDwqkvRefIdeal : Cert.DwqkvRefIdeal.Facts] : Prop :=
  ∀ (m : (ℓ : Loc Cert.DwqkvRefIdeal.nD Cert.DwqkvRefIdeal.τ Cert.DwqkvRefIdeal.sig) → Buf (Elt Ideal) ℓ) (g : Dev Cert.DwqkvRefIdeal.nD → PrngReg), Pre_DwqkvRefIdeal m →
    θ_run (Cert.DwqkvRefIdeal.defs (F := Ideal)) (onTc (τ := Cert.DwqkvRefIdeal.τ) (Cert.DwqkvRefIdeal.main (F := Ideal))) ⟨m, fun _ => 0, g⟩ (fun r => (∀ c : Dev Cert.DwqkvRefIdeal.nD,
      r.2.mem ((c.tc : Thread Cert.DwqkvRefIdeal.nD Cert.DwqkvRefIdeal.τ).loc Cert.DwqkvRefIdeal.main_arg0) = m ((c.tc : Thread Cert.DwqkvRefIdeal.nD Cert.DwqkvRefIdeal.τ).loc Cert.DwqkvRefIdeal.main_arg0)
      ∧ r.2.mem ((c.tc : Thread Cert.DwqkvRefIdeal.nD Cert.DwqkvRefIdeal.τ).loc Cert.DwqkvRefIdeal.main_arg1) = m ((c.tc : Thread Cert.DwqkvRefIdeal.nD Cert.DwqkvRefIdeal.τ).loc Cert.DwqkvRefIdeal.main_arg1))
      ∧ r.2.sem = fun _ => 0)

def quiescent_Dha [hDha : Cert.Dha.Facts] : Prop :=
  ∀ (m : (ℓ : Loc Cert.Dha.nD Cert.Dha.τ Cert.Dha.sig) → Buf (Elt Bits) ℓ) (g : Dev Cert.Dha.nD → PrngReg), Pre_Dha m →
    θ_run (Cert.Dha.defs (F := Bits)) (onTc (τ := Cert.Dha.τ) (Cert.Dha.main (F := Bits))) ⟨m, fun _ => 0, g⟩ (fun r => (∀ c : Dev Cert.Dha.nD,
      r.2.mem ((c.tc : Thread Cert.Dha.nD Cert.Dha.τ).loc Cert.Dha.main_arg0) = m ((c.tc : Thread Cert.Dha.nD Cert.Dha.τ).loc Cert.Dha.main_arg0)
      ∧ r.2.mem ((c.tc : Thread Cert.Dha.nD Cert.Dha.τ).loc Cert.Dha.main_arg1) = m ((c.tc : Thread Cert.Dha.nD Cert.Dha.τ).loc Cert.Dha.main_arg1))
      ∧ r.2.sem = fun _ => 0)

def quiescent_DhaIdeal [hDhaIdeal : Cert.DhaIdeal.Facts] : Prop :=
  ∀ (m : (ℓ : Loc Cert.DhaIdeal.nD Cert.DhaIdeal.τ Cert.DhaIdeal.sig) → Buf (Elt Ideal) ℓ) (g : Dev Cert.DhaIdeal.nD → PrngReg), Pre_DhaIdeal m →
    θ_run (Cert.DhaIdeal.defs (F := Ideal)) (onTc (τ := Cert.DhaIdeal.τ) (Cert.DhaIdeal.main (F := Ideal))) ⟨m, fun _ => 0, g⟩ (fun r => (∀ c : Dev Cert.DhaIdeal.nD,
      r.2.mem ((c.tc : Thread Cert.DhaIdeal.nD Cert.DhaIdeal.τ).loc Cert.DhaIdeal.main_arg0) = m ((c.tc : Thread Cert.DhaIdeal.nD Cert.DhaIdeal.τ).loc Cert.DhaIdeal.main_arg0)
      ∧ r.2.mem ((c.tc : Thread Cert.DhaIdeal.nD Cert.DhaIdeal.τ).loc Cert.DhaIdeal.main_arg1) = m ((c.tc : Thread Cert.DhaIdeal.nD Cert.DhaIdeal.τ).loc Cert.DhaIdeal.main_arg1))
      ∧ r.2.sem = fun _ => 0)

def quiescent_DhaRefIdeal [hDhaRefIdeal : Cert.DhaRefIdeal.Facts] : Prop :=
  ∀ (m : (ℓ : Loc Cert.DhaRefIdeal.nD Cert.DhaRefIdeal.τ Cert.DhaRefIdeal.sig) → Buf (Elt Ideal) ℓ) (g : Dev Cert.DhaRefIdeal.nD → PrngReg), Pre_DhaRefIdeal m →
    θ_run (Cert.DhaRefIdeal.defs (F := Ideal)) (onTc (τ := Cert.DhaRefIdeal.τ) (Cert.DhaRefIdeal.main (F := Ideal))) ⟨m, fun _ => 0, g⟩ (fun r => (∀ c : Dev Cert.DhaRefIdeal.nD,
      r.2.mem ((c.tc : Thread Cert.DhaRefIdeal.nD Cert.DhaRefIdeal.τ).loc Cert.DhaRefIdeal.main_arg0) = m ((c.tc : Thread Cert.DhaRefIdeal.nD Cert.DhaRefIdeal.τ).loc Cert.DhaRefIdeal.main_arg0)
      ∧ r.2.mem ((c.tc : Thread Cert.DhaRefIdeal.nD Cert.DhaRefIdeal.τ).loc Cert.DhaRefIdeal.main_arg1) = m ((c.tc : Thread Cert.DhaRefIdeal.nD Cert.DhaRefIdeal.τ).loc Cert.DhaRefIdeal.main_arg1))
      ∧ r.2.sem = fun _ => 0)

def quiescent_Dwxo [hDwxo : Cert.Dwxo.Facts] : Prop :=
  ∀ (m : (ℓ : Loc Cert.Dwxo.nD Cert.Dwxo.τ Cert.Dwxo.sig) → Buf (Elt Bits) ℓ) (g : Dev Cert.Dwxo.nD → PrngReg), Pre_Dwxo m →
    θ_run (Cert.Dwxo.defs (F := Bits)) (onTc (τ := Cert.Dwxo.τ) (Cert.Dwxo.main (F := Bits))) ⟨m, fun _ => 0, g⟩ (fun r => (∀ c : Dev Cert.Dwxo.nD,
      r.2.mem ((c.tc : Thread Cert.Dwxo.nD Cert.Dwxo.τ).loc Cert.Dwxo.main_arg0) = m ((c.tc : Thread Cert.Dwxo.nD Cert.Dwxo.τ).loc Cert.Dwxo.main_arg0)
      ∧ r.2.mem ((c.tc : Thread Cert.Dwxo.nD Cert.Dwxo.τ).loc Cert.Dwxo.main_arg1) = m ((c.tc : Thread Cert.Dwxo.nD Cert.Dwxo.τ).loc Cert.Dwxo.main_arg1))
      ∧ r.2.sem = fun _ => 0)

def quiescent_DwxoIdeal [hDwxoIdeal : Cert.DwxoIdeal.Facts] : Prop :=
  ∀ (m : (ℓ : Loc Cert.DwxoIdeal.nD Cert.DwxoIdeal.τ Cert.DwxoIdeal.sig) → Buf (Elt Ideal) ℓ) (g : Dev Cert.DwxoIdeal.nD → PrngReg), Pre_DwxoIdeal m →
    θ_run (Cert.DwxoIdeal.defs (F := Ideal)) (onTc (τ := Cert.DwxoIdeal.τ) (Cert.DwxoIdeal.main (F := Ideal))) ⟨m, fun _ => 0, g⟩ (fun r => (∀ c : Dev Cert.DwxoIdeal.nD,
      r.2.mem ((c.tc : Thread Cert.DwxoIdeal.nD Cert.DwxoIdeal.τ).loc Cert.DwxoIdeal.main_arg0) = m ((c.tc : Thread Cert.DwxoIdeal.nD Cert.DwxoIdeal.τ).loc Cert.DwxoIdeal.main_arg0)
      ∧ r.2.mem ((c.tc : Thread Cert.DwxoIdeal.nD Cert.DwxoIdeal.τ).loc Cert.DwxoIdeal.main_arg1) = m ((c.tc : Thread Cert.DwxoIdeal.nD Cert.DwxoIdeal.τ).loc Cert.DwxoIdeal.main_arg1))
      ∧ r.2.sem = fun _ => 0)

def quiescent_DwxoRefIdeal [hDwxoRefIdeal : Cert.DwxoRefIdeal.Facts] : Prop :=
  ∀ (m : (ℓ : Loc Cert.DwxoRefIdeal.nD Cert.DwxoRefIdeal.τ Cert.DwxoRefIdeal.sig) → Buf (Elt Ideal) ℓ) (g : Dev Cert.DwxoRefIdeal.nD → PrngReg), Pre_DwxoRefIdeal m →
    θ_run (Cert.DwxoRefIdeal.defs (F := Ideal)) (onTc (τ := Cert.DwxoRefIdeal.τ) (Cert.DwxoRefIdeal.main (F := Ideal))) ⟨m, fun _ => 0, g⟩ (fun r => (∀ c : Dev Cert.DwxoRefIdeal.nD,
      r.2.mem ((c.tc : Thread Cert.DwxoRefIdeal.nD Cert.DwxoRefIdeal.τ).loc Cert.DwxoRefIdeal.main_arg0) = m ((c.tc : Thread Cert.DwxoRefIdeal.nD Cert.DwxoRefIdeal.τ).loc Cert.DwxoRefIdeal.main_arg0)
      ∧ r.2.mem ((c.tc : Thread Cert.DwxoRefIdeal.nD Cert.DwxoRefIdeal.τ).loc Cert.DwxoRefIdeal.main_arg1) = m ((c.tc : Thread Cert.DwxoRefIdeal.nD Cert.DwxoRefIdeal.τ).loc Cert.DwxoRefIdeal.main_arg1))
      ∧ r.2.sem = fun _ => 0)

def quiescent_Dxo [hDxo : Cert.Dxo.Facts] : Prop :=
  ∀ (m : (ℓ : Loc Cert.Dxo.nD Cert.Dxo.τ Cert.Dxo.sig) → Buf (Elt Bits) ℓ) (g : Dev Cert.Dxo.nD → PrngReg), Pre_Dxo m →
    θ_run (Cert.Dxo.defs (F := Bits)) (onTc (τ := Cert.Dxo.τ) (Cert.Dxo.main (F := Bits))) ⟨m, fun _ => 0, g⟩ (fun r => (∀ c : Dev Cert.Dxo.nD,
      r.2.mem ((c.tc : Thread Cert.Dxo.nD Cert.Dxo.τ).loc Cert.Dxo.main_arg0) = m ((c.tc : Thread Cert.Dxo.nD Cert.Dxo.τ).loc Cert.Dxo.main_arg0)
      ∧ r.2.mem ((c.tc : Thread Cert.Dxo.nD Cert.Dxo.τ).loc Cert.Dxo.main_arg1) = m ((c.tc : Thread Cert.Dxo.nD Cert.Dxo.τ).loc Cert.Dxo.main_arg1))
      ∧ r.2.sem = fun _ => 0)

def quiescent_DxoIdeal [hDxoIdeal : Cert.DxoIdeal.Facts] : Prop :=
  ∀ (m : (ℓ : Loc Cert.DxoIdeal.nD Cert.DxoIdeal.τ Cert.DxoIdeal.sig) → Buf (Elt Ideal) ℓ) (g : Dev Cert.DxoIdeal.nD → PrngReg), Pre_DxoIdeal m →
    θ_run (Cert.DxoIdeal.defs (F := Ideal)) (onTc (τ := Cert.DxoIdeal.τ) (Cert.DxoIdeal.main (F := Ideal))) ⟨m, fun _ => 0, g⟩ (fun r => (∀ c : Dev Cert.DxoIdeal.nD,
      r.2.mem ((c.tc : Thread Cert.DxoIdeal.nD Cert.DxoIdeal.τ).loc Cert.DxoIdeal.main_arg0) = m ((c.tc : Thread Cert.DxoIdeal.nD Cert.DxoIdeal.τ).loc Cert.DxoIdeal.main_arg0)
      ∧ r.2.mem ((c.tc : Thread Cert.DxoIdeal.nD Cert.DxoIdeal.τ).loc Cert.DxoIdeal.main_arg1) = m ((c.tc : Thread Cert.DxoIdeal.nD Cert.DxoIdeal.τ).loc Cert.DxoIdeal.main_arg1))
      ∧ r.2.sem = fun _ => 0)

def quiescent_DxoRefIdeal [hDxoRefIdeal : Cert.DxoRefIdeal.Facts] : Prop :=
  ∀ (m : (ℓ : Loc Cert.DxoRefIdeal.nD Cert.DxoRefIdeal.τ Cert.DxoRefIdeal.sig) → Buf (Elt Ideal) ℓ) (g : Dev Cert.DxoRefIdeal.nD → PrngReg), Pre_DxoRefIdeal m →
    θ_run (Cert.DxoRefIdeal.defs (F := Ideal)) (onTc (τ := Cert.DxoRefIdeal.τ) (Cert.DxoRefIdeal.main (F := Ideal))) ⟨m, fun _ => 0, g⟩ (fun r => (∀ c : Dev Cert.DxoRefIdeal.nD,
      r.2.mem ((c.tc : Thread Cert.DxoRefIdeal.nD Cert.DxoRefIdeal.τ).loc Cert.DxoRefIdeal.main_arg0) = m ((c.tc : Thread Cert.DxoRefIdeal.nD Cert.DxoRefIdeal.τ).loc Cert.DxoRefIdeal.main_arg0)
      ∧ r.2.mem ((c.tc : Thread Cert.DxoRefIdeal.nD Cert.DxoRefIdeal.τ).loc Cert.DxoRefIdeal.main_arg1) = m ((c.tc : Thread Cert.DxoRefIdeal.nD Cert.DxoRefIdeal.τ).loc Cert.DxoRefIdeal.main_arg1))
      ∧ r.2.sem = fun _ => 0)

def quiescent_Dwxq [hDwxq : Cert.Dwxq.Facts] : Prop :=
  ∀ (m : (ℓ : Loc Cert.Dwxq.nD Cert.Dwxq.τ Cert.Dwxq.sig) → Buf (Elt Bits) ℓ) (g : Dev Cert.Dwxq.nD → PrngReg), Pre_Dwxq m →
    θ_run (Cert.Dwxq.defs (F := Bits)) (onTc (τ := Cert.Dwxq.τ) (Cert.Dwxq.main (F := Bits))) ⟨m, fun _ => 0, g⟩ (fun r => (∀ c : Dev Cert.Dwxq.nD,
      r.2.mem ((c.tc : Thread Cert.Dwxq.nD Cert.Dwxq.τ).loc Cert.Dwxq.main_arg0) = m ((c.tc : Thread Cert.Dwxq.nD Cert.Dwxq.τ).loc Cert.Dwxq.main_arg0)
      ∧ r.2.mem ((c.tc : Thread Cert.Dwxq.nD Cert.Dwxq.τ).loc Cert.Dwxq.main_arg1) = m ((c.tc : Thread Cert.Dwxq.nD Cert.Dwxq.τ).loc Cert.Dwxq.main_arg1))
      ∧ r.2.sem = fun _ => 0)

def quiescent_DwxqIdeal [hDwxqIdeal : Cert.DwxqIdeal.Facts] : Prop :=
  ∀ (m : (ℓ : Loc Cert.DwxqIdeal.nD Cert.DwxqIdeal.τ Cert.DwxqIdeal.sig) → Buf (Elt Ideal) ℓ) (g : Dev Cert.DwxqIdeal.nD → PrngReg), Pre_DwxqIdeal m →
    θ_run (Cert.DwxqIdeal.defs (F := Ideal)) (onTc (τ := Cert.DwxqIdeal.τ) (Cert.DwxqIdeal.main (F := Ideal))) ⟨m, fun _ => 0, g⟩ (fun r => (∀ c : Dev Cert.DwxqIdeal.nD,
      r.2.mem ((c.tc : Thread Cert.DwxqIdeal.nD Cert.DwxqIdeal.τ).loc Cert.DwxqIdeal.main_arg0) = m ((c.tc : Thread Cert.DwxqIdeal.nD Cert.DwxqIdeal.τ).loc Cert.DwxqIdeal.main_arg0)
      ∧ r.2.mem ((c.tc : Thread Cert.DwxqIdeal.nD Cert.DwxqIdeal.τ).loc Cert.DwxqIdeal.main_arg1) = m ((c.tc : Thread Cert.DwxqIdeal.nD Cert.DwxqIdeal.τ).loc Cert.DwxqIdeal.main_arg1))
      ∧ r.2.sem = fun _ => 0)

def quiescent_DwxqRefIdeal [hDwxqRefIdeal : Cert.DwxqRefIdeal.Facts] : Prop :=
  ∀ (m : (ℓ : Loc Cert.DwxqRefIdeal.nD Cert.DwxqRefIdeal.τ Cert.DwxqRefIdeal.sig) → Buf (Elt Ideal) ℓ) (g : Dev Cert.DwxqRefIdeal.nD → PrngReg), Pre_DwxqRefIdeal m →
    θ_run (Cert.DwxqRefIdeal.defs (F := Ideal)) (onTc (τ := Cert.DwxqRefIdeal.τ) (Cert.DwxqRefIdeal.main (F := Ideal))) ⟨m, fun _ => 0, g⟩ (fun r => (∀ c : Dev Cert.DwxqRefIdeal.nD,
      r.2.mem ((c.tc : Thread Cert.DwxqRefIdeal.nD Cert.DwxqRefIdeal.τ).loc Cert.DwxqRefIdeal.main_arg0) = m ((c.tc : Thread Cert.DwxqRefIdeal.nD Cert.DwxqRefIdeal.τ).loc Cert.DwxqRefIdeal.main_arg0)
      ∧ r.2.mem ((c.tc : Thread Cert.DwxqRefIdeal.nD Cert.DwxqRefIdeal.τ).loc Cert.DwxqRefIdeal.main_arg1) = m ((c.tc : Thread Cert.DwxqRefIdeal.nD Cert.DwxqRefIdeal.τ).loc Cert.DwxqRefIdeal.main_arg1))
      ∧ r.2.sem = fun _ => 0)

def quiescent_Dhxq [hDhxq : Cert.Dhxq.Facts] : Prop :=
  ∀ (m : (ℓ : Loc Cert.Dhxq.nD Cert.Dhxq.τ Cert.Dhxq.sig) → Buf (Elt Bits) ℓ) (g : Dev Cert.Dhxq.nD → PrngReg), Pre_Dhxq m →
    θ_run (Cert.Dhxq.defs (F := Bits)) (onTc (τ := Cert.Dhxq.τ) (Cert.Dhxq.main (F := Bits))) ⟨m, fun _ => 0, g⟩ (fun r => (∀ c : Dev Cert.Dhxq.nD,
      r.2.mem ((c.tc : Thread Cert.Dhxq.nD Cert.Dhxq.τ).loc Cert.Dhxq.main_arg0) = m ((c.tc : Thread Cert.Dhxq.nD Cert.Dhxq.τ).loc Cert.Dhxq.main_arg0)
      ∧ r.2.mem ((c.tc : Thread Cert.Dhxq.nD Cert.Dhxq.τ).loc Cert.Dhxq.main_arg1) = m ((c.tc : Thread Cert.Dhxq.nD Cert.Dhxq.τ).loc Cert.Dhxq.main_arg1))
      ∧ r.2.sem = fun _ => 0)

def quiescent_DhxqIdeal [hDhxqIdeal : Cert.DhxqIdeal.Facts] : Prop :=
  ∀ (m : (ℓ : Loc Cert.DhxqIdeal.nD Cert.DhxqIdeal.τ Cert.DhxqIdeal.sig) → Buf (Elt Ideal) ℓ) (g : Dev Cert.DhxqIdeal.nD → PrngReg), Pre_DhxqIdeal m →
    θ_run (Cert.DhxqIdeal.defs (F := Ideal)) (onTc (τ := Cert.DhxqIdeal.τ) (Cert.DhxqIdeal.main (F := Ideal))) ⟨m, fun _ => 0, g⟩ (fun r => (∀ c : Dev Cert.DhxqIdeal.nD,
      r.2.mem ((c.tc : Thread Cert.DhxqIdeal.nD Cert.DhxqIdeal.τ).loc Cert.DhxqIdeal.main_arg0) = m ((c.tc : Thread Cert.DhxqIdeal.nD Cert.DhxqIdeal.τ).loc Cert.DhxqIdeal.main_arg0)
      ∧ r.2.mem ((c.tc : Thread Cert.DhxqIdeal.nD Cert.DhxqIdeal.τ).loc Cert.DhxqIdeal.main_arg1) = m ((c.tc : Thread Cert.DhxqIdeal.nD Cert.DhxqIdeal.τ).loc Cert.DhxqIdeal.main_arg1))
      ∧ r.2.sem = fun _ => 0)

def quiescent_DhxqRefIdeal [hDhxqRefIdeal : Cert.DhxqRefIdeal.Facts] : Prop :=
  ∀ (m : (ℓ : Loc Cert.DhxqRefIdeal.nD Cert.DhxqRefIdeal.τ Cert.DhxqRefIdeal.sig) → Buf (Elt Ideal) ℓ) (g : Dev Cert.DhxqRefIdeal.nD → PrngReg), Pre_DhxqRefIdeal m →
    θ_run (Cert.DhxqRefIdeal.defs (F := Ideal)) (onTc (τ := Cert.DhxqRefIdeal.τ) (Cert.DhxqRefIdeal.main (F := Ideal))) ⟨m, fun _ => 0, g⟩ (fun r => (∀ c : Dev Cert.DhxqRefIdeal.nD,
      r.2.mem ((c.tc : Thread Cert.DhxqRefIdeal.nD Cert.DhxqRefIdeal.τ).loc Cert.DhxqRefIdeal.main_arg0) = m ((c.tc : Thread Cert.DhxqRefIdeal.nD Cert.DhxqRefIdeal.τ).loc Cert.DhxqRefIdeal.main_arg0)
      ∧ r.2.mem ((c.tc : Thread Cert.DhxqRefIdeal.nD Cert.DhxqRefIdeal.τ).loc Cert.DhxqRefIdeal.main_arg1) = m ((c.tc : Thread Cert.DhxqRefIdeal.nD Cert.DhxqRefIdeal.τ).loc Cert.DhxqRefIdeal.main_arg1))
      ∧ r.2.sem = fun _ => 0)

def quiescent_Datt [hDatt : Cert.Datt.Facts] : Prop :=
  ∀ (m : (ℓ : Loc Cert.Datt.nD Cert.Datt.τ Cert.Datt.sig) → Buf (Elt Bits) ℓ) (g : Dev Cert.Datt.nD → PrngReg), Pre_Datt m →
    θ_run (Cert.Datt.defs (F := Bits)) (onTc (τ := Cert.Datt.τ) (Cert.Datt.main (F := Bits))) ⟨m, fun _ => 0, g⟩ (fun r => (∀ c : Dev Cert.Datt.nD,
      r.2.mem ((c.tc : Thread Cert.Datt.nD Cert.Datt.τ).loc Cert.Datt.main_arg0) = m ((c.tc : Thread Cert.Datt.nD Cert.Datt.τ).loc Cert.Datt.main_arg0)
      ∧ r.2.mem ((c.tc : Thread Cert.Datt.nD Cert.Datt.τ).loc Cert.Datt.main_arg1) = m ((c.tc : Thread Cert.Datt.nD Cert.Datt.τ).loc Cert.Datt.main_arg1)
      ∧ r.2.mem ((c.tc : Thread Cert.Datt.nD Cert.Datt.τ).loc Cert.Datt.main_arg2) = m ((c.tc : Thread Cert.Datt.nD Cert.Datt.τ).loc Cert.Datt.main_arg2))
      ∧ r.2.sem = fun _ => 0)

def quiescent_DattIdeal [hDattIdeal : Cert.DattIdeal.Facts] : Prop :=
  ∀ (m : (ℓ : Loc Cert.DattIdeal.nD Cert.DattIdeal.τ Cert.DattIdeal.sig) → Buf (Elt Ideal) ℓ) (g : Dev Cert.DattIdeal.nD → PrngReg), Pre_DattIdeal m →
    θ_run (Cert.DattIdeal.defs (F := Ideal)) (onTc (τ := Cert.DattIdeal.τ) (Cert.DattIdeal.main (F := Ideal))) ⟨m, fun _ => 0, g⟩ (fun r => (∀ c : Dev Cert.DattIdeal.nD,
      r.2.mem ((c.tc : Thread Cert.DattIdeal.nD Cert.DattIdeal.τ).loc Cert.DattIdeal.main_arg0) = m ((c.tc : Thread Cert.DattIdeal.nD Cert.DattIdeal.τ).loc Cert.DattIdeal.main_arg0)
      ∧ r.2.mem ((c.tc : Thread Cert.DattIdeal.nD Cert.DattIdeal.τ).loc Cert.DattIdeal.main_arg1) = m ((c.tc : Thread Cert.DattIdeal.nD Cert.DattIdeal.τ).loc Cert.DattIdeal.main_arg1)
      ∧ r.2.mem ((c.tc : Thread Cert.DattIdeal.nD Cert.DattIdeal.τ).loc Cert.DattIdeal.main_arg2) = m ((c.tc : Thread Cert.DattIdeal.nD Cert.DattIdeal.τ).loc Cert.DattIdeal.main_arg2))
      ∧ r.2.sem = fun _ => 0)

def quiescent_DattRefIdeal [hDattRefIdeal : Cert.DattRefIdeal.Facts] : Prop :=
  ∀ (m : (ℓ : Loc Cert.DattRefIdeal.nD Cert.DattRefIdeal.τ Cert.DattRefIdeal.sig) → Buf (Elt Ideal) ℓ) (g : Dev Cert.DattRefIdeal.nD → PrngReg), Pre_DattRefIdeal m →
    θ_run (Cert.DattRefIdeal.defs (F := Ideal)) (onTc (τ := Cert.DattRefIdeal.τ) (Cert.DattRefIdeal.main (F := Ideal))) ⟨m, fun _ => 0, g⟩ (fun r => (∀ c : Dev Cert.DattRefIdeal.nD,
      r.2.mem ((c.tc : Thread Cert.DattRefIdeal.nD Cert.DattRefIdeal.τ).loc Cert.DattRefIdeal.main_arg0) = m ((c.tc : Thread Cert.DattRefIdeal.nD Cert.DattRefIdeal.τ).loc Cert.DattRefIdeal.main_arg0)
      ∧ r.2.mem ((c.tc : Thread Cert.DattRefIdeal.nD Cert.DattRefIdeal.τ).loc Cert.DattRefIdeal.main_arg1) = m ((c.tc : Thread Cert.DattRefIdeal.nD Cert.DattRefIdeal.τ).loc Cert.DattRefIdeal.main_arg1)
      ∧ r.2.mem ((c.tc : Thread Cert.DattRefIdeal.nD Cert.DattRefIdeal.τ).loc Cert.DattRefIdeal.main_arg2) = m ((c.tc : Thread Cert.DattRefIdeal.nD Cert.DattRefIdeal.τ).loc Cert.DattRefIdeal.main_arg2))
      ∧ r.2.sem = fun _ => 0)

def quiescent_Drope [hDrope : Cert.Drope.Facts] : Prop :=
  ∀ (m : (ℓ : Loc Cert.Drope.nD Cert.Drope.τ Cert.Drope.sig) → Buf (Elt Bits) ℓ) (g : Dev Cert.Drope.nD → PrngReg), Pre_Drope m →
    θ_run (Cert.Drope.defs (F := Bits)) (onTc (τ := Cert.Drope.τ) (Cert.Drope.main (F := Bits))) ⟨m, fun _ => 0, g⟩ (fun r => (∀ c : Dev Cert.Drope.nD,
      r.2.mem ((c.tc : Thread Cert.Drope.nD Cert.Drope.τ).loc Cert.Drope.main_arg0) = m ((c.tc : Thread Cert.Drope.nD Cert.Drope.τ).loc Cert.Drope.main_arg0)
      ∧ r.2.mem ((c.tc : Thread Cert.Drope.nD Cert.Drope.τ).loc Cert.Drope.main_arg1) = m ((c.tc : Thread Cert.Drope.nD Cert.Drope.τ).loc Cert.Drope.main_arg1)
      ∧ r.2.mem ((c.tc : Thread Cert.Drope.nD Cert.Drope.τ).loc Cert.Drope.main_arg2) = m ((c.tc : Thread Cert.Drope.nD Cert.Drope.τ).loc Cert.Drope.main_arg2)
      ∧ r.2.mem ((c.tc : Thread Cert.Drope.nD Cert.Drope.τ).loc Cert.Drope.main_arg3) = m ((c.tc : Thread Cert.Drope.nD Cert.Drope.τ).loc Cert.Drope.main_arg3)
      ∧ r.2.mem ((c.tc : Thread Cert.Drope.nD Cert.Drope.τ).loc Cert.Drope.main_arg4) = m ((c.tc : Thread Cert.Drope.nD Cert.Drope.τ).loc Cert.Drope.main_arg4))
      ∧ r.2.sem = fun _ => 0)

def quiescent_DropeIdeal [hDropeIdeal : Cert.DropeIdeal.Facts] : Prop :=
  ∀ (m : (ℓ : Loc Cert.DropeIdeal.nD Cert.DropeIdeal.τ Cert.DropeIdeal.sig) → Buf (Elt Ideal) ℓ) (g : Dev Cert.DropeIdeal.nD → PrngReg), Pre_DropeIdeal m →
    θ_run (Cert.DropeIdeal.defs (F := Ideal)) (onTc (τ := Cert.DropeIdeal.τ) (Cert.DropeIdeal.main (F := Ideal))) ⟨m, fun _ => 0, g⟩ (fun r => (∀ c : Dev Cert.DropeIdeal.nD,
      r.2.mem ((c.tc : Thread Cert.DropeIdeal.nD Cert.DropeIdeal.τ).loc Cert.DropeIdeal.main_arg0) = m ((c.tc : Thread Cert.DropeIdeal.nD Cert.DropeIdeal.τ).loc Cert.DropeIdeal.main_arg0)
      ∧ r.2.mem ((c.tc : Thread Cert.DropeIdeal.nD Cert.DropeIdeal.τ).loc Cert.DropeIdeal.main_arg1) = m ((c.tc : Thread Cert.DropeIdeal.nD Cert.DropeIdeal.τ).loc Cert.DropeIdeal.main_arg1)
      ∧ r.2.mem ((c.tc : Thread Cert.DropeIdeal.nD Cert.DropeIdeal.τ).loc Cert.DropeIdeal.main_arg2) = m ((c.tc : Thread Cert.DropeIdeal.nD Cert.DropeIdeal.τ).loc Cert.DropeIdeal.main_arg2)
      ∧ r.2.mem ((c.tc : Thread Cert.DropeIdeal.nD Cert.DropeIdeal.τ).loc Cert.DropeIdeal.main_arg3) = m ((c.tc : Thread Cert.DropeIdeal.nD Cert.DropeIdeal.τ).loc Cert.DropeIdeal.main_arg3)
      ∧ r.2.mem ((c.tc : Thread Cert.DropeIdeal.nD Cert.DropeIdeal.τ).loc Cert.DropeIdeal.main_arg4) = m ((c.tc : Thread Cert.DropeIdeal.nD Cert.DropeIdeal.τ).loc Cert.DropeIdeal.main_arg4))
      ∧ r.2.sem = fun _ => 0)

def quiescent_DropeRefIdeal [hDropeRefIdeal : Cert.DropeRefIdeal.Facts] : Prop :=
  ∀ (m : (ℓ : Loc Cert.DropeRefIdeal.nD Cert.DropeRefIdeal.τ Cert.DropeRefIdeal.sig) → Buf (Elt Ideal) ℓ) (g : Dev Cert.DropeRefIdeal.nD → PrngReg), Pre_DropeRefIdeal m →
    θ_run (Cert.DropeRefIdeal.defs (F := Ideal)) (onTc (τ := Cert.DropeRefIdeal.τ) (Cert.DropeRefIdeal.main (F := Ideal))) ⟨m, fun _ => 0, g⟩ (fun r => (∀ c : Dev Cert.DropeRefIdeal.nD,
      r.2.mem ((c.tc : Thread Cert.DropeRefIdeal.nD Cert.DropeRefIdeal.τ).loc Cert.DropeRefIdeal.main_arg0) = m ((c.tc : Thread Cert.DropeRefIdeal.nD Cert.DropeRefIdeal.τ).loc Cert.DropeRefIdeal.main_arg0)
      ∧ r.2.mem ((c.tc : Thread Cert.DropeRefIdeal.nD Cert.DropeRefIdeal.τ).loc Cert.DropeRefIdeal.main_arg1) = m ((c.tc : Thread Cert.DropeRefIdeal.nD Cert.DropeRefIdeal.τ).loc Cert.DropeRefIdeal.main_arg1)
      ∧ r.2.mem ((c.tc : Thread Cert.DropeRefIdeal.nD Cert.DropeRefIdeal.τ).loc Cert.DropeRefIdeal.main_arg2) = m ((c.tc : Thread Cert.DropeRefIdeal.nD Cert.DropeRefIdeal.τ).loc Cert.DropeRefIdeal.main_arg2)
      ∧ r.2.mem ((c.tc : Thread Cert.DropeRefIdeal.nD Cert.DropeRefIdeal.τ).loc Cert.DropeRefIdeal.main_arg3) = m ((c.tc : Thread Cert.DropeRefIdeal.nD Cert.DropeRefIdeal.τ).loc Cert.DropeRefIdeal.main_arg3)
      ∧ r.2.mem ((c.tc : Thread Cert.DropeRefIdeal.nD Cert.DropeRefIdeal.τ).loc Cert.DropeRefIdeal.main_arg4) = m ((c.tc : Thread Cert.DropeRefIdeal.nD Cert.DropeRefIdeal.τ).loc Cert.DropeRefIdeal.main_arg4))
      ∧ r.2.sem = fun _ => 0)

def quiescent_Dconv [hDconv : Cert.Dconv.Facts] : Prop :=
  ∀ (m : (ℓ : Loc Cert.Dconv.nD Cert.Dconv.τ Cert.Dconv.sig) → Buf (Elt Bits) ℓ) (g : Dev Cert.Dconv.nD → PrngReg), Pre_Dconv m →
    θ_run (Cert.Dconv.defs (F := Bits)) (onTc (τ := Cert.Dconv.τ) (Cert.Dconv.main (F := Bits))) ⟨m, fun _ => 0, g⟩ (fun r => (∀ c : Dev Cert.Dconv.nD,
      r.2.mem ((c.tc : Thread Cert.Dconv.nD Cert.Dconv.τ).loc Cert.Dconv.main_arg0) = m ((c.tc : Thread Cert.Dconv.nD Cert.Dconv.τ).loc Cert.Dconv.main_arg0)
      ∧ r.2.mem ((c.tc : Thread Cert.Dconv.nD Cert.Dconv.τ).loc Cert.Dconv.main_arg1) = m ((c.tc : Thread Cert.Dconv.nD Cert.Dconv.τ).loc Cert.Dconv.main_arg1)
      ∧ r.2.mem ((c.tc : Thread Cert.Dconv.nD Cert.Dconv.τ).loc Cert.Dconv.main_arg2) = m ((c.tc : Thread Cert.Dconv.nD Cert.Dconv.τ).loc Cert.Dconv.main_arg2)
      ∧ r.2.mem ((c.tc : Thread Cert.Dconv.nD Cert.Dconv.τ).loc Cert.Dconv.main_arg3) = m ((c.tc : Thread Cert.Dconv.nD Cert.Dconv.τ).loc Cert.Dconv.main_arg3)
      ∧ r.2.mem ((c.tc : Thread Cert.Dconv.nD Cert.Dconv.τ).loc Cert.Dconv.main_arg4) = m ((c.tc : Thread Cert.Dconv.nD Cert.Dconv.τ).loc Cert.Dconv.main_arg4))
      ∧ r.2.sem = fun _ => 0)

def quiescent_DconvIdeal [hDconvIdeal : Cert.DconvIdeal.Facts] : Prop :=
  ∀ (m : (ℓ : Loc Cert.DconvIdeal.nD Cert.DconvIdeal.τ Cert.DconvIdeal.sig) → Buf (Elt Ideal) ℓ) (g : Dev Cert.DconvIdeal.nD → PrngReg), Pre_DconvIdeal m →
    θ_run (Cert.DconvIdeal.defs (F := Ideal)) (onTc (τ := Cert.DconvIdeal.τ) (Cert.DconvIdeal.main (F := Ideal))) ⟨m, fun _ => 0, g⟩ (fun r => (∀ c : Dev Cert.DconvIdeal.nD,
      r.2.mem ((c.tc : Thread Cert.DconvIdeal.nD Cert.DconvIdeal.τ).loc Cert.DconvIdeal.main_arg0) = m ((c.tc : Thread Cert.DconvIdeal.nD Cert.DconvIdeal.τ).loc Cert.DconvIdeal.main_arg0)
      ∧ r.2.mem ((c.tc : Thread Cert.DconvIdeal.nD Cert.DconvIdeal.τ).loc Cert.DconvIdeal.main_arg1) = m ((c.tc : Thread Cert.DconvIdeal.nD Cert.DconvIdeal.τ).loc Cert.DconvIdeal.main_arg1)
      ∧ r.2.mem ((c.tc : Thread Cert.DconvIdeal.nD Cert.DconvIdeal.τ).loc Cert.DconvIdeal.main_arg2) = m ((c.tc : Thread Cert.DconvIdeal.nD Cert.DconvIdeal.τ).loc Cert.DconvIdeal.main_arg2)
      ∧ r.2.mem ((c.tc : Thread Cert.DconvIdeal.nD Cert.DconvIdeal.τ).loc Cert.DconvIdeal.main_arg3) = m ((c.tc : Thread Cert.DconvIdeal.nD Cert.DconvIdeal.τ).loc Cert.DconvIdeal.main_arg3)
      ∧ r.2.mem ((c.tc : Thread Cert.DconvIdeal.nD Cert.DconvIdeal.τ).loc Cert.DconvIdeal.main_arg4) = m ((c.tc : Thread Cert.DconvIdeal.nD Cert.DconvIdeal.τ).loc Cert.DconvIdeal.main_arg4))
      ∧ r.2.sem = fun _ => 0)

def quiescent_DconvRefIdeal [hDconvRefIdeal : Cert.DconvRefIdeal.Facts] : Prop :=
  ∀ (m : (ℓ : Loc Cert.DconvRefIdeal.nD Cert.DconvRefIdeal.τ Cert.DconvRefIdeal.sig) → Buf (Elt Ideal) ℓ) (g : Dev Cert.DconvRefIdeal.nD → PrngReg), Pre_DconvRefIdeal m →
    θ_run (Cert.DconvRefIdeal.defs (F := Ideal)) (onTc (τ := Cert.DconvRefIdeal.τ) (Cert.DconvRefIdeal.main (F := Ideal))) ⟨m, fun _ => 0, g⟩ (fun r => (∀ c : Dev Cert.DconvRefIdeal.nD,
      r.2.mem ((c.tc : Thread Cert.DconvRefIdeal.nD Cert.DconvRefIdeal.τ).loc Cert.DconvRefIdeal.main_arg0) = m ((c.tc : Thread Cert.DconvRefIdeal.nD Cert.DconvRefIdeal.τ).loc Cert.DconvRefIdeal.main_arg0)
      ∧ r.2.mem ((c.tc : Thread Cert.DconvRefIdeal.nD Cert.DconvRefIdeal.τ).loc Cert.DconvRefIdeal.main_arg1) = m ((c.tc : Thread Cert.DconvRefIdeal.nD Cert.DconvRefIdeal.τ).loc Cert.DconvRefIdeal.main_arg1)
      ∧ r.2.mem ((c.tc : Thread Cert.DconvRefIdeal.nD Cert.DconvRefIdeal.τ).loc Cert.DconvRefIdeal.main_arg2) = m ((c.tc : Thread Cert.DconvRefIdeal.nD Cert.DconvRefIdeal.τ).loc Cert.DconvRefIdeal.main_arg2)
      ∧ r.2.mem ((c.tc : Thread Cert.DconvRefIdeal.nD Cert.DconvRefIdeal.τ).loc Cert.DconvRefIdeal.main_arg3) = m ((c.tc : Thread Cert.DconvRefIdeal.nD Cert.DconvRefIdeal.τ).loc Cert.DconvRefIdeal.main_arg3)
      ∧ r.2.mem ((c.tc : Thread Cert.DconvRefIdeal.nD Cert.DconvRefIdeal.τ).loc Cert.DconvRefIdeal.main_arg4) = m ((c.tc : Thread Cert.DconvRefIdeal.nD Cert.DconvRefIdeal.τ).loc Cert.DconvRefIdeal.main_arg4))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_Xat [hXat : Cert.Xat.Facts] : Prop :=
  ∀ (m : (ℓ : Loc Cert.Xat.nD Cert.Xat.τ Cert.Xat.sig) → Buf (Elt Bits) ℓ) (g : Dev Cert.Xat.nD → PrngReg), Pre_Xat m →
    θ_run (Cert.Xat.defs (F := Bits)) (onTc (τ := Cert.Xat.τ) (Cert.Xat.main (F := Bits))) ⟨m, fun _ => 0, g⟩ (fun r => (∀ c : Dev Cert.Xat.nD,
      r.2.mem ((c.tc : Thread Cert.Xat.nD Cert.Xat.τ).loc Cert.Xat.main_arg0) = m ((c.tc : Thread Cert.Xat.nD Cert.Xat.τ).loc Cert.Xat.main_arg0)
      ∧ r.2.mem ((c.tc : Thread Cert.Xat.nD Cert.Xat.τ).loc Cert.Xat.main_arg1) = m ((c.tc : Thread Cert.Xat.nD Cert.Xat.τ).loc Cert.Xat.main_arg1))
      ∧ r.2.sem = fun _ => 0)

def quiescent_XatIdeal [hXatIdeal : Cert.XatIdeal.Facts] : Prop :=
  ∀ (m : (ℓ : Loc Cert.XatIdeal.nD Cert.XatIdeal.τ Cert.XatIdeal.sig) → Buf (Elt Ideal) ℓ) (g : Dev Cert.XatIdeal.nD → PrngReg), Pre_XatIdeal m →
    θ_run (Cert.XatIdeal.defs (F := Ideal)) (onTc (τ := Cert.XatIdeal.τ) (Cert.XatIdeal.main (F := Ideal))) ⟨m, fun _ => 0, g⟩ (fun r => (∀ c : Dev Cert.XatIdeal.nD,
      r.2.mem ((c.tc : Thread Cert.XatIdeal.nD Cert.XatIdeal.τ).loc Cert.XatIdeal.main_arg0) = m ((c.tc : Thread Cert.XatIdeal.nD Cert.XatIdeal.τ).loc Cert.XatIdeal.main_arg0)
      ∧ r.2.mem ((c.tc : Thread Cert.XatIdeal.nD Cert.XatIdeal.τ).loc Cert.XatIdeal.main_arg1) = m ((c.tc : Thread Cert.XatIdeal.nD Cert.XatIdeal.τ).loc Cert.XatIdeal.main_arg1))
      ∧ r.2.sem = fun _ => 0)

def quiescent_XatRefIdeal [hXatRefIdeal : Cert.XatRefIdeal.Facts] : Prop :=
  ∀ (m : (ℓ : Loc Cert.XatRefIdeal.nD Cert.XatRefIdeal.τ Cert.XatRefIdeal.sig) → Buf (Elt Ideal) ℓ) (g : Dev Cert.XatRefIdeal.nD → PrngReg), Pre_XatRefIdeal m →
    θ_run (Cert.XatRefIdeal.defs (F := Ideal)) (onTc (τ := Cert.XatRefIdeal.τ) (Cert.XatRefIdeal.main (F := Ideal))) ⟨m, fun _ => 0, g⟩ (fun r => (∀ c : Dev Cert.XatRefIdeal.nD,
      r.2.mem ((c.tc : Thread Cert.XatRefIdeal.nD Cert.XatRefIdeal.τ).loc Cert.XatRefIdeal.main_arg0) = m ((c.tc : Thread Cert.XatRefIdeal.nD Cert.XatRefIdeal.τ).loc Cert.XatRefIdeal.main_arg0)
      ∧ r.2.mem ((c.tc : Thread Cert.XatRefIdeal.nD Cert.XatRefIdeal.τ).loc Cert.XatRefIdeal.main_arg1) = m ((c.tc : Thread Cert.XatRefIdeal.nD Cert.XatRefIdeal.τ).loc Cert.XatRefIdeal.main_arg1))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0)
      ∧ r.2.mem ((c.tc : Thread Cert.Rope.nD Cert.Rope.τ).loc Cert.Rope.main_arg1) = m ((c.tc : Thread Cert.Rope.nD Cert.Rope.τ).loc Cert.Rope.main_arg1)
      ∧ r.2.mem ((c.tc : Thread Cert.Rope.nD Cert.Rope.τ).loc Cert.Rope.main_arg2) = m ((c.tc : Thread Cert.Rope.nD Cert.Rope.τ).loc Cert.Rope.main_arg2))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
      ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
      ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0)
      ∧ r.2.mem ((c.tc : Thread Cert.RopeRefIdeal.nD Cert.RopeRefIdeal.τ).loc Cert.RopeRefIdeal.main_arg1) = m ((c.tc : Thread Cert.RopeRefIdeal.nD Cert.RopeRefIdeal.τ).loc Cert.RopeRefIdeal.main_arg1)
      ∧ r.2.mem ((c.tc : Thread Cert.RopeRefIdeal.nD Cert.RopeRefIdeal.τ).loc Cert.RopeRefIdeal.main_arg2) = m ((c.tc : Thread Cert.RopeRefIdeal.nD Cert.RopeRefIdeal.τ).loc Cert.RopeRefIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2))
      ∧ r.2.sem = fun _ => 0)

def quiescent_Xq [hXq : Cert.Xq.Facts] : Prop :=
  ∀ (m : (ℓ : Loc Cert.Xq.nD Cert.Xq.τ Cert.Xq.sig) → Buf (Elt Bits) ℓ) (g : Dev Cert.Xq.nD → PrngReg), Pre_Xq m →
    θ_run (Cert.Xq.defs (F := Bits)) (onTc (τ := Cert.Xq.τ) (Cert.Xq.main (F := Bits))) ⟨m, fun _ => 0, g⟩ (fun r => (∀ c : Dev Cert.Xq.nD,
      r.2.mem ((c.tc : Thread Cert.Xq.nD Cert.Xq.τ).loc Cert.Xq.main_arg0) = m ((c.tc : Thread Cert.Xq.nD Cert.Xq.τ).loc Cert.Xq.main_arg0)
      ∧ r.2.mem ((c.tc : Thread Cert.Xq.nD Cert.Xq.τ).loc Cert.Xq.main_arg1) = m ((c.tc : Thread Cert.Xq.nD Cert.Xq.τ).loc Cert.Xq.main_arg1))
      ∧ r.2.sem = fun _ => 0)

def quiescent_XqIdeal [hXqIdeal : Cert.XqIdeal.Facts] : Prop :=
  ∀ (m : (ℓ : Loc Cert.XqIdeal.nD Cert.XqIdeal.τ Cert.XqIdeal.sig) → Buf (Elt Ideal) ℓ) (g : Dev Cert.XqIdeal.nD → PrngReg), Pre_XqIdeal m →
    θ_run (Cert.XqIdeal.defs (F := Ideal)) (onTc (τ := Cert.XqIdeal.τ) (Cert.XqIdeal.main (F := Ideal))) ⟨m, fun _ => 0, g⟩ (fun r => (∀ c : Dev Cert.XqIdeal.nD,
      r.2.mem ((c.tc : Thread Cert.XqIdeal.nD Cert.XqIdeal.τ).loc Cert.XqIdeal.main_arg0) = m ((c.tc : Thread Cert.XqIdeal.nD Cert.XqIdeal.τ).loc Cert.XqIdeal.main_arg0)
      ∧ r.2.mem ((c.tc : Thread Cert.XqIdeal.nD Cert.XqIdeal.τ).loc Cert.XqIdeal.main_arg1) = m ((c.tc : Thread Cert.XqIdeal.nD Cert.XqIdeal.τ).loc Cert.XqIdeal.main_arg1))
      ∧ r.2.sem = fun _ => 0)

def quiescent_XqRefIdeal [hXqRefIdeal : Cert.XqRefIdeal.Facts] : Prop :=
  ∀ (m : (ℓ : Loc Cert.XqRefIdeal.nD Cert.XqRefIdeal.τ Cert.XqRefIdeal.sig) → Buf (Elt Ideal) ℓ) (g : Dev Cert.XqRefIdeal.nD → PrngReg), Pre_XqRefIdeal m →
    θ_run (Cert.XqRefIdeal.defs (F := Ideal)) (onTc (τ := Cert.XqRefIdeal.τ) (Cert.XqRefIdeal.main (F := Ideal))) ⟨m, fun _ => 0, g⟩ (fun r => (∀ c : Dev Cert.XqRefIdeal.nD,
      r.2.mem ((c.tc : Thread Cert.XqRefIdeal.nD Cert.XqRefIdeal.τ).loc Cert.XqRefIdeal.main_arg0) = m ((c.tc : Thread Cert.XqRefIdeal.nD Cert.XqRefIdeal.τ).loc Cert.XqRefIdeal.main_arg0)
      ∧ r.2.mem ((c.tc : Thread Cert.XqRefIdeal.nD Cert.XqRefIdeal.τ).loc Cert.XqRefIdeal.main_arg1) = m ((c.tc : Thread Cert.XqRefIdeal.nD Cert.XqRefIdeal.τ).loc Cert.XqRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Oo [hOo : Cert.Oo.Facts] : Prop :=
  ∀ (m : (ℓ : Loc Cert.Oo.nD Cert.Oo.τ Cert.Oo.sig) → Buf (Elt Bits) ℓ) (g : Dev Cert.Oo.nD → PrngReg), Pre_Oo m →
    θ_run (Cert.Oo.defs (F := Bits)) (onTc (τ := Cert.Oo.τ) (Cert.Oo.main (F := Bits))) ⟨m, fun _ => 0, g⟩ (fun r => (∀ c : Dev Cert.Oo.nD,
      r.2.mem ((c.tc : Thread Cert.Oo.nD Cert.Oo.τ).loc Cert.Oo.main_arg0) = m ((c.tc : Thread Cert.Oo.nD Cert.Oo.τ).loc Cert.Oo.main_arg0)
      ∧ r.2.mem ((c.tc : Thread Cert.Oo.nD Cert.Oo.τ).loc Cert.Oo.main_arg1) = m ((c.tc : Thread Cert.Oo.nD Cert.Oo.τ).loc Cert.Oo.main_arg1)
      ∧ r.2.mem ((c.tc : Thread Cert.Oo.nD Cert.Oo.τ).loc Cert.Oo.main_arg2) = m ((c.tc : Thread Cert.Oo.nD Cert.Oo.τ).loc Cert.Oo.main_arg2)
      ∧ r.2.mem ((c.tc : Thread Cert.Oo.nD Cert.Oo.τ).loc Cert.Oo.main_arg3) = m ((c.tc : Thread Cert.Oo.nD Cert.Oo.τ).loc Cert.Oo.main_arg3))
      ∧ r.2.sem = fun _ => 0)

def quiescent_OoIdeal [hOoIdeal : Cert.OoIdeal.Facts] : Prop :=
  ∀ (m : (ℓ : Loc Cert.OoIdeal.nD Cert.OoIdeal.τ Cert.OoIdeal.sig) → Buf (Elt Ideal) ℓ) (g : Dev Cert.OoIdeal.nD → PrngReg), Pre_OoIdeal m →
    θ_run (Cert.OoIdeal.defs (F := Ideal)) (onTc (τ := Cert.OoIdeal.τ) (Cert.OoIdeal.main (F := Ideal))) ⟨m, fun _ => 0, g⟩ (fun r => (∀ c : Dev Cert.OoIdeal.nD,
      r.2.mem ((c.tc : Thread Cert.OoIdeal.nD Cert.OoIdeal.τ).loc Cert.OoIdeal.main_arg0) = m ((c.tc : Thread Cert.OoIdeal.nD Cert.OoIdeal.τ).loc Cert.OoIdeal.main_arg0)
      ∧ r.2.mem ((c.tc : Thread Cert.OoIdeal.nD Cert.OoIdeal.τ).loc Cert.OoIdeal.main_arg1) = m ((c.tc : Thread Cert.OoIdeal.nD Cert.OoIdeal.τ).loc Cert.OoIdeal.main_arg1)
      ∧ r.2.mem ((c.tc : Thread Cert.OoIdeal.nD Cert.OoIdeal.τ).loc Cert.OoIdeal.main_arg2) = m ((c.tc : Thread Cert.OoIdeal.nD Cert.OoIdeal.τ).loc Cert.OoIdeal.main_arg2)
      ∧ r.2.mem ((c.tc : Thread Cert.OoIdeal.nD Cert.OoIdeal.τ).loc Cert.OoIdeal.main_arg3) = m ((c.tc : Thread Cert.OoIdeal.nD Cert.OoIdeal.τ).loc Cert.OoIdeal.main_arg3))
      ∧ r.2.sem = fun _ => 0)

def quiescent_OoRefIdeal [hOoRefIdeal : Cert.OoRefIdeal.Facts] : Prop :=
  ∀ (m : (ℓ : Loc Cert.OoRefIdeal.nD Cert.OoRefIdeal.τ Cert.OoRefIdeal.sig) → Buf (Elt Ideal) ℓ) (g : Dev Cert.OoRefIdeal.nD → PrngReg), Pre_OoRefIdeal m →
    θ_run (Cert.OoRefIdeal.defs (F := Ideal)) (onTc (τ := Cert.OoRefIdeal.τ) (Cert.OoRefIdeal.main (F := Ideal))) ⟨m, fun _ => 0, g⟩ (fun r => (∀ c : Dev Cert.OoRefIdeal.nD,
      r.2.mem ((c.tc : Thread Cert.OoRefIdeal.nD Cert.OoRefIdeal.τ).loc Cert.OoRefIdeal.main_arg0) = m ((c.tc : Thread Cert.OoRefIdeal.nD Cert.OoRefIdeal.τ).loc Cert.OoRefIdeal.main_arg0)
      ∧ r.2.mem ((c.tc : Thread Cert.OoRefIdeal.nD Cert.OoRefIdeal.τ).loc Cert.OoRefIdeal.main_arg1) = m ((c.tc : Thread Cert.OoRefIdeal.nD Cert.OoRefIdeal.τ).loc Cert.OoRefIdeal.main_arg1)
      ∧ r.2.mem ((c.tc : Thread Cert.OoRefIdeal.nD Cert.OoRefIdeal.τ).loc Cert.OoRefIdeal.main_arg2) = m ((c.tc : Thread Cert.OoRefIdeal.nD Cert.OoRefIdeal.τ).loc Cert.OoRefIdeal.main_arg2)
      ∧ r.2.mem ((c.tc : Thread Cert.OoRefIdeal.nD Cert.OoRefIdeal.τ).loc Cert.OoRefIdeal.main_arg3) = m ((c.tc : Thread Cert.OoRefIdeal.nD Cert.OoRefIdeal.τ).loc Cert.OoRefIdeal.main_arg3))
      ∧ r.2.sem = fun _ => 0)

def quiescent_Xo [hXo : Cert.Xo.Facts] : Prop :=
  ∀ (m : (ℓ : Loc Cert.Xo.nD Cert.Xo.τ Cert.Xo.sig) → Buf (Elt Bits) ℓ) (g : Dev Cert.Xo.nD → PrngReg), Pre_Xo m →
    θ_run (Cert.Xo.defs (F := Bits)) (onTc (τ := Cert.Xo.τ) (Cert.Xo.main (F := Bits))) ⟨m, fun _ => 0, g⟩ (fun r => (∀ c : Dev Cert.Xo.nD,
      r.2.mem ((c.tc : Thread Cert.Xo.nD Cert.Xo.τ).loc Cert.Xo.main_arg0) = m ((c.tc : Thread Cert.Xo.nD Cert.Xo.τ).loc Cert.Xo.main_arg0)
      ∧ r.2.mem ((c.tc : Thread Cert.Xo.nD Cert.Xo.τ).loc Cert.Xo.main_arg1) = m ((c.tc : Thread Cert.Xo.nD Cert.Xo.τ).loc Cert.Xo.main_arg1)
      ∧ r.2.mem ((c.tc : Thread Cert.Xo.nD Cert.Xo.τ).loc Cert.Xo.main_arg2) = m ((c.tc : Thread Cert.Xo.nD Cert.Xo.τ).loc Cert.Xo.main_arg2)
      ∧ r.2.mem ((c.tc : Thread Cert.Xo.nD Cert.Xo.τ).loc Cert.Xo.main_arg3) = m ((c.tc : Thread Cert.Xo.nD Cert.Xo.τ).loc Cert.Xo.main_arg3))
      ∧ r.2.sem = fun _ => 0)

def quiescent_XoIdeal [hXoIdeal : Cert.XoIdeal.Facts] : Prop :=
  ∀ (m : (ℓ : Loc Cert.XoIdeal.nD Cert.XoIdeal.τ Cert.XoIdeal.sig) → Buf (Elt Ideal) ℓ) (g : Dev Cert.XoIdeal.nD → PrngReg), Pre_XoIdeal m →
    θ_run (Cert.XoIdeal.defs (F := Ideal)) (onTc (τ := Cert.XoIdeal.τ) (Cert.XoIdeal.main (F := Ideal))) ⟨m, fun _ => 0, g⟩ (fun r => (∀ c : Dev Cert.XoIdeal.nD,
      r.2.mem ((c.tc : Thread Cert.XoIdeal.nD Cert.XoIdeal.τ).loc Cert.XoIdeal.main_arg0) = m ((c.tc : Thread Cert.XoIdeal.nD Cert.XoIdeal.τ).loc Cert.XoIdeal.main_arg0)
      ∧ r.2.mem ((c.tc : Thread Cert.XoIdeal.nD Cert.XoIdeal.τ).loc Cert.XoIdeal.main_arg1) = m ((c.tc : Thread Cert.XoIdeal.nD Cert.XoIdeal.τ).loc Cert.XoIdeal.main_arg1)
      ∧ r.2.mem ((c.tc : Thread Cert.XoIdeal.nD Cert.XoIdeal.τ).loc Cert.XoIdeal.main_arg2) = m ((c.tc : Thread Cert.XoIdeal.nD Cert.XoIdeal.τ).loc Cert.XoIdeal.main_arg2)
      ∧ r.2.mem ((c.tc : Thread Cert.XoIdeal.nD Cert.XoIdeal.τ).loc Cert.XoIdeal.main_arg3) = m ((c.tc : Thread Cert.XoIdeal.nD Cert.XoIdeal.τ).loc Cert.XoIdeal.main_arg3))
      ∧ r.2.sem = fun _ => 0)

def quiescent_XoRefIdeal [hXoRefIdeal : Cert.XoRefIdeal.Facts] : Prop :=
  ∀ (m : (ℓ : Loc Cert.XoRefIdeal.nD Cert.XoRefIdeal.τ Cert.XoRefIdeal.sig) → Buf (Elt Ideal) ℓ) (g : Dev Cert.XoRefIdeal.nD → PrngReg), Pre_XoRefIdeal m →
    θ_run (Cert.XoRefIdeal.defs (F := Ideal)) (onTc (τ := Cert.XoRefIdeal.τ) (Cert.XoRefIdeal.main (F := Ideal))) ⟨m, fun _ => 0, g⟩ (fun r => (∀ c : Dev Cert.XoRefIdeal.nD,
      r.2.mem ((c.tc : Thread Cert.XoRefIdeal.nD Cert.XoRefIdeal.τ).loc Cert.XoRefIdeal.main_arg0) = m ((c.tc : Thread Cert.XoRefIdeal.nD Cert.XoRefIdeal.τ).loc Cert.XoRefIdeal.main_arg0)
      ∧ r.2.mem ((c.tc : Thread Cert.XoRefIdeal.nD Cert.XoRefIdeal.τ).loc Cert.XoRefIdeal.main_arg1) = m ((c.tc : Thread Cert.XoRefIdeal.nD Cert.XoRefIdeal.τ).loc Cert.XoRefIdeal.main_arg1)
      ∧ r.2.mem ((c.tc : Thread Cert.XoRefIdeal.nD Cert.XoRefIdeal.τ).loc Cert.XoRefIdeal.main_arg2) = m ((c.tc : Thread Cert.XoRefIdeal.nD Cert.XoRefIdeal.τ).loc Cert.XoRefIdeal.main_arg2)
      ∧ r.2.mem ((c.tc : Thread Cert.XoRefIdeal.nD Cert.XoRefIdeal.τ).loc Cert.XoRefIdeal.main_arg3) = m ((c.tc : Thread Cert.XoRefIdeal.nD Cert.XoRefIdeal.τ).loc Cert.XoRefIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_v126) = v1 c
          ∧ r.2.mem ((c.tc : Thread Cert.ReferenceIdeal.nD Cert.ReferenceIdeal.τ).loc Cert.ReferenceIdeal.main_v127) = v2 c
          ∧ r.2.mem ((c.tc : Thread Cert.ReferenceIdeal.nD Cert.ReferenceIdeal.τ).loc Cert.ReferenceIdeal.main_v74) = v3 c
          ∧ r.2.mem ((c.tc : Thread Cert.ReferenceIdeal.nD Cert.ReferenceIdeal.τ).loc Cert.ReferenceIdeal.main_v128) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Dwgu_DwguIdeal : Prop :=
  True

def algebraic_DwguIdeal_DwguRefIdeal [hDwguIdeal : Cert.DwguIdeal.Facts] [hDwguRefIdeal : Cert.DwguRefIdeal.Facts] : Prop :=
  ∀ (m : (ℓ : Loc Cert.DwguIdeal.nD Cert.DwguIdeal.τ Cert.DwguIdeal.sig) → Buf (Elt Ideal) ℓ) (g : Dev Cert.DwguIdeal.nD → PrngReg)
    (m' : (ℓ : Loc Cert.DwguRefIdeal.nD Cert.DwguRefIdeal.τ Cert.DwguRefIdeal.sig) → Buf (Elt Ideal) ℓ) (g' : Dev Cert.DwguRefIdeal.nD → PrngReg), Pre_DwguIdeal m →
    (∀ c : Dev Cert.DwguIdeal.nD,
      m' ((c.tc : Thread Cert.DwguRefIdeal.nD Cert.DwguRefIdeal.τ).loc Cert.DwguRefIdeal.main_arg0) = m ((c.tc : Thread Cert.DwguIdeal.nD Cert.DwguIdeal.τ).loc Cert.DwguIdeal.main_arg0)
      ∧ m' ((c.tc : Thread Cert.DwguRefIdeal.nD Cert.DwguRefIdeal.τ).loc Cert.DwguRefIdeal.main_arg1) = m ((c.tc : Thread Cert.DwguIdeal.nD Cert.DwguIdeal.τ).loc Cert.DwguIdeal.main_arg1)) →
    ∃ (v0 : (c : Dev Cert.DwguIdeal.nD) → Buf (Elt Ideal) ((c.tc : Thread Cert.DwguIdeal.nD Cert.DwguIdeal.τ).loc Cert.DwguIdeal.main_v0)),
      θ_run (Cert.DwguIdeal.defs (F := Ideal)) (onTc (τ := Cert.DwguIdeal.τ) (Cert.DwguIdeal.main (F := Ideal))) ⟨m, fun _ => 0, g⟩ (fun r => ∀ c : Dev Cert.DwguIdeal.nD,
          r.2.mem ((c.tc : Thread Cert.DwguIdeal.nD Cert.DwguIdeal.τ).loc Cert.DwguIdeal.main_v0) = v0 c
          ∧ r.2.mem ((c.tc : Thread Cert.DwguIdeal.nD Cert.DwguIdeal.τ).loc Cert.DwguIdeal.main_arg0) = m ((c.tc : Thread Cert.DwguIdeal.nD Cert.DwguIdeal.τ).loc Cert.DwguIdeal.main_arg0)
          ∧ r.2.mem ((c.tc : Thread Cert.DwguIdeal.nD Cert.DwguIdeal.τ).loc Cert.DwguIdeal.main_arg1) = m ((c.tc : Thread Cert.DwguIdeal.nD Cert.DwguIdeal.τ).loc Cert.DwguIdeal.main_arg1))
      ∧ θ_run (Cert.DwguRefIdeal.defs (F := Ideal)) (onTc (τ := Cert.DwguRefIdeal.τ) (Cert.DwguRefIdeal.main (F := Ideal))) ⟨m', fun _ => 0, g'⟩ (fun r => ∀ c : Dev Cert.DwguRefIdeal.nD,
          r.2.mem ((c.tc : Thread Cert.DwguRefIdeal.nD Cert.DwguRefIdeal.τ).loc Cert.DwguRefIdeal.main_v14) = v0 c
          ∧ r.2.mem ((c.tc : Thread Cert.DwguRefIdeal.nD Cert.DwguRefIdeal.τ).loc Cert.DwguRefIdeal.main_arg0) = m' ((c.tc : Thread Cert.DwguRefIdeal.nD Cert.DwguRefIdeal.τ).loc Cert.DwguRefIdeal.main_arg0)
          ∧ r.2.mem ((c.tc : Thread Cert.DwguRefIdeal.nD Cert.DwguRefIdeal.τ).loc Cert.DwguRefIdeal.main_arg1) = m' ((c.tc : Thread Cert.DwguRefIdeal.nD Cert.DwguRefIdeal.τ).loc Cert.DwguRefIdeal.main_arg1))

def preserves_Dwd_DwdIdeal : Prop :=
  True

def algebraic_DwdIdeal_DwdRefIdeal [hDwdIdeal : Cert.DwdIdeal.Facts] [hDwdRefIdeal : Cert.DwdRefIdeal.Facts] : Prop :=
  ∀ (m : (ℓ : Loc Cert.DwdIdeal.nD Cert.DwdIdeal.τ Cert.DwdIdeal.sig) → Buf (Elt Ideal) ℓ) (g : Dev Cert.DwdIdeal.nD → PrngReg)
    (m' : (ℓ : Loc Cert.DwdRefIdeal.nD Cert.DwdRefIdeal.τ Cert.DwdRefIdeal.sig) → Buf (Elt Ideal) ℓ) (g' : Dev Cert.DwdRefIdeal.nD → PrngReg), Pre_DwdIdeal m →
    (∀ c : Dev Cert.DwdIdeal.nD,
      m' ((c.tc : Thread Cert.DwdRefIdeal.nD Cert.DwdRefIdeal.τ).loc Cert.DwdRefIdeal.main_arg0) = m ((c.tc : Thread Cert.DwdIdeal.nD Cert.DwdIdeal.τ).loc Cert.DwdIdeal.main_arg0)
      ∧ m' ((c.tc : Thread Cert.DwdRefIdeal.nD Cert.DwdRefIdeal.τ).loc Cert.DwdRefIdeal.main_arg1) = m ((c.tc : Thread Cert.DwdIdeal.nD Cert.DwdIdeal.τ).loc Cert.DwdIdeal.main_arg1)) →
    ∃ (v0 : (c : Dev Cert.DwdIdeal.nD) → Buf (Elt Ideal) ((c.tc : Thread Cert.DwdIdeal.nD Cert.DwdIdeal.τ).loc Cert.DwdIdeal.main_v0)),
      θ_run (Cert.DwdIdeal.defs (F := Ideal)) (onTc (τ := Cert.DwdIdeal.τ) (Cert.DwdIdeal.main (F := Ideal))) ⟨m, fun _ => 0, g⟩ (fun r => ∀ c : Dev Cert.DwdIdeal.nD,
          r.2.mem ((c.tc : Thread Cert.DwdIdeal.nD Cert.DwdIdeal.τ).loc Cert.DwdIdeal.main_v0) = v0 c
          ∧ r.2.mem ((c.tc : Thread Cert.DwdIdeal.nD Cert.DwdIdeal.τ).loc Cert.DwdIdeal.main_arg0) = m ((c.tc : Thread Cert.DwdIdeal.nD Cert.DwdIdeal.τ).loc Cert.DwdIdeal.main_arg0)
          ∧ r.2.mem ((c.tc : Thread Cert.DwdIdeal.nD Cert.DwdIdeal.τ).loc Cert.DwdIdeal.main_arg1) = m ((c.tc : Thread Cert.DwdIdeal.nD Cert.DwdIdeal.τ).loc Cert.DwdIdeal.main_arg1))
      ∧ θ_run (Cert.DwdRefIdeal.defs (F := Ideal)) (onTc (τ := Cert.DwdRefIdeal.τ) (Cert.DwdRefIdeal.main (F := Ideal))) ⟨m', fun _ => 0, g'⟩ (fun r => ∀ c : Dev Cert.DwdRefIdeal.nD,
          r.2.mem ((c.tc : Thread Cert.DwdRefIdeal.nD Cert.DwdRefIdeal.τ).loc Cert.DwdRefIdeal.main_v11) = v0 c
          ∧ r.2.mem ((c.tc : Thread Cert.DwdRefIdeal.nD Cert.DwdRefIdeal.τ).loc Cert.DwdRefIdeal.main_arg0) = m' ((c.tc : Thread Cert.DwdRefIdeal.nD Cert.DwdRefIdeal.τ).loc Cert.DwdRefIdeal.main_arg0)
          ∧ r.2.mem ((c.tc : Thread Cert.DwdRefIdeal.nD Cert.DwdRefIdeal.τ).loc Cert.DwdRefIdeal.main_arg1) = m' ((c.tc : Thread Cert.DwdRefIdeal.nD Cert.DwdRefIdeal.τ).loc Cert.DwdRefIdeal.main_arg1))

def preserves_Dh_DhIdeal : Prop :=
  True

def algebraic_DhIdeal_DhRefIdeal [hDhIdeal : Cert.DhIdeal.Facts] [hDhRefIdeal : Cert.DhRefIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)) →
    ∃ (v0 : (c : Dev Cert.DhIdeal.nD) → Buf (Elt Ideal) ((c.tc : Thread Cert.DhIdeal.nD Cert.DhIdeal.τ).loc Cert.DhIdeal.main_v1)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v1) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v13) = v0 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1))

def preserves_Dact_DactIdeal : Prop :=
  True

def algebraic_DactIdeal_DactRefIdeal [hDactIdeal : Cert.DactIdeal.Facts] [hDactRefIdeal : Cert.DactRefIdeal.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactRefIdeal.nD Cert.DactRefIdeal.τ Cert.DactRefIdeal.sig) → Buf (Elt Ideal) ℓ) (g' : Dev Cert.DactRefIdeal.nD → PrngReg), Pre_DactIdeal m →
    (∀ c : Dev Cert.DactIdeal.nD,
      m' ((c.tc : Thread Cert.DactRefIdeal.nD Cert.DactRefIdeal.τ).loc Cert.DactRefIdeal.main_arg0) = m ((c.tc : Thread Cert.DactIdeal.nD Cert.DactIdeal.τ).loc Cert.DactIdeal.main_arg0)
      ∧ m' ((c.tc : Thread Cert.DactRefIdeal.nD Cert.DactRefIdeal.τ).loc Cert.DactRefIdeal.main_arg1) = m ((c.tc : Thread Cert.DactIdeal.nD Cert.DactIdeal.τ).loc Cert.DactIdeal.main_arg1)
      ∧ m' ((c.tc : Thread Cert.DactRefIdeal.nD Cert.DactRefIdeal.τ).loc Cert.DactRefIdeal.main_arg2) = m ((c.tc : Thread Cert.DactIdeal.nD Cert.DactIdeal.τ).loc Cert.DactIdeal.main_arg2)
      ∧ m' ((c.tc : Thread Cert.DactRefIdeal.nD Cert.DactRefIdeal.τ).loc Cert.DactRefIdeal.main_arg3) = m ((c.tc : Thread Cert.DactIdeal.nD Cert.DactIdeal.τ).loc Cert.DactIdeal.main_arg3)) →
    ∃ (v0 : (c : Dev Cert.DactIdeal.nD) → Buf (Elt Ideal) ((c.tc : Thread Cert.DactIdeal.nD Cert.DactIdeal.τ).loc Cert.DactIdeal.main_v0)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v0) = v0 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
          ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
          ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ θ_run (Cert.DactRefIdeal.defs (F := Ideal)) (onTc (τ := Cert.DactRefIdeal.τ) (Cert.DactRefIdeal.main (F := Ideal))) ⟨m', fun _ => 0, g'⟩ (fun r => ∀ c : Dev Cert.DactRefIdeal.nD,
          r.2.mem ((c.tc : Thread Cert.DactRefIdeal.nD Cert.DactRefIdeal.τ).loc Cert.DactRefIdeal.main_v23) = v0 c
          ∧ r.2.mem ((c.tc : Thread Cert.DactRefIdeal.nD Cert.DactRefIdeal.τ).loc Cert.DactRefIdeal.main_arg0) = m' ((c.tc : Thread Cert.DactRefIdeal.nD Cert.DactRefIdeal.τ).loc Cert.DactRefIdeal.main_arg0)
          ∧ r.2.mem ((c.tc : Thread Cert.DactRefIdeal.nD Cert.DactRefIdeal.τ).loc Cert.DactRefIdeal.main_arg1) = m' ((c.tc : Thread Cert.DactRefIdeal.nD Cert.DactRefIdeal.τ).loc Cert.DactRefIdeal.main_arg1)
          ∧ r.2.mem ((c.tc : Thread Cert.DactRefIdeal.nD Cert.DactRefIdeal.τ).loc Cert.DactRefIdeal.main_arg2) = m' ((c.tc : Thread Cert.DactRefIdeal.nD Cert.DactRefIdeal.τ).loc Cert.DactRefIdeal.main_arg2)
          ∧ r.2.mem ((c.tc : Thread Cert.DactRefIdeal.nD Cert.DactRefIdeal.τ).loc Cert.DactRefIdeal.main_arg3) = m' ((c.tc : Thread Cert.DactRefIdeal.nD Cert.DactRefIdeal.τ).loc Cert.DactRefIdeal.main_arg3))

def preserves_Dwin_DwinIdeal : Prop :=
  True

def algebraic_DwinIdeal_DwinRefIdeal [hDwinIdeal : Cert.DwinIdeal.Facts] [hDwinRefIdeal : Cert.DwinRefIdeal.Facts] : Prop :=
  ∀ (m : (ℓ : Loc Cert.DwinIdeal.nD Cert.DwinIdeal.τ Cert.DwinIdeal.sig) → Buf (Elt Ideal) ℓ) (g : Dev Cert.DwinIdeal.nD → PrngReg)
    (m' : (ℓ : Loc Cert.DwinRefIdeal.nD Cert.DwinRefIdeal.τ Cert.DwinRefIdeal.sig) → Buf (Elt Ideal) ℓ) (g' : Dev Cert.DwinRefIdeal.nD → PrngReg), Pre_DwinIdeal m →
    (∀ c : Dev Cert.DwinIdeal.nD,
      m' ((c.tc : Thread Cert.DwinRefIdeal.nD Cert.DwinRefIdeal.τ).loc Cert.DwinRefIdeal.main_arg0) = m ((c.tc : Thread Cert.DwinIdeal.nD Cert.DwinIdeal.τ).loc Cert.DwinIdeal.main_arg0)
      ∧ m' ((c.tc : Thread Cert.DwinRefIdeal.nD Cert.DwinRefIdeal.τ).loc Cert.DwinRefIdeal.main_arg1) = m ((c.tc : Thread Cert.DwinIdeal.nD Cert.DwinIdeal.τ).loc Cert.DwinIdeal.main_arg1)) →
    ∃ (v0 : (c : Dev Cert.DwinIdeal.nD) → Buf (Elt Ideal) ((c.tc : Thread Cert.DwinIdeal.nD Cert.DwinIdeal.τ).loc Cert.DwinIdeal.main_v0)),
      θ_run (Cert.DwinIdeal.defs (F := Ideal)) (onTc (τ := Cert.DwinIdeal.τ) (Cert.DwinIdeal.main (F := Ideal))) ⟨m, fun _ => 0, g⟩ (fun r => ∀ c : Dev Cert.DwinIdeal.nD,
          r.2.mem ((c.tc : Thread Cert.DwinIdeal.nD Cert.DwinIdeal.τ).loc Cert.DwinIdeal.main_v0) = v0 c
          ∧ r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
          ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1))
      ∧ θ_run (Cert.DwinRefIdeal.defs (F := Ideal)) (onTc (τ := Cert.DwinRefIdeal.τ) (Cert.DwinRefIdeal.main (F := Ideal))) ⟨m', fun _ => 0, g'⟩ (fun r => ∀ c : Dev Cert.DwinRefIdeal.nD,
          r.2.mem ((c.tc : Thread Cert.DwinRefIdeal.nD Cert.DwinRefIdeal.τ).loc Cert.DwinRefIdeal.main_v6) = v0 c
          ∧ r.2.mem ((c.tc : Thread Cert.DwinRefIdeal.nD Cert.DwinRefIdeal.τ).loc Cert.DwinRefIdeal.main_arg0) = m' ((c.tc : Thread Cert.DwinRefIdeal.nD Cert.DwinRefIdeal.τ).loc Cert.DwinRefIdeal.main_arg0)
          ∧ r.2.mem ((c.tc : Thread Cert.DwinRefIdeal.nD Cert.DwinRefIdeal.τ).loc Cert.DwinRefIdeal.main_arg1) = m' ((c.tc : Thread Cert.DwinRefIdeal.nD Cert.DwinRefIdeal.τ).loc Cert.DwinRefIdeal.main_arg1))

def preserves_Dh2_Dh2Ideal : Prop :=
  True

def algebraic_Dh2Ideal_Dh2RefIdeal [hDh2Ideal : Cert.Dh2Ideal.Facts] [hDh2RefIdeal : Cert.Dh2RefIdeal.Facts] : Prop :=
  ∀ (m : (ℓ : Loc Cert.Dh2Ideal.nD Cert.Dh2Ideal.τ Cert.Dh2Ideal.sig) → Buf (Elt Ideal) ℓ) (g : Dev Cert.Dh2Ideal.nD → PrngReg)
    (m' : (ℓ : Loc Cert.Dh2RefIdeal.nD Cert.Dh2RefIdeal.τ Cert.Dh2RefIdeal.sig) → Buf (Elt Ideal) ℓ) (g' : Dev Cert.Dh2RefIdeal.nD → PrngReg), Pre_Dh2Ideal m →
    (∀ c : Dev Cert.Dh2Ideal.nD,
      m' ((c.tc : Thread Cert.Dh2RefIdeal.nD Cert.Dh2RefIdeal.τ).loc Cert.Dh2RefIdeal.main_arg0) = m ((c.tc : Thread Cert.Dh2Ideal.nD Cert.Dh2Ideal.τ).loc Cert.Dh2Ideal.main_arg0)
      ∧ m' ((c.tc : Thread Cert.Dh2RefIdeal.nD Cert.Dh2RefIdeal.τ).loc Cert.Dh2RefIdeal.main_arg1) = m ((c.tc : Thread Cert.Dh2Ideal.nD Cert.Dh2Ideal.τ).loc Cert.Dh2Ideal.main_arg1)
      ∧ m' ((c.tc : Thread Cert.Dh2RefIdeal.nD Cert.Dh2RefIdeal.τ).loc Cert.Dh2RefIdeal.main_arg2) = m ((c.tc : Thread Cert.Dh2Ideal.nD Cert.Dh2Ideal.τ).loc Cert.Dh2Ideal.main_arg2)) →
    ∃ (v0 : (c : Dev Cert.Dh2Ideal.nD) → Buf (Elt Ideal) ((c.tc : Thread Cert.Dh2Ideal.nD Cert.Dh2Ideal.τ).loc Cert.Dh2Ideal.main_v0)),
      θ_run (Cert.Dh2Ideal.defs (F := Ideal)) (onTc (τ := Cert.Dh2Ideal.τ) (Cert.Dh2Ideal.main (F := Ideal))) ⟨m, fun _ => 0, g⟩ (fun r => ∀ c : Dev Cert.Dh2Ideal.nD,
          r.2.mem ((c.tc : Thread Cert.Dh2Ideal.nD Cert.Dh2Ideal.τ).loc Cert.Dh2Ideal.main_v0) = v0 c
          ∧ r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
          ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1)
          ∧ r.2.mem ((c.tc : Thread Cert.Dh2Ideal.nD Cert.Dh2Ideal.τ).loc Cert.Dh2Ideal.main_arg2) = m ((c.tc : Thread Cert.Dh2Ideal.nD Cert.Dh2Ideal.τ).loc Cert.Dh2Ideal.main_arg2))
      ∧ θ_run (Cert.Dh2RefIdeal.defs (F := Ideal)) (onTc (τ := Cert.Dh2RefIdeal.τ) (Cert.Dh2RefIdeal.main (F := Ideal))) ⟨m', fun _ => 0, g'⟩ (fun r => ∀ c : Dev Cert.Dh2RefIdeal.nD,
          r.2.mem ((c.tc : Thread Cert.Dh2RefIdeal.nD Cert.Dh2RefIdeal.τ).loc Cert.Dh2RefIdeal.main_v6) = v0 c
          ∧ r.2.mem ((c.tc : Thread Cert.Dh2RefIdeal.nD Cert.Dh2RefIdeal.τ).loc Cert.Dh2RefIdeal.main_arg0) = m' ((c.tc : Thread Cert.Dh2RefIdeal.nD Cert.Dh2RefIdeal.τ).loc Cert.Dh2RefIdeal.main_arg0)
          ∧ r.2.mem ((c.tc : Thread Cert.Dh2RefIdeal.nD Cert.Dh2RefIdeal.τ).loc Cert.Dh2RefIdeal.main_arg1) = m' ((c.tc : Thread Cert.Dh2RefIdeal.nD Cert.Dh2RefIdeal.τ).loc Cert.Dh2RefIdeal.main_arg1)
          ∧ r.2.mem ((c.tc : Thread Cert.Dh2RefIdeal.nD Cert.Dh2RefIdeal.τ).loc Cert.Dh2RefIdeal.main_arg2) = m' ((c.tc : Thread Cert.Dh2RefIdeal.nD Cert.Dh2RefIdeal.τ).loc Cert.Dh2RefIdeal.main_arg2))

def preserves_Dwout_DwoutIdeal : Prop :=
  True

def algebraic_DwoutIdeal_DwoutRefIdeal [hDwoutIdeal : Cert.DwoutIdeal.Facts] [hDwoutRefIdeal : Cert.DwoutRefIdeal.Facts] : Prop :=
  ∀ (m : (ℓ : Loc Cert.DwoutIdeal.nD Cert.DwoutIdeal.τ Cert.DwoutIdeal.sig) → Buf (Elt Ideal) ℓ) (g : Dev Cert.DwoutIdeal.nD → PrngReg)
    (m' : (ℓ : Loc Cert.DwoutRefIdeal.nD Cert.DwoutRefIdeal.τ Cert.DwoutRefIdeal.sig) → Buf (Elt Ideal) ℓ) (g' : Dev Cert.DwoutRefIdeal.nD → PrngReg), Pre_DwoutIdeal m →
    (∀ c : Dev Cert.DwoutIdeal.nD,
      m' ((c.tc : Thread Cert.DwoutRefIdeal.nD Cert.DwoutRefIdeal.τ).loc Cert.DwoutRefIdeal.main_arg0) = m ((c.tc : Thread Cert.DwoutIdeal.nD Cert.DwoutIdeal.τ).loc Cert.DwoutIdeal.main_arg0)
      ∧ m' ((c.tc : Thread Cert.DwoutRefIdeal.nD Cert.DwoutRefIdeal.τ).loc Cert.DwoutRefIdeal.main_arg1) = m ((c.tc : Thread Cert.DwoutIdeal.nD Cert.DwoutIdeal.τ).loc Cert.DwoutIdeal.main_arg1)) →
    ∃ (v0 : (c : Dev Cert.DwoutIdeal.nD) → Buf (Elt Ideal) ((c.tc : Thread Cert.DwoutIdeal.nD Cert.DwoutIdeal.τ).loc Cert.DwoutIdeal.main_v0)),
      θ_run (Cert.DwoutIdeal.defs (F := Ideal)) (onTc (τ := Cert.DwoutIdeal.τ) (Cert.DwoutIdeal.main (F := Ideal))) ⟨m, fun _ => 0, g⟩ (fun r => ∀ c : Dev Cert.DwoutIdeal.nD,
          r.2.mem ((c.tc : Thread Cert.DwoutIdeal.nD Cert.DwoutIdeal.τ).loc Cert.DwoutIdeal.main_v0) = v0 c
          ∧ r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
          ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1))
      ∧ θ_run (Cert.DwoutRefIdeal.defs (F := Ideal)) (onTc (τ := Cert.DwoutRefIdeal.τ) (Cert.DwoutRefIdeal.main (F := Ideal))) ⟨m', fun _ => 0, g'⟩ (fun r => ∀ c : Dev Cert.DwoutRefIdeal.nD,
          r.2.mem ((c.tc : Thread Cert.DwoutRefIdeal.nD Cert.DwoutRefIdeal.τ).loc Cert.DwoutRefIdeal.main_v7) = v0 c
          ∧ r.2.mem ((c.tc : Thread Cert.DwoutRefIdeal.nD Cert.DwoutRefIdeal.τ).loc Cert.DwoutRefIdeal.main_arg0) = m' ((c.tc : Thread Cert.DwoutRefIdeal.nD Cert.DwoutRefIdeal.τ).loc Cert.DwoutRefIdeal.main_arg0)
          ∧ r.2.mem ((c.tc : Thread Cert.DwoutRefIdeal.nD Cert.DwoutRefIdeal.τ).loc Cert.DwoutRefIdeal.main_arg1) = m' ((c.tc : Thread Cert.DwoutRefIdeal.nD Cert.DwoutRefIdeal.τ).loc Cert.DwoutRefIdeal.main_arg1))

def preserves_Dmix_DmixIdeal : Prop :=
  True

def algebraic_DmixIdeal_DmixRefIdeal [hDmixIdeal : Cert.DmixIdeal.Facts] [hDmixRefIdeal : Cert.DmixRefIdeal.Facts] : Prop :=
  ∀ (m : (ℓ : Loc Cert.DmixIdeal.nD Cert.DmixIdeal.τ Cert.DmixIdeal.sig) → Buf (Elt Ideal) ℓ) (g : Dev Cert.DmixIdeal.nD → PrngReg)
    (m' : (ℓ : Loc Cert.DmixRefIdeal.nD Cert.DmixRefIdeal.τ Cert.DmixRefIdeal.sig) → Buf (Elt Ideal) ℓ) (g' : Dev Cert.DmixRefIdeal.nD → PrngReg), Pre_DmixIdeal m →
    (∀ c : Dev Cert.DmixIdeal.nD,
      m' ((c.tc : Thread Cert.DmixRefIdeal.nD Cert.DmixRefIdeal.τ).loc Cert.DmixRefIdeal.main_arg0) = m ((c.tc : Thread Cert.DmixIdeal.nD Cert.DmixIdeal.τ).loc Cert.DmixIdeal.main_arg0)
      ∧ m' ((c.tc : Thread Cert.DmixRefIdeal.nD Cert.DmixRefIdeal.τ).loc Cert.DmixRefIdeal.main_arg1) = m ((c.tc : Thread Cert.DmixIdeal.nD Cert.DmixIdeal.τ).loc Cert.DmixIdeal.main_arg1)) →
    ∃ (v0 : (c : Dev Cert.DmixIdeal.nD) → Buf (Elt Ideal) ((c.tc : Thread Cert.DmixIdeal.nD Cert.DmixIdeal.τ).loc Cert.DmixIdeal.main_v0)),
      θ_run (Cert.DmixIdeal.defs (F := Ideal)) (onTc (τ := Cert.DmixIdeal.τ) (Cert.DmixIdeal.main (F := Ideal))) ⟨m, fun _ => 0, g⟩ (fun r => ∀ c : Dev Cert.DmixIdeal.nD,
          r.2.mem ((c.tc : Thread Cert.DmixIdeal.nD Cert.DmixIdeal.τ).loc Cert.DmixIdeal.main_v0) = v0 c
          ∧ r.2.mem ((c.tc : Thread Cert.DmixIdeal.nD Cert.DmixIdeal.τ).loc Cert.DmixIdeal.main_arg0) = m ((c.tc : Thread Cert.DmixIdeal.nD Cert.DmixIdeal.τ).loc Cert.DmixIdeal.main_arg0)
          ∧ r.2.mem ((c.tc : Thread Cert.DmixIdeal.nD Cert.DmixIdeal.τ).loc Cert.DmixIdeal.main_arg1) = m ((c.tc : Thread Cert.DmixIdeal.nD Cert.DmixIdeal.τ).loc Cert.DmixIdeal.main_arg1))
      ∧ θ_run (Cert.DmixRefIdeal.defs (F := Ideal)) (onTc (τ := Cert.DmixRefIdeal.τ) (Cert.DmixRefIdeal.main (F := Ideal))) ⟨m', fun _ => 0, g'⟩ (fun r => ∀ c : Dev Cert.DmixRefIdeal.nD,
          r.2.mem ((c.tc : Thread Cert.DmixRefIdeal.nD Cert.DmixRefIdeal.τ).loc Cert.DmixRefIdeal.main_v6) = v0 c
          ∧ r.2.mem ((c.tc : Thread Cert.DmixRefIdeal.nD Cert.DmixRefIdeal.τ).loc Cert.DmixRefIdeal.main_arg0) = m' ((c.tc : Thread Cert.DmixRefIdeal.nD Cert.DmixRefIdeal.τ).loc Cert.DmixRefIdeal.main_arg0)
          ∧ r.2.mem ((c.tc : Thread Cert.DmixRefIdeal.nD Cert.DmixRefIdeal.τ).loc Cert.DmixRefIdeal.main_arg1) = m' ((c.tc : Thread Cert.DmixRefIdeal.nD Cert.DmixRefIdeal.τ).loc Cert.DmixRefIdeal.main_arg1))

def preserves_Dwo_DwoIdeal : Prop :=
  True

def algebraic_DwoIdeal_DwoRefIdeal [hDwoIdeal : Cert.DwoIdeal.Facts] [hDwoRefIdeal : Cert.DwoRefIdeal.Facts] : Prop :=
  ∀ (m : (ℓ : Loc Cert.DwoIdeal.nD Cert.DwoIdeal.τ Cert.DwoIdeal.sig) → Buf (Elt Ideal) ℓ) (g : Dev Cert.DwoIdeal.nD → PrngReg)
    (m' : (ℓ : Loc Cert.DwoRefIdeal.nD Cert.DwoRefIdeal.τ Cert.DwoRefIdeal.sig) → Buf (Elt Ideal) ℓ) (g' : Dev Cert.DwoRefIdeal.nD → PrngReg), Pre_DwoIdeal m →
    (∀ c : Dev Cert.DwoIdeal.nD,
      m' ((c.tc : Thread Cert.DwoRefIdeal.nD Cert.DwoRefIdeal.τ).loc Cert.DwoRefIdeal.main_arg0) = m ((c.tc : Thread Cert.DwoIdeal.nD Cert.DwoIdeal.τ).loc Cert.DwoIdeal.main_arg0)
      ∧ m' ((c.tc : Thread Cert.DwoRefIdeal.nD Cert.DwoRefIdeal.τ).loc Cert.DwoRefIdeal.main_arg1) = m ((c.tc : Thread Cert.DwoIdeal.nD Cert.DwoIdeal.τ).loc Cert.DwoIdeal.main_arg1)) →
    ∃ (v0 : (c : Dev Cert.DwoIdeal.nD) → Buf (Elt Ideal) ((c.tc : Thread Cert.DwoIdeal.nD Cert.DwoIdeal.τ).loc Cert.DwoIdeal.main_v0)),
      θ_run (Cert.DwoIdeal.defs (F := Ideal)) (onTc (τ := Cert.DwoIdeal.τ) (Cert.DwoIdeal.main (F := Ideal))) ⟨m, fun _ => 0, g⟩ (fun r => ∀ c : Dev Cert.DwoIdeal.nD,
          r.2.mem ((c.tc : Thread Cert.DwoIdeal.nD Cert.DwoIdeal.τ).loc Cert.DwoIdeal.main_v0) = v0 c
          ∧ r.2.mem ((c.tc : Thread Cert.DwoIdeal.nD Cert.DwoIdeal.τ).loc Cert.DwoIdeal.main_arg0) = m ((c.tc : Thread Cert.DwoIdeal.nD Cert.DwoIdeal.τ).loc Cert.DwoIdeal.main_arg0)
          ∧ r.2.mem ((c.tc : Thread Cert.DwoIdeal.nD Cert.DwoIdeal.τ).loc Cert.DwoIdeal.main_arg1) = m ((c.tc : Thread Cert.DwoIdeal.nD Cert.DwoIdeal.τ).loc Cert.DwoIdeal.main_arg1))
      ∧ θ_run (Cert.DwoRefIdeal.defs (F := Ideal)) (onTc (τ := Cert.DwoRefIdeal.τ) (Cert.DwoRefIdeal.main (F := Ideal))) ⟨m', fun _ => 0, g'⟩ (fun r => ∀ c : Dev Cert.DwoRefIdeal.nD,
          r.2.mem ((c.tc : Thread Cert.DwoRefIdeal.nD Cert.DwoRefIdeal.τ).loc Cert.DwoRefIdeal.main_v7) = v0 c
          ∧ r.2.mem ((c.tc : Thread Cert.DwoRefIdeal.nD Cert.DwoRefIdeal.τ).loc Cert.DwoRefIdeal.main_arg0) = m' ((c.tc : Thread Cert.DwoRefIdeal.nD Cert.DwoRefIdeal.τ).loc Cert.DwoRefIdeal.main_arg0)
          ∧ r.2.mem ((c.tc : Thread Cert.DwoRefIdeal.nD Cert.DwoRefIdeal.τ).loc Cert.DwoRefIdeal.main_arg1) = m' ((c.tc : Thread Cert.DwoRefIdeal.nD Cert.DwoRefIdeal.τ).loc Cert.DwoRefIdeal.main_arg1))

def preserves_Do_DoIdeal : Prop :=
  True

def algebraic_DoIdeal_DoRefIdeal [hDoIdeal : Cert.DoIdeal.Facts] [hDoRefIdeal : Cert.DoRefIdeal.Facts] : Prop :=
  ∀ (m : (ℓ : Loc Cert.DoIdeal.nD Cert.DoIdeal.τ Cert.DoIdeal.sig) → Buf (Elt Ideal) ℓ) (g : Dev Cert.DoIdeal.nD → PrngReg)
    (m' : (ℓ : Loc Cert.DoRefIdeal.nD Cert.DoRefIdeal.τ Cert.DoRefIdeal.sig) → Buf (Elt Ideal) ℓ) (g' : Dev Cert.DoRefIdeal.nD → PrngReg), Pre_DoIdeal m →
    (∀ c : Dev Cert.DoIdeal.nD,
      m' ((c.tc : Thread Cert.DoRefIdeal.nD Cert.DoRefIdeal.τ).loc Cert.DoRefIdeal.main_arg0) = m ((c.tc : Thread Cert.DoIdeal.nD Cert.DoIdeal.τ).loc Cert.DoIdeal.main_arg0)
      ∧ m' ((c.tc : Thread Cert.DoRefIdeal.nD Cert.DoRefIdeal.τ).loc Cert.DoRefIdeal.main_arg1) = m ((c.tc : Thread Cert.DoIdeal.nD Cert.DoIdeal.τ).loc Cert.DoIdeal.main_arg1)) →
    ∃ (v0 : (c : Dev Cert.DoIdeal.nD) → Buf (Elt Ideal) ((c.tc : Thread Cert.DoIdeal.nD Cert.DoIdeal.τ).loc Cert.DoIdeal.main_v0)),
      θ_run (Cert.DoIdeal.defs (F := Ideal)) (onTc (τ := Cert.DoIdeal.τ) (Cert.DoIdeal.main (F := Ideal))) ⟨m, fun _ => 0, g⟩ (fun r => ∀ c : Dev Cert.DoIdeal.nD,
          r.2.mem ((c.tc : Thread Cert.DoIdeal.nD Cert.DoIdeal.τ).loc Cert.DoIdeal.main_v0) = v0 c
          ∧ r.2.mem ((c.tc : Thread Cert.DoIdeal.nD Cert.DoIdeal.τ).loc Cert.DoIdeal.main_arg0) = m ((c.tc : Thread Cert.DoIdeal.nD Cert.DoIdeal.τ).loc Cert.DoIdeal.main_arg0)
          ∧ r.2.mem ((c.tc : Thread Cert.DoIdeal.nD Cert.DoIdeal.τ).loc Cert.DoIdeal.main_arg1) = m ((c.tc : Thread Cert.DoIdeal.nD Cert.DoIdeal.τ).loc Cert.DoIdeal.main_arg1))
      ∧ θ_run (Cert.DoRefIdeal.defs (F := Ideal)) (onTc (τ := Cert.DoRefIdeal.τ) (Cert.DoRefIdeal.main (F := Ideal))) ⟨m', fun _ => 0, g'⟩ (fun r => ∀ c : Dev Cert.DoRefIdeal.nD,
          r.2.mem ((c.tc : Thread Cert.DoRefIdeal.nD Cert.DoRefIdeal.τ).loc Cert.DoRefIdeal.main_v6) = v0 c
          ∧ r.2.mem ((c.tc : Thread Cert.DoRefIdeal.nD Cert.DoRefIdeal.τ).loc Cert.DoRefIdeal.main_arg0) = m' ((c.tc : Thread Cert.DoRefIdeal.nD Cert.DoRefIdeal.τ).loc Cert.DoRefIdeal.main_arg0)
          ∧ r.2.mem ((c.tc : Thread Cert.DoRefIdeal.nD Cert.DoRefIdeal.τ).loc Cert.DoRefIdeal.main_arg1) = m' ((c.tc : Thread Cert.DoRefIdeal.nD Cert.DoRefIdeal.τ).loc Cert.DoRefIdeal.main_arg1))

def preserves_Dwqkv_DwqkvIdeal : Prop :=
  True

def algebraic_DwqkvIdeal_DwqkvRefIdeal [hDwqkvIdeal : Cert.DwqkvIdeal.Facts] [hDwqkvRefIdeal : Cert.DwqkvRefIdeal.Facts] : Prop :=
  ∀ (m : (ℓ : Loc Cert.DwqkvIdeal.nD Cert.DwqkvIdeal.τ Cert.DwqkvIdeal.sig) → Buf (Elt Ideal) ℓ) (g : Dev Cert.DwqkvIdeal.nD → PrngReg)
    (m' : (ℓ : Loc Cert.DwqkvRefIdeal.nD Cert.DwqkvRefIdeal.τ Cert.DwqkvRefIdeal.sig) → Buf (Elt Ideal) ℓ) (g' : Dev Cert.DwqkvRefIdeal.nD → PrngReg), Pre_DwqkvIdeal m →
    (∀ c : Dev Cert.DwqkvIdeal.nD,
      m' ((c.tc : Thread Cert.DwqkvRefIdeal.nD Cert.DwqkvRefIdeal.τ).loc Cert.DwqkvRefIdeal.main_arg0) = m ((c.tc : Thread Cert.DwqkvIdeal.nD Cert.DwqkvIdeal.τ).loc Cert.DwqkvIdeal.main_arg0)
      ∧ m' ((c.tc : Thread Cert.DwqkvRefIdeal.nD Cert.DwqkvRefIdeal.τ).loc Cert.DwqkvRefIdeal.main_arg1) = m ((c.tc : Thread Cert.DwqkvIdeal.nD Cert.DwqkvIdeal.τ).loc Cert.DwqkvIdeal.main_arg1)) →
    ∃ (v0 : (c : Dev Cert.DwqkvIdeal.nD) → Buf (Elt Ideal) ((c.tc : Thread Cert.DwqkvIdeal.nD Cert.DwqkvIdeal.τ).loc Cert.DwqkvIdeal.main_v0)),
      θ_run (Cert.DwqkvIdeal.defs (F := Ideal)) (onTc (τ := Cert.DwqkvIdeal.τ) (Cert.DwqkvIdeal.main (F := Ideal))) ⟨m, fun _ => 0, g⟩ (fun r => ∀ c : Dev Cert.DwqkvIdeal.nD,
          r.2.mem ((c.tc : Thread Cert.DwqkvIdeal.nD Cert.DwqkvIdeal.τ).loc Cert.DwqkvIdeal.main_v0) = v0 c
          ∧ r.2.mem ((c.tc : Thread Cert.DwqkvIdeal.nD Cert.DwqkvIdeal.τ).loc Cert.DwqkvIdeal.main_arg0) = m ((c.tc : Thread Cert.DwqkvIdeal.nD Cert.DwqkvIdeal.τ).loc Cert.DwqkvIdeal.main_arg0)
          ∧ r.2.mem ((c.tc : Thread Cert.DwqkvIdeal.nD Cert.DwqkvIdeal.τ).loc Cert.DwqkvIdeal.main_arg1) = m ((c.tc : Thread Cert.DwqkvIdeal.nD Cert.DwqkvIdeal.τ).loc Cert.DwqkvIdeal.main_arg1))
      ∧ θ_run (Cert.DwqkvRefIdeal.defs (F := Ideal)) (onTc (τ := Cert.DwqkvRefIdeal.τ) (Cert.DwqkvRefIdeal.main (F := Ideal))) ⟨m', fun _ => 0, g'⟩ (fun r => ∀ c : Dev Cert.DwqkvRefIdeal.nD,
          r.2.mem ((c.tc : Thread Cert.DwqkvRefIdeal.nD Cert.DwqkvRefIdeal.τ).loc Cert.DwqkvRefIdeal.main_v9) = v0 c
          ∧ r.2.mem ((c.tc : Thread Cert.DwqkvRefIdeal.nD Cert.DwqkvRefIdeal.τ).loc Cert.DwqkvRefIdeal.main_arg0) = m' ((c.tc : Thread Cert.DwqkvRefIdeal.nD Cert.DwqkvRefIdeal.τ).loc Cert.DwqkvRefIdeal.main_arg0)
          ∧ r.2.mem ((c.tc : Thread Cert.DwqkvRefIdeal.nD Cert.DwqkvRefIdeal.τ).loc Cert.DwqkvRefIdeal.main_arg1) = m' ((c.tc : Thread Cert.DwqkvRefIdeal.nD Cert.DwqkvRefIdeal.τ).loc Cert.DwqkvRefIdeal.main_arg1))

def preserves_Dha_DhaIdeal : Prop :=
  True

def algebraic_DhaIdeal_DhaRefIdeal [hDhaIdeal : Cert.DhaIdeal.Facts] [hDhaRefIdeal : Cert.DhaRefIdeal.Facts] : Prop :=
  ∀ (m : (ℓ : Loc Cert.DhaIdeal.nD Cert.DhaIdeal.τ Cert.DhaIdeal.sig) → Buf (Elt Ideal) ℓ) (g : Dev Cert.DhaIdeal.nD → PrngReg)
    (m' : (ℓ : Loc Cert.DhaRefIdeal.nD Cert.DhaRefIdeal.τ Cert.DhaRefIdeal.sig) → Buf (Elt Ideal) ℓ) (g' : Dev Cert.DhaRefIdeal.nD → PrngReg), Pre_DhaIdeal m →
    (∀ c : Dev Cert.DhaIdeal.nD,
      m' ((c.tc : Thread Cert.DhaRefIdeal.nD Cert.DhaRefIdeal.τ).loc Cert.DhaRefIdeal.main_arg0) = m ((c.tc : Thread Cert.DhaIdeal.nD Cert.DhaIdeal.τ).loc Cert.DhaIdeal.main_arg0)
      ∧ m' ((c.tc : Thread Cert.DhaRefIdeal.nD Cert.DhaRefIdeal.τ).loc Cert.DhaRefIdeal.main_arg1) = m ((c.tc : Thread Cert.DhaIdeal.nD Cert.DhaIdeal.τ).loc Cert.DhaIdeal.main_arg1)) →
    ∃ (v0 : (c : Dev Cert.DhaIdeal.nD) → Buf (Elt Ideal) ((c.tc : Thread Cert.DhaIdeal.nD Cert.DhaIdeal.τ).loc Cert.DhaIdeal.main_v1)),
      θ_run (Cert.DhaIdeal.defs (F := Ideal)) (onTc (τ := Cert.DhaIdeal.τ) (Cert.DhaIdeal.main (F := Ideal))) ⟨m, fun _ => 0, g⟩ (fun r => ∀ c : Dev Cert.DhaIdeal.nD,
          r.2.mem ((c.tc : Thread Cert.DhaIdeal.nD Cert.DhaIdeal.τ).loc Cert.DhaIdeal.main_v1) = v0 c
          ∧ r.2.mem ((c.tc : Thread Cert.DhaIdeal.nD Cert.DhaIdeal.τ).loc Cert.DhaIdeal.main_arg0) = m ((c.tc : Thread Cert.DhaIdeal.nD Cert.DhaIdeal.τ).loc Cert.DhaIdeal.main_arg0)
          ∧ r.2.mem ((c.tc : Thread Cert.DhaIdeal.nD Cert.DhaIdeal.τ).loc Cert.DhaIdeal.main_arg1) = m ((c.tc : Thread Cert.DhaIdeal.nD Cert.DhaIdeal.τ).loc Cert.DhaIdeal.main_arg1))
      ∧ θ_run (Cert.DhaRefIdeal.defs (F := Ideal)) (onTc (τ := Cert.DhaRefIdeal.τ) (Cert.DhaRefIdeal.main (F := Ideal))) ⟨m', fun _ => 0, g'⟩ (fun r => ∀ c : Dev Cert.DhaRefIdeal.nD,
          r.2.mem ((c.tc : Thread Cert.DhaRefIdeal.nD Cert.DhaRefIdeal.τ).loc Cert.DhaRefIdeal.main_v5) = v0 c
          ∧ r.2.mem ((c.tc : Thread Cert.DhaRefIdeal.nD Cert.DhaRefIdeal.τ).loc Cert.DhaRefIdeal.main_arg0) = m' ((c.tc : Thread Cert.DhaRefIdeal.nD Cert.DhaRefIdeal.τ).loc Cert.DhaRefIdeal.main_arg0)
          ∧ r.2.mem ((c.tc : Thread Cert.DhaRefIdeal.nD Cert.DhaRefIdeal.τ).loc Cert.DhaRefIdeal.main_arg1) = m' ((c.tc : Thread Cert.DhaRefIdeal.nD Cert.DhaRefIdeal.τ).loc Cert.DhaRefIdeal.main_arg1))

def preserves_Dwxo_DwxoIdeal : Prop :=
  True

def algebraic_DwxoIdeal_DwxoRefIdeal [hDwxoIdeal : Cert.DwxoIdeal.Facts] [hDwxoRefIdeal : Cert.DwxoRefIdeal.Facts] : Prop :=
  ∀ (m : (ℓ : Loc Cert.DwxoIdeal.nD Cert.DwxoIdeal.τ Cert.DwxoIdeal.sig) → Buf (Elt Ideal) ℓ) (g : Dev Cert.DwxoIdeal.nD → PrngReg)
    (m' : (ℓ : Loc Cert.DwxoRefIdeal.nD Cert.DwxoRefIdeal.τ Cert.DwxoRefIdeal.sig) → Buf (Elt Ideal) ℓ) (g' : Dev Cert.DwxoRefIdeal.nD → PrngReg), Pre_DwxoIdeal m →
    (∀ c : Dev Cert.DwxoIdeal.nD,
      m' ((c.tc : Thread Cert.DwxoRefIdeal.nD Cert.DwxoRefIdeal.τ).loc Cert.DwxoRefIdeal.main_arg0) = m ((c.tc : Thread Cert.DwxoIdeal.nD Cert.DwxoIdeal.τ).loc Cert.DwxoIdeal.main_arg0)
      ∧ m' ((c.tc : Thread Cert.DwxoRefIdeal.nD Cert.DwxoRefIdeal.τ).loc Cert.DwxoRefIdeal.main_arg1) = m ((c.tc : Thread Cert.DwxoIdeal.nD Cert.DwxoIdeal.τ).loc Cert.DwxoIdeal.main_arg1)) →
    ∃ (v0 : (c : Dev Cert.DwxoIdeal.nD) → Buf (Elt Ideal) ((c.tc : Thread Cert.DwxoIdeal.nD Cert.DwxoIdeal.τ).loc Cert.DwxoIdeal.main_v0)),
      θ_run (Cert.DwxoIdeal.defs (F := Ideal)) (onTc (τ := Cert.DwxoIdeal.τ) (Cert.DwxoIdeal.main (F := Ideal))) ⟨m, fun _ => 0, g⟩ (fun r => ∀ c : Dev Cert.DwxoIdeal.nD,
          r.2.mem ((c.tc : Thread Cert.DwxoIdeal.nD Cert.DwxoIdeal.τ).loc Cert.DwxoIdeal.main_v0) = v0 c
          ∧ r.2.mem ((c.tc : Thread Cert.DwxoIdeal.nD Cert.DwxoIdeal.τ).loc Cert.DwxoIdeal.main_arg0) = m ((c.tc : Thread Cert.DwxoIdeal.nD Cert.DwxoIdeal.τ).loc Cert.DwxoIdeal.main_arg0)
          ∧ r.2.mem ((c.tc : Thread Cert.DwxoIdeal.nD Cert.DwxoIdeal.τ).loc Cert.DwxoIdeal.main_arg1) = m ((c.tc : Thread Cert.DwxoIdeal.nD Cert.DwxoIdeal.τ).loc Cert.DwxoIdeal.main_arg1))
      ∧ θ_run (Cert.DwxoRefIdeal.defs (F := Ideal)) (onTc (τ := Cert.DwxoRefIdeal.τ) (Cert.DwxoRefIdeal.main (F := Ideal))) ⟨m', fun _ => 0, g'⟩ (fun r => ∀ c : Dev Cert.DwxoRefIdeal.nD,
          r.2.mem ((c.tc : Thread Cert.DwxoRefIdeal.nD Cert.DwxoRefIdeal.τ).loc Cert.DwxoRefIdeal.main_v9) = v0 c
          ∧ r.2.mem ((c.tc : Thread Cert.DwxoRefIdeal.nD Cert.DwxoRefIdeal.τ).loc Cert.DwxoRefIdeal.main_arg0) = m' ((c.tc : Thread Cert.DwxoRefIdeal.nD Cert.DwxoRefIdeal.τ).loc Cert.DwxoRefIdeal.main_arg0)
          ∧ r.2.mem ((c.tc : Thread Cert.DwxoRefIdeal.nD Cert.DwxoRefIdeal.τ).loc Cert.DwxoRefIdeal.main_arg1) = m' ((c.tc : Thread Cert.DwxoRefIdeal.nD Cert.DwxoRefIdeal.τ).loc Cert.DwxoRefIdeal.main_arg1))

def preserves_Dxo_DxoIdeal : Prop :=
  True

def algebraic_DxoIdeal_DxoRefIdeal [hDxoIdeal : Cert.DxoIdeal.Facts] [hDxoRefIdeal : Cert.DxoRefIdeal.Facts] : Prop :=
  ∀ (m : (ℓ : Loc Cert.DxoIdeal.nD Cert.DxoIdeal.τ Cert.DxoIdeal.sig) → Buf (Elt Ideal) ℓ) (g : Dev Cert.DxoIdeal.nD → PrngReg)
    (m' : (ℓ : Loc Cert.DxoRefIdeal.nD Cert.DxoRefIdeal.τ Cert.DxoRefIdeal.sig) → Buf (Elt Ideal) ℓ) (g' : Dev Cert.DxoRefIdeal.nD → PrngReg), Pre_DxoIdeal m →
    (∀ c : Dev Cert.DxoIdeal.nD,
      m' ((c.tc : Thread Cert.DxoRefIdeal.nD Cert.DxoRefIdeal.τ).loc Cert.DxoRefIdeal.main_arg0) = m ((c.tc : Thread Cert.DxoIdeal.nD Cert.DxoIdeal.τ).loc Cert.DxoIdeal.main_arg0)
      ∧ m' ((c.tc : Thread Cert.DxoRefIdeal.nD Cert.DxoRefIdeal.τ).loc Cert.DxoRefIdeal.main_arg1) = m ((c.tc : Thread Cert.DxoIdeal.nD Cert.DxoIdeal.τ).loc Cert.DxoIdeal.main_arg1)) →
    ∃ (v0 : (c : Dev Cert.DxoIdeal.nD) → Buf (Elt Ideal) ((c.tc : Thread Cert.DxoIdeal.nD Cert.DxoIdeal.τ).loc Cert.DxoIdeal.main_v0)),
      θ_run (Cert.DxoIdeal.defs (F := Ideal)) (onTc (τ := Cert.DxoIdeal.τ) (Cert.DxoIdeal.main (F := Ideal))) ⟨m, fun _ => 0, g⟩ (fun r => ∀ c : Dev Cert.DxoIdeal.nD,
          r.2.mem ((c.tc : Thread Cert.DxoIdeal.nD Cert.DxoIdeal.τ).loc Cert.DxoIdeal.main_v0) = v0 c
          ∧ r.2.mem ((c.tc : Thread Cert.DxoIdeal.nD Cert.DxoIdeal.τ).loc Cert.DxoIdeal.main_arg0) = m ((c.tc : Thread Cert.DxoIdeal.nD Cert.DxoIdeal.τ).loc Cert.DxoIdeal.main_arg0)
          ∧ r.2.mem ((c.tc : Thread Cert.DxoIdeal.nD Cert.DxoIdeal.τ).loc Cert.DxoIdeal.main_arg1) = m ((c.tc : Thread Cert.DxoIdeal.nD Cert.DxoIdeal.τ).loc Cert.DxoIdeal.main_arg1))
      ∧ θ_run (Cert.DxoRefIdeal.defs (F := Ideal)) (onTc (τ := Cert.DxoRefIdeal.τ) (Cert.DxoRefIdeal.main (F := Ideal))) ⟨m', fun _ => 0, g'⟩ (fun r => ∀ c : Dev Cert.DxoRefIdeal.nD,
          r.2.mem ((c.tc : Thread Cert.DxoRefIdeal.nD Cert.DxoRefIdeal.τ).loc Cert.DxoRefIdeal.main_v5) = v0 c
          ∧ r.2.mem ((c.tc : Thread Cert.DxoRefIdeal.nD Cert.DxoRefIdeal.τ).loc Cert.DxoRefIdeal.main_arg0) = m' ((c.tc : Thread Cert.DxoRefIdeal.nD Cert.DxoRefIdeal.τ).loc Cert.DxoRefIdeal.main_arg0)
          ∧ r.2.mem ((c.tc : Thread Cert.DxoRefIdeal.nD Cert.DxoRefIdeal.τ).loc Cert.DxoRefIdeal.main_arg1) = m' ((c.tc : Thread Cert.DxoRefIdeal.nD Cert.DxoRefIdeal.τ).loc Cert.DxoRefIdeal.main_arg1))

def preserves_Dwxq_DwxqIdeal : Prop :=
  True

def algebraic_DwxqIdeal_DwxqRefIdeal [hDwxqIdeal : Cert.DwxqIdeal.Facts] [hDwxqRefIdeal : Cert.DwxqRefIdeal.Facts] : Prop :=
  ∀ (m : (ℓ : Loc Cert.DwxqIdeal.nD Cert.DwxqIdeal.τ Cert.DwxqIdeal.sig) → Buf (Elt Ideal) ℓ) (g : Dev Cert.DwxqIdeal.nD → PrngReg)
    (m' : (ℓ : Loc Cert.DwxqRefIdeal.nD Cert.DwxqRefIdeal.τ Cert.DwxqRefIdeal.sig) → Buf (Elt Ideal) ℓ) (g' : Dev Cert.DwxqRefIdeal.nD → PrngReg), Pre_DwxqIdeal m →
    (∀ c : Dev Cert.DwxqIdeal.nD,
      m' ((c.tc : Thread Cert.DwxqRefIdeal.nD Cert.DwxqRefIdeal.τ).loc Cert.DwxqRefIdeal.main_arg0) = m ((c.tc : Thread Cert.DwxqIdeal.nD Cert.DwxqIdeal.τ).loc Cert.DwxqIdeal.main_arg0)
      ∧ m' ((c.tc : Thread Cert.DwxqRefIdeal.nD Cert.DwxqRefIdeal.τ).loc Cert.DwxqRefIdeal.main_arg1) = m ((c.tc : Thread Cert.DwxqIdeal.nD Cert.DwxqIdeal.τ).loc Cert.DwxqIdeal.main_arg1)) →
    ∃ (v0 : (c : Dev Cert.DwxqIdeal.nD) → Buf (Elt Ideal) ((c.tc : Thread Cert.DwxqIdeal.nD Cert.DwxqIdeal.τ).loc Cert.DwxqIdeal.main_v0)),
      θ_run (Cert.DwxqIdeal.defs (F := Ideal)) (onTc (τ := Cert.DwxqIdeal.τ) (Cert.DwxqIdeal.main (F := Ideal))) ⟨m, fun _ => 0, g⟩ (fun r => ∀ c : Dev Cert.DwxqIdeal.nD,
          r.2.mem ((c.tc : Thread Cert.DwxqIdeal.nD Cert.DwxqIdeal.τ).loc Cert.DwxqIdeal.main_v0) = v0 c
          ∧ r.2.mem ((c.tc : Thread Cert.DwxqIdeal.nD Cert.DwxqIdeal.τ).loc Cert.DwxqIdeal.main_arg0) = m ((c.tc : Thread Cert.DwxqIdeal.nD Cert.DwxqIdeal.τ).loc Cert.DwxqIdeal.main_arg0)
          ∧ r.2.mem ((c.tc : Thread Cert.DwxqIdeal.nD Cert.DwxqIdeal.τ).loc Cert.DwxqIdeal.main_arg1) = m ((c.tc : Thread Cert.DwxqIdeal.nD Cert.DwxqIdeal.τ).loc Cert.DwxqIdeal.main_arg1))
      ∧ θ_run (Cert.DwxqRefIdeal.defs (F := Ideal)) (onTc (τ := Cert.DwxqRefIdeal.τ) (Cert.DwxqRefIdeal.main (F := Ideal))) ⟨m', fun _ => 0, g'⟩ (fun r => ∀ c : Dev Cert.DwxqRefIdeal.nD,
          r.2.mem ((c.tc : Thread Cert.DwxqRefIdeal.nD Cert.DwxqRefIdeal.τ).loc Cert.DwxqRefIdeal.main_v7) = v0 c
          ∧ r.2.mem ((c.tc : Thread Cert.DwxqRefIdeal.nD Cert.DwxqRefIdeal.τ).loc Cert.DwxqRefIdeal.main_arg0) = m' ((c.tc : Thread Cert.DwxqRefIdeal.nD Cert.DwxqRefIdeal.τ).loc Cert.DwxqRefIdeal.main_arg0)
          ∧ r.2.mem ((c.tc : Thread Cert.DwxqRefIdeal.nD Cert.DwxqRefIdeal.τ).loc Cert.DwxqRefIdeal.main_arg1) = m' ((c.tc : Thread Cert.DwxqRefIdeal.nD Cert.DwxqRefIdeal.τ).loc Cert.DwxqRefIdeal.main_arg1))

def preserves_Dhxq_DhxqIdeal : Prop :=
  True

def algebraic_DhxqIdeal_DhxqRefIdeal [hDhxqIdeal : Cert.DhxqIdeal.Facts] [hDhxqRefIdeal : Cert.DhxqRefIdeal.Facts] : Prop :=
  ∀ (m : (ℓ : Loc Cert.DhxqIdeal.nD Cert.DhxqIdeal.τ Cert.DhxqIdeal.sig) → Buf (Elt Ideal) ℓ) (g : Dev Cert.DhxqIdeal.nD → PrngReg)
    (m' : (ℓ : Loc Cert.DhxqRefIdeal.nD Cert.DhxqRefIdeal.τ Cert.DhxqRefIdeal.sig) → Buf (Elt Ideal) ℓ) (g' : Dev Cert.DhxqRefIdeal.nD → PrngReg), Pre_DhxqIdeal m →
    (∀ c : Dev Cert.DhxqIdeal.nD,
      m' ((c.tc : Thread Cert.DhxqRefIdeal.nD Cert.DhxqRefIdeal.τ).loc Cert.DhxqRefIdeal.main_arg0) = m ((c.tc : Thread Cert.DhxqIdeal.nD Cert.DhxqIdeal.τ).loc Cert.DhxqIdeal.main_arg0)
      ∧ m' ((c.tc : Thread Cert.DhxqRefIdeal.nD Cert.DhxqRefIdeal.τ).loc Cert.DhxqRefIdeal.main_arg1) = m ((c.tc : Thread Cert.DhxqIdeal.nD Cert.DhxqIdeal.τ).loc Cert.DhxqIdeal.main_arg1)) →
    ∃ (v0 : (c : Dev Cert.DhxqIdeal.nD) → Buf (Elt Ideal) ((c.tc : Thread Cert.DhxqIdeal.nD Cert.DhxqIdeal.τ).loc Cert.DhxqIdeal.main_v1)),
      θ_run (Cert.DhxqIdeal.defs (F := Ideal)) (onTc (τ := Cert.DhxqIdeal.τ) (Cert.DhxqIdeal.main (F := Ideal))) ⟨m, fun _ => 0, g⟩ (fun r => ∀ c : Dev Cert.DhxqIdeal.nD,
          r.2.mem ((c.tc : Thread Cert.DhxqIdeal.nD Cert.DhxqIdeal.τ).loc Cert.DhxqIdeal.main_v1) = v0 c
          ∧ r.2.mem ((c.tc : Thread Cert.DhxqIdeal.nD Cert.DhxqIdeal.τ).loc Cert.DhxqIdeal.main_arg0) = m ((c.tc : Thread Cert.DhxqIdeal.nD Cert.DhxqIdeal.τ).loc Cert.DhxqIdeal.main_arg0)
          ∧ r.2.mem ((c.tc : Thread Cert.DhxqIdeal.nD Cert.DhxqIdeal.τ).loc Cert.DhxqIdeal.main_arg1) = m ((c.tc : Thread Cert.DhxqIdeal.nD Cert.DhxqIdeal.τ).loc Cert.DhxqIdeal.main_arg1))
      ∧ θ_run (Cert.DhxqRefIdeal.defs (F := Ideal)) (onTc (τ := Cert.DhxqRefIdeal.τ) (Cert.DhxqRefIdeal.main (F := Ideal))) ⟨m', fun _ => 0, g'⟩ (fun r => ∀ c : Dev Cert.DhxqRefIdeal.nD,
          r.2.mem ((c.tc : Thread Cert.DhxqRefIdeal.nD Cert.DhxqRefIdeal.τ).loc Cert.DhxqRefIdeal.main_v6) = v0 c
          ∧ r.2.mem ((c.tc : Thread Cert.DhxqRefIdeal.nD Cert.DhxqRefIdeal.τ).loc Cert.DhxqRefIdeal.main_arg0) = m' ((c.tc : Thread Cert.DhxqRefIdeal.nD Cert.DhxqRefIdeal.τ).loc Cert.DhxqRefIdeal.main_arg0)
          ∧ r.2.mem ((c.tc : Thread Cert.DhxqRefIdeal.nD Cert.DhxqRefIdeal.τ).loc Cert.DhxqRefIdeal.main_arg1) = m' ((c.tc : Thread Cert.DhxqRefIdeal.nD Cert.DhxqRefIdeal.τ).loc Cert.DhxqRefIdeal.main_arg1))

def preserves_Datt_DattIdeal : Prop :=
  True

def algebraic_DattIdeal_DattRefIdeal [hDattIdeal : Cert.DattIdeal.Facts] [hDattRefIdeal : Cert.DattRefIdeal.Facts] : Prop :=
  ∀ (m : (ℓ : Loc Cert.DattIdeal.nD Cert.DattIdeal.τ Cert.DattIdeal.sig) → Buf (Elt Ideal) ℓ) (g : Dev Cert.DattIdeal.nD → PrngReg)
    (m' : (ℓ : Loc Cert.DattRefIdeal.nD Cert.DattRefIdeal.τ Cert.DattRefIdeal.sig) → Buf (Elt Ideal) ℓ) (g' : Dev Cert.DattRefIdeal.nD → PrngReg), Pre_DattIdeal m →
    (∀ c : Dev Cert.DattIdeal.nD,
      m' ((c.tc : Thread Cert.DattRefIdeal.nD Cert.DattRefIdeal.τ).loc Cert.DattRefIdeal.main_arg0) = m ((c.tc : Thread Cert.DattIdeal.nD Cert.DattIdeal.τ).loc Cert.DattIdeal.main_arg0)
      ∧ m' ((c.tc : Thread Cert.DattRefIdeal.nD Cert.DattRefIdeal.τ).loc Cert.DattRefIdeal.main_arg1) = m ((c.tc : Thread Cert.DattIdeal.nD Cert.DattIdeal.τ).loc Cert.DattIdeal.main_arg1)
      ∧ m' ((c.tc : Thread Cert.DattRefIdeal.nD Cert.DattRefIdeal.τ).loc Cert.DattRefIdeal.main_arg2) = m ((c.tc : Thread Cert.DattIdeal.nD Cert.DattIdeal.τ).loc Cert.DattIdeal.main_arg2)) →
    ∃ (v0 : (c : Dev Cert.DattIdeal.nD) → Buf (Elt Ideal) ((c.tc : Thread Cert.DattIdeal.nD Cert.DattIdeal.τ).loc Cert.DattIdeal.main_v0_0)) (v1 : (c : Dev Cert.DattIdeal.nD) → Buf (Elt Ideal) ((c.tc : Thread Cert.DattIdeal.nD Cert.DattIdeal.τ).loc Cert.DattIdeal.main_v0_1)),
      θ_run (Cert.DattIdeal.defs (F := Ideal)) (onTc (τ := Cert.DattIdeal.τ) (Cert.DattIdeal.main (F := Ideal))) ⟨m, fun _ => 0, g⟩ (fun r => ∀ c : Dev Cert.DattIdeal.nD,
          r.2.mem ((c.tc : Thread Cert.DattIdeal.nD Cert.DattIdeal.τ).loc Cert.DattIdeal.main_v0_0) = v0 c
          ∧ r.2.mem ((c.tc : Thread Cert.DattIdeal.nD Cert.DattIdeal.τ).loc Cert.DattIdeal.main_v0_1) = v1 c
          ∧ r.2.mem ((c.tc : Thread Cert.DattIdeal.nD Cert.DattIdeal.τ).loc Cert.DattIdeal.main_arg0) = m ((c.tc : Thread Cert.DattIdeal.nD Cert.DattIdeal.τ).loc Cert.DattIdeal.main_arg0)
          ∧ r.2.mem ((c.tc : Thread Cert.DattIdeal.nD Cert.DattIdeal.τ).loc Cert.DattIdeal.main_arg1) = m ((c.tc : Thread Cert.DattIdeal.nD Cert.DattIdeal.τ).loc Cert.DattIdeal.main_arg1)
          ∧ r.2.mem ((c.tc : Thread Cert.DattIdeal.nD Cert.DattIdeal.τ).loc Cert.DattIdeal.main_arg2) = m ((c.tc : Thread Cert.DattIdeal.nD Cert.DattIdeal.τ).loc Cert.DattIdeal.main_arg2))
      ∧ θ_run (Cert.DattRefIdeal.defs (F := Ideal)) (onTc (τ := Cert.DattRefIdeal.τ) (Cert.DattRefIdeal.main (F := Ideal))) ⟨m', fun _ => 0, g'⟩ (fun r => ∀ c : Dev Cert.DattRefIdeal.nD,
          r.2.mem ((c.tc : Thread Cert.DattRefIdeal.nD Cert.DattRefIdeal.τ).loc Cert.DattRefIdeal.main_v55) = v0 c
          ∧ r.2.mem ((c.tc : Thread Cert.DattRefIdeal.nD Cert.DattRefIdeal.τ).loc Cert.DattRefIdeal.main_v58) = v1 c
          ∧ r.2.mem ((c.tc : Thread Cert.DattRefIdeal.nD Cert.DattRefIdeal.τ).loc Cert.DattRefIdeal.main_arg0) = m' ((c.tc : Thread Cert.DattRefIdeal.nD Cert.DattRefIdeal.τ).loc Cert.DattRefIdeal.main_arg0)
          ∧ r.2.mem ((c.tc : Thread Cert.DattRefIdeal.nD Cert.DattRefIdeal.τ).loc Cert.DattRefIdeal.main_arg1) = m' ((c.tc : Thread Cert.DattRefIdeal.nD Cert.DattRefIdeal.τ).loc Cert.DattRefIdeal.main_arg1)
          ∧ r.2.mem ((c.tc : Thread Cert.DattRefIdeal.nD Cert.DattRefIdeal.τ).loc Cert.DattRefIdeal.main_arg2) = m' ((c.tc : Thread Cert.DattRefIdeal.nD Cert.DattRefIdeal.τ).loc Cert.DattRefIdeal.main_arg2))

def preserves_Drope_DropeIdeal : Prop :=
  True

def algebraic_DropeIdeal_DropeRefIdeal [hDropeIdeal : Cert.DropeIdeal.Facts] [hDropeRefIdeal : Cert.DropeRefIdeal.Facts] : Prop :=
  ∀ (m : (ℓ : Loc Cert.DropeIdeal.nD Cert.DropeIdeal.τ Cert.DropeIdeal.sig) → Buf (Elt Ideal) ℓ) (g : Dev Cert.DropeIdeal.nD → PrngReg)
    (m' : (ℓ : Loc Cert.DropeRefIdeal.nD Cert.DropeRefIdeal.τ Cert.DropeRefIdeal.sig) → Buf (Elt Ideal) ℓ) (g' : Dev Cert.DropeRefIdeal.nD → PrngReg), Pre_DropeIdeal m →
    (∀ c : Dev Cert.DropeIdeal.nD,
      m' ((c.tc : Thread Cert.DropeRefIdeal.nD Cert.DropeRefIdeal.τ).loc Cert.DropeRefIdeal.main_arg0) = m ((c.tc : Thread Cert.DropeIdeal.nD Cert.DropeIdeal.τ).loc Cert.DropeIdeal.main_arg0)
      ∧ m' ((c.tc : Thread Cert.DropeRefIdeal.nD Cert.DropeRefIdeal.τ).loc Cert.DropeRefIdeal.main_arg1) = m ((c.tc : Thread Cert.DropeIdeal.nD Cert.DropeIdeal.τ).loc Cert.DropeIdeal.main_arg1)
      ∧ m' ((c.tc : Thread Cert.DropeRefIdeal.nD Cert.DropeRefIdeal.τ).loc Cert.DropeRefIdeal.main_arg2) = m ((c.tc : Thread Cert.DropeIdeal.nD Cert.DropeIdeal.τ).loc Cert.DropeIdeal.main_arg2)
      ∧ m' ((c.tc : Thread Cert.DropeRefIdeal.nD Cert.DropeRefIdeal.τ).loc Cert.DropeRefIdeal.main_arg3) = m ((c.tc : Thread Cert.DropeIdeal.nD Cert.DropeIdeal.τ).loc Cert.DropeIdeal.main_arg3)
      ∧ m' ((c.tc : Thread Cert.DropeRefIdeal.nD Cert.DropeRefIdeal.τ).loc Cert.DropeRefIdeal.main_arg4) = m ((c.tc : Thread Cert.DropeIdeal.nD Cert.DropeIdeal.τ).loc Cert.DropeIdeal.main_arg4)) →
    ∃ (v0 : (c : Dev Cert.DropeIdeal.nD) → Buf (Elt Ideal) ((c.tc : Thread Cert.DropeIdeal.nD Cert.DropeIdeal.τ).loc Cert.DropeIdeal.main_v11_0)) (v1 : (c : Dev Cert.DropeIdeal.nD) → Buf (Elt Ideal) ((c.tc : Thread Cert.DropeIdeal.nD Cert.DropeIdeal.τ).loc Cert.DropeIdeal.main_v11_1)),
      θ_run (Cert.DropeIdeal.defs (F := Ideal)) (onTc (τ := Cert.DropeIdeal.τ) (Cert.DropeIdeal.main (F := Ideal))) ⟨m, fun _ => 0, g⟩ (fun r => ∀ c : Dev Cert.DropeIdeal.nD,
          r.2.mem ((c.tc : Thread Cert.DropeIdeal.nD Cert.DropeIdeal.τ).loc Cert.DropeIdeal.main_v11_0) = v0 c
          ∧ r.2.mem ((c.tc : Thread Cert.DropeIdeal.nD Cert.DropeIdeal.τ).loc Cert.DropeIdeal.main_v11_1) = v1 c
          ∧ r.2.mem ((c.tc : Thread Cert.DropeIdeal.nD Cert.DropeIdeal.τ).loc Cert.DropeIdeal.main_arg0) = m ((c.tc : Thread Cert.DropeIdeal.nD Cert.DropeIdeal.τ).loc Cert.DropeIdeal.main_arg0)
          ∧ r.2.mem ((c.tc : Thread Cert.DropeIdeal.nD Cert.DropeIdeal.τ).loc Cert.DropeIdeal.main_arg1) = m ((c.tc : Thread Cert.DropeIdeal.nD Cert.DropeIdeal.τ).loc Cert.DropeIdeal.main_arg1)
          ∧ r.2.mem ((c.tc : Thread Cert.DropeIdeal.nD Cert.DropeIdeal.τ).loc Cert.DropeIdeal.main_arg2) = m ((c.tc : Thread Cert.DropeIdeal.nD Cert.DropeIdeal.τ).loc Cert.DropeIdeal.main_arg2)
          ∧ r.2.mem ((c.tc : Thread Cert.DropeIdeal.nD Cert.DropeIdeal.τ).loc Cert.DropeIdeal.main_arg3) = m ((c.tc : Thread Cert.DropeIdeal.nD Cert.DropeIdeal.τ).loc Cert.DropeIdeal.main_arg3)
          ∧ r.2.mem ((c.tc : Thread Cert.DropeIdeal.nD Cert.DropeIdeal.τ).loc Cert.DropeIdeal.main_arg4) = m ((c.tc : Thread Cert.DropeIdeal.nD Cert.DropeIdeal.τ).loc Cert.DropeIdeal.main_arg4))
      ∧ θ_run (Cert.DropeRefIdeal.defs (F := Ideal)) (onTc (τ := Cert.DropeRefIdeal.τ) (Cert.DropeRefIdeal.main (F := Ideal))) ⟨m', fun _ => 0, g'⟩ (fun r => ∀ c : Dev Cert.DropeRefIdeal.nD,
          r.2.mem ((c.tc : Thread Cert.DropeRefIdeal.nD Cert.DropeRefIdeal.τ).loc Cert.DropeRefIdeal.main_v102) = v0 c
          ∧ r.2.mem ((c.tc : Thread Cert.DropeRefIdeal.nD Cert.DropeRefIdeal.τ).loc Cert.DropeRefIdeal.main_v101) = v1 c
          ∧ r.2.mem ((c.tc : Thread Cert.DropeRefIdeal.nD Cert.DropeRefIdeal.τ).loc Cert.DropeRefIdeal.main_arg0) = m' ((c.tc : Thread Cert.DropeRefIdeal.nD Cert.DropeRefIdeal.τ).loc Cert.DropeRefIdeal.main_arg0)
          ∧ r.2.mem ((c.tc : Thread Cert.DropeRefIdeal.nD Cert.DropeRefIdeal.τ).loc Cert.DropeRefIdeal.main_arg1) = m' ((c.tc : Thread Cert.DropeRefIdeal.nD Cert.DropeRefIdeal.τ).loc Cert.DropeRefIdeal.main_arg1)
          ∧ r.2.mem ((c.tc : Thread Cert.DropeRefIdeal.nD Cert.DropeRefIdeal.τ).loc Cert.DropeRefIdeal.main_arg2) = m' ((c.tc : Thread Cert.DropeRefIdeal.nD Cert.DropeRefIdeal.τ).loc Cert.DropeRefIdeal.main_arg2)
          ∧ r.2.mem ((c.tc : Thread Cert.DropeRefIdeal.nD Cert.DropeRefIdeal.τ).loc Cert.DropeRefIdeal.main_arg3) = m' ((c.tc : Thread Cert.DropeRefIdeal.nD Cert.DropeRefIdeal.τ).loc Cert.DropeRefIdeal.main_arg3)
          ∧ r.2.mem ((c.tc : Thread Cert.DropeRefIdeal.nD Cert.DropeRefIdeal.τ).loc Cert.DropeRefIdeal.main_arg4) = m' ((c.tc : Thread Cert.DropeRefIdeal.nD Cert.DropeRefIdeal.τ).loc Cert.DropeRefIdeal.main_arg4))

def preserves_Dconv_DconvIdeal : Prop :=
  True

def algebraic_DconvIdeal_DconvRefIdeal [hDconvIdeal : Cert.DconvIdeal.Facts] [hDconvRefIdeal : Cert.DconvRefIdeal.Facts] : Prop :=
  ∀ (m : (ℓ : Loc Cert.DconvIdeal.nD Cert.DconvIdeal.τ Cert.DconvIdeal.sig) → Buf (Elt Ideal) ℓ) (g : Dev Cert.DconvIdeal.nD → PrngReg)
    (m' : (ℓ : Loc Cert.DconvRefIdeal.nD Cert.DconvRefIdeal.τ Cert.DconvRefIdeal.sig) → Buf (Elt Ideal) ℓ) (g' : Dev Cert.DconvRefIdeal.nD → PrngReg), Pre_DconvIdeal m →
    (∀ c : Dev Cert.DconvIdeal.nD,
      m' ((c.tc : Thread Cert.DconvRefIdeal.nD Cert.DconvRefIdeal.τ).loc Cert.DconvRefIdeal.main_arg0) = m ((c.tc : Thread Cert.DconvIdeal.nD Cert.DconvIdeal.τ).loc Cert.DconvIdeal.main_arg0)
      ∧ m' ((c.tc : Thread Cert.DconvRefIdeal.nD Cert.DconvRefIdeal.τ).loc Cert.DconvRefIdeal.main_arg1) = m ((c.tc : Thread Cert.DconvIdeal.nD Cert.DconvIdeal.τ).loc Cert.DconvIdeal.main_arg1)
      ∧ m' ((c.tc : Thread Cert.DconvRefIdeal.nD Cert.DconvRefIdeal.τ).loc Cert.DconvRefIdeal.main_arg2) = m ((c.tc : Thread Cert.DconvIdeal.nD Cert.DconvIdeal.τ).loc Cert.DconvIdeal.main_arg2)
      ∧ m' ((c.tc : Thread Cert.DconvRefIdeal.nD Cert.DconvRefIdeal.τ).loc Cert.DconvRefIdeal.main_arg3) = m ((c.tc : Thread Cert.DconvIdeal.nD Cert.DconvIdeal.τ).loc Cert.DconvIdeal.main_arg3)
      ∧ m' ((c.tc : Thread Cert.DconvRefIdeal.nD Cert.DconvRefIdeal.τ).loc Cert.DconvRefIdeal.main_arg4) = m ((c.tc : Thread Cert.DconvIdeal.nD Cert.DconvIdeal.τ).loc Cert.DconvIdeal.main_arg4)) →
    ∃ (v0 : (c : Dev Cert.DconvIdeal.nD) → Buf (Elt Ideal) ((c.tc : Thread Cert.DconvIdeal.nD Cert.DconvIdeal.τ).loc Cert.DconvIdeal.main_v0_0)) (v1 : (c : Dev Cert.DconvIdeal.nD) → Buf (Elt Ideal) ((c.tc : Thread Cert.DconvIdeal.nD Cert.DconvIdeal.τ).loc Cert.DconvIdeal.main_v0_1)) (v2 : (c : Dev Cert.DconvIdeal.nD) → Buf (Elt Ideal) ((c.tc : Thread Cert.DconvIdeal.nD Cert.DconvIdeal.τ).loc Cert.DconvIdeal.main_v0_2)),
      θ_run (Cert.DconvIdeal.defs (F := Ideal)) (onTc (τ := Cert.DconvIdeal.τ) (Cert.DconvIdeal.main (F := Ideal))) ⟨m, fun _ => 0, g⟩ (fun r => ∀ c : Dev Cert.DconvIdeal.nD,
          r.2.mem ((c.tc : Thread Cert.DconvIdeal.nD Cert.DconvIdeal.τ).loc Cert.DconvIdeal.main_v0_0) = v0 c
          ∧ r.2.mem ((c.tc : Thread Cert.DconvIdeal.nD Cert.DconvIdeal.τ).loc Cert.DconvIdeal.main_v0_1) = v1 c
          ∧ r.2.mem ((c.tc : Thread Cert.DconvIdeal.nD Cert.DconvIdeal.τ).loc Cert.DconvIdeal.main_v0_2) = v2 c
          ∧ r.2.mem ((c.tc : Thread Cert.DconvIdeal.nD Cert.DconvIdeal.τ).loc Cert.DconvIdeal.main_arg0) = m ((c.tc : Thread Cert.DconvIdeal.nD Cert.DconvIdeal.τ).loc Cert.DconvIdeal.main_arg0)
          ∧ r.2.mem ((c.tc : Thread Cert.DconvIdeal.nD Cert.DconvIdeal.τ).loc Cert.DconvIdeal.main_arg1) = m ((c.tc : Thread Cert.DconvIdeal.nD Cert.DconvIdeal.τ).loc Cert.DconvIdeal.main_arg1)
          ∧ r.2.mem ((c.tc : Thread Cert.DconvIdeal.nD Cert.DconvIdeal.τ).loc Cert.DconvIdeal.main_arg2) = m ((c.tc : Thread Cert.DconvIdeal.nD Cert.DconvIdeal.τ).loc Cert.DconvIdeal.main_arg2)
          ∧ r.2.mem ((c.tc : Thread Cert.DconvIdeal.nD Cert.DconvIdeal.τ).loc Cert.DconvIdeal.main_arg3) = m ((c.tc : Thread Cert.DconvIdeal.nD Cert.DconvIdeal.τ).loc Cert.DconvIdeal.main_arg3)
          ∧ r.2.mem ((c.tc : Thread Cert.DconvIdeal.nD Cert.DconvIdeal.τ).loc Cert.DconvIdeal.main_arg4) = m ((c.tc : Thread Cert.DconvIdeal.nD Cert.DconvIdeal.τ).loc Cert.DconvIdeal.main_arg4))
      ∧ θ_run (Cert.DconvRefIdeal.defs (F := Ideal)) (onTc (τ := Cert.DconvRefIdeal.τ) (Cert.DconvRefIdeal.main (F := Ideal))) ⟨m', fun _ => 0, g'⟩ (fun r => ∀ c : Dev Cert.DconvRefIdeal.nD,
          r.2.mem ((c.tc : Thread Cert.DconvRefIdeal.nD Cert.DconvRefIdeal.τ).loc Cert.DconvRefIdeal.main_v89) = v0 c
          ∧ r.2.mem ((c.tc : Thread Cert.DconvRefIdeal.nD Cert.DconvRefIdeal.τ).loc Cert.DconvRefIdeal.main_v82) = v1 c
          ∧ r.2.mem ((c.tc : Thread Cert.DconvRefIdeal.nD Cert.DconvRefIdeal.τ).loc Cert.DconvRefIdeal.main_v42) = v2 c
          ∧ r.2.mem ((c.tc : Thread Cert.DconvRefIdeal.nD Cert.DconvRefIdeal.τ).loc Cert.DconvRefIdeal.main_arg0) = m' ((c.tc : Thread Cert.DconvRefIdeal.nD Cert.DconvRefIdeal.τ).loc Cert.DconvRefIdeal.main_arg0)
          ∧ r.2.mem ((c.tc : Thread Cert.DconvRefIdeal.nD Cert.DconvRefIdeal.τ).loc Cert.DconvRefIdeal.main_arg1) = m' ((c.tc : Thread Cert.DconvRefIdeal.nD Cert.DconvRefIdeal.τ).loc Cert.DconvRefIdeal.main_arg1)
          ∧ r.2.mem ((c.tc : Thread Cert.DconvRefIdeal.nD Cert.DconvRefIdeal.τ).loc Cert.DconvRefIdeal.main_arg2) = m' ((c.tc : Thread Cert.DconvRefIdeal.nD Cert.DconvRefIdeal.τ).loc Cert.DconvRefIdeal.main_arg2)
          ∧ r.2.mem ((c.tc : Thread Cert.DconvRefIdeal.nD Cert.DconvRefIdeal.τ).loc Cert.DconvRefIdeal.main_arg3) = m' ((c.tc : Thread Cert.DconvRefIdeal.nD Cert.DconvRefIdeal.τ).loc Cert.DconvRefIdeal.main_arg3)
          ∧ r.2.mem ((c.tc : Thread Cert.DconvRefIdeal.nD Cert.DconvRefIdeal.τ).loc Cert.DconvRefIdeal.main_arg4) = m' ((c.tc : Thread Cert.DconvRefIdeal.nD Cert.DconvRefIdeal.τ).loc Cert.DconvRefIdeal.main_arg4))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v0_0)) (v1 : (c : Dev Cert.ConvIdeal.nD) → Buf (Elt Ideal) ((c.tc : Thread Cert.ConvIdeal.nD Cert.ConvIdeal.τ).loc Cert.ConvIdeal.main_v0_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0_0) = v0 c
          ∧ r.2.mem ((c.tc : Thread Cert.ConvIdeal.nD Cert.ConvIdeal.τ).loc Cert.ConvIdeal.main_v0_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v33) = v0 c
          ∧ r.2.mem ((c.tc : Thread Cert.ConvRefIdeal.nD Cert.ConvRefIdeal.τ).loc Cert.ConvRefIdeal.main_v35) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_Xat_XatIdeal : Prop :=
  True

def algebraic_XatIdeal_XatRefIdeal [hXatIdeal : Cert.XatIdeal.Facts] [hXatRefIdeal : Cert.XatRefIdeal.Facts] : Prop :=
  ∀ (m : (ℓ : Loc Cert.XatIdeal.nD Cert.XatIdeal.τ Cert.XatIdeal.sig) → Buf (Elt Ideal) ℓ) (g : Dev Cert.XatIdeal.nD → PrngReg)
    (m' : (ℓ : Loc Cert.XatRefIdeal.nD Cert.XatRefIdeal.τ Cert.XatRefIdeal.sig) → Buf (Elt Ideal) ℓ) (g' : Dev Cert.XatRefIdeal.nD → PrngReg), Pre_XatIdeal m →
    (∀ c : Dev Cert.XatIdeal.nD,
      m' ((c.tc : Thread Cert.XatRefIdeal.nD Cert.XatRefIdeal.τ).loc Cert.XatRefIdeal.main_arg0) = m ((c.tc : Thread Cert.XatIdeal.nD Cert.XatIdeal.τ).loc Cert.XatIdeal.main_arg0)
      ∧ m' ((c.tc : Thread Cert.XatRefIdeal.nD Cert.XatRefIdeal.τ).loc Cert.XatRefIdeal.main_arg1) = m ((c.tc : Thread Cert.XatIdeal.nD Cert.XatIdeal.τ).loc Cert.XatIdeal.main_arg1)) →
    ∃ (v0 : (c : Dev Cert.XatIdeal.nD) → Buf (Elt Ideal) ((c.tc : Thread Cert.XatIdeal.nD Cert.XatIdeal.τ).loc Cert.XatIdeal.main_v0)),
      θ_run (Cert.XatIdeal.defs (F := Ideal)) (onTc (τ := Cert.XatIdeal.τ) (Cert.XatIdeal.main (F := Ideal))) ⟨m, fun _ => 0, g⟩ (fun r => ∀ c : Dev Cert.XatIdeal.nD,
          r.2.mem ((c.tc : Thread Cert.XatIdeal.nD Cert.XatIdeal.τ).loc Cert.XatIdeal.main_v0) = v0 c
          ∧ r.2.mem ((c.tc : Thread Cert.XatIdeal.nD Cert.XatIdeal.τ).loc Cert.XatIdeal.main_arg0) = m ((c.tc : Thread Cert.XatIdeal.nD Cert.XatIdeal.τ).loc Cert.XatIdeal.main_arg0)
          ∧ r.2.mem ((c.tc : Thread Cert.XatIdeal.nD Cert.XatIdeal.τ).loc Cert.XatIdeal.main_arg1) = m ((c.tc : Thread Cert.XatIdeal.nD Cert.XatIdeal.τ).loc Cert.XatIdeal.main_arg1))
      ∧ θ_run (Cert.XatRefIdeal.defs (F := Ideal)) (onTc (τ := Cert.XatRefIdeal.τ) (Cert.XatRefIdeal.main (F := Ideal))) ⟨m', fun _ => 0, g'⟩ (fun r => ∀ c : Dev Cert.XatRefIdeal.nD,
          r.2.mem ((c.tc : Thread Cert.XatRefIdeal.nD Cert.XatRefIdeal.τ).loc Cert.XatRefIdeal.main_v23) = v0 c
          ∧ r.2.mem ((c.tc : Thread Cert.XatRefIdeal.nD Cert.XatRefIdeal.τ).loc Cert.XatRefIdeal.main_arg0) = m' ((c.tc : Thread Cert.XatRefIdeal.nD Cert.XatRefIdeal.τ).loc Cert.XatRefIdeal.main_arg0)
          ∧ r.2.mem ((c.tc : Thread Cert.XatRefIdeal.nD Cert.XatRefIdeal.τ).loc Cert.XatRefIdeal.main_arg1) = m' ((c.tc : Thread Cert.XatRefIdeal.nD Cert.XatRefIdeal.τ).loc Cert.XatRefIdeal.main_arg1))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)
      ∧ m' ((c.tc : Thread Cert.RopeRefIdeal.nD Cert.RopeRefIdeal.τ).loc Cert.RopeRefIdeal.main_arg1) = m ((c.tc : Thread Cert.RopeIdeal.nD Cert.RopeIdeal.τ).loc Cert.RopeIdeal.main_arg1)
      ∧ m' ((c.tc : Thread Cert.RopeRefIdeal.nD Cert.RopeRefIdeal.τ).loc Cert.RopeRefIdeal.main_arg2) = m ((c.tc : Thread Cert.RopeIdeal.nD Cert.RopeIdeal.τ).loc Cert.RopeIdeal.main_arg2)) →
    ∃ (v0 : (c : Dev Cert.RopeIdeal.nD) → Buf (Elt Ideal) ((c.tc : Thread Cert.RopeIdeal.nD Cert.RopeIdeal.τ).loc Cert.RopeIdeal.main_v11)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v11) = v0 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
          ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
          ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v45) = v0 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0)
          ∧ r.2.mem ((c.tc : Thread Cert.RopeRefIdeal.nD Cert.RopeRefIdeal.τ).loc Cert.RopeRefIdeal.main_arg1) = m' ((c.tc : Thread Cert.RopeRefIdeal.nD Cert.RopeRefIdeal.τ).loc Cert.RopeRefIdeal.main_arg1)
          ∧ r.2.mem ((c.tc : Thread Cert.RopeRefIdeal.nD Cert.RopeRefIdeal.τ).loc Cert.RopeRefIdeal.main_arg2) = m' ((c.tc : Thread Cert.RopeRefIdeal.nD Cert.RopeRefIdeal.τ).loc Cert.RopeRefIdeal.main_arg2))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)) (v2 : (c : Dev Cert.UpIdeal.nD) → Buf (Elt Ideal) ((c.tc : Thread Cert.UpIdeal.nD Cert.UpIdeal.τ).loc Cert.UpIdeal.main_v0_2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_v0_2) = v2 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v8) = v0 c
          ∧ r.2.mem ((c.tc : Thread Cert.UpRefIdeal.nD Cert.UpRefIdeal.τ).loc Cert.UpRefIdeal.main_v9) = v1 c
          ∧ r.2.mem ((c.tc : Thread Cert.UpRefIdeal.nD Cert.UpRefIdeal.τ).loc Cert.UpRefIdeal.main_v12) = v2 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v6) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v0)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v3) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v0)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v4) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2))

def preserves_Xq_XqIdeal : Prop :=
  True

def algebraic_XqIdeal_XqRefIdeal [hXqIdeal : Cert.XqIdeal.Facts] [hXqRefIdeal : Cert.XqRefIdeal.Facts] : Prop :=
  ∀ (m : (ℓ : Loc Cert.XqIdeal.nD Cert.XqIdeal.τ Cert.XqIdeal.sig) → Buf (Elt Ideal) ℓ) (g : Dev Cert.XqIdeal.nD → PrngReg)
    (m' : (ℓ : Loc Cert.XqRefIdeal.nD Cert.XqRefIdeal.τ Cert.XqRefIdeal.sig) → Buf (Elt Ideal) ℓ) (g' : Dev Cert.XqRefIdeal.nD → PrngReg), Pre_XqIdeal m →
    (∀ c : Dev Cert.XqIdeal.nD,
      m' ((c.tc : Thread Cert.XqRefIdeal.nD Cert.XqRefIdeal.τ).loc Cert.XqRefIdeal.main_arg0) = m ((c.tc : Thread Cert.XqIdeal.nD Cert.XqIdeal.τ).loc Cert.XqIdeal.main_arg0)
      ∧ m' ((c.tc : Thread Cert.XqRefIdeal.nD Cert.XqRefIdeal.τ).loc Cert.XqRefIdeal.main_arg1) = m ((c.tc : Thread Cert.XqIdeal.nD Cert.XqIdeal.τ).loc Cert.XqIdeal.main_arg1)) →
    ∃ (v0 : (c : Dev Cert.XqIdeal.nD) → Buf (Elt Ideal) ((c.tc : Thread Cert.XqIdeal.nD Cert.XqIdeal.τ).loc Cert.XqIdeal.main_v0)),
      θ_run (Cert.XqIdeal.defs (F := Ideal)) (onTc (τ := Cert.XqIdeal.τ) (Cert.XqIdeal.main (F := Ideal))) ⟨m, fun _ => 0, g⟩ (fun r => ∀ c : Dev Cert.XqIdeal.nD,
          r.2.mem ((c.tc : Thread Cert.XqIdeal.nD Cert.XqIdeal.τ).loc Cert.XqIdeal.main_v0) = v0 c
          ∧ r.2.mem ((c.tc : Thread Cert.XqIdeal.nD Cert.XqIdeal.τ).loc Cert.XqIdeal.main_arg0) = m ((c.tc : Thread Cert.XqIdeal.nD Cert.XqIdeal.τ).loc Cert.XqIdeal.main_arg0)
          ∧ r.2.mem ((c.tc : Thread Cert.XqIdeal.nD Cert.XqIdeal.τ).loc Cert.XqIdeal.main_arg1) = m ((c.tc : Thread Cert.XqIdeal.nD Cert.XqIdeal.τ).loc Cert.XqIdeal.main_arg1))
      ∧ θ_run (Cert.XqRefIdeal.defs (F := Ideal)) (onTc (τ := Cert.XqRefIdeal.τ) (Cert.XqRefIdeal.main (F := Ideal))) ⟨m', fun _ => 0, g'⟩ (fun r => ∀ c : Dev Cert.XqRefIdeal.nD,
          r.2.mem ((c.tc : Thread Cert.XqRefIdeal.nD Cert.XqRefIdeal.τ).loc Cert.XqRefIdeal.main_v4) = v0 c
          ∧ r.2.mem ((c.tc : Thread Cert.XqRefIdeal.nD Cert.XqRefIdeal.τ).loc Cert.XqRefIdeal.main_arg0) = m' ((c.tc : Thread Cert.XqRefIdeal.nD Cert.XqRefIdeal.τ).loc Cert.XqRefIdeal.main_arg0)
          ∧ r.2.mem ((c.tc : Thread Cert.XqRefIdeal.nD Cert.XqRefIdeal.τ).loc Cert.XqRefIdeal.main_arg1) = m' ((c.tc : Thread Cert.XqRefIdeal.nD Cert.XqRefIdeal.τ).loc Cert.XqRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v0_0)) (v1 : (c : Dev Cert.OutIdeal.nD) → Buf (Elt Ideal) ((c.tc : Thread Cert.OutIdeal.nD Cert.OutIdeal.τ).loc Cert.OutIdeal.main_v0_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0_0) = v0 c
          ∧ r.2.mem ((c.tc : Thread Cert.OutIdeal.nD Cert.OutIdeal.τ).loc Cert.OutIdeal.main_v0_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v4) = v0 c
          ∧ r.2.mem ((c.tc : Thread Cert.OutRefIdeal.nD Cert.OutRefIdeal.τ).loc Cert.OutRefIdeal.main_v17) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Oo_OoIdeal : Prop :=
  True

def algebraic_OoIdeal_OoRefIdeal [hOoIdeal : Cert.OoIdeal.Facts] [hOoRefIdeal : Cert.OoRefIdeal.Facts] : Prop :=
  ∀ (m : (ℓ : Loc Cert.OoIdeal.nD Cert.OoIdeal.τ Cert.OoIdeal.sig) → Buf (Elt Ideal) ℓ) (g : Dev Cert.OoIdeal.nD → PrngReg)
    (m' : (ℓ : Loc Cert.OoRefIdeal.nD Cert.OoRefIdeal.τ Cert.OoRefIdeal.sig) → Buf (Elt Ideal) ℓ) (g' : Dev Cert.OoRefIdeal.nD → PrngReg), Pre_OoIdeal m →
    (∀ c : Dev Cert.OoIdeal.nD,
      m' ((c.tc : Thread Cert.OoRefIdeal.nD Cert.OoRefIdeal.τ).loc Cert.OoRefIdeal.main_arg0) = m ((c.tc : Thread Cert.OoIdeal.nD Cert.OoIdeal.τ).loc Cert.OoIdeal.main_arg0)
      ∧ m' ((c.tc : Thread Cert.OoRefIdeal.nD Cert.OoRefIdeal.τ).loc Cert.OoRefIdeal.main_arg1) = m ((c.tc : Thread Cert.OoIdeal.nD Cert.OoIdeal.τ).loc Cert.OoIdeal.main_arg1)
      ∧ m' ((c.tc : Thread Cert.OoRefIdeal.nD Cert.OoRefIdeal.τ).loc Cert.OoRefIdeal.main_arg2) = m ((c.tc : Thread Cert.OoIdeal.nD Cert.OoIdeal.τ).loc Cert.OoIdeal.main_arg2)
      ∧ m' ((c.tc : Thread Cert.OoRefIdeal.nD Cert.OoRefIdeal.τ).loc Cert.OoRefIdeal.main_arg3) = m ((c.tc : Thread Cert.OoIdeal.nD Cert.OoIdeal.τ).loc Cert.OoIdeal.main_arg3)) →
    ∃ (v0 : (c : Dev Cert.OoIdeal.nD) → Buf (Elt Ideal) ((c.tc : Thread Cert.OoIdeal.nD Cert.OoIdeal.τ).loc Cert.OoIdeal.main_v0_0)) (v1 : (c : Dev Cert.OoIdeal.nD) → Buf (Elt Ideal) ((c.tc : Thread Cert.OoIdeal.nD Cert.OoIdeal.τ).loc Cert.OoIdeal.main_v0_1)),
      θ_run (Cert.OoIdeal.defs (F := Ideal)) (onTc (τ := Cert.OoIdeal.τ) (Cert.OoIdeal.main (F := Ideal))) ⟨m, fun _ => 0, g⟩ (fun r => ∀ c : Dev Cert.OoIdeal.nD,
          r.2.mem ((c.tc : Thread Cert.OoIdeal.nD Cert.OoIdeal.τ).loc Cert.OoIdeal.main_v0_0) = v0 c
          ∧ r.2.mem ((c.tc : Thread Cert.OoIdeal.nD Cert.OoIdeal.τ).loc Cert.OoIdeal.main_v0_1) = v1 c
          ∧ r.2.mem ((c.tc : Thread Cert.OoIdeal.nD Cert.OoIdeal.τ).loc Cert.OoIdeal.main_arg0) = m ((c.tc : Thread Cert.OoIdeal.nD Cert.OoIdeal.τ).loc Cert.OoIdeal.main_arg0)
          ∧ r.2.mem ((c.tc : Thread Cert.OoIdeal.nD Cert.OoIdeal.τ).loc Cert.OoIdeal.main_arg1) = m ((c.tc : Thread Cert.OoIdeal.nD Cert.OoIdeal.τ).loc Cert.OoIdeal.main_arg1)
          ∧ r.2.mem ((c.tc : Thread Cert.OoIdeal.nD Cert.OoIdeal.τ).loc Cert.OoIdeal.main_arg2) = m ((c.tc : Thread Cert.OoIdeal.nD Cert.OoIdeal.τ).loc Cert.OoIdeal.main_arg2)
          ∧ r.2.mem ((c.tc : Thread Cert.OoIdeal.nD Cert.OoIdeal.τ).loc Cert.OoIdeal.main_arg3) = m ((c.tc : Thread Cert.OoIdeal.nD Cert.OoIdeal.τ).loc Cert.OoIdeal.main_arg3))
      ∧ θ_run (Cert.OoRefIdeal.defs (F := Ideal)) (onTc (τ := Cert.OoRefIdeal.τ) (Cert.OoRefIdeal.main (F := Ideal))) ⟨m', fun _ => 0, g'⟩ (fun r => ∀ c : Dev Cert.OoRefIdeal.nD,
          r.2.mem ((c.tc : Thread Cert.OoRefIdeal.nD Cert.OoRefIdeal.τ).loc Cert.OoRefIdeal.main_v4) = v0 c
          ∧ r.2.mem ((c.tc : Thread Cert.OoRefIdeal.nD Cert.OoRefIdeal.τ).loc Cert.OoRefIdeal.main_v17) = v1 c
          ∧ r.2.mem ((c.tc : Thread Cert.OoRefIdeal.nD Cert.OoRefIdeal.τ).loc Cert.OoRefIdeal.main_arg0) = m' ((c.tc : Thread Cert.OoRefIdeal.nD Cert.OoRefIdeal.τ).loc Cert.OoRefIdeal.main_arg0)
          ∧ r.2.mem ((c.tc : Thread Cert.OoRefIdeal.nD Cert.OoRefIdeal.τ).loc Cert.OoRefIdeal.main_arg1) = m' ((c.tc : Thread Cert.OoRefIdeal.nD Cert.OoRefIdeal.τ).loc Cert.OoRefIdeal.main_arg1)
          ∧ r.2.mem ((c.tc : Thread Cert.OoRefIdeal.nD Cert.OoRefIdeal.τ).loc Cert.OoRefIdeal.main_arg2) = m' ((c.tc : Thread Cert.OoRefIdeal.nD Cert.OoRefIdeal.τ).loc Cert.OoRefIdeal.main_arg2)
          ∧ r.2.mem ((c.tc : Thread Cert.OoRefIdeal.nD Cert.OoRefIdeal.τ).loc Cert.OoRefIdeal.main_arg3) = m' ((c.tc : Thread Cert.OoRefIdeal.nD Cert.OoRefIdeal.τ).loc Cert.OoRefIdeal.main_arg3))

def preserves_Xo_XoIdeal : Prop :=
  True

def algebraic_XoIdeal_XoRefIdeal [hXoIdeal : Cert.XoIdeal.Facts] [hXoRefIdeal : Cert.XoRefIdeal.Facts] : Prop :=
  ∀ (m : (ℓ : Loc Cert.XoIdeal.nD Cert.XoIdeal.τ Cert.XoIdeal.sig) → Buf (Elt Ideal) ℓ) (g : Dev Cert.XoIdeal.nD → PrngReg)
    (m' : (ℓ : Loc Cert.XoRefIdeal.nD Cert.XoRefIdeal.τ Cert.XoRefIdeal.sig) → Buf (Elt Ideal) ℓ) (g' : Dev Cert.XoRefIdeal.nD → PrngReg), Pre_XoIdeal m →
    (∀ c : Dev Cert.XoIdeal.nD,
      m' ((c.tc : Thread Cert.XoRefIdeal.nD Cert.XoRefIdeal.τ).loc Cert.XoRefIdeal.main_arg0) = m ((c.tc : Thread Cert.XoIdeal.nD Cert.XoIdeal.τ).loc Cert.XoIdeal.main_arg0)
      ∧ m' ((c.tc : Thread Cert.XoRefIdeal.nD Cert.XoRefIdeal.τ).loc Cert.XoRefIdeal.main_arg1) = m ((c.tc : Thread Cert.XoIdeal.nD Cert.XoIdeal.τ).loc Cert.XoIdeal.main_arg1)
      ∧ m' ((c.tc : Thread Cert.XoRefIdeal.nD Cert.XoRefIdeal.τ).loc Cert.XoRefIdeal.main_arg2) = m ((c.tc : Thread Cert.XoIdeal.nD Cert.XoIdeal.τ).loc Cert.XoIdeal.main_arg2)
      ∧ m' ((c.tc : Thread Cert.XoRefIdeal.nD Cert.XoRefIdeal.τ).loc Cert.XoRefIdeal.main_arg3) = m ((c.tc : Thread Cert.XoIdeal.nD Cert.XoIdeal.τ).loc Cert.XoIdeal.main_arg3)) →
    ∃ (v0 : (c : Dev Cert.XoIdeal.nD) → Buf (Elt Ideal) ((c.tc : Thread Cert.XoIdeal.nD Cert.XoIdeal.τ).loc Cert.XoIdeal.main_v0_0)) (v1 : (c : Dev Cert.XoIdeal.nD) → Buf (Elt Ideal) ((c.tc : Thread Cert.XoIdeal.nD Cert.XoIdeal.τ).loc Cert.XoIdeal.main_v0_1)),
      θ_run (Cert.XoIdeal.defs (F := Ideal)) (onTc (τ := Cert.XoIdeal.τ) (Cert.XoIdeal.main (F := Ideal))) ⟨m, fun _ => 0, g⟩ (fun r => ∀ c : Dev Cert.XoIdeal.nD,
          r.2.mem ((c.tc : Thread Cert.XoIdeal.nD Cert.XoIdeal.τ).loc Cert.XoIdeal.main_v0_0) = v0 c
          ∧ r.2.mem ((c.tc : Thread Cert.XoIdeal.nD Cert.XoIdeal.τ).loc Cert.XoIdeal.main_v0_1) = v1 c
          ∧ r.2.mem ((c.tc : Thread Cert.XoIdeal.nD Cert.XoIdeal.τ).loc Cert.XoIdeal.main_arg0) = m ((c.tc : Thread Cert.XoIdeal.nD Cert.XoIdeal.τ).loc Cert.XoIdeal.main_arg0)
          ∧ r.2.mem ((c.tc : Thread Cert.XoIdeal.nD Cert.XoIdeal.τ).loc Cert.XoIdeal.main_arg1) = m ((c.tc : Thread Cert.XoIdeal.nD Cert.XoIdeal.τ).loc Cert.XoIdeal.main_arg1)
          ∧ r.2.mem ((c.tc : Thread Cert.XoIdeal.nD Cert.XoIdeal.τ).loc Cert.XoIdeal.main_arg2) = m ((c.tc : Thread Cert.XoIdeal.nD Cert.XoIdeal.τ).loc Cert.XoIdeal.main_arg2)
          ∧ r.2.mem ((c.tc : Thread Cert.XoIdeal.nD Cert.XoIdeal.τ).loc Cert.XoIdeal.main_arg3) = m ((c.tc : Thread Cert.XoIdeal.nD Cert.XoIdeal.τ).loc Cert.XoIdeal.main_arg3))
      ∧ θ_run (Cert.XoRefIdeal.defs (F := Ideal)) (onTc (τ := Cert.XoRefIdeal.τ) (Cert.XoRefIdeal.main (F := Ideal))) ⟨m', fun _ => 0, g'⟩ (fun r => ∀ c : Dev Cert.XoRefIdeal.nD,
          r.2.mem ((c.tc : Thread Cert.XoRefIdeal.nD Cert.XoRefIdeal.τ).loc Cert.XoRefIdeal.main_v3) = v0 c
          ∧ r.2.mem ((c.tc : Thread Cert.XoRefIdeal.nD Cert.XoRefIdeal.τ).loc Cert.XoRefIdeal.main_v16) = v1 c
          ∧ r.2.mem ((c.tc : Thread Cert.XoRefIdeal.nD Cert.XoRefIdeal.τ).loc Cert.XoRefIdeal.main_arg0) = m' ((c.tc : Thread Cert.XoRefIdeal.nD Cert.XoRefIdeal.τ).loc Cert.XoRefIdeal.main_arg0)
          ∧ r.2.mem ((c.tc : Thread Cert.XoRefIdeal.nD Cert.XoRefIdeal.τ).loc Cert.XoRefIdeal.main_arg1) = m' ((c.tc : Thread Cert.XoRefIdeal.nD Cert.XoRefIdeal.τ).loc Cert.XoRefIdeal.main_arg1)
          ∧ r.2.mem ((c.tc : Thread Cert.XoRefIdeal.nD Cert.XoRefIdeal.τ).loc Cert.XoRefIdeal.main_arg2) = m' ((c.tc : Thread Cert.XoRefIdeal.nD Cert.XoRefIdeal.τ).loc Cert.XoRefIdeal.main_arg2)
          ∧ r.2.mem ((c.tc : Thread Cert.XoRefIdeal.nD Cert.XoRefIdeal.τ).loc Cert.XoRefIdeal.main_arg3) = m' ((c.tc : Thread Cert.XoRefIdeal.nD Cert.XoRefIdeal.τ).loc Cert.XoRefIdeal.main_arg3))

def Claim : Prop :=
  ∃ (hKernel : Cert.Kernel.Facts) (hKernelIdeal : Cert.KernelIdeal.Facts) (hReferenceIdeal : Cert.ReferenceIdeal.Facts) (hDwgu : Cert.Dwgu.Facts) (hDwguIdeal : Cert.DwguIdeal.Facts) (hDwguRefIdeal : Cert.DwguRefIdeal.Facts) (hDwd : Cert.Dwd.Facts) (hDwdIdeal : Cert.DwdIdeal.Facts) (hDwdRefIdeal : Cert.DwdRefIdeal.Facts) (hDh : Cert.Dh.Facts) (hDhIdeal : Cert.DhIdeal.Facts) (hDhRefIdeal : Cert.DhRefIdeal.Facts) (hDact : Cert.Dact.Facts) (hDactIdeal : Cert.DactIdeal.Facts) (hDactRefIdeal : Cert.DactRefIdeal.Facts) (hDwin : Cert.Dwin.Facts) (hDwinIdeal : Cert.DwinIdeal.Facts) (hDwinRefIdeal : Cert.DwinRefIdeal.Facts) (hDh2 : Cert.Dh2.Facts) (hDh2Ideal : Cert.Dh2Ideal.Facts) (hDh2RefIdeal : Cert.Dh2RefIdeal.Facts) (hDwout : Cert.Dwout.Facts) (hDwoutIdeal : Cert.DwoutIdeal.Facts) (hDwoutRefIdeal : Cert.DwoutRefIdeal.Facts) (hDmix : Cert.Dmix.Facts) (hDmixIdeal : Cert.DmixIdeal.Facts) (hDmixRefIdeal : Cert.DmixRefIdeal.Facts) (hDwo : Cert.Dwo.Facts) (hDwoIdeal : Cert.DwoIdeal.Facts) (hDwoRefIdeal : Cert.DwoRefIdeal.Facts) (hDo : Cert.Do.Facts) (hDoIdeal : Cert.DoIdeal.Facts) (hDoRefIdeal : Cert.DoRefIdeal.Facts) (hDwqkv : Cert.Dwqkv.Facts) (hDwqkvIdeal : Cert.DwqkvIdeal.Facts) (hDwqkvRefIdeal : Cert.DwqkvRefIdeal.Facts) (hDha : Cert.Dha.Facts) (hDhaIdeal : Cert.DhaIdeal.Facts) (hDhaRefIdeal : Cert.DhaRefIdeal.Facts) (hDwxo : Cert.Dwxo.Facts) (hDwxoIdeal : Cert.DwxoIdeal.Facts) (hDwxoRefIdeal : Cert.DwxoRefIdeal.Facts) (hDxo : Cert.Dxo.Facts) (hDxoIdeal : Cert.DxoIdeal.Facts) (hDxoRefIdeal : Cert.DxoRefIdeal.Facts) (hDwxq : Cert.Dwxq.Facts) (hDwxqIdeal : Cert.DwxqIdeal.Facts) (hDwxqRefIdeal : Cert.DwxqRefIdeal.Facts) (hDhxq : Cert.Dhxq.Facts) (hDhxqIdeal : Cert.DhxqIdeal.Facts) (hDhxqRefIdeal : Cert.DhxqRefIdeal.Facts) (hDatt : Cert.Datt.Facts) (hDattIdeal : Cert.DattIdeal.Facts) (hDattRefIdeal : Cert.DattRefIdeal.Facts) (hDrope : Cert.Drope.Facts) (hDropeIdeal : Cert.DropeIdeal.Facts) (hDropeRefIdeal : Cert.DropeRefIdeal.Facts) (hDconv : Cert.Dconv.Facts) (hDconvIdeal : Cert.DconvIdeal.Facts) (hDconvRefIdeal : Cert.DconvRefIdeal.Facts) (hConv : Cert.Conv.Facts) (hConvIdeal : Cert.ConvIdeal.Facts) (hConvRefIdeal : Cert.ConvRefIdeal.Facts) (hXat : Cert.Xat.Facts) (hXatIdeal : Cert.XatIdeal.Facts) (hXatRefIdeal : Cert.XatRefIdeal.Facts) (hRope : Cert.Rope.Facts) (hRopeIdeal : Cert.RopeIdeal.Facts) (hRopeRefIdeal : Cert.RopeRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hIn : Cert.In.Facts) (hInIdeal : Cert.InIdeal.Facts) (hInRefIdeal : Cert.InRefIdeal.Facts) (hQkv : Cert.Qkv.Facts) (hQkvIdeal : Cert.QkvIdeal.Facts) (hQkvRefIdeal : Cert.QkvRefIdeal.Facts) (hXq : Cert.Xq.Facts) (hXqIdeal : Cert.XqIdeal.Facts) (hXqRefIdeal : Cert.XqRefIdeal.Facts) (hOut : Cert.Out.Facts) (hOutIdeal : Cert.OutIdeal.Facts) (hOutRefIdeal : Cert.OutRefIdeal.Facts) (hOo : Cert.Oo.Facts) (hOoIdeal : Cert.OoIdeal.Facts) (hOoRefIdeal : Cert.OoRefIdeal.Facts) (hXo : Cert.Xo.Facts) (hXoIdeal : Cert.XoIdeal.Facts) (hXoRefIdeal : Cert.XoRefIdeal.Facts),
    quiescent_Kernel (hKernel := hKernel)
    ∧ quiescent_KernelIdeal (hKernelIdeal := hKernelIdeal)
    ∧ quiescent_ReferenceIdeal (hReferenceIdeal := hReferenceIdeal)
    ∧ quiescent_Dwgu (hDwgu := hDwgu)
    ∧ quiescent_DwguIdeal (hDwguIdeal := hDwguIdeal)
    ∧ quiescent_DwguRefIdeal (hDwguRefIdeal := hDwguRefIdeal)
    ∧ quiescent_Dwd (hDwd := hDwd)
    ∧ quiescent_DwdIdeal (hDwdIdeal := hDwdIdeal)
    ∧ quiescent_DwdRefIdeal (hDwdRefIdeal := hDwdRefIdeal)
    ∧ quiescent_Dh (hDh := hDh)
    ∧ quiescent_DhIdeal (hDhIdeal := hDhIdeal)
    ∧ quiescent_DhRefIdeal (hDhRefIdeal := hDhRefIdeal)
    ∧ quiescent_Dact (hDact := hDact)
    ∧ quiescent_DactIdeal (hDactIdeal := hDactIdeal)
    ∧ quiescent_DactRefIdeal (hDactRefIdeal := hDactRefIdeal)
    ∧ quiescent_Dwin (hDwin := hDwin)
    ∧ quiescent_DwinIdeal (hDwinIdeal := hDwinIdeal)
    ∧ quiescent_DwinRefIdeal (hDwinRefIdeal := hDwinRefIdeal)
    ∧ quiescent_Dh2 (hDh2 := hDh2)
    ∧ quiescent_Dh2Ideal (hDh2Ideal := hDh2Ideal)
    ∧ quiescent_Dh2RefIdeal (hDh2RefIdeal := hDh2RefIdeal)
    ∧ quiescent_Dwout (hDwout := hDwout)
    ∧ quiescent_DwoutIdeal (hDwoutIdeal := hDwoutIdeal)
    ∧ quiescent_DwoutRefIdeal (hDwoutRefIdeal := hDwoutRefIdeal)
    ∧ quiescent_Dmix (hDmix := hDmix)
    ∧ quiescent_DmixIdeal (hDmixIdeal := hDmixIdeal)
    ∧ quiescent_DmixRefIdeal (hDmixRefIdeal := hDmixRefIdeal)
    ∧ quiescent_Dwo (hDwo := hDwo)
    ∧ quiescent_DwoIdeal (hDwoIdeal := hDwoIdeal)
    ∧ quiescent_DwoRefIdeal (hDwoRefIdeal := hDwoRefIdeal)
    ∧ quiescent_Do (hDo := hDo)
    ∧ quiescent_DoIdeal (hDoIdeal := hDoIdeal)
    ∧ quiescent_DoRefIdeal (hDoRefIdeal := hDoRefIdeal)
    ∧ quiescent_Dwqkv (hDwqkv := hDwqkv)
    ∧ quiescent_DwqkvIdeal (hDwqkvIdeal := hDwqkvIdeal)
    ∧ quiescent_DwqkvRefIdeal (hDwqkvRefIdeal := hDwqkvRefIdeal)
    ∧ quiescent_Dha (hDha := hDha)
    ∧ quiescent_DhaIdeal (hDhaIdeal := hDhaIdeal)
    ∧ quiescent_DhaRefIdeal (hDhaRefIdeal := hDhaRefIdeal)
    ∧ quiescent_Dwxo (hDwxo := hDwxo)
    ∧ quiescent_DwxoIdeal (hDwxoIdeal := hDwxoIdeal)
    ∧ quiescent_DwxoRefIdeal (hDwxoRefIdeal := hDwxoRefIdeal)
    ∧ quiescent_Dxo (hDxo := hDxo)
    ∧ quiescent_DxoIdeal (hDxoIdeal := hDxoIdeal)
    ∧ quiescent_DxoRefIdeal (hDxoRefIdeal := hDxoRefIdeal)
    ∧ quiescent_Dwxq (hDwxq := hDwxq)
    ∧ quiescent_DwxqIdeal (hDwxqIdeal := hDwxqIdeal)
    ∧ quiescent_DwxqRefIdeal (hDwxqRefIdeal := hDwxqRefIdeal)
    ∧ quiescent_Dhxq (hDhxq := hDhxq)
    ∧ quiescent_DhxqIdeal (hDhxqIdeal := hDhxqIdeal)
    ∧ quiescent_DhxqRefIdeal (hDhxqRefIdeal := hDhxqRefIdeal)
    ∧ quiescent_Datt (hDatt := hDatt)
    ∧ quiescent_DattIdeal (hDattIdeal := hDattIdeal)
    ∧ quiescent_DattRefIdeal (hDattRefIdeal := hDattRefIdeal)
    ∧ quiescent_Drope (hDrope := hDrope)
    ∧ quiescent_DropeIdeal (hDropeIdeal := hDropeIdeal)
    ∧ quiescent_DropeRefIdeal (hDropeRefIdeal := hDropeRefIdeal)
    ∧ quiescent_Dconv (hDconv := hDconv)
    ∧ quiescent_DconvIdeal (hDconvIdeal := hDconvIdeal)
    ∧ quiescent_DconvRefIdeal (hDconvRefIdeal := hDconvRefIdeal)
    ∧ quiescent_Conv (hConv := hConv)
    ∧ quiescent_ConvIdeal (hConvIdeal := hConvIdeal)
    ∧ quiescent_ConvRefIdeal (hConvRefIdeal := hConvRefIdeal)
    ∧ quiescent_Xat (hXat := hXat)
    ∧ quiescent_XatIdeal (hXatIdeal := hXatIdeal)
    ∧ quiescent_XatRefIdeal (hXatRefIdeal := hXatRefIdeal)
    ∧ quiescent_Rope (hRope := hRope)
    ∧ quiescent_RopeIdeal (hRopeIdeal := hRopeIdeal)
    ∧ quiescent_RopeRefIdeal (hRopeRefIdeal := hRopeRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_In (hIn := hIn)
    ∧ quiescent_InIdeal (hInIdeal := hInIdeal)
    ∧ quiescent_InRefIdeal (hInRefIdeal := hInRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Xq (hXq := hXq)
    ∧ quiescent_XqIdeal (hXqIdeal := hXqIdeal)
    ∧ quiescent_XqRefIdeal (hXqRefIdeal := hXqRefIdeal)
    ∧ quiescent_Out (hOut := hOut)
    ∧ quiescent_OutIdeal (hOutIdeal := hOutIdeal)
    ∧ quiescent_OutRefIdeal (hOutRefIdeal := hOutRefIdeal)
    ∧ quiescent_Oo (hOo := hOo)
    ∧ quiescent_OoIdeal (hOoIdeal := hOoIdeal)
    ∧ quiescent_OoRefIdeal (hOoRefIdeal := hOoRefIdeal)
    ∧ quiescent_Xo (hXo := hXo)
    ∧ quiescent_XoIdeal (hXoIdeal := hXoIdeal)
    ∧ quiescent_XoRefIdeal (hXoRefIdeal := hXoRefIdeal)
    ∧ preserves_Kernel_KernelIdeal
    ∧ algebraic_KernelIdeal_ReferenceIdeal (hKernelIdeal := hKernelIdeal) (hReferenceIdeal := hReferenceIdeal)
    ∧ preserves_Dwgu_DwguIdeal
    ∧ algebraic_DwguIdeal_DwguRefIdeal (hDwguIdeal := hDwguIdeal) (hDwguRefIdeal := hDwguRefIdeal)
    ∧ preserves_Dwd_DwdIdeal
    ∧ algebraic_DwdIdeal_DwdRefIdeal (hDwdIdeal := hDwdIdeal) (hDwdRefIdeal := hDwdRefIdeal)
    ∧ preserves_Dh_DhIdeal
    ∧ algebraic_DhIdeal_DhRefIdeal (hDhIdeal := hDhIdeal) (hDhRefIdeal := hDhRefIdeal)
    ∧ preserves_Dact_DactIdeal
    ∧ algebraic_DactIdeal_DactRefIdeal (hDactIdeal := hDactIdeal) (hDactRefIdeal := hDactRefIdeal)
    ∧ preserves_Dwin_DwinIdeal
    ∧ algebraic_DwinIdeal_DwinRefIdeal (hDwinIdeal := hDwinIdeal) (hDwinRefIdeal := hDwinRefIdeal)
    ∧ preserves_Dh2_Dh2Ideal
    ∧ algebraic_Dh2Ideal_Dh2RefIdeal (hDh2Ideal := hDh2Ideal) (hDh2RefIdeal := hDh2RefIdeal)
    ∧ preserves_Dwout_DwoutIdeal
    ∧ algebraic_DwoutIdeal_DwoutRefIdeal (hDwoutIdeal := hDwoutIdeal) (hDwoutRefIdeal := hDwoutRefIdeal)
    ∧ preserves_Dmix_DmixIdeal
    ∧ algebraic_DmixIdeal_DmixRefIdeal (hDmixIdeal := hDmixIdeal) (hDmixRefIdeal := hDmixRefIdeal)
    ∧ preserves_Dwo_DwoIdeal
    ∧ algebraic_DwoIdeal_DwoRefIdeal (hDwoIdeal := hDwoIdeal) (hDwoRefIdeal := hDwoRefIdeal)
    ∧ preserves_Do_DoIdeal
    ∧ algebraic_DoIdeal_DoRefIdeal (hDoIdeal := hDoIdeal) (hDoRefIdeal := hDoRefIdeal)
    ∧ preserves_Dwqkv_DwqkvIdeal
    ∧ algebraic_DwqkvIdeal_DwqkvRefIdeal (hDwqkvIdeal := hDwqkvIdeal) (hDwqkvRefIdeal := hDwqkvRefIdeal)
    ∧ preserves_Dha_DhaIdeal
    ∧ algebraic_DhaIdeal_DhaRefIdeal (hDhaIdeal := hDhaIdeal) (hDhaRefIdeal := hDhaRefIdeal)
    ∧ preserves_Dwxo_DwxoIdeal
    ∧ algebraic_DwxoIdeal_DwxoRefIdeal (hDwxoIdeal := hDwxoIdeal) (hDwxoRefIdeal := hDwxoRefIdeal)
    ∧ preserves_Dxo_DxoIdeal
    ∧ algebraic_DxoIdeal_DxoRefIdeal (hDxoIdeal := hDxoIdeal) (hDxoRefIdeal := hDxoRefIdeal)
    ∧ preserves_Dwxq_DwxqIdeal
    ∧ algebraic_DwxqIdeal_DwxqRefIdeal (hDwxqIdeal := hDwxqIdeal) (hDwxqRefIdeal := hDwxqRefIdeal)
    ∧ preserves_Dhxq_DhxqIdeal
    ∧ algebraic_DhxqIdeal_DhxqRefIdeal (hDhxqIdeal := hDhxqIdeal) (hDhxqRefIdeal := hDhxqRefIdeal)
    ∧ preserves_Datt_DattIdeal
    ∧ algebraic_DattIdeal_DattRefIdeal (hDattIdeal := hDattIdeal) (hDattRefIdeal := hDattRefIdeal)
    ∧ preserves_Drope_DropeIdeal
    ∧ algebraic_DropeIdeal_DropeRefIdeal (hDropeIdeal := hDropeIdeal) (hDropeRefIdeal := hDropeRefIdeal)
    ∧ preserves_Dconv_DconvIdeal
    ∧ algebraic_DconvIdeal_DconvRefIdeal (hDconvIdeal := hDconvIdeal) (hDconvRefIdeal := hDconvRefIdeal)
    ∧ preserves_Conv_ConvIdeal
    ∧ algebraic_ConvIdeal_ConvRefIdeal (hConvIdeal := hConvIdeal) (hConvRefIdeal := hConvRefIdeal)
    ∧ preserves_Xat_XatIdeal
    ∧ algebraic_XatIdeal_XatRefIdeal (hXatIdeal := hXatIdeal) (hXatRefIdeal := hXatRefIdeal)
    ∧ preserves_Rope_RopeIdeal
    ∧ algebraic_RopeIdeal_RopeRefIdeal (hRopeIdeal := hRopeIdeal) (hRopeRefIdeal := hRopeRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_In_InIdeal
    ∧ algebraic_InIdeal_InRefIdeal (hInIdeal := hInIdeal) (hInRefIdeal := hInRefIdeal)
    ∧ preserves_Qkv_QkvIdeal
    ∧ algebraic_QkvIdeal_QkvRefIdeal (hQkvIdeal := hQkvIdeal) (hQkvRefIdeal := hQkvRefIdeal)
    ∧ preserves_Xq_XqIdeal
    ∧ algebraic_XqIdeal_XqRefIdeal (hXqIdeal := hXqIdeal) (hXqRefIdeal := hXqRefIdeal)
    ∧ preserves_Out_OutIdeal
    ∧ algebraic_OutIdeal_OutRefIdeal (hOutIdeal := hOutIdeal) (hOutRefIdeal := hOutRefIdeal)
    ∧ preserves_Oo_OoIdeal
    ∧ algebraic_OoIdeal_OoRefIdeal (hOoIdeal := hOoIdeal) (hOoRefIdeal := hOoRefIdeal)
    ∧ preserves_Xo_XoIdeal
    ∧ algebraic_XoIdeal_XoRefIdeal (hXoIdeal := hXoIdeal) (hXoRefIdeal := hXoRefIdeal)
-- ==== Kernel.lean ====
abbrev S8192x9216 : Shape := ⟨2, ![8192, 9216]⟩
abbrev S1x2048 : Shape := ⟨2, ![1, 2048]⟩
abbrev S4x128x128 : Shape := ⟨3, ![4, 128, 128]⟩
abbrev S4x128x1 : Shape := ⟨3, ![4, 128, 1]⟩
abbrev S8192x4096 : Shape := ⟨2, ![8192, 4096]⟩
abbrev S128x4096 : Shape := ⟨2, ![128, 4096]⟩
abbrev S128x2048 : Shape := ⟨2, ![128, 2048]⟩
abbrev S128x512 : Shape := ⟨2, ![128, 512]⟩
abbrev S1x512 : Shape := ⟨2, ![1, 512]⟩
abbrev S1x128x128 : Shape := ⟨3, ![1, 128, 128]⟩
abbrev S128x128 : Shape := ⟨2, ![128, 128]⟩
abbrev S1x128x1 : Shape := ⟨3, ![1, 128, 1]⟩
abbrev S128x1 : Shape := ⟨2, ![128, 1]⟩
abbrev S128 : Shape := ⟨1, ![128]⟩
abbrev S512x128 : Shape := ⟨2, ![512, 128]⟩
abbrev S512 : Shape := ⟨1, ![512]⟩

abbrev nBuf : Space → Nat
  | .hbm => 12
  | .vmem => 14
  | .smem => 0
  | _ => 0

abbrev bufTy : (tb : Table) → Fin (tcTables nBuf tb) → BufTy
  | .hbm, ⟨0, _⟩ => ⟨S8192x9216, .bf16⟩
  | .hbm, ⟨1, _⟩ => ⟨S1x2048, .f32⟩
  | .hbm, ⟨2, _⟩ => ⟨S1x2048, .f32⟩
  | .hbm, ⟨3, _⟩ => ⟨S4x128x128, .f32⟩
  | .hbm, ⟨4, _⟩ => ⟨S4x128x1, .f32⟩
  | .hbm, ⟨5, _⟩ => ⟨S8192x4096, .bf16⟩
  | .hbm, ⟨6, _⟩ => ⟨S8192x9216, .bf16⟩
  | .hbm, ⟨7, _⟩ => ⟨S8192x9216, .bf16⟩
  | .hbm, ⟨8, _⟩ => ⟨S1x2048, .f32⟩
  | .hbm, ⟨9, _⟩ => ⟨S1x2048, .f32⟩
  | .hbm, ⟨10, _⟩ => ⟨S4x128x128, .f32⟩
  | .hbm, ⟨11, _⟩ => ⟨S4x128x1, .f32⟩
  | .local _ .vmem, ⟨0, _⟩ => ⟨S128x4096, .bf16⟩
  | .local _ .vmem, ⟨1, _⟩ => ⟨S128x4096, .bf16⟩
  | .local _ .vmem, ⟨2, _⟩ => ⟨S1x2048, .f32⟩
  | .local _ .vmem, ⟨3, _⟩ => ⟨S1x2048, .f32⟩
  | .local _ .vmem, ⟨4, _⟩ => ⟨S4x128x128, .f32⟩
  | .local _ .vmem, ⟨5, _⟩ => ⟨S4x128x1, .f32⟩
  | .local _ .vmem, ⟨6, _⟩ => ⟨S128x2048, .bf16⟩
  | .local _ .vmem, ⟨7, _⟩ => ⟨S128x2048, .bf16⟩
  | .local _ .vmem, ⟨8, _⟩ => ⟨S128x4096, .bf16⟩
  | .local _ .vmem, ⟨9, _⟩ => ⟨S128x4096, .bf16⟩
  | .local _ .vmem, ⟨10, _⟩ => ⟨S1x2048, .f32⟩
  | .local _ .vmem, ⟨11, _⟩ => ⟨S1x2048, .f32⟩
  | .local _ .vmem, ⟨12, _⟩ => ⟨S4x128x128, .f32⟩
  | .local _ .vmem, ⟨13, _⟩ => ⟨S4x128x1, .f32⟩
  | _, _ => ⟨S8192x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v560 : BitVec 32 := Scalar.extui v0
  let c0_i32_208 : BitVec 32 := 0#32
  let v561 : BitVec 1 := Scalar.cmpi .ne v560 c0_i32_208
  v561

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v562 : BitVec 1 := Scalar.xori v0 v_true
  let v563 : BitVec 32 := Scalar.extui v562
  let c0_i32_209 : BitVec 32 := 0#32
  let v564 : BitVec 1 := Scalar.cmpi .ne v563 c0_i32_209
  v564

def k0_cond9 (i : grid0.Coords) : BitVec 1 :=
  let arg0 : BitVec 32 := BitVec.ofNat 32 (i 0).val
  let c0_i32 : BitVec 32 := 0#32
  let v0 : BitVec 1 := Scalar.cmpi .eq arg0 c0_i32
  let v584 : BitVec 32 := Scalar.extui v0
  let c0_i32_223 : BitVec 32 := 0#32
  let v585 : BitVec 1 := Scalar.cmpi .ne v584 c0_i32_223
  v585

def k0_cond10 (i : grid0.Coords) : BitVec 1 :=
  let arg0 : BitVec 32 := BitVec.ofNat 32 (i 0).val
  let c0_i32 : BitVec 32 := 0#32
  let v0 : BitVec 1 := Scalar.cmpi .eq arg0 c0_i32
  let true_224 : BitVec 1 := 1#1
  let v586 : BitVec 1 := Scalar.xori v0 true_224
  let v587 : BitVec 32 := Scalar.extui v586
  let c0_i32_225 : BitVec 32 := 0#32
  let v588 : BitVec 1 := Scalar.cmpi .ne v587 c0_i32_225
  v588

def k0_cond17 (i : grid0.Coords) : BitVec 1 :=
  let arg0 : BitVec 32 := BitVec.ofNat 32 (i 0).val
  let c0_i32 : BitVec 32 := 0#32
  let v0 : BitVec 1 := Scalar.cmpi .eq arg0 c0_i32
  let v608 : BitVec 32 := Scalar.extui v0
  let c0_i32_239 : BitVec 32 := 0#32
  let v609 : BitVec 1 := Scalar.cmpi .ne v608 c0_i32_239
  v609

def k0_cond18 (i : grid0.Coords) : BitVec 1 :=
  let arg0 : BitVec 32 := BitVec.ofNat 32 (i 0).val
  let c0_i32 : BitVec 32 := 0#32
  let v0 : BitVec 1 := Scalar.cmpi .eq arg0 c0_i32
  let true_240 : BitVec 1 := 1#1
  let v610 : BitVec 1 := Scalar.xori v0 true_240
  let v611 : BitVec 32 := Scalar.extui v610
  let c0_i32_241 : BitVec 32 := 0#32
  let v612 : BitVec 1 := Scalar.cmpi .ne v611 c0_i32_241
  v612

def k0_cond25 (i : grid0.Coords) : BitVec 1 :=
  let arg0 : BitVec 32 := BitVec.ofNat 32 (i 0).val
  let c0_i32 : BitVec 32 := 0#32
  let v0 : BitVec 1 := Scalar.cmpi .eq arg0 c0_i32
  let v632 : BitVec 32 := Scalar.extui v0
  let c0_i32_255 : BitVec 32 := 0#32
  let v633 : BitVec 1 := Scalar.cmpi .ne v632 c0_i32_255
  v633

def k0_cond26 (i : grid0.Coords) : BitVec 1 :=
  let arg0 : BitVec 32 := BitVec.ofNat 32 (i 0).val
  let c0_i32 : BitVec 32 := 0#32
  let v0 : BitVec 1 := Scalar.cmpi .eq arg0 c0_i32
  let true_256 : BitVec 1 := 1#1
  let v634 : BitVec 1 := Scalar.xori v0 true_256
  let v635 : BitVec 32 := Scalar.extui v634
  let c0_i32_257 : BitVec 32 := 0#32
  let v636 : BitVec 1 := Scalar.cmpi .ne v635 c0_i32_257
  v636

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v565 : BitVec 32 := Scalar.extui v0
  let c0_i32_210 : BitVec 32 := 0#32
  let v566 : BitVec 1 := Scalar.cmpi .ne v565 c0_i32_210
  v566

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_211 : BitVec 1 := 1#1
  let v567 : BitVec 1 := Scalar.xori v0 true_211
  let v568 : BitVec 32 := Scalar.extui v567
  let c0_i32_212 : BitVec 32 := 0#32
  let v569 : BitVec 1 := Scalar.cmpi .ne v568 c0_i32_212
  v569

def k0_cond11 (i : grid0.Coords) : BitVec 1 :=
  let arg0 : BitVec 32 := BitVec.ofNat 32 (i 0).val
  let c0_i32 : BitVec 32 := 0#32
  let v0 : BitVec 1 := Scalar.cmpi .eq arg0 c0_i32
  let v589 : BitVec 32 := Scalar.extui v0
  let c0_i32_226 : BitVec 32 := 0#32
  let v590 : BitVec 1 := Scalar.cmpi .ne v589 c0_i32_226
  v590

def k0_cond12 (i : grid0.Coords) : BitVec 1 :=
  let arg0 : BitVec 32 := BitVec.ofNat 32 (i 0).val
  let c0_i32 : BitVec 32 := 0#32
  let v0 : BitVec 1 := Scalar.cmpi .eq arg0 c0_i32
  let true_227 : BitVec 1 := 1#1
  let v591 : BitVec 1 := Scalar.xori v0 true_227
  let v592 : BitVec 32 := Scalar.extui v591
  let c0_i32_228 : BitVec 32 := 0#32
  let v593 : BitVec 1 := Scalar.cmpi .ne v592 c0_i32_228
  v593

def k0_cond19 (i : grid0.Coords) : BitVec 1 :=
  let arg0 : BitVec 32 := BitVec.ofNat 32 (i 0).val
  let c0_i32 : BitVec 32 := 0#32
  let v0 : BitVec 1 := Scalar.cmpi .eq arg0 c0_i32
  let v613 : BitVec 32 := Scalar.extui v0
  let c0_i32_242 : BitVec 32 := 0#32
  let v614 : BitVec 1 := Scalar.cmpi .ne v613 c0_i32_242
  v614

def k0_cond20 (i : grid0.Coords) : BitVec 1 :=
  let arg0 : BitVec 32 := BitVec.ofNat 32 (i 0).val
  let c0_i32 : BitVec 32 := 0#32
  let v0 : BitVec 1 := Scalar.cmpi .eq arg0 c0_i32
  let true_243 : BitVec 1 := 1#1
  let v615 : BitVec 1 := Scalar.xori v0 true_243
  let v616 : BitVec 32 := Scalar.extui v615
  let c0_i32_244 : BitVec 32 := 0#32
  let v617 : BitVec 1 := Scalar.cmpi .ne v616 c0_i32_244
  v617

def k0_cond27 (i : grid0.Coords) : BitVec 1 :=
  let arg0 : BitVec 32 := BitVec.ofNat 32 (i 0).val
  let c0_i32 : BitVec 32 := 0#32
  let v0 : BitVec 1 := Scalar.cmpi .eq arg0 c0_i32
  let v637 : BitVec 32 := Scalar.extui v0
  let c0_i32_258 : BitVec 32 := 0#32
  let v638 : BitVec 1 := Scalar.cmpi .ne v637 c0_i32_258
  v638

def k0_cond28 (i : grid0.Coords) : BitVec 1 :=
  let arg0 : BitVec 32 := BitVec.ofNat 32 (i 0).val
  let c0_i32 : BitVec 32 := 0#32
  let v0 : BitVec 1 := Scalar.cmpi .eq arg0 c0_i32
  let true_259 : BitVec 1 := 1#1
  let v639 : BitVec 1 := Scalar.xori v0 true_259
  let v640 : BitVec 32 := Scalar.extui v639
  let c0_i32_260 : BitVec 32 := 0#32
  let v641 : BitVec 1 := Scalar.cmpi .ne v640 c0_i32_260
  v641

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v570 : BitVec 32 := Scalar.extui v0
  let c0_i32_213 : BitVec 32 := 0#32
  let v571 : BitVec 1 := Scalar.cmpi .ne v570 c0_i32_213
  v571

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_214 : BitVec 1 := 1#1
  let v572 : BitVec 1 := Scalar.xori v0 true_214
  let v573 : BitVec 32 := Scalar.extui v572
  let c0_i32_215 : BitVec 32 := 0#32
  let v574 : BitVec 1 := Scalar.cmpi .ne v573 c0_i32_215
  v574

def k0_cond13 (i : grid0.Coords) : BitVec 1 :=
  let arg0 : BitVec 32 := BitVec.ofNat 32 (i 0).val
  let c0_i32 : BitVec 32 := 0#32
  let v0 : BitVec 1 := Scalar.cmpi .eq arg0 c0_i32
  let v594 : BitVec 32 := Scalar.extui v0
  let c0_i32_229 : BitVec 32 := 0#32
  let v595 : BitVec 1 := Scalar.cmpi .ne v594 c0_i32_229
  v595

def k0_cond14 (i : grid0.Coords) : BitVec 1 :=
  let arg0 : BitVec 32 := BitVec.ofNat 32 (i 0).val
  let c0_i32 : BitVec 32 := 0#32
  let v0 : BitVec 1 := Scalar.cmpi .eq arg0 c0_i32
  let true_230 : BitVec 1 := 1#1
  let v596 : BitVec 1 := Scalar.xori v0 true_230
  let v597 : BitVec 32 := Scalar.extui v596
  let c0_i32_231 : BitVec 32 := 0#32
  let v598 : BitVec 1 := Scalar.cmpi .ne v597 c0_i32_231
  v598

def k0_cond21 (i : grid0.Coords) : BitVec 1 :=
  let arg0 : BitVec 32 := BitVec.ofNat 32 (i 0).val
  let c0_i32 : BitVec 32 := 0#32
  let v0 : BitVec 1 := Scalar.cmpi .eq arg0 c0_i32
  let v618 : BitVec 32 := Scalar.extui v0
  let c0_i32_245 : BitVec 32 := 0#32
  let v619 : BitVec 1 := Scalar.cmpi .ne v618 c0_i32_245
  v619

def k0_cond22 (i : grid0.Coords) : BitVec 1 :=
  let arg0 : BitVec 32 := BitVec.ofNat 32 (i 0).val
  let c0_i32 : BitVec 32 := 0#32
  let v0 : BitVec 1 := Scalar.cmpi .eq arg0 c0_i32
  let true_246 : BitVec 1 := 1#1
  let v620 : BitVec 1 := Scalar.xori v0 true_246
  let v621 : BitVec 32 := Scalar.extui v620
  let c0_i32_247 : BitVec 32 := 0#32
  let v622 : BitVec 1 := Scalar.cmpi .ne v621 c0_i32_247
  v622

def k0_cond29 (i : grid0.Coords) : BitVec 1 :=
  let arg0 : BitVec 32 := BitVec.ofNat 32 (i 0).val
  let c0_i32 : BitVec 32 := 0#32
  let v0 : BitVec 1 := Scalar.cmpi .eq arg0 c0_i32
  let v642 : BitVec 32 := Scalar.extui v0
  let c0_i32_261 : BitVec 32 := 0#32
  let v643 : BitVec 1 := Scalar.cmpi .ne v642 c0_i32_261
  v643

def k0_cond30 (i : grid0.Coords) : BitVec 1 :=
  let arg0 : BitVec 32 := BitVec.ofNat 32 (i 0).val
  let c0_i32 : BitVec 32 := 0#32
  let v0 : BitVec 1 := Scalar.cmpi .eq arg0 c0_i32
  let true_262 : BitVec 1 := 1#1
  let v644 : BitVec 1 := Scalar.xori v0 true_262
  let v645 : BitVec 32 := Scalar.extui v644
  let c0_i32_263 : BitVec 32 := 0#32
  let v646 : BitVec 1 := Scalar.cmpi .ne v645 c0_i32_263
  v646

def k0_cond7 (i : grid0.Coords) : BitVec 1 :=
  let arg0 : BitVec 32 := BitVec.ofNat 32 (i 0).val
  let c0_i32 : BitVec 32 := 0#32
  let v0 : BitVec 1 := Scalar.cmpi .eq arg0 c0_i32
  let v575 : BitVec 32 := Scalar.extui v0
  let c0_i32_216 : BitVec 32 := 0#32
  let v576 : BitVec 1 := Scalar.cmpi .ne v575 c0_i32_216
  v576

def k0_cond8 (i : grid0.Coords) : BitVec 1 :=
  let arg0 : BitVec 32 := BitVec.ofNat 32 (i 0).val
  let c0_i32 : BitVec 32 := 0#32
  let v0 : BitVec 1 := Scalar.cmpi .eq arg0 c0_i32
  let true_217 : BitVec 1 := 1#1
  let v577 : BitVec 1 := Scalar.xori v0 true_217
  let v578 : BitVec 32 := Scalar.extui v577
  let c0_i32_218 : BitVec 32 := 0#32
  let v579 : BitVec 1 := Scalar.cmpi .ne v578 c0_i32_218
  v579

def k0_cond15 (i : grid0.Coords) : BitVec 1 :=
  let arg0 : BitVec 32 := BitVec.ofNat 32 (i 0).val
  let c0_i32 : BitVec 32 := 0#32
  let v0 : BitVec 1 := Scalar.cmpi .eq arg0 c0_i32
  let v599 : BitVec 32 := Scalar.extui v0
  let c0_i32_232 : BitVec 32 := 0#32
  let v600 : BitVec 1 := Scalar.cmpi .ne v599 c0_i32_232
  v600

def k0_cond16 (i : grid0.Coords) : BitVec 1 :=
  let arg0 : BitVec 32 := BitVec.ofNat 32 (i 0).val
  let c0_i32 : BitVec 32 := 0#32
  let v0 : BitVec 1 := Scalar.cmpi .eq arg0 c0_i32
  let true_233 : BitVec 1 := 1#1
  let v601 : BitVec 1 := Scalar.xori v0 true_233
  let v602 : BitVec 32 := Scalar.extui v601
  let c0_i32_234 : BitVec 32 := 0#32
  let v603 : BitVec 1 := Scalar.cmpi .ne v602 c0_i32_234
  v603

def k0_cond23 (i : grid0.Coords) : BitVec 1 :=
  let arg0 : BitVec 32 := BitVec.ofNat 32 (i 0).val
  let c0_i32 : BitVec 32 := 0#32
  let v0 : BitVec 1 := Scalar.cmpi .eq arg0 c0_i32
  let v623 : BitVec 32 := Scalar.extui v0
  let c0_i32_248 : BitVec 32 := 0#32
  let v624 : BitVec 1 := Scalar.cmpi .ne v623 c0_i32_248
  v624

def k0_cond24 (i : grid0.Coords) : BitVec 1 :=
  let arg0 : BitVec 32 := BitVec.ofNat 32 (i 0).val
  let c0_i32 : BitVec 32 := 0#32
  let v0 : BitVec 1 := Scalar.cmpi .eq arg0 c0_i32
  let true_249 : BitVec 1 := 1#1
  let v625 : BitVec 1 := Scalar.xori v0 true_249
  let v626 : BitVec 32 := Scalar.extui v625
  let c0_i32_250 : BitVec 32 := 0#32
  let v627 : BitVec 1 := Scalar.cmpi .ne v626 c0_i32_250
  v627

def k0_cond31 (i : grid0.Coords) : BitVec 1 :=
  let arg0 : BitVec 32 := BitVec.ofNat 32 (i 0).val
  let c0_i32 : BitVec 32 := 0#32
  let v0 : BitVec 1 := Scalar.cmpi .eq arg0 c0_i32
  let v647 : BitVec 32 := Scalar.extui v0
  let c0_i32_264 : BitVec 32 := 0#32
  let v648 : BitVec 1 := Scalar.cmpi .ne v647 c0_i32_264
  v648

def k0_cond32 (i : grid0.Coords) : BitVec 1 :=
  let arg0 : BitVec 32 := BitVec.ofNat 32 (i 0).val
  let c0_i32 : BitVec 32 := 0#32
  let v0 : BitVec 1 := Scalar.cmpi .eq arg0 c0_i32
  let true_265 : BitVec 1 := 1#1
  let v649 : BitVec 1 := Scalar.xori v0 true_265
  let v650 : BitVec 32 := Scalar.extui v649
  let c0_i32_266 : BitVec 32 := 0#32
  let v651 : BitVec 1 := Scalar.cmpi .ne v650 c0_i32_266
  v651

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S8192x9216 : Shape := ⟨2, ![8192, 9216]⟩
abbrev S1x2048 : Shape := ⟨2, ![1, 2048]⟩
abbrev S4x128x128 : Shape := ⟨3, ![4, 128, 128]⟩
abbrev S4x128x1 : Shape := ⟨3, ![4, 128, 1]⟩
abbrev S8192x4096 : Shape := ⟨2, ![8192, 4096]⟩
abbrev S8192x2048 : Shape := ⟨2, ![8192, 2048]⟩
abbrev S2048 : Shape := ⟨1, ![2048]⟩
abbrev S4x128 : Shape := ⟨2, ![4, 128]⟩
abbrev S_ : Shape := ⟨0, ![]⟩
abbrev S64x128x4x512 : Shape := ⟨4, ![64, 128, 4, 512]⟩
abbrev S64x128x4 : Shape := ⟨3, ![64, 128, 4]⟩
abbrev S64x128x4x1 : Shape := ⟨4, ![64, 128, 4, 1]⟩
abbrev S4x512 : Shape := ⟨2, ![4, 512]⟩
abbrev S1x1x4x512 : Shape := ⟨4, ![1, 1, 4, 512]⟩
abbrev S128x128 : Shape := ⟨2, ![128, 128]⟩
abbrev S1x128x128 : Shape := ⟨3, ![1, 128, 128]⟩
abbrev S4x64x512x128 : Shape := ⟨4, ![4, 64, 512, 128]⟩
abbrev S128x4 : Shape := ⟨2, ![128, 4]⟩
abbrev S1x128x4x1 : Shape := ⟨4, ![1, 128, 4, 1]⟩
abbrev S8192x5120 : Shape := ⟨2, ![8192, 5120]⟩

abbrev nBuf : Space → Nat
  | .hbm => 178
  | .vmem => 0
  | .smem => 0
  | _ => 0

abbrev hbmTy0_0 (i : Nat) : BufTy := match i % 128 with
  | 0 => ⟨S8192x9216, .bf16⟩
  | 1 => ⟨S1x2048, .f32⟩
  | 2 => ⟨S1x2048, .f32⟩
  | 3 => ⟨S4x128x128, .f32⟩
  | 4 => ⟨S4x128x1, .f32⟩
  | 5 => ⟨S8192x4096, .bf16⟩
  | 6 => ⟨S8192x9216, .bf16⟩
  | 7 => ⟨S8192x4096, .bf16⟩
  | 8 => ⟨S8192x4096, .f32⟩
  | 9 => ⟨S8192x2048, .bf16⟩
  | 10 => ⟨S8192x2048, .f32⟩
  | 11 => ⟨S2048, .f32⟩
  | 12 => ⟨S2048, .f32⟩
  | 13 => ⟨S4x128, .f32⟩
  | 14 => ⟨S_, .f32⟩
  | 15 => ⟨S8192x4096, .f32⟩
  | 16 => ⟨S8192x4096, .f32⟩
  | 17 => ⟨S8192x4096, .f32⟩
  | 18 => ⟨S_, .f32⟩
  | 19 => ⟨S8192x4096, .f32⟩
  | 20 => ⟨S8192x4096, .f32⟩
  | 21 => ⟨S8192x4096, .f32⟩
  | 22 => ⟨S8192x4096, .f32⟩
  | 23 => ⟨S8192x4096, .f32⟩
  | 24 => ⟨S8192x4096, .f32⟩
  | 25 => ⟨S8192x4096, .f32⟩
  | 26 => ⟨S8192x2048, .f32⟩
  | 27 => ⟨S8192x2048, .f32⟩
  | 28 => ⟨S64x128x4x512, .f32⟩
  | 29 => ⟨S_, .f32⟩
  | 30 => ⟨S64x128x4, .f32⟩
  | 31 => ⟨S64x128x4x1, .f32⟩
  | 32 => ⟨S_, .f32⟩
  | 33 => ⟨S64x128x4x1, .f32⟩
  | 34 => ⟨S64x128x4x1, .f32⟩
  | 35 => ⟨S64x128x4x512, .f32⟩
  | 36 => ⟨S64x128x4x512, .f32⟩
  | 37 => ⟨S64x128x4x512, .f32⟩
  | 38 => ⟨S_, .f32⟩
  | 39 => ⟨S64x128x4x512, .f32⟩
  | 40 => ⟨S64x128x4x512, .f32⟩
  | 41 => ⟨S_, .f32⟩
  | 42 => ⟨S64x128x4, .f32⟩
  | 43 => ⟨S64x128x4x1, .f32⟩
  | 44 => ⟨S_, .f32⟩
  | 45 => ⟨S64x128x4x1, .f32⟩
  | 46 => ⟨S64x128x4x1, .f32⟩
  | 47 => ⟨S64x128x4x512, .f32⟩
  | 48 => ⟨S64x128x4x512, .f32⟩
  | 49 => ⟨S_, .f32⟩
  | 50 => ⟨S64x128x4x1, .f32⟩
  | 51 => ⟨S64x128x4x1, .f32⟩
  | 52 => ⟨S64x128x4x1, .f32⟩
  | 53 => ⟨S64x128x4x1, .f32⟩
  | 54 => ⟨S_, .f32⟩
  | 55 => ⟨S64x128x4x1, .f32⟩
  | 56 => ⟨S64x128x4x1, .f32⟩
  | 57 => ⟨S64x128x4x512, .f32⟩
  | 58 => ⟨S64x128x4x512, .f32⟩
  | 59 => ⟨S4x512, .f32⟩
  | 60 => ⟨S1x1x4x512, .f32⟩
  | 61 => ⟨S64x128x4x512, .f32⟩
  | 62 => ⟨S64x128x4x512, .f32⟩
  | 63 => ⟨S4x512, .f32⟩
  | 64 => ⟨S1x1x4x512, .f32⟩
  | 65 => ⟨S64x128x4x512, .f32⟩
  | 66 => ⟨S64x128x4x512, .f32⟩
  | 67 => ⟨S_, .i1⟩
  | 68 => ⟨S128x128, .i1⟩
  | 69 => ⟨S128x128, .i32⟩
  | 70 => ⟨S_, .i32⟩
  | 71 => ⟨S128x128, .i32⟩
  | 72 => ⟨S128x128, .i32⟩
  | 73 => ⟨S128x128, .i32⟩
  | 74 => ⟨S128x128, .i1⟩
  | 75 => ⟨S_, .i1⟩
  | 76 => ⟨S128x128, .i1⟩
  | 77 => ⟨S128x128, .i1⟩
  | 78 => ⟨S1x128x128, .i1⟩
  | 79 => ⟨S_, .f32⟩
  | 80 => ⟨S_, .f32⟩
  | 81 => ⟨S4x128x128, .i1⟩
  | 82 => ⟨S4x128x128, .f32⟩
  | 83 => ⟨S4x128x128, .f32⟩
  | 84 => ⟨S_, .f32⟩
  | 85 => ⟨S4x128x128, .f32⟩
  | 86 => ⟨S4x64x512x128, .f32⟩
  | 87 => ⟨S64x128x4x512, .f32⟩
  | 88 => ⟨S128x4, .f32⟩
  | 89 => ⟨S1x128x4x1, .f32⟩
  | 90 => ⟨S64x128x4x512, .f32⟩
  | 91 => ⟨S64x128x4x512, .f32⟩
  | 92 => ⟨S8192x2048, .f32⟩
  | 93 => ⟨S8192x2048, .f32⟩
  | 94 => ⟨S8192x2048, .f32⟩
  | 95 => ⟨S8192x2048, .f32⟩
  | 96 => ⟨S64x128x4x512, .f32⟩
  | 97 => ⟨S_, .f32⟩
  | 98 => ⟨S128x4, .f32⟩
  | 99 => ⟨S1x128x4x1, .f32⟩
  | 100 => ⟨S_, .f32⟩
  | 101 => ⟨S128x4, .f32⟩
  | 102 => ⟨S4x128, .f32⟩
  | 103 => ⟨S4x64x512x128, .f32⟩
  | 104 => ⟨S4x128x128, .f32⟩
  | 105 => ⟨S4x64x512x128, .f32⟩
  | 106 => ⟨S64x128x4x512, .f32⟩
  | 107 => ⟨S_, .f32⟩
  | 108 => ⟨S4x128x128, .f32⟩
  | 109 => ⟨S4x128x128, .f32⟩
  | 110 => ⟨S_, .f32⟩
  | 111 => ⟨S4x512, .f32⟩
  | 112 => ⟨S1x1x4x512, .f32⟩
  | 113 => ⟨S_, .f32⟩
  | 114 => ⟨S4x512, .f32⟩
  | 115 => ⟨S2048, .f32⟩
  | 116 => ⟨S64x128x4x512, .f32⟩
  | 117 => ⟨S_, .f32⟩
  | 118 => ⟨S4x512, .f32⟩
  | 119 => ⟨S1x1x4x512, .f32⟩
  | 120 => ⟨S64x128x4x512, .f32⟩
  | 121 => ⟨S64x128x4x512, .f32⟩
  | 122 => ⟨S_, .f32⟩
  | 123 => ⟨S4x512, .f32⟩
  | 124 => ⟨S2048, .f32⟩
  | 125 => ⟨S64x128x4x512, .f32⟩
  | 126 => ⟨S_, .f32⟩
  | 127 => ⟨S64x128x4, .f32⟩
  | _ => ⟨S8192x9216, .bf16⟩

abbrev hbmTy0_1 (i : Nat) : BufTy := match i % 128 with
  | 0 => ⟨S64x128x4x1, .f32⟩
  | 1 => ⟨S64x128x4x512, .f32⟩
  | 2 => ⟨S64x128x4x512, .f32⟩
  | 3 => ⟨S64x128x4x1, .f32⟩
  | 4 => ⟨S64x128x4x512, .f32⟩
  | 5 => ⟨S_, .f32⟩
  | 6 => ⟨S64x128x4, .f32⟩
  | 7 => ⟨S64x128x4x1, .f32⟩
  | 8 => ⟨S_, .f32⟩
  | 9 => ⟨S64x128x4x1, .f32⟩
  | 10 => ⟨S64x128x4x1, .f32⟩
  | 11 => ⟨S_, .f32⟩
  | 12 => ⟨S64x128x4, .f32⟩
  | 13 => ⟨S64x128x4x512, .f32⟩
  | 14 => ⟨S64x128x4x512, .f32⟩
  | 15 => ⟨S64x128x4x512, .f32⟩
  | 16 => ⟨S_, .f32⟩
  | 17 => ⟨S64x128x4, .f32⟩
  | 18 => ⟨S64x128x4x1, .f32⟩
  | 19 => ⟨S64x128x4x512, .f32⟩
  | 20 => ⟨S64x128x4x1, .f32⟩
  | 21 => ⟨S_, .f32⟩
  | 22 => ⟨S64x128x4x1, .f32⟩
  | 23 => ⟨S64x128x4x1, .f32⟩
  | 24 => ⟨S_, .f32⟩
  | 25 => ⟨S64x128x4, .f32⟩
  | 26 => ⟨S64x128x4x512, .f32⟩
  | 27 => ⟨S64x128x4x512, .f32⟩
  | 28 => ⟨S8192x2048, .f32⟩
  | 29 => ⟨S8192x4096, .f32⟩
  | 30 => ⟨S8192x4096, .f32⟩
  | 31 => ⟨S8192x4096, .f32⟩
  | 32 => ⟨S_, .f32⟩
  | 33 => ⟨S8192x4096, .f32⟩
  | 34 => ⟨S8192x4096, .f32⟩
  | 35 => ⟨S8192x4096, .f32⟩
  | 36 => ⟨S_, .f32⟩
  | 37 => ⟨S8192x4096, .f32⟩
  | 38 => ⟨S8192x4096, .f32⟩
  | 39 => ⟨S8192x4096, .f32⟩
  | 40 => ⟨S_, .f32⟩
  | 41 => ⟨S8192x4096, .f32⟩
  | 42 => ⟨S8192x4096, .f32⟩
  | 43 => ⟨S8192x4096, .f32⟩
  | 44 => ⟨S8192x4096, .bf16⟩
  | 45 => ⟨S8192x5120, .bf16⟩
  | 46 => ⟨S8192x9216, .bf16⟩
  | 47 => ⟨S1x2048, .f32⟩
  | 48 => ⟨S1x2048, .f32⟩
  | 49 => ⟨S4x128x1, .f32⟩
  | _ => ⟨S8192x9216, .bf16⟩

abbrev hbmTy (i : Nat) : BufTy := match i / 128 with
  | 0 => hbmTy0_0 i
  | 1 => hbmTy0_1 i
  | _ => ⟨S8192x9216, .bf16⟩

abbrev bufTy : (tb : Table) → Fin (tcTables nBuf tb) → BufTy
  | .hbm, ⟨i, _⟩ => hbmTy i
  | _, _ => ⟨S8192x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_c : Ref sig .tc := ⟨.hbm, 67, rfl⟩
abbrev main_v51 : Ref sig .tc := ⟨.hbm, 68, rfl⟩
abbrev main_call0_v0 : Ref sig .tc := ⟨.hbm, 69, rfl⟩
abbrev main_call0_c : Ref sig .tc := ⟨.hbm, 70, rfl⟩
abbrev main_call0_v1 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_call0_c_0 : Ref sig .tc := ⟨.hbm, 75, rfl⟩
abbrev main_call0_v5 : Ref sig .tc := ⟨.hbm, 76, rfl⟩
abbrev main_v52 : Ref sig .tc := ⟨.hbm, 77, rfl⟩
abbrev main_v53 : Ref sig .tc := ⟨.hbm, 78, rfl⟩
abbrev main_cst_8 : Ref sig .tc := ⟨.hbm, 79, rfl⟩
abbrev main_call1_v0 : Ref sig .tc := ⟨.hbm, 80, rfl⟩
abbrev main_v54_1 : Ref sig .tc := ⟨.hbm, 81, rfl⟩
abbrev main_call1_v2 : Ref sig .tc := ⟨.hbm, 82, rfl⟩
abbrev main_v54_0 : Ref sig .tc := ⟨.hbm, 83, rfl⟩
abbrev main_call1_cst : Ref sig .tc := ⟨.hbm, 84, rfl⟩
abbrev main_v54_2 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_9 : Ref sig .tc := ⟨.hbm, 97, rfl⟩
abbrev main_v66 : Ref sig .tc := ⟨.hbm, 98, rfl⟩
abbrev main_v67 : Ref sig .tc := ⟨.hbm, 99, rfl⟩
abbrev main_cst_10 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_call2_cst : Ref sig .tc := ⟨.hbm, 107, rfl⟩
abbrev main_call2_v0 : Ref sig .tc := ⟨.hbm, 108, rfl⟩
abbrev main_v74 : Ref sig .tc := ⟨.hbm, 109, rfl⟩
abbrev main_cst_11 : Ref sig .tc := ⟨.hbm, 110, rfl⟩
abbrev main_v75 : Ref sig .tc := ⟨.hbm, 111, rfl⟩
abbrev main_v76 : Ref sig .tc := ⟨.hbm, 112, rfl⟩
abbrev main_cst_12 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_13 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_cst_14 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_15 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_16 : Ref sig .tc := ⟨.hbm, 133, rfl⟩
abbrev main_v93 : Ref sig .tc := ⟨.hbm, 134, rfl⟩
abbrev main_v94 : Ref sig .tc := ⟨.hbm, 135, rfl⟩
abbrev main_cst_17 : Ref sig .tc := ⟨.hbm, 136, rfl⟩
abbrev main_v95 : Ref sig .tc := ⟨.hbm, 137, rfl⟩
abbrev main_v96 : Ref sig .tc := ⟨.hbm, 138, rfl⟩
abbrev main_cst_18 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_cst_19 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_cst_20 : Ref sig .tc := ⟨.hbm, 149, rfl⟩
abbrev main_v105 : Ref sig .tc := ⟨.hbm, 150, rfl⟩
abbrev main_v106 : Ref sig .tc := ⟨.hbm, 151, rfl⟩
abbrev main_cst_21 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_cst_22 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_cst_23 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_cst_24 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩

abbrev nD : Nat := 1
abbrev τ : Topo := Topo.v7x

variable {F : FTy → Type} [FloatOps F]
-- ==== Dwgu.lean ====
abbrev S8192x2048 : Shape := ⟨2, ![8192, 2048]⟩
abbrev S2x1x8192x5632 : Shape := ⟨4, ![2, 1, 8192, 5632]⟩
abbrev S4x1x2048x2816 : Shape := ⟨4, ![4, 1, 2048, 2816]⟩
abbrev S8192x1024 : Shape := ⟨2, ![8192, 1024]⟩
abbrev S1x1x8192x256 : Shape := ⟨4, ![1, 1, 8192, 256]⟩
abbrev S1x1x1024x256 : Shape := ⟨4, ![1, 1, 1024, 256]⟩
abbrev S8192x256 : Shape := ⟨2, ![8192, 256]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2x1x8192x5632, .bf16⟩
  | .hbm, ⟨2, _⟩ => ⟨S4x1x2048x2816, .bf16⟩
  | .local _ .vmem, ⟨0, _⟩ => ⟨S8192x1024, .bf16⟩
  | .local _ .vmem, ⟨1, _⟩ => ⟨S8192x1024, .bf16⟩
  | .local _ .vmem, ⟨2, _⟩ => ⟨S1x1x8192x256, .bf16⟩
  | .local _ .vmem, ⟨3, _⟩ => ⟨S1x1x8192x256, .bf16⟩
  | .local _ .vmem, ⟨4, _⟩ => ⟨S1x1x1024x256, .bf16⟩
  | .local _ .vmem, ⟨5, _⟩ => ⟨S1x1x1024x256, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 44, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c22_i32 : BitVec 32 := 22#32
  let v0 : BitVec 32 := Scalar.divsi arg1 c22_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c22_i32 c0_i32_1
  let v7 : BitVec 32 := Scalar.extui v6
  let c0_i32_2 : BitVec 32 := 0#32
  let v8 : BitVec 1 := Scalar.cmpi .slt c22_i32 c0_i32_2
  let v9 : BitVec 32 := Scalar.extui v8
  let v10 : BitVec 32 := Scalar.subi v7 v9
  let v11 : BitVec 1 := Scalar.cmpi .ne v5 v10
  let v12 : BitVec 32 := Scalar.remsi arg1 c22_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c22_i32_4 : BitVec 32 := 22#32
  let c0_i32_5 : BitVec 32 := 0#32
  let v17 : BitVec 1 := Scalar.cmpi .eq c22_i32_4 c0_i32_5
  let c1_i32_6 : BitVec 32 := 1#32
  let v18 : BitVec 32 := Scalar.select v17 c1_i32_6 c22_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, arg2.toNat, v26.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.divsi arg1 c11_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg1 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32_4 : BitVec 32 := 11#32
  let c0_i32_5 : BitVec 32 := 0#32
  let v17 : BitVec 1 := Scalar.cmpi .eq c11_i32_4 c0_i32_5
  let c1_i32_6 : BitVec 32 := 1#32
  let v18 : BitVec 32 := Scalar.select v17 c1_i32_6 c11_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, arg0.toNat, v26.toNat]

abbrev stage0_0 : Fin 2 → Memref sig .tc .vmem S8192x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwguRefIdeal.lean ====
abbrev S8192x2048 : Shape := ⟨2, ![8192, 2048]⟩
abbrev S2x1x8192x5632 : Shape := ⟨4, ![2, 1, 8192, 5632]⟩
abbrev S1x1x8192x5632 : Shape := ⟨4, ![1, 1, 8192, 5632]⟩
abbrev S8192x5632 : Shape := ⟨2, ![8192, 5632]⟩
abbrev S8192x11264 : Shape := ⟨2, ![8192, 11264]⟩
abbrev S_ : Shape := ⟨0, ![]⟩
abbrev S2048x11264 : Shape := ⟨2, ![2048, 11264]⟩
abbrev S11264x2048 : Shape := ⟨2, ![11264, 2048]⟩
abbrev S2048x4x2816 : Shape := ⟨3, ![2048, 4, 2816]⟩
abbrev S4x2048x2816 : Shape := ⟨3, ![4, 2048, 2816]⟩
abbrev S4x1x2048x2816 : Shape := ⟨4, ![4, 1, 2048, 2816]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x1x8192x5632, .bf16⟩
  | .hbm, ⟨2, _⟩ => ⟨S1x1x8192x5632, .bf16⟩
  | .hbm, ⟨3, _⟩ => ⟨S8192x5632, .bf16⟩
  | .hbm, ⟨4, _⟩ => ⟨S1x1x8192x5632, .bf16⟩
  | .hbm, ⟨5, _⟩ => ⟨S8192x5632, .bf16⟩
  | .hbm, ⟨6, _⟩ => ⟨S8192x11264, .bf16⟩
  | .hbm, ⟨7, _⟩ => ⟨S8192x11264, .f32⟩
  | .hbm, ⟨8, _⟩ => ⟨S_, .f32⟩
  | .hbm, ⟨9, _⟩ => ⟨S2048x11264, .f32⟩
  | .hbm, ⟨10, _⟩ => ⟨S8192x2048, .f32⟩
  | .hbm, ⟨11, _⟩ => ⟨S8192x11264, .f32⟩
  | .hbm, ⟨12, _⟩ => ⟨S11264x2048, .f32⟩
  | .hbm, ⟨13, _⟩ => ⟨S2048x11264, .f32⟩
  | .hbm, ⟨14, _⟩ => ⟨S2048x11264, .bf16⟩
  | .hbm, ⟨15, _⟩ => ⟨S2048x4x2816, .bf16⟩
  | .hbm, ⟨16, _⟩ => ⟨S4x2048x2816, .bf16⟩
  | .hbm, ⟨17, _⟩ => ⟨S4x1x2048x2816, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Dwd.lean ====
abbrev S8192x5632 : Shape := ⟨2, ![8192, 5632]⟩
abbrev S8192x2048 : Shape := ⟨2, ![8192, 2048]⟩
abbrev S4x1x1408x2048 : Shape := ⟨4, ![4, 1, 1408, 2048]⟩
abbrev S2048x1408 : Shape := ⟨2, ![2048, 1408]⟩
abbrev S2048x1024 : Shape := ⟨2, ![2048, 1024]⟩
abbrev S1x1x1408x1024 : Shape := ⟨4, ![1, 1, 1408, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S4x1x1408x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1x1408x1024, .bf16⟩
  | .local _ .vmem, ⟨5, _⟩ => ⟨S1x1x1408x1024, .bf16⟩
  | .local _ .vmem, ⟨6, _⟩ => ⟨S1408x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwdRefIdeal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩
abbrev S4x1x1408x2048 : Shape := ⟨4, ![4, 1, 1408, 2048]⟩

abbrev nBuf : Space → Nat
  | .hbm => 17
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S_, .f32⟩
  | .hbm, ⟨3, _⟩ => ⟨S5632x2048, .f32⟩
  | .hbm, ⟨4, _⟩ => ⟨S8192x5632, .f32⟩
  | .hbm, ⟨5, _⟩ => ⟨S8192x2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S2048x5632, .f32⟩
  | .hbm, ⟨14, _⟩ => ⟨S5632x2048, .f32⟩
  | .hbm, ⟨15, _⟩ => ⟨S5632x2048, .bf16⟩
  | .hbm, ⟨16, _⟩ => ⟨S4x1x1408x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Dh.lean ====
abbrev S2x1x8192x5632 : Shape := ⟨4, ![2, 1, 8192, 5632]⟩
abbrev S4x1x2048x2816 : Shape := ⟨4, ![4, 1, 2048, 2816]⟩
abbrev S_ : Shape := ⟨0, ![]⟩
abbrev S1x2048 : Shape := ⟨2, ![1, 2048]⟩
abbrev S8192x2048 : Shape := ⟨2, ![8192, 2048]⟩
abbrev S1x1x1024x2816 : Shape := ⟨4, ![1, 1, 1024, 2816]⟩
abbrev S1x1024 : Shape := ⟨2, ![1, 1024]⟩
abbrev S1024x1024 : Shape := ⟨2, ![1024, 1024]⟩
abbrev S1024x2816 : Shape := ⟨2, ![1024, 2816]⟩

abbrev nBuf : Space → Nat
  | .hbm => 5
  | .vmem => 9
  | .smem => 0
  | _ => 0

abbrev bufTy : (tb : Table) → Fin (tcTables nBuf tb) → BufTy
  | .hbm, ⟨0, _⟩ => ⟨S2x1x8192x5632, .bf16⟩
  | .hbm, ⟨1, _⟩ => ⟨S4x1x2048x2816, .bf16⟩
  | .hbm, ⟨2, _⟩ => ⟨S_, .f32⟩
  | .hbm, ⟨3, _⟩ => ⟨S1x2048, .f32⟩
  | .hbm, ⟨4, _⟩ => ⟨S8192x2048, .bf16⟩
  | .local _ .vmem, ⟨0, _⟩ => ⟨S1x1x1024x2816, .bf16⟩
  | .local _ .vmem, ⟨1, _⟩ => ⟨S1x1x1024x2816, .bf16⟩
  | .local _ .vmem, ⟨2, _⟩ => ⟨S1x1x1024x2816, .bf16⟩
  | .local _ .vmem, ⟨3, _⟩ => ⟨S1x1x1024x2816, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S2x1x8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32_10 : BitVec 32 := 3#32
  let v13 : BitVec 1 := Scalar.cmpi .eq arg2 c3_i32_10
  let v14 : BitVec 32 := Scalar.extui v13
  let c0_i32_11 : BitVec 32 := 0#32
  let v15 : BitVec 1 := Scalar.cmpi .ne v14 c0_i32_11
  v15

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, arg0.toNat, v26.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DhRefIdeal.lean ====
abbrev S2x1x8192x5632 : Shape := ⟨4, ![2, 1, 8192, 5632]⟩
abbrev S4x1x2048x2816 : Shape := ⟨4, ![4, 1, 2048, 2816]⟩
abbrev S4x2048x2816 : Shape := ⟨3, ![4, 2048, 2816]⟩
abbrev S2048x4x2816 : Shape := ⟨3, ![2048, 4, 2816]⟩
abbrev S2048x11264 : Shape := ⟨2, ![2048, 11264]⟩
abbrev S1x1x8192x5632 : Shape := ⟨4, ![1, 1, 8192, 5632]⟩
abbrev S8192x5632 : Shape := ⟨2, ![8192, 5632]⟩
abbrev S8192x11264 : Shape := ⟨2, ![8192, 11264]⟩
abbrev S_ : Shape := ⟨0, ![]⟩
abbrev S8192x2048 : Shape := ⟨2, ![8192, 2048]⟩

abbrev nBuf : Space → Nat
  | .hbm => 17
  | .vmem => 0
  | .smem => 0
  | _ => 0

abbrev bufTy : (tb : Table) → Fin (tcTables nBuf tb) → BufTy
  | .hbm, ⟨0, _⟩ => ⟨S2x1x8192x5632, .bf16⟩
  | .hbm, ⟨1, _⟩ => ⟨S4x1x2048x2816, .bf16⟩
  | .hbm, ⟨2, _⟩ => ⟨S4x2048x2816, .bf16⟩
  | .hbm, ⟨3, _⟩ => ⟨S2048x4x2816, .bf16⟩
  | .hbm, ⟨4, _⟩ => ⟨S2048x11264, .bf16⟩
  | .hbm, ⟨5, _⟩ => ⟨S2048x11264, .f32⟩
  | .hbm, ⟨6, _⟩ => ⟨S1x1x8192x5632, .bf16⟩
  | .hbm, ⟨7, _⟩ => ⟨S8192x5632, .bf16⟩
  | .hbm, ⟨8, _⟩ => ⟨S1x1x8192x5632, .bf16⟩
  | .hbm, ⟨9, _⟩ => ⟨S8192x5632, .bf16⟩
  | .hbm, ⟨10, _⟩ => ⟨S8192x11264, .bf16⟩
  | .hbm, ⟨11, _⟩ => ⟨S8192x11264, .f32⟩
  | .hbm, ⟨12, _⟩ => ⟨S_, .f32⟩
  | .hbm, ⟨13, _⟩ => ⟨S8192x2048, .f32⟩
  | .hbm, ⟨14, _⟩ => ⟨S8192x11264, .f32⟩
  | .hbm, ⟨15, _⟩ => ⟨S8192x2048, .f32⟩
  | .hbm, ⟨16, _⟩ => ⟨S8192x2048, .bf16⟩
  | _, _ => ⟨S2x1x8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Dact.lean ====
abbrev S8192x2048 : Shape := ⟨2, ![8192, 2048]⟩
abbrev S1x1x5632x2048 : Shape := ⟨4, ![1, 1, 5632, 2048]⟩
abbrev S8192x5632 : Shape := ⟨2, ![8192, 5632]⟩
abbrev S2x1x8192x5632 : Shape := ⟨4, ![2, 1, 8192, 5632]⟩
abbrev S1024x2048 : Shape := ⟨2, ![1024, 2048]⟩
abbrev S1x1x1408x2048 : Shape := ⟨4, ![1, 1, 1408, 2048]⟩
abbrev S1024x1408 : Shape := ⟨2, ![1024, 1408]⟩
abbrev S2x1x1024x1408 : Shape := ⟨4, ![2, 1, 1024, 1408]⟩
abbrev S1408x2048 : Shape := ⟨2, ![1408, 2048]⟩
abbrev S1x1x1024x1408 : Shape := ⟨4, ![1, 1, 1024, 1408]⟩

abbrev nBuf : Space → Nat
  | .hbm => 5
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S1x1x5632x2048, .bf16⟩
  | .hbm, ⟨2, _⟩ => ⟨S8192x5632, .bf16⟩
  | .hbm, ⟨3, _⟩ => ⟨S8192x5632, .bf16⟩
  | .hbm, ⟨4, _⟩ => ⟨S2x1x8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x1408x2048, .bf16⟩
  | .local _ .vmem, ⟨3, _⟩ => ⟨S1x1x1408x2048, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S2x1x1024x1408, .bf16⟩
  | .local _ .vmem, ⟨9, _⟩ => ⟨S2x1x1024x1408, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1x1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DactRefIdeal.lean ====
abbrev S8192x2048 : Shape := ⟨2, ![8192, 2048]⟩
abbrev S1x1x5632x2048 : Shape := ⟨4, ![1, 1, 5632, 2048]⟩
abbrev S8192x5632 : Shape := ⟨2, ![8192, 5632]⟩
abbrev S5632x2048 : Shape := ⟨2, ![5632, 2048]⟩
abbrev S_ : Shape := ⟨0, ![]⟩
abbrev S1x8192x5632 : Shape := ⟨3, ![1, 8192, 5632]⟩
abbrev S2x8192x5632 : Shape := ⟨3, ![2, 8192, 5632]⟩
abbrev S2x1x8192x5632 : Shape := ⟨4, ![2, 1, 8192, 5632]⟩

abbrev nBuf : Space → Nat
  | .hbm => 55
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x1x5632x2048, .bf16⟩
  | .hbm, ⟨2, _⟩ => ⟨S8192x5632, .bf16⟩
  | .hbm, ⟨3, _⟩ => ⟨S8192x5632, .bf16⟩
  | .hbm, ⟨4, _⟩ => ⟨S5632x2048, .bf16⟩
  | .hbm, ⟨5, _⟩ => ⟨S5632x2048, .f32⟩
  | .hbm, ⟨6, _⟩ => ⟨S8192x5632, .f32⟩
  | .hbm, ⟨7, _⟩ => ⟨S8192x5632, .f32⟩
  | .hbm, ⟨8, _⟩ => ⟨S_, .f32⟩
  | .hbm, ⟨9, _⟩ => ⟨S8192x5632, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S_, .f32⟩
  | .hbm, ⟨22, _⟩ => ⟨S8192x5632, .f32⟩
  | .hbm, ⟨23, _⟩ => ⟨S8192x5632, .f32⟩
  | .hbm, ⟨24, _⟩ => ⟨S_, .f32⟩
  | .hbm, ⟨25, _⟩ => ⟨S8192x5632, .f32⟩
  | .hbm, ⟨26, _⟩ => ⟨S8192x5632, .f32⟩
  | .hbm, ⟨27, _⟩ => ⟨S_, .f32⟩
  | .hbm, ⟨28, _⟩ => ⟨S8192x5632, .f32⟩
  | .hbm, ⟨29, _⟩ => ⟨S8192x5632, .f32⟩
  | .hbm, ⟨30, _⟩ => ⟨S8192x5632, .f32⟩
  | .hbm, ⟨31, _⟩ => ⟨S8192x5632, .f32⟩
  | .hbm, ⟨32, _⟩ => ⟨S_, .f32⟩
  | .hbm, ⟨33, _⟩ => ⟨S8192x5632, .f32⟩
  | .hbm, ⟨34, _⟩ => ⟨S8192x5632, .f32⟩
  | .hbm, ⟨35, _⟩ => ⟨S8192x5632, .f32⟩
  | .hbm, ⟨36, _⟩ => ⟨S8192x5632, .f32⟩
  | .hbm, ⟨37, _⟩ => ⟨S8192x5632, .f32⟩
  | .hbm, ⟨38, _⟩ => ⟨S8192x5632, .f32⟩
  | .hbm, ⟨39, _⟩ => ⟨S8192x5632, .f32⟩
  | .hbm, ⟨40, _⟩ => ⟨S8192x5632, .f32⟩
  | .hbm, ⟨41, _⟩ => ⟨S8192x5632, .f32⟩
  | .hbm, ⟨42, _⟩ => ⟨S_, .f32⟩
  | .hbm, ⟨43, _⟩ => ⟨S8192x5632, .f32⟩
  | .hbm, ⟨44, _⟩ => ⟨S8192x5632, .f32⟩
  | .hbm, ⟨45, _⟩ => ⟨S_, .f32⟩
  | .hbm, ⟨46, _⟩ => ⟨S8192x5632, .f32⟩
  | .hbm, ⟨47, _⟩ => ⟨S8192x5632, .f32⟩
  | .hbm, ⟨48, _⟩ => ⟨S8192x5632, .f32⟩
  | .hbm, ⟨49, _⟩ => ⟨S8192x5632, .f32⟩
  | .hbm, ⟨50, _⟩ => ⟨S1x8192x5632, .f32⟩
  | .hbm, ⟨51, _⟩ => ⟨S1x8192x5632, .f32⟩
  | .hbm, ⟨52, _⟩ => ⟨S2x8192x5632, .f32⟩
  | .hbm, ⟨53, _⟩ => ⟨S2x8192x5632, .bf16⟩
  | .hbm, ⟨54, _⟩ => ⟨S2x1x8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_v12_2 : Ref sig .tc := ⟨.hbm, 26, rfl⟩
abbrev main_call0_cst_1 : Ref sig .tc := ⟨.hbm, 27, rfl⟩
abbrev main_call0_v6 : Ref sig .tc := ⟨.hbm, 28, rfl⟩
abbrev main_call0_v7 : Ref sig .tc := ⟨.hbm, 29, rfl⟩
abbrev main_v12_1 : Ref sig .tc := ⟨.hbm, 30, rfl⟩
abbrev main_v12_0 : Ref sig .tc := ⟨.hbm, 31, rfl⟩
abbrev main_cst_2 : Ref sig .tc := ⟨.hbm, 32, rfl⟩
abbrev main_v13 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_call2_v0 : Ref sig .tc := ⟨.hbm, 40, rfl⟩
abbrev main_call2_v1 : Ref sig .tc := ⟨.hbm, 41, rfl⟩
abbrev main_call2_cst : Ref sig .tc := ⟨.hbm, 42, rfl⟩
abbrev main_call2_v2 : Ref sig .tc := ⟨.hbm, 43, rfl⟩
abbrev main_call2_v3 : Ref sig .tc := ⟨.hbm, 44, rfl⟩
abbrev main_call2_cst_0 : Ref sig .tc := ⟨.hbm, 45, rfl⟩
abbrev main_call2_v4 : Ref sig .tc := ⟨.hbm, 46, rfl⟩
abbrev main_call2_v5 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩

abbrev nD : Nat := 1
abbrev τ : Topo := Topo.v7x

variable {F : FTy → Type} [FloatOps F]
-- ==== Dwin.lean ====
abbrev S8192x2048 : Shape := ⟨2, ![8192, 2048]⟩
abbrev S8192x9216 : Shape := ⟨2, ![8192, 9216]⟩
abbrev S2048x9216 : Shape := ⟨2, ![2048, 9216]⟩
abbrev S8192x1024 : Shape := ⟨2, ![8192, 1024]⟩
abbrev S8192x256 : Shape := ⟨2, ![8192, 256]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x9216, .bf16⟩
  | .hbm, ⟨2, _⟩ => ⟨S2048x9216, .bf16⟩
  | .local _ .vmem, ⟨0, _⟩ => ⟨S8192x1024, .bf16⟩
  | .local _ .vmem, ⟨1, _⟩ => ⟨S8192x1024, .bf16⟩
  | .local _ .vmem, ⟨2, _⟩ => ⟨S8192x256, .bf16⟩
  | .local _ .vmem, ⟨3, _⟩ => ⟨S8192x256, .bf16⟩
  | .local _ .vmem, ⟨4, _⟩ => ⟨S1024x256, .bf16⟩
  | .local _ .vmem, ⟨5, _⟩ => ⟨S1024x256, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 36, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8192x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwinRefIdeal.lean ====
abbrev S8192x2048 : Shape := ⟨2, ![8192, 2048]⟩
abbrev S8192x9216 : Shape := ⟨2, ![8192, 9216]⟩
abbrev S_ : Shape := ⟨0, ![]⟩
abbrev S2048x9216 : Shape := ⟨2, ![2048, 9216]⟩
abbrev S9216x2048 : Shape := ⟨2, ![9216, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x9216, .bf16⟩
  | .hbm, ⟨2, _⟩ => ⟨S_, .f32⟩
  | .hbm, ⟨3, _⟩ => ⟨S2048x9216, .f32⟩
  | .hbm, ⟨4, _⟩ => ⟨S8192x2048, .f32⟩
  | .hbm, ⟨5, _⟩ => ⟨S8192x9216, .f32⟩
  | .hbm, ⟨6, _⟩ => ⟨S8192x9216, .f32⟩
  | .hbm, ⟨7, _⟩ => ⟨S9216x2048, .f32⟩
  | .hbm, ⟨8, _⟩ => ⟨S2048x9216, .f32⟩
  | .hbm, ⟨9, _⟩ => ⟨S2048x9216, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dh2.lean ====
abbrev S8192x9216 : Shape := ⟨2, ![8192, 9216]⟩
abbrev S2048x9216 : Shape := ⟨2, ![2048, 9216]⟩
abbrev S8192x2048 : Shape := ⟨2, ![8192, 2048]⟩
abbrev S1024x3072 : Shape := ⟨2, ![1024, 3072]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x9216, .bf16⟩
  | .hbm, ⟨1, _⟩ => ⟨S2048x9216, .bf16⟩
  | .hbm, ⟨2, _⟩ => ⟨S8192x2048, .f32⟩
  | .hbm, ⟨3, _⟩ => ⟨S8192x2048, .bf16⟩
  | .local _ .vmem, ⟨0, _⟩ => ⟨S1024x3072, .bf16⟩
  | .local _ .vmem, ⟨1, _⟩ => ⟨S1024x3072, .bf16⟩
  | .local _ .vmem, ⟨2, _⟩ => ⟨S1024x3072, .bf16⟩
  | .local _ .vmem, ⟨3, _⟩ => ⟨S1024x3072, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S8192x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 3], ![false, false, false]⟩

def k0_cond3 (i : grid0.Coords) : BitVec 1 :=
  let arg2 : BitVec 32 := BitVec.ofNat 32 (i 2).val
  let c2_i32_6 : BitVec 32 := 2#32
  let v11 : BitVec 1 := Scalar.cmpi .eq arg2 c2_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Dh2RefIdeal.lean ====
abbrev S8192x9216 : Shape := ⟨2, ![8192, 9216]⟩
abbrev S2048x9216 : Shape := ⟨2, ![2048, 9216]⟩
abbrev S8192x2048 : Shape := ⟨2, ![8192, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x9216, .bf16⟩
  | .hbm, ⟨1, _⟩ => ⟨S2048x9216, .bf16⟩
  | .hbm, ⟨2, _⟩ => ⟨S8192x2048, .f32⟩
  | .hbm, ⟨3, _⟩ => ⟨S_, .f32⟩
  | .hbm, ⟨4, _⟩ => ⟨S8192x2048, .f32⟩
  | .hbm, ⟨5, _⟩ => ⟨S2048x9216, .f32⟩
  | .hbm, ⟨6, _⟩ => ⟨S8192x9216, .f32⟩
  | .hbm, ⟨7, _⟩ => ⟨S8192x9216, .f32⟩
  | .hbm, ⟨8, _⟩ => ⟨S8192x2048, .f32⟩
  | .hbm, ⟨9, _⟩ => ⟨S8192x2048, .f32⟩
  | .hbm, ⟨10, _⟩ => ⟨S8192x2048, .bf16⟩
  | _, _ => ⟨S8192x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Dwout.lean ====
abbrev S8192x4096 : Shape := ⟨2, ![8192, 4096]⟩
abbrev S8192x2048 : Shape := ⟨2, ![8192, 2048]⟩
abbrev S4x1x1024x2048 : Shape := ⟨4, ![4, 1, 1024, 2048]⟩
abbrev S2048x1024 : Shape := ⟨2, ![2048, 1024]⟩
abbrev S1x1x1024x1024 : Shape := ⟨4, ![1, 1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .bf16⟩
  | .hbm, ⟨2, _⟩ => ⟨S4x1x1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1x1024x1024, .bf16⟩
  | .local _ .vmem, ⟨5, _⟩ => ⟨S1x1x1024x1024, .bf16⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwoutRefIdeal.lean ====
abbrev S8192x4096 : Shape := ⟨2, ![8192, 4096]⟩
abbrev S8192x2048 : Shape := ⟨2, ![8192, 2048]⟩
abbrev S_ : Shape := ⟨0, ![]⟩
abbrev S4096x2048 : Shape := ⟨2, ![4096, 2048]⟩
abbrev S2048x4096 : Shape := ⟨2, ![2048, 4096]⟩
abbrev S4x1x1024x2048 : Shape := ⟨4, ![4, 1, 1024, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .bf16⟩
  | .hbm, ⟨2, _⟩ => ⟨S_, .f32⟩
  | .hbm, ⟨3, _⟩ => ⟨S4096x2048, .f32⟩
  | .hbm, ⟨4, _⟩ => ⟨S8192x4096, .f32⟩
  | .hbm, ⟨5, _⟩ => ⟨S8192x2048, .f32⟩
  | .hbm, ⟨6, _⟩ => ⟨S8192x2048, .f32⟩
  | .hbm, ⟨7, _⟩ => ⟨S2048x4096, .f32⟩
  | .hbm, ⟨8, _⟩ => ⟨S4096x2048, .f32⟩
  | .hbm, ⟨9, _⟩ => ⟨S4096x2048, .bf16⟩
  | .hbm, ⟨10, _⟩ => ⟨S4x1x1024x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Dmix.lean ====
abbrev S8192x2048 : Shape := ⟨2, ![8192, 2048]⟩
abbrev S4x1x1024x2048 : Shape := ⟨4, ![4, 1, 1024, 2048]⟩
abbrev S8192x4096 : Shape := ⟨2, ![8192, 4096]⟩
abbrev S1024x2048 : Shape := ⟨2, ![1024, 2048]⟩
abbrev S1x1x1024x2048 : Shape := ⟨4, ![1, 1, 1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S4x1x1024x2048, .bf16⟩
  | .hbm, ⟨2, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x1024x2048, .bf16⟩
  | .local _ .vmem, ⟨3, _⟩ => ⟨S1x1x1024x2048, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DmixRefIdeal.lean ====
abbrev S8192x2048 : Shape := ⟨2, ![8192, 2048]⟩
abbrev S4x1x1024x2048 : Shape := ⟨4, ![4, 1, 1024, 2048]⟩
abbrev S4096x2048 : Shape := ⟨2, ![4096, 2048]⟩
abbrev S_ : Shape := ⟨0, ![]⟩
abbrev S8192x4096 : Shape := ⟨2, ![8192, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x1x1024x2048, .bf16⟩
  | .hbm, ⟨2, _⟩ => ⟨S4096x2048, .bf16⟩
  | .hbm, ⟨3, _⟩ => ⟨S4096x2048, .f32⟩
  | .hbm, ⟨4, _⟩ => ⟨S_, .f32⟩
  | .hbm, ⟨5, _⟩ => ⟨S8192x4096, .f32⟩
  | .hbm, ⟨6, _⟩ => ⟨S8192x2048, .f32⟩
  | .hbm, ⟨7, _⟩ => ⟨S8192x2048, .f32⟩
  | .hbm, ⟨8, _⟩ => ⟨S8192x4096, .f32⟩
  | .hbm, ⟨9, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dwo.lean ====
abbrev S8192x2048 : Shape := ⟨2, ![8192, 2048]⟩
abbrev S4x1x512x2048 : Shape := ⟨4, ![4, 1, 512, 2048]⟩
abbrev S2048x512 : Shape := ⟨2, ![2048, 512]⟩
abbrev S2048x1024 : Shape := ⟨2, ![2048, 1024]⟩
abbrev S1x1x512x1024 : Shape := ⟨4, ![1, 1, 512, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4x1x512x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x1x512x1024, .bf16⟩
  | .local _ .vmem, ⟨5, _⟩ => ⟨S1x1x512x1024, .bf16⟩
  | .local _ .vmem, ⟨6, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwoRefIdeal.lean ====
abbrev S8192x2048 : Shape := ⟨2, ![8192, 2048]⟩
abbrev S_ : Shape := ⟨0, ![]⟩
abbrev S2048x2048 : Shape := ⟨2, ![2048, 2048]⟩
abbrev S4x1x512x2048 : Shape := ⟨4, ![4, 1, 512, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | .hbm, ⟨10, _⟩ => ⟨S4x1x512x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Do.lean ====
abbrev S8192x2048 : Shape := ⟨2, ![8192, 2048]⟩
abbrev S1x1x2048x2048 : Shape := ⟨4, ![1, 1, 2048, 2048]⟩
abbrev S1024x2048 : Shape := ⟨2, ![1024, 2048]⟩
abbrev S1x1x1024x2048 : Shape := ⟨4, ![1, 1, 1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S1x1x2048x2048, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x1024x2048, .bf16⟩
  | .local _ .vmem, ⟨3, _⟩ => ⟨S1x1x1024x2048, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DoRefIdeal.lean ====
abbrev S8192x2048 : Shape := ⟨2, ![8192, 2048]⟩
abbrev S1x1x2048x2048 : Shape := ⟨4, ![1, 1, 2048, 2048]⟩
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x1x2048x2048, .bf16⟩
  | .hbm, ⟨2, _⟩ => ⟨S2048x2048, .bf16⟩
  | .hbm, ⟨3, _⟩ => ⟨S2048x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dwqkv.lean ====
abbrev S8192x2048 : Shape := ⟨2, ![8192, 2048]⟩
abbrev S8192x2560 : Shape := ⟨2, ![8192, 2560]⟩
abbrev S4x1x2048x640 : Shape := ⟨4, ![4, 1, 2048, 640]⟩
abbrev S2048x1024 : Shape := ⟨2, ![2048, 1024]⟩
abbrev S2048x640 : Shape := ⟨2, ![2048, 640]⟩
abbrev S1x1x1024x640 : Shape := ⟨4, ![1, 1, 1024, 640]⟩
abbrev S1024x640 : Shape := ⟨2, ![1024, 640]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2560, .bf16⟩
  | .hbm, ⟨2, _⟩ => ⟨S4x1x2048x640, .bf16⟩
  | .local _ .vmem, ⟨0, _⟩ => ⟨S2048x1024, .bf16⟩
  | .local _ .vmem, ⟨1, _⟩ => ⟨S2048x1024, .bf16⟩
  | .local _ .vmem, ⟨2, _⟩ => ⟨S2048x640, .bf16⟩
  | .local _ .vmem, ⟨3, _⟩ => ⟨S2048x640, .bf16⟩
  | .local _ .vmem, ⟨4, _⟩ => ⟨S1x1x1024x640, .bf16⟩
  | .local _ .vmem, ⟨5, _⟩ => ⟨S1x1x1024x640, .bf16⟩
  | .local _ .vmem, ⟨6, _⟩ => ⟨S1024x640, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwqkvRefIdeal.lean ====
abbrev S8192x2048 : Shape := ⟨2, ![8192, 2048]⟩
abbrev S8192x2560 : Shape := ⟨2, ![8192, 2560]⟩
abbrev S_ : Shape := ⟨0, ![]⟩
abbrev S2048x2560 : Shape := ⟨2, ![2048, 2560]⟩
abbrev S2560x2048 : Shape := ⟨2, ![2560, 2048]⟩
abbrev S2048x4x640 : Shape := ⟨3, ![2048, 4, 640]⟩
abbrev S4x2048x640 : Shape := ⟨3, ![4, 2048, 640]⟩
abbrev S4x1x2048x640 : Shape := ⟨4, ![4, 1, 2048, 640]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2560, .bf16⟩
  | .hbm, ⟨2, _⟩ => ⟨S_, .f32⟩
  | .hbm, ⟨3, _⟩ => ⟨S2048x2560, .f32⟩
  | .hbm, ⟨4, _⟩ => ⟨S8192x2048, .f32⟩
  | .hbm, ⟨5, _⟩ => ⟨S8192x2560, .f32⟩
  | .hbm, ⟨6, _⟩ => ⟨S8192x2560, .f32⟩
  | .hbm, ⟨7, _⟩ => ⟨S2560x2048, .f32⟩
  | .hbm, ⟨8, _⟩ => ⟨S2048x2560, .f32⟩
  | .hbm, ⟨9, _⟩ => ⟨S2048x2560, .bf16⟩
  | .hbm, ⟨10, _⟩ => ⟨S2048x4x640, .bf16⟩
  | .hbm, ⟨11, _⟩ => ⟨S4x2048x640, .bf16⟩
  | .hbm, ⟨12, _⟩ => ⟨S4x1x2048x640, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Dha.lean ====
abbrev S8192x2560 : Shape := ⟨2, ![8192, 2560]⟩
abbrev S2048x2560 : Shape := ⟨2, ![2048, 2560]⟩
abbrev S_ : Shape := ⟨0, ![]⟩
abbrev S1x2048 : Shape := ⟨2, ![1, 2048]⟩
abbrev S8192x2048 : Shape := ⟨2, ![8192, 2048]⟩
abbrev S1024x2560 : Shape := ⟨2, ![1024, 2560]⟩
abbrev S1x1024 : Shape := ⟨2, ![1, 1024]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x2560, .bf16⟩
  | .hbm, ⟨1, _⟩ => ⟨S2048x2560, .bf16⟩
  | .hbm, ⟨2, _⟩ => ⟨S_, .f32⟩
  | .hbm, ⟨3, _⟩ => ⟨S1x2048, .f32⟩
  | .hbm, ⟨4, _⟩ => ⟨S8192x2048, .bf16⟩
  | .local _ .vmem, ⟨0, _⟩ => ⟨S1024x2560, .bf16⟩
  | .local _ .vmem, ⟨1, _⟩ => ⟨S1024x2560, .bf16⟩
  | .local _ .vmem, ⟨2, _⟩ => ⟨S1024x2560, .bf16⟩
  | .local _ .vmem, ⟨3, _⟩ => ⟨S1024x2560, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | _, _ => ⟨S8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DhaRefIdeal.lean ====
abbrev S8192x2560 : Shape := ⟨2, ![8192, 2560]⟩
abbrev S2048x2560 : Shape := ⟨2, ![2048, 2560]⟩
abbrev S_ : Shape := ⟨0, ![]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2560, .bf16⟩
  | .hbm, ⟨1, _⟩ => ⟨S2048x2560, .bf16⟩
  | .hbm, ⟨2, _⟩ => ⟨S_, .f32⟩
  | .hbm, ⟨3, _⟩ => ⟨S8192x2048, .f32⟩
  | .hbm, ⟨4, _⟩ => ⟨S2048x2560, .f32⟩
  | .hbm, ⟨5, _⟩ => ⟨S8192x2560, .f32⟩
  | .hbm, ⟨6, _⟩ => ⟨S8192x2560, .f32⟩
  | .hbm, ⟨7, _⟩ => ⟨S8192x2048, .f32⟩
  | .hbm, ⟨8, _⟩ => ⟨S8192x2048, .bf16⟩
  | _, _ => ⟨S8192x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dwxo.lean ====
abbrev S8192x512 : Shape := ⟨2, ![8192, 512]⟩
abbrev S8192x2048 : Shape := ⟨2, ![8192, 2048]⟩
abbrev S4x1x512x512 : Shape := ⟨4, ![4, 1, 512, 512]⟩
abbrev S2048x512 : Shape := ⟨2, ![2048, 512]⟩
abbrev S1x1x512x512 : Shape := ⟨4, ![1, 1, 512, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x512, .bf16⟩
  | .hbm, ⟨1, _⟩ => ⟨S8192x2048, .bf16⟩
  | .hbm, ⟨2, _⟩ => ⟨S4x1x512x512, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S1x1x512x512, .bf16⟩
  | .local _ .vmem, ⟨5, _⟩ => ⟨S1x1x512x512, .bf16⟩
  | .local _ .vmem, ⟨6, _⟩ => ⟨S512x512, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg0.toNat, v26.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwxoRefIdeal.lean ====
abbrev S8192x512 : Shape := ⟨2, ![8192, 512]⟩
abbrev S8192x2048 : Shape := ⟨2, ![8192, 2048]⟩
abbrev S_ : Shape := ⟨0, ![]⟩
abbrev S512x2048 : Shape := ⟨2, ![512, 2048]⟩
abbrev S2048x512 : Shape := ⟨2, ![2048, 512]⟩
abbrev S512x4x512 : Shape := ⟨3, ![512, 4, 512]⟩
abbrev S4x512x512 : Shape := ⟨3, ![4, 512, 512]⟩
abbrev S4x1x512x512 : Shape := ⟨4, ![4, 1, 512, 512]⟩

abbrev nBuf : Space → Nat
  | .hbm => 13
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x2048, .bf16⟩
  | .hbm, ⟨2, _⟩ => ⟨S_, .f32⟩
  | .hbm, ⟨3, _⟩ => ⟨S512x2048, .f32⟩
  | .hbm, ⟨4, _⟩ => ⟨S8192x512, .f32⟩
  | .hbm, ⟨5, _⟩ => ⟨S8192x2048, .f32⟩
  | .hbm, ⟨6, _⟩ => ⟨S8192x2048, .f32⟩
  | .hbm, ⟨7, _⟩ => ⟨S2048x512, .f32⟩
  | .hbm, ⟨8, _⟩ => ⟨S512x2048, .f32⟩
  | .hbm, ⟨9, _⟩ => ⟨S512x2048, .bf16⟩
  | .hbm, ⟨10, _⟩ => ⟨S512x4x512, .bf16⟩
  | .hbm, ⟨11, _⟩ => ⟨S4x512x512, .bf16⟩
  | .hbm, ⟨12, _⟩ => ⟨S4x1x512x512, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Dxo.lean ====
abbrev S8192x2048 : Shape := ⟨2, ![8192, 2048]⟩
abbrev S512x2048 : Shape := ⟨2, ![512, 2048]⟩
abbrev S8192x512 : Shape := ⟨2, ![8192, 512]⟩
abbrev S1024x2048 : Shape := ⟨2, ![1024, 2048]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S512x2048, .bf16⟩
  | .hbm, ⟨2, _⟩ => ⟨S8192x512, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S1024x512, .bf16⟩
  | .local _ .vmem, ⟨4, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxoRefIdeal.lean ====
abbrev S8192x2048 : Shape := ⟨2, ![8192, 2048]⟩
abbrev S512x2048 : Shape := ⟨2, ![512, 2048]⟩
abbrev S_ : Shape := ⟨0, ![]⟩
abbrev S8192x512 : Shape := ⟨2, ![8192, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S512x2048, .bf16⟩
  | .hbm, ⟨2, _⟩ => ⟨S_, .f32⟩
  | .hbm, ⟨3, _⟩ => ⟨S8192x512, .f32⟩
  | .hbm, ⟨4, _⟩ => ⟨S512x2048, .f32⟩
  | .hbm, ⟨5, _⟩ => ⟨S8192x2048, .f32⟩
  | .hbm, ⟨6, _⟩ => ⟨S8192x2048, .f32⟩
  | .hbm, ⟨7, _⟩ => ⟨S8192x512, .f32⟩
  | .hbm, ⟨8, _⟩ => ⟨S8192x512, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dwxq.lean ====
abbrev S8192x2048 : Shape := ⟨2, ![8192, 2048]⟩
abbrev S8192x512 : Shape := ⟨2, ![8192, 512]⟩
abbrev S4x1x512x512 : Shape := ⟨4, ![4, 1, 512, 512]⟩
abbrev S2048x512 : Shape := ⟨2, ![2048, 512]⟩
abbrev S1x1x512x512 : Shape := ⟨4, ![1, 1, 512, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x512, .bf16⟩
  | .hbm, ⟨2, _⟩ => ⟨S4x1x512x512, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S1x1x512x512, .bf16⟩
  | .local _ .vmem, ⟨5, _⟩ => ⟨S1x1x512x512, .bf16⟩
  | .local _ .vmem, ⟨6, _⟩ => ⟨S512x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwxqRefIdeal.lean ====
abbrev S8192x2048 : Shape := ⟨2, ![8192, 2048]⟩
abbrev S8192x512 : Shape := ⟨2, ![8192, 512]⟩
abbrev S_ : Shape := ⟨0, ![]⟩
abbrev S2048x512 : Shape := ⟨2, ![2048, 512]⟩
abbrev S512x2048 : Shape := ⟨2, ![512, 2048]⟩
abbrev S4x1x512x512 : Shape := ⟨4, ![4, 1, 512, 512]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x512, .bf16⟩
  | .hbm, ⟨2, _⟩ => ⟨S_, .f32⟩
  | .hbm, ⟨3, _⟩ => ⟨S2048x512, .f32⟩
  | .hbm, ⟨4, _⟩ => ⟨S8192x2048, .f32⟩
  | .hbm, ⟨5, _⟩ => ⟨S8192x512, .f32⟩
  | .hbm, ⟨6, _⟩ => ⟨S8192x512, .f32⟩
  | .hbm, ⟨7, _⟩ => ⟨S512x2048, .f32⟩
  | .hbm, ⟨8, _⟩ => ⟨S2048x512, .f32⟩
  | .hbm, ⟨9, _⟩ => ⟨S2048x512, .bf16⟩
  | .hbm, ⟨10, _⟩ => ⟨S4x1x512x512, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Dhxq.lean ====
abbrev S8192x512 : Shape := ⟨2, ![8192, 512]⟩
abbrev S1x1x2048x512 : Shape := ⟨4, ![1, 1, 2048, 512]⟩
abbrev S_ : Shape := ⟨0, ![]⟩
abbrev S1x2048 : Shape := ⟨2, ![1, 2048]⟩
abbrev S8192x2048 : Shape := ⟨2, ![8192, 2048]⟩
abbrev S1024x512 : Shape := ⟨2, ![1024, 512]⟩
abbrev S1x1x1024x512 : Shape := ⟨4, ![1, 1, 1024, 512]⟩
abbrev S1x1024 : Shape := ⟨2, ![1, 1024]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x512, .bf16⟩
  | .hbm, ⟨1, _⟩ => ⟨S1x1x2048x512, .bf16⟩
  | .hbm, ⟨2, _⟩ => ⟨S_, .f32⟩
  | .hbm, ⟨3, _⟩ => ⟨S1x2048, .f32⟩
  | .hbm, ⟨4, _⟩ => ⟨S8192x2048, .bf16⟩
  | .local _ .vmem, ⟨0, _⟩ => ⟨S1024x512, .bf16⟩
  | .local _ .vmem, ⟨1, _⟩ => ⟨S1024x512, .bf16⟩
  | .local _ .vmem, ⟨2, _⟩ => ⟨S1x1x1024x512, .bf16⟩
  | .local _ .vmem, ⟨3, _⟩ => ⟨S1x1x1024x512, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DhxqRefIdeal.lean ====
abbrev S8192x512 : Shape := ⟨2, ![8192, 512]⟩
abbrev S1x1x2048x512 : Shape := ⟨4, ![1, 1, 2048, 512]⟩
abbrev S2048x512 : Shape := ⟨2, ![2048, 512]⟩
abbrev S_ : Shape := ⟨0, ![]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S1x1x2048x512, .bf16⟩
  | .hbm, ⟨2, _⟩ => ⟨S2048x512, .bf16⟩
  | .hbm, ⟨3, _⟩ => ⟨S2048x512, .f32⟩
  | .hbm, ⟨4, _⟩ => ⟨S_, .f32⟩
  | .hbm, ⟨5, _⟩ => ⟨S8192x2048, .f32⟩
  | .hbm, ⟨6, _⟩ => ⟨S8192x512, .f32⟩
  | .hbm, ⟨7, _⟩ => ⟨S8192x512, .f32⟩
  | .hbm, ⟨8, _⟩ => ⟨S8192x2048, .f32⟩
  | .hbm, ⟨9, _⟩ => ⟨S8192x2048, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Datt.lean ====
abbrev S8192x512 : Shape := ⟨2, ![8192, 512]⟩
abbrev S256x1024 : Shape := ⟨2, ![256, 1024]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩
abbrev S128x256 : Shape := ⟨2, ![128, 256]⟩

abbrev nBuf : Space → Nat
  | .hbm => 5
  | .vmem => 8
  | .smem => 0
  | _ => 0

abbrev bufTy : (tb : Table) → Fin (tcTables nBuf tb) → BufTy
  | .hbm, ⟨0, _⟩ => ⟨S8192x512, .bf16⟩
  | .hbm, ⟨1, _⟩ => ⟨S256x1024, .bf16⟩
  | .hbm, ⟨2, _⟩ => ⟨S8192x512, .bf16⟩
  | .hbm, ⟨3, _⟩ => ⟨S8192x512, .bf16⟩
  | .hbm, ⟨4, _⟩ => ⟨S256x1024, .f32⟩
  | .local _ .vmem, ⟨0, _⟩ => ⟨S512x512, .bf16⟩
  | .local _ .vmem, ⟨1, _⟩ => ⟨S512x512, .bf16⟩
  | .local _ .vmem, ⟨2, _⟩ => ⟨S256x1024, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S256x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v227 : BitVec 32 := Scalar.extui v0
  let c0_i32_77 : BitVec 32 := 0#32
  let v228 : BitVec 1 := Scalar.cmpi .ne v227 c0_i32_77
  v228

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v229 : BitVec 1 := Scalar.xori v0 v_true
  let v230 : BitVec 32 := Scalar.extui v229
  let c0_i32_78 : BitVec 32 := 0#32
  let v231 : BitVec 1 := Scalar.cmpi .ne v230 c0_i32_78
  v231

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v232 : BitVec 32 := Scalar.extui v0
  let c0_i32_79 : BitVec 32 := 0#32
  let v233 : BitVec 1 := Scalar.cmpi .ne v232 c0_i32_79
  v233

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_80 : BitVec 1 := 1#1
  let v234 : BitVec 1 := Scalar.xori v0 true_80
  let v235 : BitVec 32 := Scalar.extui v234
  let c0_i32_81 : BitVec 32 := 0#32
  let v236 : BitVec 1 := Scalar.cmpi .ne v235 c0_i32_81
  v236

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v239 : BitVec 32 := Scalar.extui v0
  let c0_i32_84 : BitVec 32 := 0#32
  let v240 : BitVec 1 := Scalar.cmpi .ne v239 c0_i32_84
  v240

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_85 : BitVec 1 := 1#1
  let v241 : BitVec 1 := Scalar.xori v0 true_85
  let v242 : BitVec 32 := Scalar.extui v241
  let c0_i32_86 : BitVec 32 := 0#32
  let v243 : BitVec 1 := Scalar.cmpi .ne v242 c0_i32_86
  v243

def k0_cond7 (i : grid0.Coords) : BitVec 1 :=
  let arg0 : BitVec 32 := BitVec.ofNat 32 (i 0).val
  let c0_i32 : BitVec 32 := 0#32
  let v0 : BitVec 1 := Scalar.cmpi .eq arg0 c0_i32
  let v244 : BitVec 32 := Scalar.extui v0
  let c0_i32_87 : BitVec 32 := 0#32
  let v245 : BitVec 1 := Scalar.cmpi .ne v244 c0_i32_87
  v245

def k0_cond8 (i : grid0.Coords) : BitVec 1 :=
  let arg0 : BitVec 32 := BitVec.ofNat 32 (i 0).val
  let c0_i32 : BitVec 32 := 0#32
  let v0 : BitVec 1 := Scalar.cmpi .eq arg0 c0_i32
  let true_88 : BitVec 1 := 1#1
  let v246 : BitVec 1 := Scalar.xori v0 true_88
  let v247 : BitVec 32 := Scalar.extui v246
  let c0_i32_89 : BitVec 32 := 0#32
  let v248 : BitVec 1 := Scalar.cmpi .ne v247 c0_i32_89
  v248

def k0_cond9 (i : grid0.Coords) : BitVec 1 :=
  let arg0 : BitVec 32 := BitVec.ofNat 32 (i 0).val
  let c0_i32 : BitVec 32 := 0#32
  let v0 : BitVec 1 := Scalar.cmpi .eq arg0 c0_i32
  let v251 : BitVec 32 := Scalar.extui v0
  let c0_i32_92 : BitVec 32 := 0#32
  let v252 : BitVec 1 := Scalar.cmpi .ne v251 c0_i32_92
  v252

def k0_cond10 (i : grid0.Coords) : BitVec 1 :=
  let arg0 : BitVec 32 := BitVec.ofNat 32 (i 0).val
  let c0_i32 : BitVec 32 := 0#32
  let v0 : BitVec 1 := Scalar.cmpi .eq arg0 c0_i32
  let true_93 : BitVec 1 := 1#1
  let v253 : BitVec 1 := Scalar.xori v0 true_93
  let v254 : BitVec 32 := Scalar.extui v253
  let c0_i32_94 : BitVec 32 := 0#32
  let v255 : BitVec 1 := Scalar.cmpi .ne v254 c0_i32_94
  v255

def k0_cond11 (i : grid0.Coords) : BitVec 1 :=
  let arg0 : BitVec 32 := BitVec.ofNat 32 (i 0).val
  let c0_i32 : BitVec 32 := 0#32
  let v0 : BitVec 1 := Scalar.cmpi .eq arg0 c0_i32
  let v256 : BitVec 32 := Scalar.extui v0
  let c0_i32_95 : BitVec 32 := 0#32
  let v257 : BitVec 1 := Scalar.cmpi .ne v256 c0_i32_95
  v257

def k0_cond12 (i : grid0.Coords) : BitVec 1 :=
  let arg0 : BitVec 32 := BitVec.ofNat 32 (i 0).val
  let c0_i32 : BitVec 32 := 0#32
  let v0 : BitVec 1 := Scalar.cmpi .eq arg0 c0_i32
  let true_96 : BitVec 1 := 1#1
  let v258 : BitVec 1 := Scalar.xori v0 true_96
  let v259 : BitVec 32 := Scalar.extui v258
  let c0_i32_97 : BitVec 32 := 0#32
  let v260 : BitVec 1 := Scalar.cmpi .ne v259 c0_i32_97
  v260

def k0_cond13 (i : grid0.Coords) : BitVec 1 :=
  let arg0 : BitVec 32 := BitVec.ofNat 32 (i 0).val
  let c0_i32 : BitVec 32 := 0#32
  let v0 : BitVec 1 := Scalar.cmpi .eq arg0 c0_i32
  let v263 : BitVec 32 := Scalar.extui v0
  let c0_i32_100 : BitVec 32 := 0#32
  let v264 : BitVec 1 := Scalar.cmpi .ne v263 c0_i32_100
  v264

def k0_cond14 (i : grid0.Coords) : BitVec 1 :=
  let arg0 : BitVec 32 := BitVec.ofNat 32 (i 0).val
  let c0_i32 : BitVec 32 := 0#32
  let v0 : BitVec 1 := Scalar.cmpi .eq arg0 c0_i32
  let true_101 : BitVec 1 := 1#1
  let v265 : BitVec 1 := Scalar.xori v0 true_101
  let v266 : BitVec 32 := Scalar.extui v265
  let c0_i32_102 : BitVec 32 := 0#32
  let v267 : BitVec 1 := Scalar.cmpi .ne v266 c0_i32_102
  v267

def k0_cond15 (i : grid0.Coords) : BitVec 1 :=
  let arg0 : BitVec 32 := BitVec.ofNat 32 (i 0).val
  let c0_i32 : BitVec 32 := 0#32
  let v0 : BitVec 1 := Scalar.cmpi .eq arg0 c0_i32
  let v268 : BitVec 32 := Scalar.extui v0
  let c0_i32_103 : BitVec 32 := 0#32
  let v269 : BitVec 1 := Scalar.cmpi .ne v268 c0_i32_103
  v269

def k0_cond16 (i : grid0.Coords) : BitVec 1 :=
  let arg0 : BitVec 32 := BitVec.ofNat 32 (i 0).val
  let c0_i32 : BitVec 32 := 0#32
  let v0 : BitVec 1 := Scalar.cmpi .eq arg0 c0_i32
  let true_104 : BitVec 1 := 1#1
  let v270 : BitVec 1 := Scalar.xori v0 true_104
  let v271 : BitVec 32 := Scalar.extui v270
  let c0_i32_105 : BitVec 32 := 0#32
  let v272 : BitVec 1 := Scalar.cmpi .ne v271 c0_i32_105
  v272

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== DattRefIdeal.lean ====
abbrev S8192x512 : Shape := ⟨2, ![8192, 512]⟩
abbrev S256x1024 : Shape := ⟨2, ![256, 1024]⟩
abbrev S8192x4x128 : Shape := ⟨3, ![8192, 4, 128]⟩
abbrev S256x512 : Shape := ⟨2, ![256, 512]⟩
abbrev S256x4x128 : Shape := ⟨3, ![256, 4, 128]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x128x8192 : Shape := ⟨3, ![4, 128, 8192]⟩
abbrev S4x128x256 : Shape := ⟨3, ![4, 128, 256]⟩
abbrev S4x256x128 : Shape := ⟨3, ![4, 256, 128]⟩
abbrev S4x8192x128 : Shape := ⟨3, ![4, 8192, 128]⟩

abbrev nBuf : Space → Nat
  | .hbm => 70
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S256x1024, .bf16⟩
  | .hbm, ⟨2, _⟩ => ⟨S8192x512, .bf16⟩
  | .hbm, ⟨3, _⟩ => ⟨S8192x512, .f32⟩
  | .hbm, ⟨4, _⟩ => ⟨S8192x4x128, .f32⟩
  | .hbm, ⟨5, _⟩ => ⟨S256x512, .bf16⟩
  | .hbm, ⟨6, _⟩ => ⟨S256x512, .f32⟩
  | .hbm, ⟨7, _⟩ => ⟨S256x4x128, .f32⟩
  | .hbm, ⟨8, _⟩ => ⟨S256x512, .bf16⟩
  | .hbm, ⟨9, _⟩ => ⟨S256x512, .f32⟩
  | .hbm, ⟨10, _⟩ => ⟨S256x4x128, .f32⟩
  | .hbm, ⟨11, _⟩ => ⟨S4x8192x256, .f32⟩
  | .hbm, ⟨12, _⟩ => ⟨S_, .f32⟩
  | .hbm, ⟨13, _⟩ => ⟨S4x8192x256, .f32⟩
  | .hbm, ⟨14, _⟩ => ⟨S4x8192x256, .f32⟩
  | .hbm, ⟨15, _⟩ => ⟨S_, .f32⟩
  | .hbm, ⟨16, _⟩ => ⟨S4x8192, .f32⟩
  | .hbm, ⟨17, _⟩ => ⟨S4x8192x1, .f32⟩
  | .hbm, ⟨18, _⟩ => ⟨S4x8192x256, .f32⟩
  | .hbm, ⟨19, _⟩ => ⟨S4x8192x256, .i1⟩
  | .hbm, ⟨20, _⟩ => ⟨S4x8192x256, .f32⟩
  | .hbm, ⟨21, _⟩ => ⟨S_, .f32⟩
  | .hbm, ⟨22, _⟩ => ⟨S4x8192, .f32⟩
  | .hbm, ⟨23, _⟩ => ⟨S4x8192x1, .f32⟩
  | .hbm, ⟨24, _⟩ => ⟨S4x8192x256, .f32⟩
  | .hbm, ⟨25, _⟩ => ⟨S4x8192x256, .f32⟩
  | .hbm, ⟨26, _⟩ => ⟨S4x8192x256, .f32⟩
  | .hbm, ⟨27, _⟩ => ⟨S_, .f32⟩
  | .hbm, ⟨28, _⟩ => ⟨S4x8192, .f32⟩
  | .hbm, ⟨29, _⟩ => ⟨S4x8192x1, .f32⟩
  | .hbm, ⟨30, _⟩ => ⟨S4x8192x256, .f32⟩
  | .hbm, ⟨31, _⟩ => ⟨S4x8192x256, .f32⟩
  | .hbm, ⟨32, _⟩ => ⟨S4x8192x1, .f32⟩
  | .hbm, ⟨33, _⟩ => ⟨S_, .f32⟩
  | .hbm, ⟨34, _⟩ => ⟨S4x8192x1, .f32⟩
  | .hbm, ⟨35, _⟩ => ⟨S4x8192x1, .f32⟩
  | .hbm, ⟨36, _⟩ => ⟨S4x128x8192, .f32⟩
  | .hbm, ⟨37, _⟩ => ⟨S8192x4x128, .f32⟩
  | .hbm, ⟨38, _⟩ => ⟨S8192x512, .f32⟩
  | .hbm, ⟨39, _⟩ => ⟨S8192x4x128, .f32⟩
  | .hbm, ⟨40, _⟩ => ⟨S4x128x8192, .f32⟩
  | .hbm, ⟨41, _⟩ => ⟨S4x8192x256, .f32⟩
  | .hbm, ⟨42, _⟩ => ⟨S4x128x256, .f32⟩
  | .hbm, ⟨43, _⟩ => ⟨S256x4x128, .f32⟩
  | .hbm, ⟨44, _⟩ => ⟨S4x8192x256, .f32⟩
  | .hbm, ⟨45, _⟩ => ⟨S4x8192x256, .f32⟩
  | .hbm, ⟨46, _⟩ => ⟨S4x8192x256, .f32⟩
  | .hbm, ⟨47, _⟩ => ⟨S_, .f32⟩
  | .hbm, ⟨48, _⟩ => ⟨S4x8192, .f32⟩
  | .hbm, ⟨49, _⟩ => ⟨S4x8192x1, .f32⟩
  | .hbm, ⟨50, _⟩ => ⟨S4x8192x1, .f32⟩
  | .hbm, ⟨51, _⟩ => ⟨S4x8192x256, .f32⟩
  | .hbm, ⟨52, _⟩ => ⟨S4x8192x256, .f32⟩
  | .hbm, ⟨53, _⟩ => ⟨S_, .f32⟩
  | .hbm, ⟨54, _⟩ => ⟨S4x8192, .f32⟩
  | .hbm, ⟨55, _⟩ => ⟨S4x8192x256, .f32⟩
  | .hbm, ⟨56, _⟩ => ⟨S4x8192x256, .f32⟩
  | .hbm, ⟨57, _⟩ => ⟨S4x8192x256, .f32⟩
  | .hbm, ⟨58, _⟩ => ⟨S_, .f32⟩
  | .hbm, ⟨59, _⟩ => ⟨S4x8192x256, .f32⟩
  | .hbm, ⟨60, _⟩ => ⟨S4x8192x256, .f32⟩
  | .hbm, ⟨61, _⟩ => ⟨S4x256x128, .f32⟩
  | .hbm, ⟨62, _⟩ => ⟨S256x4x128, .f32⟩
  | .hbm, ⟨63, _⟩ => ⟨S4x8192x128, .f32⟩
  | .hbm, ⟨64, _⟩ => ⟨S8192x4x128, .f32⟩
  | .hbm, ⟨65, _⟩ => ⟨S8192x512, .f32⟩
  | .hbm, ⟨66, _⟩ => ⟨S8192x512, .bf16⟩
  | .hbm, ⟨67, _⟩ => ⟨S256x512, .f32⟩
  | .hbm, ⟨68, _⟩ => ⟨S256x512, .f32⟩
  | .hbm, ⟨69, _⟩ => ⟨S256x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_4 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_5 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_6 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩

abbrev nD : Nat := 1
abbrev τ : Topo := Topo.v7x

variable {F : FTy → Type} [FloatOps F]
-- ==== Drope.lean ====
abbrev S8192x2048 : Shape := ⟨2, ![8192, 2048]⟩
abbrev S8192x512 : Shape := ⟨2, ![8192, 512]⟩
abbrev S8192x8 : Shape := ⟨2, ![8192, 8]⟩
abbrev S_ : Shape := ⟨0, ![]⟩
abbrev S8192x48 : Shape := ⟨2, ![8192, 48]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S8192x2560 : Shape := ⟨2, ![8192, 2560]⟩
abbrev S1x2560 : Shape := ⟨2, ![1, 2560]⟩
abbrev S128x2048 : Shape := ⟨2, ![128, 2048]⟩
abbrev S128x512 : Shape := ⟨2, ![128, 512]⟩
abbrev S128x128 : Shape := ⟨2, ![128, 128]⟩
abbrev S128x2560 : Shape := ⟨2, ![128, 2560]⟩
abbrev S128x256 : Shape := ⟨2, ![128, 256]⟩
abbrev S2560 : Shape := ⟨1, ![2560]⟩

abbrev nBuf : Space → Nat
  | .hbm => 20
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S8192x512, .f32⟩
  | .hbm, ⟨2, _⟩ => ⟨S8192x512, .f32⟩
  | .hbm, ⟨3, _⟩ => ⟨S8192x8, .f32⟩
  | .hbm, ⟨4, _⟩ => ⟨S8192x8, .f32⟩
  | .hbm, ⟨5, _⟩ => ⟨S_, .f32⟩
  | .hbm, ⟨6, _⟩ => ⟨S8192x48, .f32⟩
  | .hbm, ⟨7, _⟩ => ⟨S_, .f32⟩
  | .hbm, ⟨8, _⟩ => ⟨S8192x48, .f32⟩
  | .hbm, ⟨9, _⟩ => ⟨S8192x64, .f32⟩
  | .hbm, ⟨10, _⟩ => ⟨S1x8192x1x64, .f32⟩
  | .hbm, ⟨11, _⟩ => ⟨S1x8192x2x64, .f32⟩
  | .hbm, ⟨12, _⟩ => ⟨S8192x128, .f32⟩
  | .hbm, ⟨13, _⟩ => ⟨S8192x8, .f32⟩
  | .hbm, ⟨14, _⟩ => ⟨S8192x64, .f32⟩
  | .hbm, ⟨15, _⟩ => ⟨S1x8192x1x64, .f32⟩
  | .hbm, ⟨16, _⟩ => ⟨S1x8192x2x64, .f32⟩
  | .hbm, ⟨17, _⟩ => ⟨S8192x128, .f32⟩
  | .hbm, ⟨18, _⟩ => ⟨S8192x2560, .bf16⟩
  | .hbm, ⟨19, _⟩ => ⟨S1x2560, .f32⟩
  | .local _ .vmem, ⟨0, _⟩ => ⟨S128x2048, .bf16⟩
  | .local _ .vmem, ⟨1, _⟩ => ⟨S128x2048, .bf16⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x2560, .bf16⟩
  | .local _ .vmem, ⟨11, _⟩ => ⟨S128x2560, .bf16⟩
  | .local _ .vmem, ⟨12, _⟩ => ⟨S1x2560, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32_29 : BitVec 32 := 0#32
  let v88 : BitVec 1 := Scalar.cmpi .eq arg0 c0_i32_29
  let v94 : BitVec 32 := Scalar.extui v88
  let c0_i32_33 : BitVec 32 := 0#32
  let v95 : BitVec 1 := Scalar.cmpi .ne v94 c0_i32_33
  v95

def k0_cond2 (i : grid0.Coords) : BitVec 1 :=
  let arg0 : BitVec 32 := BitVec.ofNat 32 (i 0).val
  let c0_i32_29 : BitVec 32 := 0#32
  let v88 : BitVec 1 := Scalar.cmpi .eq arg0 c0_i32_29
  let v_true : BitVec 1 := 1#1
  let v96 : BitVec 1 := Scalar.xori v88 v_true
  let v97 : BitVec 32 := Scalar.extui v96
  let c0_i32_34 : BitVec 32 := 0#32
  let v98 : BitVec 1 := Scalar.cmpi .ne v97 c0_i32_34
  v98

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2560 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2560 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DropeRefIdeal.lean ====
abbrev S8192x2048 : Shape := ⟨2, ![8192, 2048]⟩
abbrev S8192x512 : Shape := ⟨2, ![8192, 512]⟩
abbrev S8192x8 : Shape := ⟨2, ![8192, 8]⟩
abbrev S_ : Shape := ⟨0, ![]⟩
abbrev S8192x2560 : Shape := ⟨2, ![8192, 2560]⟩
abbrev S1x2560 : Shape := ⟨2, ![1, 2560]⟩
abbrev S8192x1x8 : Shape := ⟨3, ![8192, 1, 8]⟩
abbrev S8192x32x64 : Shape := ⟨3, ![8192, 32, 64]⟩
abbrev S8192x32x8 : Shape := ⟨3, ![8192, 32, 8]⟩
abbrev S8192x32x48 : Shape := ⟨3, ![8192, 32, 48]⟩
abbrev S8192x256 : Shape := ⟨2, ![8192, 256]⟩
abbrev S8192x4x64 : Shape := ⟨3, ![8192, 4, 64]⟩
abbrev S8192x4x8 : Shape := ⟨3, ![8192, 4, 8]⟩
abbrev S8192x4x48 : Shape := ⟨3, ![8192, 4, 48]⟩
abbrev S128x512 : Shape := ⟨2, ![128, 512]⟩
abbrev S8064x512 : Shape := ⟨2, ![8064, 512]⟩
abbrev S2560 : Shape := ⟨1, ![2560]⟩

abbrev nBuf : Space → Nat
  | .hbm => 123
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x512, .f32⟩
  | .hbm, ⟨2, _⟩ => ⟨S8192x512, .f32⟩
  | .hbm, ⟨3, _⟩ => ⟨S8192x8, .f32⟩
  | .hbm, ⟨4, _⟩ => ⟨S8192x8, .f32⟩
  | .hbm, ⟨5, _⟩ => ⟨S_, .f32⟩
  | .hbm, ⟨6, _⟩ => ⟨S8192x2560, .f32⟩
  | .hbm, ⟨7, _⟩ => ⟨S_, .f32⟩
  | .hbm, ⟨8, _⟩ => ⟨S1x2560, .f32⟩
  | .hbm, ⟨9, _⟩ => ⟨S8192x2560, .f32⟩
  | .hbm, ⟨10, _⟩ => ⟨S8192x2560, .f32⟩
  | .hbm, ⟨11, _⟩ => ⟨S8192x1x8, .f32⟩
  | .hbm, ⟨12, _⟩ => ⟨S8192x1x8, .f32⟩
  | .hbm, ⟨13, _⟩ => ⟨S8192x2048, .f32⟩
  | .hbm, ⟨14, _⟩ => ⟨S8192x32x64, .f32⟩
  | .hbm, ⟨15, _⟩ => ⟨S8192x32x8, .f32⟩
  | .hbm, ⟨16, _⟩ => ⟨S8192x32x8, .f32⟩
  | .hbm, ⟨17, _⟩ => ⟨S8192x32x8, .f32⟩
  | .hbm, ⟨18, _⟩ => ⟨S8192x32x8, .f32⟩
  | .hbm, ⟨19, _⟩ => ⟨S8192x32x8, .f32⟩
  | .hbm, ⟨20, _⟩ => ⟨S8192x32x8, .f32⟩
  | .hbm, ⟨21, _⟩ => ⟨S8192x32x8, .f32⟩
  | .hbm, ⟨22, _⟩ => ⟨S8192x32x8, .f32⟩
  | .hbm, ⟨23, _⟩ => ⟨S8192x32x8, .f32⟩
  | .hbm, ⟨24, _⟩ => ⟨S8192x32x8, .f32⟩
  | .hbm, ⟨25, _⟩ => ⟨S8192x32x8, .f32⟩
  | .hbm, ⟨26, _⟩ => ⟨S8192x32x8, .f32⟩
  | .hbm, ⟨27, _⟩ => ⟨S8192x32x48, .f32⟩
  | .hbm, ⟨28, _⟩ => ⟨S8192x32x64, .f32⟩
  | .hbm, ⟨29, _⟩ => ⟨S8192x2048, .f32⟩
  | .hbm, ⟨30, _⟩ => ⟨S8192x256, .f32⟩
  | .hbm, ⟨31, _⟩ => ⟨S8192x4x64, .f32⟩
  | .hbm, ⟨32, _⟩ => ⟨S8192x4x8, .f32⟩
  | .hbm, ⟨33, _⟩ => ⟨S8192x4x8, .f32⟩
  | .hbm, ⟨34, _⟩ => ⟨S8192x4x8, .f32⟩
  | .hbm, ⟨35, _⟩ => ⟨S8192x4x8, .f32⟩
  | .hbm, ⟨36, _⟩ => ⟨S8192x4x8, .f32⟩
  | .hbm, ⟨37, _⟩ => ⟨S8192x4x8, .f32⟩
  | .hbm, ⟨38, _⟩ => ⟨S8192x4x8, .f32⟩
  | .hbm, ⟨39, _⟩ => ⟨S8192x4x8, .f32⟩
  | .hbm, ⟨40, _⟩ => ⟨S8192x4x8, .f32⟩
  | .hbm, ⟨41, _⟩ => ⟨S8192x4x8, .f32⟩
  | .hbm, ⟨42, _⟩ => ⟨S8192x4x8, .f32⟩
  | .hbm, ⟨43, _⟩ => ⟨S8192x4x8, .f32⟩
  | .hbm, ⟨44, _⟩ => ⟨S8192x4x48, .f32⟩
  | .hbm, ⟨45, _⟩ => ⟨S8192x4x64, .f32⟩
  | .hbm, ⟨46, _⟩ => ⟨S8192x256, .f32⟩
  | .hbm, ⟨47, _⟩ => ⟨S8192x256, .f32⟩
  | .hbm, ⟨48, _⟩ => ⟨S8192x512, .f32⟩
  | .hbm, ⟨49, _⟩ => ⟨S_, .f32⟩
  | .hbm, ⟨50, _⟩ => ⟨S128x512, .f32⟩
  | .hbm, ⟨51, _⟩ => ⟨S8064x512, .f32⟩
  | .hbm, ⟨52, _⟩ => ⟨S8192x512, .f32⟩
  | .hbm, ⟨53, _⟩ => ⟨S_, .f32⟩
  | .hbm, ⟨54, _⟩ => ⟨S128x512, .f32⟩
  | .hbm, ⟨55, _⟩ => ⟨S8192x2048, .f32⟩
  | .hbm, ⟨56, _⟩ => ⟨S128x512, .f32⟩
  | .hbm, ⟨57, _⟩ => ⟨S8064x512, .f32⟩
  | .hbm, ⟨58, _⟩ => ⟨S_, .f32⟩
  | .hbm, ⟨59, _⟩ => ⟨S8192x512, .f32⟩
  | .hbm, ⟨60, _⟩ => ⟨S8192x512, .f32⟩
  | .hbm, ⟨61, _⟩ => ⟨S8192x256, .f32⟩
  | .hbm, ⟨62, _⟩ => ⟨S8192x256, .f32⟩
  | .hbm, ⟨63, _⟩ => ⟨S_, .f32⟩
  | .hbm, ⟨64, _⟩ => ⟨S8192x2560, .f32⟩
  | .hbm, ⟨65, _⟩ => ⟨S8192x4x64, .f32⟩
  | .hbm, ⟨66, _⟩ => ⟨S8192x4x8, .f32⟩
  | .hbm, ⟨67, _⟩ => ⟨S8192x4x8, .f32⟩
  | .hbm, ⟨68, _⟩ => ⟨S8192x4x48, .f32⟩
  | .hbm, ⟨69, _⟩ => ⟨S_, .f32⟩
  | .hbm, ⟨70, _⟩ => ⟨S8192x4x64, .f32⟩
  | .hbm, ⟨71, _⟩ => ⟨S8192x4x8, .f32⟩
  | .hbm, ⟨72, _⟩ => ⟨S8192x4x8, .f32⟩
  | .hbm, ⟨73, _⟩ => ⟨S8192x4x8, .f32⟩
  | .hbm, ⟨74, _⟩ => ⟨S8192x4x8, .f32⟩
  | .hbm, ⟨75, _⟩ => ⟨S8192x4x8, .f32⟩
  | .hbm, ⟨76, _⟩ => ⟨S8192x4x8, .f32⟩
  | .hbm, ⟨77, _⟩ => ⟨S8192x4x8, .f32⟩
  | .hbm, ⟨78, _⟩ => ⟨S8192x4x8, .f32⟩
  | .hbm, ⟨79, _⟩ => ⟨S8192x4x8, .f32⟩
  | .hbm, ⟨80, _⟩ => ⟨S8192x4x8, .f32⟩
  | .hbm, ⟨81, _⟩ => ⟨S8192x4x8, .f32⟩
  | .hbm, ⟨82, _⟩ => ⟨S_, .f32⟩
  | .hbm, ⟨83, _⟩ => ⟨S8192x4x64, .f32⟩
  | .hbm, ⟨84, _⟩ => ⟨S8192x4x64, .f32⟩
  | .hbm, ⟨85, _⟩ => ⟨S_, .f32⟩
  | .hbm, ⟨86, _⟩ => ⟨S8192x4x64, .f32⟩
  | .hbm, ⟨87, _⟩ => ⟨S8192x4x64, .f32⟩
  | .hbm, ⟨88, _⟩ => ⟨S8192x256, .f32⟩
  | .hbm, ⟨89, _⟩ => ⟨S_, .f32⟩
  | .hbm, ⟨90, _⟩ => ⟨S8192x2560, .f32⟩
  | .hbm, ⟨91, _⟩ => ⟨S8192x2560, .f32⟩
  | .hbm, ⟨92, _⟩ => ⟨S8192x32x64, .f32⟩
  | .hbm, ⟨93, _⟩ => ⟨S8192x32x8, .f32⟩
  | .hbm, ⟨94, _⟩ => ⟨S8192x32x8, .f32⟩
  | .hbm, ⟨95, _⟩ => ⟨S8192x32x48, .f32⟩
  | .hbm, ⟨96, _⟩ => ⟨S_, .f32⟩
  | .hbm, ⟨97, _⟩ => ⟨S8192x32x64, .f32⟩
  | .hbm, ⟨98, _⟩ => ⟨S8192x32x8, .f32⟩
  | .hbm, ⟨99, _⟩ => ⟨S8192x32x8, .f32⟩
  | .hbm, ⟨100, _⟩ => ⟨S8192x32x8, .f32⟩
  | .hbm, ⟨101, _⟩ => ⟨S8192x32x8, .f32⟩
  | .hbm, ⟨102, _⟩ => ⟨S8192x32x8, .f32⟩
  | .hbm, ⟨103, _⟩ => ⟨S8192x32x8, .f32⟩
  | .hbm, ⟨104, _⟩ => ⟨S8192x32x8, .f32⟩
  | .hbm, ⟨105, _⟩ => ⟨S8192x32x8, .f32⟩
  | .hbm, ⟨106, _⟩ => ⟨S8192x32x8, .f32⟩
  | .hbm, ⟨107, _⟩ => ⟨S8192x32x8, .f32⟩
  | .hbm, ⟨108, _⟩ => ⟨S8192x32x8, .f32⟩
  | .hbm, ⟨109, _⟩ => ⟨S_, .f32⟩
  | .hbm, ⟨110, _⟩ => ⟨S8192x32x64, .f32⟩
  | .hbm, ⟨111, _⟩ => ⟨S8192x32x64, .f32⟩
  | .hbm, ⟨112, _⟩ => ⟨S_, .f32⟩
  | .hbm, ⟨113, _⟩ => ⟨S8192x32x64, .f32⟩
  | .hbm, ⟨114, _⟩ => ⟨S8192x32x64, .f32⟩
  | .hbm, ⟨115, _⟩ => ⟨S8192x2048, .f32⟩
  | .hbm, ⟨116, _⟩ => ⟨S_, .f32⟩
  | .hbm, ⟨117, _⟩ => ⟨S8192x2560, .f32⟩
  | .hbm, ⟨118, _⟩ => ⟨S8192x2560, .f32⟩
  | .hbm, ⟨119, _⟩ => ⟨S_, .f32⟩
  | .hbm, ⟨120, _⟩ => ⟨S2560, .f32⟩
  | .hbm, ⟨121, _⟩ => ⟨S1x2560, .f32⟩
  | .hbm, ⟨122, _⟩ => ⟨S8192x2560, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_cst_1 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst_2 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_cst_3 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_cst_4 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_cst_5 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_cst_6 : Ref sig .tc := ⟨.hbm, 82, rfl⟩
abbrev main_v70 : Ref sig .tc := ⟨.hbm, 83, rfl⟩
abbrev main_v71 : Ref sig .tc := ⟨.hbm, 84, rfl⟩
abbrev main_cst_7 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_cst_8 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_cst_9 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_cst_10 : Ref sig .tc := ⟨.hbm, 109, rfl⟩
abbrev main_v93 : Ref sig .tc := ⟨.hbm, 110, rfl⟩
abbrev main_v94 : Ref sig .tc := ⟨.hbm, 111, rfl⟩
abbrev main_cst_11 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_cst_12 : Ref sig .tc := ⟨.hbm, 116, rfl⟩
abbrev main_v98 : Ref sig .tc := ⟨.hbm, 117, rfl⟩
abbrev main_v99 : Ref sig .tc := ⟨.hbm, 118, rfl⟩
abbrev main_cst_13 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩

abbrev nD : Nat := 1
abbrev τ : Topo := Topo.v7x

variable {F : FTy → Type} [FloatOps F]
-- ==== Dconv.lean ====
abbrev S8192x9216 : Shape := ⟨2, ![8192, 9216]⟩
abbrev S8192x3072 : Shape := ⟨2, ![8192, 3072]⟩
abbrev S4x3072 : Shape := ⟨2, ![4, 3072]⟩
abbrev S1x3072 : Shape := ⟨2, ![1, 3072]⟩
abbrev S256x3072 : Shape := ⟨2, ![256, 3072]⟩
abbrev S8x3072 : Shape := ⟨2, ![8, 3072]⟩
abbrev S264x3072 : Shape := ⟨2, ![264, 3072]⟩
abbrev S3072 : Shape := ⟨1, ![3072]⟩

abbrev nBuf : Space → Nat
  | .hbm => 8
  | .vmem => 17
  | .smem => 0
  | _ => 0

abbrev bufTy : (tb : Table) → Fin (tcTables nBuf tb) → BufTy
  | .hbm, ⟨0, _⟩ => ⟨S8192x9216, .bf16⟩
  | .hbm, ⟨1, _⟩ => ⟨S8192x3072, .bf16⟩
  | .hbm, ⟨2, _⟩ => ⟨S8192x3072, .bf16⟩
  | .hbm, ⟨3, _⟩ => ⟨S4x3072, .f32⟩
  | .hbm, ⟨4, _⟩ => ⟨S8192x9216, .bf16⟩
  | .hbm, ⟨5, _⟩ => ⟨S8192x9216, .bf16⟩
  | .hbm, ⟨6, _⟩ => ⟨S4x3072, .f32⟩
  | .hbm, ⟨7, _⟩ => ⟨S1x3072, .f32⟩
  | .local _ .vmem, ⟨0, _⟩ => ⟨S256x3072, .bf16⟩
  | .local _ .vmem, ⟨1, _⟩ => ⟨S256x3072, .bf16⟩
  | .local _ .vmem, ⟨2, _⟩ => ⟨S8x3072, .bf16⟩
  | .local _ .vmem, ⟨3, _⟩ => ⟨S8x3072, .bf16⟩
  | .local _ .vmem, ⟨4, _⟩ => ⟨S256x3072, .bf16⟩
  | .local _ .vmem, ⟨5, _⟩ => ⟨S256x3072, .bf16⟩
  | .local _ .vmem, ⟨6, _⟩ => ⟨S8x3072, .bf16⟩
  | .local _ .vmem, ⟨7, _⟩ => ⟨S8x3072, .bf16⟩
  | .local _ .vmem, ⟨8, _⟩ => ⟨S256x3072, .bf16⟩
  | .local _ .vmem, ⟨9, _⟩ => ⟨S256x3072, .bf16⟩
  | .local _ .vmem, ⟨10, _⟩ => ⟨S8x3072, .bf16⟩
  | .local _ .vmem, ⟨11, _⟩ => ⟨S8x3072, .bf16⟩
  | .local _ .vmem, ⟨12, _⟩ => ⟨S4x3072, .f32⟩
  | .local _ .vmem, ⟨13, _⟩ => ⟨S256x3072, .bf16⟩
  | .local _ .vmem, ⟨14, _⟩ => ⟨S256x3072, .bf16⟩
  | .local _ .vmem, ⟨15, _⟩ => ⟨S4x3072, .f32⟩
  | .local _ .vmem, ⟨16, _⟩ => ⟨S1x3072, .f32⟩
  | _, _ => ⟨S8192x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem9_0 : DmaSem sig := 16

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v58 : BitVec 32 := Scalar.extui v0
  let c0_i32_23 : BitVec 32 := 0#32
  let v59 : BitVec 1 := Scalar.cmpi .ne v58 c0_i32_23
  v59

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v60 : BitVec 1 := Scalar.xori v0 v_true
  let v61 : BitVec 32 := Scalar.extui v60
  let c0_i32_24 : BitVec 32 := 0#32
  let v62 : BitVec 1 := Scalar.cmpi .ne v61 c0_i32_24
  v62

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v75 : BitVec 32 := Scalar.extui v0
  let c0_i32_27 : BitVec 32 := 0#32
  let v76 : BitVec 1 := Scalar.cmpi .ne v75 c0_i32_27
  v76

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_28 : BitVec 1 := 1#1
  let v77 : BitVec 1 := Scalar.xori v0 true_28
  let v78 : BitVec 32 := Scalar.extui v77
  let c0_i32_29 : BitVec 32 := 0#32
  let v79 : BitVec 1 := Scalar.cmpi .ne v78 c0_i32_29
  v79

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v92 : BitVec 32 := Scalar.extui v0
  let c0_i32_32 : BitVec 32 := 0#32
  let v93 : BitVec 1 := Scalar.cmpi .ne v92 c0_i32_32
  v93

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_33 : BitVec 1 := 1#1
  let v94 : BitVec 1 := Scalar.xori v0 true_33
  let v95 : BitVec 32 := Scalar.extui v94
  let c0_i32_34 : BitVec 32 := 0#32
  let v96 : BitVec 1 := Scalar.cmpi .ne v95 c0_i32_34
  v96

def k0_cond7 (i : grid0.Coords) : BitVec 1 :=
  let arg0 : BitVec 32 := BitVec.ofNat 32 (i 0).val
  let c0_i32 : BitVec 32 := 0#32
  let v0 : BitVec 1 := Scalar.cmpi .eq arg0 c0_i32
  let v109 : BitVec 32 := Scalar.extui v0
  let c0_i32_38 : BitVec 32 := 0#32
  let v110 : BitVec 1 := Scalar.cmpi .ne v109 c0_i32_38
  v110

def k0_cond8 (i : grid0.Coords) : BitVec 1 :=
  let arg0 : BitVec 32 := BitVec.ofNat 32 (i 0).val
  let c0_i32 : BitVec 32 := 0#32
  let v0 : BitVec 1 := Scalar.cmpi .eq arg0 c0_i32
  let true_39 : BitVec 1 := 1#1
  let v111 : BitVec 1 := Scalar.xori v0 true_39
  let v112 : BitVec 32 := Scalar.extui v111
  let c0_i32_40 : BitVec 32 := 0#32
  let v113 : BitVec 1 := Scalar.cmpi .ne v112 c0_i32_40
  v113

def k0_cond9 (i : grid0.Coords) : BitVec 1 :=
  let arg0 : BitVec 32 := BitVec.ofNat 32 (i 0).val
  let c0_i32 : BitVec 32 := 0#32
  let v0 : BitVec 1 := Scalar.cmpi .eq arg0 c0_i32
  let v116 : BitVec 32 := Scalar.extui v0
  let c0_i32_42 : BitVec 32 := 0#32
  let v117 : BitVec 1 := Scalar.cmpi .ne v116 c0_i32_42
  v117

def k0_cond10 (i : grid0.Coords) : BitVec 1 :=
  let arg0 : BitVec 32 := BitVec.ofNat 32 (i 0).val
  let c0_i32 : BitVec 32 := 0#32
  let v0 : BitVec 1 := Scalar.cmpi .eq arg0 c0_i32
  let true_43 : BitVec 1 := 1#1
  let v118 : BitVec 1 := Scalar.xori v0 true_43
  let v119 : BitVec 32 := Scalar.extui v118
  let c0_i32_44 : BitVec 32 := 0#32
  let v120 : BitVec 1 := Scalar.cmpi .ne v119 c0_i32_44
  v120

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x3072 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== DconvRefIdeal.lean ====
abbrev S8192x9216 : Shape := ⟨2, ![8192, 9216]⟩
abbrev S8192x3072 : Shape := ⟨2, ![8192, 3072]⟩
abbrev S4x3072 : Shape := ⟨2, ![4, 3072]⟩
abbrev S_ : Shape := ⟨0, ![]⟩
abbrev S1x3072 : Shape := ⟨2, ![1, 3072]⟩
abbrev S3x3072 : Shape := ⟨2, ![3, 3072]⟩
abbrev S8195x3072 : Shape := ⟨2, ![8195, 3072]⟩
abbrev S3072 : Shape := ⟨1, ![3072]⟩
abbrev S8192x6144 : Shape := ⟨2, ![8192, 6144]⟩

abbrev nBuf : Space → Nat
  | .hbm => 131
  | .vmem => 0
  | .smem => 0
  | _ => 0

abbrev hbmTy0_0 (i : Nat) : BufTy := match i % 128 with
  | 0 => ⟨S8192x9216, .bf16⟩
  | 1 => ⟨S8192x3072, .bf16⟩
  | 2 => ⟨S8192x3072, .bf16⟩
  | 3 => ⟨S4x3072, .f32⟩
  | 4 => ⟨S8192x9216, .bf16⟩
  | 5 => ⟨S8192x3072, .f32⟩
  | 6 => ⟨S8192x3072, .f32⟩
  | 7 => ⟨S8192x3072, .f32⟩
  | 8 => ⟨S_, .f32⟩
  | 9 => ⟨S8192x3072, .f32⟩
  | 10 => ⟨S8192x3072, .f32⟩
  | 11 => ⟨S_, .f32⟩
  | 12 => ⟨S8192x3072, .f32⟩
  | 13 => ⟨S8192x3072, .f32⟩
  | 14 => ⟨S_, .f32⟩
  | 15 => ⟨S8192x3072, .f32⟩
  | 16 => ⟨S8192x3072, .f32⟩
  | 17 => ⟨S8192x3072, .f32⟩
  | 18 => ⟨S8192x3072, .f32⟩
  | 19 => ⟨S_, .f32⟩
  | 20 => ⟨S8192x3072, .f32⟩
  | 21 => ⟨S8192x3072, .f32⟩
  | 22 => ⟨S8192x3072, .f32⟩
  | 23 => ⟨S8192x3072, .f32⟩
  | 24 => ⟨S8192x3072, .f32⟩
  | 25 => ⟨S8192x3072, .bf16⟩
  | 26 => ⟨S8192x3072, .f32⟩
  | 27 => ⟨S_, .f32⟩
  | 28 => ⟨S1x3072, .f32⟩
  | 29 => ⟨S_, .f32⟩
  | 30 => ⟨S3x3072, .f32⟩
  | 31 => ⟨S8195x3072, .f32⟩
  | 32 => ⟨S_, .f32⟩
  | 33 => ⟨S3x3072, .f32⟩
  | 34 => ⟨S8192x3072, .f32⟩
  | 35 => ⟨S1x3072, .f32⟩
  | 36 => ⟨S3072, .f32⟩
  | 37 => ⟨S1x3072, .f32⟩
  | 38 => ⟨S8192x3072, .f32⟩
  | 39 => ⟨S8192x3072, .f32⟩
  | 40 => ⟨S8192x3072, .f32⟩
  | 41 => ⟨S1x3072, .f32⟩
  | 42 => ⟨S3072, .f32⟩
  | 43 => ⟨S1x3072, .f32⟩
  | 44 => ⟨S8192x3072, .f32⟩
  | 45 => ⟨S8192x3072, .f32⟩
  | 46 => ⟨S8192x3072, .f32⟩
  | 47 => ⟨S8192x3072, .f32⟩
  | 48 => ⟨S1x3072, .f32⟩
  | 49 => ⟨S3072, .f32⟩
  | 50 => ⟨S1x3072, .f32⟩
  | 51 => ⟨S8192x3072, .f32⟩
  | 52 => ⟨S8192x3072, .f32⟩
  | 53 => ⟨S8192x3072, .f32⟩
  | 54 => ⟨S8192x3072, .f32⟩
  | 55 => ⟨S1x3072, .f32⟩
  | 56 => ⟨S3072, .f32⟩
  | 57 => ⟨S1x3072, .f32⟩
  | 58 => ⟨S8192x3072, .f32⟩
  | 59 => ⟨S8192x3072, .f32⟩
  | 60 => ⟨S8192x3072, .f32⟩
  | 61 => ⟨S8192x3072, .f32⟩
  | 62 => ⟨S8192x3072, .f32⟩
  | 63 => ⟨S8192x3072, .f32⟩
  | 64 => ⟨S8192x3072, .f32⟩
  | 65 => ⟨S_, .f32⟩
  | 66 => ⟨S3072, .f32⟩
  | 67 => ⟨S1x3072, .f32⟩
  | 68 => ⟨S8192x3072, .f32⟩
  | 69 => ⟨S_, .f32⟩
  | 70 => ⟨S3072, .f32⟩
  | 71 => ⟨S1x3072, .f32⟩
  | 72 => ⟨S8192x3072, .f32⟩
  | 73 => ⟨S8192x3072, .f32⟩
  | 74 => ⟨S_, .f32⟩
  | 75 => ⟨S3072, .f32⟩
  | 76 => ⟨S1x3072, .f32⟩
  | 77 => ⟨S_, .f32⟩
  | 78 => ⟨S4x3072, .f32⟩
  | 79 => ⟨S_, .f32⟩
  | 80 => ⟨S8195x3072, .f32⟩
  | 81 => ⟨S8192x3072, .f32⟩
  | 82 => ⟨S_, .f32⟩
  | 83 => ⟨S3072, .f32⟩
  | 84 => ⟨S1x3072, .f32⟩
  | 85 => ⟨S8192x3072, .f32⟩
  | 86 => ⟨S8192x3072, .f32⟩
  | 87 => ⟨S_, .f32⟩
  | 88 => ⟨S3072, .f32⟩
  | 89 => ⟨S1x3072, .f32⟩
  | 90 => ⟨S_, .f32⟩
  | 91 => ⟨S4x3072, .f32⟩
  | 92 => ⟨S4x3072, .f32⟩
  | 93 => ⟨S_, .f32⟩
  | 94 => ⟨S8195x3072, .f32⟩
  | 95 => ⟨S8195x3072, .f32⟩
  | 96 => ⟨S8192x3072, .f32⟩
  | 97 => ⟨S_, .f32⟩
  | 98 => ⟨S3072, .f32⟩
  | 99 => ⟨S1x3072, .f32⟩
  | 100 => ⟨S8192x3072, .f32⟩
  | 101 => ⟨S8192x3072, .f32⟩
  | 102 => ⟨S_, .f32⟩
  | 103 => ⟨S3072, .f32⟩
  | 104 => ⟨S1x3072, .f32⟩
  | 105 => ⟨S_, .f32⟩
  | 106 => ⟨S4x3072, .f32⟩
  | 107 => ⟨S4x3072, .f32⟩
  | 108 => ⟨S_, .f32⟩
  | 109 => ⟨S8195x3072, .f32⟩
  | 110 => ⟨S8195x3072, .f32⟩
  | 111 => ⟨S8192x3072, .f32⟩
  | 112 => ⟨S_, .f32⟩
  | 113 => ⟨S3072, .f32⟩
  | 114 => ⟨S1x3072, .f32⟩
  | 115 => ⟨S8192x3072, .f32⟩
  | 116 => ⟨S8192x3072, .f32⟩
  | 117 => ⟨S_, .f32⟩
  | 118 => ⟨S3072, .f32⟩
  | 119 => ⟨S1x3072, .f32⟩
  | 120 => ⟨S_, .f32⟩
  | 121 => ⟨S4x3072, .f32⟩
  | 122 => ⟨S4x3072, .f32⟩
  | 123 => ⟨S_, .f32⟩
  | 124 => ⟨S8195x3072, .f32⟩
  | 125 => ⟨S8195x3072, .f32⟩
  | 126 => ⟨S3x3072, .f32⟩
  | 127 => ⟨S8192x3072, .f32⟩
  | _ => ⟨S8192x9216, .bf16⟩

abbrev hbmTy0_1 (i : Nat) : BufTy := match i % 128 with
  | 0 => ⟨S8192x6144, .bf16⟩
  | 1 => ⟨S8192x3072, .bf16⟩
  | 2 => ⟨S8192x9216, .bf16⟩
  | _ => ⟨S8192x9216, .bf16⟩

abbrev hbmTy (i : Nat) : BufTy := match i / 128 with
  | 0 => hbmTy0_0 i
  | 1 => hbmTy0_1 i
  | _ => ⟨S8192x9216, .bf16⟩

abbrev bufTy : (tb : Table) → Fin (tcTables nBuf tb) → BufTy
  | .hbm, ⟨i, _⟩ => hbmTy i
  | _, _ => ⟨S8192x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v1_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v1_1 : Ref sig .tc := ⟨.hbm, 17, rfl⟩
abbrev main_v1_0 : Ref sig .tc := ⟨.hbm, 18, rfl⟩
abbrev main_cst : Ref sig .tc := ⟨.hbm, 19, rfl⟩
abbrev main_v2 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_cst_0 : Ref sig .tc := ⟨.hbm, 27, rfl⟩
abbrev main_v6 : Ref sig .tc := ⟨.hbm, 28, rfl⟩
abbrev main_cst_1 : Ref sig .tc := ⟨.hbm, 29, rfl⟩
abbrev main_v7 : Ref sig .tc := ⟨.hbm, 30, rfl⟩
abbrev main_v8 : Ref sig .tc := ⟨.hbm, 31, rfl⟩
abbrev main_cst_2 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_3 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_4 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_5 : Ref sig .tc := ⟨.hbm, 74, rfl⟩
abbrev main_v48 : Ref sig .tc := ⟨.hbm, 75, rfl⟩
abbrev main_v49 : Ref sig .tc := ⟨.hbm, 76, rfl⟩
abbrev main_cst_6 : Ref sig .tc := ⟨.hbm, 77, rfl⟩
abbrev main_v50 : Ref sig .tc := ⟨.hbm, 78, rfl⟩
abbrev main_cst_7 : Ref sig .tc := ⟨.hbm, 79, rfl⟩
abbrev main_v51 : Ref sig .tc := ⟨.hbm, 80, rfl⟩
abbrev main_v52 : Ref sig .tc := ⟨.hbm, 81, rfl⟩
abbrev main_cst_8 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_9 : Ref sig .tc := ⟨.hbm, 87, rfl⟩
abbrev main_v57 : Ref sig .tc := ⟨.hbm, 88, rfl⟩
abbrev main_v58 : Ref sig .tc := ⟨.hbm, 89, rfl⟩
abbrev main_cst_10 : Ref sig .tc := ⟨.hbm, 90, rfl⟩
abbrev main_v59 : Ref sig .tc := ⟨.hbm, 91, rfl⟩
abbrev main_v60 : Ref sig .tc := ⟨.hbm, 92, rfl⟩
abbrev main_cst_11 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_12 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_13 : Ref sig .tc := ⟨.hbm, 102, rfl⟩
abbrev main_v68 : Ref sig .tc := ⟨.hbm, 103, rfl⟩
abbrev main_v69 : Ref sig .tc := ⟨.hbm, 104, rfl⟩
abbrev main_cst_14 : Ref sig .tc := ⟨.hbm, 105, rfl⟩
abbrev main_v70 : Ref sig .tc := ⟨.hbm, 106, rfl⟩
abbrev main_v71 : Ref sig .tc := ⟨.hbm, 107, rfl⟩
abbrev main_cst_15 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_16 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_17 : Ref sig .tc := ⟨.hbm, 117, rfl⟩
abbrev main_v79 : Ref sig .tc := ⟨.hbm, 118, rfl⟩
abbrev main_v80 : Ref sig .tc := ⟨.hbm, 119, rfl⟩
abbrev main_cst_18 : Ref sig .tc := ⟨.hbm, 120, rfl⟩
abbrev main_v81 : Ref sig .tc := ⟨.hbm, 121, rfl⟩
abbrev main_v82 : Ref sig .tc := ⟨.hbm, 122, rfl⟩
abbrev main_cst_19 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩

abbrev nD : Nat := 1
abbrev τ : Topo := Topo.v7x

variable {F : FTy → Type} [FloatOps F]
-- ==== Conv.lean ====
abbrev S8192x9216 : Shape := ⟨2, ![8192, 9216]⟩
abbrev S4x3072 : Shape := ⟨2, ![4, 3072]⟩
abbrev S1x3072 : Shape := ⟨2, ![1, 3072]⟩
abbrev S8192x3072 : Shape := ⟨2, ![8192, 3072]⟩
abbrev S256x3072 : Shape := ⟨2, ![256, 3072]⟩
abbrev S8x3072 : Shape := ⟨2, ![8, 3072]⟩
abbrev S264x3072 : Shape := ⟨2, ![264, 3072]⟩

abbrev nBuf : Space → Nat
  | .hbm => 5
  | .vmem => 10
  | .smem => 0
  | _ => 0

abbrev bufTy : (tb : Table) → Fin (tcTables nBuf tb) → BufTy
  | .hbm, ⟨0, _⟩ => ⟨S8192x9216, .bf16⟩
  | .hbm, ⟨1, _⟩ => ⟨S4x3072, .f32⟩
  | .hbm, ⟨2, _⟩ => ⟨S1x3072, .f32⟩
  | .hbm, ⟨3, _⟩ => ⟨S8192x3072, .bf16⟩
  | .hbm, ⟨4, _⟩ => ⟨S8192x3072, .bf16⟩
  | .local _ .vmem, ⟨0, _⟩ => ⟨S256x3072, .bf16⟩
  | .local _ .vmem, ⟨1, _⟩ => ⟨S256x3072, .bf16⟩
  | .local _ .vmem, ⟨2, _⟩ => ⟨S8x3072, .bf16⟩
  | .local _ .vmem, ⟨3, _⟩ => ⟨S8x3072, .bf16⟩
  | .local _ .vmem, ⟨4, _⟩ => ⟨S4x3072, .f32⟩
  | .local _ .vmem, ⟨5, _⟩ => ⟨S1x3072, .f32⟩
  | .local _ .vmem, ⟨6, _⟩ => ⟨S256x3072, .bf16⟩
  | .local _ .vmem, ⟨7, _⟩ => ⟨S256x3072, .bf16⟩
  | .local _ .vmem, ⟨8, _⟩ => ⟨S256x3072, .bf16⟩
  | .local _ .vmem, ⟨9, _⟩ => ⟨S256x3072, .bf16⟩
  | _, _ => ⟨S8192x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ConvRefIdeal.lean ====
abbrev S8192x9216 : Shape := ⟨2, ![8192, 9216]⟩
abbrev S4x3072 : Shape := ⟨2, ![4, 3072]⟩
abbrev S1x3072 : Shape := ⟨2, ![1, 3072]⟩
abbrev S8192x3072 : Shape := ⟨2, ![8192, 3072]⟩
abbrev S_ : Shape := ⟨0, ![]⟩
abbrev S3x3072 : Shape := ⟨2, ![3, 3072]⟩
abbrev S8195x3072 : Shape := ⟨2, ![8195, 3072]⟩
abbrev S3072 : Shape := ⟨1, ![3072]⟩

abbrev nBuf : Space → Nat
  | .hbm => 48
  | .vmem => 0
  | .smem => 0
  | _ => 0

abbrev bufTy : (tb : Table) → Fin (tcTables nBuf tb) → BufTy
  | .hbm, ⟨0, _⟩ => ⟨S8192x9216, .bf16⟩
  | .hbm, ⟨1, _⟩ => ⟨S4x3072, .f32⟩
  | .hbm, ⟨2, _⟩ => ⟨S1x3072, .f32⟩
  | .hbm, ⟨3, _⟩ => ⟨S8192x3072, .bf16⟩
  | .hbm, ⟨4, _⟩ => ⟨S8192x3072, .f32⟩
  | .hbm, ⟨5, _⟩ => ⟨S_, .f32⟩
  | .hbm, ⟨6, _⟩ => ⟨S3x3072, .f32⟩
  | .hbm, ⟨7, _⟩ => ⟨S8195x3072, .f32⟩
  | .hbm, ⟨8, _⟩ => ⟨S8192x3072, .f32⟩
  | .hbm, ⟨9, _⟩ => ⟨S1x3072, .f32⟩
  | .hbm, ⟨10, _⟩ => ⟨S3072, .f32⟩
  | .hbm, ⟨11, _⟩ => ⟨S1x3072, .f32⟩
  | .hbm, ⟨12, _⟩ => ⟨S8192x3072, .f32⟩
  | .hbm, ⟨13, _⟩ => ⟨S8192x3072, .f32⟩
  | .hbm, ⟨14, _⟩ => ⟨S8192x3072, .f32⟩
  | .hbm, ⟨15, _⟩ => ⟨S1x3072, .f32⟩
  | .hbm, ⟨16, _⟩ => ⟨S3072, .f32⟩
  | .hbm, ⟨17, _⟩ => ⟨S1x3072, .f32⟩
  | .hbm, ⟨18, _⟩ => ⟨S8192x3072, .f32⟩
  | .hbm, ⟨19, _⟩ => ⟨S8192x3072, .f32⟩
  | .hbm, ⟨20, _⟩ => ⟨S8192x3072, .f32⟩
  | .hbm, ⟨21, _⟩ => ⟨S8192x3072, .f32⟩
  | .hbm, ⟨22, _⟩ => ⟨S1x3072, .f32⟩
  | .hbm, ⟨23, _⟩ => ⟨S3072, .f32⟩
  | .hbm, ⟨24, _⟩ => ⟨S1x3072, .f32⟩
  | .hbm, ⟨25, _⟩ => ⟨S8192x3072, .f32⟩
  | .hbm, ⟨26, _⟩ => ⟨S8192x3072, .f32⟩
  | .hbm, ⟨27, _⟩ => ⟨S8192x3072, .f32⟩
  | .hbm, ⟨28, _⟩ => ⟨S8192x3072, .f32⟩
  | .hbm, ⟨29, _⟩ => ⟨S1x3072, .f32⟩
  | .hbm, ⟨30, _⟩ => ⟨S3072, .f32⟩
  | .hbm, ⟨31, _⟩ => ⟨S1x3072, .f32⟩
  | .hbm, ⟨32, _⟩ => ⟨S8192x3072, .f32⟩
  | .hbm, ⟨33, _⟩ => ⟨S8192x3072, .f32⟩
  | .hbm, ⟨34, _⟩ => ⟨S8192x3072, .f32⟩
  | .hbm, ⟨35, _⟩ => ⟨S8192x3072, .f32⟩
  | .hbm, ⟨36, _⟩ => ⟨S8192x3072, .f32⟩
  | .hbm, ⟨37, _⟩ => ⟨S8192x3072, .bf16⟩
  | .hbm, ⟨38, _⟩ => ⟨S8192x3072, .f32⟩
  | .hbm, ⟨39, _⟩ => ⟨S8192x3072, .f32⟩
  | .hbm, ⟨40, _⟩ => ⟨S_, .f32⟩
  | .hbm, ⟨41, _⟩ => ⟨S8192x3072, .f32⟩
  | .hbm, ⟨42, _⟩ => ⟨S8192x3072, .f32⟩
  | .hbm, ⟨43, _⟩ => ⟨S_, .f32⟩
  | .hbm, ⟨44, _⟩ => ⟨S8192x3072, .f32⟩
  | .hbm, ⟨45, _⟩ => ⟨S8192x3072, .f32⟩
  | .hbm, ⟨46, _⟩ => ⟨S8192x3072, .f32⟩
  | .hbm, ⟨47, _⟩ => ⟨S8192x3072, .bf16⟩
  | _, _ => ⟨S8192x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Xat.lean ====
abbrev S8192x512 : Shape := ⟨2, ![8192, 512]⟩
abbrev S256x1024 : Shape := ⟨2, ![256, 1024]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S256x1024, .bf16⟩
  | .hbm, ⟨2, _⟩ => ⟨S8192x512, .bf16⟩
  | .local _ .vmem, ⟨0, _⟩ => ⟨S512x512, .bf16⟩
  | .local _ .vmem, ⟨1, _⟩ => ⟨S512x512, .bf16⟩
  | .local _ .vmem, ⟨2, _⟩ => ⟨S256x1024, .bf16⟩
  | .local _ .vmem, ⟨3, _⟩ => ⟨S512x512, .bf16⟩
  | .local _ .vmem, ⟨4, _⟩ => ⟨S512x512, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== XatRefIdeal.lean ====
abbrev S8192x512 : Shape := ⟨2, ![8192, 512]⟩
abbrev S256x1024 : Shape := ⟨2, ![256, 1024]⟩
abbrev S8192x4x128 : Shape := ⟨3, ![8192, 4, 128]⟩
abbrev S256x512 : Shape := ⟨2, ![256, 512]⟩
abbrev S256x4x128 : Shape := ⟨3, ![256, 4, 128]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x128x8192 : Shape := ⟨3, ![4, 128, 8192]⟩

abbrev nBuf : Space → Nat
  | .hbm => 29
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S256x1024, .bf16⟩
  | .hbm, ⟨2, _⟩ => ⟨S8192x512, .f32⟩
  | .hbm, ⟨3, _⟩ => ⟨S8192x4x128, .f32⟩
  | .hbm, ⟨4, _⟩ => ⟨S256x512, .bf16⟩
  | .hbm, ⟨5, _⟩ => ⟨S256x512, .f32⟩
  | .hbm, ⟨6, _⟩ => ⟨S256x4x128, .f32⟩
  | .hbm, ⟨7, _⟩ => ⟨S256x512, .bf16⟩
  | .hbm, ⟨8, _⟩ => ⟨S256x512, .f32⟩
  | .hbm, ⟨9, _⟩ => ⟨S256x4x128, .f32⟩
  | .hbm, ⟨10, _⟩ => ⟨S4x8192x256, .f32⟩
  | .hbm, ⟨11, _⟩ => ⟨S_, .f32⟩
  | .hbm, ⟨12, _⟩ => ⟨S4x8192x256, .f32⟩
  | .hbm, ⟨13, _⟩ => ⟨S4x8192x256, .f32⟩
  | .hbm, ⟨14, _⟩ => ⟨S_, .f32⟩
  | .hbm, ⟨15, _⟩ => ⟨S4x8192, .f32⟩
  | .hbm, ⟨16, _⟩ => ⟨S4x8192x1, .f32⟩
  | .hbm, ⟨17, _⟩ => ⟨S4x8192x256, .f32⟩
  | .hbm, ⟨18, _⟩ => ⟨S4x8192x256, .f32⟩
  | .hbm, ⟨19, _⟩ => ⟨S4x8192x256, .f32⟩
  | .hbm, ⟨20, _⟩ => ⟨S_, .f32⟩
  | .hbm, ⟨21, _⟩ => ⟨S4x8192, .f32⟩
  | .hbm, ⟨22, _⟩ => ⟨S4x8192x1, .f32⟩
  | .hbm, ⟨23, _⟩ => ⟨S4x8192x256, .f32⟩
  | .hbm, ⟨24, _⟩ => ⟨S4x8192x256, .f32⟩
  | .hbm, ⟨25, _⟩ => ⟨S4x128x8192, .f32⟩
  | .hbm, ⟨26, _⟩ => ⟨S8192x4x128, .f32⟩
  | .hbm, ⟨27, _⟩ => ⟨S8192x512, .f32⟩
  | .hbm, ⟨28, _⟩ => ⟨S8192x512, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩

abbrev nD : Nat := 1
abbrev τ : Topo := Topo.v7x

variable {F : FTy → Type} [FloatOps F]
-- ==== Rope.lean ====
abbrev S8192x2560 : Shape := ⟨2, ![8192, 2560]⟩
abbrev S8192x8 : Shape := ⟨2, ![8192, 8]⟩
abbrev S_ : Shape := ⟨0, ![]⟩
abbrev S8192x48 : Shape := ⟨2, ![8192, 48]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S256x2560 : Shape := ⟨2, ![256, 2560]⟩
abbrev S256x128 : Shape := ⟨2, ![256, 128]⟩
abbrev S256x2048 : Shape := ⟨2, ![256, 2048]⟩
abbrev S256x256 : Shape := ⟨2, ![256, 256]⟩

abbrev nBuf : Space → Nat
  | .hbm => 17
  | .vmem => 8
  | .smem => 0
  | _ => 0

abbrev bufTy : (tb : Table) → Fin (tcTables nBuf tb) → BufTy
  | .hbm, ⟨0, _⟩ => ⟨S8192x2560, .f32⟩
  | .hbm, ⟨1, _⟩ => ⟨S8192x8, .f32⟩
  | .hbm, ⟨2, _⟩ => ⟨S8192x8, .f32⟩
  | .hbm, ⟨3, _⟩ => ⟨S_, .f32⟩
  | .hbm, ⟨4, _⟩ => ⟨S8192x48, .f32⟩
  | .hbm, ⟨5, _⟩ => ⟨S_, .f32⟩
  | .hbm, ⟨6, _⟩ => ⟨S8192x48, .f32⟩
  | .hbm, ⟨7, _⟩ => ⟨S8192x64, .f32⟩
  | .hbm, ⟨8, _⟩ => ⟨S1x8192x1x64, .f32⟩
  | .hbm, ⟨9, _⟩ => ⟨S1x8192x2x64, .f32⟩
  | .hbm, ⟨10, _⟩ => ⟨S8192x128, .f32⟩
  | .hbm, ⟨11, _⟩ => ⟨S8192x8, .f32⟩
  | .hbm, ⟨12, _⟩ => ⟨S8192x64, .f32⟩
  | .hbm, ⟨13, _⟩ => ⟨S1x8192x1x64, .f32⟩
  | .hbm, ⟨14, _⟩ => ⟨S1x8192x2x64, .f32⟩
  | .hbm, ⟨15, _⟩ => ⟨S8192x128, .f32⟩
  | .hbm, ⟨16, _⟩ => ⟨S8192x2560, .bf16⟩
  | .local _ .vmem, ⟨0, _⟩ => ⟨S256x2560, .f32⟩
  | .local _ .vmem, ⟨1, _⟩ => ⟨S256x2560, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x2560, .bf16⟩
  | .local _ .vmem, ⟨7, _⟩ => ⟨S256x2560, .bf16⟩
  | _, _ => ⟨S8192x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2560 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RopeRefIdeal.lean ====
abbrev S8192x2560 : Shape := ⟨2, ![8192, 2560]⟩
abbrev S8192x8 : Shape := ⟨2, ![8192, 8]⟩
abbrev S_ : Shape := ⟨0, ![]⟩
abbrev S1x2560 : Shape := ⟨2, ![1, 2560]⟩
abbrev S8192x1x8 : Shape := ⟨3, ![8192, 1, 8]⟩
abbrev S8192x2048 : Shape := ⟨2, ![8192, 2048]⟩
abbrev S8192x32x64 : Shape := ⟨3, ![8192, 32, 64]⟩
abbrev S8192x32x8 : Shape := ⟨3, ![8192, 32, 8]⟩
abbrev S8192x32x48 : Shape := ⟨3, ![8192, 32, 48]⟩
abbrev S8192x256 : Shape := ⟨2, ![8192, 256]⟩
abbrev S8192x4x64 : Shape := ⟨3, ![8192, 4, 64]⟩
abbrev S8192x4x8 : Shape := ⟨3, ![8192, 4, 8]⟩
abbrev S8192x4x48 : Shape := ⟨3, ![8192, 4, 48]⟩
abbrev S8192x512 : Shape := ⟨2, ![8192, 512]⟩
abbrev S128x512 : Shape := ⟨2, ![128, 512]⟩
abbrev S8064x512 : Shape := ⟨2, ![8064, 512]⟩

abbrev nBuf : Space → Nat
  | .hbm => 51
  | .vmem => 0
  | .smem => 0
  | _ => 0

abbrev bufTy : (tb : Table) → Fin (tcTables nBuf tb) → BufTy
  | .hbm, ⟨0, _⟩ => ⟨S8192x2560, .f32⟩
  | .hbm, ⟨1, _⟩ => ⟨S8192x8, .f32⟩
  | .hbm, ⟨2, _⟩ => ⟨S8192x8, .f32⟩
  | .hbm, ⟨3, _⟩ => ⟨S_, .f32⟩
  | .hbm, ⟨4, _⟩ => ⟨S1x2560, .f32⟩
  | .hbm, ⟨5, _⟩ => ⟨S8192x2560, .f32⟩
  | .hbm, ⟨6, _⟩ => ⟨S8192x2560, .f32⟩
  | .hbm, ⟨7, _⟩ => ⟨S8192x1x8, .f32⟩
  | .hbm, ⟨8, _⟩ => ⟨S8192x1x8, .f32⟩
  | .hbm, ⟨9, _⟩ => ⟨S8192x2048, .f32⟩
  | .hbm, ⟨10, _⟩ => ⟨S8192x32x64, .f32⟩
  | .hbm, ⟨11, _⟩ => ⟨S8192x32x8, .f32⟩
  | .hbm, ⟨12, _⟩ => ⟨S8192x32x8, .f32⟩
  | .hbm, ⟨13, _⟩ => ⟨S8192x32x8, .f32⟩
  | .hbm, ⟨14, _⟩ => ⟨S8192x32x8, .f32⟩
  | .hbm, ⟨15, _⟩ => ⟨S8192x32x8, .f32⟩
  | .hbm, ⟨16, _⟩ => ⟨S8192x32x8, .f32⟩
  | .hbm, ⟨17, _⟩ => ⟨S8192x32x8, .f32⟩
  | .hbm, ⟨18, _⟩ => ⟨S8192x32x8, .f32⟩
  | .hbm, ⟨19, _⟩ => ⟨S8192x32x8, .f32⟩
  | .hbm, ⟨20, _⟩ => ⟨S8192x32x8, .f32⟩
  | .hbm, ⟨21, _⟩ => ⟨S8192x32x8, .f32⟩
  | .hbm, ⟨22, _⟩ => ⟨S8192x32x8, .f32⟩
  | .hbm, ⟨23, _⟩ => ⟨S8192x32x48, .f32⟩
  | .hbm, ⟨24, _⟩ => ⟨S8192x32x64, .f32⟩
  | .hbm, ⟨25, _⟩ => ⟨S8192x2048, .f32⟩
  | .hbm, ⟨26, _⟩ => ⟨S8192x256, .f32⟩
  | .hbm, ⟨27, _⟩ => ⟨S8192x4x64, .f32⟩
  | .hbm, ⟨28, _⟩ => ⟨S8192x4x8, .f32⟩
  | .hbm, ⟨29, _⟩ => ⟨S8192x4x8, .f32⟩
  | .hbm, ⟨30, _⟩ => ⟨S8192x4x8, .f32⟩
  | .hbm, ⟨31, _⟩ => ⟨S8192x4x8, .f32⟩
  | .hbm, ⟨32, _⟩ => ⟨S8192x4x8, .f32⟩
  | .hbm, ⟨33, _⟩ => ⟨S8192x4x8, .f32⟩
  | .hbm, ⟨34, _⟩ => ⟨S8192x4x8, .f32⟩
  | .hbm, ⟨35, _⟩ => ⟨S8192x4x8, .f32⟩
  | .hbm, ⟨36, _⟩ => ⟨S8192x4x8, .f32⟩
  | .hbm, ⟨37, _⟩ => ⟨S8192x4x8, .f32⟩
  | .hbm, ⟨38, _⟩ => ⟨S8192x4x8, .f32⟩
  | .hbm, ⟨39, _⟩ => ⟨S8192x4x8, .f32⟩
  | .hbm, ⟨40, _⟩ => ⟨S8192x4x48, .f32⟩
  | .hbm, ⟨41, _⟩ => ⟨S8192x4x64, .f32⟩
  | .hbm, ⟨42, _⟩ => ⟨S8192x256, .f32⟩
  | .hbm, ⟨43, _⟩ => ⟨S8192x256, .f32⟩
  | .hbm, ⟨44, _⟩ => ⟨S8192x512, .f32⟩
  | .hbm, ⟨45, _⟩ => ⟨S_, .f32⟩
  | .hbm, ⟨46, _⟩ => ⟨S128x512, .f32⟩
  | .hbm, ⟨47, _⟩ => ⟨S8064x512, .f32⟩
  | .hbm, ⟨48, _⟩ => ⟨S8192x512, .f32⟩
  | .hbm, ⟨49, _⟩ => ⟨S8192x2560, .f32⟩
  | .hbm, ⟨50, _⟩ => ⟨S8192x2560, .bf16⟩
  | _, _ => ⟨S8192x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_cst_0 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩

abbrev nD : Nat := 1
abbrev τ : Topo := Topo.v7x

variable {F : FTy → Type} [FloatOps F]
-- ==== Up.lean ====
abbrev S8192x2048 : Shape := ⟨2, ![8192, 2048]⟩
abbrev S4x1x2048x2816 : Shape := ⟨4, ![4, 1, 2048, 2816]⟩
abbrev S8192x5632 : Shape := ⟨2, ![8192, 5632]⟩
abbrev S512x2048 : Shape := ⟨2, ![512, 2048]⟩
abbrev S1x1x2048x1408 : Shape := ⟨4, ![1, 1, 2048, 1408]⟩
abbrev S512x1408 : Shape := ⟨2, ![512, 1408]⟩
abbrev S2048x1408 : Shape := ⟨2, ![2048, 1408]⟩

abbrev nBuf : Space → Nat
  | .hbm => 5
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S4x1x2048x2816, .bf16⟩
  | .hbm, ⟨2, _⟩ => ⟨S8192x5632, .bf16⟩
  | .hbm, ⟨3, _⟩ => ⟨S8192x5632, .bf16⟩
  | .hbm, ⟨4, _⟩ => ⟨S8192x5632, .bf16⟩
  | .local _ .vmem, ⟨0, _⟩ => ⟨S512x2048, .bf16⟩
  | .local _ .vmem, ⟨1, _⟩ => ⟨S512x2048, .bf16⟩
  | .local _ .vmem, ⟨2, _⟩ => ⟨S1x1x2048x1408, .bf16⟩
  | .local _ .vmem, ⟨3, _⟩ => ⟨S1x1x2048x1408, .bf16⟩
  | .local _ .vmem, ⟨4, _⟩ => ⟨S1x1x2048x1408, .bf16⟩
  | .local _ .vmem, ⟨5, _⟩ => ⟨S1x1x2048x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.addi c2_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  let c0_i32_13 : BitVec 32 := 0#32
  ![v17.toNat, c0_i32_11.toNat, c0_i32_12.toNat, v27.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== UpRefIdeal.lean ====
abbrev S8192x2048 : Shape := ⟨2, ![8192, 2048]⟩
abbrev S4x1x2048x2816 : Shape := ⟨4, ![4, 1, 2048, 2816]⟩
abbrev S4x2048x2816 : Shape := ⟨3, ![4, 2048, 2816]⟩
abbrev S2048x4x2816 : Shape := ⟨3, ![2048, 4, 2816]⟩
abbrev S2048x11264 : Shape := ⟨2, ![2048, 11264]⟩
abbrev S8192x11264 : Shape := ⟨2, ![8192, 11264]⟩
abbrev S8192x5632 : Shape := ⟨2, ![8192, 5632]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x1x2048x2816, .bf16⟩
  | .hbm, ⟨2, _⟩ => ⟨S4x2048x2816, .bf16⟩
  | .hbm, ⟨3, _⟩ => ⟨S2048x4x2816, .bf16⟩
  | .hbm, ⟨4, _⟩ => ⟨S2048x11264, .bf16⟩
  | .hbm, ⟨5, _⟩ => ⟨S2048x11264, .f32⟩
  | .hbm, ⟨6, _⟩ => ⟨S8192x2048, .f32⟩
  | .hbm, ⟨7, _⟩ => ⟨S8192x11264, .f32⟩
  | .hbm, ⟨8, _⟩ => ⟨S8192x5632, .f32⟩
  | .hbm, ⟨9, _⟩ => ⟨S8192x5632, .f32⟩
  | .hbm, ⟨10, _⟩ => ⟨S8192x5632, .bf16⟩
  | .hbm, ⟨11, _⟩ => ⟨S8192x5632, .bf16⟩
  | .hbm, ⟨12, _⟩ => ⟨S8192x5632, .f32⟩
  | .hbm, ⟨13, _⟩ => ⟨S8192x5632, .f32⟩
  | .hbm, ⟨14, _⟩ => ⟨S_, .f32⟩
  | .hbm, ⟨15, _⟩ => ⟨S8192x5632, .f32⟩
  | .hbm, ⟨16, _⟩ => ⟨S8192x5632, .f32⟩
  | .hbm, ⟨17, _⟩ => ⟨S_, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩

abbrev nD : Nat := 1
abbrev τ : Topo := Topo.v7x

variable {F : FTy → Type} [FloatOps F]
-- ==== Down.lean ====
abbrev S8192x5632 : Shape := ⟨2, ![8192, 5632]⟩
abbrev S1x1x5632x2048 : Shape := ⟨4, ![1, 1, 5632, 2048]⟩
abbrev S8192x2048 : Shape := ⟨2, ![8192, 2048]⟩
abbrev S1024x2816 : Shape := ⟨2, ![1024, 2816]⟩
abbrev S1x1x2816x1024 : Shape := ⟨4, ![1, 1, 2816, 1024]⟩
abbrev S1024x1024 : Shape := ⟨2, ![1024, 1024]⟩
abbrev S2816x1024 : Shape := ⟨2, ![2816, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S1x1x5632x2048, .bf16⟩
  | .hbm, ⟨2, _⟩ => ⟨S8192x2048, .f32⟩
  | .hbm, ⟨3, _⟩ => ⟨S8192x2048, .f32⟩
  | .local _ .vmem, ⟨0, _⟩ => ⟨S1024x2816, .bf16⟩
  | .local _ .vmem, ⟨1, _⟩ => ⟨S1024x2816, .bf16⟩
  | .local _ .vmem, ⟨2, _⟩ => ⟨S1x1x2816x1024, .bf16⟩
  | .local _ .vmem, ⟨3, _⟩ => ⟨S1x1x2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32_8 : BitVec 32 := 1#32
  let v12 : BitVec 1 := Scalar.cmpi .eq arg2 c1_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S8192x5632 : Shape := ⟨2, ![8192, 5632]⟩
abbrev S1x1x5632x2048 : Shape := ⟨4, ![1, 1, 5632, 2048]⟩
abbrev S8192x2048 : Shape := ⟨2, ![8192, 2048]⟩
abbrev S5632x2048 : Shape := ⟨2, ![5632, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S1x1x5632x2048, .bf16⟩
  | .hbm, ⟨2, _⟩ => ⟨S8192x2048, .f32⟩
  | .hbm, ⟨3, _⟩ => ⟨S8192x5632, .f32⟩
  | .hbm, ⟨4, _⟩ => ⟨S5632x2048, .bf16⟩
  | .hbm, ⟨5, _⟩ => ⟨S5632x2048, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== In.lean ====
abbrev S8192x2048 : Shape := ⟨2, ![8192, 2048]⟩
abbrev S2048x9216 : Shape := ⟨2, ![2048, 9216]⟩
abbrev S8192x9216 : Shape := ⟨2, ![8192, 9216]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x9216, .bf16⟩
  | .hbm, ⟨2, _⟩ => ⟨S8192x9216, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 9, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InRefIdeal.lean ====
abbrev S8192x2048 : Shape := ⟨2, ![8192, 2048]⟩
abbrev S2048x9216 : Shape := ⟨2, ![2048, 9216]⟩
abbrev S8192x9216 : Shape := ⟨2, ![8192, 9216]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x9216, .bf16⟩
  | .hbm, ⟨2, _⟩ => ⟨S8192x2048, .f32⟩
  | .hbm, ⟨3, _⟩ => ⟨S2048x9216, .f32⟩
  | .hbm, ⟨4, _⟩ => ⟨S8192x9216, .f32⟩
  | .hbm, ⟨5, _⟩ => ⟨S8192x9216, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Qkv.lean ====
abbrev S8192x2048 : Shape := ⟨2, ![8192, 2048]⟩
abbrev S2048x2560 : Shape := ⟨2, ![2048, 2560]⟩
abbrev S1x2560 : Shape := ⟨2, ![1, 2560]⟩
abbrev S8192x2560 : Shape := ⟨2, ![8192, 2560]⟩
abbrev S1024x2048 : Shape := ⟨2, ![1024, 2048]⟩
abbrev S2048x1280 : Shape := ⟨2, ![2048, 1280]⟩
abbrev S1x1280 : Shape := ⟨2, ![1, 1280]⟩
abbrev S1024x1280 : Shape := ⟨2, ![1024, 1280]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x2560, .bf16⟩
  | .hbm, ⟨2, _⟩ => ⟨S1x2560, .f32⟩
  | .hbm, ⟨3, _⟩ => ⟨S8192x2560, .f32⟩
  | .local _ .vmem, ⟨0, _⟩ => ⟨S1024x2048, .bf16⟩
  | .local _ .vmem, ⟨1, _⟩ => ⟨S1024x2048, .bf16⟩
  | .local _ .vmem, ⟨2, _⟩ => ⟨S2048x1280, .bf16⟩
  | .local _ .vmem, ⟨3, _⟩ => ⟨S2048x1280, .bf16⟩
  | .local _ .vmem, ⟨4, _⟩ => ⟨S1x1280, .f32⟩
  | .local _ .vmem, ⟨5, _⟩ => ⟨S1x1280, .f32⟩
  | .local _ .vmem, ⟨6, _⟩ => ⟨S1024x1280, .f32⟩
  | .local _ .vmem, ⟨7, _⟩ => ⟨S1024x1280, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== QkvRefIdeal.lean ====
abbrev S8192x2048 : Shape := ⟨2, ![8192, 2048]⟩
abbrev S2048x2560 : Shape := ⟨2, ![2048, 2560]⟩
abbrev S1x2560 : Shape := ⟨2, ![1, 2560]⟩
abbrev S8192x2560 : Shape := ⟨2, ![8192, 2560]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2560, .bf16⟩
  | .hbm, ⟨2, _⟩ => ⟨S1x2560, .f32⟩
  | .hbm, ⟨3, _⟩ => ⟨S8192x2048, .f32⟩
  | .hbm, ⟨4, _⟩ => ⟨S2048x2560, .f32⟩
  | .hbm, ⟨5, _⟩ => ⟨S8192x2560, .f32⟩
  | .hbm, ⟨6, _⟩ => ⟨S8192x2560, .f32⟩
  | .hbm, ⟨7, _⟩ => ⟨S8192x2560, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Xq.lean ====
abbrev S8192x2048 : Shape := ⟨2, ![8192, 2048]⟩
abbrev S1x1x2048x512 : Shape := ⟨4, ![1, 1, 2048, 512]⟩
abbrev S8192x512 : Shape := ⟨2, ![8192, 512]⟩
abbrev S1024x2048 : Shape := ⟨2, ![1024, 2048]⟩
abbrev S1024x512 : Shape := ⟨2, ![1024, 512]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S1x1x2048x512, .bf16⟩
  | .hbm, ⟨2, _⟩ => ⟨S8192x512, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x2048x512, .bf16⟩
  | .local _ .vmem, ⟨3, _⟩ => ⟨S1024x512, .bf16⟩
  | .local _ .vmem, ⟨4, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1x2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== XqRefIdeal.lean ====
abbrev S8192x2048 : Shape := ⟨2, ![8192, 2048]⟩
abbrev S1x1x2048x512 : Shape := ⟨4, ![1, 1, 2048, 512]⟩
abbrev S2048x512 : Shape := ⟨2, ![2048, 512]⟩
abbrev S8192x512 : Shape := ⟨2, ![8192, 512]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x1x2048x512, .bf16⟩
  | .hbm, ⟨2, _⟩ => ⟨S8192x2048, .f32⟩
  | .hbm, ⟨3, _⟩ => ⟨S2048x512, .bf16⟩
  | .hbm, ⟨4, _⟩ => ⟨S2048x512, .f32⟩
  | .hbm, ⟨5, _⟩ => ⟨S8192x512, .f32⟩
  | .hbm, ⟨6, _⟩ => ⟨S8192x512, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Out.lean ====
abbrev S8192x4096 : Shape := ⟨2, ![8192, 4096]⟩
abbrev S1x1x4096x2048 : Shape := ⟨4, ![1, 1, 4096, 2048]⟩
abbrev S8192x2048 : Shape := ⟨2, ![8192, 2048]⟩
abbrev S1x2048 : Shape := ⟨2, ![1, 2048]⟩
abbrev S512x2048 : Shape := ⟨2, ![512, 2048]⟩
abbrev S1x1x2048x2048 : Shape := ⟨4, ![1, 1, 2048, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 6
  | .vmem => 12
  | .smem => 0
  | _ => 0

abbrev bufTy : (tb : Table) → Fin (tcTables nBuf tb) → BufTy
  | .hbm, ⟨0, _⟩ => ⟨S8192x4096, .bf16⟩
  | .hbm, ⟨1, _⟩ => ⟨S1x1x4096x2048, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S1x1x2048x2048, .bf16⟩
  | .local _ .vmem, ⟨3, _⟩ => ⟨S1x1x2048x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S512x2048, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![16, 1, 2], ![false, false, false]⟩

def k0_cond3 (i : grid0.Coords) : BitVec 1 :=
  let arg2 : BitVec 32 := BitVec.ofNat 32 (i 2).val
  let c1_i32_8 : BitVec 32 := 1#32
  let v12 : BitVec 1 := Scalar.cmpi .eq arg2 c1_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== OutRefIdeal.lean ====
abbrev S8192x4096 : Shape := ⟨2, ![8192, 4096]⟩
abbrev S1x1x4096x2048 : Shape := ⟨4, ![1, 1, 4096, 2048]⟩
abbrev S8192x2048 : Shape := ⟨2, ![8192, 2048]⟩
abbrev S1x2048 : Shape := ⟨2, ![1, 2048]⟩
abbrev S4096x2048 : Shape := ⟨2, ![4096, 2048]⟩
abbrev S_ : Shape := ⟨0, ![]⟩
abbrev S8192 : Shape := ⟨1, ![8192]⟩
abbrev S8192x1 : Shape := ⟨2, ![8192, 1]⟩

abbrev nBuf : Space → Nat
  | .hbm => 25
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x1x4096x2048, .bf16⟩
  | .hbm, ⟨2, _⟩ => ⟨S8192x2048, .f32⟩
  | .hbm, ⟨3, _⟩ => ⟨S1x2048, .f32⟩
  | .hbm, ⟨4, _⟩ => ⟨S8192x4096, .f32⟩
  | .hbm, ⟨5, _⟩ => ⟨S4096x2048, .bf16⟩
  | .hbm, ⟨6, _⟩ => ⟨S4096x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Oo.lean ====
abbrev S8192x2048 : Shape := ⟨2, ![8192, 2048]⟩
abbrev S1x1x2048x2048 : Shape := ⟨4, ![1, 1, 2048, 2048]⟩
abbrev S1x2048 : Shape := ⟨2, ![1, 2048]⟩
abbrev S512x2048 : Shape := ⟨2, ![512, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S1x1x2048x2048, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S1x1x2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== OoRefIdeal.lean ====
abbrev S8192x2048 : Shape := ⟨2, ![8192, 2048]⟩
abbrev S1x1x2048x2048 : Shape := ⟨4, ![1, 1, 2048, 2048]⟩
abbrev S1x2048 : Shape := ⟨2, ![1, 2048]⟩
abbrev S2048x2048 : Shape := ⟨2, ![2048, 2048]⟩
abbrev S_ : Shape := ⟨0, ![]⟩
abbrev S8192 : Shape := ⟨1, ![8192]⟩
abbrev S8192x1 : Shape := ⟨2, ![8192, 1]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x1x2048x2048, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S2048x2048, .bf16⟩
  | .hbm, ⟨6, _⟩ => ⟨S2048x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Xo.lean ====
abbrev S8192x512 : Shape := ⟨2, ![8192, 512]⟩
abbrev S512x2048 : Shape := ⟨2, ![512, 2048]⟩
abbrev S8192x2048 : Shape := ⟨2, ![8192, 2048]⟩
abbrev S1x2048 : Shape := ⟨2, ![1, 2048]⟩
abbrev S512x512 : Shape := ⟨2, ![512, 512]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x512, .bf16⟩
  | .hbm, ⟨1, _⟩ => ⟨S512x2048, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S8192x2048, .bf16⟩
  | .local _ .vmem, ⟨0, _⟩ => ⟨S512x512, .bf16⟩
  | .local _ .vmem, ⟨1, _⟩ => ⟨S512x512, .bf16⟩
  | .local _ .vmem, ⟨2, _⟩ => ⟨S512x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== XoRefIdeal.lean ====
abbrev S8192x512 : Shape := ⟨2, ![8192, 512]⟩
abbrev S512x2048 : Shape := ⟨2, ![512, 2048]⟩
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 24
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x2048, .bf16⟩
  | .hbm, ⟨2, _⟩ => ⟨S8192x2048, .f32⟩
  | .hbm, ⟨3, _⟩ => ⟨S1x2048, .f32⟩
  | .hbm, ⟨4, _⟩ => ⟨S8192x512, .f32⟩
  | .hbm, ⟨5, _⟩ => ⟨S512x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Proof.GmMath.lean ====
/- The gradient of the gated spatial mixing on one chunk and one channel group, as plain functions on the extended
   reals: the exact gelu and its derivative, the layer normalisation over the group's channels, the lower-triangular
   mixing of the chunk's positions, and their gradients. -/
module

public import Idealize.ShloMosaic.PureOps.Ideal.Laws

@[expose] public section

noncomputable section

open Idealize.ShloMosaic

namespace Cert.Gm

/-- The exact gelu. -/
def gl (x : EReal) : EReal :=
  Ideal.ofBits .f32 0x3F000000#32 * x * (1 + Ideal.erf (x * Ideal.ofBits .f32 0x3F3504F3#32))

/-- The gradient `a` of gelu's value carried back to its argument `x`. -/
def dgl (x a : EReal) : EReal :=
  Ideal.ofBits .f32 0x3F906EBB#32 * (Ideal.ofBits .f32 0x3F000000#32 * x * a)
      * Ideal.exp (0 - x * Ideal.ofBits .f32 0x3F3504F3#32 * (x * Ideal.ofBits .f32 0x3F3504F3#32))
      * Ideal.ofBits .f32 0x3F3504F3#32
    + Ideal.ofBits .f32 0x3F000000#32 * (a * (1 + Ideal.erf (x * Ideal.ofBits .f32 0x3F3504F3#32)))

/-- A position's mean over the channels. -/
def mean (V : Fin 128 → Fin 512 → EReal) (i : Fin 128) : EReal :=
  Ideal.div (∑ d, V i d) (Ideal.ofBits .f32 0x44000000#32)

/-- The centred values. -/
def cen (V : Fin 128 → Fin 512 → EReal) (i : Fin 128) (d : Fin 512) : EReal := V i d - mean V i

/-- A position's variance, the small constant added. -/
def vare (V : Fin 128 → Fin 512 → EReal) (i : Fin 128) : EReal :=
  Ideal.div (∑ d, cen V i d * cen V i d) (Ideal.ofBits .f32 0x44000000#32) + Ideal.ofBits .f32 0x3727C5AC#32

/-- The reciprocal of a position's standard deviation. -/
def rs (V : Fin 128 → Fin 512 → EReal) (i : Fin 128) : EReal := Ideal.rsqrt (vare V i)

/-- Its derivative in the variance. -/
def drs (V : Fin 128 → Fin 512 → EReal) (i : Fin 128) : EReal :=
  Ideal.ofBits .f32 0xBF000000#32 * Ideal.div (rs V i) (vare V i)

/-- The normalised values. -/
def nrm (V : Fin 128 → Fin 512 → EReal) (i : Fin 128) (d : Fin 512) : EReal := cen V i d * rs V i

/-- The normalised values under the scale and the shift. -/
def vn (V : Fin 128 → Fin 512 → EReal) (lg lb : Fin 512 → EReal) (i : Fin 128) (d : Fin 512) : EReal :=
  nrm V i d * lg d + lb d

/-- The lower triangle of the mixing weights. -/
def wm (W : Fin 128 → Fin 128 → EReal) (i j : Fin 128) : EReal := if j ≤ i then W i j else 0

/-- The mixed values. -/
def mix (W : Fin 128 → Fin 128 → EReal) (B : Fin 128 → EReal) (X : Fin 128 → Fin 512 → EReal) (i : Fin 128)
    (d : Fin 512) : EReal :=
  (∑ j, wm W i j * X j d) + B i

/-- The mixed values' gradient `S` carried back through the mixing. -/
def dn (W : Fin 128 → Fin 128 → EReal) (S : Fin 128 → Fin 512 → EReal) (j : Fin 128) (d : Fin 512) : EReal :=
  ∑ i, S i d * wm W i j

/-- A gradient `G` of the normalised values, scaled, carried back along the direct path. -/
def direct (V G : Fin 128 → Fin 512 → EReal) (lg : Fin 512 → EReal) (i : Fin 128) (d : Fin 512) : EReal :=
  G i d * lg d * rs V i

/-- The path through the variance. -/
def through (V G : Fin 128 → Fin 512 → EReal) (lg : Fin 512 → EReal) (i : Fin 128) (d : Fin 512) : EReal :=
  Ideal.div ((∑ e, cen V i e * (G i e * lg e)) * drs V i) (Ideal.ofBits .f32 0x44000000#32)
    * (Ideal.ofBits .f32 0x40000000#32 * cen V i d)

/-- The path through the mean. -/
def back (V G : Fin 128 → Fin 512 → EReal) (lg : Fin 512 → EReal) (i : Fin 128) : EReal :=
  Ideal.div ((∑ d, (0 - direct V G lg i d)) + ∑ d, (0 - through V G lg i d)) (Ideal.ofBits .f32 0x44000000#32)

/-- The gradient of the normalisation's argument. -/
def dnorm (V G : Fin 128 → Fin 512 → EReal) (lg : Fin 512 → EReal) (i : Fin 128) (d : Fin 512) : EReal :=
  direct V G lg i d + through V G lg i d + back V G lg i

end Cert.Gm

end
-- ==== Proof.GmStages.lean ====
/- The kernel's operations on one channel group of a chunk, read element by element as the functions of the gradient
   of the gated spatial mixing. -/
module

public import proofs.«01_k».proof.Proof.Gen.KernelIdeal.Frame
public import proofs.«01_k».proof.Proof.GmMath
public import Idealize.ShloMosaic.Lib.Pipeline.ValueKit
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.KernelIdeal.Val

open Cert.KernelIdeal Cert.KernelIdeal.Gen
open Cert.Gm

/-- A block's elements by position and channel. -/
abbrev el {φ : FTy} (x : FVec Ideal S128x512 φ) (i : Fin 128) (d : Fin 512) : EReal := x (ix2 i d)

/-- The gelu of a block. -/
abbrev gels (x : FVec Ideal S128x512 .bf16) (i : Fin 128) (d : Fin 512) : EReal := gl (x (ix2 i d))

/-- The positions' comparison picks out the lower triangle. -/
theorem lower (i j : Fin 128) (a : EReal) :
    Scalar.select (IntOp.cmpi CmpIPredicate.sge (BitVec.ofNat 32 i.val) (BitVec.ofNat 32 j.val)) a 0 = if j ≤ i then a else 0 := by
  rw [WordCmp.cmpi_sge_ofNat (by omega) (by omega)]
  by_cases h : j ≤ i
  · simp [h, Scalar.select]
  · simp [h, Scalar.select]

theorem gelu_u (x : FVec Ideal S128x512 .bf16) (i : Fin 128) (d : Fin 512) : k0_pay91 (F := Ideal) (k0_pay7 x) (ix2 i d) = gl (x (ix2 i d)) := by
  pointwise [k0_pay91, k0_pay90, Ideal.erf_def, k0_pay88, k0_pay87, k0_pay7, gl]

theorem gelu_v (x : FVec Ideal S128x512 .bf16) (i : Fin 128) (d : Fin 512) : k0_pay96 (F := Ideal) (k0_pay11 x) (ix2 i d) = gl (x (ix2 i d)) := by
  pointwise [k0_pay96, k0_pay95, Ideal.erf_def, k0_pay93, k0_pay92, k0_pay11, gl]

theorem mean_eq (V : FVec Ideal S128x512 .f32) (i : Fin 128) : k0_pay97 (F := Ideal) V (ix2 i 0) = mean (el V) i := by
  pointwise [k0_pay97, mean]

theorem cen_eq (V : FVec Ideal S128x512 .f32) (i : Fin 128) (d : Fin 512) : k0_pay98 (F := Ideal) V (ix2 i d) = cen (el V) i d := by
  pointwise [k0_pay98, cen]
  rw [mean_eq]

theorem cen_eq' (V : FVec Ideal S128x512 .f32) (i : Fin 128) (d : Fin 512) : k0_pay100 (F := Ideal) V (ix2 i d) = cen (el V) i d := by
  pointwise [k0_pay100, cen]
  rw [mean_eq]

theorem twice_eq (V : FVec Ideal S128x512 .f32) (i : Fin 128) (d : Fin 512) :
    k0_pay99 (F := Ideal) V (ix2 i d) = Ideal.ofBits .f32 0x40000000#32 * cen (el V) i d := by
  pointwise [k0_pay99]
  rw [cen_eq]

theorem vare_eq (V : FVec Ideal S128x512 .f32) (i : Fin 128) : k0_pay101 (F := Ideal) V (ix2 i 0) = vare (el V) i := by
  pointwise [k0_pay101, vare]
  simp only [cen_eq]

theorem rs_eq (V : FVec Ideal S128x512 .f32) (i : Fin 128) : k0_pay102 (F := Ideal) V (ix2 i 0) = rs (el V) i := by
  pointwise [k0_pay102, rs]
  rw [vare_eq]

theorem drs_eq (V : FVec Ideal S128x512 .f32) (i : Fin 128) : k0_pay103 (F := Ideal) V (ix2 i 0) = drs (el V) i := by
  pointwise [k0_pay103, drs]
  rw [vare_eq, rs_eq]

theorem nrm_eq (V : FVec Ideal S128x512 .f32) (i : Fin 128) (d : Fin 512) : k0_pay104 (F := Ideal) V (ix2 i d) = nrm (el V) i d := by
  pointwise [k0_pay104, nrm]
  rw [cen_eq', rs_eq]

/-- The mixing weights' elements. -/
abbrev wel (w : FVec Ideal S1x128x128 .f32) (i j : Fin 128) : EReal := w (ix3 0 i j)

theorem wm_eq (w : FVec Ideal S1x128x128 .f32) (i j : Fin 128) :
    k0_pay105 (F := Ideal) (k0_pay15 w) k0_pay20 (ix2 i j) = wm (wel w) i j := by
  pointwise [k0_pay105, k0_pay15, k0_pay20, wm]
  exact lower i j _

/-- A row's elements. -/
abbrev rel (r : FVec Ideal S1x512 .f32) (d : Fin 512) : EReal := r (ix2 0 d)

theorem vn_eq (lg lb : FVec Ideal S1x512 .f32) (V : FVec Ideal S128x512 .f32) (i : Fin 128) (d : Fin 512) :
    k0_pay106 (F := Ideal) lg lb V (ix2 i d) = vn (el V) (rel lg) (rel lb) i d := by
  pointwise [k0_pay106, vn]
  rw [nrm_eq]

theorem ds_eq (G : FVec Ideal S128x512 .f32) (ct : FVec Ideal S128x512 .bf16) (i : Fin 128) (d : Fin 512) :
    k0_pay111 (F := Ideal) G ct (ix2 i d) = G (ix2 i d) * ct (ix2 i d) := by
  pointwise [k0_pay111, k0_pay110]

theorem du_eq (lg lb : FVec Ideal S1x512 .f32) (w : FVec Ideal S1x128x128 .f32) (b : FVec Ideal S1x128x1 .f32)
    (V : FVec Ideal S128x512 .f32) (ct : FVec Ideal S128x512 .bf16) (i : Fin 128) (d : Fin 512) :
    k0_pay112 (F := Ideal) lg lb (k0_pay15 w) (k0_pay19 b) k0_pay20 V ct (ix2 i d)
      = ct (ix2 i d) * mix (wel w) (fun i => b (ix3 0 i 0)) (vn (el V) (rel lg) (rel lb)) i d := by
  pointwise [k0_pay112, k0_pay110, k0_pay19, mix]
  simp only [wm_eq, vn_eq]

theorem dn_eq (w : FVec Ideal S1x128x128 .f32) (S : FVec Ideal S128x512 .f32) (i : Fin 128) (d : Fin 512) :
    k0_pay114 (F := Ideal) (k0_pay105 (k0_pay15 w) k0_pay20) S (ix2 i d) = dn (wel w) (el S) i d := by
  pointwise [k0_pay114, dn]
  simp only [wm_eq]

theorem rows_eq (S : FVec Ideal S128x512 .f32) (i : Fin 128) : k0_pay113 (F := Ideal) S (ix2 i 0) = ∑ d, S (ix2 i d) := by
  pointwise [k0_pay113]

theorem dw_eq (X : FVec Ideal S128x512 .bf16) (S : FVec Ideal S128x512 .f32) (i j : Fin 128) :
    k0_pay115 (F := Ideal) k0_pay20 X S (ix2 i j) = if j ≤ i then ∑ d, S (ix2 i d) * X (ix2 j d) else 0 := by
  pointwise [k0_pay115, k0_pay20]
  exact lower i j _

theorem dlb_eq (w : FVec Ideal S1x128x128 .f32) (S : FVec Ideal S128x512 .f32) (d : Fin 512) :
    k0_pay116 (F := Ideal) (k0_pay105 (k0_pay15 w) k0_pay20) S (ix2 0 d) = ∑ i, dn (wel w) (el S) i d := by
  pointwise [k0_pay116]
  simp only [dn_eq]

theorem dlg_eq (N : FVec Ideal S128x512 .f32) (w : FVec Ideal S1x128x128 .f32) (S : FVec Ideal S128x512 .f32) (d : Fin 512) :
    k0_pay117 (F := Ideal) N (k0_pay105 (k0_pay15 w) k0_pay20) S (ix2 0 d) = ∑ i, N (ix2 i d) * dn (wel w) (el S) i d := by
  pointwise [k0_pay117]
  simp only [dn_eq]

theorem scaled_eq (lg : FVec Ideal S1x512 .f32) (w : FVec Ideal S1x128x128 .f32) (S : FVec Ideal S128x512 .f32) (i : Fin 128)
    (d : Fin 512) : k0_pay118 (F := Ideal) lg (k0_pay105 (k0_pay15 w) k0_pay20) S (ix2 i d)
      = dn (wel w) (el S) i d * rel lg d := by
  pointwise [k0_pay118]
  simp only [dn_eq]

theorem direct_eq (lg : FVec Ideal S1x512 .f32) (w : FVec Ideal S1x128x128 .f32) (V S : FVec Ideal S128x512 .f32) (i : Fin 128)
    (d : Fin 512) : k0_pay119 (F := Ideal) lg (k0_pay102 V) (k0_pay105 (k0_pay15 w) k0_pay20) S (ix2 i d)
      = direct (el V) (dn (wel w) (el S)) (rel lg) i d := by
  pointwise [k0_pay119, direct]
  simp only [scaled_eq, rs_eq]

theorem through_eq (lg : FVec Ideal S1x512 .f32) (w : FVec Ideal S1x128x128 .f32) (V S : FVec Ideal S128x512 .f32) (i : Fin 128)
    (d : Fin 512) : k0_pay120 (F := Ideal) lg (k0_pay99 V) (k0_pay100 V) (k0_pay103 V) (k0_pay105 (k0_pay15 w) k0_pay20) S (ix2 i d)
      = through (el V) (dn (wel w) (el S)) (rel lg) i d := by
  pointwise [k0_pay120, through]
  simp only [Fin.sum_univ_one, scaled_eq, twice_eq, cen_eq', drs_eq]

theorem both_eq (lg : FVec Ideal S1x512 .f32) (w : FVec Ideal S1x128x128 .f32) (V S : FVec Ideal S128x512 .f32) (i : Fin 128)
    (d : Fin 512) : k0_pay121 (F := Ideal) lg (k0_pay99 V) (k0_pay100 V) (k0_pay102 V) (k0_pay103 V) (k0_pay105 (k0_pay15 w) k0_pay20) S (ix2 i d)
      = direct (el V) (dn (wel w) (el S)) (rel lg) i d + through (el V) (dn (wel w) (el S)) (rel lg) i d := by
  pointwise [k0_pay121]
  simp only [Fin.sum_univ_one, direct_eq, through_eq]

theorem back_eq (lg : FVec Ideal S1x512 .f32) (w : FVec Ideal S1x128x128 .f32) (V S : FVec Ideal S128x512 .f32) (i : Fin 128)
    (d : Fin 512) : k0_pay122 (F := Ideal) lg (k0_pay99 V) (k0_pay100 V) (k0_pay102 V) (k0_pay103 V) (k0_pay105 (k0_pay15 w) k0_pay20) S (ix2 i d)
      = back (el V) (dn (wel w) (el S)) (rel lg) i := by
  pointwise [k0_pay122, back]
  simp only [Fin.sum_univ_one, direct_eq, through_eq]

theorem dgelu_v (v : FVec Ideal S128x512 .bf16) (A B : FVec Ideal S128x512 .f32) (y : S128x512.Idx) :
    k0_pay185 (F := Ideal) (k0_pay123 (k0_pay92 (k0_pay11 v)) (k0_pay94 (k0_pay11 v)) (k0_pay95 (k0_pay11 v)) A B) y
      = dgl (v y) (A y + B y) := by
  pointwise [k0_pay185, k0_pay123, k0_pay92, k0_pay94, k0_pay95, k0_pay93, k0_pay11, dgl, Ideal.erf_def]

theorem dgelu_u (u : FVec Ideal S128x512 .bf16) (A : FVec Ideal S128x512 .f32) (y : S128x512.Idx) :
    k0_pay184 (F := Ideal) (k0_pay124 (k0_pay87 (k0_pay7 u)) (k0_pay89 (k0_pay7 u)) (k0_pay90 (k0_pay7 u)) A) y
      = dgl (u y) (A y) := by
  pointwise [k0_pay184, k0_pay124, k0_pay87, k0_pay89, k0_pay90, k0_pay88, k0_pay7, dgl, Ideal.erf_def]

/-! ### What one group's blocks become -/

section pieces
variable (u v ct : FVec Ideal S128x512 .bf16) (lg lb : FVec Ideal S1x512 .f32) (w : FVec Ideal S1x128x128 .f32)
  (b : FVec Ideal S1x128x1 .f32)

/-- The mixed values' gradient before the mixing. -/
def DS : FVec Ideal S128x512 .f32 := k0_pay111 (k0_pay91 (k0_pay7 u)) ct
/-- The gelu of the mixed half. -/
def GV : FVec Ideal S128x512 .f32 := k0_pay96 (k0_pay11 v)
/-- The lower triangle of the weights. -/
def WM : FVec Ideal S128x128 .bf16 := k0_pay105 (k0_pay15 w) k0_pay20

def pieceV : FVec Ideal S128x512 .bf16 :=
  k0_pay185 (k0_pay123 (k0_pay92 (k0_pay11 v)) (k0_pay94 (k0_pay11 v)) (k0_pay95 (k0_pay11 v))
    (k0_pay121 lg (k0_pay99 (GV v)) (k0_pay100 (GV v)) (k0_pay102 (GV v)) (k0_pay103 (GV v)) (WM w) (DS u ct))
    (k0_pay122 lg (k0_pay99 (GV v)) (k0_pay100 (GV v)) (k0_pay102 (GV v)) (k0_pay103 (GV v)) (WM w) (DS u ct)))

def pieceU : FVec Ideal S128x512 .bf16 :=
  k0_pay184 (k0_pay124 (k0_pay87 (k0_pay7 u)) (k0_pay89 (k0_pay7 u)) (k0_pay90 (k0_pay7 u))
    (k0_pay112 lg lb (k0_pay15 w) (k0_pay19 b) k0_pay20 (GV v) ct))

def pieceG : FVec Ideal S1x512 .f32 := k0_pay117 (k0_pay104 (GV v)) (WM w) (DS u ct)
def pieceB : FVec Ideal S1x512 .f32 := k0_pay116 (WM w) (DS u ct)
def pieceW : FVec Ideal S128x128 .f32 := k0_pay115 k0_pay20 (k0_pay106 lg lb (GV v)) (DS u ct)
def pieceS : FVec Ideal S128x1 .f32 := k0_pay113 (DS u ct)

theorem DS_eq : el (DS u ct) = fun i d => gl (u (ix2 i d)) * ct (ix2 i d) := by
  funext i d; simp only [el, DS, ds_eq, gelu_u]

theorem GV_eq : el (GV v) = gels v := by
  funext i d; simp only [el, GV, gelu_v]

/-- The mixed values' gradient, by position and channel. -/
abbrev sel (i : Fin 128) (d : Fin 512) : EReal := gl (u (ix2 i d)) * ct (ix2 i d)

theorem pieceV_eq (i : Fin 128) (d : Fin 512) : pieceV u v ct lg w (ix2 i d)
    = dgl (v (ix2 i d)) (dnorm (gels v) (dn (wel w) (sel u ct)) (rel lg) i d) := by
  unfold pieceV
  rw [dgelu_v, WM, both_eq, back_eq, DS_eq, GV_eq, dnorm]

theorem pieceU_eq (i : Fin 128) (d : Fin 512) : pieceU u v ct lg lb w b (ix2 i d)
    = dgl (u (ix2 i d)) (ct (ix2 i d) * mix (wel w) (fun i => b (ix3 0 i 0)) (vn (gels v) (rel lg) (rel lb)) i d) := by
  unfold pieceU
  rw [dgelu_u, du_eq, GV_eq]

theorem pieceG_eq (d : Fin 512) : pieceG u v ct w (ix2 0 d)
    = ∑ i, nrm (gels v) i d * dn (wel w) (sel u ct) i d := by
  unfold pieceG
  rw [WM, dlg_eq]
  simp only [nrm_eq, DS_eq, GV_eq]

theorem pieceB_eq (d : Fin 512) : pieceB u ct w (ix2 0 d) = ∑ i, dn (wel w) (sel u ct) i d := by
  unfold pieceB
  rw [WM, dlb_eq, DS_eq]

theorem pieceW_eq (i j : Fin 128) : pieceW u v ct lg lb (ix2 i j)
    = if j ≤ i then ∑ d, sel u ct i d * vn (gels v) (rel lg) (rel lb) j d else 0 := by
  unfold pieceW
  rw [dw_eq]
  simp only [vn_eq, GV_eq]
  have h := DS_eq u ct
  simp only [funext_iff] at h
  simp only [h]

theorem pieceS_eq (i : Fin 128) : pieceS u ct (ix2 i 0) = ∑ d, sel u ct i d := by
  unfold pieceS
  rw [rows_eq]
  have h := DS_eq u ct
  simp only [funext_iff] at h
  simp only [h]

end pieces

end Cert.KernelIdeal.Val

end
-- ==== Proof.GmSums.lean ====
/- The reference's sums over two axes of a four-axis array at once, and over two axes of length one, read at a result
   index. -/
module

public import Idealize.ShloMosaic.Lib.Pipeline.ValueKit
public import Idealize.ShloMosaic.Lib.Pointwise

@[expose] public section

noncomputable section

open Idealize.ShloMosaic

namespace Cert.Gm

variable {n0 n1 n2 n3 : Nat}

/-- The source indices that a sum over the first two axes takes into one result index. -/
theorem fiber01 (h : (⟨4, ![n0, n1, n2, n3]⟩ : Shape).ReducesTo [0, 1] ⟨2, ![n2, n3]⟩) (a : Fin n2) (b : Fin n3)
    (i : (⟨4, ![n0, n1, n2, n3]⟩ : Shape).Idx) : h.drop i = ix2 a b ↔ ∃ k : Fin n0 × Fin n1, ix4 k.1 k.2 a b = i := by
  constructor
  · intro e
    refine ⟨(i 0, i 1), ?_⟩
    have e0 : (i 2).val = a.val := congrArg Fin.val (congrFun e 0)
    have e1 : (i 3).val = b.val := congrArg Fin.val (congrFun e 1)
    funext x; apply Fin.ext
    match x with
    | ⟨0, _⟩ => rfl
    | ⟨1, _⟩ => rfl
    | ⟨2, _⟩ => exact e0.symm
    | ⟨3, _⟩ => exact e1.symm
  · rintro ⟨k, rfl⟩
    funext x; apply Fin.ext
    match x with
    | ⟨0, _⟩ => rfl
    | ⟨1, _⟩ => rfl

/-- A sum over the first two axes. -/
theorem sum01 (h : (⟨4, ![n0, n1, n2, n3]⟩ : Shape).ReducesTo [0, 1] ⟨2, ![n2, n3]⟩)
    (x : (⟨4, ![n0, n1, n2, n3]⟩ : Shape).Idx → EReal) (c : EReal) (a : Fin n2) (b : Fin n3) :
    Ideal.hostReduceAdd h x c (ix2 a b) = c + ∑ k0 : Fin n0, ∑ k1 : Fin n1, x (ix4 k0 k1 a b) := by
  refine congrArg (c + ·) ?_
  refine (Finset.sum_filter_eq_sum_of_fiber _ (fun k : Fin n0 × Fin n1 => ix4 k.1 k.2 a b)
    (fun _ _ e => Prod.ext (congrFun e 0) (congrFun e 1)) (fiber01 h a b) x).trans ?_
  simp only [Fintype.sum_prod_type]

/-- The source indices that a sum over the first and the last axis takes into one result index. -/
theorem fiber03 (h : (⟨4, ![n0, n1, n2, n3]⟩ : Shape).ReducesTo [0, 3] ⟨2, ![n1, n2]⟩) (a : Fin n1) (b : Fin n2)
    (i : (⟨4, ![n0, n1, n2, n3]⟩ : Shape).Idx) : h.drop i = ix2 a b ↔ ∃ k : Fin n0 × Fin n3, ix4 k.1 a b k.2 = i := by
  constructor
  · intro e
    refine ⟨(i 0, i 3), ?_⟩
    have e0 : (i 1).val = a.val := congrArg Fin.val (congrFun e 0)
    have e1 : (i 2).val = b.val := congrArg Fin.val (congrFun e 1)
    funext x; apply Fin.ext
    match x with
    | ⟨0, _⟩ => rfl
    | ⟨1, _⟩ => exact e0.symm
    | ⟨2, _⟩ => exact e1.symm
    | ⟨3, _⟩ => rfl
  · rintro ⟨k, rfl⟩
    funext x; apply Fin.ext
    match x with
    | ⟨0, _⟩ => rfl
    | ⟨1, _⟩ => rfl

/-- A sum over the first and the last axis. -/
theorem sum03 (h : (⟨4, ![n0, n1, n2, n3]⟩ : Shape).ReducesTo [0, 3] ⟨2, ![n1, n2]⟩)
    (x : (⟨4, ![n0, n1, n2, n3]⟩ : Shape).Idx → EReal) (c : EReal) (a : Fin n1) (b : Fin n2) :
    Ideal.hostReduceAdd h x c (ix2 a b) = c + ∑ k0 : Fin n0, ∑ k1 : Fin n3, x (ix4 k0 a b k1) := by
  refine congrArg (c + ·) ?_
  refine (Finset.sum_filter_eq_sum_of_fiber _ (fun k : Fin n0 × Fin n3 => ix4 k.1 a b k.2)
    (fun _ _ e => Prod.ext (congrFun e 0) (congrFun e 3)) (fiber03 h a b) x).trans ?_
  simp only [Fintype.sum_prod_type]

end Cert.Gm

end
-- ==== Proof.GmRef.lean ====
/- The reference's gradient of the gated spatial mixing, read element by element as the same functions of one chunk and
   one channel group, and its sums over all chunks. -/
module

public import proofs.«01_k».proof.Proof.Gen.ReferenceIdeal.Read
public import proofs.«01_k».proof.Proof.GmMath
public import Idealize.ShloMosaic.Lib.Pipeline.ValueKit
public import Idealize.ShloMosaic.Lib.Pointwise
public import proofs.«01_k».proof.Proof.GmSums
public import Idealize.ShloMosaic.Lib.WordCmp
public import Idealize.ShloMosaic.Lib.IdealHost

@[expose] public section

set_option maxRecDepth 16384

noncomputable section

open Idealize.ShloMosaic Idealize.ShloMosaic.TcCoe Idealize.SL.Sem

namespace Cert.ReferenceIdeal.Val

open Cert.ReferenceIdeal Cert.ReferenceIdeal.Read
open Cert.Gm

variable (x0 : FVec Ideal S8192x9216 .bf16) (x1 x2 : FVec Ideal S1x2048 .f32) (x3 : FVec Ideal S4x128x128 .f32)
  (x4 : FVec Ideal S4x128x1 .f32) (x5 : FVec Ideal S8192x4096 .bf16)

/-- The gating half of chunk `c`, group `g`. -/
abbrev ru (c : Fin 64) (g : Fin 4) (i : Fin 128) (d : Fin 512) : EReal :=
  x0 (ix2 ⟨c.val * 128 + i.val, by omega⟩ ⟨g.val * 512 + d.val, by omega⟩)

/-- The mixed half. -/
abbrev rv (c : Fin 64) (g : Fin 4) (i : Fin 128) (d : Fin 512) : EReal :=
  x0 (ix2 ⟨c.val * 128 + i.val, by omega⟩ ⟨2048 + (g.val * 512 + d.val), by omega⟩)

/-- The result's gradient. -/
abbrev rc (c : Fin 64) (g : Fin 4) (i : Fin 128) (d : Fin 512) : EReal :=
  x5 (ix2 ⟨c.val * 128 + i.val, by omega⟩ ⟨g.val * 512 + d.val, by omega⟩)

/-- A row's channels in group `g`. -/
abbrev rr (x : FVec Ideal S1x2048 .f32) (g : Fin 4) (d : Fin 512) : EReal := x (ix2 0 ⟨g.val * 512 + d.val, by omega⟩)

/-- The gelu of the mixed half. -/
abbrev rgv (c : Fin 64) (g : Fin 4) (i : Fin 128) (d : Fin 512) : EReal := gl (rv x0 c g i d)

/-- The gelu's argument, both signs. -/
theorem erfc_eq (a b : EReal) : Ideal.erfc (-a * b) = 1 + Ideal.erf (a * b) := by
  rw [EReal.neg_mul, Ideal.erfc_neg]

theorem gelu_all (r : Fin 8192) (k : Fin 4096) : val_main_v16 (F := Ideal) x0 (ix2 r k) = gl (x0 (ix2 r ⟨k.val, by omega⟩)) := by
  pointwise [val_main_v16, val_main_v12, val_main_v11, val_main_v10, val_main_v9, val_main_v8, val_main_v7, val_main_v1, val_main_v0,
    val_main_cst, val_main_cst_0, gl]
  rw [erfc_eq]

theorem gelu_v (c : Fin 64) (g : Fin 4) (i : Fin 128) (d : Fin 512) :
    val_main_v19 (F := Ideal) x0 (ix4 c i g d) = rgv x0 c g i d := by
  pointwise [val_main_v19, val_main_v18, gelu_all]

theorem mean_eq (c : Fin 64) (g : Fin 4) (i : Fin 128) : val_main_v23 (F := Ideal) x0 (ix4 c i g 0) = mean (rgv x0 c g) i := by
  pointwise [val_main_v23, val_main_v22, val_main_v21, val_main_v20, val_main_cst_1, val_main_cst_2, mean]
  simp only [gelu_v]

theorem cen_eq (c : Fin 64) (g : Fin 4) (i : Fin 128) (d : Fin 512) : val_main_v25 (F := Ideal) x0 (ix4 c i g d) = cen (rgv x0 c g) i d := by
  pointwise [val_main_v25, val_main_v24, cen]
  rw [mean_eq, gelu_v]

theorem cen_eq' (c : Fin 64) (g : Fin 4) (i : Fin 128) (d : Fin 512) : val_main_v34 (F := Ideal) x0 (ix4 c i g d) = cen (rgv x0 c g) i d := by
  pointwise [val_main_v34, val_main_v33, cen]
  rw [mean_eq, gelu_v]

theorem twice_eq (c : Fin 64) (g : Fin 4) (i : Fin 128) (d : Fin 512) :
    val_main_v28 (F := Ideal) x0 (ix4 c i g d) = Ideal.ofBits .f32 0x40000000#32 * cen (rgv x0 c g) i d := by
  pointwise [val_main_v28, val_main_v27, val_main_cst_3]
  rw [cen_eq]

theorem vare_eq (c : Fin 64) (g : Fin 4) (i : Fin 128) : val_main_v36 (F := Ideal) x0 (ix4 c i g 0) = vare (rgv x0 c g) i := by
  pointwise [val_main_v36, val_main_v35, val_main_v32, val_main_v31, val_main_v30, val_main_v29, val_main_v26, val_main_cst_4, val_main_cst_5, val_main_cst_6, vare]
  simp only [cen_eq]

theorem rs_eq (c : Fin 64) (g : Fin 4) (i : Fin 128) : val_main_v37 (F := Ideal) x0 (ix4 c i g 0) = rs (rgv x0 c g) i := by
  pointwise [val_main_v37, rs]
  rw [vare_eq]

theorem drs_eq (c : Fin 64) (g : Fin 4) (i : Fin 128) : val_main_v40 (F := Ideal) x0 (ix4 c i g 0) = drs (rgv x0 c g) i := by
  pointwise [val_main_v40, val_main_v39, val_main_v38, val_main_cst_7, drs]
  rw [vare_eq, rs_eq]

theorem nrm_eq (c : Fin 64) (g : Fin 4) (i : Fin 128) (d : Fin 512) : val_main_v42 (F := Ideal) x0 (ix4 c i g d) = nrm (rgv x0 c g) i d := by
  pointwise [val_main_v42, val_main_v41, nrm]
  rw [cen_eq', rs_eq]

theorem vn_eq (c : Fin 64) (g : Fin 4) (i : Fin 128) (d : Fin 512) :
    val_main_v50 (F := Ideal) x0 x1 x2 (ix4 c i g d) = vn (rgv x0 c g) (rr x1 g) (rr x2 g) i d := by
  pointwise [val_main_v50, val_main_v49, val_main_v48, val_main_v47, val_main_v46, val_main_v45, val_main_v44, val_main_v43, val_main_v5, val_main_v4, vn]
  rw [nrm_eq]

/-- The positions' comparison picks out the lower triangle. -/
theorem lower (i j : Fin 128) (a : EReal) :
    Scalar.select (Scalar.select (IntOp.cmpi CmpIPredicate.sge (BitVec.ofNat 32 i.val) (BitVec.ofNat 32 j.val)) 1#1 0#1) a 0
      = if j ≤ i then a else 0 := by
  rw [WordCmp.cmpi_sge_ofNat (by omega) (by omega)]
  by_cases h : j ≤ i
  · simp [h, Scalar.select]
  · simp [h, Scalar.select]

/-- The constant that fills the upper triangle. -/
theorem fill_zero : val_main_call1_v0 (F := Ideal) ix0 = 0 := by
  show constant (F := Ideal) S_ .f32 0x00000000#32 ix0 = 0
  pointwise []

theorem wm_eq (g : Fin 4) (i j : Fin 128) : val_main_v54_0 (F := Ideal) x3 (ix3 g i j) = wm (fun i j => x3 (ix3 g i j)) i j := by
  pointwise [val_main_v54_0, val_main_v54_1, val_main_v53, val_main_v52, val_main_call0_v0, val_main_call0_v1, val_main_call0_v2, val_main_call0_v3,
    val_main_call0_v4, val_main_call0_v5, val_main_call0_c, val_main_call0_c_0, val_main_c, val_main_v51, val_main_call1_v2, wm]
  rw [fill_zero]
  simp only [IntOp.addi, BitVec.add_zero]
  exact lower i j _

theorem mix_eq (c : Fin 64) (g : Fin 4) (i : Fin 128) (d : Fin 512) :
    val_main_v60 (F := Ideal) x0 x1 x2 x3 x4 (ix4 c i g d)
      = mix (fun i j => x3 (ix3 g i j)) (fun i => x4 (ix3 g i 0)) (vn (rgv x0 c g) (rr x1 g) (rr x2 g)) i d := by
  pointwise [val_main_v60, val_main_v59, val_main_v58, val_main_v57, val_main_v6, val_main_v56, val_main_v55, mix]
  simp only [wm_eq, vn_eq]
  simp only [mul_comm]

/-- The mixed values' gradient. -/
abbrev rsl (c : Fin 64) (g : Fin 4) (i : Fin 128) (d : Fin 512) : EReal := gl (ru x0 c g i d) * rc x5 c g i d

theorem ds_eq (c : Fin 64) (g : Fin 4) (i : Fin 128) (d : Fin 512) : val_main_v65 (F := Ideal) x0 x5 (ix4 c i g d) = rsl x0 x5 c g i d := by
  pointwise [val_main_v65, val_main_v63, val_main_v17, val_main_v3, val_main_v2, gelu_all]

theorem dn_eq (c : Fin 64) (g : Fin 4) (i : Fin 128) (d : Fin 512) :
    val_main_v73 (F := Ideal) x0 x3 x5 (ix4 c i g d) = dn (fun i j => x3 (ix3 g i j)) (rsl x0 x5 c g) i d := by
  pointwise [val_main_v73, val_main_v72, val_main_v70, dn]
  simp only [wm_eq, ds_eq]

/-- The gradient of the normalised values. -/
abbrev rdn (c : Fin 64) (g : Fin 4) : Fin 128 → Fin 512 → EReal := dn (fun i j => x3 (ix3 g i j)) (rsl x0 x5 c g)

theorem direct_eq (c : Fin 64) (g : Fin 4) (i : Fin 128) (d : Fin 512) :
    val_main_v90 (F := Ideal) x0 x1 x3 x5 (ix4 c i g d) = direct (rgv x0 c g) (rdn x0 x3 x5 c g) (rr x1 g) i d := by
  pointwise [val_main_v90, val_main_v89, val_main_v83, val_main_v82, val_main_v44, val_main_v43, val_main_v4, direct]
  simp only [dn_eq, rs_eq]

theorem through_eq (c : Fin 64) (g : Fin 4) (i : Fin 128) (d : Fin 512) :
    val_main_v99 (F := Ideal) x0 x1 x3 x5 (ix4 c i g d) = through (rgv x0 c g) (rdn x0 x3 x5 c g) (rr x1 g) i d := by
  pointwise [val_main_v99, val_main_v98, val_main_v97, val_main_v96, val_main_v95, val_main_v91, val_main_v88, val_main_v87, val_main_v86,
    val_main_v83, val_main_v82, val_main_v44, val_main_v43, val_main_v4, val_main_cst_15, val_main_cst_17, val_main_cst_18, through]
  simp only [Fin.sum_univ_one, dn_eq, cen_eq', drs_eq, twice_eq]

theorem back_eq (c : Fin 64) (g : Fin 4) (i : Fin 128) :
    val_main_v107 (F := Ideal) x0 x1 x3 x5 (ix3 c i g) = back (rgv x0 c g) (rdn x0 x3 x5 c g) (rr x1 g) i := by
  pointwise [val_main_v107, val_main_v106, val_main_v105, val_main_v104, val_main_v102, val_main_v101, val_main_v100, val_main_v94, val_main_v93, val_main_v92,
    val_main_cst_16, val_main_cst_19, val_main_cst_20, val_main_cst_21, back]
  simp only [Fin.sum_univ_one, direct_eq, through_eq, zero_sub]

theorem dnorm_eq (c : Fin 64) (g : Fin 4) (i : Fin 128) (d : Fin 512) :
    val_main_v109 (F := Ideal) x0 x1 x3 x5 (ix4 c i g d) = dnorm (rgv x0 c g) (rdn x0 x3 x5 c g) (rr x1 g) i d := by
  pointwise [val_main_v109, val_main_v108, val_main_v103, dnorm]
  simp only [direct_eq, through_eq, back_eq]

/-- The derivative of gelu in the reference's form. -/
theorem dgelu_eq (x a : EReal) :
    -(Ideal.ofBits .f32 0xBF906EBB#32 * (Ideal.ofBits .f32 0x3F000000#32 * x * a)
        * Ideal.exp (-(-x * Ideal.ofBits .f32 0x3F3504F3#32 * (-x * Ideal.ofBits .f32 0x3F3504F3#32)))
        * Ideal.ofBits .f32 0x3F3504F3#32)
      + Ideal.ofBits .f32 0x3F000000#32 * (a * Ideal.erfc (-x * Ideal.ofBits .f32 0x3F3504F3#32)) = dgl x a := by
  have h : Ideal.ofBits .f32 0xBF906EBB#32 = -Ideal.ofBits .f32 0x3F906EBB#32 := by
    simp [Ideal.ofBits, Ideal.ieee, -EReal.coe_mul]
  rw [h, erfc_eq, dgl]
  simp only [neg_mul, mul_neg, neg_neg, zero_sub]

/-- The gradient of the two halves before gelu. -/
theorem half_u (c : Fin 64) (g : Fin 4) (i : Fin 128) (d : Fin 512) :
    val_main_v111 (F := Ideal) x0 x1 x2 x3 x4 x5 (ix2 ⟨c.val * 128 + i.val, by omega⟩ ⟨g.val * 512 + d.val, by omega⟩)
      = rc x5 c g i d * mix (fun i j => x3 (ix3 g i j)) (fun i => x4 (ix3 g i 0)) (vn (rgv x0 c g) (rr x1 g) (rr x2 g)) i d := by
  pointwise [val_main_v111, val_main_v64, val_main_v61, val_main_v3, val_main_v2]
  rw [dif_pos (by omega), mix_eq]

theorem half_v (c : Fin 64) (g : Fin 4) (i : Fin 128) (d : Fin 512) :
    val_main_v111 (F := Ideal) x0 x1 x2 x3 x4 x5 (ix2 ⟨c.val * 128 + i.val, by omega⟩ ⟨2048 + (g.val * 512 + d.val), by omega⟩)
      = dnorm (rgv x0 c g) (rdn x0 x3 x5 c g) (rr x1 g) i d := by
  pointwise [val_main_v111, val_main_v110]
  exact dnorm_eq x0 x1 x3 x5 c g i d

theorem out_eq (r : Fin 8192) (k : Fin 4096) : val_main_v123 (F := Ideal) x0 x1 x2 x3 x4 x5 (ix2 r k)
    = dgl (x0 (ix2 r ⟨k.val, by omega⟩)) (val_main_v111 (F := Ideal) x0 x1 x2 x3 x4 x5 (ix2 r k)) := by
  rw [← dgelu_eq]
  pointwise [val_main_v123, val_main_v122, val_main_v121, val_main_v120, val_main_v119, val_main_v118, val_main_v117, val_main_v116, val_main_v115, val_main_v114,
    val_main_v113, val_main_v112, val_main_v8, val_main_v7, val_main_cst, val_main_v12, val_main_v15, val_main_v14, val_main_v13, val_main_v11, val_main_v10, val_main_v9,
    val_main_v1, val_main_v0, val_main_cst_0, val_main_cst_22, val_main_cst_23, val_main_cst_24]

/-! ### The sums over all chunks -/

theorem sum_v66 (i : Fin 128) (g : Fin 4) :
    val_main_v66 (F := Ideal) x0 x5 (ix2 i g) = ∑ c : Fin 64, ∑ d : Fin 512, rsl x0 x5 c g i d := by
  unfold val_main_v66
  rw [ValueIdx.hostReduceAdd_apply, sum03]
  pointwise [val_main_cst_9]
  simp only [ds_eq]

theorem sum_v68 (i : Fin 128) (g : Fin 4) :
    val_main_v68 (F := Ideal) x0 x5 (ix2 i g) = ∑ c : Fin 64, ∑ d : Fin 512, rsl x0 x5 c g i d := by
  unfold val_main_v68
  rw [ValueIdx.hostReduceAdd_apply, sum03]
  pointwise [val_main_cst_10, val_main_v67]
  simp only [Fin.sum_univ_one, sum_v66]

theorem bias_eq (g : Fin 4) (i : Fin 128) :
    val_main_v128 (F := Ideal) x0 x5 (ix3 g i 0) = ∑ c : Fin 64, ∑ d : Fin 512, rsl x0 x5 c g i d := by
  pointwise [val_main_v128, val_main_v69]
  rw [sum_v68]

theorem sum_v75 (g : Fin 4) (d : Fin 512) :
    val_main_v75 (F := Ideal) x0 x3 x5 (ix2 g d) = ∑ c : Fin 64, ∑ i : Fin 128, rdn x0 x3 x5 c g i d := by
  unfold val_main_v75
  rw [ValueIdx.hostReduceAdd_apply, sum01]
  pointwise [val_main_cst_11]
  simp only [dn_eq]

theorem sum_v77 (g : Fin 4) (d : Fin 512) :
    val_main_v77 (F := Ideal) x0 x3 x5 (ix2 g d) = ∑ c : Fin 64, ∑ i : Fin 128, rdn x0 x3 x5 c g i d := by
  unfold val_main_v77
  rw [ValueIdx.hostReduceAdd_apply, sum01]
  pointwise [val_main_cst_12, val_main_v76]
  simp only [Fin.sum_univ_one, sum_v75]

theorem shift_eq (g : Fin 4) (d : Fin 512) : val_main_v127 (F := Ideal) x0 x3 x5 (ix2 0 ⟨g.val * 512 + d.val, by omega⟩)
    = ∑ c : Fin 64, ∑ i : Fin 128, rdn x0 x3 x5 c g i d := by
  pointwise [val_main_v127, val_main_v78]
  exact sum_v77 x0 x3 x5 g d

theorem sum_v80 (g : Fin 4) (d : Fin 512) : val_main_v80 (F := Ideal) x0 x3 x5 (ix2 g d)
    = ∑ c : Fin 64, ∑ i : Fin 128, nrm (rgv x0 c g) i d * rdn x0 x3 x5 c g i d := by
  unfold val_main_v80
  rw [ValueIdx.hostReduceAdd_apply, sum01]
  pointwise [val_main_cst_13, val_main_v79]
  simp only [dn_eq, nrm_eq]

theorem sum_v84 (g : Fin 4) (d : Fin 512) : val_main_v84 (F := Ideal) x0 x3 x5 (ix2 g d)
    = ∑ c : Fin 64, ∑ i : Fin 128, nrm (rgv x0 c g) i d * rdn x0 x3 x5 c g i d := by
  unfold val_main_v84
  rw [ValueIdx.hostReduceAdd_apply, sum01]
  pointwise [val_main_cst_14, val_main_v81]
  simp only [Fin.sum_univ_one, sum_v80]

theorem scale_eq (g : Fin 4) (d : Fin 512) : val_main_v126 (F := Ideal) x0 x3 x5 (ix2 0 ⟨g.val * 512 + d.val, by omega⟩)
    = ∑ c : Fin 64, ∑ i : Fin 128, nrm (rgv x0 c g) i d * rdn x0 x3 x5 c g i d := by
  pointwise [val_main_v126, val_main_v85]
  exact sum_v84 x0 x3 x5 g d

theorem sum_v71 (g : Fin 4) (i j : Fin 128) : val_main_v71 (F := Ideal) x0 x1 x2 x5 (ix3 g i j)
    = ∑ c : Fin 64, ∑ d : Fin 512, rsl x0 x5 c g i d * vn (rgv x0 c g) (rr x1 g) (rr x2 g) j d := by
  pointwise [val_main_v71, val_main_v70]
  simp only [ds_eq, vn_eq]

theorem weights_eq (g : Fin 4) (i j : Fin 128) : val_main_v74 (F := Ideal) x0 x1 x2 x5 (ix3 g i j)
    = if j ≤ i then ∑ c : Fin 64, ∑ d : Fin 512, rsl x0 x5 c g i d * vn (rgv x0 c g) (rr x1 g) (rr x2 g) j d else 0 := by
  pointwise [val_main_v74, val_main_call2_v0, val_main_call2_cst, val_main_v54_1, val_main_v53, val_main_v52, val_main_call0_v0, val_main_call0_v1, val_main_call0_v2, val_main_call0_v3,
    val_main_call0_v4, val_main_call0_v5, val_main_call0_c, val_main_call0_c_0, val_main_c, val_main_v51]
  rw [sum_v71]
  simp only [IntOp.addi, BitVec.add_zero]
  exact lower i j _

end Cert.ReferenceIdeal.Val

end
-- ==== Proof.GmTiles.lean ====
/- What one grid point of the kernel computes for one channel group, against the reference's elements of that chunk and
   that group. -/
module

public import proofs.«01_k».proof.Proof.GmStages
public import proofs.«01_k».proof.Proof.GmRef

@[expose] public section

set_option maxRecDepth 16384

noncomputable section

open Idealize.ShloMosaic Idealize.ShloMosaic.TcCoe Idealize.SL.Sem

namespace Cert.KernelIdeal.Val

open Cert.KernelIdeal Cert.KernelIdeal.Gen
open Cert.ReferenceIdeal.Read Cert.ReferenceIdeal.Val
open Cert.Gm

variable (x0 : FVec Ideal S8192x9216 .bf16) (x1 x2 : FVec Ideal S1x2048 .f32) (x3 : FVec Ideal S4x128x128 .f32)
  (x4 : FVec Ideal S4x128x1 .f32) (x5 : FVec Ideal S8192x4096 .bf16)

/-- The blocks of one group at one chunk are the arrays' elements there. -/
structure Reads (c : Fin 64) (g : Fin 4) (u v ct : FVec Ideal S128x512 .bf16) (lg lb : FVec Ideal S1x512 .f32)
    (w : FVec Ideal S1x128x128 .f32) (b : FVec Ideal S1x128x1 .f32) : Prop where
  u : ∀ (i : Fin 128) (d : Fin 512), u (ix2 i d) = ru x0 c g i d
  v : ∀ (i : Fin 128) (d : Fin 512), v (ix2 i d) = rv x0 c g i d
  ct : ∀ (i : Fin 128) (d : Fin 512), ct (ix2 i d) = rc x5 c g i d
  lg : ∀ d : Fin 512, lg (ix2 0 d) = rr x1 g d
  lb : ∀ d : Fin 512, lb (ix2 0 d) = rr x2 g d
  w : ∀ i j : Fin 128, w (ix3 0 i j) = x3 (ix3 g i j)
  b : ∀ i : Fin 128, b (ix3 0 i 0) = x4 (ix3 g i 0)

variable {x0 x1 x2 x3 x4 x5}
variable {c : Fin 64} {g : Fin 4} {u v ct : FVec Ideal S128x512 .bf16} {lg lb : FVec Ideal S1x512 .f32}
  {w : FVec Ideal S1x128x128 .f32} {b : FVec Ideal S1x128x1 .f32}

theorem reads_gels (h : Reads x0 x1 x2 x3 x4 x5 c g u v ct lg lb w b) : gels v = rgv x0 c g := by
  funext i d; exact congrArg gl (h.v i d)

theorem reads_sel (h : Reads x0 x1 x2 x3 x4 x5 c g u v ct lg lb w b) : sel u ct = rsl x0 x5 c g := by
  funext i d
  show gl (u (ix2 i d)) * ct (ix2 i d) = _
  rw [h.u, h.ct]

theorem reads_wel (h : Reads x0 x1 x2 x3 x4 x5 c g u v ct lg lb w b) : wel w = fun i j => x3 (ix3 g i j) := by
  funext i j; exact h.w i j

theorem reads_rel (h : Reads x0 x1 x2 x3 x4 x5 c g u v ct lg lb w b) : rel lg = rr x1 g := by
  funext d; exact h.lg d

theorem reads_rel_shift (h : Reads x0 x1 x2 x3 x4 x5 c g u v ct lg lb w b) : rel lb = rr x2 g := by
  funext d; exact h.lb d

theorem reads_bel (h : Reads x0 x1 x2 x3 x4 x5 c g u v ct lg lb w b) : (fun i => b (ix3 0 i 0)) = fun i : Fin 128 => x4 (ix3 g i 0) := by
  funext i; exact h.b i

/-- The gradient of the mixed half's columns. -/
theorem tileV (h : Reads x0 x1 x2 x3 x4 x5 c g u v ct lg lb w b) (i : Fin 128) (d : Fin 512) :
    pieceV u v ct lg w (ix2 i d) = val_main_v123 (F := Ideal) x0 x1 x2 x3 x4 x5
      (ix2 ⟨c.val * 128 + i.val, by omega⟩ ⟨2048 + (g.val * 512 + d.val), by omega⟩) := by
  rw [pieceV_eq, out_eq, half_v, reads_gels h, reads_sel h, reads_wel h, reads_rel h, h.v]

/-- The gradient of the gating half's columns. -/
theorem tileU (h : Reads x0 x1 x2 x3 x4 x5 c g u v ct lg lb w b) (i : Fin 128) (d : Fin 512) :
    pieceU u v ct lg lb w b (ix2 i d) = val_main_v123 (F := Ideal) x0 x1 x2 x3 x4 x5
      (ix2 ⟨c.val * 128 + i.val, by omega⟩ ⟨g.val * 512 + d.val, by omega⟩) := by
  rw [pieceU_eq, out_eq, half_u, reads_gels h, reads_wel h, reads_rel h, reads_rel_shift h, reads_bel h, h.u, h.ct]

/-- A chunk's part of the scale's gradient. -/
theorem tileG (h : Reads x0 x1 x2 x3 x4 x5 c g u v ct lg lb w b) (d : Fin 512) :
    pieceG u v ct w (ix2 0 d) = ∑ i, nrm (rgv x0 c g) i d * rdn x0 x3 x5 c g i d := by
  rw [pieceG_eq, reads_gels h, reads_sel h, reads_wel h]

/-- A chunk's part of the shift's gradient. -/
theorem tileB (h : Reads x0 x1 x2 x3 x4 x5 c g u v ct lg lb w b) (d : Fin 512) :
    pieceB u ct w (ix2 0 d) = ∑ i, rdn x0 x3 x5 c g i d := by
  rw [pieceB_eq, reads_sel h, reads_wel h]

/-- A chunk's part of the weights' gradient. -/
theorem tileW (h : Reads x0 x1 x2 x3 x4 x5 c g u v ct lg lb w b) (i j : Fin 128) :
    pieceW u v ct lg lb (ix2 i j)
      = if j ≤ i then ∑ d, rsl x0 x5 c g i d * vn (rgv x0 c g) (rr x1 g) (rr x2 g) j d else 0 := by
  rw [pieceW_eq, reads_gels h, reads_sel h, reads_rel h, reads_rel_shift h]

/-- A chunk's part of the biases' gradient. -/
theorem tileS (h : Reads x0 x1 x2 x3 x4 x5 c g u v ct lg lb w b) (i : Fin 128) :
    pieceS u ct (ix2 i 0) = ∑ d, rsl x0 x5 c g i d := by
  rw [pieceS_eq, reads_sel h]

end Cert.KernelIdeal.Val

end
-- ==== Proof.GmArrays.lean ====
/- The kernel's arrays of the gradient of the gated spatial mixing against the reference's: the two halves' columns, chunk
   by chunk, and the four sums over the chunks. -/
module

public import proofs.«01_k».proof.Proof.GmTiles
public import Idealize.ShloMosaic.Lib.Pipeline.ReadBack

@[expose] public section

set_option maxRecDepth 16384

noncomputable section

open Idealize.ShloMosaic Idealize.ShloMosaic.TcCoe Idealize.SL.Sem

namespace Cert.KernelIdeal.Val

open Cert.KernelIdeal Cert.KernelIdeal.Gen
open Cert.ReferenceIdeal.Read Cert.ReferenceIdeal.Val
open Cert.Gm

variable (m : (ℓ : Loc nD τ sig) → Buf (Elt Ideal) ℓ)

/-- The arrays the kernel reads. -/
abbrev a0 (c : Dev nD) : FVec Ideal S8192x9216 .bf16 := m ((c : Thread nD τ).loc main_arg0)
abbrev a1 (c : Dev nD) : FVec Ideal S1x2048 .f32 := m ((c : Thread nD τ).loc main_arg1)
abbrev a2 (c : Dev nD) : FVec Ideal S1x2048 .f32 := m ((c : Thread nD τ).loc main_arg2)
abbrev a3 (c : Dev nD) : FVec Ideal S4x128x128 .f32 := m ((c : Thread nD τ).loc main_arg3)
abbrev a4 (c : Dev nD) : FVec Ideal S4x128x1 .f32 := m ((c : Thread nD τ).loc main_arg4)
abbrev a5 (c : Dev nD) : FVec Ideal S8192x4096 .bf16 := m ((c : Thread nD τ).loc main_arg5)

/-- Which tile of each array a grid point reads and writes. -/
theorem tiles : ∀ t : Fin cfg0.N, win0_0.index t = ![t.val, 0] ∧ win0_1.index t = ![0, 0] ∧ win0_2.index t = ![0, 0]
    ∧ win0_3.index t = ![0, 0, 0] ∧ win0_4.index t = ![0, 0, 0] ∧ win0_5.index t = ![t.val, 0] ∧ win0_6.index t = ![t.val, 0]
    ∧ win0_7.index t = ![0, 0] ∧ win0_8.index t = ![0, 0] ∧ win0_9.index t = ![0, 0, 0] ∧ win0_10.index t = ![0, 0, 0] :=
  (by decide +kernel : ∀ t : Fin grid0.N, _)

/-- The chunk of a grid point. -/
abbrev ch (t : Fin cfg0.N) : Fin 64 := ⟨t.val, t.isLt⟩

section loads
variable (c : Dev nD) (t : Fin cfg0.N)

theorem at0 (i : Fin 128) (k : Fin 4096) : X0_0 m c t (ix2 i k) = a0 m c (ix2 ⟨(ch t).val * 128 + i.val, by have := (ch t).isLt; omega⟩ ⟨k.val, by omega⟩) := by
  unfold X0_0 Pipeline.Window.fill
  rw [dif_pos (moved0_0 t _)]
  blk_simp [iblk]
  entry_read
  unfold a0
  blk_point [tiles t]

theorem at1 (k : Fin 2048) : iblk m c 1 t (ix2 0 k) = a1 m c (ix2 0 k) := by
  blk_simp [iblk]
  entry_read
  unfold a1
  blk_point [tiles t]

theorem at2 (k : Fin 2048) : iblk m c 2 t (ix2 0 k) = a2 m c (ix2 0 k) := by
  blk_simp [iblk]
  entry_read
  unfold a2
  blk_point [tiles t]

theorem at3 (g : Fin 4) (i j : Fin 128) : iblk m c 3 t (ix3 g i j) = a3 m c (ix3 g i j) := by
  blk_simp [iblk]
  entry_read
  unfold a3
  blk_point [tiles t]

theorem at4 (g : Fin 4) (i : Fin 128) : iblk m c 4 t (ix3 g i 0) = a4 m c (ix3 g i 0) := by
  blk_simp [iblk]
  entry_read
  unfold a4
  blk_point [tiles t]

theorem at5 (i : Fin 128) (k : Fin 2048) : iblk m c 5 t (ix2 i k) = a5 m c (ix2 ⟨(ch t).val * 128 + i.val, by have := (ch t).isLt; omega⟩ ⟨k.val, by omega⟩) := by
  blk_simp [iblk]
  entry_read
  unfold a5
  blk_point [tiles t]

/-- The blocks of group 0. -/
abbrev u0 : FVec Ideal S128x512 .bf16 := View.ld (X0_0 m c t) (Rect.unit ![0, 0] ![128, 512] inb_S128x4096_S128x512_0_0)
abbrev v0 : FVec Ideal S128x512 .bf16 := View.ld (X0_0 m c t) (Rect.unit ![0, 2048] ![128, 512] inb_S128x4096_S128x512_0_2048)
abbrev ct0 : FVec Ideal S128x512 .bf16 := View.ld (iblk m c 5 t) (Rect.unit ![0, 0] ![128, 512] inb_S128x2048_S128x512_0_0)
abbrev lg0 : FVec Ideal S1x512 .f32 := View.ld (iblk m c 1 t) (Rect.unit ![0, 0] ![1, 512] inb_S1x2048_S1x512_0_0)
abbrev lb0 : FVec Ideal S1x512 .f32 := View.ld (iblk m c 2 t) (Rect.unit ![0, 0] ![1, 512] inb_S1x2048_S1x512_0_0)
abbrev w0 : FVec Ideal S1x128x128 .f32 := View.ld (iblk m c 3 t) (Rect.unit ![0, 0, 0] ![1, 128, 128] inb_S4x128x128_S1x128x128_0_0_0)
abbrev b0 : FVec Ideal S1x128x1 .f32 := View.ld (iblk m c 4 t) (Rect.unit ![0, 0, 0] ![1, 128, 1] inb_S4x128x1_S1x128x1_0_0_0)

theorem reads0 : Reads (a0 m c) (a1 m c) (a2 m c) (a3 m c) (a4 m c) (a5 m c) (ch t) 0 (u0 m c t) (v0 m c t) (ct0 m c t) (lg0 m c t)
    (lb0 m c t) (w0 m c t) (b0 m c t) := by
  constructor
  · intro i d
    exact (View.ld_unit_apply_of _ _ _ _ _ (ix2 i ⟨0 + d.val, by omega⟩) (by intro a; fin_cases a <;> simp)).trans (at0 m c t _ _)
  · intro i d
    refine (View.ld_unit_apply_of _ _ _ _ _ (ix2 i ⟨2048 + (0 + d.val), by omega⟩) ?_).trans (at0 m c t _ _)
    intro a; fin_cases a <;> simp <;> omega
  · intro i d
    exact (View.ld_unit_apply_of _ _ _ _ _ (ix2 i ⟨0 + d.val, by omega⟩) (by intro a; fin_cases a <;> simp)).trans (at5 m c t _ _)
  · intro d
    exact (View.ld_unit_apply_of _ _ _ _ _ (ix2 0 ⟨0 + d.val, by omega⟩) (by intro a; fin_cases a <;> simp)).trans (at1 m c t _)
  · intro d
    exact (View.ld_unit_apply_of _ _ _ _ _ (ix2 0 ⟨0 + d.val, by omega⟩) (by intro a; fin_cases a <;> simp)).trans (at2 m c t _)
  · intro i j
    exact (View.ld_unit_apply_of _ _ _ _ _ (ix3 0 i j) (by intro a; fin_cases a <;> simp)).trans (at3 m c t _ _ _)
  · intro i
    exact (View.ld_unit_apply_of _ _ _ _ _ (ix3 0 i 0) (by intro a; fin_cases a <;> simp)).trans (at4 m c t _ _)

/-- The blocks of group 1. -/
abbrev u1 : FVec Ideal S128x512 .bf16 := View.ld (X0_0 m c t) (Rect.unit ![0, 512] ![128, 512] inb_S128x4096_S128x512_0_512)
abbrev v1 : FVec Ideal S128x512 .bf16 := View.ld (X0_0 m c t) (Rect.unit ![0, 2560] ![128, 512] inb_S128x4096_S128x512_0_2560)
abbrev ct1 : FVec Ideal S128x512 .bf16 := View.ld (iblk m c 5 t) (Rect.unit ![0, 512] ![128, 512] inb_S128x2048_S128x512_0_512)
abbrev lg1 : FVec Ideal S1x512 .f32 := View.ld (iblk m c 1 t) (Rect.unit ![0, 512] ![1, 512] inb_S1x2048_S1x512_0_512)
abbrev lb1 : FVec Ideal S1x512 .f32 := View.ld (iblk m c 2 t) (Rect.unit ![0, 512] ![1, 512] inb_S1x2048_S1x512_0_512)
abbrev w1 : FVec Ideal S1x128x128 .f32 := View.ld (iblk m c 3 t) (Rect.unit ![1, 0, 0] ![1, 128, 128] inb_S4x128x128_S1x128x128_1_0_0)
abbrev b1 : FVec Ideal S1x128x1 .f32 := View.ld (iblk m c 4 t) (Rect.unit ![1, 0, 0] ![1, 128, 1] inb_S4x128x1_S1x128x1_1_0_0)

theorem reads1 : Reads (a0 m c) (a1 m c) (a2 m c) (a3 m c) (a4 m c) (a5 m c) (ch t) 1 (u1 m c t) (v1 m c t) (ct1 m c t) (lg1 m c t)
    (lb1 m c t) (w1 m c t) (b1 m c t) := by
  constructor
  · intro i d
    exact (View.ld_unit_apply_of _ _ _ _ _ (ix2 i ⟨512 + d.val, by omega⟩) (by intro a; fin_cases a <;> simp)).trans (at0 m c t _ _)
  · intro i d
    refine (View.ld_unit_apply_of _ _ _ _ _ (ix2 i ⟨2048 + (512 + d.val), by omega⟩) ?_).trans (at0 m c t _ _)
    intro a; fin_cases a <;> simp <;> omega
  · intro i d
    exact (View.ld_unit_apply_of _ _ _ _ _ (ix2 i ⟨512 + d.val, by omega⟩) (by intro a; fin_cases a <;> simp)).trans (at5 m c t _ _)
  · intro d
    exact (View.ld_unit_apply_of _ _ _ _ _ (ix2 0 ⟨512 + d.val, by omega⟩) (by intro a; fin_cases a <;> simp)).trans (at1 m c t _)
  · intro d
    exact (View.ld_unit_apply_of _ _ _ _ _ (ix2 0 ⟨512 + d.val, by omega⟩) (by intro a; fin_cases a <;> simp)).trans (at2 m c t _)
  · intro i j
    exact (View.ld_unit_apply_of _ _ _ _ _ (ix3 1 i j) (by intro a; fin_cases a <;> simp)).trans (at3 m c t _ _ _)
  · intro i
    exact (View.ld_unit_apply_of _ _ _ _ _ (ix3 1 i 0) (by intro a; fin_cases a <;> simp)).trans (at4 m c t _ _)

/-- The blocks of group 2. -/
abbrev u2 : FVec Ideal S128x512 .bf16 := View.ld (X0_0 m c t) (Rect.unit ![0, 1024] ![128, 512] inb_S128x4096_S128x512_0_1024)
abbrev v2 : FVec Ideal S128x512 .bf16 := View.ld (X0_0 m c t) (Rect.unit ![0, 3072] ![128, 512] inb_S128x4096_S128x512_0_3072)
abbrev ct2 : FVec Ideal S128x512 .bf16 := View.ld (iblk m c 5 t) (Rect.unit ![0, 1024] ![128, 512] inb_S128x2048_S128x512_0_1024)
abbrev lg2 : FVec Ideal S1x512 .f32 := View.ld (iblk m c 1 t) (Rect.unit ![0, 1024] ![1, 512] inb_S1x2048_S1x512_0_1024)
abbrev lb2 : FVec Ideal S1x512 .f32 := View.ld (iblk m c 2 t) (Rect.unit ![0, 1024] ![1, 512] inb_S1x2048_S1x512_0_1024)
abbrev w2 : FVec Ideal S1x128x128 .f32 := View.ld (iblk m c 3 t) (Rect.unit ![2, 0, 0] ![1, 128, 128] inb_S4x128x128_S1x128x128_2_0_0)
abbrev b2 : FVec Ideal S1x128x1 .f32 := View.ld (iblk m c 4 t) (Rect.unit ![2, 0, 0] ![1, 128, 1] inb_S4x128x1_S1x128x1_2_0_0)

theorem reads2 : Reads (a0 m c) (a1 m c) (a2 m c) (a3 m c) (a4 m c) (a5 m c) (ch t) 2 (u2 m c t) (v2 m c t) (ct2 m c t) (lg2 m c t)
    (lb2 m c t) (w2 m c t) (b2 m c t) := by
  constructor
  · intro i d
    exact (View.ld_unit_apply_of _ _ _ _ _ (ix2 i ⟨1024 + d.val, by omega⟩) (by intro a; fin_cases a <;> simp)).trans (at0 m c t _ _)
  · intro i d
    refine (View.ld_unit_apply_of _ _ _ _ _ (ix2 i ⟨2048 + (1024 + d.val), by omega⟩) ?_).trans (at0 m c t _ _)
    intro a; fin_cases a <;> simp <;> omega
  · intro i d
    exact (View.ld_unit_apply_of _ _ _ _ _ (ix2 i ⟨1024 + d.val, by omega⟩) (by intro a; fin_cases a <;> simp)).trans (at5 m c t _ _)
  · intro d
    exact (View.ld_unit_apply_of _ _ _ _ _ (ix2 0 ⟨1024 + d.val, by omega⟩) (by intro a; fin_cases a <;> simp)).trans (at1 m c t _)
  · intro d
    exact (View.ld_unit_apply_of _ _ _ _ _ (ix2 0 ⟨1024 + d.val, by omega⟩) (by intro a; fin_cases a <;> simp)).trans (at2 m c t _)
  · intro i j
    exact (View.ld_unit_apply_of _ _ _ _ _ (ix3 2 i j) (by intro a; fin_cases a <;> simp)).trans (at3 m c t _ _ _)
  · intro i
    exact (View.ld_unit_apply_of _ _ _ _ _ (ix3 2 i 0) (by intro a; fin_cases a <;> simp)).trans (at4 m c t _ _)

/-- The blocks of group 3. -/
abbrev u3 : FVec Ideal S128x512 .bf16 := View.ld (X0_0 m c t) (Rect.unit ![0, 1536] ![128, 512] inb_S128x4096_S128x512_0_1536)
abbrev v3 : FVec Ideal S128x512 .bf16 := View.ld (X0_0 m c t) (Rect.unit ![0, 3584] ![128, 512] inb_S128x4096_S128x512_0_3584)
abbrev ct3 : FVec Ideal S128x512 .bf16 := View.ld (iblk m c 5 t) (Rect.unit ![0, 1536] ![128, 512] inb_S128x2048_S128x512_0_1536)
abbrev lg3 : FVec Ideal S1x512 .f32 := View.ld (iblk m c 1 t) (Rect.unit ![0, 1536] ![1, 512] inb_S1x2048_S1x512_0_1536)
abbrev lb3 : FVec Ideal S1x512 .f32 := View.ld (iblk m c 2 t) (Rect.unit ![0, 1536] ![1, 512] inb_S1x2048_S1x512_0_1536)
abbrev w3 : FVec Ideal S1x128x128 .f32 := View.ld (iblk m c 3 t) (Rect.unit ![3, 0, 0] ![1, 128, 128] inb_S4x128x128_S1x128x128_3_0_0)
abbrev b3 : FVec Ideal S1x128x1 .f32 := View.ld (iblk m c 4 t) (Rect.unit ![3, 0, 0] ![1, 128, 1] inb_S4x128x1_S1x128x1_3_0_0)

theorem reads3 : Reads (a0 m c) (a1 m c) (a2 m c) (a3 m c) (a4 m c) (a5 m c) (ch t) 3 (u3 m c t) (v3 m c t) (ct3 m c t) (lg3 m c t)
    (lb3 m c t) (w3 m c t) (b3 m c t) := by
  constructor
  · intro i d
    exact (View.ld_unit_apply_of _ _ _ _ _ (ix2 i ⟨1536 + d.val, by omega⟩) (by intro a; fin_cases a <;> simp)).trans (at0 m c t _ _)
  · intro i d
    refine (View.ld_unit_apply_of _ _ _ _ _ (ix2 i ⟨2048 + (1536 + d.val), by omega⟩) ?_).trans (at0 m c t _ _)
    intro a; fin_cases a <;> simp <;> omega
  · intro i d
    exact (View.ld_unit_apply_of _ _ _ _ _ (ix2 i ⟨1536 + d.val, by omega⟩) (by intro a; fin_cases a <;> simp)).trans (at5 m c t _ _)
  · intro d
    exact (View.ld_unit_apply_of _ _ _ _ _ (ix2 0 ⟨1536 + d.val, by omega⟩) (by intro a; fin_cases a <;> simp)).trans (at1 m c t _)
  · intro d
    exact (View.ld_unit_apply_of _ _ _ _ _ (ix2 0 ⟨1536 + d.val, by omega⟩) (by intro a; fin_cases a <;> simp)).trans (at2 m c t _)
  · intro i j
    exact (View.ld_unit_apply_of _ _ _ _ _ (ix3 3 i j) (by intro a; fin_cases a <;> simp)).trans (at3 m c t _ _ _)
  · intro i
    exact (View.ld_unit_apply_of _ _ _ _ _ (ix3 3 i 0) (by intro a; fin_cases a <;> simp)).trans (at4 m c t _ _)

/-- The mixed half's columns at any index of a tile. -/
theorem tileV_at {g : Fin 4} {u v ct : FVec Ideal S128x512 .bf16} {lg lb : FVec Ideal S1x512 .f32} {w : FVec Ideal S1x128x128 .f32}
    {b : FVec Ideal S1x128x1 .f32}
    (h : Reads (a0 m c) (a1 m c) (a2 m c) (a3 m c) (a4 m c) (a5 m c) (ch t) g u v ct lg lb w b) (x : S128x512.Idx)
    (k : Cert.ReferenceIdeal.S8192x4096.Idx) (e0 : (k 0).val = t.val * 128 + (x 0).val) (e1 : (k 1).val = 2048 + (g.val * 512 + (x 1).val)) :
    pieceV u v ct lg w x = val_main_v123 (F := Ideal) (a0 m c) (a1 m c) (a2 m c) (a3 m c) (a4 m c) (a5 m c) k := by
  obtain ⟨i, d, rfl⟩ : ∃ (i : Fin 128) (d : Fin 512), x = ix2 i d := ⟨x 0, x 1, eq_ix2 x⟩
  rw [tileV h]
  rw [eq_ix2 k]
  congr 1
  exact congrArg₂ ix2 (Fin.ext e0.symm) (Fin.ext e1.symm)

/-- The gating half's columns at any index of a tile. -/
theorem tileU_at {g : Fin 4} {u v ct : FVec Ideal S128x512 .bf16} {lg lb : FVec Ideal S1x512 .f32} {w : FVec Ideal S1x128x128 .f32}
    {b : FVec Ideal S1x128x1 .f32}
    (h : Reads (a0 m c) (a1 m c) (a2 m c) (a3 m c) (a4 m c) (a5 m c) (ch t) g u v ct lg lb w b) (x : S128x512.Idx)
    (k : Cert.ReferenceIdeal.S8192x4096.Idx) (e0 : (k 0).val = t.val * 128 + (x 0).val) (e1 : (k 1).val = g.val * 512 + (x 1).val) :
    pieceU u v ct lg lb w b x = val_main_v123 (F := Ideal) (a0 m c) (a1 m c) (a2 m c) (a3 m c) (a4 m c) (a5 m c) k := by
  obtain ⟨i, d, rfl⟩ : ∃ (i : Fin 128) (d : Fin 512), x = ix2 i d := ⟨x 0, x 1, eq_ix2 x⟩
  rw [tileU h]
  rw [eq_ix2 k]
  congr 1
  exact congrArg₂ ix2 (Fin.ext e0.symm) (Fin.ext e1.symm)

/-- The eight column tiles of the two halves. -/
theorem halves (y : S128x4096.Idx) (k : Cert.ReferenceIdeal.S8192x4096.Idx) (e0 : (k 0).val = t.val * 128 + (y 0).val) (e1 : (k 1).val = (y 1).val) :
    View.canon [⟨Rect.unit ![0, 3584] ![128, 512] inb_S128x4096_S128x512_0_3584, pieceV (u3 m c t) (v3 m c t) (ct3 m c t) (lg3 m c t) (w3 m c t)⟩,
      ⟨Rect.unit ![0, 1536] ![128, 512] inb_S128x4096_S128x512_0_1536, pieceU (u3 m c t) (v3 m c t) (ct3 m c t) (lg3 m c t) (lb3 m c t) (w3 m c t) (b3 m c t)⟩,
      ⟨Rect.unit ![0, 3072] ![128, 512] inb_S128x4096_S128x512_0_3072, pieceV (u2 m c t) (v2 m c t) (ct2 m c t) (lg2 m c t) (w2 m c t)⟩,
      ⟨Rect.unit ![0, 1024] ![128, 512] inb_S128x4096_S128x512_0_1024, pieceU (u2 m c t) (v2 m c t) (ct2 m c t) (lg2 m c t) (lb2 m c t) (w2 m c t) (b2 m c t)⟩,
      ⟨Rect.unit ![0, 2560] ![128, 512] inb_S128x4096_S128x512_0_2560, pieceV (u1 m c t) (v1 m c t) (ct1 m c t) (lg1 m c t) (w1 m c t)⟩,
      ⟨Rect.unit ![0, 512] ![128, 512] inb_S128x4096_S128x512_0_512, pieceU (u1 m c t) (v1 m c t) (ct1 m c t) (lg1 m c t) (lb1 m c t) (w1 m c t) (b1 m c t)⟩,
      ⟨Rect.unit ![0, 2048] ![128, 512] inb_S128x4096_S128x512_0_2048, pieceV (u0 m c t) (v0 m c t) (ct0 m c t) (lg0 m c t) (w0 m c t)⟩,
      ⟨Rect.unit ![0, 0] ![128, 512] inb_S128x4096_S128x512_0_0, pieceU (u0 m c t) (v0 m c t) (ct0 m c t) (lg0 m c t) (lb0 m c t) (w0 m c t) (b0 m c t)⟩] y
      = val_main_v123 (F := Ideal) (a0 m c) (a1 m c) (a2 m c) (a3 m c) (a4 m c) (a5 m c) k := by
  canon_tiles x h
  · exact tileV_at m c t (reads3 m c t) x k (by omega) (by simp; omega)
  · exact tileU_at m c t (reads3 m c t) x k (by omega) (by simp; omega)
  · exact tileV_at m c t (reads2 m c t) x k (by omega) (by simp; omega)
  · exact tileU_at m c t (reads2 m c t) x k (by omega) (by simp; omega)
  · exact tileV_at m c t (reads1 m c t) x k (by omega) (by simp; omega)
  · exact tileU_at m c t (reads1 m c t) x k (by omega) (by simp; omega)
  · exact tileV_at m c t (reads0 m c t) x k (by omega) (by simp; omega)
  · exact tileU_at m c t (reads0 m c t) x k (by omega) (by simp; omega)

theorem out6 (y : S128x4096.Idx) (k : Cert.ReferenceIdeal.S8192x4096.Idx) (e0 : (k 0).val = t.val * 128 + (y 0).val) (e1 : (k 1).val = (y 1).val) :
    (outsAt0 m c t.val t.isLt).1 y = val_main_v123 (F := Ideal) (a0 m c) (a1 m c) (a2 m c) (a3 m c) (a4 m c) (a5 m c) k := by
  rw [← halves m c t y k e0 e1]
  by_cases h0 : t.val % 64 = 0
  · have h1 : ¬ 1 ≤ t.val := by have := t.isLt; have := (ch t).isLt; dsimp only [ch] at this; omega
    rw [outsAt0_A m c t h0 h1 h0 h1 h0 h1 h0 h1 h0 h1 h0 h1 h0 h1 h0 h1 h0 h1 h0 h1 h0 h1 h0 h1 h0 h1 h0 h1 h0 h1 h0 h1]
    frame_out
    rfl
  · have h1 : 1 ≤ t.val := by omega
    rw [outsAt0_B m c t h0 h1 h0 h1 h0 h1 h0 h1 h0 h1 h0 h1 h0 h1 h0 h1 h0 h1 h0 h1 h0 h1 h0 h1 h0 h1 h0 h1 h0 h1 h0 h1]
    frame_out
    rfl

end loads

end Cert.KernelIdeal.Val

end
-- ==== Proof.GmTotals.lean ====
/- The four gradients of the gated spatial mixing's parameters: each is a sum over the chunks, one chunk per grid point. -/
module

public import proofs.«01_k».proof.Proof.GmArrays

@[expose] public section

set_option maxRecDepth 16384

noncomputable section

open Idealize.ShloMosaic Idealize.ShloMosaic.TcCoe Idealize.SL.Sem

namespace Cert.KernelIdeal.Val

open Cert.KernelIdeal Cert.KernelIdeal.Gen
open Cert.ReferenceIdeal.Read Cert.ReferenceIdeal.Val
open Cert.Gm

variable (m : (ℓ : Loc nD τ sig) → Buf (Elt Ideal) ℓ) (c : Dev nD)

/-- The group of a column, and its place in the group. -/
def gi (k : Fin 2048) : Fin 4 := ⟨k.val / 512, by omega⟩
def di (k : Fin 2048) : Fin 512 := ⟨k.val % 512, by omega⟩

theorem gi_of {g : Fin 4} {d : Fin 512} {k : Fin 2048} (h : k.val = g.val * 512 + d.val) : gi k = g := Fin.ext (by simp only [gi]; omega)
theorem di_of {g : Fin 4} {d : Fin 512} {k : Fin 2048} (h : k.val = g.val * 512 + d.val) : di k = d := Fin.ext (by simp only [di]; omega)
theorem col_of (k : Fin 2048) : k = ⟨(gi k).val * 512 + (di k).val, by have := k.isLt; simp only [gi, di]; omega⟩ := Fin.ext (by simp only [gi, di]; omega)

/-- A chunk's part of each gradient, at an index of the array. -/
def TG (k : Fin 64) (y : S1x2048.Idx) : EReal :=
  ∑ i, nrm (rgv (a0 m c) k (gi (y 1))) i (di (y 1)) * rdn (a0 m c) (a3 m c) (a5 m c) k (gi (y 1)) i (di (y 1))
def TB (k : Fin 64) (y : S1x2048.Idx) : EReal :=
  ∑ i, rdn (a0 m c) (a3 m c) (a5 m c) k (gi (y 1)) i (di (y 1))
def TW (k : Fin 64) (y : S4x128x128.Idx) : EReal :=
  if y 2 ≤ y 1 then ∑ d, rsl (a0 m c) (a5 m c) k (y 0) (y 1) d * vn (rgv (a0 m c) k (y 0)) (rr (a1 m c) (y 0)) (rr (a2 m c) (y 0)) (y 2) d else 0
def TS (k : Fin 64) (y : S4x128x1.Idx) : EReal :=
  ∑ d, rsl (a0 m c) (a5 m c) k (y 0) (y 1) d

theorem one2 (x : S1x512.Idx) : x = ix2 0 (x 1) := (eq_ix2 x).trans (congrArg (ix2 · (x 1)) (Subsingleton.elim _ _))

variable (t : Fin cfg0.N)

section parts

variable {g : Fin 4} {u v ct : FVec Ideal S128x512 .bf16} {lg lb : FVec Ideal S1x512 .f32} {w : FVec Ideal S1x128x128 .f32}
  {b : FVec Ideal S1x128x1 .f32}
  (h : Reads (a0 m c) (a1 m c) (a2 m c) (a3 m c) (a4 m c) (a5 m c) (ch t) g u v ct lg lb w b)

include h

theorem tileG_at (x : S1x512.Idx) (y : S1x2048.Idx) (e : (y 1).val = g.val * 512 + (x 1).val) : pieceG u v ct w x = TG m c (ch t) y := by
  obtain ⟨d, rfl⟩ : ∃ d : Fin 512, x = ix2 0 d := ⟨x 1, one2 x⟩
  rw [tileG h, TG, gi_of (d := d) e, di_of (g := g) e]
  rfl

theorem tileB_at (x : S1x512.Idx) (y : S1x2048.Idx) (e : (y 1).val = g.val * 512 + (x 1).val) : pieceB u ct w x = TB m c (ch t) y := by
  obtain ⟨d, rfl⟩ : ∃ d : Fin 512, x = ix2 0 d := ⟨x 1, one2 x⟩
  rw [tileB h, TB, gi_of (d := d) e, di_of (g := g) e]
  rfl

theorem tileW_at (i j : Fin 128) (y : S4x128x128.Idx) (e0 : (y 0).val = g.val) (e1 : (y 1).val = i.val) (e2 : (y 2).val = j.val) :
    pieceW u v ct lg lb (ix2 i j) = TW m c (ch t) y := by
  rw [tileW h, TW, show y 0 = g from Fin.ext e0, show y 1 = i from Fin.ext e1, show y 2 = j from Fin.ext e2]
  split_ifs <;> first | rfl | contradiction

theorem tileS_at (i : Fin 128) (y : S4x128x1.Idx) (e0 : (y 0).val = g.val) (e1 : (y 1).val = i.val) :
    pieceS u ct (ix2 i 0) = TS m c (ch t) y := by
  rw [tileS h, TS, show y 0 = g from Fin.ext e0, show y 1 = i from Fin.ext e1]

end parts

theorem one3W (x : S1x128x128.Idx) : x = ix3 0 (x 1) (x 2) := by
  exact (eq_ix3 x).trans (congrArg (ix3 · (x 1) (x 2)) (Subsingleton.elim _ _))

theorem one3S (x : S1x128x1.Idx) : x = ix3 0 (x 1) 0 := by
  exact (eq_ix3 x).trans (congrArg₂ (ix3 · (x 1) ·) (Subsingleton.elim _ _) (Subsingleton.elim _ _))

/-- A running value: what was there plus the chunk's part. -/
theorem addG (p q : FVec Ideal S1x512 .f32) (x : S1x512.Idx) : k0_pay186 p q x = q x + p x := by
  obtain ⟨d, rfl⟩ : ∃ d : Fin 512, x = ix2 0 d := ⟨x 1, one2 x⟩
  pointwise [k0_pay186]

theorem firstW (p : FVec Ideal S128x128 .f32) (i j : Fin 128) : k0_pay188 p (ix3 0 i j) = p (ix2 i j) := by
  pointwise [k0_pay188]

theorem addW (p : FVec Ideal S128x128 .f32) (q : FVec Ideal S1x128x128 .f32) (i j : Fin 128) :
    k0_pay1 p q (ix3 0 i j) = q (ix3 0 i j) + p (ix2 i j) := by
  pointwise [k0_pay1]

theorem firstS (p : FVec Ideal S128x1 .f32) (i : Fin 128) : k0_pay2 p (ix3 0 i 0) = p (ix2 i 0) := by
  pointwise [k0_pay2]

theorem addS (p : FVec Ideal S128x1 .f32) (q : FVec Ideal S1x128x1 .f32) (i : Fin 128) :
    k0_pay3 p q (ix3 0 i 0) = q (ix3 0 i 0) + p (ix2 i 0) := by
  pointwise [k0_pay3]

/-- The first chunk's part of the gradient of the scale, its four groups. -/
theorem firstG_all (y : S1x2048.Idx) :
    View.canon (Val := Elt Ideal) (e := .f32) (s := S1x2048) [⟨(Rect.unit ![0, 1536] ![1, 512] inb_S1x2048_S1x512_0_1536), pieceG (u3 m c t) (v3 m c t) (ct3 m c t) (w3 m c t)⟩,
      ⟨(Rect.unit ![0, 1024] ![1, 512] inb_S1x2048_S1x512_0_1024), pieceG (u2 m c t) (v2 m c t) (ct2 m c t) (w2 m c t)⟩,
      ⟨(Rect.unit ![0, 512] ![1, 512] inb_S1x2048_S1x512_0_512), pieceG (u1 m c t) (v1 m c t) (ct1 m c t) (w1 m c t)⟩,
      ⟨(Rect.unit ![0, 0] ![1, 512] inb_S1x2048_S1x512_0_0), pieceG (u0 m c t) (v0 m c t) (ct0 m c t) (w0 m c t)⟩] y = TG m c (ch t) y := by
  canon_tiles x h
  · exact tileG_at m c t (reads3 m c t) x y (by simp; omega)
  · exact tileG_at m c t (reads2 m c t) x y (by simp; omega)
  · exact tileG_at m c t (reads1 m c t) x y (by simp; omega)
  · exact tileG_at m c t (reads0 m c t) x y (by simp; omega)

/-- A later chunk's part of the gradient of the scale, its four groups, onto what was there. -/
theorem laterG_all (p : FVec Ideal S1x2048 .f32) (y : S1x2048.Idx) :
    View.canon (Val := Elt Ideal) (e := .f32) (s := S1x2048) [⟨(Rect.unit ![0, 1536] ![1, 512] inb_S1x2048_S1x512_0_1536), k0_pay186 (pieceG (u3 m c t) (v3 m c t) (ct3 m c t) (w3 m c t)) (View.ld (Val := Elt Ideal) (S := S1x2048) (e' := .f32) p (Rect.unit ![0, 1536] ![1, 512] inb_S1x2048_S1x512_0_1536))⟩,
      ⟨(Rect.unit ![0, 1024] ![1, 512] inb_S1x2048_S1x512_0_1024), k0_pay186 (pieceG (u2 m c t) (v2 m c t) (ct2 m c t) (w2 m c t)) (View.ld (Val := Elt Ideal) (S := S1x2048) (e' := .f32) p (Rect.unit ![0, 1024] ![1, 512] inb_S1x2048_S1x512_0_1024))⟩,
      ⟨(Rect.unit ![0, 512] ![1, 512] inb_S1x2048_S1x512_0_512), k0_pay186 (pieceG (u1 m c t) (v1 m c t) (ct1 m c t) (w1 m c t)) (View.ld (Val := Elt Ideal) (S := S1x2048) (e' := .f32) p (Rect.unit ![0, 512] ![1, 512] inb_S1x2048_S1x512_0_512))⟩,
      ⟨(Rect.unit ![0, 0] ![1, 512] inb_S1x2048_S1x512_0_0), k0_pay186 (pieceG (u0 m c t) (v0 m c t) (ct0 m c t) (w0 m c t)) (View.ld (Val := Elt Ideal) (S := S1x2048) (e' := .f32) p (Rect.unit ![0, 0] ![1, 512] inb_S1x2048_S1x512_0_0))⟩] y = p y + TG m c (ch t) y := by
  canon_tiles x h
  · refine (addG _ _ x).trans (congrArg₂ (· + ·) (View.ld_unit_apply_of _ _ _ _ _ y ?_) (tileG_at m c t (reads3 m c t) x y (by simp; omega)))
    intro a; fin_cases a <;> simp <;> omega
  · refine (addG _ _ x).trans (congrArg₂ (· + ·) (View.ld_unit_apply_of _ _ _ _ _ y ?_) (tileG_at m c t (reads2 m c t) x y (by simp; omega)))
    intro a; fin_cases a <;> simp <;> omega
  · refine (addG _ _ x).trans (congrArg₂ (· + ·) (View.ld_unit_apply_of _ _ _ _ _ y ?_) (tileG_at m c t (reads1 m c t) x y (by simp; omega)))
    intro a; fin_cases a <;> simp <;> omega
  · refine (addG _ _ x).trans (congrArg₂ (· + ·) (View.ld_unit_apply_of _ _ _ _ _ y ?_) (tileG_at m c t (reads0 m c t) x y (by simp; omega)))
    intro a; fin_cases a <;> simp <;> omega

theorem firstG_out (h0 : t.val % 64 = 0) (y : S1x2048.Idx) : (outsAt0 m c t.val t.isLt).2.1 y = 0 + TG m c (ch t) y := by
  rw [zero_add, ← firstG_all m c t y]
  have h1 : ¬ 1 ≤ t.val := by have := t.isLt; have := (ch t).isLt; dsimp only [ch] at this; omega
  rw [outsAt0_A m c t h0 h1 h0 h1 h0 h1 h0 h1 h0 h1 h0 h1 h0 h1 h0 h1 h0 h1 h0 h1 h0 h1 h0 h1 h0 h1 h0 h1 h0 h1 h0 h1]
  frame_out
  rfl

theorem laterG_out (h0 : ¬ t.val % 64 = 0) (y : S1x2048.Idx) : (outsAt0 m c t.val t.isLt).2.1 y
    = (outsAt0 m c (t.val - 1) (by have := t.isLt; omega)).2.1 y + TG m c (ch t) y := by
  rw [← laterG_all m c t _ y]
  have h1 : 1 ≤ t.val := by omega
  rw [outsAt0_B m c t h0 h1 h0 h1 h0 h1 h0 h1 h0 h1 h0 h1 h0 h1 h0 h1 h0 h1 h0 h1 h0 h1 h0 h1 h0 h1 h0 h1 h0 h1 h0 h1]
  frame_out
  rfl

/-- The gradient of the scale at the last grid point. -/
theorem lastG (ht : t.val + 1 = 64) (y : S1x2048.Idx) : (outsAt0 m c t.val t.isLt).2.1 y = ∑ k : Fin 64, TG m c k y := by
  refine (Pipeline.eq_sum_fin_of_reset_step_apply_last (N := 64) (fun n h => (outsAt0 m c n h).2.1) 64 (fun _ => (0 : EReal)) (TG m c)
    (fun n hn i => ?_) (fun n hn i => ?_) (by decide) t ht y).trans (zero_add _)
  · exact firstG_out m c n hn i
  · exact laterG_out m c n hn i

/-- The first chunk's part of the gradient of the shift, its four groups. -/
theorem firstB_all (y : S1x2048.Idx) :
    View.canon (Val := Elt Ideal) (e := .f32) (s := S1x2048) [⟨(Rect.unit ![0, 1536] ![1, 512] inb_S1x2048_S1x512_0_1536), pieceB (u3 m c t) (ct3 m c t) (w3 m c t)⟩,
      ⟨(Rect.unit ![0, 1024] ![1, 512] inb_S1x2048_S1x512_0_1024), pieceB (u2 m c t) (ct2 m c t) (w2 m c t)⟩,
      ⟨(Rect.unit ![0, 512] ![1, 512] inb_S1x2048_S1x512_0_512), pieceB (u1 m c t) (ct1 m c t) (w1 m c t)⟩,
      ⟨(Rect.unit ![0, 0] ![1, 512] inb_S1x2048_S1x512_0_0), pieceB (u0 m c t) (ct0 m c t) (w0 m c t)⟩] y = TB m c (ch t) y := by
  canon_tiles x h
  · exact tileB_at m c t (reads3 m c t) x y (by simp; omega)
  · exact tileB_at m c t (reads2 m c t) x y (by simp; omega)
  · exact tileB_at m c t (reads1 m c t) x y (by simp; omega)
  · exact tileB_at m c t (reads0 m c t) x y (by simp; omega)

/-- A later chunk's part of the gradient of the shift, its four groups, onto what was there. -/
theorem laterB_all (p : FVec Ideal S1x2048 .f32) (y : S1x2048.Idx) :
    View.canon (Val := Elt Ideal) (e := .f32) (s := S1x2048) [⟨(Rect.unit ![0, 1536] ![1, 512] inb_S1x2048_S1x512_0_1536), k0_pay186 (pieceB (u3 m c t) (ct3 m c t) (w3 m c t)) (View.ld (Val := Elt Ideal) (S := S1x2048) (e' := .f32) p (Rect.unit ![0, 1536] ![1, 512] inb_S1x2048_S1x512_0_1536))⟩,
      ⟨(Rect.unit ![0, 1024] ![1, 512] inb_S1x2048_S1x512_0_1024), k0_pay186 (pieceB (u2 m c t) (ct2 m c t) (w2 m c t)) (View.ld (Val := Elt Ideal) (S := S1x2048) (e' := .f32) p (Rect.unit ![0, 1024] ![1, 512] inb_S1x2048_S1x512_0_1024))⟩,
      ⟨(Rect.unit ![0, 512] ![1, 512] inb_S1x2048_S1x512_0_512), k0_pay186 (pieceB (u1 m c t) (ct1 m c t) (w1 m c t)) (View.ld (Val := Elt Ideal) (S := S1x2048) (e' := .f32) p (Rect.unit ![0, 512] ![1, 512] inb_S1x2048_S1x512_0_512))⟩,
      ⟨(Rect.unit ![0, 0] ![1, 512] inb_S1x2048_S1x512_0_0), k0_pay186 (pieceB (u0 m c t) (ct0 m c t) (w0 m c t)) (View.ld (Val := Elt Ideal) (S := S1x2048) (e' := .f32) p (Rect.unit ![0, 0] ![1, 512] inb_S1x2048_S1x512_0_0))⟩] y = p y + TB m c (ch t) y := by
  canon_tiles x h
  · refine (addG _ _ x).trans (congrArg₂ (· + ·) (View.ld_unit_apply_of _ _ _ _ _ y ?_) (tileB_at m c t (reads3 m c t) x y (by simp; omega)))
    intro a; fin_cases a <;> simp <;> omega
  · refine (addG _ _ x).trans (congrArg₂ (· + ·) (View.ld_unit_apply_of _ _ _ _ _ y ?_) (tileB_at m c t (reads2 m c t) x y (by simp; omega)))
    intro a; fin_cases a <;> simp <;> omega
  · refine (addG _ _ x).trans (congrArg₂ (· + ·) (View.ld_unit_apply_of _ _ _ _ _ y ?_) (tileB_at m c t (reads1 m c t) x y (by simp; omega)))
    intro a; fin_cases a <;> simp <;> omega
  · refine (addG _ _ x).trans (congrArg₂ (· + ·) (View.ld_unit_apply_of _ _ _ _ _ y ?_) (tileB_at m c t (reads0 m c t) x y (by simp; omega)))
    intro a; fin_cases a <;> simp <;> omega

theorem firstB_out (h0 : t.val % 64 = 0) (y : S1x2048.Idx) : (outsAt0 m c t.val t.isLt).2.2.1 y = 0 + TB m c (ch t) y := by
  rw [zero_add, ← firstB_all m c t y]
  have h1 : ¬ 1 ≤ t.val := by have := t.isLt; have := (ch t).isLt; dsimp only [ch] at this; omega
  rw [outsAt0_A m c t h0 h1 h0 h1 h0 h1 h0 h1 h0 h1 h0 h1 h0 h1 h0 h1 h0 h1 h0 h1 h0 h1 h0 h1 h0 h1 h0 h1 h0 h1 h0 h1]
  frame_out
  rfl

theorem laterB_out (h0 : ¬ t.val % 64 = 0) (y : S1x2048.Idx) : (outsAt0 m c t.val t.isLt).2.2.1 y
    = (outsAt0 m c (t.val - 1) (by have := t.isLt; omega)).2.2.1 y + TB m c (ch t) y := by
  rw [← laterB_all m c t _ y]
  have h1 : 1 ≤ t.val := by omega
  rw [outsAt0_B m c t h0 h1 h0 h1 h0 h1 h0 h1 h0 h1 h0 h1 h0 h1 h0 h1 h0 h1 h0 h1 h0 h1 h0 h1 h0 h1 h0 h1 h0 h1 h0 h1]
  frame_out
  rfl

/-- The gradient of the shift at the last grid point. -/
theorem lastB (ht : t.val + 1 = 64) (y : S1x2048.Idx) : (outsAt0 m c t.val t.isLt).2.2.1 y = ∑ k : Fin 64, TB m c k y := by
  refine (Pipeline.eq_sum_fin_of_reset_step_apply_last (N := 64) (fun n h => (outsAt0 m c n h).2.2.1) 64 (fun _ => (0 : EReal)) (TB m c)
    (fun n hn i => ?_) (fun n hn i => ?_) (by decide) t ht y).trans (zero_add _)
  · exact firstB_out m c n hn i
  · exact laterB_out m c n hn i

/-- The first chunk's part of the gradient of the weights, its four groups. -/
theorem firstW_all (y : S4x128x128.Idx) :
    View.canon (Val := Elt Ideal) (e := .f32) (s := S4x128x128) [⟨(Rect.unit ![3, 0, 0] ![1, 128, 128] inb_S4x128x128_S1x128x128_3_0_0), k0_pay188 (pieceW (u3 m c t) (v3 m c t) (ct3 m c t) (lg3 m c t) (lb3 m c t))⟩,
      ⟨(Rect.unit ![2, 0, 0] ![1, 128, 128] inb_S4x128x128_S1x128x128_2_0_0), k0_pay188 (pieceW (u2 m c t) (v2 m c t) (ct2 m c t) (lg2 m c t) (lb2 m c t))⟩,
      ⟨(Rect.unit ![1, 0, 0] ![1, 128, 128] inb_S4x128x128_S1x128x128_1_0_0), k0_pay188 (pieceW (u1 m c t) (v1 m c t) (ct1 m c t) (lg1 m c t) (lb1 m c t))⟩,
      ⟨(Rect.unit ![0, 0, 0] ![1, 128, 128] inb_S4x128x128_S1x128x128_0_0_0), k0_pay188 (pieceW (u0 m c t) (v0 m c t) (ct0 m c t) (lg0 m c t) (lb0 m c t))⟩] y = TW m c (ch t) y := by
  canon_tiles x h
  · have hx : x = ix3 0 (x 1) (x 2) := by apply one3W
    rw [hx]
    exact (firstW _ (x 1) (x 2)).trans (tileW_at m c t (reads3 m c t) (x 1) (x 2) y (by simp; omega) (by simp; omega) (by simp; omega))
  · have hx : x = ix3 0 (x 1) (x 2) := by apply one3W
    rw [hx]
    exact (firstW _ (x 1) (x 2)).trans (tileW_at m c t (reads2 m c t) (x 1) (x 2) y (by simp; omega) (by simp; omega) (by simp; omega))
  · have hx : x = ix3 0 (x 1) (x 2) := by apply one3W
    rw [hx]
    exact (firstW _ (x 1) (x 2)).trans (tileW_at m c t (reads1 m c t) (x 1) (x 2) y (by simp; omega) (by simp; omega) (by simp; omega))
  · have hx : x = ix3 0 (x 1) (x 2) := by apply one3W
    rw [hx]
    exact (firstW _ (x 1) (x 2)).trans (tileW_at m c t (reads0 m c t) (x 1) (x 2) y (by simp; omega) (by simp; omega) (by simp; omega))

/-- A later chunk's part of the gradient of the weights, its four groups, onto what was there. -/
theorem laterW_all (p : FVec Ideal S4x128x128 .f32) (y : S4x128x128.Idx) :
    View.canon (Val := Elt Ideal) (e := .f32) (s := S4x128x128) [⟨(Rect.unit ![3, 0, 0] ![1, 128, 128] inb_S4x128x128_S1x128x128_3_0_0), k0_pay1 (pieceW (u3 m c t) (v3 m c t) (ct3 m c t) (lg3 m c t) (lb3 m c t)) (View.ld (Val := Elt Ideal) (S := S4x128x128) (e' := .f32) p (Rect.unit ![3, 0, 0] ![1, 128, 128] inb_S4x128x128_S1x128x128_3_0_0))⟩,
      ⟨(Rect.unit ![2, 0, 0] ![1, 128, 128] inb_S4x128x128_S1x128x128_2_0_0), k0_pay1 (pieceW (u2 m c t) (v2 m c t) (ct2 m c t) (lg2 m c t) (lb2 m c t)) (View.ld (Val := Elt Ideal) (S := S4x128x128) (e' := .f32) p (Rect.unit ![2, 0, 0] ![1, 128, 128] inb_S4x128x128_S1x128x128_2_0_0))⟩,
      ⟨(Rect.unit ![1, 0, 0] ![1, 128, 128] inb_S4x128x128_S1x128x128_1_0_0), k0_pay1 (pieceW (u1 m c t) (v1 m c t) (ct1 m c t) (lg1 m c t) (lb1 m c t)) (View.ld (Val := Elt Ideal) (S := S4x128x128) (e' := .f32) p (Rect.unit ![1, 0, 0] ![1, 128, 128] inb_S4x128x128_S1x128x128_1_0_0))⟩,
      ⟨(Rect.unit ![0, 0, 0] ![1, 128, 128] inb_S4x128x128_S1x128x128_0_0_0), k0_pay1 (pieceW (u0 m c t) (v0 m c t) (ct0 m c t) (lg0 m c t) (lb0 m c t)) (View.ld (Val := Elt Ideal) (S := S4x128x128) (e' := .f32) p (Rect.unit ![0, 0, 0] ![1, 128, 128] inb_S4x128x128_S1x128x128_0_0_0))⟩] y = p y + TW m c (ch t) y := by
  canon_tiles x h
  · have hx : x = ix3 0 (x 1) (x 2) := by apply one3W
    rw [hx]
    refine (addW _ _ (x 1) (x 2)).trans (congrArg₂ (· + ·) (View.ld_unit_apply_of _ _ _ _ _ y ?_) (tileW_at m c t (reads3 m c t) (x 1) (x 2) y (by simp; omega) (by simp; omega) (by simp; omega)))
    intro a; fin_cases a <;> simp <;> omega
  · have hx : x = ix3 0 (x 1) (x 2) := by apply one3W
    rw [hx]
    refine (addW _ _ (x 1) (x 2)).trans (congrArg₂ (· + ·) (View.ld_unit_apply_of _ _ _ _ _ y ?_) (tileW_at m c t (reads2 m c t) (x 1) (x 2) y (by simp; omega) (by simp; omega) (by simp; omega)))
    intro a; fin_cases a <;> simp <;> omega
  · have hx : x = ix3 0 (x 1) (x 2) := by apply one3W
    rw [hx]
    refine (addW _ _ (x 1) (x 2)).trans (congrArg₂ (· + ·) (View.ld_unit_apply_of _ _ _ _ _ y ?_) (tileW_at m c t (reads1 m c t) (x 1) (x 2) y (by simp; omega) (by simp; omega) (by simp; omega)))
    intro a; fin_cases a <;> simp <;> omega
  · have hx : x = ix3 0 (x 1) (x 2) := by apply one3W
    rw [hx]
    refine (addW _ _ (x 1) (x 2)).trans (congrArg₂ (· + ·) (View.ld_unit_apply_of _ _ _ _ _ y ?_) (tileW_at m c t (reads0 m c t) (x 1) (x 2) y (by simp; omega) (by simp; omega) (by simp; omega)))
    intro a; fin_cases a <;> simp <;> omega

theorem firstW_out (h0 : t.val % 64 = 0) (y : S4x128x128.Idx) : (outsAt0 m c t.val t.isLt).2.2.2.1 y = 0 + TW m c (ch t) y := by
  rw [zero_add, ← firstW_all m c t y]
  have h1 : ¬ 1 ≤ t.val := by have := t.isLt; have := (ch t).isLt; dsimp only [ch] at this; omega
  rw [outsAt0_A m c t h0 h1 h0 h1 h0 h1 h0 h1 h0 h1 h0 h1 h0 h1 h0 h1 h0 h1 h0 h1 h0 h1 h0 h1 h0 h1 h0 h1 h0 h1 h0 h1]
  frame_out
  rfl

theorem laterW_out (h0 : ¬ t.val % 64 = 0) (y : S4x128x128.Idx) : (outsAt0 m c t.val t.isLt).2.2.2.1 y
    = (outsAt0 m c (t.val - 1) (by have := t.isLt; omega)).2.2.2.1 y + TW m c (ch t) y := by
  rw [← laterW_all m c t _ y]
  have h1 : 1 ≤ t.val := by omega
  rw [outsAt0_B m c t h0 h1 h0 h1 h0 h1 h0 h1 h0 h1 h0 h1 h0 h1 h0 h1 h0 h1 h0 h1 h0 h1 h0 h1 h0 h1 h0 h1 h0 h1 h0 h1]
  frame_out
  rfl

/-- The gradient of the weights at the last grid point. -/
theorem lastW (ht : t.val + 1 = 64) (y : S4x128x128.Idx) : (outsAt0 m c t.val t.isLt).2.2.2.1 y = ∑ k : Fin 64, TW m c k y := by
  refine (Pipeline.eq_sum_fin_of_reset_step_apply_last (N := 64) (fun n h => (outsAt0 m c n h).2.2.2.1) 64 (fun _ => (0 : EReal)) (TW m c)
    (fun n hn i => ?_) (fun n hn i => ?_) (by decide) t ht y).trans (zero_add _)
  · exact firstW_out m c n hn i
  · exact laterW_out m c n hn i

/-- The first chunk's part of the gradient of the biases, its four groups. -/
theorem firstS_all (y : S4x128x1.Idx) :
    View.canon (Val := Elt Ideal) (e := .f32) (s := S4x128x1) [⟨(Rect.unit ![3, 0, 0] ![1, 128, 1] inb_S4x128x1_S1x128x1_3_0_0), k0_pay2 (pieceS (u3 m c t) (ct3 m c t))⟩,
      ⟨(Rect.unit ![2, 0, 0] ![1, 128, 1] inb_S4x128x1_S1x128x1_2_0_0), k0_pay2 (pieceS (u2 m c t) (ct2 m c t))⟩,
      ⟨(Rect.unit ![1, 0, 0] ![1, 128, 1] inb_S4x128x1_S1x128x1_1_0_0), k0_pay2 (pieceS (u1 m c t) (ct1 m c t))⟩,
      ⟨(Rect.unit ![0, 0, 0] ![1, 128, 1] inb_S4x128x1_S1x128x1_0_0_0), k0_pay2 (pieceS (u0 m c t) (ct0 m c t))⟩] y = TS m c (ch t) y := by
  canon_tiles x h
  · have hx : x = ix3 0 (x 1) 0 := by apply one3S
    rw [hx]
    exact (firstS _ (x 1)).trans (tileS_at m c t (reads3 m c t) (x 1) y (by simp; omega) (by simp; omega))
  · have hx : x = ix3 0 (x 1) 0 := by apply one3S
    rw [hx]
    exact (firstS _ (x 1)).trans (tileS_at m c t (reads2 m c t) (x 1) y (by simp; omega) (by simp; omega))
  · have hx : x = ix3 0 (x 1) 0 := by apply one3S
    rw [hx]
    exact (firstS _ (x 1)).trans (tileS_at m c t (reads1 m c t) (x 1) y (by simp; omega) (by simp; omega))
  · have hx : x = ix3 0 (x 1) 0 := by apply one3S
    rw [hx]
    exact (firstS _ (x 1)).trans (tileS_at m c t (reads0 m c t) (x 1) y (by simp; omega) (by simp; omega))

/-- A later chunk's part of the gradient of the biases, its four groups, onto what was there. -/
theorem laterS_all (p : FVec Ideal S4x128x1 .f32) (y : S4x128x1.Idx) :
    View.canon (Val := Elt Ideal) (e := .f32) (s := S4x128x1) [⟨(Rect.unit ![3, 0, 0] ![1, 128, 1] inb_S4x128x1_S1x128x1_3_0_0), k0_pay3 (pieceS (u3 m c t) (ct3 m c t)) (View.ld (Val := Elt Ideal) (S := S4x128x1) (e' := .f32) p (Rect.unit ![3, 0, 0] ![1, 128, 1] inb_S4x128x1_S1x128x1_3_0_0))⟩,
      ⟨(Rect.unit ![2, 0, 0] ![1, 128, 1] inb_S4x128x1_S1x128x1_2_0_0), k0_pay3 (pieceS (u2 m c t) (ct2 m c t)) (View.ld (Val := Elt Ideal) (S := S4x128x1) (e' := .f32) p (Rect.unit ![2, 0, 0] ![1, 128, 1] inb_S4x128x1_S1x128x1_2_0_0))⟩,
      ⟨(Rect.unit ![1, 0, 0] ![1, 128, 1] inb_S4x128x1_S1x128x1_1_0_0), k0_pay3 (pieceS (u1 m c t) (ct1 m c t)) (View.ld (Val := Elt Ideal) (S := S4x128x1) (e' := .f32) p (Rect.unit ![1, 0, 0] ![1, 128, 1] inb_S4x128x1_S1x128x1_1_0_0))⟩,
      ⟨(Rect.unit ![0, 0, 0] ![1, 128, 1] inb_S4x128x1_S1x128x1_0_0_0), k0_pay3 (pieceS (u0 m c t) (ct0 m c t)) (View.ld (Val := Elt Ideal) (S := S4x128x1) (e' := .f32) p (Rect.unit ![0, 0, 0] ![1, 128, 1] inb_S4x128x1_S1x128x1_0_0_0))⟩] y = p y + TS m c (ch t) y := by
  canon_tiles x h
  · have hx : x = ix3 0 (x 1) 0 := by apply one3S
    rw [hx]
    refine (addS _ _ (x 1)).trans (congrArg₂ (· + ·) (View.ld_unit_apply_of _ _ _ _ _ y ?_) (tileS_at m c t (reads3 m c t) (x 1) y (by simp; omega) (by simp; omega)))
    intro a; fin_cases a <;> simp <;> omega
  · have hx : x = ix3 0 (x 1) 0 := by apply one3S
    rw [hx]
    refine (addS _ _ (x 1)).trans (congrArg₂ (· + ·) (View.ld_unit_apply_of _ _ _ _ _ y ?_) (tileS_at m c t (reads2 m c t) (x 1) y (by simp; omega) (by simp; omega)))
    intro a; fin_cases a <;> simp <;> omega
  · have hx : x = ix3 0 (x 1) 0 := by apply one3S
    rw [hx]
    refine (addS _ _ (x 1)).trans (congrArg₂ (· + ·) (View.ld_unit_apply_of _ _ _ _ _ y ?_) (tileS_at m c t (reads1 m c t) (x 1) y (by simp; omega) (by simp; omega)))
    intro a; fin_cases a <;> simp <;> omega
  · have hx : x = ix3 0 (x 1) 0 := by apply one3S
    rw [hx]
    refine (addS _ _ (x 1)).trans (congrArg₂ (· + ·) (View.ld_unit_apply_of _ _ _ _ _ y ?_) (tileS_at m c t (reads0 m c t) (x 1) y (by simp; omega) (by simp; omega)))
    intro a; fin_cases a <;> simp <;> omega

theorem firstS_out (h0 : t.val % 64 = 0) (y : S4x128x1.Idx) : (outsAt0 m c t.val t.isLt).2.2.2.2 y = 0 + TS m c (ch t) y := by
  rw [zero_add, ← firstS_all m c t y]
  have h1 : ¬ 1 ≤ t.val := by have := t.isLt; have := (ch t).isLt; dsimp only [ch] at this; omega
  rw [outsAt0_A m c t h0 h1 h0 h1 h0 h1 h0 h1 h0 h1 h0 h1 h0 h1 h0 h1 h0 h1 h0 h1 h0 h1 h0 h1 h0 h1 h0 h1 h0 h1 h0 h1]
  frame_out
  rfl

theorem laterS_out (h0 : ¬ t.val % 64 = 0) (y : S4x128x1.Idx) : (outsAt0 m c t.val t.isLt).2.2.2.2 y
    = (outsAt0 m c (t.val - 1) (by have := t.isLt; omega)).2.2.2.2 y + TS m c (ch t) y := by
  rw [← laterS_all m c t _ y]
  have h1 : 1 ≤ t.val := by omega
  rw [outsAt0_B m c t h0 h1 h0 h1 h0 h1 h0 h1 h0 h1 h0 h1 h0 h1 h0 h1 h0 h1 h0 h1 h0 h1 h0 h1 h0 h1 h0 h1 h0 h1 h0 h1]
  frame_out
  rfl

/-- The gradient of the biases at the last grid point. -/
theorem lastS (ht : t.val + 1 = 64) (y : S4x128x1.Idx) : (outsAt0 m c t.val t.isLt).2.2.2.2 y = ∑ k : Fin 64, TS m c k y := by
  refine (Pipeline.eq_sum_fin_of_reset_step_apply_last (N := 64) (fun n h => (outsAt0 m c n h).2.2.2.2) 64 (fun _ => (0 : EReal)) (TS m c)
    (fun n hn i => ?_) (fun n hn i => ?_) (by decide) t ht y).trans (zero_add _)
  · exact firstS_out m c n hn i
  · exact laterS_out m c n hn i

theorem totalG (y : S1x2048.Idx) : ∑ k : Fin 64, TG m c k y = val_main_v126 (F := Ideal) (a0 m c) (a3 m c) (a5 m c) y := by
  obtain ⟨k, rfl⟩ : ∃ k : Fin 2048, y = ix2 0 k := ⟨y 1, (eq_ix2 y).trans (congrArg (ix2 · (y 1)) (Subsingleton.elim _ _))⟩
  show ∑ p : Fin 64, TG m c p (ix2 0 k) = _
  conv_rhs => rw [col_of k]
  exact (scale_eq _ _ _ (gi k) (di k)).symm

/-- The array of the gradient of the scale. -/
theorem array_g : (dats m 0 c).arrAt 7 (cfgs 0).N = val_main_v126 (F := Ideal) (a0 m c) (a3 m c) (a5 m c) := by
  refine (dats m 0 c).arrAt_eq_of_covers 7 _ (by decide +kernel) fun t hf y => ?_
  have ht : t.val + 1 = 64 := by
    have := (flush0_7 t).mp hf
    have := (ch t).isLt
    dsimp only [ch] at this
    omega
  blk_simp
  rw [after0_7, lastG m c t ht y, totalG]
  congr 1
  funext a
  apply Fin.ext
  fin_cases a <;> blk_simp [tiles t]

theorem totalB (y : S1x2048.Idx) : ∑ k : Fin 64, TB m c k y = val_main_v127 (F := Ideal) (a0 m c) (a3 m c) (a5 m c) y := by
  obtain ⟨k, rfl⟩ : ∃ k : Fin 2048, y = ix2 0 k := ⟨y 1, (eq_ix2 y).trans (congrArg (ix2 · (y 1)) (Subsingleton.elim _ _))⟩
  show ∑ p : Fin 64, TB m c p (ix2 0 k) = _
  conv_rhs => rw [col_of k]
  exact (shift_eq _ _ _ (gi k) (di k)).symm

/-- The array of the gradient of the shift. -/
theorem array_b : (dats m 0 c).arrAt 8 (cfgs 0).N = val_main_v127 (F := Ideal) (a0 m c) (a3 m c) (a5 m c) := by
  refine (dats m 0 c).arrAt_eq_of_covers 8 _ (by decide +kernel) fun t hf y => ?_
  have ht : t.val + 1 = 64 := by
    have := (flush0_8 t).mp hf
    have := (ch t).isLt
    dsimp only [ch] at this
    omega
  blk_simp
  rw [after0_8, lastB m c t ht y, totalB]
  congr 1
  funext a
  apply Fin.ext
  fin_cases a <;> blk_simp [tiles t]

theorem totalW (y : S4x128x128.Idx) : ∑ k : Fin 64, TW m c k y = val_main_v74 (F := Ideal) (a0 m c) (a1 m c) (a2 m c) (a5 m c) y := by
  obtain ⟨g, i, j, rfl⟩ : ∃ (g : Fin 4) (i j : Fin 128), y = ix3 g i j := ⟨y 0, y 1, y 2, eq_ix3 y⟩
  refine Eq.trans ?_ (weights_eq _ _ _ _ g i j).symm
  show ∑ p : Fin 64, (if j ≤ i then _ else 0) = _
  split_ifs
  · rfl
  · exact Finset.sum_const_zero

/-- The array of the gradient of the weights. -/
theorem array_w : (dats m 0 c).arrAt 9 (cfgs 0).N = val_main_v74 (F := Ideal) (a0 m c) (a1 m c) (a2 m c) (a5 m c) := by
  refine (dats m 0 c).arrAt_eq_of_covers 9 _ (by decide +kernel) fun t hf y => ?_
  have ht : t.val + 1 = 64 := by
    have := (flush0_9 t).mp hf
    have := (ch t).isLt
    dsimp only [ch] at this
    omega
  blk_simp
  rw [after0_9, lastW m c t ht y, totalW]
  congr 1
  funext a
  apply Fin.ext
  fin_cases a <;> blk_simp [tiles t]

theorem totalS (y : S4x128x1.Idx) : ∑ k : Fin 64, TS m c k y = val_main_v128 (F := Ideal) (a0 m c) (a5 m c) y := by
  obtain ⟨g, i, rfl⟩ : ∃ (g : Fin 4) (i : Fin 128), y = ix3 g i 0 :=
    ⟨y 0, y 1, (eq_ix3 y).trans (congrArg (ix3 (y 0) (y 1) ·) (Subsingleton.elim _ _))⟩
  exact (bias_eq _ _ g i).symm

/-- The array of the gradient of the biases. -/
theorem array_s : (dats m 0 c).arrAt 10 (cfgs 0).N = val_main_v128 (F := Ideal) (a0 m c) (a5 m c) := by
  refine (dats m 0 c).arrAt_eq_of_covers 10 _ (by decide +kernel) fun t hf y => ?_
  have ht : t.val + 1 = 64 := by
    have := (flush0_10 t).mp hf
    have := (ch t).isLt
    dsimp only [ch] at this
    omega
  blk_simp
  rw [after0_10, lastS m c t ht y, totalS]
  congr 1
  funext a
  apply Fin.ext
  fin_cases a <;> blk_simp [tiles t]

/-- The reference's array: the gradient in the first columns, the columns left as they were after them. -/
theorem ref_left (x6 : FVec Ideal S8192x9216 .bf16) (r : Fin 8192) (k : Fin 9216) (hk : k.val < 4096) :
    val_main_v125 (F := Ideal) (a0 m c) (a1 m c) (a2 m c) (a3 m c) (a4 m c) (a5 m c) x6 (ix2 r k)
      = val_main_v123 (F := Ideal) (a0 m c) (a1 m c) (a2 m c) (a3 m c) (a4 m c) (a5 m c) (ix2 r ⟨k.val, hk⟩) := by
  pointwise [val_main_v125]
  rw [dif_pos hk]

theorem ref_right (x6 : FVec Ideal S8192x9216 .bf16) (r : Fin 8192) (k : Fin 9216) (hk : ¬ k.val < 4096) :
    val_main_v125 (F := Ideal) (a0 m c) (a1 m c) (a2 m c) (a3 m c) (a4 m c) (a5 m c) x6 (ix2 r k) = x6 (ix2 r k) := by
  pointwise [val_main_v125, val_main_v124]
  rw [dif_neg hk]
  have e : (⟨4096 + (k.val - 4096), by omega⟩ : Fin 9216) = k := Fin.ext (by dsimp only; omega)
  rw [e]

theorem out6_left (x6 : FVec Ideal S8192x9216 .bf16) (y : S128x4096.Idx) (k : Cert.ReferenceIdeal.S8192x9216.Idx)
    (e0 : (k 0).val = t.val * 128 + (y 0).val) (e1 : (k 1).val = (y 1).val) :
    (outsAt0 m c t.val t.isLt).1 y = val_main_v125 (F := Ideal) (a0 m c) (a1 m c) (a2 m c) (a3 m c) (a4 m c) (a5 m c) x6 k := by
  obtain ⟨r, i, rfl⟩ : ∃ (r : Fin 8192) (i : Fin 9216), k = ix2 r i := ⟨k 0, k 1, eq_ix2 k⟩
  have hi : i.val < 4096 := lt_of_eq_of_lt e1 (y 1).isLt
  rw [ref_left m c x6 r i hi]
  exact out6 m c t y _ e0 e1

/-- The array of the two halves' gradient, beside the columns left as they were. -/
theorem array_x : (dats m 0 c).arrAt 6 (cfgs 0).N
    = val_main_v125 (F := Ideal) (a0 m c) (a1 m c) (a2 m c) (a3 m c) (a4 m c) (a5 m c) (m ((c : Thread nD τ).loc main_arg6)) := by
  refine (dats m 0 c).arrAt_eq_of_coversWhere_of_agree 6 _ (fun β => β (1 : Fin 2) = 0) (by decide +kernel) (fun t hf y => ?_) (fun j hj => ?_)
  · blk_simp
    rw [after0_6]
    refine out6_left m c t _ _ _ ?_ ?_ <;> (blk_simp [tiles t] <;> try omega)
  · blk_simp [Pipeline.Window.cell_apply] at hj
    show V m c main_v0_0 _ = _
    entry_read
    obtain ⟨r, i, rfl⟩ : ∃ (r : Fin 8192) (i : Fin 9216), j = ix2 r i := ⟨j 0, j 1, eq_ix2 j⟩
    have hi : ¬ i.val < 4096 := fun h => hj (Nat.div_eq_of_lt h)
    exact (ref_right m c _ r i hi).symm

end Cert.KernelIdeal.Val

end
-- ==== Proof.GmRun.lean ====
/- The run of the gated spatial mixing's reference, its five results at their named terms. -/
module

public import proofs.«01_k».proof.Proof.Gen.ReferenceIdeal.Run
public import proofs.«01_k».proof.Proof.Gen.ReferenceIdeal.Read

@[expose] public section

noncomputable section

open Idealize.ShloMosaic Idealize.ShloMosaic.TcCoe Idealize.SL.Sem

namespace Cert.ReferenceIdeal.Val

open Cert.ReferenceIdeal Cert.ReferenceIdeal.Read

variable (m : (ℓ : Loc nD τ sig) → Buf (Elt Ideal) ℓ)

/-- Every execution of the reference ends with its five results and with its arguments as they were. -/
theorem run_named (ρ : Dev nD → PrngReg) :
    θ_run defs (onTc (τ := τ) (main (F := Ideal))) ⟨m, fun _ => 0, ρ⟩ fun r => ∀ c : Dev nD,
      r.2.mem ((c.tc : Thread nD τ).loc main_v125) = val_main_v125 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v126) = val_main_v126 (F := Ideal) (m ((c.tc : Thread nD τ).loc main_arg0)) (m ((c.tc : Thread nD τ).loc main_arg3)) (m ((c.tc : Thread nD τ).loc main_arg5))
      ∧ r.2.mem ((c.tc : Thread nD τ).loc main_v127) = val_main_v127 (F := Ideal) (m ((c.tc : Thread nD τ).loc main_arg0)) (m ((c.tc : Thread nD τ).loc main_arg3)) (m ((c.tc : Thread nD τ).loc main_arg5))
      ∧ r.2.mem ((c.tc : Thread nD τ).loc main_v74) = val_main_v74 (F := Ideal) (m ((c.tc : Thread nD τ).loc main_arg0)) (m ((c.tc : Thread nD τ).loc main_arg1)) (m ((c.tc : Thread nD τ).loc main_arg2)) (m ((c.tc : Thread nD τ).loc main_arg5))
      ∧ r.2.mem ((c.tc : Thread nD τ).loc main_v128) = val_main_v128 (F := Ideal) (m ((c.tc : Thread nD τ).loc main_arg0)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨(h c).1.trans (val_main_v125_eq m c), (h c).2.1.trans (val_main_v126_eq m c),
      (h c).2.2.1.trans (val_main_v127_eq (F := Ideal) (m ((c.tc : Thread nD τ).loc main_arg0)) (m ((c.tc : Thread nD τ).loc main_arg3)) (m ((c.tc : Thread nD τ).loc main_arg5))),
      (h c).2.2.2.1.trans (val_main_v74_eq m c),
      (h c).2.2.2.2.1.trans (val_main_v128_eq (F := Ideal) (m ((c.tc : Thread nD τ).loc main_arg0)) (m ((c.tc : Thread nD τ).loc main_arg5))),
      (h c).2.2.2.2.2⟩)
    (Cert.ReferenceIdeal.Value.run m ρ)

end Cert.ReferenceIdeal.Val

end
-- ==== Proof.KernelClaim.lean ====
/- The algebraic claim of the gradient of the gated spatial mixing: the idealised kernel's run and the reference's end with equal arrays. -/
module

public import proofs.«01_k».proof.Defs
public import proofs.«01_k».proof.Proof.GmTotals
public import proofs.«01_k».proof.Proof.Gen.KernelIdeal.Value
public import proofs.«01_k».proof.Proof.Gen.ReferenceIdeal
public import proofs.«01_k».proof.Proof.GmRun
public import Idealize.ShloMosaic.Lib.Claim

@[expose] public section

noncomputable section

open Idealize.ShloMosaic Idealize.ShloMosaic.TcCoe Idealize.SL.Sem

namespace Cert.KernelClaim

/-- The reference runs, its arguments unchanged. -/
theorem reference_runs : Cert.quiescent_ReferenceIdeal := by
  intro m g hpre
  hlo_run
  · intro c; simp
  · exact sem_eq_zero_of_no_sems (sig := Cert.ReferenceIdeal.sig) (by decide) _

/-- The kernel's arrays are the reference's. -/
theorem algebraic : Cert.algebraic_KernelIdeal_ReferenceIdeal := by
  pair_intro
  · run_from Cert.KernelIdeal.Gen.run_main m g
  · run_from Cert.ReferenceIdeal.Val.run_named m' g'
    · exact (Cert.KernelIdeal.Val.array_x m c).symm
    · exact (Cert.KernelIdeal.Val.array_g m c).symm
    · exact (Cert.KernelIdeal.Val.array_b m c).symm
    · exact (Cert.KernelIdeal.Val.array_w m c).symm
    · exact (Cert.KernelIdeal.Val.array_s m c).symm

end Cert.KernelClaim

end
-- ==== Proof.DwguValue.lean ====
/- The weight gradient of the up projection: what the product kernel leaves in its result array is, at the ideal
   instance, what the reference computes. Every grid point writes one whole tile of a column shard, so one equation
   about one tile settles the array. -/
module

public import proofs.«01_k».proof.Proof.Gen.DwguIdeal.Frame
public import proofs.«01_k».proof.Proof.Gen.DwguRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.DwguIdeal.Val

open Cert.DwguIdeal Cert.DwguIdeal.Gen
open Cert.DwguRefIdeal.Read

variable (m : (ℓ : Loc nD τ sig) → Buf (Elt Ideal) ℓ)

/-- Which tile of each array a grid point reads and writes. -/
theorem tiles : ∀ t : Fin cfg0.N, win0_0.index t = ![0, t.val / 44] ∧ win0_1.index t = ![t.val % 44 / 22, 0, 0, t.val % 44 % 22]
    ∧ win0_2.index t = ![t.val % 44 / 11, 0, t.val / 44, t.val % 44 % 11] :=
  (by decide +kernel : ∀ t : Fin grid0.N, _)

set_option maxHeartbeats 1000000 in
/-- An element of the tile a point writes is the reference's element at the place the tile has in the array. -/
theorem tile_value (c : Dev nD) (t : Fin cfg0.N) (y : S1x1x1024x256.Idx) :
    k0_pay1 (iblk m c 0 t) (iblk m c 1 t) y
      = val_main_v14 (F := Ideal) (m ((c : Thread nD τ).loc main_arg0)) (m ((c : Thread nD τ).loc main_arg1))
          (((cfg0.win 2).blk t).view.emb y) := by
  pointwise [k0_pay1, val_main_v14, val_main_v13, val_main_v12, val_main_v11, val_main_v10, val_main_v9, val_main_v7,
    val_main_v5, val_main_v4, val_main_v3, val_main_v2, val_main_v1, val_main_v0]
  refine Finset.sum_congr rfl fun x _ => ?_
  rw [mul_comm]
  blk_simp [iblk, V, tiles t]
  blk_point [iblk, V, tiles t]

/-- The whole result array. -/
theorem array (c : Dev nD) : (dats m 0 c).arrAt 2 (cfgs 0).N
    = val_main_v14 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  exact tile_value m c t y

end Cert.DwguIdeal.Val

end
-- ==== Proof.DwguClaim.lean ====
/- The algebraic claim of the gradient of a feed-forward block's up weight: the idealised kernel's run and the reference's end with equal arrays. -/
module

public import proofs.«01_k».proof.Defs
public import proofs.«01_k».proof.Proof.DwguValue
public import proofs.«01_k».proof.Proof.Gen.DwguIdeal.Value
public import proofs.«01_k».proof.Proof.Gen.DwguRefIdeal
public import Idealize.ShloMosaic.Lib.Claim

@[expose] public section

noncomputable section

open Idealize.ShloMosaic Idealize.ShloMosaic.TcCoe Idealize.SL.Sem

namespace Cert.DwguClaim

/-- The reference runs, its arguments unchanged. -/
theorem reference_runs : Cert.quiescent_DwguRefIdeal := by
  intro m g hpre
  hlo_run
  · intro c; simp
  · exact sem_eq_zero_of_no_sems (sig := Cert.DwguRefIdeal.sig) (by decide) _

/-- The kernel's arrays are the reference's. -/
theorem algebraic : Cert.algebraic_DwguIdeal_DwguRefIdeal := by
  pair_intro
  · run_from Cert.DwguIdeal.Gen.run_main m g
  · hlo_run
    exact (Cert.DwguIdeal.Val.array m c).symm

end Cert.DwguClaim

end
-- ==== Proof.Runs.lean ====
/- A sum carried from grid point to grid point: a run of `J` points starts it, adds to it and ends it. -/
module

public import Idealize.ShloMosaic.Lib.Pipeline.ValueKit

@[expose] public section

noncomputable section

namespace Cert.Runs

variable {N J : ℕ} {ι : Type}

/-- The points of the run that a last point ends are points of the grid. -/
theorem run_lt (t : Fin N) (h : t.val % J = J - 1) (s : Fin J) : J * (t.val / J) + s.val < N := by
  have := Nat.div_add_mod t.val J
  have := t.isLt
  have := s.isLt
  omega

/-- If the first point of every run starts the carried sum with its term and every further point but the last adds its
    term, then at a last point the carried sum and that point's term are the sum of the run's terms. -/
theorem total (f : (n : ℕ) → n < N → ι → EReal) (p : Fin N → ι → EReal) (hJ : 2 ≤ J)
    (first : ∀ t : Fin N, t.val % J = 0 → ∀ y, f t.val t.isLt y = p t y)
    (next : ∀ t : Fin N, ¬t.val % J = 0 → ¬t.val % J = J - 1 → ∀ y,
      f t.val t.isLt y = f (t.val - 1) (Nat.lt_of_le_of_lt (Nat.sub_le _ _) t.isLt) y + p t y)
    (t : Fin N) (h : t.val % J = J - 1) (y : ι) :
    f (t.val - 1) (Nat.lt_of_le_of_lt (Nat.sub_le _ _) t.isLt) y + p t y
      = ∑ s : Fin J, p ⟨J * (t.val / J) + s.val, run_lt t h s⟩ y := by
  have same : ∀ {n n' : ℕ} (e : n = n') (hn : n < N) (hn' : n' < N), f n hn y = f n' hn' y := by
    intro n n' e hn hn'; subst e; rfl
  have part : ∀ (q s : ℕ) (hs : s + 1 < J) (hn : J * q + s < N),
      f (J * q + s) hn y = ∑ k : Fin (s + 1), p ⟨J * q + k.val, by have := k.isLt; omega⟩ y := by
    intro q s
    induction s with
    | zero =>
      intro hs hn
      rw [first ⟨J * q + 0, hn⟩ (by simp) y, Fin.sum_univ_one]
      rfl
    | succ s ih =>
      intro hs hn
      have hm : (J * q + (s + 1)) % J = s + 1 := by rw [Nat.mul_add_mod]; exact Nat.mod_eq_of_lt (by omega)
      rw [next ⟨J * q + (s + 1), hn⟩ (by simp only [hm]; omega) (by simp only [hm]; omega) y,
        same (show J * q + (s + 1) - 1 = J * q + s by omega) _ (by omega), ih (by omega) (by omega),
        Fin.sum_univ_castSucc (n := s + 1)]
      rfl
  obtain ⟨K, rfl⟩ : ∃ K, J = K + 2 := ⟨J - 2, by omega⟩
  have hd := Nat.div_add_mod t.val (K + 2)
  rw [same (show t.val - 1 = (K + 2) * (t.val / (K + 2)) + K by omega) _ (by have := t.isLt; omega), part _ K (by omega),
    Fin.sum_univ_castSucc (n := K + 1)]
  refine congrArg₂ (· + ·) rfl (congrArg (fun u => p u y) (Fin.ext ?_))
  show t.val = (K + 2) * (t.val / (K + 2)) + (K + 1)
  omega

end Cert.Runs

end
-- ==== Proof.Scalars.lean ====
/- Facts about single extended reals that several of the value proofs share: the constant one half, a constant factor
   moved across a finite sum, and the logistic function written with the hyperbolic tangent. -/
module

public import Idealize.ShloMosaic.PureOps.Ideal.Laws
public import Idealize.ShloMosaic.Lib.IdealHost
public import Mathlib.Analysis.SpecialFunctions.Trigonometric.DerivHyp

@[expose] public section

noncomputable section

open Idealize.ShloMosaic

namespace Cert.Scalars

/-- The pattern of the constant one half. -/
theorem half_eq : Ideal.ofBits .f32 0x3F000000#32 = ((1 / 2 : ℝ) : EReal) := by
  simp [Ideal.ofBits, Ideal.ieee, -EReal.coe_mul]
  try norm_num

/-- A nonnegative real factor goes into a finite sum of extended reals, whatever the summands are. -/
theorem real_mul_sum {n : ℕ} {r : ℝ} (hr : 0 ≤ r) (f : Fin n → EReal) :
    ∑ k, (r : EReal) * f k = (r : EReal) * ∑ k, f k := by
  have h : ∀ s : Finset (Fin n), ∑ k ∈ s, (r : EReal) * f k = (r : EReal) * ∑ k ∈ s, f k := fun s => by
    classical
    induction s using Finset.induction_on with
    | empty => simp
    | insert a s ha ih =>
      rw [Finset.sum_insert ha, Finset.sum_insert ha, ih,
        EReal.left_distrib_of_nonneg_of_ne_top (by exact_mod_cast hr) (EReal.coe_ne_top r)]
  exact h Finset.univ

/-- Halving every summand halves the sum. -/
theorem half_mul_sum {n : ℕ} (f : Fin n → EReal) :
    ∑ k, Ideal.ofBits .f32 0x3F000000#32 * f k = Ideal.ofBits .f32 0x3F000000#32 * ∑ k, f k := by
  rw [half_eq]
  exact real_mul_sum (by norm_num) f

/-- On a real number, the logistic function and its form with the hyperbolic tangent agree. -/
theorem real_logistic (r : ℝ) : 1 / 2 * Real.tanh (1 / 2 * r) + 1 / 2 = 1 / (1 + Real.exp (-r)) := by
  have e1 : Real.exp (1 / 2 * r) ≠ 0 := (Real.exp_pos _).ne'
  have e2 : Real.exp (-r) = Real.exp (-(1 / 2 * r)) * Real.exp (-(1 / 2 * r)) := by
    rw [← Real.exp_add]; congr 1; ring
  have e3 : Real.exp (1 / 2 * r) * Real.exp (-(1 / 2 * r)) = 1 := by
    rw [← Real.exp_add]; simp
  have p1 := Real.exp_pos (1 / 2 * r)
  have p2 := Real.exp_pos (-(1 / 2 * r))
  rw [Real.tanh_eq_sinh_div_cosh, Real.sinh_eq, Real.cosh_eq, e2]
  generalize Real.exp (1 / 2 * r) = a at *
  generalize Real.exp (-(1 / 2 * r)) = b at *
  have ha : a = 1 / b := by field_simp; exact e3
  subst ha
  field_simp
  ring

/-- The logistic function `1 / (1 + e^(-x))` at every extended real is `½ · tanh (½ · x) + ½`. -/
theorem logistic_eq (x : EReal) :
    Ideal.ofBits .f32 0x3F000000#32 * Ideal.tanh (Ideal.ofBits .f32 0x3F000000#32 * x) + Ideal.ofBits .f32 0x3F000000#32
      = Ideal.div 1 (1 + Ideal.exp (-x)) := by
  rw [half_eq]
  induction x with
  | bot =>
    rw [EReal.coe_mul_bot_of_pos (by norm_num), Ideal.tanh_bot, EReal.neg_bot, Ideal.exp_top, EReal.add_top_of_ne_bot (by decide)]
    rw [Ideal.div, if_neg (by decide), EReal.inv_top, mul_zero]
    have : ((1 / 2 : ℝ) : EReal) * (-1) = ((-(1 / 2) : ℝ) : EReal) := by
      rw [show (-1 : EReal) = ((-1 : ℝ) : EReal) by norm_num, ← EReal.coe_mul]; norm_num
    rw [this, ← EReal.coe_add]; norm_num
  | top =>
    rw [EReal.coe_mul_top_of_pos (by norm_num), Ideal.tanh_top, EReal.neg_top, Ideal.exp_bot, add_zero, mul_one,
      ← EReal.coe_add]
    rw [show (1 : EReal) = ((1 : ℝ) : EReal) from rfl, Ideal.div_coe (by norm_num), ← EReal.coe_mul]
    norm_num
  | coe r =>
    rw [← EReal.coe_mul, Ideal.tanh_coe, ← EReal.coe_neg, Ideal.exp_coe, ← EReal.coe_mul, ← EReal.coe_add]
    rw [show (1 : EReal) = ((1 : ℝ) : EReal) from rfl, ← EReal.coe_add,
      Ideal.div_coe (by positivity), ← EReal.coe_mul, real_logistic, one_mul]

end Cert.Scalars

end
-- ==== Proof.DwdValue.lean ====
/- The weight gradient of the down projection: a product accumulated over four blocks of tokens in a buffer of the
   kernel's own, halved at the last block and written out. The reference halves the factor instead. -/
module

public import proofs.«01_k».proof.Proof.Gen.DwdIdeal.Frame
public import proofs.«01_k».proof.Proof.Gen.DwdRefIdeal.Read
public import proofs.«01_k».proof.Proof.Runs
public import proofs.«01_k».proof.Proof.Scalars
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem

namespace Cert.DwdIdeal.Val

open Cert.DwdIdeal Cert.DwdIdeal.Gen
open Cert.DwdRefIdeal.Read

variable (m : (ℓ : Loc nD τ sig) → Buf (Elt Ideal) ℓ)

/-- Which tile of each array a grid point reads and writes. -/
theorem tiles : ∀ t : Fin cfg0.N, win0_0.index t = ![t.val % 4, t.val / 8] ∧ win0_1.index t = ![t.val % 4, t.val / 4 % 2]
    ∧ win0_2.index t = ![t.val / 8, 0, 0, t.val / 4 % 2] :=
  (by decide +kernel : ∀ t : Fin grid0.N, _)

/-- The product over one block of tokens. -/
def part (c : Dev nD) (t : Fin cfg0.N) : FVec Ideal S1408x1024 .f32 := k0_pay1 (iblk m c 0 t) (iblk m c 1 t)

/-- The first block of a run starts the sum. -/
theorem carried_first (c : Dev nD) (t : Fin cfg0.N) (h : t.val % 4 = 0) (y : S1408x1024.Idx) :
    (outsAt0 m c t.val t.isLt).2 y = part m c t y := by
  rw [outsAt0_A m c t h (by omega) (by omega)]
  frame_out
  pointwise [k0_pay2, part]

/-- A middle block adds its product. -/
theorem carried_next (c : Dev nD) (t : Fin cfg0.N) (h : ¬t.val % 4 = 0) (h' : ¬t.val % 4 = 4 - 1) (y : S1408x1024.Idx) :
    (outsAt0 m c t.val t.isLt).2 y
      = (outsAt0 m c (t.val - 1) (Nat.lt_of_le_of_lt (Nat.sub_le _ _) t.isLt)).2 y + part m c t y := by
  rw [outsAt0_B m c t (by omega) (by omega) (by omega)]
  frame_out
  rw [read_unread_whole]
  pointwise [k0_pay3, part]

/-- The last block writes out half of the finished sum. -/
theorem written (c : Dev nD) (t : Fin cfg0.N) (h : t.val % 4 = 4 - 1) (y : S1x1x1408x1024.Idx) :
    (outsAt0 m c t.val t.isLt).1 y
      = ((outsAt0 m c (t.val - 1) (Nat.lt_of_le_of_lt (Nat.sub_le _ _) t.isLt)).2 (ix2 (y 2) (y 3))
          + part m c t (ix2 (y 2) (y 3))) * Ideal.ofBits .f32 0x3F000000#32 := by
  rw [outsAt0_C m c t (by omega) (by omega) h]
  frame_out
  rw [read_unread_whole]
  pointwise [k0_pay4, part]

/-- The product over one block of tokens, as a sum over the block's tokens. -/
theorem part_eq (x0 : FVec Ideal S2048x1408 .bf16) (x1 : FVec Ideal S2048x1024 .bf16) (y : S1408x1024.Idx) :
    k0_pay1 (F := Ideal) x0 x1 y = ∑ k : Fin 2048, x0 (ix2 k (y 0)) * x1 (ix2 k (y 1)) := by
  pointwise [k0_pay1]

/-- The reference's element: half of the sum over all tokens. -/
theorem ref_eq (a : FVec Ideal Cert.DwdRefIdeal.S8192x5632 .bf16) (d : FVec Ideal Cert.DwdRefIdeal.S8192x2048 .bf16)
    (i : Cert.DwdRefIdeal.S4x1x1408x2048.Idx) :
    val_main_v11 (F := Ideal) a d i = Ideal.ofBits .f32 0x3F000000#32 * ∑ k : Fin 8192,
      d (ix2 k (i 3)) * a (ix2 k ⟨(i 0).val * 1408 + (i 2).val, by idx_bounds i; omega⟩) := by
  rw [← Cert.Scalars.half_mul_sum]
  pointwise [val_main_v11, val_main_v10, val_main_v9, val_main_v8, val_main_v7, val_main_v6, val_main_cst_1, val_main_v5,
    val_main_v1]
  simp only [mul_assoc]

/-- The whole result array. -/
theorem array (c : Dev nD) : (dats m 0 c).arrAt 2 (cfgs 0).N
    = val_main_v11 (F := Ideal) (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2, written m c t h, Cert.Runs.total (fun n h => (outsAt0 m c n h).2) (part m c) (by decide)
    (carried_first m c) (carried_next m c) t h, ref_eq, mul_comm]
  congr 1
  simp only [part, part_eq]
  refine Fin.sum_mul_add_congr fun s k hl => ?_
  rw [mul_comm]
  blk_point [iblk, V, tiles t, tiles ⟨_, Cert.Runs.run_lt t h s⟩]

end Cert.DwdIdeal.Val

end
-- ==== Proof.DwdClaim.lean ====
/- The algebraic claim of the gradient of a feed-forward block's down weight: the idealised kernel's run and the reference's end with equal arrays. -/
module

public import proofs.«01_k».proof.Defs
public import proofs.«01_k».proof.Proof.DwdValue
public import proofs.«01_k».proof.Proof.Gen.DwdIdeal.Value
public import proofs.«01_k».proof.Proof.Gen.DwdRefIdeal
public import Idealize.ShloMosaic.Lib.Claim

@[expose] public section

noncomputable section

open Idealize.ShloMosaic Idealize.ShloMosaic.TcCoe Idealize.SL.Sem

namespace Cert.DwdClaim

/-- The reference runs, its arguments unchanged. -/
theorem reference_runs : Cert.quiescent_DwdRefIdeal := by
  intro m g hpre
  hlo_run
  · intro c; simp
  · exact sem_eq_zero_of_no_sems (sig := Cert.DwdRefIdeal.sig) (by decide) _

/-- The kernel's arrays are the reference's. -/
theorem algebraic : Cert.algebraic_DwdIdeal_DwdRefIdeal := by
  pair_intro
  · run_from Cert.DwdIdeal.Gen.run_main m g
  · hlo_run
    exact (Cert.DwdIdeal.Val.array m c).symm

end Cert.DwdClaim

end
-- ==== Proof.DhValue.lean ====
/- The gradient of the block's normalised input: the product of the two halves' gradients with the transposed weight,
   accumulated over the four column shards of the weight. -/
module

public import proofs.«01_k».proof.Proof.Gen.DhIdeal.Frame
public import proofs.«01_k».proof.Proof.Gen.DhRefIdeal.Read
public import proofs.«01_k».proof.Proof.Runs
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem

namespace Cert.DhIdeal.Val

open Cert.DhIdeal Cert.DhIdeal.Gen
open Cert.DhRefIdeal.Read

variable (m : (ℓ : Loc nD τ sig) → Buf (Elt Ideal) ℓ)

/-- Which tile of each array a grid point reads and writes. -/
theorem tiles : ∀ t : Fin cfg0.N, win0_0.index t = ![t.val % 4 / 2, 0, t.val / 8, t.val % 4 % 2]
    ∧ win0_1.index t = ![t.val % 4, 0, t.val / 4 % 2, 0] ∧ win0_2.index t = ![0, t.val / 4 % 2]
    ∧ win0_3.index t = ![t.val / 8, t.val / 4 % 2] :=
  (by decide +kernel : ∀ t : Fin grid0.N, _)

/-- The product over one shard of the contracted axis. -/
def part (c : Dev nD) (t : Fin cfg0.N) : FVec Ideal S1024x1024 .f32 := k0_pay1 (iblk m c 0 t) (iblk m c 1 t)

/-- The bias row is zero. -/
theorem bias_zero (c : Dev nD) (t : Fin cfg0.N) (y : S1x1024.Idx) : iblk m c 2 t y = (0 : EReal) := by
  blk_simp [iblk]
  entry_read
  pointwise []

/-- The first shard starts the sum. -/
theorem carried_first (c : Dev nD) (t : Fin cfg0.N) (h : t.val % 4 = 0) (y : S1024x1024.Idx) :
    (outsAt0 m c t.val t.isLt).2 y = part m c t y := by
  rw [outsAt0_A m c t h (by omega) (by omega)]
  frame_out
  pointwise [k0_pay2, part]

/-- A middle shard adds its product. -/
theorem carried_next (c : Dev nD) (t : Fin cfg0.N) (h : ¬t.val % 4 = 0) (h' : ¬t.val % 4 = 4 - 1) (y : S1024x1024.Idx) :
    (outsAt0 m c t.val t.isLt).2 y
      = (outsAt0 m c (t.val - 1) (Nat.lt_of_le_of_lt (Nat.sub_le _ _) t.isLt)).2 y + part m c t y := by
  rw [outsAt0_B m c t (by omega) (by omega) (by omega)]
  frame_out
  rw [read_unread_whole]
  pointwise [k0_pay3, part]

/-- The last shard writes out the finished sum, the zero bias added. -/
theorem written (c : Dev nD) (t : Fin cfg0.N) (h : t.val % 4 = 4 - 1) (y : S1024x1024.Idx) :
    (outsAt0 m c t.val t.isLt).1 y
      = (outsAt0 m c (t.val - 1) (Nat.lt_of_le_of_lt (Nat.sub_le _ _) t.isLt)).2 y + part m c t y := by
  rw [outsAt0_C m c t (by omega) (by omega) h]
  frame_out
  rw [read_unread_whole]
  pointwise [k0_pay4, part]
  rw [bias_zero, add_zero]

/-- The product over one shard, as a sum over the shard's columns. -/
theorem part_eq (x0 x1 : FVec Ideal S1x1x1024x2816 .bf16) (y : S1024x1024.Idx) :
    k0_pay1 (F := Ideal) x0 x1 y = ∑ k : Fin 2816, x0 (ix4 0 0 (y 0) k) * x1 (ix4 0 0 (y 1) k) := by
  pointwise [k0_pay1]

/-- The gradient of the joined halves at a column of both. -/
def joined (g : FVec Ideal Cert.DhRefIdeal.S2x1x8192x5632 .bf16) (r : Fin 8192) (l : Fin 11264) : EReal :=
  if h : l.val < 5632 then g (ix4 0 0 r ⟨l.val, h⟩) else g (ix4 1 0 r ⟨l.val - 5632, by omega⟩)

/-- The reference's element: one sum over the columns of both halves. -/
theorem ref_eq (g : FVec Ideal Cert.DhRefIdeal.S2x1x8192x5632 .bf16) (w : FVec Ideal Cert.DhRefIdeal.S4x1x2048x2816 .bf16)
    (i : Cert.DhRefIdeal.S8192x2048.Idx) :
    val_main_v13 (F := Ideal) g w i = ∑ l : Fin 11264, joined g (i 0) l
      * w (ix4 ⟨l.val / 2816, by omega⟩ 0 (i 1) ⟨l.val % 2816, by omega⟩) := by
  pointwise [val_main_v13, val_main_v12, val_main_v9, val_main_v8, val_main_v7, val_main_v6, val_main_v5, val_main_v4,
    val_main_v3, val_main_v2, val_main_v1, val_main_v0, joined]

/-- The whole result array. -/
theorem array (c : Dev nD) : (dats m 0 c).arrAt 3 (cfgs 0).N
    = val_main_v13 (F := Ideal) (m ((c : Thread nD τ).loc main_arg0)) (m ((c : Thread nD τ).loc main_arg1)) := by
  refine (dats m 0 c).arrAt_eq_of_covers 3 _ (by decide +kernel) fun t hf y => ?_
  have h := (flush0_3 t).mp hf
  blk_simp
  rw [after0_3, written m c t h, Cert.Runs.total (fun n h => (outsAt0 m c n h).2) (part m c) (by decide)
    (carried_first m c) (carried_next m c) t h, ref_eq]
  simp only [part, part_eq]
  refine Fin.sum_mul_add_congr fun s k hl => ?_
  unfold joined
  dsimp only
  blk_point [iblk, V, tiles t, tiles ⟨_, Cert.Runs.run_lt t h s⟩]

end Cert.DhIdeal.Val

end
-- ==== Proof.DhClaim.lean ====
/- The algebraic claim of the gradient of a feed-forward block's input: the idealised kernel's run and the reference's end with equal arrays. -/
module

public import proofs.«01_k».proof.Defs
public import proofs.«01_k».proof.Proof.DhValue
public import proofs.«01_k».proof.Proof.Gen.DhIdeal.Value
public import proofs.«01_k».proof.Proof.Gen.DhRefIdeal
public import Idealize.ShloMosaic.Lib.Claim

@[expose] public section

noncomputable section

open Idealize.ShloMosaic Idealize.ShloMosaic.TcCoe Idealize.SL.Sem

namespace Cert.DhClaim

/-- The reference runs, its arguments unchanged. -/
theorem reference_runs : Cert.quiescent_DhRefIdeal := by
  intro m g hpre
  hlo_run
  · intro c; simp
  · exact sem_eq_zero_of_no_sems (sig := Cert.DhRefIdeal.sig) (by decide) _

/-- The kernel's arrays are the reference's. -/
theorem algebraic : Cert.algebraic_DhIdeal_DhRefIdeal := by
  pair_intro
  · run_from Cert.DhIdeal.Gen.run_main m g
  · hlo_run
    exact (Cert.DhIdeal.Val.array m c).symm

end Cert.DhClaim

end
-- ==== Proof.DactValue.lean ====
/- The gradient of a feed-forward block's gate and of the values it multiplies: every grid point computes one tile of
   both. The logistic function is written with the hyperbolic tangent in the kernel and with the exponential in the
   reference, and the slope of the gate is one product in the kernel and a sum of two terms in the reference. -/
module

public import proofs.«01_k».proof.Proof.Gen.DactIdeal.Frame
public import proofs.«01_k».proof.Proof.Gen.DactRefIdeal.Read
public import proofs.«01_k».proof.Proof.Scalars
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.DactIdeal.Val

open Cert.DactIdeal Cert.DactIdeal.Gen
open Cert.DactRefIdeal.Read

/-- Which tile of each array a grid point reads and writes. -/
theorem tiles : ∀ t : Fin cfg0.N, win0_0.index t = ![t.val % 8, 0] ∧ win0_1.index t = ![0, 0, t.val / 8, 0]
    ∧ win0_2.index t = ![t.val % 8, t.val / 8] ∧ win0_3.index t = ![t.val % 8, t.val / 8]
    ∧ win0_4.index t = ![0, 0, t.val % 8, t.val / 8] :=
  (by decide +kernel : ∀ t : Fin grid0.N, _)

/-- The logistic function at an extended real. -/
def gate (x : EReal) : EReal := Ideal.div 1 (1 + Ideal.exp (-x))

/-- The slope of the gate as one product. -/
theorem slope_eq (x : EReal) : gate x + x * (gate x * (1 - gate x)) = gate x * (1 + x * (1 - gate x)) := by
  unfold gate
  induction x with
  | bot =>
    have e : Ideal.div 1 (1 + Ideal.exp (-⊥)) = 0 := by
      rw [EReal.neg_bot, Ideal.exp_top, EReal.add_top_of_ne_bot (by decide), Ideal.div, if_neg (by decide), EReal.inv_top, mul_zero]
    rw [e]; simp
  | top =>
    have e : Ideal.div 1 (1 + Ideal.exp (-⊤)) = 1 := by
      rw [EReal.neg_top, Ideal.exp_bot, add_zero, show (1 : EReal) = ((1 : ℝ) : EReal) from rfl, Ideal.div_coe (by norm_num), ← EReal.coe_mul]
      norm_num
    have z : (1 : EReal) - 1 = 0 := by
      rw [show (1 : EReal) = ((1 : ℝ) : EReal) from rfl, ← EReal.coe_sub]; norm_num
    rw [e, z]; simp
  | coe r =>
    have e : Ideal.div 1 (1 + Ideal.exp (-(r : EReal))) = ((1 / (1 + Real.exp (-r)) : ℝ) : EReal) := by
      rw [← EReal.coe_neg, Ideal.exp_coe, show (1 : EReal) = ((1 : ℝ) : EReal) from rfl, ← EReal.coe_add,
        Ideal.div_coe (by positivity), ← EReal.coe_mul, one_mul, one_div]
    rw [e, show (1 : EReal) = ((1 : ℝ) : EReal) from rfl]
    generalize 1 / (1 + Real.exp (-r)) = s
    simp only [← EReal.coe_sub, ← EReal.coe_mul, ← EReal.coe_add]
    congr 1
    ring

/-- A tile of the gradient before the gate, as a sum over the model axis. -/
theorem da_eq (x0 : FVec Ideal S1024x2048 .bf16) (x1 : FVec Ideal S1x1x1408x2048 .bf16) (y : S1024x1408.Idx) :
    k0_pay2 (F := Ideal) x0 x1 y
      = Ideal.ofBits .f32 0x3F000000#32 * ∑ k : Fin 2048, x0 (ix2 (y 0) k) * x1 (ix4 0 0 (y 1) k) := by
  pointwise [k0_pay2]

/-- The logistic function of a tile. -/
theorem sig_eq (x2 : FVec Ideal S1024x1408 .bf16) (y : S1024x1408.Idx) :
    k0_pay4 (F := Ideal) x2 y = gate (x2 y) := by
  rw [gate, ← Cert.Scalars.logistic_eq]
  pointwise [k0_pay4, k0_pay3]

/-- A tile of the gate's gradient. -/
theorem dg_eq (x0 : FVec Ideal S1024x2048 .bf16) (x1 : FVec Ideal S1x1x1408x2048 .bf16) (x2 x3 : FVec Ideal S1024x1408 .bf16)
    (y : S1x1x1024x1408.Idx) :
    k0_pay5 (F := Ideal) x0 x1 x2 x3 y = k0_pay2 (F := Ideal) x0 x1 (ix2 (y 2) (y 3)) * x3 (ix2 (y 2) (y 3))
      * gate (x2 (ix2 (y 2) (y 3))) * (1 + x2 (ix2 (y 2) (y 3)) * (1 - gate (x2 (ix2 (y 2) (y 3))))) := by
  rw [← sig_eq]
  pointwise [k0_pay5, k0_pay3]

/-- A tile of the other gradient. -/
theorem du_eq (x0 : FVec Ideal S1024x2048 .bf16) (x1 : FVec Ideal S1x1x1408x2048 .bf16) (x2 : FVec Ideal S1024x1408 .bf16)
    (y : S1x1x1024x1408.Idx) :
    k0_pay1 (F := Ideal) (k0_pay6 (F := Ideal) x0 x1 x2) y = k0_pay2 (F := Ideal) x0 x1 (ix2 (y 2) (y 3))
      * x2 (ix2 (y 2) (y 3)) * gate (x2 (ix2 (y 2) (y 3))) := by
  rw [← sig_eq]
  pointwise [k0_pay1, k0_pay6, k0_pay3]

/-- The reference's gradient before the gate. -/
theorem ref_da (d : FVec Ideal Cert.DactRefIdeal.S8192x2048 .bf16) (w : FVec Ideal Cert.DactRefIdeal.S1x1x5632x2048 .bf16)
    (i : Cert.DactRefIdeal.S8192x5632.Idx) :
    val_main_v11 (F := Ideal) d w i
      = Ideal.ofBits .f32 0x3F000000#32 * ∑ k : Fin 2048, d (ix2 (i 0) k) * w (ix4 0 0 (i 1) k) := by
  rw [← Cert.Scalars.half_mul_sum]
  pointwise [val_main_v11, val_main_v10, val_main_v9, val_main_cst_1, val_main_v8, val_main_v1, val_main_v0]
  simp only [mul_assoc]

/-- The reference's slope of the gate. -/
theorem ref_slope (g : FVec Ideal Cert.DactRefIdeal.S8192x5632 .bf16) (i : Cert.DactRefIdeal.S8192x5632.Idx) :
    val_main_v14 (F := Ideal) g i = gate (g i) + g i * (gate (g i) * (1 - gate (g i))) := by
  pointwise [val_main_v14, val_main_call1_v2, val_main_call1_v1, val_main_call1_v0, val_main_v13, val_main_cst_2,
    val_main_v12_1, val_main_v12_2, val_main_call0_v7, val_main_call0_v6, val_main_call0_cst_1, val_main_call0_v4, val_main_call0_cst_0,
    val_main_call0_v3, val_main_call0_v2, val_main_call0_cst, val_main_call0_v1, val_main_call0_v0, val_main_v2, gate]

/-- The reference's gate. -/
theorem ref_silu (g : FVec Ideal Cert.DactRefIdeal.S8192x5632 .bf16) (i : Cert.DactRefIdeal.S8192x5632.Idx) :
    val_main_v17 (F := Ideal) g i = g i * gate (g i) := by
  pointwise [val_main_v17, val_main_call2_v5, val_main_call2_v4, val_main_call2_cst_0,
    val_main_call2_v3, val_main_call2_v2, val_main_call2_cst, val_main_call2_v1, val_main_call2_v0, val_main_v2, gate]

/-- The first of the reference's two results. -/
theorem ref_dg (d : FVec Ideal Cert.DactRefIdeal.S8192x2048 .bf16) (w : FVec Ideal Cert.DactRefIdeal.S1x1x5632x2048 .bf16)
    (g u : FVec Ideal Cert.DactRefIdeal.S8192x5632 .bf16) (i : Cert.DactRefIdeal.S2x1x8192x5632.Idx) (h : (i 0).val = 0) :
    val_main_v23 (F := Ideal) d w g u i = val_main_v11 (F := Ideal) d w (ix2 (i 2) (i 3)) * u (ix2 (i 2) (i 3))
      * val_main_v14 (F := Ideal) g (ix2 (i 2) (i 3)) := by
  pointwise [val_main_v23, val_main_v22, val_main_v21, val_main_v20, val_main_v19, val_main_v16, val_main_v15, val_main_v3]
  exact dif_pos (by omega)

/-- The second of the reference's two results. -/
theorem ref_du (d : FVec Ideal Cert.DactRefIdeal.S8192x2048 .bf16) (w : FVec Ideal Cert.DactRefIdeal.S1x1x5632x2048 .bf16)
    (g u : FVec Ideal Cert.DactRefIdeal.S8192x5632 .bf16) (i : Cert.DactRefIdeal.S2x1x8192x5632.Idx) (h : (i 0).val = 1) :
    val_main_v23 (F := Ideal) d w g u i = val_main_v11 (F := Ideal) d w (ix2 (i 2) (i 3))
      * val_main_v17 (F := Ideal) g (ix2 (i 2) (i 3)) := by
  pointwise [val_main_v23, val_main_v22, val_main_v21, val_main_v20, val_main_v19, val_main_v18]
  exact dif_neg (by omega)

variable (m : (ℓ : Loc nD τ sig) → Buf (Elt Ideal) ℓ)

/-- The gradient before the gate, a tile against the reference. -/
theorem da_tile (c : Dev nD) (t : Fin cfg0.N) (y : S1024x1408.Idx) (i : Cert.DactRefIdeal.S8192x5632.Idx)
    (h0 : (i 0).val = t.val % 8 * 1024 + (y 0).val) (h1 : (i 1).val = t.val / 8 * 1408 + (y 1).val) :
    k0_pay2 (F := Ideal) (iblk m c 0 t) (iblk m c 1 t) y
      = val_main_v11 (F := Ideal) (m ((c : Thread nD τ).loc main_arg0)) (m ((c : Thread nD τ).loc main_arg1)) i := by
  rw [ref_da, da_eq]
  blk_point [iblk, V, tiles t]

/-- The gate's block. -/
theorem g_tile (c : Dev nD) (t : Fin cfg0.N) (y : S1024x1408.Idx) (i : Cert.DactRefIdeal.S8192x5632.Idx)
    (h0 : (i 0).val = t.val % 8 * 1024 + (y 0).val) (h1 : (i 1).val = t.val / 8 * 1408 + (y 1).val) :
    (iblk m c 2 t : FVec Ideal S1024x1408 .bf16) y = (m ((c : Thread nD τ).loc main_arg2) : FVec Ideal Cert.DactRefIdeal.S8192x5632 .bf16) i := by
  blk_point [iblk, V, tiles t]

/-- The block of the values the gate multiplies. -/
theorem u_tile (c : Dev nD) (t : Fin cfg0.N) (y : S1024x1408.Idx) (i : Cert.DactRefIdeal.S8192x5632.Idx)
    (h0 : (i 0).val = t.val % 8 * 1024 + (y 0).val) (h1 : (i 1).val = t.val / 8 * 1408 + (y 1).val) :
    (iblk m c 3 t : FVec Ideal S1024x1408 .bf16) y = (m ((c : Thread nD τ).loc main_arg3) : FVec Ideal Cert.DactRefIdeal.S8192x5632 .bf16) i := by
  blk_point [iblk, V, tiles t]

/-- The two stored tiles against the reference. -/
theorem stored (c : Dev nD) (t : Fin cfg0.N) (y : S2x1x1024x1408.Idx) (i : Cert.DactRefIdeal.S2x1x8192x5632.Idx)
    (h0 : (i 0).val = (y 0).val) (h2 : (i 2).val = t.val % 8 * 1024 + (y 2).val) (h3 : (i 3).val = t.val / 8 * 1408 + (y 3).val) :
    View.canon (Val := Elt Ideal) (e := .bf16) (s := S2x1x1024x1408)
      [⟨r0_4, k0_pay1 (k0_pay6 (iblk m c 0 t) (iblk m c 1 t) (iblk m c 2 t))⟩,
        ⟨r0_3, k0_pay5 (iblk m c 0 t) (iblk m c 1 t) (iblk m c 2 t) (iblk m c 3 t)⟩] y
      = val_main_v23 (F := Ideal) (m ((c : Thread nD τ).loc main_arg0)) (m ((c : Thread nD τ).loc main_arg1))
        (m ((c : Thread nD τ).loc main_arg2)) (m ((c : Thread nD τ).loc main_arg3)) i := by
  canon_tiles x h
  · rw [ref_du _ _ _ _ _ (by omega), du_eq, ref_silu,
      da_tile m c t _ (ix2 (i 2) (i 3)) (by dsimp only [ix2]; omega) (by dsimp only [ix2]; omega),
      g_tile m c t _ (ix2 (i 2) (i 3)) (by dsimp only [ix2]; omega) (by dsimp only [ix2]; omega)]
    exact mul_assoc _ _ _
  · rw [ref_dg _ _ _ _ _ (by omega), dg_eq, ref_slope, slope_eq,
      da_tile m c t _ (ix2 (i 2) (i 3)) (by dsimp only [ix2]; omega) (by dsimp only [ix2]; omega),
      g_tile m c t _ (ix2 (i 2) (i 3)) (by dsimp only [ix2]; omega) (by dsimp only [ix2]; omega),
      u_tile m c t _ (ix2 (i 2) (i 3)) (by dsimp only [ix2]; omega) (by dsimp only [ix2]; omega)]
    exact mul_assoc _ _ _

/-- The whole result array. -/
theorem array (c : Dev nD) : (dats m 0 c).arrAt 4 (cfgs 0).N
    = val_main_v23 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t _ y => ?_
  blk_simp
  rw [after0_4]
  frame_out
  refine stored m c t y _ ?_ ?_ ?_ <;> (blk_simp [tiles t] <;> try omega)

end Cert.DactIdeal.Val

end
-- ==== Proof.DactClaim.lean ====
/- The algebraic claim of a feed-forward block's gate gradient: the idealised kernel's run and the reference's end with equal arrays. -/
module

public import proofs.«01_k».proof.Defs
public import proofs.«01_k».proof.Proof.DactValue
public import proofs.«01_k».proof.Proof.Gen.DactIdeal.Value
public import proofs.«01_k».proof.Proof.Gen.DactRefIdeal
public import proofs.«01_k».proof.Proof.Gen.DactRefIdeal.Run
public import Idealize.ShloMosaic.Lib.Claim

@[expose] public section

noncomputable section

open Idealize.ShloMosaic Idealize.ShloMosaic.TcCoe Idealize.SL.Sem

namespace Cert.DactRefIdeal.Val

open Cert.DactRefIdeal Cert.DactRefIdeal.Read

/-- Every execution of the reference ends with its results at their named terms and with its arguments as they were. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23) = val_main_v23 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(h c).1.trans (val_main_v23_eq (F := Ideal) (m ((c.tc : Thread nD τ).loc main_arg0)) (m ((c.tc : Thread nD τ).loc main_arg1)) (m ((c.tc : Thread nD τ).loc main_arg2)) (m ((c.tc : Thread nD τ).loc main_arg3))),
      (h c).2⟩)
    (Cert.DactRefIdeal.Value.run m ρ)

end Cert.DactRefIdeal.Val

namespace Cert.DactClaim

/-- The reference runs, its arguments unchanged. -/
theorem reference_runs : Cert.quiescent_DactRefIdeal := by
  intro m g hpre
  hlo_run
  · intro c; simp
  · exact sem_eq_zero_of_no_sems (sig := Cert.DactRefIdeal.sig) (by decide) _

/-- The kernel's arrays are the reference's. -/
theorem algebraic : Cert.algebraic_DactIdeal_DactRefIdeal := by
  pair_intro
  · run_from Cert.DactIdeal.Gen.run_main m g
  · run_from Cert.DactRefIdeal.Val.run_named m' g'
    exact (Cert.DactIdeal.Val.array m c).symm

end Cert.DactClaim

end
-- ==== Proof.DwinValue.lean ====
/- The weight gradient of the recurrent mixer's input projection: every grid point writes one whole tile of the product. -/
module

public import proofs.«01_k».proof.Proof.Gen.DwinIdeal.Frame
public import proofs.«01_k».proof.Proof.Gen.DwinRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.DwinIdeal.Val

open Cert.DwinIdeal Cert.DwinIdeal.Gen
open Cert.DwinRefIdeal.Read

variable (m : (ℓ : Loc nD τ sig) → Buf (Elt Ideal) ℓ)

/-- Which tile of each array a grid point reads and writes. -/
theorem tiles : ∀ t : Fin cfg0.N, win0_0.index t = ![0, t.val / 36]
    ∧ win0_1.index t = ![0, t.val % 36]
    ∧ win0_2.index t = ![t.val / 36, t.val % 36] :=
  (by decide +kernel : ∀ t : Fin grid0.N, _)

/-- The whole result array. -/
theorem array (c : Dev nD) : (dats m 0 c).arrAt 2 (cfgs 0).N
    = val_main_v6 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, val_main_v6, val_main_v5, val_main_v4, val_main_v3, val_main_v2, val_main_v1, val_main_v0,
    val_main_cst]
  change (_ : EReal) = _
  refine Finset.sum_congr rfl fun k _ => ?_
  rw [mul_comm]
  blk_point [iblk, V, tiles t]

end Cert.DwinIdeal.Val

end
-- ==== Proof.DwinClaim.lean ====
/- The algebraic claim of the weight gradient of the recurrent mixer's input projection: the idealised kernel's run and the reference's end with equal arrays. -/
module

public import proofs.«01_k».proof.Defs
public import proofs.«01_k».proof.Proof.DwinValue
public import proofs.«01_k».proof.Proof.Gen.DwinIdeal.Value
public import proofs.«01_k».proof.Proof.Gen.DwinRefIdeal
public import Idealize.ShloMosaic.Lib.Claim

@[expose] public section

set_option maxRecDepth 16384

noncomputable section

open Idealize.ShloMosaic Idealize.ShloMosaic.TcCoe Idealize.SL.Sem

namespace Cert.DwinClaim

/-- The reference runs, its arguments unchanged. -/
theorem reference_runs : Cert.quiescent_DwinRefIdeal := by
  intro m g hpre
  hlo_run
  · intro c; simp
  · exact sem_eq_zero_of_no_sems (sig := Cert.DwinRefIdeal.sig) (by decide) _

/-- The kernel's arrays are the reference's. -/
theorem algebraic : Cert.algebraic_DwinIdeal_DwinRefIdeal := by
  pair_intro
  · run_from Cert.DwinIdeal.Gen.run_main m g
  · hlo_run
    exact (Cert.DwinIdeal.Val.array m c).symm

end Cert.DwinClaim

end
-- ==== Proof.Dh2Value.lean ====
/- The gradient of the recurrent mixer's normalised input: the product with the transposed weight, accumulated over
   three blocks of columns onto a residual gradient. -/
module

public import proofs.«01_k».proof.Proof.Gen.Dh2Ideal.Frame
public import proofs.«01_k».proof.Proof.Gen.Dh2RefIdeal.Read
public import proofs.«01_k».proof.Proof.Runs
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem

namespace Cert.Dh2Ideal.Val

open Cert.Dh2Ideal Cert.Dh2Ideal.Gen
open Cert.Dh2RefIdeal.Read

variable (m : (ℓ : Loc nD τ sig) → Buf (Elt Ideal) ℓ)

/-- Which tile of each array a grid point reads and writes. -/
theorem tiles : ∀ t : Fin cfg0.N, win0_0.index t = ![t.val / 6, t.val % 3]
    ∧ win0_1.index t = ![t.val / 3 % 2, t.val % 3]
    ∧ win0_2.index t = ![t.val / 6, t.val / 3 % 2]
    ∧ win0_3.index t = ![t.val / 6, t.val / 3 % 2] :=
  (by decide +kernel : ∀ t : Fin grid0.N, _)

/-- The product over one block of columns. -/
def part (c : Dev nD) (t : Fin cfg0.N) : FVec Ideal S1024x1024 .f32 := k0_pay1 (iblk m c 0 t) (iblk m c 1 t)

/-- The first block starts the sum. -/
theorem carried_first (c : Dev nD) (t : Fin cfg0.N) (h : t.val % 3 = 0) (y : S1024x1024.Idx) :
    (outsAt0 m c t.val t.isLt).2 y = part m c t y := by
  rw [outsAt0_A m c t h (by omega) (by omega)]
  frame_out
  pointwise [k0_pay2, part]

/-- A middle block adds its product. -/
theorem carried_next (c : Dev nD) (t : Fin cfg0.N) (h : ¬t.val % 3 = 0) (h' : ¬t.val % 3 = 3 - 1) (y : S1024x1024.Idx) :
    (outsAt0 m c t.val t.isLt).2 y = (outsAt0 m c (t.val - 1) (Nat.lt_of_le_of_lt (Nat.sub_le _ _) t.isLt)).2 y + part m c t y := by
  rw [outsAt0_B m c t (by omega) (by omega) (by omega)]
  frame_out
  rw [read_unread_whole]
  pointwise [k0_pay3, part]

/-- The last block writes out the finished sum and the residual. -/
theorem written (c : Dev nD) (t : Fin cfg0.N) (h : t.val % 3 = 3 - 1) (y : S1024x1024.Idx) :
    (outsAt0 m c t.val t.isLt).1 y = (outsAt0 m c (t.val - 1) (Nat.lt_of_le_of_lt (Nat.sub_le _ _) t.isLt)).2 y + part m c t y + (show FVec Ideal S1024x1024 .f32 from iblk m c 2 t) y := by
  rw [outsAt0_C m c t (by omega) (by omega) h]
  frame_out
  rw [read_unread_whole]
  pointwise [k0_pay4, part]

/-- The product over one block, as a sum over the block's columns. -/
theorem part_eq (x0 : FVec Ideal S1024x3072 .bf16) (x1 : FVec Ideal S1024x3072 .bf16) (y : S1024x1024.Idx) :
    k0_pay1 (F := Ideal) x0 x1 y = ∑ k : Fin 3072, x0 (ix2 (y 0) k) * x1 (ix2 (y 1) k) := by
  pointwise [k0_pay1]

/-- The reference's element, the residual last. -/
theorem ref_eq (a : FVec Ideal Cert.Dh2RefIdeal.S8192x9216 .bf16) (d : FVec Ideal Cert.Dh2RefIdeal.S2048x9216 .bf16)
    (x : FVec Ideal Cert.Dh2RefIdeal.S8192x2048 .f32)
    (i : Cert.Dh2RefIdeal.S8192x2048.Idx) :
    val_main_v6 (F := Ideal) a d x i = (∑ l : Fin 9216, a (ix2 (i 0) l) * d (ix2 (i 1) l)) + x i := by
  pointwise [val_main_v6, val_main_v5, val_main_v4, val_main_v3, val_main_v2, val_main_v1, val_main_v0, val_main_cst]

/-- The whole result array. -/
theorem array (c : Dev nD) : (dats m 0 c).arrAt 3 (cfgs 0).N
    = val_main_v6 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have h := (flush0_3 t).mp hf
  blk_simp
  rw [after0_3, written m c t h, Cert.Runs.total (fun n h => (outsAt0 m c n h).2) (part m c) (by decide) (carried_first m c)
    (carried_next m c) t h, ref_eq]
  congr 1
  simp only [part, part_eq]
  refine Fin.sum_mul_add_congr fun s k hl => ?_
  blk_point [iblk, V, tiles t, tiles ⟨_, Cert.Runs.run_lt t h s⟩]

end Cert.Dh2Ideal.Val

end
-- ==== Proof.Dh2Claim.lean ====
/- The algebraic claim of the gradient of the recurrent mixer's normalised input: the idealised kernel's run and the reference's end with equal arrays. -/
module

public import proofs.«01_k».proof.Defs
public import proofs.«01_k».proof.Proof.Dh2Value
public import proofs.«01_k».proof.Proof.Gen.Dh2Ideal.Value
public import proofs.«01_k».proof.Proof.Gen.Dh2RefIdeal
public import Idealize.ShloMosaic.Lib.Claim

@[expose] public section

set_option maxRecDepth 16384

noncomputable section

open Idealize.ShloMosaic Idealize.ShloMosaic.TcCoe Idealize.SL.Sem

namespace Cert.Dh2Claim

/-- The reference runs, its arguments unchanged. -/
theorem reference_runs : Cert.quiescent_Dh2RefIdeal := by
  intro m g hpre
  hlo_run
  · intro c; simp
  · exact sem_eq_zero_of_no_sems (sig := Cert.Dh2RefIdeal.sig) (by decide) _

/-- The kernel's arrays are the reference's. -/
theorem algebraic : Cert.algebraic_Dh2Ideal_Dh2RefIdeal := by
  pair_intro
  · run_from Cert.Dh2Ideal.Gen.run_main m g
  · hlo_run
    exact (Cert.Dh2Ideal.Val.array m c).symm

end Cert.Dh2Claim

end
-- ==== Proof.DwoutValue.lean ====
/- The weight gradient of the recurrent mixer's output projection: a product accumulated over four blocks of tokens,
   written out in four shards of rows. -/
module

public import proofs.«01_k».proof.Proof.Gen.DwoutIdeal.Frame
public import proofs.«01_k».proof.Proof.Gen.DwoutRefIdeal.Read
public import proofs.«01_k».proof.Proof.Runs
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem

namespace Cert.DwoutIdeal.Val

open Cert.DwoutIdeal Cert.DwoutIdeal.Gen
open Cert.DwoutRefIdeal.Read

variable (m : (ℓ : Loc nD τ sig) → Buf (Elt Ideal) ℓ)

/-- Which tile of each array a grid point reads and writes. -/
theorem tiles : ∀ t : Fin cfg0.N, win0_0.index t = ![t.val % 4, t.val / 8]
    ∧ win0_1.index t = ![t.val % 4, t.val / 4 % 2]
    ∧ win0_2.index t = ![t.val / 8, 0, 0, t.val / 4 % 2] :=
  (by decide +kernel : ∀ t : Fin grid0.N, _)

/-- The product over one block of tokens. -/
def part (c : Dev nD) (t : Fin cfg0.N) : FVec Ideal S1024x1024 .f32 := k0_pay1 (iblk m c 0 t) (iblk m c 1 t)

/-- The first block starts the sum. -/
theorem carried_first (c : Dev nD) (t : Fin cfg0.N) (h : t.val % 4 = 0) (y : S1024x1024.Idx) :
    (outsAt0 m c t.val t.isLt).2 y = part m c t y := by
  rw [outsAt0_A m c t h (by omega) (by omega)]
  frame_out
  pointwise [k0_pay2, part]

/-- A middle block adds its product. -/
theorem carried_next (c : Dev nD) (t : Fin cfg0.N) (h : ¬t.val % 4 = 0) (h' : ¬t.val % 4 = 4 - 1) (y : S1024x1024.Idx) :
    (outsAt0 m c t.val t.isLt).2 y = (outsAt0 m c (t.val - 1) (Nat.lt_of_le_of_lt (Nat.sub_le _ _) t.isLt)).2 y + part m c t y := by
  rw [outsAt0_B m c t (by omega) (by omega) (by omega)]
  frame_out
  rw [read_unread_whole]
  pointwise [k0_pay3, part]

/-- The last block writes out the finished sum. -/
theorem written (c : Dev nD) (t : Fin cfg0.N) (h : t.val % 4 = 4 - 1) (y : S1x1x1024x1024.Idx) :
    (outsAt0 m c t.val t.isLt).1 y = (outsAt0 m c (t.val - 1) (Nat.lt_of_le_of_lt (Nat.sub_le _ _) t.isLt)).2 (ix2 (y 2) (y 3)) + part m c t (ix2 (y 2) (y 3)) := by
  rw [outsAt0_C m c t (by omega) (by omega) h]
  frame_out
  rw [read_unread_whole]
  pointwise [k0_pay4, part]

/-- The product over one block, as a sum over the block's tokens. -/
theorem part_eq (x0 : FVec Ideal S2048x1024 .bf16) (x1 : FVec Ideal S2048x1024 .bf16) (y : S1024x1024.Idx) :
    k0_pay1 (F := Ideal) x0 x1 y = ∑ k : Fin 2048, x0 (ix2 k (y 0)) * x1 (ix2 k (y 1)) := by
  pointwise [k0_pay1]

/-- The reference's element. -/
theorem ref_eq (a : FVec Ideal Cert.DwoutRefIdeal.S8192x4096 .bf16) (d : FVec Ideal Cert.DwoutRefIdeal.S8192x2048 .bf16)
    (i : Cert.DwoutRefIdeal.S4x1x1024x2048.Idx) :
    val_main_v7 (F := Ideal) a d i = ∑ k : Fin 8192, d (ix2 k (i 3)) * a (ix2 k ⟨(i 0).val * 1024 + (i 2).val, by idx_bounds i; omega⟩) := by
  pointwise [val_main_v7, val_main_v6, val_main_v5, val_main_v4, val_main_v3, val_main_v2, val_main_v1, val_main_v0,
    val_main_cst]

/-- The whole result array. -/
theorem array (c : Dev nD) : (dats m 0 c).arrAt 2 (cfgs 0).N
    = val_main_v7 (F := Ideal) (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2, written m c t h, Cert.Runs.total (fun n h => (outsAt0 m c n h).2) (part m c) (by decide) (carried_first m c)
    (carried_next m c) t h, ref_eq]
  simp only [part, part_eq]
  refine Fin.sum_mul_add_congr fun s k hl => ?_
  rw [mul_comm]
  blk_point [iblk, V, tiles t, tiles ⟨_, Cert.Runs.run_lt t h s⟩]

end Cert.DwoutIdeal.Val

end
-- ==== Proof.DwoutClaim.lean ====
/- The algebraic claim of the weight gradient of the recurrent mixer's output projection: the idealised kernel's run and the reference's end with equal arrays. -/
module

public import proofs.«01_k».proof.Defs
public import proofs.«01_k».proof.Proof.DwoutValue
public import proofs.«01_k».proof.Proof.Gen.DwoutIdeal.Value
public import proofs.«01_k».proof.Proof.Gen.DwoutRefIdeal
public import Idealize.ShloMosaic.Lib.Claim

@[expose] public section

set_option maxRecDepth 16384

noncomputable section

open Idealize.ShloMosaic Idealize.ShloMosaic.TcCoe Idealize.SL.Sem

namespace Cert.DwoutClaim

/-- The reference runs, its arguments unchanged. -/
theorem reference_runs : Cert.quiescent_DwoutRefIdeal := by
  intro m g hpre
  hlo_run
  · intro c; simp
  · exact sem_eq_zero_of_no_sems (sig := Cert.DwoutRefIdeal.sig) (by decide) _

/-- The kernel's arrays are the reference's. -/
theorem algebraic : Cert.algebraic_DwoutIdeal_DwoutRefIdeal := by
  pair_intro
  · run_from Cert.DwoutIdeal.Gen.run_main m g
  · hlo_run
    exact (Cert.DwoutIdeal.Val.array m c).symm

end Cert.DwoutClaim

end
-- ==== Proof.DmixValue.lean ====
/- The gradient of the recurrent mixer's output: every grid point writes one whole tile of the product with the
   transposed weight, whose rows lie in four shards. -/
module

public import proofs.«01_k».proof.Proof.Gen.DmixIdeal.Frame
public import proofs.«01_k».proof.Proof.Gen.DmixRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.DmixIdeal.Val

open Cert.DmixIdeal Cert.DmixIdeal.Gen
open Cert.DmixRefIdeal.Read

variable (m : (ℓ : Loc nD τ sig) → Buf (Elt Ideal) ℓ)

/-- Which tile of each array a grid point reads and writes. -/
theorem tiles : ∀ t : Fin cfg0.N, win0_0.index t = ![t.val / 4, 0]
    ∧ win0_1.index t = ![t.val % 4, 0, 0, 0]
    ∧ win0_2.index t = ![t.val / 4, t.val % 4] :=
  (by decide +kernel : ∀ t : Fin grid0.N, _)

/-- The whole result array. -/
theorem array (c : Dev nD) : (dats m 0 c).arrAt 2 (cfgs 0).N
    = val_main_v6 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, val_main_v6, val_main_v5, val_main_v4, val_main_v3, val_main_v2, val_main_cst, val_main_v1,
    val_main_v0]
  change (_ : EReal) = _
  refine Finset.sum_congr rfl fun k _ => ?_
  blk_point [iblk, V, tiles t]

end Cert.DmixIdeal.Val

end
-- ==== Proof.DmixClaim.lean ====
/- The algebraic claim of the gradient of the recurrent mixer's output: the idealised kernel's run and the reference's end with equal arrays. -/
module

public import proofs.«01_k».proof.Defs
public import proofs.«01_k».proof.Proof.DmixValue
public import proofs.«01_k».proof.Proof.Gen.DmixIdeal.Value
public import proofs.«01_k».proof.Proof.Gen.DmixRefIdeal
public import Idealize.ShloMosaic.Lib.Claim

@[expose] public section

noncomputable section

open Idealize.ShloMosaic Idealize.ShloMosaic.TcCoe Idealize.SL.Sem

namespace Cert.DmixClaim

/-- The reference runs, its arguments unchanged. -/
theorem reference_runs : Cert.quiescent_DmixRefIdeal := by
  intro m g hpre
  hlo_run
  · intro c; simp
  · exact sem_eq_zero_of_no_sems (sig := Cert.DmixRefIdeal.sig) (by decide) _

/-- The kernel's arrays are the reference's. -/
theorem algebraic : Cert.algebraic_DmixIdeal_DmixRefIdeal := by
  pair_intro
  · run_from Cert.DmixIdeal.Gen.run_main m g
  · hlo_run
    exact (Cert.DmixIdeal.Val.array m c).symm

end Cert.DmixClaim

end
-- ==== Proof.DwoValue.lean ====
/- The weight gradient of the attention's output projection: a product accumulated over four blocks of tokens, written
   out in four shards of rows. -/
module

public import proofs.«01_k».proof.Proof.Gen.DwoIdeal.Frame
public import proofs.«01_k».proof.Proof.Gen.DwoRefIdeal.Read
public import proofs.«01_k».proof.Proof.Runs
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem

namespace Cert.DwoIdeal.Val

open Cert.DwoIdeal Cert.DwoIdeal.Gen
open Cert.DwoRefIdeal.Read

variable (m : (ℓ : Loc nD τ sig) → Buf (Elt Ideal) ℓ)

/-- Which tile of each array a grid point reads and writes. -/
theorem tiles : ∀ t : Fin cfg0.N, win0_0.index t = ![t.val % 4, t.val / 8]
    ∧ win0_1.index t = ![t.val % 4, t.val / 4 % 2]
    ∧ win0_2.index t = ![t.val / 8, 0, 0, t.val / 4 % 2] :=
  (by decide +kernel : ∀ t : Fin grid0.N, _)

/-- The product over one block of tokens. -/
def part (c : Dev nD) (t : Fin cfg0.N) : FVec Ideal S512x1024 .f32 := k0_pay1 (iblk m c 0 t) (iblk m c 1 t)

/-- The first block starts the sum. -/
theorem carried_first (c : Dev nD) (t : Fin cfg0.N) (h : t.val % 4 = 0) (y : S512x1024.Idx) :
    (outsAt0 m c t.val t.isLt).2 y = part m c t y := by
  rw [outsAt0_A m c t h (by omega) (by omega)]
  frame_out
  pointwise [k0_pay2, part]

/-- A middle block adds its product. -/
theorem carried_next (c : Dev nD) (t : Fin cfg0.N) (h : ¬t.val % 4 = 0) (h' : ¬t.val % 4 = 4 - 1) (y : S512x1024.Idx) :
    (outsAt0 m c t.val t.isLt).2 y = (outsAt0 m c (t.val - 1) (Nat.lt_of_le_of_lt (Nat.sub_le _ _) t.isLt)).2 y + part m c t y := by
  rw [outsAt0_B m c t (by omega) (by omega) (by omega)]
  frame_out
  rw [read_unread_whole]
  pointwise [k0_pay3, part]

/-- The last block writes out the finished sum. -/
theorem written (c : Dev nD) (t : Fin cfg0.N) (h : t.val % 4 = 4 - 1) (y : S1x1x512x1024.Idx) :
    (outsAt0 m c t.val t.isLt).1 y = (outsAt0 m c (t.val - 1) (Nat.lt_of_le_of_lt (Nat.sub_le _ _) t.isLt)).2 (ix2 (y 2) (y 3)) + part m c t (ix2 (y 2) (y 3)) := by
  rw [outsAt0_C m c t (by omega) (by omega) h]
  frame_out
  rw [read_unread_whole]
  pointwise [k0_pay4, part]

/-- The product over one block, as a sum over the block's tokens. -/
theorem part_eq (x0 : FVec Ideal S2048x512 .bf16) (x1 : FVec Ideal S2048x1024 .bf16) (y : S512x1024.Idx) :
    k0_pay1 (F := Ideal) x0 x1 y = ∑ k : Fin 2048, x0 (ix2 k (y 0)) * x1 (ix2 k (y 1)) := by
  pointwise [k0_pay1]

/-- The reference's element. -/
theorem ref_eq (a : FVec Ideal Cert.DwoRefIdeal.S8192x2048 .bf16) (d : FVec Ideal Cert.DwoRefIdeal.S8192x2048 .bf16)
    (i : Cert.DwoRefIdeal.S4x1x512x2048.Idx) :
    val_main_v7 (F := Ideal) a d i = ∑ k : Fin 8192, d (ix2 k (i 3)) * a (ix2 k ⟨(i 0).val * 512 + (i 2).val, by idx_bounds i; omega⟩) := by
  pointwise [val_main_v7, val_main_v6, val_main_v5, val_main_v4, val_main_v3, val_main_v2, val_main_v1, val_main_v0,
    val_main_cst]

/-- The whole result array. -/
theorem array (c : Dev nD) : (dats m 0 c).arrAt 2 (cfgs 0).N
    = val_main_v7 (F := Ideal) (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2, written m c t h, Cert.Runs.total (fun n h => (outsAt0 m c n h).2) (part m c) (by decide) (carried_first m c)
    (carried_next m c) t h, ref_eq]
  simp only [part, part_eq]
  refine Fin.sum_mul_add_congr fun s k hl => ?_
  rw [mul_comm]
  blk_point [iblk, V, tiles t, tiles ⟨_, Cert.Runs.run_lt t h s⟩]

end Cert.DwoIdeal.Val

end
-- ==== Proof.DwoClaim.lean ====
/- The algebraic claim of the weight gradient of the attention's output projection: the idealised kernel's run and the reference's end with equal arrays. -/
module

public import proofs.«01_k».proof.Defs
public import proofs.«01_k».proof.Proof.DwoValue
public import proofs.«01_k».proof.Proof.Gen.DwoIdeal.Value
public import proofs.«01_k».proof.Proof.Gen.DwoRefIdeal
public import Idealize.ShloMosaic.Lib.Claim

@[expose] public section

set_option maxRecDepth 16384

noncomputable section

open Idealize.ShloMosaic Idealize.ShloMosaic.TcCoe Idealize.SL.Sem

namespace Cert.DwoClaim

/-- The reference runs, its arguments unchanged. -/
theorem reference_runs : Cert.quiescent_DwoRefIdeal := by
  intro m g hpre
  hlo_run
  · intro c; simp
  · exact sem_eq_zero_of_no_sems (sig := Cert.DwoRefIdeal.sig) (by decide) _

/-- The kernel's arrays are the reference's. -/
theorem algebraic : Cert.algebraic_DwoIdeal_DwoRefIdeal := by
  pair_intro
  · run_from Cert.DwoIdeal.Gen.run_main m g
  · hlo_run
    exact (Cert.DwoIdeal.Val.array m c).symm

end Cert.DwoClaim

end
-- ==== Proof.DoValue.lean ====
/- The gradient of the attention's output: every grid point writes one whole tile of the product with the transposed
   weight. -/
module

public import proofs.«01_k».proof.Proof.Gen.DoIdeal.Frame
public import proofs.«01_k».proof.Proof.Gen.DoRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.DoIdeal.Val

open Cert.DoIdeal Cert.DoIdeal.Gen
open Cert.DoRefIdeal.Read

variable (m : (ℓ : Loc nD τ sig) → Buf (Elt Ideal) ℓ)

/-- Which tile of each array a grid point reads and writes. -/
theorem tiles : ∀ t : Fin cfg0.N, win0_0.index t = ![t.val / 2, 0]
    ∧ win0_1.index t = ![0, 0, t.val % 2, 0]
    ∧ win0_2.index t = ![t.val / 2, t.val % 2] :=
  (by decide +kernel : ∀ t : Fin grid0.N, _)

/-- The whole result array. -/
theorem array (c : Dev nD) : (dats m 0 c).arrAt 2 (cfgs 0).N
    = val_main_v6 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, val_main_v6, val_main_v5, val_main_v4, val_main_v3, val_main_v2, val_main_cst, val_main_v1,
    val_main_v0]
  change (_ : EReal) = _
  refine Finset.sum_congr rfl fun k _ => ?_
  blk_point [iblk, V, tiles t]

end Cert.DoIdeal.Val

end
-- ==== Proof.DoClaim.lean ====
/- The algebraic claim of the gradient of the attention's output: the idealised kernel's run and the reference's end with equal arrays. -/
module

public import proofs.«01_k».proof.Defs
public import proofs.«01_k».proof.Proof.DoValue
public import proofs.«01_k».proof.Proof.Gen.DoIdeal.Value
public import proofs.«01_k».proof.Proof.Gen.DoRefIdeal
public import Idealize.ShloMosaic.Lib.Claim

@[expose] public section

noncomputable section

open Idealize.ShloMosaic Idealize.ShloMosaic.TcCoe Idealize.SL.Sem

namespace Cert.DoClaim

/-- The reference runs, its arguments unchanged. -/
theorem reference_runs : Cert.quiescent_DoRefIdeal := by
  intro m g hpre
  hlo_run
  · intro c; simp
  · exact sem_eq_zero_of_no_sems (sig := Cert.DoRefIdeal.sig) (by decide) _

/-- The kernel's arrays are the reference's. -/
theorem algebraic : Cert.algebraic_DoIdeal_DoRefIdeal := by
  pair_intro
  · run_from Cert.DoIdeal.Gen.run_main m g
  · hlo_run
    exact (Cert.DoIdeal.Val.array m c).symm

end Cert.DoClaim

end
-- ==== Proof.DwqkvValue.lean ====
/- The weight gradient of the attention's input projection: a product accumulated over four blocks of tokens, written
   out in four shards of columns. -/
module

public import proofs.«01_k».proof.Proof.Gen.DwqkvIdeal.Frame
public import proofs.«01_k».proof.Proof.Gen.DwqkvRefIdeal.Read
public import proofs.«01_k».proof.Proof.Runs
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem

namespace Cert.DwqkvIdeal.Val

open Cert.DwqkvIdeal Cert.DwqkvIdeal.Gen
open Cert.DwqkvRefIdeal.Read

variable (m : (ℓ : Loc nD τ sig) → Buf (Elt Ideal) ℓ)

/-- Which tile of each array a grid point reads and writes. -/
theorem tiles : ∀ t : Fin cfg0.N, win0_0.index t = ![t.val % 4, t.val / 16]
    ∧ win0_1.index t = ![t.val % 4, t.val / 4 % 4]
    ∧ win0_2.index t = ![t.val / 4 % 4, 0, t.val / 16, 0] :=
  (by decide +kernel : ∀ t : Fin grid0.N, _)

/-- The product over one block of tokens. -/
def part (c : Dev nD) (t : Fin cfg0.N) : FVec Ideal S1024x640 .f32 := k0_pay1 (iblk m c 0 t) (iblk m c 1 t)

/-- The first block starts the sum. -/
theorem carried_first (c : Dev nD) (t : Fin cfg0.N) (h : t.val % 4 = 0) (y : S1024x640.Idx) :
    (outsAt0 m c t.val t.isLt).2 y = part m c t y := by
  rw [outsAt0_A m c t h (by omega) (by omega)]
  frame_out
  pointwise [k0_pay2, part]

/-- A middle block adds its product. -/
theorem carried_next (c : Dev nD) (t : Fin cfg0.N) (h : ¬t.val % 4 = 0) (h' : ¬t.val % 4 = 4 - 1) (y : S1024x640.Idx) :
    (outsAt0 m c t.val t.isLt).2 y = (outsAt0 m c (t.val - 1) (Nat.lt_of_le_of_lt (Nat.sub_le _ _) t.isLt)).2 y + part m c t y := by
  rw [outsAt0_B m c t (by omega) (by omega) (by omega)]
  frame_out
  rw [read_unread_whole]
  pointwise [k0_pay3, part]

/-- The last block writes out the finished sum. -/
theorem written (c : Dev nD) (t : Fin cfg0.N) (h : t.val % 4 = 4 - 1) (y : S1x1x1024x640.Idx) :
    (outsAt0 m c t.val t.isLt).1 y = (outsAt0 m c (t.val - 1) (Nat.lt_of_le_of_lt (Nat.sub_le _ _) t.isLt)).2 (ix2 (y 2) (y 3)) + part m c t (ix2 (y 2) (y 3)) := by
  rw [outsAt0_C m c t (by omega) (by omega) h]
  frame_out
  rw [read_unread_whole]
  pointwise [k0_pay4, part]

/-- The product over one block, as a sum over the block's tokens. -/
theorem part_eq (x0 : FVec Ideal S2048x1024 .bf16) (x1 : FVec Ideal S2048x640 .bf16) (y : S1024x640.Idx) :
    k0_pay1 (F := Ideal) x0 x1 y = ∑ k : Fin 2048, x0 (ix2 k (y 0)) * x1 (ix2 k (y 1)) := by
  pointwise [k0_pay1]

/-- The reference's element. -/
theorem ref_eq (a : FVec Ideal Cert.DwqkvRefIdeal.S8192x2048 .bf16) (d : FVec Ideal Cert.DwqkvRefIdeal.S8192x2560 .bf16)
    (i : Cert.DwqkvRefIdeal.S4x1x2048x640.Idx) :
    val_main_v9 (F := Ideal) a d i = ∑ k : Fin 8192, d (ix2 k ⟨(i 0).val * 640 + (i 3).val, by idx_bounds i; omega⟩) * a (ix2 k (i 2)) := by
  pointwise [val_main_v9, val_main_v8, val_main_v7, val_main_v6, val_main_v5, val_main_v4, val_main_v3, val_main_v2,
    val_main_v1, val_main_v0, val_main_cst]

/-- The whole result array. -/
theorem array (c : Dev nD) : (dats m 0 c).arrAt 2 (cfgs 0).N
    = val_main_v9 (F := Ideal) (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2, written m c t h, Cert.Runs.total (fun n h => (outsAt0 m c n h).2) (part m c) (by decide) (carried_first m c)
    (carried_next m c) t h, ref_eq]
  simp only [part, part_eq]
  refine Fin.sum_mul_add_congr fun s k hl => ?_
  rw [mul_comm]
  blk_point [iblk, V, tiles t, tiles ⟨_, Cert.Runs.run_lt t h s⟩]

end Cert.DwqkvIdeal.Val

end
-- ==== Proof.DwqkvClaim.lean ====
/- The algebraic claim of the weight gradient of the attention's input projection: the idealised kernel's run and the reference's end with equal arrays. -/
module

public import proofs.«01_k».proof.Defs
public import proofs.«01_k».proof.Proof.DwqkvValue
public import proofs.«01_k».proof.Proof.Gen.DwqkvIdeal.Value
public import proofs.«01_k».proof.Proof.Gen.DwqkvRefIdeal
public import Idealize.ShloMosaic.Lib.Claim

@[expose] public section

set_option maxRecDepth 16384

noncomputable section

open Idealize.ShloMosaic Idealize.ShloMosaic.TcCoe Idealize.SL.Sem

namespace Cert.DwqkvClaim

/-- The reference runs, its arguments unchanged. -/
theorem reference_runs : Cert.quiescent_DwqkvRefIdeal := by
  intro m g hpre
  hlo_run
  · intro c; simp
  · exact sem_eq_zero_of_no_sems (sig := Cert.DwqkvRefIdeal.sig) (by decide) _

/-- The kernel's arrays are the reference's. -/
theorem algebraic : Cert.algebraic_DwqkvIdeal_DwqkvRefIdeal := by
  pair_intro
  · run_from Cert.DwqkvIdeal.Gen.run_main m g
  · hlo_run
    exact (Cert.DwqkvIdeal.Val.array m c).symm

end Cert.DwqkvClaim

end
-- ==== Proof.DhaValue.lean ====
/- The gradient of the attention block's normalised input: every grid point writes one whole tile of the product with
   the transposed weight, a zero bias row added. -/
module

public import proofs.«01_k».proof.Proof.Gen.DhaIdeal.Frame
public import proofs.«01_k».proof.Proof.Gen.DhaRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.DhaIdeal.Val

open Cert.DhaIdeal Cert.DhaIdeal.Gen
open Cert.DhaRefIdeal.Read

variable (m : (ℓ : Loc nD τ sig) → Buf (Elt Ideal) ℓ)

/-- Which tile of each array a grid point reads and writes. -/
theorem tiles : ∀ t : Fin cfg0.N, win0_0.index t = ![t.val / 2, 0]
    ∧ win0_1.index t = ![t.val % 2, 0]
    ∧ win0_2.index t = ![0, t.val % 2]
    ∧ win0_3.index t = ![t.val / 2, t.val % 2] :=
  (by decide +kernel : ∀ t : Fin grid0.N, _)

/-- The bias row is zero. -/
theorem bias_zero (c : Dev nD) (t : Fin cfg0.N) (y : S1x1024.Idx) : iblk m c 2 t y = (0 : EReal) := by
  blk_simp [iblk]
  entry_read
  pointwise []

/-- The whole result array. -/
theorem array (c : Dev nD) : (dats m 0 c).arrAt 3 (cfgs 0).N
    = val_main_v5 (F := Ideal) (m ((c : Thread nD τ).loc main_arg0)) (m ((c : Thread nD τ).loc main_arg1)) := by
  refine (dats m 0 c).arrAt_eq_of_covers 3 _ (by decide +kernel) fun t _ y => ?_
  blk_simp
  rw [after0_3]
  frame_out
  pointwise [k0_pay1, val_main_v5, val_main_v4, val_main_v3, val_main_v2, val_main_v1, val_main_v0, val_main_cst]
  rw [bias_zero, add_zero]
  change (_ : EReal) = _
  refine Finset.sum_congr rfl fun k _ => ?_
  blk_point [iblk, V, tiles t]

end Cert.DhaIdeal.Val

end
-- ==== Proof.DhaClaim.lean ====
/- The algebraic claim of the gradient of the attention block's normalised input: the idealised kernel's run and the reference's end with equal arrays. -/
module

public import proofs.«01_k».proof.Defs
public import proofs.«01_k».proof.Proof.DhaValue
public import proofs.«01_k».proof.Proof.Gen.DhaIdeal.Value
public import proofs.«01_k».proof.Proof.Gen.DhaRefIdeal
public import Idealize.ShloMosaic.Lib.Claim

@[expose] public section

noncomputable section

open Idealize.ShloMosaic Idealize.ShloMosaic.TcCoe Idealize.SL.Sem

namespace Cert.DhaClaim

/-- The reference runs, its arguments unchanged. -/
theorem reference_runs : Cert.quiescent_DhaRefIdeal := by
  intro m g hpre
  hlo_run
  · intro c; simp
  · exact sem_eq_zero_of_no_sems (sig := Cert.DhaRefIdeal.sig) (by decide) _

/-- The kernel's arrays are the reference's. -/
theorem algebraic : Cert.algebraic_DhaIdeal_DhaRefIdeal := by
  pair_intro
  · run_from Cert.DhaIdeal.Gen.run_main m g
  · hlo_run
    exact (Cert.DhaIdeal.Val.array m c).symm

end Cert.DhaClaim

end
-- ==== Proof.DwxoValue.lean ====
/- The weight gradient of the cross-attention's output projection: a product accumulated over four blocks of tokens,
   written out in four shards of columns. -/
module

public import proofs.«01_k».proof.Proof.Gen.DwxoIdeal.Frame
public import proofs.«01_k».proof.Proof.Gen.DwxoRefIdeal.Read
public import proofs.«01_k».proof.Proof.Runs
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem

namespace Cert.DwxoIdeal.Val

open Cert.DwxoIdeal Cert.DwxoIdeal.Gen
open Cert.DwxoRefIdeal.Read

variable (m : (ℓ : Loc nD τ sig) → Buf (Elt Ideal) ℓ)

/-- Which tile of each array a grid point reads and writes. -/
theorem tiles : ∀ t : Fin cfg0.N, win0_0.index t = ![t.val % 4, 0]
    ∧ win0_1.index t = ![t.val % 4, t.val / 4]
    ∧ win0_2.index t = ![t.val / 4, 0, 0, 0] :=
  (by decide +kernel : ∀ t : Fin grid0.N, _)

/-- The product over one block of tokens. -/
def part (c : Dev nD) (t : Fin cfg0.N) : FVec Ideal S512x512 .f32 := k0_pay1 (iblk m c 0 t) (iblk m c 1 t)

/-- The first block starts the sum. -/
theorem carried_first (c : Dev nD) (t : Fin cfg0.N) (h : t.val % 4 = 0) (y : S512x512.Idx) :
    (outsAt0 m c t.val t.isLt).2 y = part m c t y := by
  rw [outsAt0_A m c t h (by omega) (by omega)]
  frame_out
  pointwise [k0_pay2, part]

/-- A middle block adds its product. -/
theorem carried_next (c : Dev nD) (t : Fin cfg0.N) (h : ¬t.val % 4 = 0) (h' : ¬t.val % 4 = 4 - 1) (y : S512x512.Idx) :
    (outsAt0 m c t.val t.isLt).2 y = (outsAt0 m c (t.val - 1) (Nat.lt_of_le_of_lt (Nat.sub_le _ _) t.isLt)).2 y + part m c t y := by
  rw [outsAt0_B m c t (by omega) (by omega) (by omega)]
  frame_out
  rw [read_unread_whole]
  pointwise [k0_pay3, part]

/-- The last block writes out the finished sum. -/
theorem written (c : Dev nD) (t : Fin cfg0.N) (h : t.val % 4 = 4 - 1) (y : S1x1x512x512.Idx) :
    (outsAt0 m c t.val t.isLt).1 y = (outsAt0 m c (t.val - 1) (Nat.lt_of_le_of_lt (Nat.sub_le _ _) t.isLt)).2 (ix2 (y 2) (y 3)) + part m c t (ix2 (y 2) (y 3)) := by
  rw [outsAt0_C m c t (by omega) (by omega) h]
  frame_out
  rw [read_unread_whole]
  pointwise [k0_pay4, part]

/-- The product over one block, as a sum over the block's tokens. -/
theorem part_eq (x0 : FVec Ideal S2048x512 .bf16) (x1 : FVec Ideal S2048x512 .bf16) (y : S512x512.Idx) :
    k0_pay1 (F := Ideal) x0 x1 y = ∑ k : Fin 2048, x0 (ix2 k (y 0)) * x1 (ix2 k (y 1)) := by
  pointwise [k0_pay1]

/-- The reference's element. -/
theorem ref_eq (a : FVec Ideal Cert.DwxoRefIdeal.S8192x512 .bf16) (d : FVec Ideal Cert.DwxoRefIdeal.S8192x2048 .bf16)
    (i : Cert.DwxoRefIdeal.S4x1x512x512.Idx) :
    val_main_v9 (F := Ideal) a d i = ∑ k : Fin 8192, d (ix2 k ⟨(i 0).val * 512 + (i 3).val, by idx_bounds i; omega⟩) * a (ix2 k (i 2)) := by
  pointwise [val_main_v9, val_main_v8, val_main_v7, val_main_v6, val_main_v5, val_main_v4, val_main_v3, val_main_v2,
    val_main_v1, val_main_v0, val_main_cst]

/-- The whole result array. -/
theorem array (c : Dev nD) : (dats m 0 c).arrAt 2 (cfgs 0).N
    = val_main_v9 (F := Ideal) (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2, written m c t h, Cert.Runs.total (fun n h => (outsAt0 m c n h).2) (part m c) (by decide) (carried_first m c)
    (carried_next m c) t h, ref_eq]
  simp only [part, part_eq]
  refine Fin.sum_mul_add_congr fun s k hl => ?_
  rw [mul_comm]
  blk_point [iblk, V, tiles t, tiles ⟨_, Cert.Runs.run_lt t h s⟩]

end Cert.DwxoIdeal.Val

end
-- ==== Proof.DwxoClaim.lean ====
/- The algebraic claim of the weight gradient of the cross-attention's output projection: the idealised kernel's run and the reference's end with equal arrays. -/
module

public import proofs.«01_k».proof.Defs
public import proofs.«01_k».proof.Proof.DwxoValue
public import proofs.«01_k».proof.Proof.Gen.DwxoIdeal.Value
public import proofs.«01_k».proof.Proof.Gen.DwxoRefIdeal
public import Idealize.ShloMosaic.Lib.Claim

@[expose] public section

set_option maxRecDepth 16384

noncomputable section

open Idealize.ShloMosaic Idealize.ShloMosaic.TcCoe Idealize.SL.Sem

namespace Cert.DwxoClaim

/-- The reference runs, its arguments unchanged. -/
theorem reference_runs : Cert.quiescent_DwxoRefIdeal := by
  intro m g hpre
  hlo_run
  · intro c; simp
  · exact sem_eq_zero_of_no_sems (sig := Cert.DwxoRefIdeal.sig) (by decide) _

/-- The kernel's arrays are the reference's. -/
theorem algebraic : Cert.algebraic_DwxoIdeal_DwxoRefIdeal := by
  pair_intro
  · run_from Cert.DwxoIdeal.Gen.run_main m g
  · hlo_run
    exact (Cert.DwxoIdeal.Val.array m c).symm

end Cert.DwxoClaim

end
-- ==== Proof.DxoValue.lean ====
/- The gradient of the cross-attention's output: every grid point writes a whole block of rows of the product with the
   transposed weight. -/
module

public import proofs.«01_k».proof.Proof.Gen.DxoIdeal.Frame
public import proofs.«01_k».proof.Proof.Gen.DxoRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.DxoIdeal.Val

open Cert.DxoIdeal Cert.DxoIdeal.Gen
open Cert.DxoRefIdeal.Read

variable (m : (ℓ : Loc nD τ sig) → Buf (Elt Ideal) ℓ)

/-- Which tile of each array a grid point reads and writes. -/
theorem tiles : ∀ t : Fin cfg0.N, win0_0.index t = ![t.val, 0]
    ∧ win0_1.index t = ![0, 0]
    ∧ win0_2.index t = ![t.val, 0] :=
  (by decide +kernel : ∀ t : Fin grid0.N, _)

/-- The whole result array. -/
theorem array (c : Dev nD) : (dats m 0 c).arrAt 2 (cfgs 0).N
    = val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, val_main_v5, val_main_v4, val_main_v3, val_main_v2, val_main_v1, val_main_v0, val_main_cst]
  change (_ : EReal) = _
  refine Finset.sum_congr rfl fun k _ => ?_
  blk_point [iblk, V, tiles t]

end Cert.DxoIdeal.Val

end
-- ==== Proof.DxoClaim.lean ====
/- The algebraic claim of the gradient of the cross-attention's output: the idealised kernel's run and the reference's end with equal arrays. -/
module

public import proofs.«01_k».proof.Defs
public import proofs.«01_k».proof.Proof.DxoValue
public import proofs.«01_k».proof.Proof.Gen.DxoIdeal.Value
public import proofs.«01_k».proof.Proof.Gen.DxoRefIdeal
public import Idealize.ShloMosaic.Lib.Claim

@[expose] public section

noncomputable section

open Idealize.ShloMosaic Idealize.ShloMosaic.TcCoe Idealize.SL.Sem

namespace Cert.DxoClaim

/-- The reference runs, its arguments unchanged. -/
theorem reference_runs : Cert.quiescent_DxoRefIdeal := by
  intro m g hpre
  hlo_run
  · intro c; simp
  · exact sem_eq_zero_of_no_sems (sig := Cert.DxoRefIdeal.sig) (by decide) _

/-- The kernel's arrays are the reference's. -/
theorem algebraic : Cert.algebraic_DxoIdeal_DxoRefIdeal := by
  pair_intro
  · run_from Cert.DxoIdeal.Gen.run_main m g
  · hlo_run
    exact (Cert.DxoIdeal.Val.array m c).symm

end Cert.DxoClaim

end
-- ==== Proof.DwxqValue.lean ====
/- The weight gradient of the cross-attention's query projection: a product accumulated over four blocks of tokens,
   written out in four shards of rows. -/
module

public import proofs.«01_k».proof.Proof.Gen.DwxqIdeal.Frame
public import proofs.«01_k».proof.Proof.Gen.DwxqRefIdeal.Read
public import proofs.«01_k».proof.Proof.Runs
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem

namespace Cert.DwxqIdeal.Val

open Cert.DwxqIdeal Cert.DwxqIdeal.Gen
open Cert.DwxqRefIdeal.Read

variable (m : (ℓ : Loc nD τ sig) → Buf (Elt Ideal) ℓ)

/-- Which tile of each array a grid point reads and writes. -/
theorem tiles : ∀ t : Fin cfg0.N, win0_0.index t = ![t.val % 4, t.val / 4]
    ∧ win0_1.index t = ![t.val % 4, 0]
    ∧ win0_2.index t = ![t.val / 4, 0, 0, 0] :=
  (by decide +kernel : ∀ t : Fin grid0.N, _)

/-- The product over one block of tokens. -/
def part (c : Dev nD) (t : Fin cfg0.N) : FVec Ideal S512x512 .f32 := k0_pay1 (iblk m c 0 t) (iblk m c 1 t)

/-- The first block starts the sum. -/
theorem carried_first (c : Dev nD) (t : Fin cfg0.N) (h : t.val % 4 = 0) (y : S512x512.Idx) :
    (outsAt0 m c t.val t.isLt).2 y = part m c t y := by
  rw [outsAt0_A m c t h (by omega) (by omega)]
  frame_out
  pointwise [k0_pay2, part]

/-- A middle block adds its product. -/
theorem carried_next (c : Dev nD) (t : Fin cfg0.N) (h : ¬t.val % 4 = 0) (h' : ¬t.val % 4 = 4 - 1) (y : S512x512.Idx) :
    (outsAt0 m c t.val t.isLt).2 y = (outsAt0 m c (t.val - 1) (Nat.lt_of_le_of_lt (Nat.sub_le _ _) t.isLt)).2 y + part m c t y := by
  rw [outsAt0_B m c t (by omega) (by omega) (by omega)]
  frame_out
  rw [read_unread_whole]
  pointwise [k0_pay3, part]

/-- The last block writes out the finished sum. -/
theorem written (c : Dev nD) (t : Fin cfg0.N) (h : t.val % 4 = 4 - 1) (y : S1x1x512x512.Idx) :
    (outsAt0 m c t.val t.isLt).1 y = (outsAt0 m c (t.val - 1) (Nat.lt_of_le_of_lt (Nat.sub_le _ _) t.isLt)).2 (ix2 (y 2) (y 3)) + part m c t (ix2 (y 2) (y 3)) := by
  rw [outsAt0_C m c t (by omega) (by omega) h]
  frame_out
  rw [read_unread_whole]
  pointwise [k0_pay4, part]

/-- The product over one block, as a sum over the block's tokens. -/
theorem part_eq (x0 : FVec Ideal S2048x512 .bf16) (x1 : FVec Ideal S2048x512 .bf16) (y : S512x512.Idx) :
    k0_pay1 (F := Ideal) x0 x1 y = ∑ k : Fin 2048, x0 (ix2 k (y 0)) * x1 (ix2 k (y 1)) := by
  pointwise [k0_pay1]

/-- The reference's element. -/
theorem ref_eq (a : FVec Ideal Cert.DwxqRefIdeal.S8192x2048 .bf16) (d : FVec Ideal Cert.DwxqRefIdeal.S8192x512 .bf16)
    (i : Cert.DwxqRefIdeal.S4x1x512x512.Idx) :
    val_main_v7 (F := Ideal) a d i = ∑ k : Fin 8192, d (ix2 k (i 3)) * a (ix2 k ⟨(i 0).val * 512 + (i 2).val, by idx_bounds i; omega⟩) := by
  pointwise [val_main_v7, val_main_v6, val_main_v5, val_main_v4, val_main_v3, val_main_v2, val_main_v1, val_main_v0,
    val_main_cst]

/-- The whole result array. -/
theorem array (c : Dev nD) : (dats m 0 c).arrAt 2 (cfgs 0).N
    = val_main_v7 (F := Ideal) (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2, written m c t h, Cert.Runs.total (fun n h => (outsAt0 m c n h).2) (part m c) (by decide) (carried_first m c)
    (carried_next m c) t h, ref_eq]
  simp only [part, part_eq]
  refine Fin.sum_mul_add_congr fun s k hl => ?_
  rw [mul_comm]
  blk_point [iblk, V, tiles t, tiles ⟨_, Cert.Runs.run_lt t h s⟩]

end Cert.DwxqIdeal.Val

end
-- ==== Proof.DwxqClaim.lean ====
/- The algebraic claim of the weight gradient of the cross-attention's query projection: the idealised kernel's run and the reference's end with equal arrays. -/
module

public import proofs.«01_k».proof.Defs
public import proofs.«01_k».proof.Proof.DwxqValue
public import proofs.«01_k».proof.Proof.Gen.DwxqIdeal.Value
public import proofs.«01_k».proof.Proof.Gen.DwxqRefIdeal
public import Idealize.ShloMosaic.Lib.Claim

@[expose] public section

set_option maxRecDepth 16384

noncomputable section

open Idealize.ShloMosaic Idealize.ShloMosaic.TcCoe Idealize.SL.Sem

namespace Cert.DwxqClaim

/-- The reference runs, its arguments unchanged. -/
theorem reference_runs : Cert.quiescent_DwxqRefIdeal := by
  intro m g hpre
  hlo_run
  · intro c; simp
  · exact sem_eq_zero_of_no_sems (sig := Cert.DwxqRefIdeal.sig) (by decide) _

/-- The kernel's arrays are the reference's. -/
theorem algebraic : Cert.algebraic_DwxqIdeal_DwxqRefIdeal := by
  pair_intro
  · run_from Cert.DwxqIdeal.Gen.run_main m g
  · hlo_run
    exact (Cert.DwxqIdeal.Val.array m c).symm

end Cert.DwxqClaim

end
-- ==== Proof.DhxqValue.lean ====
/- The gradient of the cross-attention block's normalised input: every grid point writes one whole tile of the product
   with the transposed weight, a zero bias row added. -/
module

public import proofs.«01_k».proof.Proof.Gen.DhxqIdeal.Frame
public import proofs.«01_k».proof.Proof.Gen.DhxqRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.DhxqIdeal.Val

open Cert.DhxqIdeal Cert.DhxqIdeal.Gen
open Cert.DhxqRefIdeal.Read

variable (m : (ℓ : Loc nD τ sig) → Buf (Elt Ideal) ℓ)

/-- Which tile of each array a grid point reads and writes. -/
theorem tiles : ∀ t : Fin cfg0.N, win0_0.index t = ![t.val / 2, 0]
    ∧ win0_1.index t = ![0, 0, t.val % 2, 0]
    ∧ win0_2.index t = ![0, t.val % 2]
    ∧ win0_3.index t = ![t.val / 2, t.val % 2] :=
  (by decide +kernel : ∀ t : Fin grid0.N, _)

/-- The bias row is zero. -/
theorem bias_zero (c : Dev nD) (t : Fin cfg0.N) (y : S1x1024.Idx) : iblk m c 2 t y = (0 : EReal) := by
  blk_simp [iblk]
  entry_read
  pointwise []

/-- The whole result array. -/
theorem array (c : Dev nD) : (dats m 0 c).arrAt 3 (cfgs 0).N
    = val_main_v6 (F := Ideal) (m ((c : Thread nD τ).loc main_arg0)) (m ((c : Thread nD τ).loc main_arg1)) := by
  refine (dats m 0 c).arrAt_eq_of_covers 3 _ (by decide +kernel) fun t _ y => ?_
  blk_simp
  rw [after0_3]
  frame_out
  pointwise [k0_pay1, val_main_v6, val_main_v5, val_main_v4, val_main_v3, val_main_v2, val_main_cst, val_main_v1,
    val_main_v0]
  rw [bias_zero, add_zero]
  change (_ : EReal) = _
  refine Finset.sum_congr rfl fun k _ => ?_
  blk_point [iblk, V, tiles t]

end Cert.DhxqIdeal.Val

end
-- ==== Proof.DhxqClaim.lean ====
/- The algebraic claim of the gradient of the cross-attention block's normalised input: the idealised kernel's run and the reference's end with equal arrays. -/
module

public import proofs.«01_k».proof.Defs
public import proofs.«01_k».proof.Proof.DhxqValue
public import proofs.«01_k».proof.Proof.Gen.DhxqIdeal.Value
public import proofs.«01_k».proof.Proof.Gen.DhxqRefIdeal
public import Idealize.ShloMosaic.Lib.Claim

@[expose] public section

noncomputable section

open Idealize.ShloMosaic Idealize.ShloMosaic.TcCoe Idealize.SL.Sem

namespace Cert.DhxqClaim

/-- The reference runs, its arguments unchanged. -/
theorem reference_runs : Cert.quiescent_DhxqRefIdeal := by
  intro m g hpre
  hlo_run
  · intro c; simp
  · exact sem_eq_zero_of_no_sems (sig := Cert.DhxqRefIdeal.sig) (by decide) _

/-- The kernel's arrays are the reference's. -/
theorem algebraic : Cert.algebraic_DhxqIdeal_DhxqRefIdeal := by
  pair_intro
  · run_from Cert.DhxqIdeal.Gen.run_main m g
  · hlo_run
    exact (Cert.DhxqIdeal.Val.array m c).symm

end Cert.DhxqClaim

end
-- ==== Proof.Soft.lean ====
/- One head of an attention, a query at a time: the weights of the keys, and the gradients by the chain rule through the
   quotient of the weights by their sum. The shift by the largest score is held constant, as in the reference. -/
module

public import Idealize.ShloMosaic.Lib.Pipeline.ValueKit
public import Idealize.ShloMosaic.Lib.Pointwise

@[expose] public section

noncomputable section

open Idealize.ShloMosaic

namespace Cert.Soft

variable {d n : Nat} (q : Fin d → EReal) (k v : Fin n → Fin d → EReal) (o : Fin d → EReal)

/-- The factor of the scores: the number nearest to the inverse root of the head's size. -/
def scale : EReal := Ideal.ofBits .f32 0x3DB504F3#32

/-- A key's score. -/
def score (j : Fin n) : EReal := (∑ x, q x * k j x) * scale

/-- The largest score. -/
def top : EReal := Finset.fold max (Ideal.ofBits .f32 0xFF800000#32) (score q k) Finset.univ

/-- A key's weight before the division, the sum of the weights, and the weight after it. -/
def weight (j : Fin n) : EReal := Ideal.exp (score q k j - top q k)
def total : EReal := ∑ j, weight q k j
def prob (j : Fin n) : EReal := Ideal.div (weight q k j) (total q k)

/-- The gradient of the divided weight. -/
def back (j : Fin n) : EReal := ∑ x, o x * v j x

/-- The gradient of the inner product of the query and a key. -/
def slope (j : Fin n) : EReal :=
  (Ideal.div (back v o j) (total q k)
    + -∑ l, back v o l * Ideal.div (Ideal.ofBits .f32 0x3F800000#32) (total q k * total q k) * weight q k l) * weight q k j * scale

end Cert.Soft

end
-- ==== Proof.DattValue.lean ====
/- The gradient of the cross-attention: of the queries, a block of tokens at a grid point, and of the memory's keys and
   values, summed over all of them. The four heads' arithmetic is one and the same, on their own columns. -/
module

public import proofs.«01_k».proof.Proof.Gen.DattIdeal.Frame
public import proofs.«01_k».proof.Proof.Gen.DattRefIdeal.Read
public import proofs.«01_k».proof.Proof.Soft
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem

namespace Cert.DattIdeal.Val

open Cert.DattIdeal Cert.DattIdeal.Gen
open Cert.DattRefIdeal.Read
open Cert.Soft

section tile

variable (q : FVec Ideal S512x128 .bf16) (k v : FVec Ideal S256x128 .bf16) (o : FVec Ideal S512x128 .bf16)

/-- The rows of a tile of queries, and of a tile of keys or values. -/
def rq (i : Fin 512) (x : Fin 128) : EReal := q (ix2 i x)
def rk (j : Fin 256) (x : Fin 128) : EReal := k (ix2 j x)

/-- The last head's arithmetic, on any tiles: the gradients of the queries, of the keys, and of the values. -/
def tileQ : FVec Ideal S512x128 .bf16 :=
  k0_pay5 (k0_pay58 (k0_pay45 (k0_pay13 k)) (k0_pay46 (k0_pay10 q) (k0_pay13 k)) (k0_pay47 (k0_pay10 q) (k0_pay13 k)) (k0_pay53 (k0_pay17 v) o) (k0_pay54 (k0_pay10 q) (k0_pay13 k) (k0_pay17 v) o) k0_pay55)
def tileK : FVec Ideal S256x128 .f32 :=
  k0_pay57 (k0_pay44 (k0_pay10 q)) (k0_pay46 (k0_pay10 q) (k0_pay13 k)) (k0_pay47 (k0_pay10 q) (k0_pay13 k)) (k0_pay53 (k0_pay17 v) o) (k0_pay54 (k0_pay10 q) (k0_pay13 k) (k0_pay17 v) o) k0_pay55
def tileV : FVec Ideal S256x128 .f32 := k0_pay52 (k0_pay10 q) (k0_pay13 k) o

theorem weight_eq (y : S512x256.Idx) : k0_pay46 (F := Ideal) (k0_pay10 q) (k0_pay13 k) y = weight (rq q (y 0)) (rk k) (y 1) := by
  pointwise [k0_pay46, k0_pay44, k0_pay45, k0_pay10, k0_pay13]
  rfl

theorem total_eq (y : S512x1.Idx) : k0_pay47 (F := Ideal) (k0_pay10 q) (k0_pay13 k) y = total (rq q (y 0)) (rk k) := by
  pointwise [k0_pay47]
  exact Finset.sum_congr rfl fun j _ => weight_eq q k _

theorem back_eq (y : S512x256.Idx) : k0_pay53 (F := Ideal) (k0_pay17 v) o y = back (rk v) (rq o (y 0)) (y 1) := by
  pointwise [k0_pay53, k0_pay51, k0_pay17]
  rfl

theorem inner_eq (y : S512x1.Idx) : k0_pay54 (F := Ideal) (k0_pay10 q) (k0_pay13 k) (k0_pay17 v) o y
    = ∑ l, back (rk v) (rq o (y 0)) l * Ideal.div (Ideal.ofBits .f32 0x3F800000#32) (total (rq q (y 0)) (rk k) * total (rq q (y 0)) (rk k)) * weight (rq q (y 0)) (rk k) l := by
  pointwise [k0_pay54]
  change (_ : EReal) = _
  refine Finset.sum_congr rfl fun l _ => ?_
  rw [back_eq, weight_eq, total_eq]
  rfl

theorem slope_eq (y : S512x256.Idx) : k0_pay56 (F := Ideal) (k0_pay46 (k0_pay10 q) (k0_pay13 k)) (k0_pay47 (k0_pay10 q) (k0_pay13 k)) (k0_pay53 (k0_pay17 v) o) (k0_pay54 (k0_pay10 q) (k0_pay13 k) (k0_pay17 v) o) k0_pay55 y
    = slope (rq q (y 0)) (rk k) (rk v) (rq o (y 0)) (y 1) := by
  pointwise [k0_pay56, k0_pay55]
  simp only [Finset.univ_unique, Finset.sum_singleton]
  rw [back_eq, weight_eq, total_eq, inner_eq]
  simp only [zero_sub]
  rfl

theorem tileQ_eq (y : S512x128.Idx) : tileQ q k v o y
    = ∑ j, slope (rq q (y 0)) (rk k) (rk v) (rq o (y 0)) j * rk k j (y 1) := by
  pointwise [tileQ, k0_pay5, k0_pay58, k0_pay45, k0_pay13]
  change (_ : EReal) = _
  refine Finset.sum_congr rfl fun j _ => ?_
  exact congrArg (· * _) (slope_eq q k v o _)

theorem tileK_eq (y : S256x128.Idx) : tileK q k v o y
    = ∑ i, slope (rq q i) (rk k) (rk v) (rq o i) (y 0) * rq q i (y 1) := by
  pointwise [tileK, k0_pay57, k0_pay44]
  change (_ : EReal) = _
  exact Finset.sum_congr rfl fun i _ => congrArg (· * _) (slope_eq q k v o _)

theorem tileV_eq (y : S256x128.Idx) : tileV q k o y = ∑ i, rq o i (y 1) * prob (rq q i) (rk k) (y 0) := by
  pointwise [tileV, k0_pay52, k0_pay51]
  change (_ : EReal) = _
  exact Finset.sum_congr rfl fun i _ => congrArg (_ * ·) (congrArg₂ Ideal.div (weight_eq q k _) (total_eq q k _))

/-- The other heads' arithmetic is the last head's. -/
theorem tileQ0 : k0_pay72 (k0_pay19 k) (k0_pay69 (k0_pay22 (k0_pay20 q k) (k0_pay21 q k)) (k0_pay23 (k0_pay20 q k) (k0_pay21 q k)) (k0_pay24 (k0_pay20 q k) (k0_pay21 q k)) (k0_pay26 (k0_pay14 v)) (k0_pay48 o)) = tileQ q k v o := rfl
theorem tileQ1 : k0_pay75 (k0_pay67 (k0_pay28 (k0_pay11 k)) (k0_pay29 (k0_pay8 q) (k0_pay11 k)) (k0_pay30 (k0_pay8 q) (k0_pay11 k)) (k0_pay31 (k0_pay8 q) (k0_pay11 k)) (k0_pay33 (k0_pay15 v)) (k0_pay49 o)) = tileQ q k v o := rfl
theorem tileQ2 : k0_pay2 (k0_pay62 (k0_pay35 (k0_pay12 k)) (k0_pay36 (k0_pay9 q) (k0_pay12 k)) (k0_pay37 (k0_pay9 q) (k0_pay12 k)) (k0_pay41 (k0_pay39 (k0_pay9 q) (k0_pay12 k)) k0_pay40) (k0_pay43 (k0_pay16 v)) (k0_pay50 o)) = tileQ q k v o := rfl
theorem tileK0 : k0_pay71 (k0_pay18 q) (k0_pay69 (k0_pay22 (k0_pay20 q k) (k0_pay21 q k)) (k0_pay23 (k0_pay20 q k) (k0_pay21 q k)) (k0_pay24 (k0_pay20 q k) (k0_pay21 q k)) (k0_pay26 (k0_pay14 v)) (k0_pay48 o)) = tileK q k v o := rfl
theorem tileK1 : k0_pay66 (k0_pay27 (k0_pay8 q)) (k0_pay29 (k0_pay8 q) (k0_pay11 k)) (k0_pay30 (k0_pay8 q) (k0_pay11 k)) (k0_pay31 (k0_pay8 q) (k0_pay11 k)) (k0_pay33 (k0_pay15 v)) (k0_pay49 o) = tileK q k v o := rfl
theorem tileK2 : k0_pay61 (k0_pay34 (k0_pay9 q)) (k0_pay36 (k0_pay9 q) (k0_pay12 k)) (k0_pay37 (k0_pay9 q) (k0_pay12 k)) (k0_pay41 (k0_pay39 (k0_pay9 q) (k0_pay12 k)) k0_pay40) (k0_pay43 (k0_pay16 v)) (k0_pay50 o) = tileK q k v o := rfl
theorem tileV0 : k0_pay68 (k0_pay25 (k0_pay20 q k) (k0_pay21 q k)) (k0_pay48 o) = tileV q k o := rfl
theorem tileV1 : k0_pay64 (k0_pay63 (k0_pay32 (k0_pay8 q) (k0_pay11 k)) (k0_pay49 o)) = tileV q k o := rfl
theorem tileV2 : k0_pay59 (k0_pay42 (k0_pay38 (k0_pay9 q) (k0_pay12 k))) (k0_pay50 o) = tileV q k o := rfl

end tile

section reference

variable (q o : FVec Ideal Cert.DattRefIdeal.S8192x512 .bf16) (kv : FVec Ideal Cert.DattRefIdeal.S256x1024 .bf16)

/-- A head's part of a token's row, and the head's keys and values. -/
def hq (h : Fin 4) (i : Fin 8192) (x : Fin 128) : EReal := q (ix2 i ⟨h.val * 128 + x.val, by omega⟩)
def hk (h : Fin 4) (j : Fin 256) (x : Fin 128) : EReal := kv (ix2 j ⟨h.val * 128 + x.val, by omega⟩)
def hv (h : Fin 4) (j : Fin 256) (x : Fin 128) : EReal := kv (ix2 j ⟨512 + (h.val * 128 + x.val), by omega⟩)

theorem q_eq (x : Cert.DattRefIdeal.S8192x4x128.Idx) : val_main_v1 (F := Ideal) q x = hq q (x 1) (x 0) (x 2) := by
  pointwise [val_main_v1, val_main_v0]
  rfl

theorem o_eq (x : Cert.DattRefIdeal.S8192x4x128.Idx) : val_main_v31 (F := Ideal) o x = hq o (x 1) (x 0) (x 2) := by
  pointwise [val_main_v31, val_main_v30]
  rfl

theorem k_eq (x : Cert.DattRefIdeal.S256x4x128.Idx) : val_main_v4 (F := Ideal) kv x = hk kv (x 1) (x 0) (x 2) := by
  pointwise [val_main_v4, val_main_v3, val_main_v2]
  rfl

theorem v_eq (x : Cert.DattRefIdeal.S256x4x128.Idx) : val_main_v7 (F := Ideal) kv x = hv kv (x 1) (x 0) (x 2) := by
  pointwise [val_main_v7, val_main_v6, val_main_v5]
  rfl

theorem rscore (y : Cert.DattRefIdeal.S4x8192x256.Idx) : val_main_v10 (F := Ideal) q kv y = score (hq q (y 0) (y 1)) (hk kv (y 0)) (y 2) := by
  pointwise [val_main_v10, val_main_v9, val_main_v8, val_main_cst]
  simp only [q_eq, k_eq]
  rfl

theorem rweight (y : Cert.DattRefIdeal.S4x8192x256.Idx) : val_main_v20 (F := Ideal) q kv y = weight (hq q (y 0) (y 1)) (hk kv (y 0)) (y 2) := by
  pointwise [val_main_v20, val_main_v19, val_main_v18, val_main_v17, val_main_v11]
  simp only [rscore]
  rfl

theorem rtotal (y : Cert.DattRefIdeal.S4x8192.Idx) : val_main_v21 (F := Ideal) q kv y = total (hq q (y 0) (y 1)) (hk kv (y 0)) := by
  pointwise [val_main_v21, val_main_cst_2]
  simp only [rweight]
  rfl

theorem rprob (y : Cert.DattRefIdeal.S4x8192x256.Idx) : val_main_v24 (F := Ideal) q kv y = prob (hq q (y 0) (y 1)) (hk kv (y 0)) (y 2) := by
  pointwise [val_main_v24, val_main_v23, val_main_v22]
  rw [rweight, rtotal]
  rfl

theorem rback (y : Cert.DattRefIdeal.S4x8192x256.Idx) : val_main_v33 (F := Ideal) kv o y = back (hv kv (y 0)) (hq o (y 0) (y 1)) (y 2) := by
  pointwise [val_main_v33, val_main_v32]
  simp only [o_eq, v_eq]
  rfl

theorem rinner (y : Cert.DattRefIdeal.S4x8192.Idx) : val_main_v39 (F := Ideal) q kv o y
    = ∑ l, back (hv kv (y 0)) (hq o (y 0) (y 1)) l * Ideal.div (Ideal.ofBits .f32 0x3F800000#32)
      (total (hq q (y 0) (y 1)) (hk kv (y 0)) * total (hq q (y 0) (y 1)) (hk kv (y 0))) * weight (hq q (y 0) (y 1)) (hk kv (y 0)) l := by
  pointwise [val_main_v39, val_main_v38, val_main_v37, val_main_v36, val_main_v27, val_main_v26, val_main_v25, val_main_v22, val_main_cst_3, val_main_cst_4]
  simp only [rback, rtotal, rweight]
  rfl

theorem rslope (y : Cert.DattRefIdeal.S4x8192x256.Idx) : val_main_v49 (F := Ideal) q kv o y
    = slope (hq q (y 0) (y 1)) (hk kv (y 0)) (hv kv (y 0)) (hq o (y 0) (y 1)) (y 2) := by
  pointwise [val_main_v49, val_main_v48, val_main_v47, val_main_v46, val_main_v45, val_main_v44, val_main_v43, val_main_v42, val_main_v41,
    val_main_v40, val_main_v22, val_main_cst_5, val_main_cst_6]
  simp only [Finset.univ_unique, Finset.sum_singleton]
  rw [rback, rweight, rtotal, rinner]
  rfl

/-- The head that a column belongs to, and the column's place in the head. -/
def hd (n : Nat) : Fin 4 := ⟨n / 128 % 4, by omega⟩
def ln (n : Nat) : Fin 128 := ⟨n % 128, by omega⟩

/-- The reference's gradient of the queries. -/
theorem refQ (y : Cert.DattRefIdeal.S8192x512.Idx) :
    val_main_v55 (F := Ideal) q kv o y = ∑ j, slope (hq q (hd (y 1).val) (y 0)) (hk kv (hd (y 1).val)) (hv kv (hd (y 1).val)) (hq o (hd (y 1).val) (y 0)) j
      * hk kv (hd (y 1).val) j (ln (y 1).val) := by
  pointwise [val_main_v55, val_main_v54, val_main_v53, val_main_v52]
  simp only [rslope, k_eq]
  have e : hd (y 1).val = ⟨(y 1).val / 128, by idx_bounds y; omega⟩ := Fin.ext (by idx_bounds y; simp only [hd]; omega)
  rw [e]
  rfl

/-- The reference's gradients of the keys and of the values. -/
theorem refKV (y : Cert.DattRefIdeal.S256x1024.Idx) :
    val_main_v58 (F := Ideal) q kv o y = if (y 1).val < 512 then
      ∑ i, slope (hq q (hd (y 1).val) i) (hk kv (hd (y 1).val)) (hv kv (hd (y 1).val)) (hq o (hd (y 1).val) i) (y 0) * hq q (hd (y 1).val) i (ln (y 1).val)
    else ∑ i, hq o (hd ((y 1).val - 512)) i (ln ((y 1).val - 512)) * prob (hq q (hd ((y 1).val - 512)) i) (hk kv (hd ((y 1).val - 512))) (y 0) := by
  pointwise [val_main_v58, val_main_v57, val_main_v56, val_main_v51, val_main_v50, val_main_v35, val_main_v34, val_main_v32]
  simp only [rslope, rprob, q_eq, o_eq]
  split_ifs with h h'
  · have e : hd (y 1).val = ⟨(y 1).val / 128, by idx_bounds y; omega⟩ := Fin.ext (by idx_bounds y; simp only [hd]; omega)
    rw [e]
    rfl
  · have e : hd ((y 1).val - 512) = ⟨((y 1).val - 512) / 128, by idx_bounds y; omega⟩ := Fin.ext (by idx_bounds y; simp only [hd]; omega)
    rw [e]
    rfl
  · exact absurd rfl h'

end reference

section point

variable (m : (ℓ : Loc nD τ sig) → Buf (Elt Ideal) ℓ) (c : Dev nD) (t : Fin cfg0.N)

/-- Which rows of each array a grid point reads and writes. -/
theorem rows : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

/-- A grid point's tokens. -/
def tok (i : Fin 512) : Fin 8192 := ⟨t.val * 512 + i.val, by have : t.val < 16 := t.isLt; omega⟩

/-- The arguments. -/
abbrev aq : FVec Ideal Cert.DattRefIdeal.S8192x512 .bf16 := m ((c : Thread nD τ).loc main_arg0)
abbrev akv : FVec Ideal Cert.DattRefIdeal.S256x1024 .bf16 := m ((c : Thread nD τ).loc main_arg1)
abbrev ao : FVec Ideal Cert.DattRefIdeal.S8192x512 .bf16 := m ((c : Thread nD τ).loc main_arg2)

/-- The blocks that a grid point reads. -/
abbrev bq : FVec Ideal S512x512 .bf16 := iblk m c 0 t
abbrev bkv : FVec Ideal S256x1024 .bf16 := iblk m c 1 t
abbrev bo : FVec Ideal S512x512 .bf16 := iblk m c 2 t

theorem bq_eq (i : Fin 512) (n : Fin 512) : bq m c t (ix2 i n) = aq m c (ix2 (tok t i) n) := by
  blk_ext [iblk, V, rows t, tok]

theorem bkv_eq (i : Fin 256) (n : Fin 1024) : bkv m c t (ix2 i n) = akv m c (ix2 i n) := by
  blk_ext [iblk, V, rows t]

theorem bo_eq (i : Fin 512) (n : Fin 512) : bo m c t (ix2 i n) = ao m c (ix2 (tok t i) n) := by
  blk_ext [iblk, V, rows t, tok]

/-- A head's columns of a block. -/
abbrev cutq (b : FVec Ideal S512x512 .bf16) (off : Nat) (inb : ∀ a, (![0, off] : Fin 2 → Nat) a + (![512, 128] : Fin 2 → Nat) a ≤ S512x512.size a) : FVec Ideal S512x128 .bf16 :=
  View.ld (Val := Elt Ideal) (S := S512x512) (e' := .bf16) b (Rect.unit (s := S512x512) ![0, off] ![512, 128] inb)
abbrev cutk (b : FVec Ideal S256x1024 .bf16) (off : Nat) (inb : ∀ a, (![0, off] : Fin 2 → Nat) a + (![256, 128] : Fin 2 → Nat) a ≤ S256x1024.size a) : FVec Ideal S256x128 .bf16 :=
  View.ld (Val := Elt Ideal) (S := S256x1024) (e' := .bf16) b (Rect.unit (s := S256x1024) ![0, off] ![256, 128] inb)

/-- The rows of the tiles that a head loads. -/
theorem ld_q {off : Nat} {h : Fin 4} (e : off = h.val * 128) (inb) (i : Fin 512) :
    rq (cutq (bq m c t) off inb) i = hq (aq m c) h (tok t i) := by
  subst e
  funext x
  refine (View.ld_unit_apply_of _ _ _ _ _ (ix2 i ⟨h.val * 128 + x.val, by omega⟩) ?_).trans (bq_eq m c t i _)
  intro a; fin_cases a <;> simp

theorem ld_o {off : Nat} {h : Fin 4} (e : off = h.val * 128) (inb) (i : Fin 512) :
    rq (cutq (bo m c t) off inb) i = hq (ao m c) h (tok t i) := by
  subst e
  funext x
  refine (View.ld_unit_apply_of _ _ _ _ _ (ix2 i ⟨h.val * 128 + x.val, by omega⟩) ?_).trans (bo_eq m c t i _)
  intro a; fin_cases a <;> simp

theorem ld_k {off : Nat} {h : Fin 4} (e : off = h.val * 128) (inb) :
    rk (cutk (bkv m c t) off inb) = hk (akv m c) h := by
  subst e
  funext i x
  refine (View.ld_unit_apply_of _ _ _ _ _ (ix2 i ⟨h.val * 128 + x.val, by omega⟩) ?_).trans (bkv_eq m c t i _)
  intro a; fin_cases a <;> simp

theorem ld_v {off : Nat} {h : Fin 4} (e : off = 512 + h.val * 128) (inb) :
    rk (cutk (bkv m c t) off inb) = hv (akv m c) h := by
  subst e
  funext i x
  refine (View.ld_unit_apply_of _ _ _ _ _ (ix2 i ⟨512 + (h.val * 128 + x.val), by omega⟩) ?_).trans (bkv_eq m c t i _)
  intro a; fin_cases a <;> simp <;> omega

/-- A grid point's gradient of the queries, and its part of the gradients of the keys and of the values. -/
def GQ (y : S512x512.Idx) : EReal :=
  ∑ j, slope (hq (aq m c) (hd (y 1).val) (tok t (y 0))) (hk (akv m c) (hd (y 1).val)) (hv (akv m c) (hd (y 1).val)) (hq (ao m c) (hd (y 1).val) (tok t (y 0))) j
    * hk (akv m c) (hd (y 1).val) j (ln (y 1).val)
def GKV (y : S256x1024.Idx) : EReal :=
  if (y 1).val < 512 then
    ∑ i, slope (hq (aq m c) (hd (y 1).val) (tok t i)) (hk (akv m c) (hd (y 1).val)) (hv (akv m c) (hd (y 1).val)) (hq (ao m c) (hd (y 1).val) (tok t i)) (y 0)
      * hq (aq m c) (hd (y 1).val) (tok t i) (ln (y 1).val)
  else ∑ i, hq (ao m c) (hd ((y 1).val - 512)) (tok t i) (ln ((y 1).val - 512)) * prob (hq (aq m c) (hd ((y 1).val - 512)) (tok t i)) (hk (akv m c) (hd ((y 1).val - 512))) (y 0)

section head

variable {off offv : Nat} {h : Fin 4} (e : off = h.val * 128) (e' : offv = 512 + h.val * 128) (inq) (ink) (inv)

include e e'

/-- A head's tile of each, where it lies in the block. -/
theorem headQ (x : S512x128.Idx) (y : S512x512.Idx) (h0 : (y 0).val = (x 0).val) (h1 : (y 1).val = off + (x 1).val) :
    tileQ (cutq (bq m c t) off inq) (cutk (bkv m c t) off ink)
      (cutk (bkv m c t) offv inv) (cutq (bo m c t) off inq) x = GQ m c t y := by
  idx_bounds x
  refine (tileQ_eq _ _ _ _ x).trans ?_
  obtain ⟨i, hi⟩ : ∃ i : Fin 512, i = x 0 := ⟨_, rfl⟩
  rw [← hi] at h0 ⊢
  rw [ld_q m c t e, ld_o m c t e, ld_k m c t e, ld_v m c t e', GQ, show hd (y 1).val = h from Fin.ext (by simp only [hd]; omega),
    show ln (y 1).val = x 1 from Fin.ext (by simp only [ln]; omega), show y 0 = i from Fin.ext h0]

theorem headK (x : S256x128.Idx) (y : S256x1024.Idx) (h0 : (y 0).val = (x 0).val) (h1 : (y 1).val = off + (x 1).val) :
    tileK (cutq (bq m c t) off inq) (cutk (bkv m c t) off ink)
      (cutk (bkv m c t) offv inv) (cutq (bo m c t) off inq) x = GKV m c t y := by
  idx_bounds x
  rw [tileK_eq, ld_k m c t e, ld_v m c t e', GKV, if_pos (by omega), show hd (y 1).val = h from Fin.ext (by simp only [hd]; omega),
    show ln (y 1).val = x 1 from Fin.ext (by simp only [ln]; omega), show y 0 = x 0 from Fin.ext h0]
  simp only [ld_q m c t e, ld_o m c t e]

theorem headV (x : S256x128.Idx) (y : S256x1024.Idx) (h0 : (y 0).val = (x 0).val) (h1 : (y 1).val = offv + (x 1).val) :
    tileV (cutq (bq m c t) off inq) (cutk (bkv m c t) off ink)
      (cutq (bo m c t) off inq) x = GKV m c t y := by
  idx_bounds x
  rw [tileV_eq, ld_k m c t e, GKV, if_neg (by omega), show hd ((y 1).val - 512) = h from Fin.ext (by simp only [hd]; omega),
    show ln ((y 1).val - 512) = x 1 from Fin.ext (by simp only [ln]; omega), show y 0 = x 0 from Fin.ext h0]
  simp only [ld_q m c t e, ld_o m c t e]

end head

/-- Each grid point writes its gradient of the queries. -/
theorem outQ_first (h : t.val % 16 = 0) (y : S512x512.Idx) : (outsAt0 m c t.val t.isLt).1 y = GQ m c t y := by
  have h1 : ¬1 ≤ t.val := by have : t.val < 16 := t.isLt; omega
  rw [outsAt0_A m c t h h1 h h1 h h1 h h1 h h1 h h1 h h1 h h1]
  frame_out
  canon_tiles x h'
  · exact headQ m c t (h := 3) rfl rfl _ _ _ x y (by omega) (by omega)
  · exact (congrFun (tileQ2 _ _ _ _) x).trans (headQ m c t (h := 2) rfl rfl _ _ _ x y (by omega) (by omega))
  · exact (congrFun (tileQ1 _ _ _ _) x).trans (headQ m c t (h := 1) rfl rfl _ _ _ x y (by omega) (by omega))
  · exact (congrFun (tileQ0 _ _ _ _) x).trans (headQ m c t (h := 0) rfl rfl _ _ _ x y (by omega) (by omega))

theorem outQ_later (h : ¬t.val % 16 = 0) (y : S512x512.Idx) : (outsAt0 m c t.val t.isLt).1 y = GQ m c t y := by
  have h1 : 1 ≤ t.val := by omega
  rw [outsAt0_B m c t h h1 h h1 h h1 h h1 h h1 h h1 h h1 h h1]
  frame_out
  canon_tiles x h'
  · exact headQ m c t (h := 3) rfl rfl _ _ _ x y (by omega) (by omega)
  · exact (congrFun (tileQ2 _ _ _ _) x).trans (headQ m c t (h := 2) rfl rfl _ _ _ x y (by omega) (by omega))
  · exact (congrFun (tileQ1 _ _ _ _) x).trans (headQ m c t (h := 1) rfl rfl _ _ _ x y (by omega) (by omega))
  · exact (congrFun (tileQ0 _ _ _ _) x).trans (headQ m c t (h := 0) rfl rfl _ _ _ x y (by omega) (by omega))

/-- The first grid point starts the gradients of the keys and of the values. -/
theorem outKV_first (h : t.val % 16 = 0) (y : S256x1024.Idx) : (outsAt0 m c t.val t.isLt).2 y = GKV m c t y := by
  have h1 : ¬1 ≤ t.val := by have : t.val < 16 := t.isLt; omega
  rw [outsAt0_A m c t h h1 h h1 h h1 h h1 h h1 h h1 h h1 h h1]
  frame_out
  canon_tiles x h'
  · exact headV m c t (h := 3) rfl rfl _ _ x y (by omega) (by omega)
  · exact headK m c t (h := 3) rfl rfl _ _ _ x y (by omega) (by omega)
  · exact (congrFun (tileV2 _ _ _) x).trans (headV m c t (h := 2) rfl rfl _ _ x y (by omega) (by omega))
  · exact (congrFun (tileK2 _ _ _ _) x).trans (headK m c t (h := 2) rfl rfl _ _ _ x y (by omega) (by omega))
  · exact (congrFun (tileV1 _ _ _) x).trans (headV m c t (h := 1) rfl rfl _ _ x y (by omega) (by omega))
  · exact (congrFun (tileK1 _ _ _ _) x).trans (headK m c t (h := 1) rfl rfl _ _ _ x y (by omega) (by omega))
  · exact (congrFun (tileV0 _ _ _) x).trans (headV m c t (h := 0) rfl rfl _ _ x y (by omega) (by omega))
  · exact (congrFun (tileK0 _ _ _ _) x).trans (headK m c t (h := 0) rfl rfl _ _ _ x y (by omega) (by omega))

/-- A running value: what was there plus the grid point's part. -/
theorem add_eq (p b : FVec Ideal S256x128 .f32) (x : S256x128.Idx) : k0_pay6 (F := Ideal) p b x = b x + p x := by
  pointwise [k0_pay6]

theorem prior {off : Nat} {inb} (b : FVec Ideal S256x1024 .f32) (x : S256x128.Idx) (y : S256x1024.Idx) (h0 : (y 0).val = (x 0).val) (h1 : (y 1).val = off + (x 1).val) :
    View.ld (Val := Elt Ideal) (S := S256x1024) (e' := .f32) b (Rect.unit (s := S256x1024) ![0, off] ![256, 128] inb) x = b y := by
  refine View.ld_unit_apply_of _ _ _ _ _ y ?_
  intro a; fin_cases a <;> simp <;> omega

/-- The others add theirs. -/
theorem outKV_later (h : ¬t.val % 16 = 0) (y : S256x1024.Idx) : (outsAt0 m c t.val t.isLt).2 y
    = (outsAt0 m c (t.val - 1) (Nat.lt_of_le_of_lt (Nat.sub_le _ _) t.isLt)).2 y + GKV m c t y := by
  have h1 : 1 ≤ t.val := by omega
  rw [outsAt0_B m c t h h1 h h1 h h1 h h1 h h1 h h1 h h1 h h1]
  frame_out
  canon_tiles x h'
  · exact (add_eq _ _ x).trans (congrArg₂ (· + ·) (prior _ x y (by omega) (by omega)) (headV m c t (h := 3) rfl rfl _ _ x y (by omega) (by omega)))
  · exact (add_eq _ _ x).trans (congrArg₂ (· + ·) (prior _ x y (by omega) (by omega)) (headK m c t (h := 3) rfl rfl _ _ _ x y (by omega) (by omega)))
  · exact (add_eq _ _ x).trans (congrArg₂ (· + ·) (prior _ x y (by omega) (by omega)) ((congrFun (tileV2 _ _ _) x).trans (headV m c t (h := 2) rfl rfl _ _ x y (by omega) (by omega))))
  · exact (add_eq _ _ x).trans (congrArg₂ (· + ·) (prior _ x y (by omega) (by omega)) ((congrFun (tileK2 _ _ _ _) x).trans (headK m c t (h := 2) rfl rfl _ _ _ x y (by omega) (by omega))))
  · exact (add_eq _ _ x).trans (congrArg₂ (· + ·) (prior _ x y (by omega) (by omega)) ((congrFun (tileV1 _ _ _) x).trans (headV m c t (h := 1) rfl rfl _ _ x y (by omega) (by omega))))
  · exact (add_eq _ _ x).trans (congrArg₂ (· + ·) (prior _ x y (by omega) (by omega)) ((congrFun (tileK1 _ _ _ _) x).trans (headK m c t (h := 1) rfl rfl _ _ _ x y (by omega) (by omega))))
  · exact (add_eq _ _ x).trans (congrArg₂ (· + ·) (prior _ x y (by omega) (by omega)) ((congrFun (tileV0 _ _ _) x).trans (headV m c t (h := 0) rfl rfl _ _ x y (by omega) (by omega))))
  · exact (add_eq _ _ x).trans (congrArg₂ (· + ·) (prior _ x y (by omega) (by omega)) ((congrFun (tileK0 _ _ _ _) x).trans (headK m c t (h := 0) rfl rfl _ _ _ x y (by omega) (by omega))))

/-- The last grid point holds the sum over all of them. -/
theorem outKV (ht : t.val + 1 = 16) (y : S256x1024.Idx) : (outsAt0 m c t.val t.isLt).2 y = ∑ k : Fin 16, GKV m c k y :=
  (Pipeline.eq_sum_fin_of_reset_step_apply_last (N := 16) (fun n h => (outsAt0 m c n h).2) 16 (fun _ => (0 : EReal)) (fun k => GKV m c k)
    (fun n hn i => (outKV_first m c n hn i).trans (zero_add _).symm) (fun n hn i => outKV_later m c n hn i) (by decide) t ht y).trans (zero_add _)

/-- The gradient of the queries, the whole array. -/
theorem array_q : (dats m 0 c).arrAt 3 (cfgs 0).N = val_main_v55 (F := Ideal) (aq m c) (akv m c) (ao m c) := by
  refine (dats m 0 c).arrAt_eq_of_covers 3 _ (by decide +kernel) fun t hf y => ?_
  blk_simp
  rw [after0_3, refQ]
  trans GQ m c t y
  · by_cases h : t.val % 16 = 0
    · exact outQ_first m c t h y
    · exact outQ_later m c t h y
  · rw [show (win0_3.blk t).view.emb y = ix2 (tok t (y 0)) (y 1) by blk_ext [rows t, tok]]
    rfl

/-- The gradients of the keys and of the values, the whole array. -/
theorem array_kv : (dats m 0 c).arrAt 4 (cfgs 0).N = val_main_v58 (F := Ideal) (aq m c) (akv m c) (ao m c) := by
  refine (dats m 0 c).arrAt_eq_of_after_last 4 t0_15 (by decide +kernel) _ fun y => ?_
  blk_simp
  rw [after0_4]
  refine (outKV m c t0_15 rfl y).trans ?_
  rw [refKV]
  simp only [GKV]
  split_ifs with h
  · exact Fin.sum_mul_add_congr fun s k hl => rfl
  · exact Fin.sum_mul_add_congr fun s k hl => rfl

end point

end Cert.DattIdeal.Val

end
-- ==== Proof.DattClaim.lean ====
/- The algebraic claim of the gradient of the cross-attention: the idealised kernel's run and the reference's end with
   equal arrays. -/
module

public import proofs.«01_k».proof.Defs
public import proofs.«01_k».proof.Proof.DattValue
public import proofs.«01_k».proof.Proof.Gen.DattIdeal.Value
public import proofs.«01_k».proof.Proof.Gen.DattRefIdeal
public import proofs.«01_k».proof.Proof.Gen.DattRefIdeal.Run
public import Idealize.ShloMosaic.Lib.Claim

@[expose] public section

set_option maxRecDepth 16384

noncomputable section

open Idealize.ShloMosaic Idealize.ShloMosaic.TcCoe Idealize.SL.Sem

namespace Cert.DattRefIdeal.Val

open Cert.DattRefIdeal Cert.DattRefIdeal.Read

/-- Every execution of the reference ends with its results at their named terms and with its arguments as they were. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v55) = val_main_v55 (F := Ideal) (m ((c.tc : Thread nD τ).loc main_arg0)) (m ((c.tc : Thread nD τ).loc main_arg1)) (m ((c.tc : Thread nD τ).loc main_arg2))
      ∧ r.2.mem ((c.tc : Thread nD τ).loc main_v58) = val_main_v58 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(h c).1.trans (val_main_v55_eq (F := Ideal) m c),
      (h c).2.1.trans (val_main_v58_eq (F := Ideal) m c), (h c).2.2⟩)
    (Cert.DattRefIdeal.Value.run m ρ)

end Cert.DattRefIdeal.Val

namespace Cert.DattClaim

/-- The reference runs, its arguments unchanged. -/
theorem reference_runs : Cert.quiescent_DattRefIdeal := by
  intro m g hpre
  hlo_run
  · intro c; simp
  · exact sem_eq_zero_of_no_sems (sig := Cert.DattRefIdeal.sig) (by decide) _

/-- The kernel's arrays are the reference's. -/
theorem algebraic : Cert.algebraic_DattIdeal_DattRefIdeal := by
  pair_intro
  · run_from Cert.DattIdeal.Gen.run_main m g
  · run_from Cert.DattRefIdeal.Val.run_named m' g'
    · exact (Cert.DattIdeal.Val.array_q m c).symm
    · exact (Cert.DattIdeal.Val.array_kv m c).symm

end Cert.DattClaim

end
-- ==== Proof.DropeValue.lean ====
/- The gradient through the rotary embedding. -/
module

public import proofs.«01_k».proof.Proof.Gen.DropeIdeal.Frame
public import proofs.«01_k».proof.Proof.Gen.DropeRefIdeal.Read
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem

namespace Cert.DropeIdeal.Val

open Cert.DropeIdeal Cert.DropeIdeal.Gen
open Cert.DropeRefIdeal.Read

/-- One column of a row turned back: `x` is its own entry, `u` the entry eight columns on, `d` the one eight columns before, `n` its place in its head. -/
def back (c s : Fin 8 → EReal) (x u d : EReal) (n : ℕ) : EReal :=
  if h : n < 8 then x * c ⟨n, h⟩ + u * s ⟨n, h⟩
  else if h' : n < 16 then x * c ⟨n - 8, by omega⟩ + -d * s ⟨n - 8, by omega⟩
  else x

/-- The same from the tables that the kernel reads: a multiplier for each column, and a signed one for its partner. -/
theorem back_eq (c s : Fin 8 → EReal) (x u d C S : EReal) (n : ℕ)
    (hC : C = if h : n < 8 then c ⟨n, h⟩ else if h' : n < 16 then c ⟨n - 8, by omega⟩ else 1)
    (hS : S = if h : n < 8 then -s ⟨n, h⟩ else if h' : n < 16 then s ⟨n - 8, by omega⟩ else 0) :
    x * C + -1 * (if n < 8 then u else if n < 16 then d else 0) * S = back c s x u d n := by
  rw [hC, hS, back]
  split_ifs <;> simp

/-- The lane arithmetic: a column's place in its head. -/
def place (n : ℕ) : BitVec 32 :=
  Scalar.select
      (IntOp.andi
        (IntOp.xori (IntOp.cmpi CmpIPredicate.slt (IntOp.remsi ArithUnit.vector (BitVec.ofNat 32 n) (Scalar.select (Scalar.cmpi CmpIPredicate.eq 64#32 0#32) 1#32 64#32)) 0#32)
          (Scalar.cmpi CmpIPredicate.slt (Scalar.select (Scalar.cmpi CmpIPredicate.eq 64#32 0#32) 1#32 64#32) 0#32))
        (IntOp.cmpi CmpIPredicate.ne (IntOp.remsi ArithUnit.vector (BitVec.ofNat 32 n) (Scalar.select (Scalar.cmpi CmpIPredicate.eq 64#32 0#32) 1#32 64#32)) 0#32))
      (IntOp.addi (IntOp.remsi ArithUnit.vector (BitVec.ofNat 32 n) (Scalar.select (Scalar.cmpi CmpIPredicate.eq 64#32 0#32) 1#32 64#32))
        (Scalar.select (Scalar.cmpi CmpIPredicate.eq 64#32 0#32) 1#32 64#32))
      (IntOp.remsi ArithUnit.vector (BitVec.ofNat 32 n) (Scalar.select (Scalar.cmpi CmpIPredicate.eq 64#32 0#32) 1#32 64#32))

theorem place_eq : ∀ n : Fin 2048, place n.val = BitVec.ofNat 32 (n.val % 64) := by decide +kernel

theorem pick (n : Fin 2048) (u d : EReal) :
    Scalar.select (IntOp.cmpi CmpIPredicate.slt (place n.val) 8#32) u (Scalar.select (IntOp.cmpi CmpIPredicate.slt (place n.val) 16#32) d 0)
      = if n.val % 64 < 8 then u else if n.val % 64 < 16 then d else 0 := by
  rw [place_eq, WordCmp.cmpi_slt_ofNat (by omega) (by omega), WordCmp.cmpi_slt_ofNat (by omega) (by omega)]
  split_ifs <;> simp [*, Scalar.select]

theorem minus_one : Ideal.ofBits .f32 3212836864#32 = (-1 : EReal) := by
  rw [show (-1 : EReal) = ((-(1 : ℝ) : ℝ) : EReal) from rfl]
  simp [Ideal.ofBits, Ideal.ieee, -EReal.coe_mul, -EReal.coe_neg]; norm_num

/-- The same from three padded pieces: the columns left alone, the second eight and the first eight. -/
theorem back_of_pieces (c s : Fin 8 → EReal) (X U D : EReal) (d : ℕ) {P Q R : Prop} [Decidable P] [Decidable Q] [Decidable R]
    (hP : P ↔ 16 ≤ d) (hQ : Q ↔ 8 ≤ d ∧ d < 16) (hR : R ↔ d < 8) (a : P → EReal) (b : Q → EReal) (e : R → EReal)
    (ha : ∀ h, a h = X) (hb : ∀ (h : Q) (h' : d - 8 < 8), b h = X * c ⟨d - 8, h'⟩ + -D * s ⟨d - 8, h'⟩)
    (he : ∀ (h : R) (h' : d < 8), e h = U * s ⟨d, h'⟩ + X * c ⟨d, h'⟩) :
    (((if h : P then a h else 0) + if h : Q then b h else 0) + if h : R then e h else 0) = back c s X U D d := by
  rcases lt_or_ge d 8 with h | h
  · rw [dif_neg (fun k => by have := hP.mp k; omega), dif_neg (fun k => by have := hQ.mp k; omega), dif_pos (hR.mpr h), he _ h, back, dif_pos h]
    simp [add_comm]
  · rcases lt_or_ge d 16 with h' | h'
    · rw [dif_neg (fun k => by have := hP.mp k; omega), dif_pos (hQ.mpr ⟨h, h'⟩), dif_neg (fun k => by have := hR.mp k; omega), hb _ (by omega), back,
        dif_neg (by omega), dif_pos h']
      simp
    · rw [dif_pos (hP.mpr h'), dif_neg (fun k => by have := hQ.mp k; omega), dif_neg (fun k => by have := hR.mp k; omega), ha, back,
        dif_neg (by omega), dif_neg (by omega)]
      simp

/-- A token's gradient of the keys and the values: its own block's, and what the next block found for the one before it. -/
def both (p q : FVec Ideal Cert.DropeRefIdeal.S8192x512 .f32) (i : Fin 8192) (n : Fin 512) : EReal :=
  p (ix2 i n) + if h : i.val + 128 < 8192 then q (ix2 ⟨i.val + 128, h⟩ n) else 0

/-- A token's row of the result. -/
def row (x : FVec Ideal Cert.DropeRefIdeal.S8192x2048 .bf16) (p q : FVec Ideal Cert.DropeRefIdeal.S8192x512 .f32) (cs sn : FVec Ideal Cert.DropeRefIdeal.S8192x8 .f32) (i : Fin 8192) (n : ℕ) : EReal :=
  if h : n < 2048 then back (fun k => cs (ix2 i k)) (fun k => sn (ix2 i k)) (x (ix2 i ⟨n, h⟩)) (x (ix2 i ⟨(n + 8) % 2048, by omega⟩)) (x (ix2 i ⟨(n + 2040) % 2048, by omega⟩)) (n % 64)
  else if h' : n < 2304 then back (fun k => cs (ix2 i k)) (fun k => sn (ix2 i k)) (both p q i ⟨n - 2048, by omega⟩)
    (both p q i ⟨(n - 2048 + 8) % 256, by omega⟩) (both p q i ⟨(n - 2048 + 248) % 256, by omega⟩) (n % 64)
  else both p q i ⟨(n - 2048) % 512, by omega⟩

theorem add_congr {a b a' b' c s : EReal} (h : a = a') (h' : b = b') : a * c + b * s = a' * c + b' * s := by rw [h, h']
theorem sub_congr {a b a' b' c s : EReal} (h : a = a') (h' : b = b') : a * c + -b * s = a' * c + -b' * s := by rw [h, h']

section reference

open Cert.DropeRefIdeal

variable (x : FVec Ideal S8192x2048 .bf16) (p q : FVec Ideal S8192x512 .f32) (cs sn : FVec Ideal S8192x8 .f32)

theorem rboth (y : S8192x512.Idx) : val_main_v50 (F := Ideal) p q y = both p q (y 0) (y 1) := by
  pointwise [val_main_v50, val_main_v49, val_main_v48, val_main_cst_3]
  unfold both
  refine congrArg₂ (· + ·) (congrArg p (by ext a; fin_cases a <;> rfl)) ?_
  rcases lt_or_ge (y 0).val 8064 with h | h
  · rw [dif_pos h, dif_pos (by omega)]
    exact congrArg (fun k => q (ix2 k (y 1))) (Fin.ext (by simp only; omega))
  · rw [dif_neg (by omega), dif_neg (by omega)]

theorem rboth_at (i : Fin 8192) (n : Fin 512) : val_main_v50 (F := Ideal) p q (ix2 i n) = both p q i n := rboth p q _

theorem rquery (y : S8192x2048.Idx) : val_main_v97 (F := Ideal) x cs sn y = row x p q cs sn (y 0) (y 1).val := by
  pointwise [val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v46, val_main_v4, val_main_v5, val_main_cst_9, val_main_cst_10, val_main_cst_11]
  idx_bounds y
  refine Eq.trans ?_ (dif_pos (by assumption)).symm
  have at_ : ∀ (k l : ℕ) (hk : k < 2048) (hl : l < 2048), k = l → x (ix2 (y 0) ⟨k, hk⟩) = x (ix2 (y 0) ⟨l, hl⟩) := fun k l hk hl e => by subst e; rfl
  refine back_of_pieces _ _ _ _ _ _ (by omega) (by omega) (by omega) _ _ _ (fun h => ?_) (fun h h' => ?_) fun h h' => ?_
  · exact at_ _ _ _ _ (by omega)
  · exact sub_congr (at_ _ _ _ _ (by omega)) (at_ _ _ _ _ (by omega))
  · exact add_congr (at_ _ _ _ _ (by omega)) (congrArg x (by ext a; fin_cases a <;> rfl))

theorem both_congr {i : Fin 8192} {k l : ℕ} {hk : k < 512} {hl : l < 512} (e : k = l) : both p q i ⟨k, hk⟩ = both p q i ⟨l, hl⟩ := by subst e; rfl

theorem row_key (i : Fin 8192) (k n : ℕ) (e : k - 2048 = n) (h : 2048 ≤ k) (hn : n < 256) : row x p q cs sn i k
    = back (fun k => cs (ix2 i k)) (fun k => sn (ix2 i k)) (both p q i ⟨n, by omega⟩) (both p q i ⟨(n + 8) % 256, by omega⟩) (both p q i ⟨(n + 248) % 256, by omega⟩) (n % 64) := by
  have e' : k % 64 = n % 64 := by omega
  unfold row
  rw [dif_neg (by omega), dif_pos (by omega)]
  simp only [e, e']

theorem row_val (i : Fin 8192) (k n : ℕ) (e : (k - 2048) % 512 = n) (h : 2304 ≤ k) (hn : n < 512) : row x p q cs sn i k = both p q i ⟨n, hn⟩ := by
  unfold row
  rw [dif_neg (by omega), dif_neg (by omega)]
  simp only [e]

theorem rkey (i : Fin 8192) (n : Fin 256) : val_main_v74 (F := Ideal) p q cs sn (ix2 i n)
    = back (fun k => cs (ix2 i k)) (fun k => sn (ix2 i k)) (both p q i ⟨n.val, by omega⟩) (both p q i ⟨(n.val + 8) % 256, by omega⟩) (both p q i ⟨(n.val + 248) % 256, by omega⟩) (n.val % 64) := by
  pointwise [val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v51, val_main_v4, val_main_v5, val_main_cst_5, val_main_cst_6, val_main_cst_7]
  simp only [rboth_at]
  refine back_of_pieces _ _ _ _ _ _ (by omega) (by omega) (by omega) _ _ _ (fun h => ?_) (fun h h' => ?_) fun h h' => ?_
  · exact both_congr p q (by omega)
  · exact sub_congr (both_congr p q (by omega)) (both_congr p q (by omega))
  · exact add_congr (both_congr p q (by omega)) (both_congr p q (by omega))

/-- The reference's row. -/
theorem ref_eq (y : S8192x2560.Idx) : val_main_v99 (F := Ideal) x p q cs sn y = row x p q cs sn (y 0) (y 1).val := by
  pointwise [val_main_v99, val_main_v98, val_main_v76, val_main_v75, val_main_v53, val_main_v52, val_main_cst_4, val_main_cst_8, val_main_cst_12]
  simp only [rboth_at, rquery x p q]
  idx_bounds y
  rcases lt_or_ge (y 1).val 2048 with h | h
  · rw [dif_neg (by omega), dif_neg (by omega), dif_pos h]
    exact (congrArg (· + _) (add_zero (0 : EReal))).trans (zero_add _)
  · rcases lt_or_ge (y 1).val 2304 with h' | h'
    · rw [dif_neg (by omega), dif_pos (by omega), dif_neg (by omega)]
      refine (add_zero _).trans ((zero_add _).trans ((rkey p q cs sn _ _).trans ?_))
      exact (row_key x p q cs sn (y 0) _ _ rfl h (by omega)).symm
    · rw [dif_pos (by omega), dif_neg (by omega), dif_neg (by omega)]
      refine (add_zero _).trans ((add_zero _).trans ?_)
      refine (rboth_at p q _ _).trans ?_
      exact (row_val x p q cs sn (y 0) (y 1).val (256 + ((y 1).val - 2304)) (by omega) h' (by omega)).symm

theorem ref_out (y : S8192x2560.Idx) : val_main_v102 (F := Ideal) x p q cs sn y = row x p q cs sn (y 0) (y 1).val := by
  pointwise [val_main_v102, ref_eq]

theorem ref_bias (y : S1x2560.Idx) : val_main_v101 (F := Ideal) x p q cs sn y = ∑ i : Fin 8192, row x p q cs sn i (y 1).val := by
  pointwise [val_main_v101, val_main_v100, val_main_cst_13]
  simp only [ref_eq]
  rfl

end reference

section tile

variable (x : FVec Ideal S128x2048 .bf16) (c s : FVec Ideal S128x128 .f32) (cc ss : Fin 128 → Fin 8 → EReal)

theorem cos_at (y : S128x2048.Idx) : k0_pay9 (F := Ideal) c y = c (ix2 (y 0) ⟨(y 1).val % 128, by omega⟩) := by
  rw [k0_pay9]
  have e : k0_pay5 (F := Ideal) c = c := by ext; pointwise [k0_pay5]
  rw [e]
  refine concatenate_ofFn_apply (t := S128x2048) (s₁ := S128x128) 1 (fun _ : Fin 16 => c) _ rfl 128 rfl y ⟨(y 1).val / 128, by idx_bounds y; omega⟩ rfl (ix2 (y 0) ⟨(y 1).val % 128, by omega⟩) rfl ?_
  intro a h
  fin_cases a
  · rfl
  · exact absurd rfl h

theorem sin_at (y : S128x2048.Idx) : k0_pay10 (F := Ideal) s y = s (ix2 (y 0) ⟨(y 1).val % 128, by omega⟩) :=
  cos_at s y

/-- What the two tables hold. -/
def IsCos : Prop := ∀ (i n : Fin 128), c (ix2 i n) = if h : n.val % 64 < 8 then cc i ⟨n.val % 64, h⟩ else if h' : n.val % 64 < 16 then cc i ⟨n.val % 64 - 8, by omega⟩ else 1
def IsSin : Prop := ∀ (i n : Fin 128), s (ix2 i n) = if h : n.val % 64 < 8 then -ss i ⟨n.val % 64, h⟩ else if h' : n.val % 64 < 16 then ss i ⟨n.val % 64 - 8, by omega⟩ else 0

variable {c s cc ss} (hc : IsCos c cc) (hs : IsSin s ss)

include hc in
theorem cos_of (i n : Fin 128) (k : ℕ) (e : n.val % 64 = k) :
    c (ix2 i n) = if h : k < 8 then cc i ⟨k, h⟩ else if h' : k < 16 then cc i ⟨k - 8, by omega⟩ else 1 := by
  subst e
  exact hc i n

include hs in
theorem sin_of (i n : Fin 128) (k : ℕ) (e : n.val % 64 = k) :
    s (ix2 i n) = if h : k < 8 then -ss i ⟨k, h⟩ else if h' : k < 16 then ss i ⟨k - 8, by omega⟩ else 0 := by
  subst e
  exact hs i n

include hc hs

theorem rot (y : S128x2048.Idx) :
    k0_pay16 (F := Ideal) (k0_pay8 x) (k0_pay9 c) (k0_pay10 s) k0_pay11 (k0_pay12 x) (k0_pay13 x) k0_pay14 k0_pay15 y
      = back (cc (y 0)) (ss (y 0)) (x y) (x (ix2 (y 0) ⟨((y 1).val + 8) % 2048, by omega⟩)) (x (ix2 (y 0) ⟨((y 1).val + 2040) % 2048, by omega⟩)) ((y 1).val % 64) := by
  have h := pick (y 1)
  simp only [place] at h
  pointwise [k0_pay16, k0_pay8, k0_pay14, k0_pay15, k0_pay11, k0_pay12, k0_pay13]
  rw [h, cos_at, sin_at, minus_one]
  exact back_eq _ _ _ _ _ _ _ _ (cos_of hc _ _ _ (Nat.mod_mod_of_dvd _ (by decide))) (sin_of hs _ _ _ (Nat.mod_mod_of_dvd _ (by decide)))

theorem rot' (d : FVec Ideal S128x512 .f32) (y : S128x256.Idx) :
    k0_pay1 (F := Ideal) (k0_pay18 (k0_pay6 s)) (k0_pay19 (k0_pay5 c) d) (k0_pay20 d) y
      = back (cc (y 0)) (ss (y 0)) (d (ix2 (y 0) ⟨(y 1).val, by idx_bounds y; omega⟩)) (d (ix2 (y 0) ⟨((y 1).val + 8) % 256, by omega⟩)) (d (ix2 (y 0) ⟨((y 1).val + 248) % 256, by omega⟩)) ((y 1).val % 64) := by
  have h := pick ⟨(y 1).val, by idx_bounds y; omega⟩
  simp only [place] at h
  pointwise [k0_pay1, k0_pay18, k0_pay19, k0_pay20, k0_pay17, k0_pay5, k0_pay6]
  rw [h, minus_one]
  clear h
  refine back_eq _ _ _ _ _ _ _ _ ?_ ?_
  · split
    · exact cos_of hc _ _ _ rfl
    · exact cos_of hc _ _ _ (by change ((y 1).val - 128) % 64 = _; omega)
  · split
    · exact sin_of hs _ _ _ rfl
    · exact sin_of hs _ _ _ (by change ((y 1).val - 128) % 64 = _; omega)

end tile

theorem bias3 (o : FVec Ideal S128x2560 .bf16) (y : S1x2560.Idx) : k0_pay3 (F := Ideal) o y = ∑ i : Fin 128, o (ix2 i (y 1)) := by
  pointwise [k0_pay3]

theorem bias4 (o : FVec Ideal S128x2560 .bf16) (p : FVec Ideal S1x2560 .f32) (y : S1x2560.Idx) : k0_pay4 (F := Ideal) o p y = p y + ∑ i : Fin 128, o (ix2 i (y 1)) := by
  pointwise [k0_pay4, bias3]

theorem gate : ∀ n : Fin 64, (Scalar.extui (Scalar.cmpi CmpIPredicate.slt (BitVec.ofNat 32 n.val) 63#32) : BitVec 32).toInt = if n.val < 63 then 1 else 0 := by
  decide +kernel

theorem joined (i : grid0.Coords) (p q : FVec Ideal S128x512 .f32) (y : S128x512.Idx) : k0_pay7 (F := Ideal) i p q y = p y + if (i 0).val < 63 then q y else 0 := by
  have h := gate (i 0)
  pointwise [k0_pay7]
  rw [h]
  split_ifs <;> simp

theorem plain (d : FVec Ideal S128x512 .f32) (y : S128x256.Idx) :
    k0_pay2 (F := Ideal) d y = d (ix2 (y 0) ⟨256 + (y 1).val, by idx_bounds y; omega⟩) := by
  pointwise [k0_pay2]

section point

variable (m : (ℓ : Loc nD τ sig) → Buf (Elt Ideal) ℓ) (c : Dev nD) (t : Fin cfg0.N)

/-- Which rows of each array a grid point reads and writes. -/
theorem rows : ∀ t : Fin cfg0.N, win0_0.index t = ![t.val, 0] ∧ win0_1.index t = ![t.val, 0] ∧ win0_2.index t = ![min (t.val + 1) 63, 0]
    ∧ win0_3.index t = ![t.val, 0] ∧ win0_4.index t = ![t.val, 0] ∧ win0_5.index t = ![t.val, 0] ∧ (grid0.coords t 0).val = t.val :=
  (by decide +kernel : ∀ t : Fin grid0.N, _)

/-- A grid point's tokens. -/
def tok (i : Fin 128) : Fin 8192 := ⟨t.val * 128 + i.val, by have : t.val < 64 := t.isLt; omega⟩

/-- The arguments. -/
abbrev aq : FVec Ideal Cert.DropeRefIdeal.S8192x2048 .bf16 := m ((c : Thread nD τ).loc main_arg0)
abbrev acur : FVec Ideal Cert.DropeRefIdeal.S8192x512 .f32 := m ((c : Thread nD τ).loc main_arg1)
abbrev aprev : FVec Ideal Cert.DropeRefIdeal.S8192x512 .f32 := m ((c : Thread nD τ).loc main_arg2)
abbrev acos : FVec Ideal Cert.DropeRefIdeal.S8192x8 .f32 := m ((c : Thread nD τ).loc main_arg3)
abbrev asin : FVec Ideal Cert.DropeRefIdeal.S8192x8 .f32 := m ((c : Thread nD τ).loc main_arg4)

/-- The blocks that a grid point reads. -/
abbrev bq : FVec Ideal S128x2048 .bf16 := iblk m c 0 t
abbrev bcur : FVec Ideal S128x512 .f32 := iblk m c 1 t
abbrev bnext : FVec Ideal S128x512 .f32 := iblk m c 2 t
abbrev bcos : FVec Ideal S128x128 .f32 := iblk m c 3 t
abbrev bsin : FVec Ideal S128x128 .f32 := iblk m c 4 t

theorem bq_eq (i : Fin 128) (n : Fin 2048) : bq m c t (ix2 i n) = aq m c (ix2 (tok t i) n) := by
  blk_ext [iblk, V, rows t, tok]

theorem bcur_eq (i : Fin 128) (n : Fin 512) : bcur m c t (ix2 i n) = acur m c (ix2 (tok t i) n) := by
  blk_ext [iblk, V, rows t, tok]

theorem bnext_eq (h : t.val < 63) (i : Fin 128) (n : Fin 512) : bnext m c t (ix2 i n) = aprev m c (ix2 ⟨(tok t i).val + 128, by simp only [tok]; omega⟩ n) := by
  have e : min (t.val + 1) 63 = t.val + 1 := by omega
  blk_ext [iblk, V, rows t, tok, e]

theorem table_cos (i : Fin 8192) (n : Fin 128) : V m c main_v5 (ix2 i n)
    = (if h : n.val % 64 < 8 then acos m c (ix2 i ⟨n.val % 64, h⟩) else if h' : n.val % 64 < 16 then acos m c (ix2 i ⟨n.val % 64 - 8, by omega⟩) else 1 : EReal) := by
  unfold V
  unfold_abbrev_sides
  after_results
  pointwise
  rcases lt_or_ge (n.val % 64) 8 with h | h
  · rw [dif_pos h, dif_pos h]
    rfl
  · have k : ¬n.val % 64 < 8 := by omega
    rcases lt_or_ge (n.val % 64) 16 with h' | h'
    · have k' : n.val % 64 - 8 < 8 := by omega
      exact (dif_neg k).trans ((dif_pos k').trans (Eq.trans rfl ((dif_neg k).trans (dif_pos h')).symm))
    · have k' : ¬n.val % 64 - 8 < 8 := by omega
      have k'' : ¬n.val % 64 < 16 := by omega
      exact (dif_neg k).trans ((dif_neg k').trans (Eq.trans (show Ideal.ofBits .f32 0x3F800000#32 = 1 by simp) ((dif_neg k).trans (dif_neg k'')).symm))

theorem table_sin (i : Fin 8192) (n : Fin 128) : V m c main_v10 (ix2 i n)
    = (if h : n.val % 64 < 8 then -asin m c (ix2 i ⟨n.val % 64, h⟩) else if h' : n.val % 64 < 16 then asin m c (ix2 i ⟨n.val % 64 - 8, by omega⟩) else 0 : EReal) := by
  unfold V
  unfold_abbrev_sides
  after_results
  pointwise
  rcases lt_or_ge (n.val % 64) 8 with h | h
  · rw [dif_pos h, dif_pos h]
    rfl
  · have k : ¬n.val % 64 < 8 := by omega
    rcases lt_or_ge (n.val % 64) 16 with h' | h'
    · have k' : n.val % 64 - 8 < 8 := by omega
      exact (dif_neg k).trans ((dif_pos k').trans (Eq.trans rfl ((dif_neg k).trans (dif_pos h')).symm))
    · have k' : ¬n.val % 64 - 8 < 8 := by omega
      have k'' : ¬n.val % 64 < 16 := by omega
      exact (dif_neg k).trans ((dif_neg k').trans (Eq.trans Ideal.ofBits_zero_f32 ((dif_neg k).trans (dif_neg k'')).symm))

theorem bcos_eq : IsCos (bcos m c t) fun i k => acos m c (ix2 (tok t i) k) := by
  intro i n
  trans V m c main_v5 (ix2 (tok t i) n)
  · blk_ext [iblk, rows t, tok]
  · exact table_cos m c _ n

theorem bsin_eq : IsSin (bsin m c t) fun i k => asin m c (ix2 (tok t i) k) := by
  intro i n
  trans V m c main_v10 (ix2 (tok t i) n)
  · blk_ext [iblk, rows t, tok]
  · exact table_sin m c _ n

theorem both_eq (i : Fin 128) (n : Fin 512) : k0_pay7 (F := Ideal) (grid0.coords t) (bcur m c t) (bnext m c t) (ix2 i n) = both (acur m c) (aprev m c) (tok t i) n := by
  have ht : t.val < 64 := t.isLt
  rw [joined, bcur_eq, (rows t).2.2.2.2.2.2]
  unfold both
  refine congrArg (_ + ·) ?_
  rcases lt_or_ge t.val 63 with h | h
  · have h' : (tok t i).val + 128 < 8192 := by simp only [tok]; omega
    rw [if_pos h, dif_pos h']
    exact bnext_eq m c t h i n
  · have h' : ¬(tok t i).val + 128 < 8192 := by simp only [tok]; omega
    rw [if_neg (by omega), dif_neg h']

/-- A grid point's rows of the result. -/
abbrev G (y : S128x2560.Idx) : EReal := row (aq m c) (acur m c) (aprev m c) (acos m c) (asin m c) (tok t (y 0)) (y 1).val

/-- The three pieces that a grid point writes, where they lie in its block. -/
theorem piece_query (i : Fin 128) (n : Fin 2048) (y : S128x2560.Idx) (h0 : (y 0).val = i.val) (h1 : (y 1).val = n.val) :
    k0_pay16 (F := Ideal) (k0_pay8 (bq m c t)) (k0_pay9 (bcos m c t)) (k0_pay10 (bsin m c t)) k0_pay11 (k0_pay12 (bq m c t)) (k0_pay13 (bq m c t)) k0_pay14 k0_pay15 (ix2 i n) = G m c t y := by
  refine (rot (bq m c t) (bcos_eq m c t) (bsin_eq m c t) (ix2 i n)).trans ?_
  rw [show G m c t y = row (aq m c) (acur m c) (aprev m c) (acos m c) (asin m c) (tok t i) n.val from by rw [G, h1, show y 0 = i from Fin.ext h0]]
  refine Eq.trans ?_ (dif_pos n.isLt).symm
  rw [bq_eq]
  refine congrArg₂ (fun u d => back _ _ _ u d _) ?_ ?_
  · exact bq_eq m c t i _
  · exact bq_eq m c t i _

theorem piece_key (i : Fin 128) (n : Fin 256) (y : S128x2560.Idx) (h0 : (y 0).val = i.val) (h1 : (y 1).val = 2048 + n.val) :
    k0_pay1 (F := Ideal) (k0_pay18 (k0_pay6 (bsin m c t))) (k0_pay19 (k0_pay5 (bcos m c t)) (k0_pay7 (grid0.coords t) (bcur m c t) (bnext m c t)))
      (k0_pay20 (k0_pay7 (grid0.coords t) (bcur m c t) (bnext m c t))) (ix2 i n) = G m c t y := by
  refine (rot' (bcos_eq m c t) (bsin_eq m c t) _ (ix2 i n)).trans ?_
  rw [show G m c t y = row (aq m c) (acur m c) (aprev m c) (acos m c) (asin m c) (tok t i) (y 1).val from by rw [G, show y 0 = i from Fin.ext h0]]
  rw [row_key _ _ _ _ _ _ (y 1).val n.val (by omega) (by omega) n.isLt]
  rw [← both_eq, ← both_eq, ← both_eq]
  rfl

theorem piece_value (i : Fin 128) (n : Fin 256) (y : S128x2560.Idx) (h0 : (y 0).val = i.val) (h1 : (y 1).val = 2304 + n.val) :
    k0_pay2 (F := Ideal) (k0_pay7 (grid0.coords t) (bcur m c t) (bnext m c t)) (ix2 i n) = G m c t y := by
  refine (plain _ (ix2 i n)).trans ?_
  rw [show G m c t y = row (aq m c) (acur m c) (aprev m c) (acos m c) (asin m c) (tok t i) (y 1).val from by rw [G, show y 0 = i from Fin.ext h0]]
  rw [row_val _ _ _ _ _ _ (y 1).val (256 + n.val) (by omega) (by omega) (by omega)]
  exact both_eq m c t i _

/-- The pieces of a grid point's block, and that they fill it. -/
def pieces : List (View.Piece (Elt Ideal) S128x2560 .bf16) :=
  [⟨Rect.unit (s := S128x2560) ![0, 2304] ![128, 256] inb_S128x2560_S128x256_0_2304, k0_pay2 (F := Ideal) (k0_pay7 (grid0.coords t) (bcur m c t) (bnext m c t))⟩,
    ⟨Rect.unit (s := S128x2560) ![0, 2048] ![128, 256] inb_S128x2560_S128x256_0_2048,
      k0_pay1 (F := Ideal) (k0_pay18 (k0_pay6 (bsin m c t))) (k0_pay19 (k0_pay5 (bcos m c t)) (k0_pay7 (grid0.coords t) (bcur m c t) (bnext m c t)))
        (k0_pay20 (k0_pay7 (grid0.coords t) (bcur m c t) (bnext m c t)))⟩,
    ⟨Rect.unit (s := S128x2560) ![0, 0] ![128, 2048] inb_S128x2560_S128x2048_0_0,
      k0_pay16 (F := Ideal) (k0_pay8 (bq m c t)) (k0_pay9 (bcos m c t)) (k0_pay10 (bsin m c t)) k0_pay11 (k0_pay12 (bq m c t)) (k0_pay13 (bq m c t)) k0_pay14 k0_pay15⟩]

theorem filled (y : S128x2560.Idx) : ∃ pc ∈ pieces m c t, y ∈ pc.1.set :=
  View.cover_of_tiledBy (pieces m c t) ![128, 256] (by sl_kernel_rfl) y

theorem pieces_eq (y : S128x2560.Idx) : View.canon (pieces m c t) y = G m c t y := by
  have cover := filled m c t y
  unfold pieces at cover ⊢
  canon_tiles x h' using cover
  · rw [show x = ix2 (x 0) (x 1) by ext a; fin_cases a <;> rfl]
    exact piece_value m c t (x 0) (x 1) y (by omega) (by omega)
  · rw [show x = ix2 (x 0) (x 1) by ext a; fin_cases a <;> rfl]
    exact piece_key m c t (x 0) (x 1) y (by omega) (by omega)
  · rw [show x = ix2 (x 0) (x 1) by ext a; fin_cases a <;> rfl]
    exact piece_query m c t (x 0) (x 1) y (by omega) (by omega)

theorem out_eq (y : S128x2560.Idx) : (outsAt0 m c t.val t.isLt).1 y = G m c t y := by
  by_cases h : t.val % 64 = 0
  · have h1 : ¬1 ≤ t.val := by have : t.val < 64 := t.isLt; omega
    rw [outsAt0_A m c t h h1]
    frame_out
    exact pieces_eq m c t y
  · have h1 : 1 ≤ t.val := by omega
    rw [outsAt0_B m c t h h1]
    frame_out
    exact pieces_eq m c t y

theorem readback {κ} {sp} (v : View sig κ sp S128x2560 .bf16) (i : Fin 128) (n : Fin 2560) :
    View.readCov (Val := Elt Ideal) v (pieces m c t) (Rect.unit (s := S128x2560) ![0, 0] ![128, 2560] inb_S128x2560_S128x2560_0_0).toLoadRect (ix2 i n) = (G m c t (ix2 i n) : EReal) := by
  rw [View.readCov_eq_canon']
  refine Eq.trans ?_ (pieces_eq m c t (ix2 i n))
  refine congrArg (View.canon (pieces m c t)) ?_
  ext a
  fin_cases a <;> simp

/-- A grid point's sum over its tokens. -/
def S (y : S1x2560.Idx) : EReal := ∑ i : Fin 128, G m c t (ix2 i (y 1))

theorem bias_first (h : t.val % 64 = 0) (y : S1x2560.Idx) : (outsAt0 m c t.val t.isLt).2 y = S m c t y := by
  have h1 : ¬1 ≤ t.val := by have : t.val < 64 := t.isLt; omega
  rw [outsAt0_A m c t h h1]
  frame_out
  refine (bias3 _ y).trans (Finset.sum_congr rfl fun i _ => ?_)
  exact readback m c t _ i (y 1)

theorem bias_next (h : ¬t.val % 64 = 0) (y : S1x2560.Idx) : (outsAt0 m c t.val t.isLt).2 y
    = (outsAt0 m c (t.val - 1) (Nat.lt_of_le_of_lt (Nat.sub_le _ _) t.isLt)).2 y + S m c t y := by
  have h1 : 1 ≤ t.val := by omega
  rw [outsAt0_B m c t h h1]
  frame_out
  refine (bias4 _ _ y).trans (congrArg (_ + ·) (Finset.sum_congr rfl fun i _ => ?_))
  exact readback m c t _ i (y 1)

theorem bias_last (ht : t.val + 1 = 64) (y : S1x2560.Idx) : (outsAt0 m c t.val t.isLt).2 y = ∑ k : Fin 64, S m c k y :=
  (Pipeline.eq_sum_fin_of_reset_step_apply_last (N := 64) (fun n h => (outsAt0 m c n h).2) 64 (fun _ => (0 : EReal)) (fun k => S m c k)
    (fun n hn i => (bias_first m c n hn i).trans (zero_add _).symm) (fun n hn i => bias_next m c n hn i) (by decide) t ht y).trans (zero_add _)

/-- The last grid point. -/
def final : Fin cfg0.N := ⟨63, by decide⟩

/-- The gradient of the projection's rows, the whole array. -/
theorem array_rows : (dats m 0 c).arrAt 5 (cfgs 0).N = val_main_v102 (F := Ideal) (aq m c) (acur m c) (aprev m c) (acos m c) (asin m c) := by
  refine (dats m 0 c).arrAt_eq_of_covers 5 _ (by decide +kernel) fun t hf y => ?_
  blk_simp
  rw [after0_5, ref_out, out_eq]
  rw [show (win0_5.blk t).view.emb y = ix2 (tok t (y 0)) (y 1) by blk_ext [rows t, tok]]
  rfl

/-- The gradient of the bias, the whole array. -/
theorem array_bias : (dats m 0 c).arrAt 6 (cfgs 0).N = val_main_v101 (F := Ideal) (aq m c) (acur m c) (aprev m c) (acos m c) (asin m c) := by
  refine (dats m 0 c).arrAt_eq_of_after_last 6 final (by decide +kernel) _ fun y => ?_
  blk_simp
  rw [after0_6]
  refine (bias_last m c final rfl y).trans ?_
  rw [ref_bias]
  exact Fin.sum_mul_add_congr fun s k hl => rfl

end point

end Cert.DropeIdeal.Val

end
-- ==== Proof.DropeClaim.lean ====
/- The algebraic claim of the gradient through the rotary embedding: the idealised kernel's run and the reference's end with
   equal arrays. -/
module

public import proofs.«01_k».proof.Defs
public import proofs.«01_k».proof.Proof.DropeValue
public import proofs.«01_k».proof.Proof.Gen.DropeIdeal.Value
public import proofs.«01_k».proof.Proof.Gen.DropeRefIdeal
public import proofs.«01_k».proof.Proof.Gen.DropeRefIdeal.Run
public import Idealize.ShloMosaic.Lib.Claim

@[expose] public section

set_option maxRecDepth 16384

noncomputable section

open Idealize.ShloMosaic Idealize.ShloMosaic.TcCoe Idealize.SL.Sem

namespace Cert.DropeRefIdeal.Val

open Cert.DropeRefIdeal Cert.DropeRefIdeal.Read

/-- Every execution of the reference ends with its results at their named terms and with its arguments as they were. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v102) = val_main_v102 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v101) = val_main_v101 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(h c).1.trans (val_main_v102_eq (F := Ideal) m c),
      (h c).2.1.trans (val_main_v101_eq (F := Ideal) m c), (h c).2.2⟩)
    (Cert.DropeRefIdeal.Value.run m ρ)

end Cert.DropeRefIdeal.Val

namespace Cert.DropeClaim

/-- The reference runs, its arguments unchanged. -/
theorem reference_runs : Cert.quiescent_DropeRefIdeal := by
  intro m g hpre
  hlo_run
  · intro c; simp
  · exact sem_eq_zero_of_no_sems (sig := Cert.DropeRefIdeal.sig) (by decide) _

/-- The kernel's arrays are the reference's. -/
theorem algebraic : Cert.algebraic_DropeIdeal_DropeRefIdeal := by
  pair_intro
  · run_from Cert.DropeIdeal.Gen.run_main m g
  · run_from Cert.DropeRefIdeal.Val.run_named m' g'
    · exact (Cert.DropeIdeal.Val.array_rows m c).symm
    · exact (Cert.DropeIdeal.Val.array_bias m c).symm

end Cert.DropeClaim

end
-- ==== Proof.DconvValue.lean ====
/- The gradient of the causal convolution and of the gate after it: the gradient of the input at a token is a sum over the
   four tokens that read it, and the weights' gradients are sums over the tokens, carried over the grid points. -/
module

public import proofs.«01_k».proof.Proof.Gen.DconvIdeal.Frame
public import proofs.«01_k».proof.Proof.Gen.DconvRefIdeal.Read
public import proofs.«01_k».proof.Proof.DactValue
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem

namespace Cert.DconvIdeal.Val

open Cert.DconvIdeal Cert.DconvIdeal.Gen
open Cert.DconvRefIdeal.Read
open Cert.DactIdeal.Val (gate slope_eq)

/-- The gradient before the gate: `d` is the gradient after it, `y` the value at which the slope is taken. -/
def gated (d y : EReal) : EReal := d * (gate y * (1 + y * (1 - gate y)))

section reference

open Cert.DconvRefIdeal

variable (p : FVec Ideal S8192x9216 .bf16) (v d : FVec Ideal S8192x3072 .bf16) (w : FVec Ideal S4x3072 .f32)

/-- The gradient before the gate at a token, none after the last one. -/
def grad (j : ℕ) (n : Fin 3072) : EReal := if h : j < 8192 then gated (d (ix2 ⟨j, h⟩ n)) (v (ix2 ⟨j, h⟩ n)) else 0

/-- The input `s` tokens before a token, none before the first one. -/
def past (s j : ℕ) (n : Fin 3072) : EReal := if h : s ≤ j ∧ j - s < 8192 then p (ix2 ⟨j - s, h.2⟩ ⟨6144 + n.val, by omega⟩) else 0

/-- The gradient of the input at a token. -/
def row (j : ℕ) (n : Fin 3072) : EReal :=
  w (ix2 3 n) * grad v d j n + w (ix2 2 n) * grad v d (j + 1) n + w (ix2 1 n) * grad v d (j + 2) n + w (ix2 0 n) * grad v d (j + 3) n

/-- The gradient of the weight that meets the input `s` tokens before. -/
def weight (s : ℕ) (n : Fin 3072) : EReal := ∑ j : Fin 8192, past p s j.val n * grad v d j.val n

theorem rgrad (i : Fin 8192) (n : Fin 3072) : val_main_v40 (F := Ideal) v d (ix2 i n) = grad v d i.val n := by
  rw [grad, dif_pos i.isLt, gated, ← slope_eq]
  pointwise [val_main_v40, val_main_v39, val_main_v3, val_main_call1_v2, val_main_call1_v1, val_main_call1_v0, val_main_v2, val_main_cst, val_main_v1_1, val_main_v1_2, val_main_call0_v7, val_main_call0_v6, val_main_call0_cst_1, val_main_call0_v4, val_main_call0_cst_0, val_main_call0_v3, val_main_call0_v2, val_main_call0_cst, val_main_call0_v1, val_main_call0_v0, val_main_v0, gate]

theorem rbias (n : Fin 3072) : val_main_v42 (F := Ideal) v d (ix2 0 n) = ∑ j : Fin 8192, grad v d j.val n := by
  pointwise [val_main_v42, val_main_v41, val_main_cst_3]
  simp only [rgrad]

theorem rpast (j : Fin 8195) (n : Fin 3072) : val_main_v8 (F := Ideal) p (ix2 j n) = past p 3 j.val n := by
  unfold past
  pointwise [val_main_v8, val_main_v7, val_main_cst_1, val_main_v5, val_main_v4]
  rcases lt_or_ge j.val 3 with h | h
  · rw [dif_pos h, dif_neg (by omega)]
  · rw [dif_neg (by omega), dif_pos (by omega)]

theorem past_shift (s k : ℕ) (i : Fin 8192) (n : Fin 3072) (e : s + k = 3) : past p 3 (k + i.val) n = past p s i.val n := by
  unfold past
  by_cases h : s ≤ i.val
  · rw [dif_pos (by omega), dif_pos (by omega)]
    exact congrArg (fun u => p (ix2 u _)) (Fin.ext (by simp only; omega))
  · rw [dif_neg (by omega), dif_neg (by omega)]

theorem rw3 (n : Fin 3072) : val_main_v49 (F := Ideal) p v d (ix2 0 n) = weight p v d 0 n := by
  pointwise [val_main_v49, val_main_v48, val_main_cst_5, val_main_v45, val_main_v44, val_main_cst_4, val_main_v43, val_main_v30]
  exact (Fin.sum_univ_one _).trans (Finset.sum_congr rfl fun j _ => congrArg₂ (· * ·) ((rpast p _ n).trans (past_shift p 0 3 j n rfl)) (rgrad v d j n))

theorem rw2 (n : Fin 3072) : val_main_v58 (F := Ideal) p v d (ix2 0 n) = weight p v d 1 n := by
  pointwise [val_main_v58, val_main_v57, val_main_cst_9, val_main_v54, val_main_v53, val_main_cst_8, val_main_v52, val_main_v23]
  exact (Fin.sum_univ_one _).trans (Finset.sum_congr rfl fun j _ => congrArg₂ (· * ·) ((rpast p _ n).trans (past_shift p 1 2 j n rfl)) (rgrad v d j n))

theorem rw1 (n : Fin 3072) : val_main_v69 (F := Ideal) p v d (ix2 0 n) = weight p v d 2 n := by
  pointwise [val_main_v69, val_main_v68, val_main_cst_13, val_main_v65, val_main_v64, val_main_cst_12, val_main_v63, val_main_v16]
  exact (Fin.sum_univ_one _).trans (Finset.sum_congr rfl fun j _ => congrArg₂ (· * ·) ((rpast p _ n).trans (past_shift p 2 1 j n rfl)) (rgrad v d j n))

theorem rw0 (n : Fin 3072) : val_main_v80 (F := Ideal) p v d (ix2 0 n) = weight p v d 3 n := by
  pointwise [val_main_v80, val_main_v79, val_main_cst_17, val_main_v76, val_main_v75, val_main_cst_16, val_main_v74, val_main_v10]
  exact (Fin.sum_univ_one _).trans (Finset.sum_congr rfl fun j _ => congrArg₂ (· * ·) (rpast p _ n) (rgrad v d j n))

theorem rweight (k : Fin 4) (n : Fin 3072) : val_main_v82 (F := Ideal) p v d (ix2 k n) = weight p v d (3 - k.val) n := by
  pointwise [val_main_v82, val_main_v71, val_main_v60, val_main_v50, val_main_v59, val_main_v70, val_main_v81, val_main_cst_6, val_main_cst_10, val_main_cst_14, val_main_cst_18]
  fin_cases k <;> simp [rw0, rw1, rw2, rw3]

theorem rrow (i : Fin 8192) (n : Fin 3072) : val_main_v86 (F := Ideal) v d w (ix2 i n) = row v d w i.val n := by
  pointwise [val_main_v86, val_main_v84, val_main_v73, val_main_v62, val_main_v51, val_main_v61, val_main_v72, val_main_v83, val_main_cst_7, val_main_cst_11, val_main_cst_15, val_main_cst_19, val_main_v47, val_main_v56, val_main_v67, val_main_v78, val_main_v46, val_main_v55, val_main_v66, val_main_v77, val_main_v33, val_main_v32, val_main_v31, val_main_v26, val_main_v25, val_main_v24, val_main_v19, val_main_v18, val_main_v17, val_main_v13, val_main_v12, val_main_v11]
  have q : ∀ (k : ℕ) (h : k < 8192), val_main_v40 (F := Ideal) v d (ix2 ⟨k, h⟩ n) = grad v d k n := fun k h => rgrad v d ⟨k, h⟩ n
  have z : ∀ (a : ℕ) (x : EReal), 3 + i.val - a = i.val + (3 - a) → (if h : 3 + i.val - a < 8192 then grad v d (3 + i.val - a) n * x else 0) = x * grad v d (i.val + (3 - a)) n := by
    intro a x e
    rw [e]
    split_ifs with h
    · exact mul_comm _ _
    · rw [grad, dif_neg h, mul_zero]
  simp only [q]
  unfold row
  refine congrArg₂ (· + ·) (congrArg₂ (· + ·) (congrArg₂ (· + ·) ?_ ?_) ?_) ?_
  · exact mul_comm _ _
  · refine Eq.trans ?_ (z 2 _ (by omega))
    by_cases h : 3 + i.val - 2 < 8192
    · rw [dif_pos h, dif_pos (by omega)]
    · rw [dif_neg h, dif_neg (by omega)]
  · refine Eq.trans ?_ (z 1 _ (by omega))
    by_cases h : 3 + i.val - 1 < 8192
    · rw [dif_pos h, dif_pos (by omega)]
    · rw [dif_neg h, dif_neg (by omega)]
  · exact z 0 _ (by omega)

end reference

section tile

/-- A grid point's gradient before the gate. -/
theorem tgrad (a b : FVec Ideal S256x3072 .bf16) (i : Fin 256) (n : Fin 3072) : k0_pay6 (F := Ideal) a b (ix2 i n) = gated (a (ix2 i n)) (b (ix2 i n)) := by
  unfold gated gate
  rw [← Cert.Scalars.logistic_eq]
  pointwise [k0_pay6]

theorem on : ∀ k : Fin 32, (Scalar.extui (Scalar.cmpi CmpIPredicate.slt (BitVec.ofNat 32 k.val) 31#32) : BitVec 32).toInt = if k.val < 31 then 1 else 0 := by
  decide +kernel

theorem off : ∀ k : Fin 32, (Scalar.extui (Scalar.cmpi CmpIPredicate.sgt (BitVec.ofNat 32 k.val) 0#32) : BitVec 32).toInt = if 0 < k.val then 1 else 0 := by
  decide +kernel

variable (g : grid0.Coords) (f : FVec Ideal S256x3072 .f32) (a b : FVec Ideal S8x3072 .bf16)

/-- The block's gradient and the eight tokens after it. -/
abbrev longer : FVec Ideal S264x3072 .f32 :=
  k0_pay10 (BitVec.ofNat 32 (g 0).val) f (k0_pay7 a) (k0_pay8 b) (k0_pay9 b) (Scalar.ofBits .f32 0x3F000000#32)

theorem longer_at (j : Fin 264) (n : Fin 3072) : longer g f a b (ix2 j n)
    = if h : j.val < 256 then f (ix2 ⟨j.val, h⟩ n)
      else if (g 0).val < 31 then gated (a (ix2 ⟨j.val - 256, by omega⟩ n)) (b (ix2 ⟨j.val - 256, by omega⟩ n)) else 0 := by
  have e := on (g 0)
  unfold longer
  by_cases h : j.val < 256
  · rw [dif_pos h]
    pointwise [k0_pay10]
    exact dif_pos h
  · rw [dif_neg h]
    unfold gated gate
    rw [← Cert.Scalars.logistic_eq]
    pointwise [k0_pay10, k0_pay7, k0_pay8, k0_pay9]
    rw [e]
    refine (dif_neg h).trans ?_
    by_cases k : (g 0).val < 31 <;> simp [k]

theorem halo_at (x : FVec Ideal S8x3072 .bf16) (j : Fin 8) (n : Fin 3072) : k0_pay5 (F := Ideal) g x (ix2 j n) = if 0 < (g 0).val then x (ix2 j n) else 0 := by
  have h := off (g 0)
  pointwise [k0_pay5]
  rw [h]
  split_ifs <;> simp

theorem rows_at (w3 w2 w1 w0 : FVec Ideal S1x3072 .f32) (i : Fin 256) (n : Fin 3072) :
    k0_pay3 (F := Ideal) (k0_pay18 (longer g f a b) (k0_pay13 (BitVec.ofNat 32 (g 0).val) f (k0_pay7 a) (k0_pay8 b) (k0_pay9 b) (Scalar.ofBits .f32 0x3F000000#32) w3 w2) w1 w0) (ix2 i n)
      = w3 (ix2 0 n) * f (ix2 i n) + w2 (ix2 0 n) * longer g f a b (ix2 ⟨i.val + 1, by omega⟩ n) + w1 (ix2 0 n) * longer g f a b (ix2 ⟨i.val + 2, by omega⟩ n)
        + w0 (ix2 0 n) * longer g f a b (ix2 ⟨i.val + 3, by omega⟩ n) := by
  have q : ∀ (k l : ℕ) (hk : k < 264) (hl : l < 264), k = l → longer g f a b (ix2 ⟨k, hk⟩ n) = longer g f a b (ix2 ⟨l, hl⟩ n) := fun k l hk hl e => by subst e; rfl
  pointwise [k0_pay3, k0_pay18, k0_pay13]
  refine congrArg₂ (· + ·) (congrArg₂ (· + ·) (congrArg (_ + ·) (congrArg (_ * ·) ?_)) (congrArg (_ * ·) ?_)) (congrArg (_ * ·) ?_)
  · exact q _ _ _ _ (by omega)
  · exact q _ _ _ _ (by omega)
  · exact q _ _ _ _ (by omega)

variable (x : FVec Ideal S256x3072 .f32) (o : FVec Ideal S8x3072 .f32)

/-- The block's input, shifted, with the eight tokens before it. -/
def shifted (s : ℕ) (i : Fin 256) (n : Fin 3072) : EReal :=
  if h : s ≤ i.val then x (ix2 ⟨i.val - s, by omega⟩ n) else o (ix2 ⟨(8 + i.val - s) % 8, by omega⟩ n)

theorem turned (s : ℕ) (hs : s < 8) (i : Fin 256) (n : Fin 3072) (k : ℕ) (e : k = (i.val + 264 - s) % 264) :
    (if h : k < 256 then x (ix2 ⟨k, h⟩ n) else o (ix2 ⟨k - 256, by omega⟩ n)) = shifted x o s i n := by
  have hi := i.isLt
  unfold shifted
  by_cases h : s ≤ i.val
  · rw [dif_pos (by omega), dif_pos h]
    exact congrArg (fun u => x (ix2 u n)) (Fin.ext (by simp only; omega))
  · rw [dif_neg (by omega), dif_neg h]
    exact congrArg (fun u => o (ix2 u n)) (Fin.ext (by simp only; omega))

theorem sum3 (n : Fin 3072) : k0_pay11 (F := Ideal) x f (ix2 0 n) = ∑ i : Fin 256, x (ix2 i n) * f (ix2 i n) := by
  pointwise [k0_pay11]

theorem sum2 (n : Fin 3072) : k0_pay14 (F := Ideal) x o f (ix2 0 n) = ∑ i : Fin 256, shifted x o 1 i n * f (ix2 i n) := by
  pointwise [k0_pay14]
  refine Finset.sum_congr rfl fun i _ => congrArg (· * _) ?_
  exact turned x o 1 (by omega) i n _ (by omega)

theorem sum1 (n : Fin 3072) : k0_pay16 (F := Ideal) x o f (ix2 0 n) = ∑ i : Fin 256, shifted x o 2 i n * f (ix2 i n) := by
  pointwise [k0_pay16]
  refine Finset.sum_congr rfl fun i _ => congrArg (· * _) ?_
  exact turned x o 2 (by omega) i n _ (by omega)

theorem sum0 (n : Fin 3072) : k0_pay19 (F := Ideal) x o f (ix2 0 n) = ∑ i : Fin 256, shifted x o 3 i n * f (ix2 i n) := by
  pointwise [k0_pay19]
  refine Finset.sum_congr rfl fun i _ => congrArg (· * _) ?_
  exact turned x o 3 (by omega) i n _ (by omega)

theorem sumb (n : Fin 3072) : k0_pay1 (F := Ideal) (k0_pay21 f) (ix2 0 n) = ∑ i : Fin 256, f (ix2 i n) := by
  pointwise [k0_pay1, k0_pay21]

theorem add3 (u : FVec Ideal S1x3072 .f32) (y : S1x3072.Idx) : k0_pay12 (F := Ideal) x f u y = u y + k0_pay11 (F := Ideal) x f y := by
  pointwise [k0_pay12]

theorem add2 (u v : FVec Ideal S1x3072 .f32) (y : S1x3072.Idx) : k0_pay15 (F := Ideal) v u y = u y + v y := by
  pointwise [k0_pay15]

theorem add1 (u : FVec Ideal S1x3072 .f32) (y : S1x3072.Idx) : k0_pay17 (F := Ideal) x o f u y = u y + k0_pay16 (F := Ideal) x o f y := by
  pointwise [k0_pay17]

theorem add0 (u : FVec Ideal S1x3072 .f32) (y : S1x3072.Idx) : k0_pay20 (F := Ideal) x o f u y = u y + k0_pay19 (F := Ideal) x o f y := by
  pointwise [k0_pay20]

theorem addb (u : FVec Ideal S1x3072 .f32) (y : S1x3072.Idx) : k0_pay2 (F := Ideal) (k0_pay21 f) u y = u y + k0_pay1 (F := Ideal) (k0_pay21 f) y := by
  pointwise [k0_pay2]

end tile

section point

variable (m : (ℓ : Loc nD τ sig) → Buf (Elt Ideal) ℓ) (c : Dev nD) (t : Fin cfg0.N)

/-- Which rows of each array a grid point reads and writes. -/
theorem rows : ∀ t : Fin cfg0.N, win0_0.index t = ![t.val, 2] ∧ win0_1.index t = ![t.val * 32 - 1, 2] ∧ win0_2.index t = ![t.val, 0]
    ∧ win0_3.index t = ![min ((t.val + 1) * 32) 1023, 0] ∧ win0_4.index t = ![t.val, 0] ∧ win0_5.index t = ![min ((t.val + 1) * 32) 1023, 0]
    ∧ win0_6.index t = ![0, 0] ∧ win0_7.index t = ![t.val, 2] ∧ (grid0.coords t 0).val = t.val :=
  (by decide +kernel : ∀ t : Fin grid0.N, _)

/-- A grid point's tokens. -/
def tok (i : Fin 256) : Fin 8192 := ⟨t.val * 256 + i.val, by have : t.val < 32 := t.isLt; omega⟩

/-- The arguments. -/
abbrev ap : FVec Ideal Cert.DconvRefIdeal.S8192x9216 .bf16 := m ((c : Thread nD τ).loc main_arg0)
abbrev av : FVec Ideal Cert.DconvRefIdeal.S8192x3072 .bf16 := m ((c : Thread nD τ).loc main_arg1)
abbrev ad : FVec Ideal Cert.DconvRefIdeal.S8192x3072 .bf16 := m ((c : Thread nD τ).loc main_arg2)
abbrev aw : FVec Ideal Cert.DconvRefIdeal.S4x3072 .f32 := m ((c : Thread nD τ).loc main_arg3)

/-- The blocks that a grid point reads. -/
abbrev bx : FVec Ideal S256x3072 .bf16 := iblk m c 0 t
abbrev bxp : FVec Ideal S8x3072 .bf16 := iblk m c 1 t
abbrev bv : FVec Ideal S256x3072 .bf16 := iblk m c 2 t
abbrev bvn : FVec Ideal S8x3072 .bf16 := iblk m c 3 t
abbrev bd : FVec Ideal S256x3072 .bf16 := iblk m c 4 t
abbrev bdn : FVec Ideal S8x3072 .bf16 := iblk m c 5 t
abbrev bw : FVec Ideal S4x3072 .f32 := iblk m c 6 t

theorem bx_eq (i : Fin 256) (n : Fin 3072) : bx m c t (ix2 i n) = ap m c (ix2 (tok t i) ⟨6144 + n.val, by omega⟩) := by
  blk_ext [iblk, V, rows t, tok]

theorem bv_eq (i : Fin 256) (n : Fin 3072) : bv m c t (ix2 i n) = av m c (ix2 (tok t i) n) := by
  blk_ext [iblk, V, rows t, tok]

theorem bd_eq (i : Fin 256) (n : Fin 3072) : bd m c t (ix2 i n) = ad m c (ix2 (tok t i) n) := by
  blk_ext [iblk, V, rows t, tok]

theorem bw_eq (i : Fin 4) (n : Fin 3072) : bw m c t (ix2 i n) = aw m c (ix2 i n) := by
  blk_ext [iblk, V, rows t, tok]

theorem bxp_eq (h : 0 < t.val) (j : Fin 8) (n : Fin 3072) :
    bxp m c t (ix2 j n) = ap m c (ix2 ⟨t.val * 256 - 8 + j.val, by have : t.val < 32 := t.isLt; omega⟩ ⟨6144 + n.val, by omega⟩) := by
  blk_ext [iblk, V, rows t]

theorem bvn_eq (h : t.val < 31) (j : Fin 8) (n : Fin 3072) : bvn m c t (ix2 j n) = av m c (ix2 ⟨t.val * 256 + 256 + j.val, by omega⟩ n) := by
  have e : min ((t.val + 1) * 32) 1023 = (t.val + 1) * 32 := by omega
  blk_ext [iblk, V, rows t, e]

theorem bdn_eq (h : t.val < 31) (j : Fin 8) (n : Fin 3072) : bdn m c t (ix2 j n) = ad m c (ix2 ⟨t.val * 256 + 256 + j.val, by omega⟩ n) := by
  have e : min ((t.val + 1) * 32) 1023 = (t.val + 1) * 32 := by omega
  blk_ext [iblk, V, rows t, e]

/-- The gradient before the gate in a grid point's block. -/
abbrev tg : FVec Ideal S256x3072 .f32 := k0_pay6 (bd m c t) (bv m c t)

theorem tg_eq (i : Fin 256) (n : Fin 3072) : tg m c t (ix2 i n) = grad (av m c) (ad m c) (tok t i).val n := by
  refine (tgrad _ _ i n).trans ?_
  rw [grad, dif_pos (tok t i).isLt, bv_eq, bd_eq]

theorem longer_eq (j : Fin 264) (n : Fin 3072) : longer (grid0.coords t) (tg m c t) (bdn m c t) (bvn m c t) (ix2 j n) = grad (av m c) (ad m c) (t.val * 256 + j.val) n := by
  have ht : t.val < 32 := t.isLt
  rw [longer_at, (rows t).2.2.2.2.2.2.2.2]
  by_cases h : j.val < 256
  · rw [dif_pos h, tg_eq]
    rfl
  · rw [dif_neg h]
    by_cases k : t.val < 31
    · rw [if_pos k, grad, dif_pos (by omega), bdn_eq m c t k, bvn_eq m c t k]
      exact congrArg (fun u => gated (ad m c (ix2 u n)) (av m c (ix2 u n))) (Fin.ext (by simp only; omega))
    · rw [if_neg k, grad, dif_neg (by omega)]

theorem shifted_eq (s : ℕ) (hs : s < 8) (i : Fin 256) (n : Fin 3072) :
    shifted (k0_pay4 (F := Ideal) (bx m c t)) (k0_pay5 (F := Ideal) (grid0.coords t) (bxp m c t)) s i n = past (ap m c) s (tok t i).val n := by
  have ht : t.val < 32 := t.isLt
  have hi := i.isLt
  unfold shifted past
  by_cases h : s ≤ i.val
  · rw [dif_pos h, dif_pos (by simp only [tok]; omega)]
    refine (show k0_pay4 (F := Ideal) (bx m c t) _ = bx m c t (ix2 ⟨i.val - s, by omega⟩ n) by pointwise [k0_pay4]).trans ?_
    rw [bx_eq]
    exact congrArg (fun u => ap m c (ix2 u _)) (Fin.ext (by simp only [tok]; omega))
  · rw [dif_neg h, halo_at, (rows t).2.2.2.2.2.2.2.2]
    by_cases k : 0 < t.val
    · rw [if_pos k, dif_pos (by simp only [tok]; omega), bxp_eq m c t k]
      exact congrArg (fun u => ap m c (ix2 u _)) (Fin.ext (by simp only [tok]; omega))
    · rw [if_neg k, dif_neg (by simp only [tok]; omega)]

theorem rows_eq (i : Fin 256) (n : Fin 3072) (w3 w2 w1 w0 : FVec Ideal S1x3072 .f32) (h3 : w3 (ix2 0 n) = aw m c (ix2 3 n)) (h2 : w2 (ix2 0 n) = aw m c (ix2 2 n))
    (h1 : w1 (ix2 0 n) = aw m c (ix2 1 n)) (h0 : w0 (ix2 0 n) = aw m c (ix2 0 n)) :
    k0_pay3 (F := Ideal) (k0_pay18 (longer (grid0.coords t) (tg m c t) (bdn m c t) (bvn m c t))
      (k0_pay13 (BitVec.ofNat 32 (grid0.coords t 0).val) (tg m c t) (k0_pay7 (bdn m c t)) (k0_pay8 (bvn m c t)) (k0_pay9 (bvn m c t)) (Scalar.ofBits .f32 0x3F000000#32) w3 w2) w1 w0) (ix2 i n)
      = row (av m c) (ad m c) (aw m c) (tok t i).val n := by
  rw [rows_at, h3, h2, h1, h0, tg_eq, longer_eq, longer_eq, longer_eq]
  rfl

theorem taps (k : Fin 4) (n : Fin 3072) (inb) : View.ld (Val := Elt Ideal) (S := S4x3072) (e' := .f32) (bw m c t) (Rect.unit (s := S4x3072) ![k.val, 0] ![1, 3072] inb) (ix2 (0 : Fin 1) n) = aw m c (ix2 k n) := by
  refine (View.ld_unit_apply_of _ _ _ _ _ (ix2 k n) ?_).trans (bw_eq m c t k n)
  intro a; fin_cases a <;> simp

theorem out_eq (i : Fin 256) (n : Fin 3072) : (outsAt0 m c t.val t.isLt).1 (ix2 i n) = row (av m c) (ad m c) (aw m c) (tok t i).val n := by
  by_cases h : t.val % 32 = 0
  · have k : ¬1 ≤ t.val := by have : t.val < 32 := t.isLt; omega
    rw [outsAt0_A m c t h k h k h k h k h k]
    frame_out
    exact rows_eq m c t i n _ _ _ _ (taps m c t 3 n _) (taps m c t 2 n _) (taps m c t 1 n _) (taps m c t 0 n _)
  · have k : 1 ≤ t.val := by omega
    rw [outsAt0_B m c t h k h k h k h k h k]
    frame_out
    exact rows_eq m c t i n _ _ _ _ (taps m c t 3 n _) (taps m c t 2 n _) (taps m c t 1 n _) (taps m c t 0 n _)

/-- A grid point's part of the weights' gradient. -/
def W (y : S4x3072.Idx) : EReal := ∑ i : Fin 256, past (ap m c) (3 - (y 0).val) (tok t i).val (y 1) * grad (av m c) (ad m c) (tok t i).val (y 1)

/-- A grid point's part of the bias's gradient. -/
def B (y : S1x3072.Idx) : EReal := ∑ i : Fin 256, grad (av m c) (ad m c) (tok t i).val (y 1)

/-- The block's input and the eight tokens before it, as the kernel's sums take them. -/
abbrev tx : FVec Ideal S256x3072 .f32 := k0_pay4 (F := Ideal) (bx m c t)
abbrev th : FVec Ideal S8x3072 .f32 := k0_pay5 (F := Ideal) (grid0.coords t) (bxp m c t)

theorem part (y : S4x3072.Idx) (s : ℕ) (n : Fin 3072) (e0 : 3 - (y 0).val = s) (e1 : (y 1).val = n.val) (hs : s < 8) :
    ∑ i : Fin 256, shifted (tx m c t) (th m c t) s i n * tg m c t (ix2 i n) = W m c t y := by
  obtain rfl : y 1 = n := Fin.ext e1
  subst e0
  exact Finset.sum_congr rfl fun i _ => congrArg₂ (· * ·) (shifted_eq m c t _ hs i _) (tg_eq m c t i _)

theorem one (x : S1x3072.Idx) : x = ix2 0 (x 1) := by
  ext a
  fin_cases a
  · exact (Nat.lt_one_iff.mp (x 0).isLt)
  · rfl

theorem part3 (x : S1x3072.Idx) (y : S4x3072.Idx) (e0 : (y 0).val = 3) (e1 : (y 1).val = (x 1).val) : k0_pay11 (F := Ideal) (tx m c t) (tg m c t) x = W m c t y := by
  rw [one x]
  refine (sum3 _ _ (x 1)).trans (Eq.trans (Finset.sum_congr rfl fun i _ => congrArg (· * _) ?_) (part m c t y 0 (x 1) (by omega) e1 (by omega)))
  unfold shifted
  rw [dif_pos (Nat.zero_le _)]
  rfl

theorem part2 (x : S1x3072.Idx) (y : S4x3072.Idx) (e0 : (y 0).val = 2) (e1 : (y 1).val = (x 1).val) : k0_pay14 (F := Ideal) (tx m c t) (th m c t) (tg m c t) x = W m c t y := by
  rw [one x]
  exact (sum2 _ _ _ (x 1)).trans (part m c t y 1 (x 1) (by omega) e1 (by omega))

theorem part1 (x : S1x3072.Idx) (y : S4x3072.Idx) (e0 : (y 0).val = 1) (e1 : (y 1).val = (x 1).val) : k0_pay16 (F := Ideal) (tx m c t) (th m c t) (tg m c t) x = W m c t y := by
  rw [one x]
  exact (sum1 _ _ _ (x 1)).trans (part m c t y 2 (x 1) (by omega) e1 (by omega))

theorem part0 (x : S1x3072.Idx) (y : S4x3072.Idx) (e0 : (y 0).val = 0) (e1 : (y 1).val = (x 1).val) : k0_pay19 (F := Ideal) (tx m c t) (th m c t) (tg m c t) x = W m c t y := by
  rw [one x]
  exact (sum0 _ _ _ (x 1)).trans (part m c t y 3 (x 1) (by omega) e1 (by omega))

theorem weight_first (h : t.val % 32 = 0) (y : S4x3072.Idx) : (outsAt0 m c t.val t.isLt).2.1 y = W m c t y := by
  have k : ¬1 ≤ t.val := by have : t.val < 32 := t.isLt; omega
  rw [outsAt0_A m c t h k h k h k h k h k]
  frame_out
  canon_tiles x h'
  · exact part0 m c t x y (by omega) (by omega)
  · exact part1 m c t x y (by omega) (by omega)
  · exact part2 m c t x y (by omega) (by omega)
  · exact part3 m c t x y (by omega) (by omega)

theorem weight_next (h : ¬t.val % 32 = 0) (y : S4x3072.Idx) : (outsAt0 m c t.val t.isLt).2.1 y
    = (outsAt0 m c (t.val - 1) (Nat.lt_of_le_of_lt (Nat.sub_le _ _) t.isLt)).2.1 y + W m c t y := by
  have k : 1 ≤ t.val := by omega
  rw [outsAt0_B m c t h k h k h k h k h k]
  frame_out
  canon_tiles x h'
  · refine (add0 _ _ _ _ x).trans (congrArg₂ (· + ·) (View.ld_unit_apply_of _ _ _ _ _ y ?_) (part0 m c t x y (by omega) (by omega)))
    intro a; fin_cases a <;> simp <;> omega
  · refine (add1 _ _ _ _ x).trans (congrArg₂ (· + ·) (View.ld_unit_apply_of _ _ _ _ _ y ?_) (part1 m c t x y (by omega) (by omega)))
    intro a; fin_cases a <;> simp <;> omega
  · refine (add2 _ _ x).trans (congrArg₂ (· + ·) (View.ld_unit_apply_of _ _ _ _ _ y ?_) (part2 m c t x y (by omega) (by omega)))
    intro a; fin_cases a <;> simp <;> omega
  · refine (add3 _ _ _ x).trans (congrArg₂ (· + ·) (View.ld_unit_apply_of _ _ _ _ _ y ?_) (part3 m c t x y (by omega) (by omega)))
    intro a; fin_cases a <;> simp <;> omega

theorem partb (y : S1x3072.Idx) : k0_pay1 (F := Ideal) (k0_pay21 (tg m c t)) y = B m c t y := by
  rw [one y]
  exact (sumb _ (y 1)).trans (Finset.sum_congr rfl fun i _ => tg_eq m c t i _)

theorem bias_first (h : t.val % 32 = 0) (y : S1x3072.Idx) : (outsAt0 m c t.val t.isLt).2.2 y = B m c t y := by
  have k : ¬1 ≤ t.val := by have : t.val < 32 := t.isLt; omega
  rw [outsAt0_A m c t h k h k h k h k h k]
  frame_out
  exact partb m c t y

theorem bias_next (h : ¬t.val % 32 = 0) (y : S1x3072.Idx) : (outsAt0 m c t.val t.isLt).2.2 y
    = (outsAt0 m c (t.val - 1) (Nat.lt_of_le_of_lt (Nat.sub_le _ _) t.isLt)).2.2 y + B m c t y := by
  have k : 1 ≤ t.val := by omega
  rw [outsAt0_B m c t h k h k h k h k h k]
  frame_out
  exact (addb _ _ y).trans (congrArg (_ + ·) (partb m c t y))

theorem weight_last (ht : t.val + 1 = 32) (y : S4x3072.Idx) : (outsAt0 m c t.val t.isLt).2.1 y = ∑ k : Fin 32, W m c k y :=
  (Pipeline.eq_sum_fin_of_reset_step_apply_last (N := 32) (fun n h => (outsAt0 m c n h).2.1) 32 (fun _ => (0 : EReal)) (fun k => W m c k)
    (fun n hn i => (weight_first m c n hn i).trans (zero_add _).symm) (fun n hn i => weight_next m c n hn i) (by decide) t ht y).trans (zero_add _)

theorem bias_last (ht : t.val + 1 = 32) (y : S1x3072.Idx) : (outsAt0 m c t.val t.isLt).2.2 y = ∑ k : Fin 32, B m c k y :=
  (Pipeline.eq_sum_fin_of_reset_step_apply_last (N := 32) (fun n h => (outsAt0 m c n h).2.2) 32 (fun _ => (0 : EReal)) (fun k => B m c k)
    (fun n hn i => (bias_first m c n hn i).trans (zero_add _).symm) (fun n hn i => bias_next m c n hn i) (by decide) t ht y).trans (zero_add _)

/-- The last grid point. -/
def final : Fin cfg0.N := ⟨31, by decide⟩

variable (x4 : FVec Ideal S8192x9216 .bf16)

theorem ref_left (r : Fin 8192) (k : Fin 9216) (hk : k.val < 6144) : val_main_v89 (F := Ideal) (av m c) (ad m c) (aw m c) x4 (ix2 r k) = x4 (ix2 r k) := by
  pointwise [val_main_v89, val_main_v87]
  rw [dif_pos hk]

theorem ref_right (r : Fin 8192) (k : Fin 9216) (n : Fin 3072) (e : k.val = 6144 + n.val) :
    val_main_v89 (F := Ideal) (av m c) (ad m c) (aw m c) x4 (ix2 r k) = row (av m c) (ad m c) (aw m c) r.val n := by
  refine Eq.trans ?_ (rrow (av m c) (ad m c) (aw m c) r n)
  pointwise [val_main_v89, val_main_v88]
  refine (dif_neg (by omega)).trans ?_
  exact congrArg (fun u => val_main_v86 (F := Ideal) _ _ _ (ix2 r u)) (Fin.ext (by simp only; omega))

theorem out_right (y : S256x3072.Idx) (k : Cert.DconvRefIdeal.S8192x9216.Idx) (e0 : (k 0).val = t.val * 256 + (y 0).val) (e1 : (k 1).val = 6144 + (y 1).val) :
    (outsAt0 m c t.val t.isLt).1 y = val_main_v89 (F := Ideal) (av m c) (ad m c) (aw m c) x4 k := by
  obtain ⟨r, i, rfl⟩ : ∃ (r : Fin 8192) (i : Fin 9216), k = ix2 r i := ⟨k 0, k 1, eq_ix2 k⟩
  obtain ⟨a, n, rfl⟩ : ∃ (a : Fin 256) (n : Fin 3072), y = ix2 a n := ⟨y 0, y 1, eq_ix2 y⟩
  rw [ref_right m c x4 r i n e1, out_eq]
  exact congrArg (fun u => row (av m c) (ad m c) (aw m c) u n) e0.symm

/-- The gradient of the input's columns, beside the columns left as they were. -/
theorem array_rows : (dats m 0 c).arrAt 7 (cfgs 0).N = val_main_v89 (F := Ideal) (av m c) (ad m c) (aw m c) (m ((c : Thread nD τ).loc main_arg4)) := by
  refine (dats m 0 c).arrAt_eq_of_coversWhere_of_agree 7 _ (fun β => β (1 : Fin 2) = 2) (by decide +kernel) (fun t hf y => ?_) (fun j hj => ?_)
  · blk_simp
    rw [after0_7]
    refine out_right m c t _ _ _ ?_ ?_ <;> (blk_simp [rows t] <;> try omega)
  · blk_simp [Pipeline.Window.cell_apply] at hj
    show V m c main_v0_0 _ = _
    entry_read
    obtain ⟨r, i, rfl⟩ : ∃ (r : Fin 8192) (i : Fin 9216), j = ix2 r i := ⟨j 0, j 1, eq_ix2 j⟩
    have hi : i.val < 6144 := by
      by_contra h
      exact hj (show i.val / 3072 = 2 by omega)
    exact (ref_left m c _ r i hi).symm

/-- The gradient of the weights, the whole array. -/
theorem array_weight : (dats m 0 c).arrAt 8 (cfgs 0).N = val_main_v82 (F := Ideal) (ap m c) (av m c) (ad m c) := by
  refine (dats m 0 c).arrAt_eq_of_after_last 8 final (by decide +kernel) _ fun y => ?_
  blk_simp
  rw [after0_8]
  refine (weight_last m c final rfl y).trans ?_
  obtain ⟨k, n, rfl⟩ : ∃ (k : Fin 4) (n : Fin 3072), y = ix2 k n := ⟨y 0, y 1, eq_ix2 y⟩
  refine Eq.trans ?_ (rweight (ap m c) (av m c) (ad m c) k n).symm
  exact Fin.sum_mul_add_congr fun s k hl => rfl

/-- The gradient of the bias, the whole array. -/
theorem array_bias : (dats m 0 c).arrAt 9 (cfgs 0).N = val_main_v42 (F := Ideal) (av m c) (ad m c) := by
  refine (dats m 0 c).arrAt_eq_of_after_last 9 final (by decide +kernel) _ fun y => ?_
  blk_simp
  rw [after0_9]
  refine (bias_last m c final rfl y).trans ?_
  rw [one y]
  refine Eq.trans ?_ (rbias (av m c) (ad m c) (y 1)).symm
  exact Fin.sum_mul_add_congr fun s k hl => rfl

end point

end Cert.DconvIdeal.Val

end
-- ==== Proof.DconvClaim.lean ====
/- The algebraic claim of the gradient of the causal convolution: the idealised kernel's run and the reference's end with
   equal arrays. -/
module

public import proofs.«01_k».proof.Defs
public import proofs.«01_k».proof.Proof.DconvValue
public import proofs.«01_k».proof.Proof.Gen.DconvIdeal.Value
public import proofs.«01_k».proof.Proof.Gen.DconvRefIdeal
public import proofs.«01_k».proof.Proof.Gen.DconvRefIdeal.Run
public import Idealize.ShloMosaic.Lib.Claim

@[expose] public section

set_option maxRecDepth 16384

noncomputable section

open Idealize.ShloMosaic Idealize.ShloMosaic.TcCoe Idealize.SL.Sem

namespace Cert.DconvRefIdeal.Val

open Cert.DconvRefIdeal Cert.DconvRefIdeal.Read

/-- Every execution of the reference ends with its results at their named terms and with its arguments as they were. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v89) = val_main_v89 (F := Ideal) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v82) = val_main_v82 (F := Ideal) (m ((c.tc : Thread nD τ).loc main_arg0)) (m ((c.tc : Thread nD τ).loc main_arg1)) (m ((c.tc : Thread nD τ).loc main_arg2))
      ∧ r.2.mem ((c.tc : Thread nD τ).loc main_v42) = val_main_v42 (F := Ideal) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(h c).1.trans (val_main_v89_eq (F := Ideal) m c), (h c).2.1.trans (val_main_v82_eq (F := Ideal) m c),
      (h c).2.2.1.trans (val_main_v42_eq (F := Ideal) _ _), (h c).2.2.2⟩)
    (Cert.DconvRefIdeal.Value.run m ρ)

end Cert.DconvRefIdeal.Val

namespace Cert.DconvClaim

/-- The reference runs, its arguments unchanged. -/
theorem reference_runs : Cert.quiescent_DconvRefIdeal := by
  intro m g hpre
  hlo_run
  · intro c; simp
  · exact sem_eq_zero_of_no_sems (sig := Cert.DconvRefIdeal.sig) (by decide) _

/-- The kernel's arrays are the reference's. -/
theorem algebraic : Cert.algebraic_DconvIdeal_DconvRefIdeal := by
  pair_intro
  · run_from Cert.DconvIdeal.Gen.run_main m g
  · run_from Cert.DconvRefIdeal.Val.run_named m' g'
    · exact (Cert.DconvIdeal.Val.array_rows m c).symm
    · exact (Cert.DconvIdeal.Val.array_weight m c).symm
    · exact (Cert.DconvIdeal.Val.array_bias m c).symm

end Cert.DconvClaim

end
-- ==== Proof.ConvValue.lean ====
/- The causal convolution and the gate after it: a token's value is the bias and a sum over the token itself and the three
   before it, which the kernel takes from its block and from the eight tokens before the block. -/
module

public import proofs.«01_k».proof.Proof.Gen.ConvIdeal.Frame
public import proofs.«01_k».proof.Proof.Gen.ConvRefIdeal.Read
public import proofs.«01_k».proof.Proof.DconvValue
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.ConvIdeal.Val

open Cert.ConvIdeal Cert.ConvIdeal.Gen
open Cert.ConvRefIdeal.Read
open Cert.DactIdeal.Val (gate)
open Cert.DconvIdeal.Val (past past_shift shifted turned off tok)

section reference

open Cert.ConvRefIdeal

variable (p : FVec Ideal S8192x9216 .bf16) (w : FVec Ideal S4x3072 .f32) (b : FVec Ideal S1x3072 .f32)

/-- The convolution at a token. -/
def pre (j : ℕ) (n : Fin 3072) : EReal :=
  b (ix2 0 n) + w (ix2 3 n) * past p 0 j n + w (ix2 2 n) * past p 1 j n + w (ix2 1 n) * past p 2 j n + w (ix2 0 n) * past p 3 j n

theorem rpast (j : Fin 8195) (n : Fin 3072) : val_main_v3 (F := Ideal) p (ix2 j n) = past p 3 j.val n := by
  unfold past
  pointwise [val_main_v3, val_main_v2, val_main_cst, val_main_v1, val_main_v0]
  rcases lt_or_ge j.val 3 with h | h
  · rw [dif_pos h, dif_neg (by omega)]
  · rw [dif_neg (by omega), dif_pos (by omega)]

theorem rpre (i : Fin 8192) (n : Fin 3072) : val_main_v32 (F := Ideal) p w b (ix2 i n) = pre p w b i.val n := by
  pointwise [val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4]
  simp only [rpast]
  rw [past_shift p 0 3 i n rfl, past_shift p 1 2 i n rfl, past_shift p 2 1 i n rfl]
  have r : ∀ b x0 x1 x2 x3 w0 w1 w2 w3 : EReal, x3 * w0 + x2 * w1 + x1 * w2 + x0 * w3 + b = b + w3 * x0 + w2 * x1 + w1 * x2 + w0 * x3 := by
    intros; ac_rfl
  exact r _ _ _ _ _ _ _ _ _

theorem ract (i : Fin 8192) (n : Fin 3072) : val_main_v35 (F := Ideal) p w b (ix2 i n) = pre p w b i.val n * gate (pre p w b i.val n) := by
  unfold gate
  rw [← rpre]
  pointwise [val_main_v35, val_main_v34, val_main_call0_v5, val_main_call0_v4, val_main_call0_cst_0, val_main_call0_v3, val_main_call0_v2, val_main_call0_cst, val_main_call0_v1, val_main_call0_v0]

end reference

section tile

variable (g : grid0.Coords) (x : FVec Ideal S256x3072 .bf16) (o : FVec Ideal S8x3072 .bf16)

/-- The eight tokens before the block, none before the first block. -/
def halo : FVec Ideal S8x3072 .f32 := fun y => if 0 < (g 0).val then o y else 0

theorem tpre (b w3 w2 w1 w0 : FVec Ideal S1x3072 .f32) (i : Fin 256) (n : Fin 3072) :
    k0_pay2 (F := Ideal) g x o b w3 w2 w1 w0 (ix2 i n)
      = b (ix2 0 n) + w3 (ix2 0 n) * x (ix2 i n) + w2 (ix2 0 n) * shifted x (halo g o) 1 i n + w1 (ix2 0 n) * shifted x (halo g o) 2 i n
        + w0 (ix2 0 n) * shifted x (halo g o) 3 i n := by
  have h := off (g 0)
  have e : ∀ y : EReal, y * (((if 0 < (g 0).val then (1 : ℤ) else 0 : ℤ) : ℝ) : EReal) = if 0 < (g 0).val then y else 0 := by
    intro y; split_ifs <;> simp
  have q : ∀ s, s < 8 → _ := fun s hs => turned x (halo g o) s hs i n _ rfl
  pointwise [k0_pay2]
  rw [h]
  simp only [e]
  exact congrArg₂ (· + ·) (congrArg₂ (· + ·) (congrArg₂ (· + ·) rfl (congrArg₂ (· * ·) rfl (q 1 (by omega)))) (congrArg₂ (· * ·) rfl (q 2 (by omega))))
    (congrArg₂ (· * ·) rfl (q 3 (by omega)))

theorem tact (f : FVec Ideal S256x3072 .f32) (y : S256x3072.Idx) : k0_pay1 (F := Ideal) f y = f y * gate (f y) := by
  unfold gate
  rw [← Cert.Scalars.logistic_eq]
  pointwise [k0_pay1]

end tile

section point

variable (m : (ℓ : Loc nD τ sig) → Buf (Elt Ideal) ℓ) (c : Dev nD) (t : Fin cfg0.N)

/-- Which rows of each array a grid point reads and writes. -/
theorem rows : ∀ t : Fin cfg0.N, win0_0.index t = ![t.val, 2] ∧ win0_1.index t = ![t.val * 32 - 1, 2] ∧ win0_2.index t = ![0, 0]
    ∧ win0_3.index t = ![0, 0] ∧ win0_4.index t = ![t.val, 0] ∧ win0_5.index t = ![t.val, 0] ∧ (grid0.coords t 0).val = t.val :=
  (by decide +kernel : ∀ t : Fin grid0.N, _)

/-- The arguments. -/
abbrev ap : FVec Ideal Cert.ConvRefIdeal.S8192x9216 .bf16 := m ((c : Thread nD τ).loc main_arg0)
abbrev aw : FVec Ideal Cert.ConvRefIdeal.S4x3072 .f32 := m ((c : Thread nD τ).loc main_arg1)
abbrev ab : FVec Ideal Cert.ConvRefIdeal.S1x3072 .f32 := m ((c : Thread nD τ).loc main_arg2)

/-- The blocks that a grid point reads. -/
abbrev bx : FVec Ideal S256x3072 .bf16 := iblk m c 0 t
abbrev bxp : FVec Ideal S8x3072 .bf16 := iblk m c 1 t
abbrev bw : FVec Ideal S4x3072 .f32 := iblk m c 2 t
abbrev bb : FVec Ideal S1x3072 .f32 := iblk m c 3 t

theorem bx_eq (i : Fin 256) (n : Fin 3072) : bx m c t (ix2 i n) = ap m c (ix2 (tok t i) ⟨6144 + n.val, by omega⟩) := by
  blk_ext [iblk, V, rows t, tok]

theorem bxp_eq (h : 0 < t.val) (j : Fin 8) (n : Fin 3072) :
    bxp m c t (ix2 j n) = ap m c (ix2 ⟨t.val * 256 - 8 + j.val, by have : t.val < 32 := t.isLt; omega⟩ ⟨6144 + n.val, by omega⟩) := by
  blk_ext [iblk, V, rows t]

theorem bw_eq (i : Fin 4) (n : Fin 3072) : bw m c t (ix2 i n) = aw m c (ix2 i n) := by
  blk_ext [iblk, V, rows t]

theorem bb_eq (n : Fin 3072) : bb m c t (ix2 0 n) = ab m c (ix2 0 n) := by
  blk_ext [iblk, V, rows t]

theorem shifted_eq (s : ℕ) (hs : s < 8) (i : Fin 256) (n : Fin 3072) :
    shifted (bx m c t) (halo (grid0.coords t) (bxp m c t)) s i n = past (ap m c) s (tok t i).val n := by
  have ht : t.val < 32 := t.isLt
  have hi := i.isLt
  unfold shifted past
  by_cases h : s ≤ i.val
  · rw [dif_pos h, dif_pos (by simp only [tok]; omega)]
    refine (bx_eq m c t _ n).trans ?_
    exact congrArg (fun u => ap m c (ix2 u _)) (Fin.ext (by simp only [tok]; omega))
  · rw [dif_neg h]
    unfold halo
    rw [(rows t).2.2.2.2.2.2]
    by_cases k : 0 < t.val
    · rw [if_pos k, dif_pos (by simp only [tok]; omega)]
      refine (bxp_eq m c t k _ n).trans ?_
      exact congrArg (fun u => ap m c (ix2 u _)) (Fin.ext (by simp only [tok]; omega))
    · rw [if_neg k, dif_neg (by simp only [tok]; omega)]

theorem pre_eq (i : Fin 256) (n : Fin 3072) (b w3 w2 w1 w0 : FVec Ideal S1x3072 .f32) (hb : b (ix2 0 n) = ab m c (ix2 0 n)) (h3 : w3 (ix2 0 n) = aw m c (ix2 3 n))
    (h2 : w2 (ix2 0 n) = aw m c (ix2 2 n)) (h1 : w1 (ix2 0 n) = aw m c (ix2 1 n)) (h0 : w0 (ix2 0 n) = aw m c (ix2 0 n)) :
    k0_pay2 (F := Ideal) (grid0.coords t) (bx m c t) (bxp m c t) b w3 w2 w1 w0 (ix2 i n) = pre (ap m c) (aw m c) (ab m c) (tok t i).val n := by
  have z : shifted (bx m c t) (halo (grid0.coords t) (bxp m c t)) 0 i n = bx m c t (ix2 i n) := by
    unfold shifted
    rw [dif_pos (Nat.zero_le _)]
    rfl
  rw [tpre, ← z, shifted_eq m c t 0 (by omega), shifted_eq m c t 1 (by omega), shifted_eq m c t 2 (by omega), shifted_eq m c t 3 (by omega), hb, h3, h2, h1, h0]
  rfl

theorem taps (k : Fin 4) (n : Fin 3072) (inb) : View.ld (Val := Elt Ideal) (S := S4x3072) (e' := .f32) (bw m c t) (Rect.unit (s := S4x3072) ![k.val, 0] ![1, 3072] inb) (ix2 (0 : Fin 1) n) = aw m c (ix2 k n) := by
  refine (View.ld_unit_apply_of _ _ _ _ _ (ix2 k n) ?_).trans (bw_eq m c t k n)
  intro a; fin_cases a <;> simp

/-- The convolution, the whole array. -/
theorem array_pre : (dats m 0 c).arrAt 4 (cfgs 0).N = val_main_v33 (F := Ideal) (ap m c) (aw m c) (ab m c) := by
  refine (dats m 0 c).arrAt_eq_of_covers 4 _ (by decide +kernel) fun t _ y => ?_
  blk_simp
  rw [after0_4]
  frame_out
  obtain ⟨i, n, rfl⟩ : ∃ (i : Fin 256) (n : Fin 3072), y = ix2 i n := ⟨y 0, y 1, eq_ix2 y⟩
  refine (pre_eq m c t i n _ _ _ _ _ (bb_eq m c t n) (taps m c t 3 n _) (taps m c t 2 n _) (taps m c t 1 n _) (taps m c t 0 n _)).trans ?_
  refine (rpre (ap m c) (aw m c) (ab m c) (tok t i) n).symm.trans ?_
  refine congrArg (val_main_v32 (F := Ideal) (ap m c) (aw m c) (ab m c)) ?_
  blk_ext [rows t, tok]

/-- The gated convolution, the whole array. -/
theorem array_act : (dats m 0 c).arrAt 5 (cfgs 0).N = val_main_v35 (F := Ideal) (ap m c) (aw m c) (ab m c) := by
  refine (dats m 0 c).arrAt_eq_of_covers 5 _ (by decide +kernel) fun t _ y => ?_
  blk_simp
  rw [after0_5]
  frame_out
  obtain ⟨i, n, rfl⟩ : ∃ (i : Fin 256) (n : Fin 3072), y = ix2 i n := ⟨y 0, y 1, eq_ix2 y⟩
  rw [tact]
  refine (congrArg (fun u : EReal => u * gate u) (pre_eq m c t i n _ _ _ _ _ (bb_eq m c t n) (taps m c t 3 n _) (taps m c t 2 n _) (taps m c t 1 n _) (taps m c t 0 n _))).trans ?_
  refine (ract (ap m c) (aw m c) (ab m c) (tok t i) n).symm.trans ?_
  refine congrArg (val_main_v35 (F := Ideal) (ap m c) (aw m c) (ab m c)) ?_
  blk_ext [rows t, tok]

end point

end Cert.ConvIdeal.Val

end
-- ==== Proof.ConvClaim.lean ====
/- The algebraic claim of the causal convolution: the idealised kernel's run and the reference's end with
   equal arrays. -/
module

public import proofs.«01_k».proof.Defs
public import proofs.«01_k».proof.Proof.ConvValue
public import proofs.«01_k».proof.Proof.Gen.ConvIdeal.Value
public import proofs.«01_k».proof.Proof.Gen.ConvRefIdeal
public import proofs.«01_k».proof.Proof.Gen.ConvRefIdeal.Run
public import Idealize.ShloMosaic.Lib.Claim

@[expose] public section

set_option maxRecDepth 16384

noncomputable section

open Idealize.ShloMosaic Idealize.ShloMosaic.TcCoe Idealize.SL.Sem

namespace Cert.ConvRefIdeal.Val

open Cert.ConvRefIdeal Cert.ConvRefIdeal.Read

/-- Every execution of the reference ends with its results at their named terms and with its arguments as they were. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v33) = val_main_v33 (F := Ideal) (m ((c.tc : Thread nD τ).loc main_arg0)) (m ((c.tc : Thread nD τ).loc main_arg1)) (m ((c.tc : Thread nD τ).loc main_arg2))
      ∧ r.2.mem ((c.tc : Thread nD τ).loc main_v35) = val_main_v35 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(h c).1.trans (val_main_v33_eq (F := Ideal) _ _ _), (h c).2.1.trans (val_main_v35_eq (F := Ideal) m c), (h c).2.2⟩)
    (Cert.ConvRefIdeal.Value.run m ρ)

end Cert.ConvRefIdeal.Val

namespace Cert.ConvClaim

/-- The reference runs, its arguments unchanged. -/
theorem reference_runs : Cert.quiescent_ConvRefIdeal := by
  intro m g hpre
  hlo_run
  · intro c; simp
  · exact sem_eq_zero_of_no_sems (sig := Cert.ConvRefIdeal.sig) (by decide) _

/-- The kernel's arrays are the reference's. -/
theorem algebraic : Cert.algebraic_ConvIdeal_ConvRefIdeal := by
  pair_intro
  · run_from Cert.ConvIdeal.Gen.run_main m g
  · run_from Cert.ConvRefIdeal.Val.run_named m' g'
    · exact (Cert.ConvIdeal.Val.array_pre m c).symm
    · exact (Cert.ConvIdeal.Val.array_act m c).symm

end Cert.ConvClaim

end
-- ==== Proof.XatValue.lean ====
/- The cross-attention: a token's result in a head is the sum of the memory's values, each by its probability. The four heads'
   arithmetic is one and the same, on their own columns. -/
module

public import proofs.«01_k».proof.Proof.Gen.XatIdeal.Frame
public import proofs.«01_k».proof.Proof.Gen.XatRefIdeal.Read
public import proofs.«01_k».proof.Proof.DattValue
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.XatIdeal.Val

open Cert.XatIdeal Cert.XatIdeal.Gen
open Cert.XatRefIdeal.Read
open Cert.Soft
open Cert.DattIdeal.Val (rq rk hq hk hv hd ln tok cutq cutk)

section tile

variable (q : FVec Ideal S512x128 .bf16) (k v : FVec Ideal S256x128 .bf16)

/-- The first head's arithmetic, on any tiles. -/
def tile : FVec Ideal S512x128 .bf16 := k0_pay1 (k0_pay17 (k0_pay11 v) (k0_pay15 q k) (k0_pay16 q k))

theorem score_eq (y : S512x256.Idx) : k0_pay15 (F := Ideal) q k y = score (rq q (y 0)) (rk k) (y 1) := by
  pointwise [k0_pay15]
  rfl

theorem top_eq (y : S512x256.Idx) : k0_pay16 (F := Ideal) q k y = top (rq q (y 0)) (rk k) := by
  pointwise [k0_pay16]
  simp only [score_eq]
  rfl

theorem tile_eq (y : S512x128.Idx) : tile q k v y = ∑ j, prob (rq q (y 0)) (rk k) j * rk v j (y 1) := by
  pointwise [tile, k0_pay1, k0_pay17, k0_pay11]
  simp only [score_eq, top_eq]
  rfl

/-- The other heads' arithmetic is the first head's. -/
theorem tile1 : k0_pay2 (k0_pay18 (k0_pay5 q) (k0_pay8 k) (k0_pay12 v)) = tile q k v := rfl
theorem tile2 : k0_pay3 (k0_pay19 (k0_pay6 q) (k0_pay9 k) (k0_pay13 v)) = tile q k v := rfl
theorem tile3 : k0_pay4 (k0_pay14 v) (k0_pay20 (k0_pay7 q) (k0_pay10 k)) (Scalar.ofBits .f32 0x3DB504F3#32) = tile q k v := rfl

end tile

section reference

variable (q : FVec Ideal Cert.XatRefIdeal.S8192x512 .bf16) (kv : FVec Ideal Cert.XatRefIdeal.S256x1024 .bf16)

theorem q_eq (x : Cert.XatRefIdeal.S8192x4x128.Idx) : val_main_v1 (F := Ideal) q x = hq q (x 1) (x 0) (x 2) := by
  pointwise [val_main_v1, val_main_v0]
  rfl

theorem k_eq (x : Cert.XatRefIdeal.S256x4x128.Idx) : val_main_v4 (F := Ideal) kv x = hk kv (x 1) (x 0) (x 2) := by
  pointwise [val_main_v4, val_main_v3, val_main_v2]
  rfl

theorem v_eq (x : Cert.XatRefIdeal.S256x4x128.Idx) : val_main_v7 (F := Ideal) kv x = hv kv (x 1) (x 0) (x 2) := by
  pointwise [val_main_v7, val_main_v6, val_main_v5]
  rfl

theorem rscore (y : Cert.XatRefIdeal.S4x8192x256.Idx) : val_main_v10 (F := Ideal) q kv y = score (hq q (y 0) (y 1)) (hk kv (y 0)) (y 2) := by
  pointwise [val_main_v10, val_main_v9, val_main_v8, val_main_cst]
  simp only [q_eq, k_eq]
  rfl

theorem rweight (y : Cert.XatRefIdeal.S4x8192x256.Idx) : val_main_v15 (F := Ideal) q kv y = weight (hq q (y 0) (y 1)) (hk kv (y 0)) (y 2) := by
  pointwise [val_main_v15, val_main_v14, val_main_v13, val_main_v12, val_main_v11]
  simp only [rscore]
  rfl

theorem rtotal (y : Cert.XatRefIdeal.S4x8192.Idx) : val_main_v16 (F := Ideal) q kv y = total (hq q (y 0) (y 1)) (hk kv (y 0)) := by
  pointwise [val_main_v16, val_main_cst_1]
  simp only [rweight]
  rfl

theorem rprob (y : Cert.XatRefIdeal.S4x8192x256.Idx) : val_main_v19 (F := Ideal) q kv y = prob (hq q (y 0) (y 1)) (hk kv (y 0)) (y 2) := by
  pointwise [val_main_v19, val_main_v18, val_main_v17]
  rw [rweight, rtotal]
  rfl

/-- The reference's result. -/
theorem result (y : Cert.XatRefIdeal.S8192x512.Idx) :
    val_main_v23 (F := Ideal) q kv y = ∑ j, prob (hq q (hd (y 1).val) (y 0)) (hk kv (hd (y 1).val)) j * hv kv (hd (y 1).val) j (ln (y 1).val) := by
  pointwise [val_main_v23, val_main_v22, val_main_v21, val_main_v20]
  simp only [rprob, v_eq]
  have e : hd (y 1).val = ⟨(y 1).val / 128, by idx_bounds y; omega⟩ := Fin.ext (by idx_bounds y; simp only [hd]; omega)
  rw [e]
  exact Finset.sum_congr rfl fun j _ => mul_comm _ _

end reference

section point

variable (m : (ℓ : Loc nD τ sig) → Buf (Elt Ideal) ℓ) (c : Dev nD) (t : Fin cfg0.N)

/-- Which rows of each array a grid point reads and writes. -/
theorem rows : ∀ t : Fin cfg0.N, win0_0.index t = ![t.val, 0] ∧ win0_1.index t = ![0, 0] ∧ win0_2.index t = ![t.val, 0] :=
  (by decide +kernel : ∀ t : Fin grid0.N, _)

/-- The arguments. -/
abbrev aq : FVec Ideal Cert.XatRefIdeal.S8192x512 .bf16 := m ((c : Thread nD τ).loc main_arg0)
abbrev akv : FVec Ideal Cert.XatRefIdeal.S256x1024 .bf16 := m ((c : Thread nD τ).loc main_arg1)

/-- The blocks that a grid point reads. -/
abbrev bq : FVec Ideal S512x512 .bf16 := iblk m c 0 t
abbrev bkv : FVec Ideal S256x1024 .bf16 := iblk m c 1 t

theorem bq_eq (i : Fin 512) (n : Fin 512) : bq m c t (ix2 i n) = aq m c (ix2 (tok t i) n) := by
  blk_ext [iblk, V, rows t, tok]

theorem bkv_eq (i : Fin 256) (n : Fin 1024) : bkv m c t (ix2 i n) = akv m c (ix2 i n) := by
  blk_ext [iblk, V, rows t]

/-- The rows of the tiles that a head loads. -/
theorem ld_q {off : Nat} {h : Fin 4} (e : off = h.val * 128) (inb) (i : Fin 512) :
    rq (cutq (bq m c t) off inb) i = hq (aq m c) h (tok t i) := by
  subst e
  funext x
  refine (View.ld_unit_apply_of _ _ _ _ _ (ix2 i ⟨h.val * 128 + x.val, by omega⟩) ?_).trans (bq_eq m c t i _)
  intro a; fin_cases a <;> simp

theorem ld_k {off : Nat} {h : Fin 4} (e : off = h.val * 128) (inb) :
    rk (cutk (bkv m c t) off inb) = hk (akv m c) h := by
  subst e
  funext i x
  refine (View.ld_unit_apply_of _ _ _ _ _ (ix2 i ⟨h.val * 128 + x.val, by omega⟩) ?_).trans (bkv_eq m c t i _)
  intro a; fin_cases a <;> simp

theorem ld_v {off : Nat} {h : Fin 4} (e : off = 512 + h.val * 128) (inb) :
    rk (cutk (bkv m c t) off inb) = hv (akv m c) h := by
  subst e
  funext i x
  refine (View.ld_unit_apply_of _ _ _ _ _ (ix2 i ⟨512 + (h.val * 128 + x.val), by omega⟩) ?_).trans (bkv_eq m c t i _)
  intro a; fin_cases a <;> simp <;> omega

/-- A head's tile, where it lies in the array. -/
theorem head {off offv : Nat} {h : Fin 4} (e : off = h.val * 128) (e' : offv = 512 + h.val * 128) (inq) (ink) (inv) (x : S512x128.Idx)
    (y : Cert.XatRefIdeal.S8192x512.Idx) (h0 : (y 0).val = t.val * 512 + (x 0).val) (h1 : (y 1).val = off + (x 1).val) :
    tile (cutq (bq m c t) off inq) (cutk (bkv m c t) off ink) (cutk (bkv m c t) offv inv) x = val_main_v23 (F := Ideal) (aq m c) (akv m c) y := by
  idx_bounds x
  refine (tile_eq _ _ _ x).trans ?_
  obtain ⟨i, hi⟩ : ∃ i : Fin 512, i = x 0 := ⟨_, rfl⟩
  rw [← hi] at h0 ⊢
  rw [ld_q m c t e, ld_k m c t e, ld_v m c t e', result, show hd (y 1).val = h from Fin.ext (by simp only [hd]; omega),
    show ln (y 1).val = x 1 from Fin.ext (by simp only [ln]; omega), show y 0 = tok t i from Fin.ext h0]

theorem out_eq (y : S512x512.Idx) (z : Cert.XatRefIdeal.S8192x512.Idx) (h0 : (z 0).val = t.val * 512 + (y 0).val) (h1 : (z 1).val = (y 1).val) :
    out0_2 (F := Ideal) (bq m c t) (bkv m c t) y = val_main_v23 (F := Ideal) (aq m c) (akv m c) z := by
  unfold out0_2
  canon_tiles x h'
  · exact (congrFun (tile3 _ _ _) x).trans (head m c t (h := 3) rfl rfl _ _ _ x z (by omega) (by omega))
  · exact (congrFun (tile2 _ _ _) x).trans (head m c t (h := 2) rfl rfl _ _ _ x z (by omega) (by omega))
  · exact (congrFun (tile1 _ _ _) x).trans (head m c t (h := 1) rfl rfl _ _ _ x z (by omega) (by omega))
  · exact head m c t (h := 0) rfl rfl _ _ _ x z (by omega) (by omega)

/-- The attention's result, the whole array. -/
theorem array : (dats m 0 c).arrAt 2 (cfgs 0).N = val_main_v23 (F := Ideal) (aq m c) (akv m c) := by
  refine (dats m 0 c).arrAt_eq_of_covers 2 _ (by decide +kernel) fun t _ y => ?_
  blk_simp
  rw [after0_2]
  refine out_eq m c t _ _ ?_ ?_ <;> (blk_simp [rows t] <;> try omega)

end point

end Cert.XatIdeal.Val

end
-- ==== Proof.XatClaim.lean ====
/- The algebraic claim of the cross-attention: the idealised kernel's run and the reference's end with
   equal arrays. -/
module

public import proofs.«01_k».proof.Defs
public import proofs.«01_k».proof.Proof.XatValue
public import proofs.«01_k».proof.Proof.Gen.XatIdeal.Value
public import proofs.«01_k».proof.Proof.Gen.XatRefIdeal
public import proofs.«01_k».proof.Proof.Gen.XatRefIdeal.Run
public import Idealize.ShloMosaic.Lib.Claim

@[expose] public section

set_option maxRecDepth 16384

noncomputable section

open Idealize.ShloMosaic Idealize.ShloMosaic.TcCoe Idealize.SL.Sem

namespace Cert.XatRefIdeal.Val

open Cert.XatRefIdeal Cert.XatRefIdeal.Read

/-- Every execution of the reference ends with its results at their named terms and with its arguments as they were. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23) = val_main_v23 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(h c).1.trans (val_main_v23_eq (F := Ideal) _ _), (h c).2⟩)
    (Cert.XatRefIdeal.Value.run m ρ)

end Cert.XatRefIdeal.Val

namespace Cert.XatClaim

/-- The reference runs, its arguments unchanged. -/
theorem reference_runs : Cert.quiescent_XatRefIdeal := by
  intro m g hpre
  hlo_run
  · intro c; simp
  · exact sem_eq_zero_of_no_sems (sig := Cert.XatRefIdeal.sig) (by decide) _

/-- The kernel's arrays are the reference's. -/
theorem algebraic : Cert.algebraic_XatIdeal_XatRefIdeal := by
  pair_intro
  · run_from Cert.XatIdeal.Gen.run_main m g
  · run_from Cert.XatRefIdeal.Val.run_named m' g'
    · exact (Cert.XatIdeal.Val.array m c).symm

end Cert.XatClaim

end
-- ==== Proof.RopeValue.lean ====
/- The rotary embedding: the first sixteen columns of a head are turned, the values and the other columns are left as they are. -/
module

public import proofs.«01_k».proof.Proof.Gen.RopeIdeal.Frame
public import proofs.«01_k».proof.Proof.Gen.RopeRefIdeal.Read
public import proofs.«01_k».proof.Proof.DropeValue
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.RopeIdeal.Val

open Cert.RopeIdeal Cert.RopeIdeal.Gen
open Cert.RopeRefIdeal.Read
open Cert.DropeIdeal.Val (place pick)

/-- One column of a row turned: `x` is its own entry, `u` the entry eight columns on, `d` the one eight columns before, `n` its place in its head. -/
def turn (c s : Fin 8 → EReal) (x u d : EReal) (n : ℕ) : EReal :=
  if h : n < 8 then x * c ⟨n, h⟩ - u * s ⟨n, h⟩
  else if h' : n < 16 then x * c ⟨n - 8, by omega⟩ + d * s ⟨n - 8, by omega⟩
  else x

/-- The same from the tables that the kernel reads: a multiplier for each column, and a signed one for its partner. -/
theorem turn_eq (c s : Fin 8 → EReal) (x u d C S : EReal) (n : ℕ)
    (hC : C = if h : n < 8 then c ⟨n, h⟩ else if h' : n < 16 then c ⟨n - 8, by omega⟩ else 1)
    (hS : S = if h : n < 8 then -s ⟨n, h⟩ else if h' : n < 16 then s ⟨n - 8, by omega⟩ else 0) :
    x * C + (if n < 8 then u else if n < 16 then d else 0) * S = turn c s x u d n := by
  rw [hC, hS, turn]
  split_ifs <;> simp [sub_eq_add_neg]

/-- The same from three pieces side by side: the first eight columns, the second eight and the columns left alone. -/
theorem turn_of_pieces (c s : Fin 8 → EReal) (X U D : EReal) (d : ℕ)
    (a : d < 8 → EReal) (b : ¬d < 8 → d - 8 < 8 → EReal) (e : ¬d < 8 → ¬d - 8 < 8 → EReal) (ha : ∀ h : d < 8, a h = X * c ⟨d, h⟩ - U * s ⟨d, h⟩)
    (hb : ∀ (h : ¬d < 8) (h' : d - 8 < 8), b h h' = X * c ⟨d - 8, h'⟩ + D * s ⟨d - 8, h'⟩) (he : ∀ (h : ¬d < 8) (h' : ¬d - 8 < 8), e h h' = X) :
    (if h : d < 8 then a h else if h' : d - 8 < 8 then b h h' else e h h') = turn c s X U D d := by
  unfold turn
  rcases lt_or_ge d 8 with h | h
  · rw [dif_pos h, dif_pos h, ha h]
  · rw [dif_neg (by omega), dif_neg (show ¬d < 8 by omega)]
    rcases lt_or_ge d 16 with h' | h'
    · rw [dif_pos (show d - 8 < 8 by omega), dif_pos h', hb _ _]
    · rw [dif_neg (show ¬d - 8 < 8 by omega), dif_neg (by omega), he _ _]

theorem sub_congr {a b a' b' c s : EReal} (h : a = a') (h' : b = b') : a * c - b * s = a' * c - b' * s := by rw [h, h']

theorem turn_congr {c s : Fin 8 → EReal} {x u d x' u' d' : EReal} {n n' : ℕ} (hx : x = x') (hu : u = u') (hd : d = d') (hn : n = n') :
    turn c s x u d n = turn c s x' u' d' n' := by rw [hx, hu, hd, hn]

/-- A token's row of the result. -/
def row (x : FVec Ideal Cert.RopeRefIdeal.S8192x2560 .f32) (cs sn : FVec Ideal Cert.RopeRefIdeal.S8192x8 .f32) (i : Fin 8192) (n : Fin 2560) : EReal :=
  if n.val < 2048 then turn (fun k => cs (ix2 i k)) (fun k => sn (ix2 i k)) (x (ix2 i n)) (x (ix2 i ⟨(n.val + 8) % 2048, by omega⟩)) (x (ix2 i ⟨(n.val + 2040) % 2048, by omega⟩)) (n.val % 64)
  else if n.val < 2304 then turn (fun k => cs (ix2 i k)) (fun k => sn (ix2 i k)) (x (ix2 i n))
    (x (ix2 i ⟨2048 + (n.val - 2048 + 8) % 256, by omega⟩)) (x (ix2 i ⟨2048 + (n.val - 2048 + 248) % 256, by omega⟩)) (n.val % 64)
  else x (ix2 i n)

section row

variable (x : FVec Ideal Cert.RopeRefIdeal.S8192x2560 .f32) (cs sn : FVec Ideal Cert.RopeRefIdeal.S8192x8 .f32) (i : Fin 8192) (n : Fin 2560)

theorem row_query (h : n.val < 2048) : row x cs sn i n
    = turn (fun k => cs (ix2 i k)) (fun k => sn (ix2 i k)) (x (ix2 i n)) (x (ix2 i ⟨(n.val + 8) % 2048, by omega⟩)) (x (ix2 i ⟨(n.val + 2040) % 2048, by omega⟩)) (n.val % 64) :=
  if_pos h

theorem row_key (h : 2048 ≤ n.val) (h' : n.val < 2304) : row x cs sn i n
    = turn (fun k => cs (ix2 i k)) (fun k => sn (ix2 i k)) (x (ix2 i n)) (x (ix2 i ⟨2048 + (n.val - 2048 + 8) % 256, by omega⟩)) (x (ix2 i ⟨2048 + (n.val - 2048 + 248) % 256, by omega⟩)) (n.val % 64) :=
  (if_neg (by omega)).trans (if_pos h')

theorem row_value (h : 2304 ≤ n.val) : row x cs sn i n = x (ix2 i n) := (if_neg (by omega)).trans (if_neg (by omega))

end row

section reference

open Cert.RopeRefIdeal

variable (x : FVec Ideal S8192x2560 .f32) (cs sn : FVec Ideal S8192x8 .f32)

theorem at_ (i : Fin 8192) {k l : ℕ} {hk : k < 2560} {hl : l < 2560} (e : k = l) : x (ix2 i ⟨k, hk⟩) = x (ix2 i ⟨l, hl⟩) := by subst e; rfl

theorem rin (y : S8192x2560.Idx) : val_main_v2 (F := Ideal) x y = x y := by
  pointwise [val_main_v2, val_main_v1, val_main_v0, val_main_cst]

theorem rquery (i : Fin 8192) (n : Fin 2048) : val_main_v21 (F := Ideal) x cs sn (ix2 i n) = row x cs sn i ⟨n.val, by omega⟩ := by
  pointwise [val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3]
  simp only [rin]
  have hn := n.isLt
  refine Eq.trans ?_ (row_query _ _ _ _ _ hn).symm
  refine turn_of_pieces _ _ _ _ _ (n.val % 64) _ _ _ (fun h => ?_) (fun h h' => ?_) fun h h' => ?_
  · exact sub_congr (at_ x i (by omega)) (at_ x i (by simp only; omega))
  · exact Cert.DropeIdeal.Val.add_congr (at_ x i (by omega)) (at_ x i (by simp only; omega))
  · exact at_ x i (by omega)

theorem rkey (i : Fin 8192) (n : Fin 256) : val_main_v38 (F := Ideal) x cs sn (ix2 i n) = row x cs sn i ⟨2048 + n.val, by omega⟩ := by
  pointwise [val_main_v38, val_main_v37, val_main_v36, val_main_v35, val_main_v34, val_main_v33, val_main_v32, val_main_v31, val_main_v30, val_main_v29, val_main_v28, val_main_v27, val_main_v26, val_main_v25, val_main_v24, val_main_v23, val_main_v22, val_main_v4, val_main_v3]
  simp only [rin]
  have hn := n.isLt
  refine Eq.trans ?_ (row_key _ _ _ _ _ (by simp only; omega) (by simp only; omega)).symm
  rw [show (2048 + n.val) % 64 = n.val % 64 by omega]
  refine turn_of_pieces _ _ _ _ _ (n.val % 64) _ _ _ (fun h => ?_) (fun h h' => ?_) fun h h' => ?_
  · exact sub_congr (at_ x i (by omega)) (at_ x i (by simp only; omega))
  · exact Cert.DropeIdeal.Val.add_congr (at_ x i (by omega)) (at_ x i (by simp only; omega))
  · exact at_ x i (by omega)

theorem ref_eq (i : Fin 8192) (n : Fin 2560) : val_main_v45 (F := Ideal) x cs sn (ix2 i n) = row x cs sn i n := by
  pointwise [val_main_v45, val_main_v44, val_main_v40, val_main_v39]
  simp only [rin]
  have hn := n.isLt
  rcases lt_or_ge n.val 2048 with h | h
  · rw [dif_pos h]
    exact rquery x cs sn i _
  · rw [dif_neg (by omega)]
    rcases lt_or_ge n.val 2304 with h' | h'
    · rw [dif_pos (by omega)]
      exact (rkey x cs sn i _).trans (congrArg (row x cs sn i) (Fin.ext (by simp only; omega)))
    · rw [dif_neg (by omega)]
      exact (at_ x i (by omega)).trans (row_value x cs sn i n h').symm

end reference

section tile

variable (c s : FVec Ideal S256x128 .f32) (cc ss : Fin 256 → Fin 8 → EReal)

theorem wide (u : FVec Ideal S256x128 .f32) (h) : concatenate S256x2048 1 [⟨S256x128, u⟩, ⟨S256x128, u⟩, ⟨S256x128, u⟩, ⟨S256x128, u⟩, ⟨S256x128, u⟩, ⟨S256x128, u⟩, ⟨S256x128, u⟩, ⟨S256x128, u⟩, ⟨S256x128, u⟩, ⟨S256x128, u⟩, ⟨S256x128, u⟩, ⟨S256x128, u⟩, ⟨S256x128, u⟩, ⟨S256x128, u⟩, ⟨S256x128, u⟩, ⟨S256x128, u⟩] h
    = fun y : S256x2048.Idx => u (ix2 (y 0) ⟨(y 1).val % 128, by omega⟩) := by
  funext y
  refine concatenate_ofFn_apply (t := S256x2048) (s₁ := S256x128) 1 (fun _ : Fin 16 => u) _ rfl 128 rfl y ⟨(y 1).val / 128, by idx_bounds y; omega⟩ rfl (ix2 (y 0) ⟨(y 1).val % 128, by omega⟩) rfl ?_
  intro a h
  fin_cases a
  · rfl
  · exact absurd rfl h

/-- What the two tables hold. -/
def IsCos : Prop := ∀ (i : Fin 256) (n : Fin 128), c (ix2 i n) = if h : n.val % 64 < 8 then cc i ⟨n.val % 64, h⟩ else if h' : n.val % 64 < 16 then cc i ⟨n.val % 64 - 8, by omega⟩ else 1
def IsSin : Prop := ∀ (i : Fin 256) (n : Fin 128), s (ix2 i n) = if h : n.val % 64 < 8 then -ss i ⟨n.val % 64, h⟩ else if h' : n.val % 64 < 16 then ss i ⟨n.val % 64 - 8, by omega⟩ else 0

variable {c s cc ss} (hc : IsCos c cc) (hs : IsSin s ss)

include hc in
theorem cos_of (i : Fin 256) (n : Fin 128) (k : ℕ) (e : n.val % 64 = k) :
    c (ix2 i n) = if h : k < 8 then cc i ⟨k, h⟩ else if h' : k < 16 then cc i ⟨k - 8, by omega⟩ else 1 := by
  subst e
  exact hc i n

include hs in
theorem sin_of (i : Fin 256) (n : Fin 128) (k : ℕ) (e : n.val % 64 = k) :
    s (ix2 i n) = if h : k < 8 then -ss i ⟨k, h⟩ else if h' : k < 16 then ss i ⟨k - 8, by omega⟩ else 0 := by
  subst e
  exact hs i n

include hc hs

theorem rot (x : FVec Ideal S256x2048 .f32) (y : S256x2048.Idx) :
    k0_pay3 (F := Ideal) c s x y
      = turn (cc (y 0)) (ss (y 0)) (x y) (x (ix2 (y 0) ⟨((y 1).val + 8) % 2048, by omega⟩)) (x (ix2 (y 0) ⟨((y 1).val + 2040) % 2048, by omega⟩)) ((y 1).val % 64) := by
  have h := pick (y 1)
  simp only [place] at h
  have e1 : k0_pay1 (F := Ideal) c = c := by ext; pointwise [k0_pay1]
  have e2 : k0_pay2 (F := Ideal) s = s := by ext; pointwise [k0_pay2]
  unfold k0_pay3
  rw [e1, e2, wide, wide]
  pointwise
  rw [h]
  clear h
  have e : ((y 1).val + 2048 - 2040) % 2048 = ((y 1).val + 8) % 2048 := by omega
  have e' : ((y 1).val + 2048 - 8) % 2048 = ((y 1).val + 2040) % 2048 := by omega
  simp only [e, e']
  exact turn_eq _ _ _ _ _ _ _ _ (cos_of hc _ _ _ (Nat.mod_mod_of_dvd _ (by decide))) (sin_of hs _ _ _ (Nat.mod_mod_of_dvd _ (by decide)))

theorem rot' (x : FVec Ideal S256x256 .f32) (y : S256x256.Idx) :
    k0_pay4 (F := Ideal) (k0_pay1 c) (k0_pay2 s) x y
      = turn (cc (y 0)) (ss (y 0)) (x y) (x (ix2 (y 0) ⟨((y 1).val + 8) % 256, by omega⟩)) (x (ix2 (y 0) ⟨((y 1).val + 248) % 256, by omega⟩)) ((y 1).val % 64) := by
  have h := pick ⟨(y 1).val, by idx_bounds y; omega⟩
  simp only [place] at h
  pointwise [k0_pay4, k0_pay1, k0_pay2]
  rw [h]
  clear h
  have e : ((y 1).val + 256 - 248) % 256 = ((y 1).val + 8) % 256 := by omega
  have e' : ((y 1).val + 256 - 8) % 256 = ((y 1).val + 248) % 256 := by omega
  simp only [e, e']
  refine turn_eq _ _ _ _ _ _ _ _ ?_ ?_
  · split
    · exact cos_of hc _ _ _ rfl
    · exact cos_of hc _ _ _ (by change ((y 1).val - 128) % 64 = _; omega)
  · split
    · exact sin_of hs _ _ _ rfl
    · exact sin_of hs _ _ _ (by change ((y 1).val - 128) % 64 = _; omega)

end tile

theorem plain (x : FVec Ideal S256x256 .f32) (y : S256x256.Idx) : k0_pay5 (F := Ideal) x y = x y := by
  pointwise [k0_pay5]

section point

variable (m : (ℓ : Loc nD τ sig) → Buf (Elt Ideal) ℓ) (c : Dev nD) (t : Fin cfg0.N)

/-- Which rows of each array a grid point reads and writes. -/
theorem rows : ∀ t : Fin cfg0.N, win0_0.index t = ![t.val, 0] ∧ win0_1.index t = ![t.val, 0] ∧ win0_2.index t = ![t.val, 0] ∧ win0_3.index t = ![t.val, 0] :=
  (by decide +kernel : ∀ t : Fin grid0.N, _)

/-- A grid point's tokens. -/
def tok (i : Fin 256) : Fin 8192 := ⟨t.val * 256 + i.val, by have : t.val < 32 := t.isLt; omega⟩

/-- The arguments. -/
abbrev ax : FVec Ideal Cert.RopeRefIdeal.S8192x2560 .f32 := m ((c : Thread nD τ).loc main_arg0)
abbrev acos : FVec Ideal Cert.RopeRefIdeal.S8192x8 .f32 := m ((c : Thread nD τ).loc main_arg1)
abbrev asin : FVec Ideal Cert.RopeRefIdeal.S8192x8 .f32 := m ((c : Thread nD τ).loc main_arg2)

/-- The blocks that a grid point reads. -/
abbrev bx : FVec Ideal S256x2560 .f32 := iblk m c 0 t
abbrev bcos : FVec Ideal S256x128 .f32 := iblk m c 1 t
abbrev bsin : FVec Ideal S256x128 .f32 := iblk m c 2 t

theorem bx_eq (i : Fin 256) (n : Fin 2560) : bx m c t (ix2 i n) = ax m c (ix2 (tok t i) n) := by
  blk_ext [iblk, V, rows t, tok]

/-- A piece of a block's columns. -/
theorem part {w : ℕ} (off : ℕ) (inb) (i : Fin 256) (n : Fin w) (k : Fin 2560) (e : k.val = off + n.val) :
    View.ld (Val := Elt Ideal) (S := S256x2560) (e' := .f32) (bx m c t) (Rect.unit (s := S256x2560) ![0, off] ![256, w] inb) (ix2 i n) = ax m c (ix2 (tok t i) k) := by
  refine (View.ld_unit_apply_of _ _ _ _ _ (ix2 i k) ?_).trans (bx_eq m c t i k)
  intro a; fin_cases a <;> simp [e]

theorem table_cos (i : Fin 8192) (n : Fin 128) : V m c main_v5 (ix2 i n)
    = (if h : n.val % 64 < 8 then acos m c (ix2 i ⟨n.val % 64, h⟩) else if h' : n.val % 64 < 16 then acos m c (ix2 i ⟨n.val % 64 - 8, by omega⟩) else 1 : EReal) := by
  unfold V
  unfold_abbrev_sides
  after_results
  pointwise
  rcases lt_or_ge (n.val % 64) 8 with h | h
  · rw [dif_pos h, dif_pos h]
    rfl
  · have k : ¬n.val % 64 < 8 := by omega
    rcases lt_or_ge (n.val % 64) 16 with h' | h'
    · have k' : n.val % 64 - 8 < 8 := by omega
      exact (dif_neg k).trans ((dif_pos k').trans (Eq.trans rfl ((dif_neg k).trans (dif_pos h')).symm))
    · have k' : ¬n.val % 64 - 8 < 8 := by omega
      have k'' : ¬n.val % 64 < 16 := by omega
      exact (dif_neg k).trans ((dif_neg k').trans (Eq.trans (show Ideal.ofBits .f32 0x3F800000#32 = 1 by simp) ((dif_neg k).trans (dif_neg k'')).symm))

theorem table_sin (i : Fin 8192) (n : Fin 128) : V m c main_v10 (ix2 i n)
    = (if h : n.val % 64 < 8 then -asin m c (ix2 i ⟨n.val % 64, h⟩) else if h' : n.val % 64 < 16 then asin m c (ix2 i ⟨n.val % 64 - 8, by omega⟩) else 0 : EReal) := by
  unfold V
  unfold_abbrev_sides
  after_results
  pointwise
  rcases lt_or_ge (n.val % 64) 8 with h | h
  · rw [dif_pos h, dif_pos h]
    rfl
  · have k : ¬n.val % 64 < 8 := by omega
    rcases lt_or_ge (n.val % 64) 16 with h' | h'
    · have k' : n.val % 64 - 8 < 8 := by omega
      exact (dif_neg k).trans ((dif_pos k').trans (Eq.trans rfl ((dif_neg k).trans (dif_pos h')).symm))
    · have k' : ¬n.val % 64 - 8 < 8 := by omega
      have k'' : ¬n.val % 64 < 16 := by omega
      exact (dif_neg k).trans ((dif_neg k').trans (Eq.trans Ideal.ofBits_zero_f32 ((dif_neg k).trans (dif_neg k'')).symm))

theorem bcos_eq : IsCos (bcos m c t) fun i k => acos m c (ix2 (tok t i) k) := by
  intro i n
  trans V m c main_v5 (ix2 (tok t i) n)
  · blk_ext [iblk, rows t, tok]
  · exact table_cos m c _ n

theorem bsin_eq : IsSin (bsin m c t) fun i k => asin m c (ix2 (tok t i) k) := by
  intro i n
  trans V m c main_v10 (ix2 (tok t i) n)
  · blk_ext [iblk, rows t, tok]
  · exact table_sin m c _ n

/-- The three pieces that a grid point writes, where they lie in the array. -/
theorem piece_query (i : Fin 256) (n : Fin 2048) (k : Fin 2560) (e : k.val = n.val) (inb) :
    k0_pay3 (F := Ideal) (bcos m c t) (bsin m c t) (View.ld (Val := Elt Ideal) (S := S256x2560) (e' := .f32) (bx m c t) (Rect.unit (s := S256x2560) ![0, 0] ![256, 2048] inb)) (ix2 i n)
      = row (ax m c) (acos m c) (asin m c) (tok t i) k := by
  refine (rot (bcos_eq m c t) (bsin_eq m c t) _ (ix2 i n)).trans ?_
  rw [row_query _ _ _ _ _ (by omega)]
  refine turn_congr (part m c t 0 inb i n k (by omega)) (part m c t 0 inb i _ _ ?_) (part m c t 0 inb i _ _ ?_) (congrArg (· % 64) e.symm)
  · simp only [e, ix2]
    exact (Nat.zero_add _).symm
  · simp only [e, ix2]
    exact (Nat.zero_add _).symm

theorem piece_key (i : Fin 256) (n : Fin 256) (k : Fin 2560) (e : k.val = 2048 + n.val) (inb) :
    k0_pay4 (F := Ideal) (k0_pay1 (bcos m c t)) (k0_pay2 (bsin m c t)) (View.ld (Val := Elt Ideal) (S := S256x2560) (e' := .f32) (bx m c t) (Rect.unit (s := S256x2560) ![0, 2048] ![256, 256] inb)) (ix2 i n)
      = row (ax m c) (acos m c) (asin m c) (tok t i) k := by
  refine (rot' (bcos_eq m c t) (bsin_eq m c t) _ (ix2 i n)).trans ?_
  rw [row_key _ _ _ _ _ (by omega) (by omega)]
  have e' : k.val - 2048 = n.val := by omega
  refine turn_congr (part m c t 2048 inb i n k e) (part m c t 2048 inb i _ _ ?_) (part m c t 2048 inb i _ _ ?_) ?_
  · simp only [e']
    rfl
  · simp only [e']
    rfl
  · change n.val % 64 = _
    omega

theorem piece_value (i : Fin 256) (n : Fin 256) (k : Fin 2560) (e : k.val = 2304 + n.val) (inb) :
    k0_pay5 (F := Ideal) (View.ld (Val := Elt Ideal) (S := S256x2560) (e' := .f32) (bx m c t) (Rect.unit (s := S256x2560) ![0, 2304] ![256, 256] inb)) (ix2 i n)
      = row (ax m c) (acos m c) (asin m c) (tok t i) k := by
  refine (plain _ (ix2 i n)).trans ?_
  rw [row_value _ _ _ _ _ (by omega)]
  exact part m c t 2304 inb i n k e

/-- The pieces of a grid point's block, and that they fill it. -/
def pieces : List (View.Piece (Elt Ideal) S256x2560 .bf16) :=
  [⟨Rect.unit (s := S256x2560) ![0, 2304] ![256, 256] inb_S256x2560_S256x256_0_2304,
      k0_pay5 (F := Ideal) (View.ld (Val := Elt Ideal) (S := S256x2560) (e' := .f32) (bx m c t) (Rect.unit (s := S256x2560) ![0, 2304] ![256, 256] inb_S256x2560_S256x256_0_2304))⟩,
    ⟨Rect.unit (s := S256x2560) ![0, 2048] ![256, 256] inb_S256x2560_S256x256_0_2048,
      k0_pay4 (F := Ideal) (k0_pay1 (bcos m c t)) (k0_pay2 (bsin m c t)) (View.ld (Val := Elt Ideal) (S := S256x2560) (e' := .f32) (bx m c t) (Rect.unit (s := S256x2560) ![0, 2048] ![256, 256] inb_S256x2560_S256x256_0_2048))⟩,
    ⟨Rect.unit (s := S256x2560) ![0, 0] ![256, 2048] inb_S256x2560_S256x2048_0_0,
      k0_pay3 (F := Ideal) (bcos m c t) (bsin m c t) (View.ld (Val := Elt Ideal) (S := S256x2560) (e' := .f32) (bx m c t) (Rect.unit (s := S256x2560) ![0, 0] ![256, 2048] inb_S256x2560_S256x2048_0_0))⟩]

theorem filled (y : S256x2560.Idx) : ∃ pc ∈ pieces m c t, y ∈ pc.1.set :=
  View.cover_of_tiledBy (pieces m c t) ![256, 256] (by sl_kernel_rfl) y

theorem pieces_eq (y : S256x2560.Idx) : View.canon (pieces m c t) y = row (ax m c) (acos m c) (asin m c) (tok t (y 0)) (y 1) := by
  have cover := filled m c t y
  unfold pieces at cover ⊢
  canon_tiles x h' using cover
  · rw [show x = ix2 (x 0) (x 1) by ext a; fin_cases a <;> rfl, show y 0 = x 0 from Fin.ext (by omega)]
    exact piece_value m c t (x 0) (x 1) (y 1) (by omega) _
  · rw [show x = ix2 (x 0) (x 1) by ext a; fin_cases a <;> rfl, show y 0 = x 0 from Fin.ext (by omega)]
    exact piece_key m c t (x 0) (x 1) (y 1) (by omega) _
  · rw [show x = ix2 (x 0) (x 1) by ext a; fin_cases a <;> rfl, show y 0 = x 0 from Fin.ext (by omega)]
    exact piece_query m c t (x 0) (x 1) (y 1) (by omega) _

theorem out_eq (y : S256x2560.Idx) : outsAt0 m c t y = row (ax m c) (acos m c) (asin m c) (tok t (y 0)) (y 1) := by
  unfold outsAt0
  frame_out
  exact pieces_eq m c t y

/-- The turned rows, the whole array. -/
theorem array : (dats m 0 c).arrAt 3 (cfgs 0).N = val_main_v45 (F := Ideal) (ax m c) (acos m c) (asin m c) := by
  refine (dats m 0 c).arrAt_eq_of_covers 3 _ (by decide +kernel) fun t hf y => ?_
  blk_simp
  rw [after0_3, out_eq]
  rw [show (win0_3.blk t).view.emb y = ix2 (tok t (y 0)) (y 1) by blk_ext [rows t, tok]]
  exact (ref_eq (ax m c) (acos m c) (asin m c) _ _).symm

end point

end Cert.RopeIdeal.Val

end
-- ==== Proof.RopeClaim.lean ====
/- The algebraic claim of the rotary embedding: the idealised kernel's run and the reference's end with
   equal arrays. -/
module

public import proofs.«01_k».proof.Defs
public import proofs.«01_k».proof.Proof.RopeValue
public import proofs.«01_k».proof.Proof.Gen.RopeIdeal.Value
public import proofs.«01_k».proof.Proof.Gen.RopeRefIdeal
public import proofs.«01_k».proof.Proof.Gen.RopeRefIdeal.Run
public import Idealize.ShloMosaic.Lib.Claim

@[expose] public section

set_option maxRecDepth 16384

noncomputable section

open Idealize.ShloMosaic Idealize.ShloMosaic.TcCoe Idealize.SL.Sem

namespace Cert.RopeRefIdeal.Val

open Cert.RopeRefIdeal Cert.RopeRefIdeal.Read

/-- Every execution of the reference ends with its results at their named terms and with its arguments as they were. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v45) = val_main_v45 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(h c).1.trans (val_main_v45_eq (F := Ideal) m c), (h c).2⟩)
    (Cert.RopeRefIdeal.Value.run m ρ)

end Cert.RopeRefIdeal.Val

namespace Cert.RopeClaim

/-- The reference runs, its arguments unchanged. -/
theorem reference_runs : Cert.quiescent_RopeRefIdeal := by
  intro m g hpre
  hlo_run
  · intro c; simp
  · exact sem_eq_zero_of_no_sems (sig := Cert.RopeRefIdeal.sig) (by decide) _

/-- The kernel's arrays are the reference's. -/
theorem algebraic : Cert.algebraic_RopeIdeal_RopeRefIdeal := by
  pair_intro
  · run_from Cert.RopeIdeal.Gen.run_main m g
  · run_from Cert.RopeRefIdeal.Val.run_named m' g'
    · exact (Cert.RopeIdeal.Val.array m c).symm

end Cert.RopeClaim

end
-- ==== Proof.UpValue.lean ====
/- The up projection: every grid point computes one tile of both halves and of the gated product. The gate's logistic
   function is written with the hyperbolic tangent in the kernel and with the exponential in the reference. -/
module

public import proofs.«01_k».proof.Proof.Gen.UpIdeal.Frame
public import proofs.«01_k».proof.Proof.Gen.UpRefIdeal.Read
public import proofs.«01_k».proof.Proof.Scalars
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.UpIdeal.Val

open Cert.UpIdeal Cert.UpIdeal.Gen
open Cert.UpRefIdeal.Read

variable (m : (ℓ : Loc nD τ sig) → Buf (Elt Ideal) ℓ)

/-- Which tile of each array a grid point reads and writes. -/
theorem tiles : ∀ t : Fin cfg0.N, win0_0.index t = ![t.val % 16, 0] ∧ win0_1.index t = ![t.val / 16 / 2, 0, 0, t.val / 16 % 2]
    ∧ win0_2.index t = ![2 + t.val / 16 / 2, 0, 0, t.val / 16 % 2] ∧ win0_3.index t = ![t.val % 16, t.val / 16]
    ∧ win0_4.index t = ![t.val % 16, t.val / 16] ∧ win0_5.index t = ![t.val % 16, t.val / 16] :=
  (by decide +kernel : ∀ t : Fin grid0.N, _)

/-- The gate half of a tile, as a sum over the model axis. -/
theorem gate_eq (x0 : FVec Ideal S512x2048 .bf16) (x1 : FVec Ideal S1x1x2048x1408 .bf16) (y : S512x1408.Idx) :
    k0_pay1 (F := Ideal) x0 x1 y = ∑ k : Fin 2048, x0 (ix2 (y 0) k) * x1 (ix4 0 0 k (y 1)) := by
  pointwise [k0_pay1]

/-- The other half of a tile, as a sum over the model axis. -/
theorem lin_eq (x0 : FVec Ideal S512x2048 .bf16) (x1 : FVec Ideal S1x1x2048x1408 .bf16) (y : S512x1408.Idx) :
    k0_pay2 (F := Ideal) x0 x1 y = ∑ k : Fin 2048, x0 (ix2 (y 0) k) * x1 (ix4 0 0 k (y 1)) := by
  pointwise [k0_pay2]

/-- The reference's gate half. -/
theorem ref_gate (h : FVec Ideal Cert.UpRefIdeal.S8192x2048 .bf16) (w : FVec Ideal Cert.UpRefIdeal.S4x1x2048x2816 .bf16)
    (i : Cert.UpRefIdeal.S8192x5632.Idx) :
    val_main_v6 (F := Ideal) h w i = ∑ k : Fin 2048, h (ix2 (i 0) k)
      * w (ix4 ⟨(i 1).val / 2816, by idx_bounds i; omega⟩ 0 k ⟨(i 1).val % 2816, by omega⟩) := by
  pointwise [val_main_v6, val_main_v5, val_main_v4, val_main_v3, val_main_v2, val_main_v1, val_main_v0]

/-- The reference's other half. -/
theorem ref_lin (h : FVec Ideal Cert.UpRefIdeal.S8192x2048 .bf16) (w : FVec Ideal Cert.UpRefIdeal.S4x1x2048x2816 .bf16)
    (i : Cert.UpRefIdeal.S8192x5632.Idx) :
    val_main_v7 (F := Ideal) h w i = ∑ k : Fin 2048, h (ix2 (i 0) k)
      * w (ix4 ⟨2 + (i 1).val / 2816, by idx_bounds i; omega⟩ 0 k ⟨(i 1).val % 2816, by omega⟩) := by
  pointwise [val_main_v7, val_main_v5, val_main_v4, val_main_v3, val_main_v2, val_main_v1, val_main_v0]
  blk_point []

/-- The gate half of a tile against the reference. -/
theorem gate_tile (c : Dev nD) (t : Fin cfg0.N) (y : S512x1408.Idx) (i : Cert.UpRefIdeal.S8192x5632.Idx)
    (h0 : (i 0).val = t.val % 16 * 512 + (y 0).val) (h1 : (i 1).val = t.val / 16 * 1408 + (y 1).val) :
    k0_pay1 (F := Ideal) (iblk m c 0 t) (iblk m c 1 t) y
      = val_main_v6 (F := Ideal) (m ((c : Thread nD τ).loc main_arg0)) (m ((c : Thread nD τ).loc main_arg1)) i := by
  rw [ref_gate, gate_eq]
  blk_point [iblk, V, tiles t]

/-- The other half of a tile against the reference. -/
theorem lin_tile (c : Dev nD) (t : Fin cfg0.N) (y : S512x1408.Idx) (i : Cert.UpRefIdeal.S8192x5632.Idx)
    (h0 : (i 0).val = t.val % 16 * 512 + (y 0).val) (h1 : (i 1).val = t.val / 16 * 1408 + (y 1).val) :
    k0_pay2 (F := Ideal) (iblk m c 0 t) (iblk m c 2 t) y
      = val_main_v7 (F := Ideal) (m ((c : Thread nD τ).loc main_arg0)) (m ((c : Thread nD τ).loc main_arg1)) i := by
  rw [ref_lin, lin_eq]
  blk_point [iblk, V, tiles t]

/-- The gated product in the reference, from its two halves. -/
theorem ref_act (h : FVec Ideal Cert.UpRefIdeal.S8192x2048 .bf16) (w : FVec Ideal Cert.UpRefIdeal.S4x1x2048x2816 .bf16)
    (i : Cert.UpRefIdeal.S8192x5632.Idx) :
    val_main_v12 (F := Ideal) h w i = val_main_v6 (F := Ideal) h w i
      * Ideal.div 1 (1 + Ideal.exp (-(val_main_v6 (F := Ideal) h w i))) * val_main_v7 (F := Ideal) h w i := by
  pointwise [val_main_v12, val_main_v11, val_main_v10, val_main_call0_v5, val_main_call0_v4, val_main_call0_cst_0,
    val_main_call0_v3, val_main_call0_v2, val_main_call0_cst, val_main_call0_v1, val_main_call0_v0]

/-- The gated product of a tile, from its two halves. -/
theorem act_eq (x0 : FVec Ideal S512x2048 .bf16) (x1 x2 : FVec Ideal S1x1x2048x1408 .bf16) (y : S512x1408.Idx) :
    k0_pay5 (F := Ideal) x0 x1 x2 y = k0_pay1 (F := Ideal) x0 x1 y
      * Ideal.div 1 (1 + Ideal.exp (-(k0_pay1 (F := Ideal) x0 x1 y))) * k0_pay2 (F := Ideal) x0 x2 y := by
  rw [← Cert.Scalars.logistic_eq]
  pointwise [k0_pay5]

/-- The gated product of a tile against the reference. -/
theorem act_tile (c : Dev nD) (t : Fin cfg0.N) (y : S512x1408.Idx) (i : Cert.UpRefIdeal.S8192x5632.Idx)
    (h0 : (i 0).val = t.val % 16 * 512 + (y 0).val) (h1 : (i 1).val = t.val / 16 * 1408 + (y 1).val) :
    k0_pay5 (F := Ideal) (iblk m c 0 t) (iblk m c 1 t) (iblk m c 2 t) y
      = val_main_v12 (F := Ideal) (m ((c : Thread nD τ).loc main_arg0)) (m ((c : Thread nD τ).loc main_arg1)) i := by
  rw [act_eq, ref_act, gate_tile m c t y i h0 h1, lin_tile m c t y i h0 h1]

/-- The array of the gate half. -/
theorem array_gate (c : Dev nD) : (dats m 0 c).arrAt 3 (cfgs 0).N
    = val_main_v8 (F := Ideal) (m ((c : Thread nD τ).loc main_arg0)) (m ((c : Thread nD τ).loc main_arg1)) := by
  refine (dats m 0 c).arrAt_eq_of_covers 3 _ (by decide +kernel) fun t _ y => ?_
  blk_simp
  rw [after0_3]
  frame_out
  pointwise [k0_pay3, val_main_v8]
  refine gate_tile m c t y _ ?_ ?_ <;> (blk_simp [tiles t] <;> try omega)

/-- The array of the other half. -/
theorem array_lin (c : Dev nD) : (dats m 0 c).arrAt 4 (cfgs 0).N
    = val_main_v9 (F := Ideal) (m ((c : Thread nD τ).loc main_arg0)) (m ((c : Thread nD τ).loc main_arg1)) := by
  refine (dats m 0 c).arrAt_eq_of_covers 4 _ (by decide +kernel) fun t _ y => ?_
  blk_simp
  rw [after0_4]
  frame_out
  pointwise [k0_pay4, val_main_v9]
  refine lin_tile m c t y _ ?_ ?_ <;> (blk_simp [tiles t] <;> try omega)

/-- The array of the gated product. -/
theorem array_act (c : Dev nD) : (dats m 0 c).arrAt 5 (cfgs 0).N
    = val_main_v12 (F := Ideal) (m ((c : Thread nD τ).loc main_arg0)) (m ((c : Thread nD τ).loc main_arg1)) := by
  refine (dats m 0 c).arrAt_eq_of_covers 5 _ (by decide +kernel) fun t _ y => ?_
  blk_simp
  rw [after0_5]
  frame_out
  refine act_tile m c t y _ ?_ ?_ <;> (blk_simp [tiles t] <;> try omega)

end Cert.UpIdeal.Val

end
-- ==== Proof.UpClaim.lean ====
/- The algebraic claim of a feed-forward block's up projection: the idealised kernel's run and the reference's end with equal arrays. -/
module

public import proofs.«01_k».proof.Defs
public import proofs.«01_k».proof.Proof.UpValue
public import proofs.«01_k».proof.Proof.Gen.UpIdeal.Value
public import proofs.«01_k».proof.Proof.Gen.UpRefIdeal
public import Idealize.ShloMosaic.Lib.Claim

@[expose] public section

noncomputable section

open Idealize.ShloMosaic Idealize.ShloMosaic.TcCoe Idealize.SL.Sem

namespace Cert.UpClaim

/-- The reference runs, its arguments unchanged. -/
theorem reference_runs : Cert.quiescent_UpRefIdeal := by
  intro m g hpre
  hlo_run
  · intro c; simp
  · exact sem_eq_zero_of_no_sems (sig := Cert.UpRefIdeal.sig) (by decide) _

/-- The kernel's arrays are the reference's. -/
theorem algebraic : Cert.algebraic_UpIdeal_UpRefIdeal := by
  pair_intro
  · run_from Cert.UpIdeal.Gen.run_main m g
  · hlo_run
    · exact (Cert.UpIdeal.Val.array_gate m c).symm
    · exact (Cert.UpIdeal.Val.array_lin m c).symm
    · exact (Cert.UpIdeal.Val.array_act m c).symm

end Cert.UpClaim

end
-- ==== Proof.DownValue.lean ====
/- The down projection with the half-step residual: a product accumulated over two blocks of the hidden axis, halved
   and added to the residual at the second. -/
module

public import proofs.«01_k».proof.Proof.Gen.DownIdeal.Frame
public import proofs.«01_k».proof.Proof.Gen.DownRefIdeal.Read
public import proofs.«01_k».proof.Proof.Runs
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem

namespace Cert.DownIdeal.Val

open Cert.DownIdeal Cert.DownIdeal.Gen
open Cert.DownRefIdeal.Read

variable (m : (ℓ : Loc nD τ sig) → Buf (Elt Ideal) ℓ)

/-- Which tile of each array a grid point reads and writes. -/
theorem tiles : ∀ t : Fin cfg0.N, win0_0.index t = ![t.val / 4, t.val % 2] ∧ win0_1.index t = ![0, 0, t.val % 2, t.val / 2 % 2]
    ∧ win0_2.index t = ![t.val / 4, t.val / 2 % 2] ∧ win0_3.index t = ![t.val / 4, t.val / 2 % 2] :=
  (by decide +kernel : ∀ t : Fin grid0.N, _)

/-- The product over one block of the hidden axis. -/
def part (c : Dev nD) (t : Fin cfg0.N) : FVec Ideal S1024x1024 .f32 := k0_pay1 (iblk m c 0 t) (iblk m c 1 t)

/-- The first block starts the sum. -/
theorem carried_first (c : Dev nD) (t : Fin cfg0.N) (h : t.val % 2 = 0) (y : S1024x1024.Idx) :
    (outsAt0 m c t.val t.isLt).2 y = part m c t y := by
  rw [outsAt0_A m c t h (by omega)]
  frame_out
  pointwise [k0_pay2, part]

/-- The second block adds its product, halves the sum and adds the residual. -/
theorem written (c : Dev nD) (t : Fin cfg0.N) (h : t.val % 2 = 2 - 1) (y : S1024x1024.Idx) :
    (outsAt0 m c t.val t.isLt).1 y
      = ((outsAt0 m c (t.val - 1) (Nat.lt_of_le_of_lt (Nat.sub_le _ _) t.isLt)).2 y + part m c t y)
          * Ideal.ofBits .f32 0x3F000000#32 + (show FVec Ideal S1024x1024 .f32 from iblk m c 2 t) y := by
  rw [outsAt0_B m c t (by omega) h]
  frame_out
  rw [read_unread_whole]
  pointwise [k0_pay4, part]

/-- The product over one block, as a sum over the block's rows of the weight. -/
theorem part_eq (x0 : FVec Ideal S1024x2816 .bf16) (x1 : FVec Ideal S1x1x2816x1024 .bf16) (y : S1024x1024.Idx) :
    k0_pay1 (F := Ideal) x0 x1 y = ∑ k : Fin 2816, x0 (ix2 (y 0) k) * x1 (ix4 0 0 k (y 1)) := by
  pointwise [k0_pay1]

/-- The reference's element. -/
theorem ref_eq (a : FVec Ideal Cert.DownRefIdeal.S8192x5632 .bf16) (w : FVec Ideal Cert.DownRefIdeal.S1x1x5632x2048 .bf16)
    (x : FVec Ideal Cert.DownRefIdeal.S8192x2048 .f32) (i : Cert.DownRefIdeal.S8192x2048.Idx) :
    val_main_v6 (F := Ideal) a w x i = x i + Ideal.ofBits .f32 0x3F000000#32
      * ∑ l : Fin 5632, a (ix2 (i 0) l) * w (ix4 0 0 l (i 1)) := by
  pointwise [val_main_v6, val_main_v5, val_main_v4, val_main_cst, val_main_v3, val_main_v2, val_main_v1, val_main_v0]

/-- The whole result array. -/
theorem array (c : Dev nD) : (dats m 0 c).arrAt 3 (cfgs 0).N
    = val_main_v6 (F := Ideal) (m ((c : Thread nD τ).loc main_arg0)) (m ((c : Thread nD τ).loc main_arg1))
        (m ((c : Thread nD τ).loc main_arg2)) := by
  refine (dats m 0 c).arrAt_eq_of_covers 3 _ (by decide +kernel) fun t hf y => ?_
  have h := (flush0_3 t).mp hf
  blk_simp
  rw [after0_3, written m c t h, Cert.Runs.total (fun n h => (outsAt0 m c n h).2) (part m c) (by decide)
    (carried_first m c) (fun _ _ _ => by omega) t h, ref_eq, add_comm, mul_comm]
  congr 1
  congr 1
  simp only [part, part_eq]
  refine Fin.sum_mul_add_congr fun s k hl => ?_
  blk_point [iblk, V, tiles t, tiles ⟨_, Cert.Runs.run_lt t h s⟩]

end Cert.DownIdeal.Val

end
-- ==== Proof.DownClaim.lean ====
/- The algebraic claim of a feed-forward block's down projection: the idealised kernel's run and the reference's end with equal arrays. -/
module

public import proofs.«01_k».proof.Defs
public import proofs.«01_k».proof.Proof.DownValue
public import proofs.«01_k».proof.Proof.Gen.DownIdeal.Value
public import proofs.«01_k».proof.Proof.Gen.DownRefIdeal
public import Idealize.ShloMosaic.Lib.Claim

@[expose] public section

noncomputable section

open Idealize.ShloMosaic Idealize.ShloMosaic.TcCoe Idealize.SL.Sem

namespace Cert.DownClaim

/-- The reference runs, its arguments unchanged. -/
theorem reference_runs : Cert.quiescent_DownRefIdeal := by
  intro m g hpre
  hlo_run
  · intro c; simp
  · exact sem_eq_zero_of_no_sems (sig := Cert.DownRefIdeal.sig) (by decide) _

/-- The kernel's arrays are the reference's. -/
theorem algebraic : Cert.algebraic_DownIdeal_DownRefIdeal := by
  pair_intro
  · run_from Cert.DownIdeal.Gen.run_main m g
  · hlo_run
    exact (Cert.DownIdeal.Val.array m c).symm

end Cert.DownClaim

end
-- ==== Proof.InValue.lean ====
/- The recurrent mixer's input projection: every grid point writes one whole tile of the product. -/
module

public import proofs.«01_k».proof.Proof.Gen.InIdeal.Frame
public import proofs.«01_k».proof.Proof.Gen.InRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.InIdeal.Val

open Cert.InIdeal Cert.InIdeal.Gen
open Cert.InRefIdeal.Read

variable (m : (ℓ : Loc nD τ sig) → Buf (Elt Ideal) ℓ)

/-- Which tile of each array a grid point reads and writes. -/
theorem tiles : ∀ t : Fin cfg0.N, win0_0.index t = ![t.val / 9, 0]
    ∧ win0_1.index t = ![0, t.val % 9]
    ∧ win0_2.index t = ![t.val / 9, t.val % 9] :=
  (by decide +kernel : ∀ t : Fin grid0.N, _)

/-- The whole result array. -/
theorem array (c : Dev nD) : (dats m 0 c).arrAt 2 (cfgs 0).N
    = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, val_main_v3, val_main_v2, val_main_v1, val_main_v0]
  change (_ : EReal) = _
  refine Finset.sum_congr rfl fun k _ => ?_
  blk_point [iblk, V, tiles t]

end Cert.InIdeal.Val

end
-- ==== Proof.InClaim.lean ====
/- The algebraic claim of the recurrent mixer's input projection: the idealised kernel's run and the reference's end with equal arrays. -/
module

public import proofs.«01_k».proof.Defs
public import proofs.«01_k».proof.Proof.InValue
public import proofs.«01_k».proof.Proof.Gen.InIdeal.Value
public import proofs.«01_k».proof.Proof.Gen.InRefIdeal
public import Idealize.ShloMosaic.Lib.Claim

@[expose] public section

noncomputable section

open Idealize.ShloMosaic Idealize.ShloMosaic.TcCoe Idealize.SL.Sem

namespace Cert.InClaim

/-- The reference runs, its arguments unchanged. -/
theorem reference_runs : Cert.quiescent_InRefIdeal := by
  intro m g hpre
  hlo_run
  · intro c; simp
  · exact sem_eq_zero_of_no_sems (sig := Cert.InRefIdeal.sig) (by decide) _

/-- The kernel's arrays are the reference's. -/
theorem algebraic : Cert.algebraic_InIdeal_InRefIdeal := by
  pair_intro
  · run_from Cert.InIdeal.Gen.run_main m g
  · hlo_run
    exact (Cert.InIdeal.Val.array m c).symm

end Cert.InClaim

end
-- ==== Proof.QkvValue.lean ====
/- The attention's input projection: every grid point writes one whole tile of the product with the bias row added. -/
module

public import proofs.«01_k».proof.Proof.Gen.QkvIdeal.Frame
public import proofs.«01_k».proof.Proof.Gen.QkvRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.QkvIdeal.Val

open Cert.QkvIdeal Cert.QkvIdeal.Gen
open Cert.QkvRefIdeal.Read

variable (m : (ℓ : Loc nD τ sig) → Buf (Elt Ideal) ℓ)

/-- Which tile of each array a grid point reads and writes. -/
theorem tiles : ∀ t : Fin cfg0.N, win0_0.index t = ![t.val / 2, 0]
    ∧ win0_1.index t = ![0, t.val % 2]
    ∧ win0_2.index t = ![0, t.val % 2]
    ∧ win0_3.index t = ![t.val / 2, t.val % 2] :=
  (by decide +kernel : ∀ t : Fin grid0.N, _)

/-- The whole result array. -/
theorem array (c : Dev nD) : (dats m 0 c).arrAt 3 (cfgs 0).N
    = val_main_v4 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  pointwise [k0_pay1, val_main_v4, val_main_v3, val_main_v2, val_main_v1, val_main_v0]
  refine congrArg₂ (· + ·) (Finset.sum_congr rfl fun k _ => ?_) ?_
  · blk_point [iblk, V, tiles t]
  · blk_point [iblk, V, tiles t]

end Cert.QkvIdeal.Val

end
-- ==== Proof.QkvClaim.lean ====
/- The algebraic claim of the attention's input projection: the idealised kernel's run and the reference's end with equal arrays. -/
module

public import proofs.«01_k».proof.Defs
public import proofs.«01_k».proof.Proof.QkvValue
public import proofs.«01_k».proof.Proof.Gen.QkvIdeal.Value
public import proofs.«01_k».proof.Proof.Gen.QkvRefIdeal
public import Idealize.ShloMosaic.Lib.Claim

@[expose] public section

noncomputable section

open Idealize.ShloMosaic Idealize.ShloMosaic.TcCoe Idealize.SL.Sem

namespace Cert.QkvClaim

/-- The reference runs, its arguments unchanged. -/
theorem reference_runs : Cert.quiescent_QkvRefIdeal := by
  intro m g hpre
  hlo_run
  · intro c; simp
  · exact sem_eq_zero_of_no_sems (sig := Cert.QkvRefIdeal.sig) (by decide) _

/-- The kernel's arrays are the reference's. -/
theorem algebraic : Cert.algebraic_QkvIdeal_QkvRefIdeal := by
  pair_intro
  · run_from Cert.QkvIdeal.Gen.run_main m g
  · hlo_run
    exact (Cert.QkvIdeal.Val.array m c).symm

end Cert.QkvClaim

end
-- ==== Proof.XqValue.lean ====
/- The cross-attention's query projection: every grid point writes a whole block of rows of the product. -/
module

public import proofs.«01_k».proof.Proof.Gen.XqIdeal.Frame
public import proofs.«01_k».proof.Proof.Gen.XqRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.XqIdeal.Val

open Cert.XqIdeal Cert.XqIdeal.Gen
open Cert.XqRefIdeal.Read

variable (m : (ℓ : Loc nD τ sig) → Buf (Elt Ideal) ℓ)

/-- Which tile of each array a grid point reads and writes. -/
theorem tiles : ∀ t : Fin cfg0.N, win0_0.index t = ![t.val, 0]
    ∧ win0_1.index t = ![0, 0, 0, 0]
    ∧ win0_2.index t = ![t.val, 0] :=
  (by decide +kernel : ∀ t : Fin grid0.N, _)

/-- The whole result array. -/
theorem array (c : Dev nD) : (dats m 0 c).arrAt 2 (cfgs 0).N
    = val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, val_main_v4, val_main_v3, val_main_v2, val_main_v1, val_main_v0]
  change (_ : EReal) = _
  refine Finset.sum_congr rfl fun k _ => ?_
  blk_point [iblk, V, tiles t]

end Cert.XqIdeal.Val

end
-- ==== Proof.XqClaim.lean ====
/- The algebraic claim of the cross-attention's query projection: the idealised kernel's run and the reference's end with equal arrays. -/
module

public import proofs.«01_k».proof.Defs
public import proofs.«01_k».proof.Proof.XqValue
public import proofs.«01_k».proof.Proof.Gen.XqIdeal.Value
public import proofs.«01_k».proof.Proof.Gen.XqRefIdeal
public import Idealize.ShloMosaic.Lib.Claim

@[expose] public section

noncomputable section

open Idealize.ShloMosaic Idealize.ShloMosaic.TcCoe Idealize.SL.Sem

namespace Cert.XqClaim

/-- The reference runs, its arguments unchanged. -/
theorem reference_runs : Cert.quiescent_XqRefIdeal := by
  intro m g hpre
  hlo_run
  · intro c; simp
  · exact sem_eq_zero_of_no_sems (sig := Cert.XqRefIdeal.sig) (by decide) _

/-- The kernel's arrays are the reference's. -/
theorem algebraic : Cert.algebraic_XqIdeal_XqRefIdeal := by
  pair_intro
  · run_from Cert.XqIdeal.Gen.run_main m g
  · hlo_run
    exact (Cert.XqIdeal.Val.array m c).symm

end Cert.XqClaim

end
-- ==== Proof.Norms.lean ====
/- The normalisation of a row by its root mean square, which three of the forward products end with. -/
module

public import Idealize.ShloMosaic.PureOps.Ideal.Laws
public import Idealize.ShloMosaic.Lib.IdealHost

@[expose] public section

noncomputable section

open Idealize.ShloMosaic

namespace Cert.Norms

/-- The entry `j` of a row of 2048, divided by the row's root mean square and scaled by `g`. -/
def normed (row : Fin 2048 → EReal) (g : EReal) (j : Fin 2048) : EReal :=
  row j * Ideal.rsqrt (Ideal.div (∑ k, row k * row k) (Ideal.ofBits .f32 0x45000000#32) + Ideal.ofBits .f32 0x3727C5AC#32) * g

end Cert.Norms

end
-- ==== Proof.OutValue.lean ====
/- The recurrent mixer's output projection with the residual, and the next block's normalised input: a product
   accumulated over two blocks of the contracted axis; the second block adds the residual and normalises the row. -/
module

public import proofs.«01_k».proof.Proof.Gen.OutIdeal.Frame
public import proofs.«01_k».proof.Proof.Gen.OutRefIdeal.Read
public import proofs.«01_k».proof.Proof.Norms
public import proofs.«01_k».proof.Proof.Runs
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem

namespace Cert.OutIdeal.Val

open Cert.OutIdeal Cert.OutIdeal.Gen
open Cert.OutRefIdeal.Read

variable (m : (ℓ : Loc nD τ sig) → Buf (Elt Ideal) ℓ)

/-- Which tile of each array a grid point reads and writes. -/
theorem tiles : ∀ t : Fin cfg0.N, win0_0.index t = ![t.val / 2, t.val % 2]
    ∧ win0_1.index t = ![0, 0, t.val % 2, 0]
    ∧ win0_2.index t = ![t.val / 2, 0]
    ∧ win0_3.index t = ![0, 0]
    ∧ win0_4.index t = ![t.val / 2, 0]
    ∧ win0_5.index t = ![t.val / 2, 0] :=
  (by decide +kernel : ∀ t : Fin grid0.N, _)

/-- The product over one block of the contracted axis. -/
def part (c : Dev nD) (t : Fin cfg0.N) : FVec Ideal S512x2048 .f32 := k0_pay1 (iblk m c 0 t) (iblk m c 1 t)

/-- The first block starts the sum. -/
theorem carried_first (c : Dev nD) (t : Fin cfg0.N) (h : t.val % 2 = 0) (y : S512x2048.Idx) :
    (outsAt0 m c t.val t.isLt).2.2 y = part m c t y := by
  rw [outsAt0_A m c t h (by omega)]
  frame_out
  pointwise [k0_pay2, part]

/-- The sum finished by the second block, with the residual. -/
def summed (c : Dev nD) (t : Fin cfg0.N) : FVec Ideal S512x2048 .f32 := fun y =>
  (outsAt0 m c (t.val - 1) (Nat.lt_of_le_of_lt (Nat.sub_le _ _) t.isLt)).2.2 y + part m c t y + (show FVec Ideal S512x2048 .f32 from iblk m c 2 t) y

/-- The second block writes out the finished sum. -/
theorem written_sum (c : Dev nD) (t : Fin cfg0.N) (h : t.val % 2 = 2 - 1) (y : S512x2048.Idx) :
    (outsAt0 m c t.val t.isLt).1 y = summed m c t y := by
  rw [outsAt0_B m c t (by omega) h]
  frame_out
  rw [read_unread_whole]
  pointwise [k0_pay4, summed, part]

/-- The second block writes out the normalised sum. -/
theorem written_norm (c : Dev nD) (t : Fin cfg0.N) (h : t.val % 2 = 2 - 1) (y : S512x2048.Idx) :
    (outsAt0 m c t.val t.isLt).2.1 y = Cert.Norms.normed (fun k => summed m c t (ix2 (y 0) k))
      ((show FVec Ideal S1x2048 .f32 from iblk m c 3 t) (ix2 0 (y 1))) (y 1) := by
  rw [outsAt0_B m c t (by omega) h]
  frame_out
  rw [read_unread_whole]
  pointwise [k0_pay5, k0_pay4, summed, part, Cert.Norms.normed]

/-- The product over one block, as a sum. -/
theorem part_eq (a : FVec Ideal S512x2048 .bf16) (w : FVec Ideal S1x1x2048x2048 .bf16) (y : S512x2048.Idx) :
    k0_pay1 (F := Ideal) a w y = ∑ k : Fin 2048, a (ix2 (y 0) k) * w (ix4 0 0 k (y 1)) := by
  pointwise [k0_pay1]

/-- The reference's sum. -/
theorem ref_sum (a : FVec Ideal Cert.OutRefIdeal.S8192x4096 .bf16) (w : FVec Ideal Cert.OutRefIdeal.S1x1x4096x2048 .bf16)
    (x : FVec Ideal Cert.OutRefIdeal.S8192x2048 .f32) (i : Cert.OutRefIdeal.S8192x2048.Idx) :
    val_main_v4 (F := Ideal) a w x i = x i + ∑ k : Fin 4096, a (ix2 (i 0) k) * w (ix4 0 0 k (i 1)) := by
  pointwise [val_main_v4, val_main_v3, val_main_v2, val_main_v1, val_main_v0]

/-- The reference's normalised sum. -/
theorem ref_normed (a : FVec Ideal Cert.OutRefIdeal.S8192x4096 .bf16) (w : FVec Ideal Cert.OutRefIdeal.S1x1x4096x2048 .bf16)
    (x : FVec Ideal Cert.OutRefIdeal.S8192x2048 .f32) (g : FVec Ideal Cert.OutRefIdeal.S1x2048 .f32) (i : Cert.OutRefIdeal.S8192x2048.Idx) :
    val_main_v17 (F := Ideal) a w x g i
      = Cert.Norms.normed (fun k => val_main_v4 (F := Ideal) a w x (ix2 (i 0) k)) (g (ix2 0 (i 1))) (i 1) := by
  pointwise [val_main_v17, val_main_v16, val_main_v15, val_main_v14, val_main_v13, val_main_v12, val_main_v11,
    val_main_v10, val_main_cst_1, val_main_v9, val_main_v8, val_main_cst_0, val_main_v7, val_main_v6, val_main_cst,
    val_main_v5, Cert.Norms.normed]

/-- A block's finished sum against the reference. -/
theorem sum_tile (c : Dev nD) (t : Fin cfg0.N) (h : t.val % 2 = 2 - 1) (y : S512x2048.Idx) (i : Cert.OutRefIdeal.S8192x2048.Idx)
    (h0 : (i 0).val = t.val / 2 * 512 + (y 0).val) (h1 : (i 1).val = (y 1).val) :
    summed m c t y = val_main_v4 (F := Ideal) (m ((c : Thread nD τ).loc main_arg0)) (m ((c : Thread nD τ).loc main_arg1)) (m ((c : Thread nD τ).loc main_arg2)) i := by
  rw [summed, Cert.Runs.total (fun n h => (outsAt0 m c n h).2.2) (part m c) (by decide) (carried_first m c)
    (fun _ _ _ => by omega) t h, ref_sum, add_comm]
  refine congrArg₂ (· + ·) ?_ ?_
  · blk_point [iblk, V, tiles t]
  · simp only [part, part_eq]
    refine Fin.sum_mul_add_congr fun s k hl => ?_
    blk_point [iblk, V, tiles t, tiles ⟨_, Cert.Runs.run_lt t h s⟩]

/-- The array of the sums. -/
theorem array_sum (c : Dev nD) : (dats m 0 c).arrAt 4 (cfgs 0).N
    = val_main_v4 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  have h := (flush0_4 t).mp hf
  blk_simp
  rw [after0_4, written_sum m c t h]
  refine sum_tile m c t h y _ ?_ ?_ <;> (blk_simp [tiles t] <;> try omega)

/-- The array of the normalised sums. -/
theorem array_norm (c : Dev nD) : (dats m 0 c).arrAt 5 (cfgs 0).N
    = val_main_v17 (F := Ideal) (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t hf y => ?_
  have h := (flush0_5 t).mp hf
  blk_simp
  rw [after0_5, written_norm m c t h, ref_normed]
  refine congr (congrArg₂ Cert.Norms.normed (funext fun k => ?_) ?_) (Fin.ext ?_)
  · refine sum_tile m c t h _ _ ?_ ?_ <;> (blk_simp [tiles t] <;> try omega)
  · blk_point [iblk, V, tiles t]
  · blk_simp [tiles t] <;> try omega

end Cert.OutIdeal.Val

end
-- ==== Proof.OutClaim.lean ====
/- The algebraic claim of the recurrent mixer's output projection: the idealised kernel's run and the reference's end with equal arrays. -/
module

public import proofs.«01_k».proof.Defs
public import proofs.«01_k».proof.Proof.OutValue
public import proofs.«01_k».proof.Proof.Gen.OutIdeal.Value
public import proofs.«01_k».proof.Proof.Gen.OutRefIdeal
public import Idealize.ShloMosaic.Lib.Claim

@[expose] public section

noncomputable section

open Idealize.ShloMosaic Idealize.ShloMosaic.TcCoe Idealize.SL.Sem

namespace Cert.OutClaim

/-- The reference runs, its arguments unchanged. -/
theorem reference_runs : Cert.quiescent_OutRefIdeal := by
  intro m g hpre
  hlo_run
  · intro c; simp
  · exact sem_eq_zero_of_no_sems (sig := Cert.OutRefIdeal.sig) (by decide) _

/-- The kernel's arrays are the reference's. -/
theorem algebraic : Cert.algebraic_OutIdeal_OutRefIdeal := by
  pair_intro
  · run_from Cert.OutIdeal.Gen.run_main m g
  · hlo_run
    · exact (Cert.OutIdeal.Val.array_sum m c).symm
    · exact (Cert.OutIdeal.Val.array_norm m c).symm

end Cert.OutClaim

end
-- ==== Proof.OoValue.lean ====
/- The attention's output projection with the residual, and the next block's normalised input: every grid point writes a
   whole block of rows of both. -/
module

public import proofs.«01_k».proof.Proof.Gen.OoIdeal.Frame
public import proofs.«01_k».proof.Proof.Gen.OoRefIdeal.Read
public import proofs.«01_k».proof.Proof.Norms
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.OoIdeal.Val

open Cert.OoIdeal Cert.OoIdeal.Gen
open Cert.OoRefIdeal.Read

variable (m : (ℓ : Loc nD τ sig) → Buf (Elt Ideal) ℓ)

/-- Which tile of each array a grid point reads and writes. -/
theorem tiles : ∀ t : Fin cfg0.N, win0_0.index t = ![t.val, 0]
    ∧ win0_1.index t = ![0, 0, 0, 0]
    ∧ win0_2.index t = ![t.val, 0]
    ∧ win0_3.index t = ![0, 0]
    ∧ win0_4.index t = ![t.val, 0]
    ∧ win0_5.index t = ![t.val, 0] :=
  (by decide +kernel : ∀ t : Fin grid0.N, _)

/-- An element of the block of sums. -/
theorem sum_eq (a : FVec Ideal S512x2048 .bf16) (w : FVec Ideal S1x1x2048x2048 .bf16) (x : FVec Ideal S512x2048 .f32) (y : S512x2048.Idx) :
    k0_pay1 (F := Ideal) a w x y = (∑ k : Fin 2048, a (ix2 (y 0) k) * w (ix4 0 0 k (y 1))) + x y := by
  pointwise [k0_pay1]

/-- The reference's sum. -/
theorem ref_sum (a : FVec Ideal Cert.OoRefIdeal.S8192x2048 .bf16) (w : FVec Ideal Cert.OoRefIdeal.S1x1x2048x2048 .bf16) (x : FVec Ideal Cert.OoRefIdeal.S8192x2048 .f32)
    (i : Cert.OoRefIdeal.S8192x2048.Idx) :
    val_main_v4 (F := Ideal) a w x i = x i + ∑ k : Fin 2048, a (ix2 (i 0) k) * w (ix4 0 0 k (i 1)) := by
  pointwise [val_main_v4, val_main_v3, val_main_v2, val_main_v1, val_main_v0]

/-- An element of the block of normalised sums. -/
theorem normed_eq (a : FVec Ideal S512x2048 .bf16) (w : FVec Ideal S1x1x2048x2048 .bf16) (x : FVec Ideal S512x2048 .f32)
    (g : FVec Ideal S1x2048 .f32) (y : S512x2048.Idx) :
    k0_pay2 (F := Ideal) a w x g y
      = Cert.Norms.normed (fun k => k0_pay1 (F := Ideal) a w x (ix2 (y 0) k)) (g (ix2 0 (y 1))) (y 1) := by
  pointwise [k0_pay2, Cert.Norms.normed]

/-- The reference's normalised sum. -/
theorem ref_normed (a : FVec Ideal Cert.OoRefIdeal.S8192x2048 .bf16) (w : FVec Ideal Cert.OoRefIdeal.S1x1x2048x2048 .bf16) (x : FVec Ideal Cert.OoRefIdeal.S8192x2048 .f32)
    (g : FVec Ideal Cert.OoRefIdeal.S1x2048 .f32) (i : Cert.OoRefIdeal.S8192x2048.Idx) :
    val_main_v17 (F := Ideal) a w x g i
      = Cert.Norms.normed (fun k => val_main_v4 (F := Ideal) a w x (ix2 (i 0) k)) (g (ix2 0 (i 1))) (i 1) := by
  pointwise [val_main_v17, val_main_v16, val_main_v15, val_main_v14, val_main_v13, val_main_v12, val_main_v11,
    val_main_v10, val_main_cst_1, val_main_v9, val_main_v8, val_main_cst_0, val_main_v7, val_main_v6, val_main_cst,
    val_main_v5, Cert.Norms.normed]

/-- A block's sum against the reference. -/
theorem sum_tile (c : Dev nD) (t : Fin cfg0.N) (y : S512x2048.Idx) (i : Cert.OoRefIdeal.S8192x2048.Idx)
    (h0 : (i 0).val = t.val * 512 + (y 0).val) (h1 : (i 1).val = (y 1).val) :
    k0_pay1 (F := Ideal) (iblk m c 0 t) (iblk m c 1 t) (iblk m c 2 t) y
      = val_main_v4 (F := Ideal) (m ((c : Thread nD τ).loc main_arg0)) (m ((c : Thread nD τ).loc main_arg1)) (m ((c : Thread nD τ).loc main_arg2)) i := by
  rw [ref_sum, sum_eq, add_comm]
  refine congrArg₂ (· + ·) ?_ (Finset.sum_congr rfl fun k _ => ?_)
  · blk_point [iblk, V, tiles t]
  · blk_point [iblk, V, tiles t]

/-- The array of the sums. -/
theorem array_sum (c : Dev nD) : (dats m 0 c).arrAt 4 (cfgs 0).N
    = val_main_v4 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  frame_out
  refine sum_tile m c t y _ ?_ ?_ <;> (blk_simp [tiles t] <;> try omega)

/-- The array of the normalised sums. -/
theorem array_norm (c : Dev nD) : (dats m 0 c).arrAt 5 (cfgs 0).N
    = val_main_v17 (F := Ideal) (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t _ y => ?_
  blk_simp
  rw [after0_5]
  frame_out
  rw [normed_eq, ref_normed]
  refine congr (congrArg₂ Cert.Norms.normed (funext fun k => ?_) ?_) (Fin.ext ?_)
  · refine sum_tile m c t _ _ ?_ ?_ <;> (blk_simp [tiles t] <;> try omega)
  · blk_point [iblk, V, tiles t]
  · blk_simp [tiles t] <;> try omega

end Cert.OoIdeal.Val

end
-- ==== Proof.OoClaim.lean ====
/- The algebraic claim of the attention's output projection: the idealised kernel's run and the reference's end with equal arrays. -/
module

public import proofs.«01_k».proof.Defs
public import proofs.«01_k».proof.Proof.OoValue
public import proofs.«01_k».proof.Proof.Gen.OoIdeal.Value
public import proofs.«01_k».proof.Proof.Gen.OoRefIdeal
public import Idealize.ShloMosaic.Lib.Claim

@[expose] public section

noncomputable section

open Idealize.ShloMosaic Idealize.ShloMosaic.TcCoe Idealize.SL.Sem

namespace Cert.OoClaim

/-- The reference runs, its arguments unchanged. -/
theorem reference_runs : Cert.quiescent_OoRefIdeal := by
  intro m g hpre
  hlo_run
  · intro c; simp
  · exact sem_eq_zero_of_no_sems (sig := Cert.OoRefIdeal.sig) (by decide) _

/-- The kernel's arrays are the reference's. -/
theorem algebraic : Cert.algebraic_OoIdeal_OoRefIdeal := by
  pair_intro
  · run_from Cert.OoIdeal.Gen.run_main m g
  · hlo_run
    · exact (Cert.OoIdeal.Val.array_sum m c).symm
    · exact (Cert.OoIdeal.Val.array_norm m c).symm

end Cert.OoClaim

end
-- ==== Proof.XoValue.lean ====
/- The cross-attention's output projection with the residual, and the next block's normalised input: every grid point
   writes a whole block of rows of both. -/
module

public import proofs.«01_k».proof.Proof.Gen.XoIdeal.Frame
public import proofs.«01_k».proof.Proof.Gen.XoRefIdeal.Read
public import proofs.«01_k».proof.Proof.Norms
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.XoIdeal.Val

open Cert.XoIdeal Cert.XoIdeal.Gen
open Cert.XoRefIdeal.Read

variable (m : (ℓ : Loc nD τ sig) → Buf (Elt Ideal) ℓ)

/-- Which tile of each array a grid point reads and writes. -/
theorem tiles : ∀ t : Fin cfg0.N, win0_0.index t = ![t.val, 0]
    ∧ win0_1.index t = ![0, 0]
    ∧ win0_2.index t = ![t.val, 0]
    ∧ win0_3.index t = ![0, 0]
    ∧ win0_4.index t = ![t.val, 0]
    ∧ win0_5.index t = ![t.val, 0] :=
  (by decide +kernel : ∀ t : Fin grid0.N, _)

/-- An element of the block of sums. -/
theorem sum_eq (a : FVec Ideal S512x512 .bf16) (w : FVec Ideal S512x2048 .bf16) (x : FVec Ideal S512x2048 .f32) (y : S512x2048.Idx) :
    k0_pay1 (F := Ideal) a w x y = (∑ k : Fin 512, a (ix2 (y 0) k) * w (ix2 k (y 1))) + x y := by
  pointwise [k0_pay1]

/-- The reference's sum. -/
theorem ref_sum (a : FVec Ideal Cert.XoRefIdeal.S8192x512 .bf16) (w : FVec Ideal Cert.XoRefIdeal.S512x2048 .bf16) (x : FVec Ideal Cert.XoRefIdeal.S8192x2048 .f32)
    (i : Cert.XoRefIdeal.S8192x2048.Idx) :
    val_main_v3 (F := Ideal) a w x i = x i + ∑ k : Fin 512, a (ix2 (i 0) k) * w (ix2 k (i 1)) := by
  pointwise [val_main_v3, val_main_v2, val_main_v1, val_main_v0]

/-- An element of the block of normalised sums. -/
theorem normed_eq (a : FVec Ideal S512x512 .bf16) (w : FVec Ideal S512x2048 .bf16) (x : FVec Ideal S512x2048 .f32)
    (g : FVec Ideal S1x2048 .f32) (y : S512x2048.Idx) :
    k0_pay2 (F := Ideal) a w x g y
      = Cert.Norms.normed (fun k => k0_pay1 (F := Ideal) a w x (ix2 (y 0) k)) (g (ix2 0 (y 1))) (y 1) := by
  pointwise [k0_pay2, Cert.Norms.normed]

/-- The reference's normalised sum. -/
theorem ref_normed (a : FVec Ideal Cert.XoRefIdeal.S8192x512 .bf16) (w : FVec Ideal Cert.XoRefIdeal.S512x2048 .bf16) (x : FVec Ideal Cert.XoRefIdeal.S8192x2048 .f32)
    (g : FVec Ideal Cert.XoRefIdeal.S1x2048 .f32) (i : Cert.XoRefIdeal.S8192x2048.Idx) :
    val_main_v16 (F := Ideal) a w x g i
      = Cert.Norms.normed (fun k => val_main_v3 (F := Ideal) a w x (ix2 (i 0) k)) (g (ix2 0 (i 1))) (i 1) := by
  pointwise [val_main_v16, val_main_v15, val_main_v14, val_main_v13, val_main_v12, val_main_v11, val_main_v10,
    val_main_v9, val_main_cst_1, val_main_v8, val_main_v7, val_main_cst_0, val_main_v6, val_main_v5, val_main_cst,
    val_main_v4, Cert.Norms.normed]

/-- A block's sum against the reference. -/
theorem sum_tile (c : Dev nD) (t : Fin cfg0.N) (y : S512x2048.Idx) (i : Cert.XoRefIdeal.S8192x2048.Idx)
    (h0 : (i 0).val = t.val * 512 + (y 0).val) (h1 : (i 1).val = (y 1).val) :
    k0_pay1 (F := Ideal) (iblk m c 0 t) (iblk m c 1 t) (iblk m c 2 t) y
      = val_main_v3 (F := Ideal) (m ((c : Thread nD τ).loc main_arg0)) (m ((c : Thread nD τ).loc main_arg1)) (m ((c : Thread nD τ).loc main_arg2)) i := by
  rw [ref_sum, sum_eq, add_comm]
  refine congrArg₂ (· + ·) ?_ (Finset.sum_congr rfl fun k _ => ?_)
  · blk_point [iblk, V, tiles t]
  · blk_point [iblk, V, tiles t]

/-- The array of the sums. -/
theorem array_sum (c : Dev nD) : (dats m 0 c).arrAt 4 (cfgs 0).N
    = val_main_v3 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  frame_out
  refine sum_tile m c t y _ ?_ ?_ <;> (blk_simp [tiles t] <;> try omega)

/-- The array of the normalised sums. -/
theorem array_norm (c : Dev nD) : (dats m 0 c).arrAt 5 (cfgs 0).N
    = val_main_v16 (F := Ideal) (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t _ y => ?_
  blk_simp
  rw [after0_5]
  frame_out
  rw [normed_eq, ref_normed]
  refine congr (congrArg₂ Cert.Norms.normed (funext fun k => ?_) ?_) (Fin.ext ?_)
  · refine sum_tile m c t _ _ ?_ ?_ <;> (blk_simp [tiles t] <;> try omega)
  · blk_point [iblk, V, tiles t]
  · blk_simp [tiles t] <;> try omega

end Cert.XoIdeal.Val

end
-- ==== Proof.XoClaim.lean ====
/- The algebraic claim of the cross-attention's output projection: the idealised kernel's run and the reference's end with equal arrays. -/
module

public import proofs.«01_k».proof.Defs
public import proofs.«01_k».proof.Proof.XoValue
public import proofs.«01_k».proof.Proof.Gen.XoIdeal.Value
public import proofs.«01_k».proof.Proof.Gen.XoRefIdeal
public import Idealize.ShloMosaic.Lib.Claim

@[expose] public section

noncomputable section

open Idealize.ShloMosaic Idealize.ShloMosaic.TcCoe Idealize.SL.Sem

namespace Cert.XoClaim

/-- The reference runs, its arguments unchanged. -/
theorem reference_runs : Cert.quiescent_XoRefIdeal := by
  intro m g hpre
  hlo_run
  · intro c; simp
  · exact sem_eq_zero_of_no_sems (sig := Cert.XoRefIdeal.sig) (by decide) _

/-- The kernel's arrays are the reference's. -/
theorem algebraic : Cert.algebraic_XoIdeal_XoRefIdeal := by
  pair_intro
  · run_from Cert.XoIdeal.Gen.run_main m g
  · hlo_run
    · exact (Cert.XoIdeal.Val.array_sum m c).symm
    · exact (Cert.XoIdeal.Val.array_norm m c).symm

end Cert.XoClaim

end
-- ==== Proof.lean ====
/- The certificate: each program's frames come from its generated run, the idealised kernels are the printed ones with no
   rewrite, and each algebraic claim is the equation of its own module. -/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.KernelClaim
public import proofs.«01_k».proof.Proof.Gen.Dwgu.Frame
public import proofs.«01_k».proof.Proof.Gen.DwguIdeal.Frame
public import proofs.«01_k».proof.Proof.Gen.DwguRefIdeal
public import proofs.«01_k».proof.Proof.DwguClaim
public import proofs.«01_k».proof.Proof.Gen.Dwd.Frame
public import proofs.«01_k».proof.Proof.Gen.DwdIdeal.Frame
public import proofs.«01_k».proof.Proof.Gen.DwdRefIdeal
public import proofs.«01_k».proof.Proof.DwdClaim
public import proofs.«01_k».proof.Proof.Gen.Dh.Frame
public import proofs.«01_k».proof.Proof.Gen.DhIdeal.Frame
public import proofs.«01_k».proof.Proof.Gen.DhRefIdeal
public import proofs.«01_k».proof.Proof.DhClaim
public import proofs.«01_k».proof.Proof.Gen.Dact.Frame
public import proofs.«01_k».proof.Proof.Gen.DactIdeal.Frame
public import proofs.«01_k».proof.Proof.Gen.DactRefIdeal
public import proofs.«01_k».proof.Proof.DactClaim
public import proofs.«01_k».proof.Proof.Gen.Dwin.Frame
public import proofs.«01_k».proof.Proof.Gen.DwinIdeal.Frame
public import proofs.«01_k».proof.Proof.Gen.DwinRefIdeal
public import proofs.«01_k».proof.Proof.DwinClaim
public import proofs.«01_k».proof.Proof.Gen.Dh2.Frame
public import proofs.«01_k».proof.Proof.Gen.Dh2Ideal.Frame
public import proofs.«01_k».proof.Proof.Gen.Dh2RefIdeal
public import proofs.«01_k».proof.Proof.Dh2Claim
public import proofs.«01_k».proof.Proof.Gen.Dwout.Frame
public import proofs.«01_k».proof.Proof.Gen.DwoutIdeal.Frame
public import proofs.«01_k».proof.Proof.Gen.DwoutRefIdeal
public import proofs.«01_k».proof.Proof.DwoutClaim
public import proofs.«01_k».proof.Proof.Gen.Dmix.Frame
public import proofs.«01_k».proof.Proof.Gen.DmixIdeal.Frame
public import proofs.«01_k».proof.Proof.Gen.DmixRefIdeal
public import proofs.«01_k».proof.Proof.DmixClaim
public import proofs.«01_k».proof.Proof.Gen.Dwo.Frame
public import proofs.«01_k».proof.Proof.Gen.DwoIdeal.Frame
public import proofs.«01_k».proof.Proof.Gen.DwoRefIdeal
public import proofs.«01_k».proof.Proof.DwoClaim
public import proofs.«01_k».proof.Proof.Gen.Do.Frame
public import proofs.«01_k».proof.Proof.Gen.DoIdeal.Frame
public import proofs.«01_k».proof.Proof.Gen.DoRefIdeal
public import proofs.«01_k».proof.Proof.DoClaim
public import proofs.«01_k».proof.Proof.Gen.Dwqkv.Frame
public import proofs.«01_k».proof.Proof.Gen.DwqkvIdeal.Frame
public import proofs.«01_k».proof.Proof.Gen.DwqkvRefIdeal
public import proofs.«01_k».proof.Proof.DwqkvClaim
public import proofs.«01_k».proof.Proof.Gen.Dha.Frame
public import proofs.«01_k».proof.Proof.Gen.DhaIdeal.Frame
public import proofs.«01_k».proof.Proof.Gen.DhaRefIdeal
public import proofs.«01_k».proof.Proof.DhaClaim
public import proofs.«01_k».proof.Proof.Gen.Dwxo.Frame
public import proofs.«01_k».proof.Proof.Gen.DwxoIdeal.Frame
public import proofs.«01_k».proof.Proof.Gen.DwxoRefIdeal
public import proofs.«01_k».proof.Proof.DwxoClaim
public import proofs.«01_k».proof.Proof.Gen.Dxo.Frame
public import proofs.«01_k».proof.Proof.Gen.DxoIdeal.Frame
public import proofs.«01_k».proof.Proof.Gen.DxoRefIdeal
public import proofs.«01_k».proof.Proof.DxoClaim
public import proofs.«01_k».proof.Proof.Gen.Dwxq.Frame
public import proofs.«01_k».proof.Proof.Gen.DwxqIdeal.Frame
public import proofs.«01_k».proof.Proof.Gen.DwxqRefIdeal
public import proofs.«01_k».proof.Proof.DwxqClaim
public import proofs.«01_k».proof.Proof.Gen.Dhxq.Frame
public import proofs.«01_k».proof.Proof.Gen.DhxqIdeal.Frame
public import proofs.«01_k».proof.Proof.Gen.DhxqRefIdeal
public import proofs.«01_k».proof.Proof.DhxqClaim
public import proofs.«01_k».proof.Proof.Gen.Datt.Frame
public import proofs.«01_k».proof.Proof.Gen.DattIdeal.Frame
public import proofs.«01_k».proof.Proof.Gen.DattRefIdeal
public import proofs.«01_k».proof.Proof.DattClaim
public import proofs.«01_k».proof.Proof.Gen.Drope.Frame
public import proofs.«01_k».proof.Proof.Gen.DropeIdeal.Frame
public import proofs.«01_k».proof.Proof.Gen.DropeRefIdeal
public import proofs.«01_k».proof.Proof.DropeClaim
public import proofs.«01_k».proof.Proof.Gen.Dconv.Frame
public import proofs.«01_k».proof.Proof.Gen.DconvIdeal.Frame
public import proofs.«01_k».proof.Proof.Gen.DconvRefIdeal
public import proofs.«01_k».proof.Proof.DconvClaim
public import proofs.«01_k».proof.Proof.Gen.Conv.Frame
public import proofs.«01_k».proof.Proof.Gen.ConvIdeal.Frame
public import proofs.«01_k».proof.Proof.Gen.ConvRefIdeal
public import proofs.«01_k».proof.Proof.ConvClaim
public import proofs.«01_k».proof.Proof.Gen.Xat.Frame
public import proofs.«01_k».proof.Proof.Gen.XatIdeal.Frame
public import proofs.«01_k».proof.Proof.Gen.XatRefIdeal
public import proofs.«01_k».proof.Proof.XatClaim
public import proofs.«01_k».proof.Proof.Gen.Rope.Frame
public import proofs.«01_k».proof.Proof.Gen.RopeIdeal.Frame
public import proofs.«01_k».proof.Proof.Gen.RopeRefIdeal
public import proofs.«01_k».proof.Proof.RopeClaim
public import proofs.«01_k».proof.Proof.Gen.Up.Frame
public import proofs.«01_k».proof.Proof.Gen.UpIdeal.Frame
public import proofs.«01_k».proof.Proof.Gen.UpRefIdeal
public import proofs.«01_k».proof.Proof.UpClaim
public import proofs.«01_k».proof.Proof.Gen.Down.Frame
public import proofs.«01_k».proof.Proof.Gen.DownIdeal.Frame
public import proofs.«01_k».proof.Proof.Gen.DownRefIdeal
public import proofs.«01_k».proof.Proof.DownClaim
public import proofs.«01_k».proof.Proof.Gen.In.Frame
public import proofs.«01_k».proof.Proof.Gen.InIdeal.Frame
public import proofs.«01_k».proof.Proof.Gen.InRefIdeal
public import proofs.«01_k».proof.Proof.InClaim
public import proofs.«01_k».proof.Proof.Gen.Qkv.Frame
public import proofs.«01_k».proof.Proof.Gen.QkvIdeal.Frame
public import proofs.«01_k».proof.Proof.Gen.QkvRefIdeal
public import proofs.«01_k».proof.Proof.QkvClaim
public import proofs.«01_k».proof.Proof.Gen.Xq.Frame
public import proofs.«01_k».proof.Proof.Gen.XqIdeal.Frame
public import proofs.«01_k».proof.Proof.Gen.XqRefIdeal
public import proofs.«01_k».proof.Proof.XqClaim
public import proofs.«01_k».proof.Proof.Gen.Out.Frame
public import proofs.«01_k».proof.Proof.Gen.OutIdeal.Frame
public import proofs.«01_k».proof.Proof.Gen.OutRefIdeal
public import proofs.«01_k».proof.Proof.OutClaim
public import proofs.«01_k».proof.Proof.Gen.Oo.Frame
public import proofs.«01_k».proof.Proof.Gen.OoIdeal.Frame
public import proofs.«01_k».proof.Proof.Gen.OoRefIdeal
public import proofs.«01_k».proof.Proof.OoClaim
public import proofs.«01_k».proof.Proof.Gen.Xo.Frame
public import proofs.«01_k».proof.Proof.Gen.XoIdeal.Frame
public import proofs.«01_k».proof.Proof.Gen.XoRefIdeal
public import proofs.«01_k».proof.Proof.XoClaim

@[expose] public section

noncomputable section

namespace Cert.Proof

open Idealize.ShloMosaic Idealize.SL.Sem

/-- Every claim of the certificate. -/
theorem claim : Cert.Claim :=
  ⟨Cert.Kernel.Gen.facts,
    Cert.KernelIdeal.Gen.facts,
    Cert.ReferenceIdeal.Gen.facts,
    Cert.Dwgu.Gen.facts,
    Cert.DwguIdeal.Gen.facts,
    Cert.DwguRefIdeal.Gen.facts,
    Cert.Dwd.Gen.facts,
    Cert.DwdIdeal.Gen.facts,
    Cert.DwdRefIdeal.Gen.facts,
    Cert.Dh.Gen.facts,
    Cert.DhIdeal.Gen.facts,
    Cert.DhRefIdeal.Gen.facts,
    Cert.Dact.Gen.facts,
    Cert.DactIdeal.Gen.facts,
    Cert.DactRefIdeal.Gen.facts,
    Cert.Dwin.Gen.facts,
    Cert.DwinIdeal.Gen.facts,
    Cert.DwinRefIdeal.Gen.facts,
    Cert.Dh2.Gen.facts,
    Cert.Dh2Ideal.Gen.facts,
    Cert.Dh2RefIdeal.Gen.facts,
    Cert.Dwout.Gen.facts,
    Cert.DwoutIdeal.Gen.facts,
    Cert.DwoutRefIdeal.Gen.facts,
    Cert.Dmix.Gen.facts,
    Cert.DmixIdeal.Gen.facts,
    Cert.DmixRefIdeal.Gen.facts,
    Cert.Dwo.Gen.facts,
    Cert.DwoIdeal.Gen.facts,
    Cert.DwoRefIdeal.Gen.facts,
    Cert.Do.Gen.facts,
    Cert.DoIdeal.Gen.facts,
    Cert.DoRefIdeal.Gen.facts,
    Cert.Dwqkv.Gen.facts,
    Cert.DwqkvIdeal.Gen.facts,
    Cert.DwqkvRefIdeal.Gen.facts,
    Cert.Dha.Gen.facts,
    Cert.DhaIdeal.Gen.facts,
    Cert.DhaRefIdeal.Gen.facts,
    Cert.Dwxo.Gen.facts,
    Cert.DwxoIdeal.Gen.facts,
    Cert.DwxoRefIdeal.Gen.facts,
    Cert.Dxo.Gen.facts,
    Cert.DxoIdeal.Gen.facts,
    Cert.DxoRefIdeal.Gen.facts,
    Cert.Dwxq.Gen.facts,
    Cert.DwxqIdeal.Gen.facts,
    Cert.DwxqRefIdeal.Gen.facts,
    Cert.Dhxq.Gen.facts,
    Cert.DhxqIdeal.Gen.facts,
    Cert.DhxqRefIdeal.Gen.facts,
    Cert.Datt.Gen.facts,
    Cert.DattIdeal.Gen.facts,
    Cert.DattRefIdeal.Gen.facts,
    Cert.Drope.Gen.facts,
    Cert.DropeIdeal.Gen.facts,
    Cert.DropeRefIdeal.Gen.facts,
    Cert.Dconv.Gen.facts,
    Cert.DconvIdeal.Gen.facts,
    Cert.DconvRefIdeal.Gen.facts,
    Cert.Conv.Gen.facts,
    Cert.ConvIdeal.Gen.facts,
    Cert.ConvRefIdeal.Gen.facts,
    Cert.Xat.Gen.facts,
    Cert.XatIdeal.Gen.facts,
    Cert.XatRefIdeal.Gen.facts,
    Cert.Rope.Gen.facts,
    Cert.RopeIdeal.Gen.facts,
    Cert.RopeRefIdeal.Gen.facts,
    Cert.Up.Gen.facts,
    Cert.UpIdeal.Gen.facts,
    Cert.UpRefIdeal.Gen.facts,
    Cert.Down.Gen.facts,
    Cert.DownIdeal.Gen.facts,
    Cert.DownRefIdeal.Gen.facts,
    Cert.In.Gen.facts,
    Cert.InIdeal.Gen.facts,
    Cert.InRefIdeal.Gen.facts,
    Cert.Qkv.Gen.facts,
    Cert.QkvIdeal.Gen.facts,
    Cert.QkvRefIdeal.Gen.facts,
    Cert.Xq.Gen.facts,
    Cert.XqIdeal.Gen.facts,
    Cert.XqRefIdeal.Gen.facts,
    Cert.Out.Gen.facts,
    Cert.OutIdeal.Gen.facts,
    Cert.OutRefIdeal.Gen.facts,
    Cert.Oo.Gen.facts,
    Cert.OoIdeal.Gen.facts,
    Cert.OoRefIdeal.Gen.facts,
    Cert.Xo.Gen.facts,
    Cert.XoIdeal.Gen.facts,
    Cert.XoRefIdeal.Gen.facts,
    fun m ρ _ => Cert.Kernel.Gen.frame m ρ,
    fun m ρ _ => Cert.KernelIdeal.Gen.frame m ρ,
    Cert.KernelClaim.reference_runs,
    fun m ρ _ => Cert.Dwgu.Gen.frame m ρ,
    fun m ρ _ => Cert.DwguIdeal.Gen.frame m ρ,
    Cert.DwguClaim.reference_runs,
    fun m ρ _ => Cert.Dwd.Gen.frame m ρ,
    fun m ρ _ => Cert.DwdIdeal.Gen.frame m ρ,
    Cert.DwdClaim.reference_runs,
    fun m ρ _ => Cert.Dh.Gen.frame m ρ,
    fun m ρ _ => Cert.DhIdeal.Gen.frame m ρ,
    Cert.DhClaim.reference_runs,
    fun m ρ _ => Cert.Dact.Gen.frame m ρ,
    fun m ρ _ => Cert.DactIdeal.Gen.frame m ρ,
    Cert.DactClaim.reference_runs,
    fun m ρ _ => Cert.Dwin.Gen.frame m ρ,
    fun m ρ _ => Cert.DwinIdeal.Gen.frame m ρ,
    Cert.DwinClaim.reference_runs,
    fun m ρ _ => Cert.Dh2.Gen.frame m ρ,
    fun m ρ _ => Cert.Dh2Ideal.Gen.frame m ρ,
    Cert.Dh2Claim.reference_runs,
    fun m ρ _ => Cert.Dwout.Gen.frame m ρ,
    fun m ρ _ => Cert.DwoutIdeal.Gen.frame m ρ,
    Cert.DwoutClaim.reference_runs,
    fun m ρ _ => Cert.Dmix.Gen.frame m ρ,
    fun m ρ _ => Cert.DmixIdeal.Gen.frame m ρ,
    Cert.DmixClaim.reference_runs,
    fun m ρ _ => Cert.Dwo.Gen.frame m ρ,
    fun m ρ _ => Cert.DwoIdeal.Gen.frame m ρ,
    Cert.DwoClaim.reference_runs,
    fun m ρ _ => Cert.Do.Gen.frame m ρ,
    fun m ρ _ => Cert.DoIdeal.Gen.frame m ρ,
    Cert.DoClaim.reference_runs,
    fun m ρ _ => Cert.Dwqkv.Gen.frame m ρ,
    fun m ρ _ => Cert.DwqkvIdeal.Gen.frame m ρ,
    Cert.DwqkvClaim.reference_runs,
    fun m ρ _ => Cert.Dha.Gen.frame m ρ,
    fun m ρ _ => Cert.DhaIdeal.Gen.frame m ρ,
    Cert.DhaClaim.reference_runs,
    fun m ρ _ => Cert.Dwxo.Gen.frame m ρ,
    fun m ρ _ => Cert.DwxoIdeal.Gen.frame m ρ,
    Cert.DwxoClaim.reference_runs,
    fun m ρ _ => Cert.Dxo.Gen.frame m ρ,
    fun m ρ _ => Cert.DxoIdeal.Gen.frame m ρ,
    Cert.DxoClaim.reference_runs,
    fun m ρ _ => Cert.Dwxq.Gen.frame m ρ,
    fun m ρ _ => Cert.DwxqIdeal.Gen.frame m ρ,
    Cert.DwxqClaim.reference_runs,
    fun m ρ _ => Cert.Dhxq.Gen.frame m ρ,
    fun m ρ _ => Cert.DhxqIdeal.Gen.frame m ρ,
    Cert.DhxqClaim.reference_runs,
    fun m ρ _ => Cert.Datt.Gen.frame m ρ,
    fun m ρ _ => Cert.DattIdeal.Gen.frame m ρ,
    Cert.DattClaim.reference_runs,
    fun m ρ _ => Cert.Drope.Gen.frame m ρ,
    fun m ρ _ => Cert.DropeIdeal.Gen.frame m ρ,
    Cert.DropeClaim.reference_runs,
    fun m ρ _ => Cert.Dconv.Gen.frame m ρ,
    fun m ρ _ => Cert.DconvIdeal.Gen.frame m ρ,
    Cert.DconvClaim.reference_runs,
    fun m ρ _ => Cert.Conv.Gen.frame m ρ,
    fun m ρ _ => Cert.ConvIdeal.Gen.frame m ρ,
    Cert.ConvClaim.reference_runs,
    fun m ρ _ => Cert.Xat.Gen.frame m ρ,
    fun m ρ _ => Cert.XatIdeal.Gen.frame m ρ,
    Cert.XatClaim.reference_runs,
    fun m ρ _ => Cert.Rope.Gen.frame m ρ,
    fun m ρ _ => Cert.RopeIdeal.Gen.frame m ρ,
    Cert.RopeClaim.reference_runs,
    fun m ρ _ => Cert.Up.Gen.frame m ρ,
    fun m ρ _ => Cert.UpIdeal.Gen.frame m ρ,
    Cert.UpClaim.reference_runs,
    fun m ρ _ => Cert.Down.Gen.frame m ρ,
    fun m ρ _ => Cert.DownIdeal.Gen.frame m ρ,
    Cert.DownClaim.reference_runs,
    fun m ρ _ => Cert.In.Gen.frame m ρ,
    fun m ρ _ => Cert.InIdeal.Gen.frame m ρ,
    Cert.InClaim.reference_runs,
    fun m ρ _ => Cert.Qkv.Gen.frame m ρ,
    fun m ρ _ => Cert.QkvIdeal.Gen.frame m ρ,
    Cert.QkvClaim.reference_runs,
    fun m ρ _ => Cert.Xq.Gen.frame m ρ,
    fun m ρ _ => Cert.XqIdeal.Gen.frame m ρ,
    Cert.XqClaim.reference_runs,
    fun m ρ _ => Cert.Out.Gen.frame m ρ,
    fun m ρ _ => Cert.OutIdeal.Gen.frame m ρ,
    Cert.OutClaim.reference_runs,
    fun m ρ _ => Cert.Oo.Gen.frame m ρ,
    fun m ρ _ => Cert.OoIdeal.Gen.frame m ρ,
    Cert.OoClaim.reference_runs,
    fun m ρ _ => Cert.Xo.Gen.frame m ρ,
    fun m ρ _ => Cert.XoIdeal.Gen.frame m ρ,
    Cert.XoClaim.reference_runs,
    trivial,
    Cert.KernelClaim.algebraic,
    trivial,
    Cert.DwguClaim.algebraic,
    trivial,
    Cert.DwdClaim.algebraic,
    trivial,
    Cert.DhClaim.algebraic,
    trivial,
    Cert.DactClaim.algebraic,
    trivial,
    Cert.DwinClaim.algebraic,
    trivial,
    Cert.Dh2Claim.algebraic,
    trivial,
    Cert.DwoutClaim.algebraic,
    trivial,
    Cert.DmixClaim.algebraic,
    trivial,
    Cert.DwoClaim.algebraic,
    trivial,
    Cert.DoClaim.algebraic,
    trivial,
    Cert.DwqkvClaim.algebraic,
    trivial,
    Cert.DhaClaim.algebraic,
    trivial,
    Cert.DwxoClaim.algebraic,
    trivial,
    Cert.DxoClaim.algebraic,
    trivial,
    Cert.DwxqClaim.algebraic,
    trivial,
    Cert.DhxqClaim.algebraic,
    trivial,
    Cert.DattClaim.algebraic,
    trivial,
    Cert.DropeClaim.algebraic,
    trivial,
    Cert.DconvClaim.algebraic,
    trivial,
    Cert.ConvClaim.algebraic,
    trivial,
    Cert.XatClaim.algebraic,
    trivial,
    Cert.RopeClaim.algebraic,
    trivial,
    Cert.UpClaim.algebraic,
    trivial,
    Cert.DownClaim.algebraic,
    trivial,
    Cert.InClaim.algebraic,
    trivial,
    Cert.QkvClaim.algebraic,
    trivial,
    Cert.XqClaim.algebraic,
    trivial,
    Cert.OutClaim.algebraic,
    trivial,
    Cert.OoClaim.algebraic,
    trivial,
    Cert.XoClaim.algebraic⟩

end Cert.Proof

end
